-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2))).1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2))).2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2))).2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2))).2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.2.2 = (fun _ => 1#1)

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1Ideal_dil1_finite [hPre_dil1_finite : Cert.Pre_dil1_finite.Facts] (m : (ℓ : Loc Cert.Dil1Ideal.nD Cert.Dil1Ideal.τ Cert.Dil1Ideal.sig) → Buf (Elt Ideal) ℓ) : Prop :=
  ∀ c : Dev Cert.Dil1Ideal.nD,
    (Cert.Pre_dil1_finite.fn (F := Ideal) (m ((c.tc : Thread Cert.Dil1Ideal.nD Cert.Dil1Ideal.τ).loc Cert.Dil1Ideal.main_arg0)) (m ((c.tc : Thread Cert.Dil1Ideal.nD Cert.Dil1Ideal.τ).loc Cert.Dil1Ideal.main_arg1)) (m ((c.tc : Thread Cert.Dil1Ideal.nD Cert.Dil1Ideal.τ).loc Cert.Dil1Ideal.main_arg2)) (m ((c.tc : Thread Cert.Dil1Ideal.nD Cert.Dil1Ideal.τ).loc Cert.Dil1Ideal.main_arg3)) (m ((c.tc : Thread Cert.Dil1Ideal.nD Cert.Dil1Ideal.τ).loc Cert.Dil1Ideal.main_arg4))).1 = (fun _ => 1#1)
    ∧ (Cert.Pre_dil1_finite.fn (F := Ideal) (m ((c.tc : Thread Cert.Dil1Ideal.nD Cert.Dil1Ideal.τ).loc Cert.Dil1Ideal.main_arg0)) (m ((c.tc : Thread Cert.Dil1Ideal.nD Cert.Dil1Ideal.τ).loc Cert.Dil1Ideal.main_arg1)) (m ((c.tc : Thread Cert.Dil1Ideal.nD Cert.Dil1Ideal.τ).loc Cert.Dil1Ideal.main_arg2)) (m ((c.tc : Thread Cert.Dil1Ideal.nD Cert.Dil1Ideal.τ).loc Cert.Dil1Ideal.main_arg3)) (m ((c.tc : Thread Cert.Dil1Ideal.nD Cert.Dil1Ideal.τ).loc Cert.Dil1Ideal.main_arg4))).2.1 = (fun _ => 1#1)
    ∧ (Cert.Pre_dil1_finite.fn (F := Ideal) (m ((c.tc : Thread Cert.Dil1Ideal.nD Cert.Dil1Ideal.τ).loc Cert.Dil1Ideal.main_arg0)) (m ((c.tc : Thread Cert.Dil1Ideal.nD Cert.Dil1Ideal.τ).loc Cert.Dil1Ideal.main_arg1)) (m ((c.tc : Thread Cert.Dil1Ideal.nD Cert.Dil1Ideal.τ).loc Cert.Dil1Ideal.main_arg2)) (m ((c.tc : Thread Cert.Dil1Ideal.nD Cert.Dil1Ideal.τ).loc Cert.Dil1Ideal.main_arg3)) (m ((c.tc : Thread Cert.Dil1Ideal.nD Cert.Dil1Ideal.τ).loc Cert.Dil1Ideal.main_arg4))).2.2.1 = (fun _ => 1#1)
    ∧ (Cert.Pre_dil1_finite.fn (F := Ideal) (m ((c.tc : Thread Cert.Dil1Ideal.nD Cert.Dil1Ideal.τ).loc Cert.Dil1Ideal.main_arg0)) (m ((c.tc : Thread Cert.Dil1Ideal.nD Cert.Dil1Ideal.τ).loc Cert.Dil1Ideal.main_arg1)) (m ((c.tc : Thread Cert.Dil1Ideal.nD Cert.Dil1Ideal.τ).loc Cert.Dil1Ideal.main_arg2)) (m ((c.tc : Thread Cert.Dil1Ideal.nD Cert.Dil1Ideal.τ).loc Cert.Dil1Ideal.main_arg3)) (m ((c.tc : Thread Cert.Dil1Ideal.nD Cert.Dil1Ideal.τ).loc Cert.Dil1Ideal.main_arg4))).2.2.2.1 = (fun _ => 1#1)
    ∧ (Cert.Pre_dil1_finite.fn (F := Ideal) (m ((c.tc : Thread Cert.Dil1Ideal.nD Cert.Dil1Ideal.τ).loc Cert.Dil1Ideal.main_arg0)) (m ((c.tc : Thread Cert.Dil1Ideal.nD Cert.Dil1Ideal.τ).loc Cert.Dil1Ideal.main_arg1)) (m ((c.tc : Thread Cert.Dil1Ideal.nD Cert.Dil1Ideal.τ).loc Cert.Dil1Ideal.main_arg2)) (m ((c.tc : Thread Cert.Dil1Ideal.nD Cert.Dil1Ideal.τ).loc Cert.Dil1Ideal.main_arg3)) (m ((c.tc : Thread Cert.Dil1Ideal.nD Cert.Dil1Ideal.τ).loc Cert.Dil1Ideal.main_arg4))).2.2.2.2 = (fun _ => 1#1)

def Pre_Dil1RefIdeal (m : (ℓ : Loc Cert.Dil1RefIdeal.nD Cert.Dil1RefIdeal.τ Cert.Dil1RefIdeal.sig) → Buf (Elt Ideal) ℓ) : Prop :=
  True

def Pre_Dil1RefIdeal_dil1_finite [hPre_dil1_finite : Cert.Pre_dil1_finite.Facts] (m : (ℓ : Loc Cert.Dil1RefIdeal.nD Cert.Dil1RefIdeal.τ Cert.Dil1RefIdeal.sig) → Buf (Elt Ideal) ℓ) : Prop :=
  ∀ c : Dev Cert.Dil1RefIdeal.nD,
    (Cert.Pre_dil1_finite.fn (F := Ideal) (m ((c.tc : Thread Cert.Dil1RefIdeal.nD Cert.Dil1RefIdeal.τ).loc Cert.Dil1RefIdeal.main_arg0)) (m ((c.tc : Thread Cert.Dil1RefIdeal.nD Cert.Dil1RefIdeal.τ).loc Cert.Dil1RefIdeal.main_arg1)) (m ((c.tc : Thread Cert.Dil1RefIdeal.nD Cert.Dil1RefIdeal.τ).loc Cert.Dil1RefIdeal.main_arg2)) (m ((c.tc : Thread Cert.Dil1RefIdeal.nD Cert.Dil1RefIdeal.τ).loc Cert.Dil1RefIdeal.main_arg3)) (m ((c.tc : Thread Cert.Dil1RefIdeal.nD Cert.Dil1RefIdeal.τ).loc Cert.Dil1RefIdeal.main_arg4))).1 = (fun _ => 1#1)
    ∧ (Cert.Pre_dil1_finite.fn (F := Ideal) (m ((c.tc : Thread Cert.Dil1RefIdeal.nD Cert.Dil1RefIdeal.τ).loc Cert.Dil1RefIdeal.main_arg0)) (m ((c.tc : Thread Cert.Dil1RefIdeal.nD Cert.Dil1RefIdeal.τ).loc Cert.Dil1RefIdeal.main_arg1)) (m ((c.tc : Thread Cert.Dil1RefIdeal.nD Cert.Dil1RefIdeal.τ).loc Cert.Dil1RefIdeal.main_arg2)) (m ((c.tc : Thread Cert.Dil1RefIdeal.nD Cert.Dil1RefIdeal.τ).loc Cert.Dil1RefIdeal.main_arg3)) (m ((c.tc : Thread Cert.Dil1RefIdeal.nD Cert.Dil1RefIdeal.τ).loc Cert.Dil1RefIdeal.main_arg4))).2.1 = (fun _ => 1#1)
    ∧ (Cert.Pre_dil1_finite.fn (F := Ideal) (m ((c.tc : Thread Cert.Dil1RefIdeal.nD Cert.Dil1RefIdeal.τ).loc Cert.Dil1RefIdeal.main_arg0)) (m ((c.tc : Thread Cert.Dil1RefIdeal.nD Cert.Dil1RefIdeal.τ).loc Cert.Dil1RefIdeal.main_arg1)) (m ((c.tc : Thread Cert.Dil1RefIdeal.nD Cert.Dil1RefIdeal.τ).loc Cert.Dil1RefIdeal.main_arg2)) (m ((c.tc : Thread Cert.Dil1RefIdeal.nD Cert.Dil1RefIdeal.τ).loc Cert.Dil1RefIdeal.main_arg3)) (m ((c.tc : Thread Cert.Dil1RefIdeal.nD Cert.Dil1RefIdeal.τ).loc Cert.Dil1RefIdeal.main_arg4))).2.2.1 = (fun _ => 1#1)
    ∧ (Cert.Pre_dil1_finite.fn (F := Ideal) (m ((c.tc : Thread Cert.Dil1RefIdeal.nD Cert.Dil1RefIdeal.τ).loc Cert.Dil1RefIdeal.main_arg0)) (m ((c.tc : Thread Cert.Dil1RefIdeal.nD Cert.Dil1RefIdeal.τ).loc Cert.Dil1RefIdeal.main_arg1)) (m ((c.tc : Thread Cert.Dil1RefIdeal.nD Cert.Dil1RefIdeal.τ).loc Cert.Dil1RefIdeal.main_arg2)) (m ((c.tc : Thread Cert.Dil1RefIdeal.nD Cert.Dil1RefIdeal.τ).loc Cert.Dil1RefIdeal.main_arg3)) (m ((c.tc : Thread Cert.Dil1RefIdeal.nD Cert.Dil1RefIdeal.τ).loc Cert.Dil1RefIdeal.main_arg4))).2.2.2.1 = (fun _ => 1#1)
    ∧ (Cert.Pre_dil1_finite.fn (F := Ideal) (m ((c.tc : Thread Cert.Dil1RefIdeal.nD Cert.Dil1RefIdeal.τ).loc Cert.Dil1RefIdeal.main_arg0)) (m ((c.tc : Thread Cert.Dil1RefIdeal.nD Cert.Dil1RefIdeal.τ).loc Cert.Dil1RefIdeal.main_arg1)) (m ((c.tc : Thread Cert.Dil1RefIdeal.nD Cert.Dil1RefIdeal.τ).loc Cert.Dil1RefIdeal.main_arg2)) (m ((c.tc : Thread Cert.Dil1RefIdeal.nD Cert.Dil1RefIdeal.τ).loc Cert.Dil1RefIdeal.main_arg3)) (m ((c.tc : Thread Cert.Dil1RefIdeal.nD Cert.Dil1RefIdeal.τ).loc Cert.Dil1RefIdeal.main_arg4))).2.2.2.2 = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreIdeal_pre_finite [hPre_pre_finite : Cert.Pre_pre_finite.Facts] (m : (ℓ : Loc Cert.PreIdeal.nD Cert.PreIdeal.τ Cert.PreIdeal.sig) → Buf (Elt Ideal) ℓ) : Prop :=
  ∀ c : Dev Cert.PreIdeal.nD,
    (Cert.Pre_pre_finite.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3))).1 = (fun _ => 1#1)
    ∧ (Cert.Pre_pre_finite.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3))).2.1 = (fun _ => 1#1)
    ∧ (Cert.Pre_pre_finite.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3))).2.2 = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_pre_finite [hPre_pre_finite : Cert.Pre_pre_finite.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_pre_finite.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3))).1 = (fun _ => 1#1)
    ∧ (Cert.Pre_pre_finite.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3))).2.1 = (fun _ => 1#1)
    ∧ (Cert.Pre_pre_finite.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaIdeal_ffn_da_finite [hPre_ffn_da_finite : Cert.Pre_ffn_da_finite.Facts] (m : (ℓ : Loc Cert.FfnDaIdeal.nD Cert.FfnDaIdeal.τ Cert.FfnDaIdeal.sig) → Buf (Elt Ideal) ℓ) : Prop :=
  ∀ c : Dev Cert.FfnDaIdeal.nD,
    (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).1 = (fun _ => 1#1)
    ∧ (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.1 = (fun _ => 1#1)
    ∧ (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2.1 = (fun _ => 1#1)
    ∧ (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2.2 = (fun _ => 1#1)

def Pre_FfnDaRefIdeal (m : (ℓ : Loc Cert.FfnDaRefIdeal.nD Cert.FfnDaRefIdeal.τ Cert.FfnDaRefIdeal.sig) → Buf (Elt Ideal) ℓ) : Prop :=
  True

def Pre_FfnDaRefIdeal_ffn_da_finite [hPre_ffn_da_finite : Cert.Pre_ffn_da_finite.Facts] (m : (ℓ : Loc Cert.FfnDaRefIdeal.nD Cert.FfnDaRefIdeal.τ Cert.FfnDaRefIdeal.sig) → Buf (Elt Ideal) ℓ) : Prop :=
  ∀ c : Dev Cert.FfnDaRefIdeal.nD,
    (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).1 = (fun _ => 1#1)
    ∧ (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.1 = (fun _ => 1#1)
    ∧ (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.2.1 = (fun _ => 1#1)
    ∧ (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.2.2 = (fun _ => 1#1)

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhIdeal_ffn_dh_finite [hPre_ffn_dh_finite : Cert.Pre_ffn_dh_finite.Facts] (m : (ℓ : Loc Cert.FfnDhIdeal.nD Cert.FfnDhIdeal.τ Cert.FfnDhIdeal.sig) → Buf (Elt Ideal) ℓ) : Prop :=
  ∀ c : Dev Cert.FfnDhIdeal.nD,
    (Cert.Pre_ffn_dh_finite.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).1 = (fun _ => 1#1)
    ∧ (Cert.Pre_ffn_dh_finite.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.1 = (fun _ => 1#1)
    ∧ (Cert.Pre_ffn_dh_finite.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.1 = (fun _ => 1#1)
    ∧ (Cert.Pre_ffn_dh_finite.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.2.1 = (fun _ => 1#1)
    ∧ (Cert.Pre_ffn_dh_finite.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.2.2.1 = (fun _ => 1#1)
    ∧ (Cert.Pre_ffn_dh_finite.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.2.2.2 = (fun _ => 1#1)

def Pre_FfnDhRefIdeal (m : (ℓ : Loc Cert.FfnDhRefIdeal.nD Cert.FfnDhRefIdeal.τ Cert.FfnDhRefIdeal.sig) → Buf (Elt Ideal) ℓ) : Prop :=
  True

def Pre_FfnDhRefIdeal_ffn_dh_finite [hPre_ffn_dh_finite : Cert.Pre_ffn_dh_finite.Facts] (m : (ℓ : Loc Cert.FfnDhRefIdeal.nD Cert.FfnDhRefIdeal.τ Cert.FfnDhRefIdeal.sig) → Buf (Elt Ideal) ℓ) : Prop :=
  ∀ c : Dev Cert.FfnDhRefIdeal.nD,
    (Cert.Pre_ffn_dh_finite.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).1 = (fun _ => 1#1)
    ∧ (Cert.Pre_ffn_dh_finite.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.1 = (fun _ => 1#1)
    ∧ (Cert.Pre_ffn_dh_finite.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.1 = (fun _ => 1#1)
    ∧ (Cert.Pre_ffn_dh_finite.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.2.1 = (fun _ => 1#1)
    ∧ (Cert.Pre_ffn_dh_finite.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.2.2.1 = (fun _ => 1#1)
    ∧ (Cert.Pre_ffn_dh_finite.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.2.2.2 = (fun _ => 1#1)

def Pre_QkFin (m : (ℓ : Loc Cert.QkFin.nD Cert.QkFin.τ Cert.QkFin.sig) → Buf (Elt Bits) ℓ) : Prop :=
  True

def Pre_QkFinIdeal (m : (ℓ : Loc Cert.QkFinIdeal.nD Cert.QkFinIdeal.τ Cert.QkFinIdeal.sig) → Buf (Elt Ideal) ℓ) : Prop :=
  True

def Pre_QkFinRefIdeal (m : (ℓ : Loc Cert.QkFinRefIdeal.nD Cert.QkFinRefIdeal.τ Cert.QkFinRefIdeal.sig) → Buf (Elt Ideal) ℓ) : Prop :=
  True

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_mla_fwd_finite [hPre_mla_fwd_finite : Cert.Pre_mla_fwd_finite.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_mla_fwd_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).1 = (fun _ => 1#1)
    ∧ (Cert.Pre_mla_fwd_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.1 = (fun _ => 1#1)
    ∧ (Cert.Pre_mla_fwd_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.2.1 = (fun _ => 1#1)
    ∧ (Cert.Pre_mla_fwd_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.2.2.1 = (fun _ => 1#1)
    ∧ (Cert.Pre_mla_fwd_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4))).2.2.2.2 = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_mla_fwd_finite [hPre_mla_fwd_finite : Cert.Pre_mla_fwd_finite.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_mla_fwd_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).1 = (fun _ => 1#1)
    ∧ (Cert.Pre_mla_fwd_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.1 = (fun _ => 1#1)
    ∧ (Cert.Pre_mla_fwd_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.2.1 = (fun _ => 1#1)
    ∧ (Cert.Pre_mla_fwd_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.2.2.1 = (fun _ => 1#1)
    ∧ (Cert.Pre_mla_fwd_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4))).2.2.2.2 = (fun _ => 1#1)

def Pre_Dil1Fwd (m : (ℓ : Loc Cert.Dil1Fwd.nD Cert.Dil1Fwd.τ Cert.Dil1Fwd.sig) → Buf (Elt Bits) ℓ) : Prop :=
  True

def Pre_Dil1FwdIdeal (m : (ℓ : Loc Cert.Dil1FwdIdeal.nD Cert.Dil1FwdIdeal.τ Cert.Dil1FwdIdeal.sig) → Buf (Elt Ideal) ℓ) : Prop :=
  True

def Pre_Dil1FwdIdeal_dil1_fwd_finite [hPre_dil1_fwd_finite : Cert.Pre_dil1_fwd_finite.Facts] (m : (ℓ : Loc Cert.Dil1FwdIdeal.nD Cert.Dil1FwdIdeal.τ Cert.Dil1FwdIdeal.sig) → Buf (Elt Ideal) ℓ) : Prop :=
  ∀ c : Dev Cert.Dil1FwdIdeal.nD,
    (Cert.Pre_dil1_fwd_finite.fn (F := Ideal) (m ((c.tc : Thread Cert.Dil1FwdIdeal.nD Cert.Dil1FwdIdeal.τ).loc Cert.Dil1FwdIdeal.main_arg0)) (m ((c.tc : Thread Cert.Dil1FwdIdeal.nD Cert.Dil1FwdIdeal.τ).loc Cert.Dil1FwdIdeal.main_arg1)) (m ((c.tc : Thread Cert.Dil1FwdIdeal.nD Cert.Dil1FwdIdeal.τ).loc Cert.Dil1FwdIdeal.main_arg2))).1 = (fun _ => 1#1)
    ∧ (Cert.Pre_dil1_fwd_finite.fn (F := Ideal) (m ((c.tc : Thread Cert.Dil1FwdIdeal.nD Cert.Dil1FwdIdeal.τ).loc Cert.Dil1FwdIdeal.main_arg0)) (m ((c.tc : Thread Cert.Dil1FwdIdeal.nD Cert.Dil1FwdIdeal.τ).loc Cert.Dil1FwdIdeal.main_arg1)) (m ((c.tc : Thread Cert.Dil1FwdIdeal.nD Cert.Dil1FwdIdeal.τ).loc Cert.Dil1FwdIdeal.main_arg2))).2.1 = (fun _ => 1#1)
    ∧ (Cert.Pre_dil1_fwd_finite.fn (F := Ideal) (m ((c.tc : Thread Cert.Dil1FwdIdeal.nD Cert.Dil1FwdIdeal.τ).loc Cert.Dil1FwdIdeal.main_arg0)) (m ((c.tc : Thread Cert.Dil1FwdIdeal.nD Cert.Dil1FwdIdeal.τ).loc Cert.Dil1FwdIdeal.main_arg1)) (m ((c.tc : Thread Cert.Dil1FwdIdeal.nD Cert.Dil1FwdIdeal.τ).loc Cert.Dil1FwdIdeal.main_arg2))).2.2 = (fun _ => 1#1)

def Pre_Dil1FwdRefIdeal (m : (ℓ : Loc Cert.Dil1FwdRefIdeal.nD Cert.Dil1FwdRefIdeal.τ Cert.Dil1FwdRefIdeal.sig) → Buf (Elt Ideal) ℓ) : Prop :=
  True

def Pre_Dil1FwdRefIdeal_dil1_fwd_finite [hPre_dil1_fwd_finite : Cert.Pre_dil1_fwd_finite.Facts] (m : (ℓ : Loc Cert.Dil1FwdRefIdeal.nD Cert.Dil1FwdRefIdeal.τ Cert.Dil1FwdRefIdeal.sig) → Buf (Elt Ideal) ℓ) : Prop :=
  ∀ c : Dev Cert.Dil1FwdRefIdeal.nD,
    (Cert.Pre_dil1_fwd_finite.fn (F := Ideal) (m ((c.tc : Thread Cert.Dil1FwdRefIdeal.nD Cert.Dil1FwdRefIdeal.τ).loc Cert.Dil1FwdRefIdeal.main_arg0)) (m ((c.tc : Thread Cert.Dil1FwdRefIdeal.nD Cert.Dil1FwdRefIdeal.τ).loc Cert.Dil1FwdRefIdeal.main_arg1)) (m ((c.tc : Thread Cert.Dil1FwdRefIdeal.nD Cert.Dil1FwdRefIdeal.τ).loc Cert.Dil1FwdRefIdeal.main_arg2))).1 = (fun _ => 1#1)
    ∧ (Cert.Pre_dil1_fwd_finite.fn (F := Ideal) (m ((c.tc : Thread Cert.Dil1FwdRefIdeal.nD Cert.Dil1FwdRefIdeal.τ).loc Cert.Dil1FwdRefIdeal.main_arg0)) (m ((c.tc : Thread Cert.Dil1FwdRefIdeal.nD Cert.Dil1FwdRefIdeal.τ).loc Cert.Dil1FwdRefIdeal.main_arg1)) (m ((c.tc : Thread Cert.Dil1FwdRefIdeal.nD Cert.Dil1FwdRefIdeal.τ).loc Cert.Dil1FwdRefIdeal.main_arg2))).2.1 = (fun _ => 1#1)
    ∧ (Cert.Pre_dil1_fwd_finite.fn (F := Ideal) (m ((c.tc : Thread Cert.Dil1FwdRefIdeal.nD Cert.Dil1FwdRefIdeal.τ).loc Cert.Dil1FwdRefIdeal.main_arg0)) (m ((c.tc : Thread Cert.Dil1FwdRefIdeal.nD Cert.Dil1FwdRefIdeal.τ).loc Cert.Dil1FwdRefIdeal.main_arg1)) (m ((c.tc : Thread Cert.Dil1FwdRefIdeal.nD Cert.Dil1FwdRefIdeal.τ).loc Cert.Dil1FwdRefIdeal.main_arg2))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdIdeal_merge_fwd_finite [hPre_merge_fwd_finite : Cert.Pre_merge_fwd_finite.Facts] (m : (ℓ : Loc Cert.MergeFwdIdeal.nD Cert.MergeFwdIdeal.τ Cert.MergeFwdIdeal.sig) → Buf (Elt Ideal) ℓ) : Prop :=
  ∀ c : Dev Cert.MergeFwdIdeal.nD,
    (Cert.Pre_merge_fwd_finite.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).1 = (fun _ => 1#1)
    ∧ (Cert.Pre_merge_fwd_finite.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).2.1 = (fun _ => 1#1)
    ∧ (Cert.Pre_merge_fwd_finite.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).2.2 = (fun _ => 1#1)

def Pre_MergeFwdRefIdeal (m : (ℓ : Loc Cert.MergeFwdRefIdeal.nD Cert.MergeFwdRefIdeal.τ Cert.MergeFwdRefIdeal.sig) → Buf (Elt Ideal) ℓ) : Prop :=
  True

def Pre_MergeFwdRefIdeal_merge_fwd_finite [hPre_merge_fwd_finite : Cert.Pre_merge_fwd_finite.Facts] (m : (ℓ : Loc Cert.MergeFwdRefIdeal.nD Cert.MergeFwdRefIdeal.τ Cert.MergeFwdRefIdeal.sig) → Buf (Elt Ideal) ℓ) : Prop :=
  ∀ c : Dev Cert.MergeFwdRefIdeal.nD,
    (Cert.Pre_merge_fwd_finite.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).1 = (fun _ => 1#1)
    ∧ (Cert.Pre_merge_fwd_finite.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).2.1 = (fun _ => 1#1)
    ∧ (Cert.Pre_merge_fwd_finite.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_QkFwd (m : (ℓ : Loc Cert.QkFwd.nD Cert.QkFwd.τ Cert.QkFwd.sig) → Buf (Elt Bits) ℓ) : Prop :=
  True

def Pre_QkFwdIdeal (m : (ℓ : Loc Cert.QkFwdIdeal.nD Cert.QkFwdIdeal.τ Cert.QkFwdIdeal.sig) → Buf (Elt Ideal) ℓ) : Prop :=
  True

def Pre_QkFwdRefIdeal (m : (ℓ : Loc Cert.QkFwdRefIdeal.nD Cert.QkFwdRefIdeal.τ Cert.QkFwdRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmTnA (m : (ℓ : Loc Cert.MmTnA.nD Cert.MmTnA.τ Cert.MmTnA.sig) → Buf (Elt Bits) ℓ) : Prop :=
  True

def Pre_MmTnAIdeal (m : (ℓ : Loc Cert.MmTnAIdeal.nD Cert.MmTnAIdeal.τ Cert.MmTnAIdeal.sig) → Buf (Elt Ideal) ℓ) : Prop :=
  True

def Pre_MmTnARefIdeal (m : (ℓ : Loc Cert.MmTnARefIdeal.nD Cert.MmTnARefIdeal.τ Cert.MmTnARefIdeal.sig) → Buf (Elt Ideal) ℓ) : Prop :=
  True

def Pre_MmTnB (m : (ℓ : Loc Cert.MmTnB.nD Cert.MmTnB.τ Cert.MmTnB.sig) → Buf (Elt Bits) ℓ) : Prop :=
  True

def Pre_MmTnBIdeal (m : (ℓ : Loc Cert.MmTnBIdeal.nD Cert.MmTnBIdeal.τ Cert.MmTnBIdeal.sig) → Buf (Elt Ideal) ℓ) : Prop :=
  True

def Pre_MmTnBRefIdeal (m : (ℓ : Loc Cert.MmTnBRefIdeal.nD Cert.MmTnBRefIdeal.τ Cert.MmTnBRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0)
      ∧ r.2.mem ((c.tc : Thread Cert.Dil1.nD Cert.Dil1.τ).loc Cert.Dil1.main_arg1) = m ((c.tc : Thread Cert.Dil1.nD Cert.Dil1.τ).loc Cert.Dil1.main_arg1)
      ∧ r.2.mem ((c.tc : Thread Cert.Dil1.nD Cert.Dil1.τ).loc Cert.Dil1.main_arg2) = m ((c.tc : Thread Cert.Dil1.nD Cert.Dil1.τ).loc Cert.Dil1.main_arg2)
      ∧ r.2.mem ((c.tc : Thread Cert.Dil1.nD Cert.Dil1.τ).loc Cert.Dil1.main_arg3) = m ((c.tc : Thread Cert.Dil1.nD Cert.Dil1.τ).loc Cert.Dil1.main_arg3)
      ∧ r.2.mem ((c.tc : Thread Cert.Dil1.nD Cert.Dil1.τ).loc Cert.Dil1.main_arg4) = m ((c.tc : Thread Cert.Dil1.nD Cert.Dil1.τ).loc Cert.Dil1.main_arg4))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1)
      ∧ r.2.mem ((c.tc : Thread Cert.Dil1Ideal.nD Cert.Dil1Ideal.τ).loc Cert.Dil1Ideal.main_arg2) = m ((c.tc : Thread Cert.Dil1Ideal.nD Cert.Dil1Ideal.τ).loc Cert.Dil1Ideal.main_arg2)
      ∧ r.2.mem ((c.tc : Thread Cert.Dil1Ideal.nD Cert.Dil1Ideal.τ).loc Cert.Dil1Ideal.main_arg3) = m ((c.tc : Thread Cert.Dil1Ideal.nD Cert.Dil1Ideal.τ).loc Cert.Dil1Ideal.main_arg3)
      ∧ r.2.mem ((c.tc : Thread Cert.Dil1Ideal.nD Cert.Dil1Ideal.τ).loc Cert.Dil1Ideal.main_arg4) = m ((c.tc : Thread Cert.Dil1Ideal.nD Cert.Dil1Ideal.τ).loc Cert.Dil1Ideal.main_arg4))
      ∧ r.2.sem = fun _ => 0)

def quiescent_Dil1Ideal_pre_dil1_finite [hDil1Ideal : Cert.Dil1Ideal.Facts] [hPre_dil1_finite : Cert.Pre_dil1_finite.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal_dil1_finite m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1)
      ∧ r.2.mem ((c.tc : Thread Cert.Dil1Ideal.nD Cert.Dil1Ideal.τ).loc Cert.Dil1Ideal.main_arg2) = m ((c.tc : Thread Cert.Dil1Ideal.nD Cert.Dil1Ideal.τ).loc Cert.Dil1Ideal.main_arg2)
      ∧ r.2.mem ((c.tc : Thread Cert.Dil1Ideal.nD Cert.Dil1Ideal.τ).loc Cert.Dil1Ideal.main_arg3) = m ((c.tc : Thread Cert.Dil1Ideal.nD Cert.Dil1Ideal.τ).loc Cert.Dil1Ideal.main_arg3)
      ∧ r.2.mem ((c.tc : Thread Cert.Dil1Ideal.nD Cert.Dil1Ideal.τ).loc Cert.Dil1Ideal.main_arg4) = m ((c.tc : Thread Cert.Dil1Ideal.nD Cert.Dil1Ideal.τ).loc Cert.Dil1Ideal.main_arg4))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0)
      ∧ r.2.mem ((c.tc : Thread Cert.Dil1RefIdeal.nD Cert.Dil1RefIdeal.τ).loc Cert.Dil1RefIdeal.main_arg1) = m ((c.tc : Thread Cert.Dil1RefIdeal.nD Cert.Dil1RefIdeal.τ).loc Cert.Dil1RefIdeal.main_arg1)
      ∧ r.2.mem ((c.tc : Thread Cert.Dil1RefIdeal.nD Cert.Dil1RefIdeal.τ).loc Cert.Dil1RefIdeal.main_arg2) = m ((c.tc : Thread Cert.Dil1RefIdeal.nD Cert.Dil1RefIdeal.τ).loc Cert.Dil1RefIdeal.main_arg2)
      ∧ r.2.mem ((c.tc : Thread Cert.Dil1RefIdeal.nD Cert.Dil1RefIdeal.τ).loc Cert.Dil1RefIdeal.main_arg3) = m ((c.tc : Thread Cert.Dil1RefIdeal.nD Cert.Dil1RefIdeal.τ).loc Cert.Dil1RefIdeal.main_arg3)
      ∧ r.2.mem ((c.tc : Thread Cert.Dil1RefIdeal.nD Cert.Dil1RefIdeal.τ).loc Cert.Dil1RefIdeal.main_arg4) = m ((c.tc : Thread Cert.Dil1RefIdeal.nD Cert.Dil1RefIdeal.τ).loc Cert.Dil1RefIdeal.main_arg4))
      ∧ r.2.sem = fun _ => 0)

def quiescent_Dil1RefIdeal_pre_dil1_finite [hDil1RefIdeal : Cert.Dil1RefIdeal.Facts] [hPre_dil1_finite : Cert.Pre_dil1_finite.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal_dil1_finite m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0)
      ∧ r.2.mem ((c.tc : Thread Cert.Dil1RefIdeal.nD Cert.Dil1RefIdeal.τ).loc Cert.Dil1RefIdeal.main_arg1) = m ((c.tc : Thread Cert.Dil1RefIdeal.nD Cert.Dil1RefIdeal.τ).loc Cert.Dil1RefIdeal.main_arg1)
      ∧ r.2.mem ((c.tc : Thread Cert.Dil1RefIdeal.nD Cert.Dil1RefIdeal.τ).loc Cert.Dil1RefIdeal.main_arg2) = m ((c.tc : Thread Cert.Dil1RefIdeal.nD Cert.Dil1RefIdeal.τ).loc Cert.Dil1RefIdeal.main_arg2)
      ∧ r.2.mem ((c.tc : Thread Cert.Dil1RefIdeal.nD Cert.Dil1RefIdeal.τ).loc Cert.Dil1RefIdeal.main_arg3) = m ((c.tc : Thread Cert.Dil1RefIdeal.nD Cert.Dil1RefIdeal.τ).loc Cert.Dil1RefIdeal.main_arg3)
      ∧ r.2.mem ((c.tc : Thread Cert.Dil1RefIdeal.nD Cert.Dil1RefIdeal.τ).loc Cert.Dil1RefIdeal.main_arg4) = m ((c.tc : Thread Cert.Dil1RefIdeal.nD Cert.Dil1RefIdeal.τ).loc Cert.Dil1RefIdeal.main_arg4))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreIdeal_pre_pre_finite [hPreIdeal : Cert.PreIdeal.Facts] [hPre_pre_finite : Cert.Pre_pre_finite.Facts] : Prop :=
  ∀ (m : (ℓ : Loc Cert.PreIdeal.nD Cert.PreIdeal.τ Cert.PreIdeal.sig) → Buf (Elt Ideal) ℓ) (g : Dev Cert.PreIdeal.nD → PrngReg), Pre_PreIdeal_pre_finite m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_PreRefIdeal_pre_pre_finite [hPreRefIdeal : Cert.PreRefIdeal.Facts] [hPre_pre_finite : Cert.Pre_pre_finite.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_pre_finite m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1)
      ∧ r.2.mem ((c.tc : Thread Cert.FfnDa.nD Cert.FfnDa.τ).loc Cert.FfnDa.main_arg2) = m ((c.tc : Thread Cert.FfnDa.nD Cert.FfnDa.τ).loc Cert.FfnDa.main_arg2)
      ∧ r.2.mem ((c.tc : Thread Cert.FfnDa.nD Cert.FfnDa.τ).loc Cert.FfnDa.main_arg3) = m ((c.tc : Thread Cert.FfnDa.nD Cert.FfnDa.τ).loc Cert.FfnDa.main_arg3))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaIdeal_pre_ffn_da_finite [hFfnDaIdeal : Cert.FfnDaIdeal.Facts] [hPre_ffn_da_finite : Cert.Pre_ffn_da_finite.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal_ffn_da_finite m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaRefIdeal [hFfnDaRefIdeal : Cert.FfnDaRefIdeal.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_FfnDaRefIdeal_pre_ffn_da_finite [hFfnDaRefIdeal : Cert.FfnDaRefIdeal.Facts] [hPre_ffn_da_finite : Cert.Pre_ffn_da_finite.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal_ffn_da_finite m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5)
      ∧ r.2.mem ((c.tc : Thread Cert.FfnDh.nD Cert.FfnDh.τ).loc Cert.FfnDh.main_arg6) = m ((c.tc : Thread Cert.FfnDh.nD Cert.FfnDh.τ).loc Cert.FfnDh.main_arg6))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
      ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ r.2.sem = fun _ => 0)

def quiescent_FfnDhIdeal_pre_ffn_dh_finite [hFfnDhIdeal : Cert.FfnDhIdeal.Facts] [hPre_ffn_dh_finite : Cert.Pre_ffn_dh_finite.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal_ffn_dh_finite m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
      ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5)
      ∧ r.2.mem ((c.tc : Thread Cert.FfnDhRefIdeal.nD Cert.FfnDhRefIdeal.τ).loc Cert.FfnDhRefIdeal.main_arg6) = m ((c.tc : Thread Cert.FfnDhRefIdeal.nD Cert.FfnDhRefIdeal.τ).loc Cert.FfnDhRefIdeal.main_arg6))
      ∧ r.2.sem = fun _ => 0)

def quiescent_FfnDhRefIdeal_pre_ffn_dh_finite [hFfnDhRefIdeal : Cert.FfnDhRefIdeal.Facts] [hPre_ffn_dh_finite : Cert.Pre_ffn_dh_finite.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal_ffn_dh_finite m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5)
      ∧ r.2.mem ((c.tc : Thread Cert.FfnDhRefIdeal.nD Cert.FfnDhRefIdeal.τ).loc Cert.FfnDhRefIdeal.main_arg6) = m ((c.tc : Thread Cert.FfnDhRefIdeal.nD Cert.FfnDhRefIdeal.τ).loc Cert.FfnDhRefIdeal.main_arg6))
      ∧ r.2.sem = fun _ => 0)

def quiescent_QkFin [hQkFin : Cert.QkFin.Facts] : Prop :=
  ∀ (m : (ℓ : Loc Cert.QkFin.nD Cert.QkFin.τ Cert.QkFin.sig) → Buf (Elt Bits) ℓ) (g : Dev Cert.QkFin.nD → PrngReg), Pre_QkFin m →
    θ_run (Cert.QkFin.defs (F := Bits)) (onTc (τ := Cert.QkFin.τ) (Cert.QkFin.main (F := Bits))) ⟨m, fun _ => 0, g⟩ (fun r => (∀ c : Dev Cert.QkFin.nD,
      r.2.mem ((c.tc : Thread Cert.QkFin.nD Cert.QkFin.τ).loc Cert.QkFin.main_arg0) = m ((c.tc : Thread Cert.QkFin.nD Cert.QkFin.τ).loc Cert.QkFin.main_arg0)
      ∧ r.2.mem ((c.tc : Thread Cert.QkFin.nD Cert.QkFin.τ).loc Cert.QkFin.main_arg1) = m ((c.tc : Thread Cert.QkFin.nD Cert.QkFin.τ).loc Cert.QkFin.main_arg1)
      ∧ r.2.mem ((c.tc : Thread Cert.QkFin.nD Cert.QkFin.τ).loc Cert.QkFin.main_arg2) = m ((c.tc : Thread Cert.QkFin.nD Cert.QkFin.τ).loc Cert.QkFin.main_arg2)
      ∧ r.2.mem ((c.tc : Thread Cert.QkFin.nD Cert.QkFin.τ).loc Cert.QkFin.main_arg3) = m ((c.tc : Thread Cert.QkFin.nD Cert.QkFin.τ).loc Cert.QkFin.main_arg3))
      ∧ r.2.sem = fun _ => 0)

def quiescent_QkFinIdeal [hQkFinIdeal : Cert.QkFinIdeal.Facts] : Prop :=
  ∀ (m : (ℓ : Loc Cert.QkFinIdeal.nD Cert.QkFinIdeal.τ Cert.QkFinIdeal.sig) → Buf (Elt Ideal) ℓ) (g : Dev Cert.QkFinIdeal.nD → PrngReg), Pre_QkFinIdeal m →
    θ_run (Cert.QkFinIdeal.defs (F := Ideal)) (onTc (τ := Cert.QkFinIdeal.τ) (Cert.QkFinIdeal.main (F := Ideal))) ⟨m, fun _ => 0, g⟩ (fun r => (∀ c : Dev Cert.QkFinIdeal.nD,
      r.2.mem ((c.tc : Thread Cert.QkFinIdeal.nD Cert.QkFinIdeal.τ).loc Cert.QkFinIdeal.main_arg0) = m ((c.tc : Thread Cert.QkFinIdeal.nD Cert.QkFinIdeal.τ).loc Cert.QkFinIdeal.main_arg0)
      ∧ r.2.mem ((c.tc : Thread Cert.QkFinIdeal.nD Cert.QkFinIdeal.τ).loc Cert.QkFinIdeal.main_arg1) = m ((c.tc : Thread Cert.QkFinIdeal.nD Cert.QkFinIdeal.τ).loc Cert.QkFinIdeal.main_arg1)
      ∧ r.2.mem ((c.tc : Thread Cert.QkFinIdeal.nD Cert.QkFinIdeal.τ).loc Cert.QkFinIdeal.main_arg2) = m ((c.tc : Thread Cert.QkFinIdeal.nD Cert.QkFinIdeal.τ).loc Cert.QkFinIdeal.main_arg2)
      ∧ r.2.mem ((c.tc : Thread Cert.QkFinIdeal.nD Cert.QkFinIdeal.τ).loc Cert.QkFinIdeal.main_arg3) = m ((c.tc : Thread Cert.QkFinIdeal.nD Cert.QkFinIdeal.τ).loc Cert.QkFinIdeal.main_arg3))
      ∧ r.2.sem = fun _ => 0)

def quiescent_QkFinRefIdeal [hQkFinRefIdeal : Cert.QkFinRefIdeal.Facts] : Prop :=
  ∀ (m : (ℓ : Loc Cert.QkFinRefIdeal.nD Cert.QkFinRefIdeal.τ Cert.QkFinRefIdeal.sig) → Buf (Elt Ideal) ℓ) (g : Dev Cert.QkFinRefIdeal.nD → PrngReg), Pre_QkFinRefIdeal m →
    θ_run (Cert.QkFinRefIdeal.defs (F := Ideal)) (onTc (τ := Cert.QkFinRefIdeal.τ) (Cert.QkFinRefIdeal.main (F := Ideal))) ⟨m, fun _ => 0, g⟩ (fun r => (∀ c : Dev Cert.QkFinRefIdeal.nD,
      r.2.mem ((c.tc : Thread Cert.QkFinRefIdeal.nD Cert.QkFinRefIdeal.τ).loc Cert.QkFinRefIdeal.main_arg0) = m ((c.tc : Thread Cert.QkFinRefIdeal.nD Cert.QkFinRefIdeal.τ).loc Cert.QkFinRefIdeal.main_arg0)
      ∧ r.2.mem ((c.tc : Thread Cert.QkFinRefIdeal.nD Cert.QkFinRefIdeal.τ).loc Cert.QkFinRefIdeal.main_arg1) = m ((c.tc : Thread Cert.QkFinRefIdeal.nD Cert.QkFinRefIdeal.τ).loc Cert.QkFinRefIdeal.main_arg1)
      ∧ r.2.mem ((c.tc : Thread Cert.QkFinRefIdeal.nD Cert.QkFinRefIdeal.τ).loc Cert.QkFinRefIdeal.main_arg2) = m ((c.tc : Thread Cert.QkFinRefIdeal.nD Cert.QkFinRefIdeal.τ).loc Cert.QkFinRefIdeal.main_arg2)
      ∧ r.2.mem ((c.tc : Thread Cert.QkFinRefIdeal.nD Cert.QkFinRefIdeal.τ).loc Cert.QkFinRefIdeal.main_arg3) = m ((c.tc : Thread Cert.QkFinRefIdeal.nD Cert.QkFinRefIdeal.τ).loc Cert.QkFinRefIdeal.main_arg3))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2)
      ∧ r.2.mem ((c.tc : Thread Cert.MlaFwd.nD Cert.MlaFwd.τ).loc Cert.MlaFwd.main_arg3) = m ((c.tc : Thread Cert.MlaFwd.nD Cert.MlaFwd.τ).loc Cert.MlaFwd.main_arg3)
      ∧ r.2.mem ((c.tc : Thread Cert.MlaFwd.nD Cert.MlaFwd.τ).loc Cert.MlaFwd.main_arg4) = m ((c.tc : Thread Cert.MlaFwd.nD Cert.MlaFwd.τ).loc Cert.MlaFwd.main_arg4))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
      ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4))
      ∧ r.2.sem = fun _ => 0)

def quiescent_MlaFwdIdeal_pre_mla_fwd_finite [hMlaFwdIdeal : Cert.MlaFwdIdeal.Facts] [hPre_mla_fwd_finite : Cert.Pre_mla_fwd_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_mla_fwd_finite m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
      ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3)
      ∧ r.2.mem ((c.tc : Thread Cert.MlaFwdRefIdeal.nD Cert.MlaFwdRefIdeal.τ).loc Cert.MlaFwdRefIdeal.main_arg4) = m ((c.tc : Thread Cert.MlaFwdRefIdeal.nD Cert.MlaFwdRefIdeal.τ).loc Cert.MlaFwdRefIdeal.main_arg4))
      ∧ r.2.sem = fun _ => 0)

def quiescent_MlaFwdRefIdeal_pre_mla_fwd_finite [hMlaFwdRefIdeal : Cert.MlaFwdRefIdeal.Facts] [hPre_mla_fwd_finite : Cert.Pre_mla_fwd_finite.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_mla_fwd_finite m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3)
      ∧ r.2.mem ((c.tc : Thread Cert.MlaFwdRefIdeal.nD Cert.MlaFwdRefIdeal.τ).loc Cert.MlaFwdRefIdeal.main_arg4) = m ((c.tc : Thread Cert.MlaFwdRefIdeal.nD Cert.MlaFwdRefIdeal.τ).loc Cert.MlaFwdRefIdeal.main_arg4))
      ∧ r.2.sem = fun _ => 0)

def quiescent_Dil1Fwd [hDil1Fwd : Cert.Dil1Fwd.Facts] : Prop :=
  ∀ (m : (ℓ : Loc Cert.Dil1Fwd.nD Cert.Dil1Fwd.τ Cert.Dil1Fwd.sig) → Buf (Elt Bits) ℓ) (g : Dev Cert.Dil1Fwd.nD → PrngReg), Pre_Dil1Fwd m →
    θ_run (Cert.Dil1Fwd.defs (F := Bits)) (onTc (τ := Cert.Dil1Fwd.τ) (Cert.Dil1Fwd.main (F := Bits))) ⟨m, fun _ => 0, g⟩ (fun r => (∀ c : Dev Cert.Dil1Fwd.nD,
      r.2.mem ((c.tc : Thread Cert.Dil1Fwd.nD Cert.Dil1Fwd.τ).loc Cert.Dil1Fwd.main_arg0) = m ((c.tc : Thread Cert.Dil1Fwd.nD Cert.Dil1Fwd.τ).loc Cert.Dil1Fwd.main_arg0)
      ∧ r.2.mem ((c.tc : Thread Cert.Dil1Fwd.nD Cert.Dil1Fwd.τ).loc Cert.Dil1Fwd.main_arg1) = m ((c.tc : Thread Cert.Dil1Fwd.nD Cert.Dil1Fwd.τ).loc Cert.Dil1Fwd.main_arg1)
      ∧ r.2.mem ((c.tc : Thread Cert.Dil1Fwd.nD Cert.Dil1Fwd.τ).loc Cert.Dil1Fwd.main_arg2) = m ((c.tc : Thread Cert.Dil1Fwd.nD Cert.Dil1Fwd.τ).loc Cert.Dil1Fwd.main_arg2))
      ∧ r.2.sem = fun _ => 0)

def quiescent_Dil1FwdIdeal [hDil1FwdIdeal : Cert.Dil1FwdIdeal.Facts] : Prop :=
  ∀ (m : (ℓ : Loc Cert.Dil1FwdIdeal.nD Cert.Dil1FwdIdeal.τ Cert.Dil1FwdIdeal.sig) → Buf (Elt Ideal) ℓ) (g : Dev Cert.Dil1FwdIdeal.nD → PrngReg), Pre_Dil1FwdIdeal m →
    θ_run (Cert.Dil1FwdIdeal.defs (F := Ideal)) (onTc (τ := Cert.Dil1FwdIdeal.τ) (Cert.Dil1FwdIdeal.main (F := Ideal))) ⟨m, fun _ => 0, g⟩ (fun r => (∀ c : Dev Cert.Dil1FwdIdeal.nD,
      r.2.mem ((c.tc : Thread Cert.Dil1FwdIdeal.nD Cert.Dil1FwdIdeal.τ).loc Cert.Dil1FwdIdeal.main_arg0) = m ((c.tc : Thread Cert.Dil1FwdIdeal.nD Cert.Dil1FwdIdeal.τ).loc Cert.Dil1FwdIdeal.main_arg0)
      ∧ r.2.mem ((c.tc : Thread Cert.Dil1FwdIdeal.nD Cert.Dil1FwdIdeal.τ).loc Cert.Dil1FwdIdeal.main_arg1) = m ((c.tc : Thread Cert.Dil1FwdIdeal.nD Cert.Dil1FwdIdeal.τ).loc Cert.Dil1FwdIdeal.main_arg1)
      ∧ r.2.mem ((c.tc : Thread Cert.Dil1FwdIdeal.nD Cert.Dil1FwdIdeal.τ).loc Cert.Dil1FwdIdeal.main_arg2) = m ((c.tc : Thread Cert.Dil1FwdIdeal.nD Cert.Dil1FwdIdeal.τ).loc Cert.Dil1FwdIdeal.main_arg2))
      ∧ r.2.sem = fun _ => 0)

def quiescent_Dil1FwdIdeal_pre_dil1_fwd_finite [hDil1FwdIdeal : Cert.Dil1FwdIdeal.Facts] [hPre_dil1_fwd_finite : Cert.Pre_dil1_fwd_finite.Facts] : Prop :=
  ∀ (m : (ℓ : Loc Cert.Dil1FwdIdeal.nD Cert.Dil1FwdIdeal.τ Cert.Dil1FwdIdeal.sig) → Buf (Elt Ideal) ℓ) (g : Dev Cert.Dil1FwdIdeal.nD → PrngReg), Pre_Dil1FwdIdeal_dil1_fwd_finite m →
    θ_run (Cert.Dil1FwdIdeal.defs (F := Ideal)) (onTc (τ := Cert.Dil1FwdIdeal.τ) (Cert.Dil1FwdIdeal.main (F := Ideal))) ⟨m, fun _ => 0, g⟩ (fun r => (∀ c : Dev Cert.Dil1FwdIdeal.nD,
      r.2.mem ((c.tc : Thread Cert.Dil1FwdIdeal.nD Cert.Dil1FwdIdeal.τ).loc Cert.Dil1FwdIdeal.main_arg0) = m ((c.tc : Thread Cert.Dil1FwdIdeal.nD Cert.Dil1FwdIdeal.τ).loc Cert.Dil1FwdIdeal.main_arg0)
      ∧ r.2.mem ((c.tc : Thread Cert.Dil1FwdIdeal.nD Cert.Dil1FwdIdeal.τ).loc Cert.Dil1FwdIdeal.main_arg1) = m ((c.tc : Thread Cert.Dil1FwdIdeal.nD Cert.Dil1FwdIdeal.τ).loc Cert.Dil1FwdIdeal.main_arg1)
      ∧ r.2.mem ((c.tc : Thread Cert.Dil1FwdIdeal.nD Cert.Dil1FwdIdeal.τ).loc Cert.Dil1FwdIdeal.main_arg2) = m ((c.tc : Thread Cert.Dil1FwdIdeal.nD Cert.Dil1FwdIdeal.τ).loc Cert.Dil1FwdIdeal.main_arg2))
      ∧ r.2.sem = fun _ => 0)

def quiescent_Dil1FwdRefIdeal [hDil1FwdRefIdeal : Cert.Dil1FwdRefIdeal.Facts] : Prop :=
  ∀ (m : (ℓ : Loc Cert.Dil1FwdRefIdeal.nD Cert.Dil1FwdRefIdeal.τ Cert.Dil1FwdRefIdeal.sig) → Buf (Elt Ideal) ℓ) (g : Dev Cert.Dil1FwdRefIdeal.nD → PrngReg), Pre_Dil1FwdRefIdeal m →
    θ_run (Cert.Dil1FwdRefIdeal.defs (F := Ideal)) (onTc (τ := Cert.Dil1FwdRefIdeal.τ) (Cert.Dil1FwdRefIdeal.main (F := Ideal))) ⟨m, fun _ => 0, g⟩ (fun r => (∀ c : Dev Cert.Dil1FwdRefIdeal.nD,
      r.2.mem ((c.tc : Thread Cert.Dil1FwdRefIdeal.nD Cert.Dil1FwdRefIdeal.τ).loc Cert.Dil1FwdRefIdeal.main_arg0) = m ((c.tc : Thread Cert.Dil1FwdRefIdeal.nD Cert.Dil1FwdRefIdeal.τ).loc Cert.Dil1FwdRefIdeal.main_arg0)
      ∧ r.2.mem ((c.tc : Thread Cert.Dil1FwdRefIdeal.nD Cert.Dil1FwdRefIdeal.τ).loc Cert.Dil1FwdRefIdeal.main_arg1) = m ((c.tc : Thread Cert.Dil1FwdRefIdeal.nD Cert.Dil1FwdRefIdeal.τ).loc Cert.Dil1FwdRefIdeal.main_arg1)
      ∧ r.2.mem ((c.tc : Thread Cert.Dil1FwdRefIdeal.nD Cert.Dil1FwdRefIdeal.τ).loc Cert.Dil1FwdRefIdeal.main_arg2) = m ((c.tc : Thread Cert.Dil1FwdRefIdeal.nD Cert.Dil1FwdRefIdeal.τ).loc Cert.Dil1FwdRefIdeal.main_arg2))
      ∧ r.2.sem = fun _ => 0)

def quiescent_Dil1FwdRefIdeal_pre_dil1_fwd_finite [hDil1FwdRefIdeal : Cert.Dil1FwdRefIdeal.Facts] [hPre_dil1_fwd_finite : Cert.Pre_dil1_fwd_finite.Facts] : Prop :=
  ∀ (m : (ℓ : Loc Cert.Dil1FwdRefIdeal.nD Cert.Dil1FwdRefIdeal.τ Cert.Dil1FwdRefIdeal.sig) → Buf (Elt Ideal) ℓ) (g : Dev Cert.Dil1FwdRefIdeal.nD → PrngReg), Pre_Dil1FwdRefIdeal_dil1_fwd_finite m →
    θ_run (Cert.Dil1FwdRefIdeal.defs (F := Ideal)) (onTc (τ := Cert.Dil1FwdRefIdeal.τ) (Cert.Dil1FwdRefIdeal.main (F := Ideal))) ⟨m, fun _ => 0, g⟩ (fun r => (∀ c : Dev Cert.Dil1FwdRefIdeal.nD,
      r.2.mem ((c.tc : Thread Cert.Dil1FwdRefIdeal.nD Cert.Dil1FwdRefIdeal.τ).loc Cert.Dil1FwdRefIdeal.main_arg0) = m ((c.tc : Thread Cert.Dil1FwdRefIdeal.nD Cert.Dil1FwdRefIdeal.τ).loc Cert.Dil1FwdRefIdeal.main_arg0)
      ∧ r.2.mem ((c.tc : Thread Cert.Dil1FwdRefIdeal.nD Cert.Dil1FwdRefIdeal.τ).loc Cert.Dil1FwdRefIdeal.main_arg1) = m ((c.tc : Thread Cert.Dil1FwdRefIdeal.nD Cert.Dil1FwdRefIdeal.τ).loc Cert.Dil1FwdRefIdeal.main_arg1)
      ∧ r.2.mem ((c.tc : Thread Cert.Dil1FwdRefIdeal.nD Cert.Dil1FwdRefIdeal.τ).loc Cert.Dil1FwdRefIdeal.main_arg2) = m ((c.tc : Thread Cert.Dil1FwdRefIdeal.nD Cert.Dil1FwdRefIdeal.τ).loc Cert.Dil1FwdRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdIdeal_pre_merge_fwd_finite [hMergeFwdIdeal : Cert.MergeFwdIdeal.Facts] [hPre_merge_fwd_finite : Cert.Pre_merge_fwd_finite.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal_merge_fwd_finite m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_MergeFwdRefIdeal_pre_merge_fwd_finite [hMergeFwdRefIdeal : Cert.MergeFwdRefIdeal.Facts] [hPre_merge_fwd_finite : Cert.Pre_merge_fwd_finite.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal_merge_fwd_finite m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_QkFwd [hQkFwd : Cert.QkFwd.Facts] : Prop :=
  ∀ (m : (ℓ : Loc Cert.QkFwd.nD Cert.QkFwd.τ Cert.QkFwd.sig) → Buf (Elt Bits) ℓ) (g : Dev Cert.QkFwd.nD → PrngReg), Pre_QkFwd m →
    θ_run (Cert.QkFwd.defs (F := Bits)) (onTc (τ := Cert.QkFwd.τ) (Cert.QkFwd.main (F := Bits))) ⟨m, fun _ => 0, g⟩ (fun r => (∀ c : Dev Cert.QkFwd.nD,
      r.2.mem ((c.tc : Thread Cert.QkFwd.nD Cert.QkFwd.τ).loc Cert.QkFwd.main_arg0) = m ((c.tc : Thread Cert.QkFwd.nD Cert.QkFwd.τ).loc Cert.QkFwd.main_arg0)
      ∧ r.2.mem ((c.tc : Thread Cert.QkFwd.nD Cert.QkFwd.τ).loc Cert.QkFwd.main_arg1) = m ((c.tc : Thread Cert.QkFwd.nD Cert.QkFwd.τ).loc Cert.QkFwd.main_arg1)
      ∧ r.2.mem ((c.tc : Thread Cert.QkFwd.nD Cert.QkFwd.τ).loc Cert.QkFwd.main_arg2) = m ((c.tc : Thread Cert.QkFwd.nD Cert.QkFwd.τ).loc Cert.QkFwd.main_arg2)
      ∧ r.2.mem ((c.tc : Thread Cert.QkFwd.nD Cert.QkFwd.τ).loc Cert.QkFwd.main_arg3) = m ((c.tc : Thread Cert.QkFwd.nD Cert.QkFwd.τ).loc Cert.QkFwd.main_arg3))
      ∧ r.2.sem = fun _ => 0)

def quiescent_QkFwdIdeal [hQkFwdIdeal : Cert.QkFwdIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg), Pre_QkFwdIdeal m →
    θ_run (Cert.QkFwdIdeal.defs (F := Ideal)) (onTc (τ := Cert.QkFwdIdeal.τ) (Cert.QkFwdIdeal.main (F := Ideal))) ⟨m, fun _ => 0, g⟩ (fun r => (∀ c : Dev Cert.QkFwdIdeal.nD,
      r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
      ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
      ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2)
      ∧ r.2.mem ((c.tc : Thread Cert.QkFwdIdeal.nD Cert.QkFwdIdeal.τ).loc Cert.QkFwdIdeal.main_arg3) = m ((c.tc : Thread Cert.QkFwdIdeal.nD Cert.QkFwdIdeal.τ).loc Cert.QkFwdIdeal.main_arg3))
      ∧ r.2.sem = fun _ => 0)

def quiescent_QkFwdRefIdeal [hQkFwdRefIdeal : Cert.QkFwdRefIdeal.Facts] : Prop :=
  ∀ (m : (ℓ : Loc Cert.QkFwdRefIdeal.nD Cert.QkFwdRefIdeal.τ Cert.QkFwdRefIdeal.sig) → Buf (Elt Ideal) ℓ) (g : Dev Cert.QkFwdRefIdeal.nD → PrngReg), Pre_QkFwdRefIdeal m →
    θ_run (Cert.QkFwdRefIdeal.defs (F := Ideal)) (onTc (τ := Cert.QkFwdRefIdeal.τ) (Cert.QkFwdRefIdeal.main (F := Ideal))) ⟨m, fun _ => 0, g⟩ (fun r => (∀ c : Dev Cert.QkFwdRefIdeal.nD,
      r.2.mem ((c.tc : Thread Cert.QkFwdRefIdeal.nD Cert.QkFwdRefIdeal.τ).loc Cert.QkFwdRefIdeal.main_arg0) = m ((c.tc : Thread Cert.QkFwdRefIdeal.nD Cert.QkFwdRefIdeal.τ).loc Cert.QkFwdRefIdeal.main_arg0)
      ∧ r.2.mem ((c.tc : Thread Cert.QkFwdRefIdeal.nD Cert.QkFwdRefIdeal.τ).loc Cert.QkFwdRefIdeal.main_arg1) = m ((c.tc : Thread Cert.QkFwdRefIdeal.nD Cert.QkFwdRefIdeal.τ).loc Cert.QkFwdRefIdeal.main_arg1)
      ∧ r.2.mem ((c.tc : Thread Cert.QkFwdRefIdeal.nD Cert.QkFwdRefIdeal.τ).loc Cert.QkFwdRefIdeal.main_arg2) = m ((c.tc : Thread Cert.QkFwdRefIdeal.nD Cert.QkFwdRefIdeal.τ).loc Cert.QkFwdRefIdeal.main_arg2)
      ∧ r.2.mem ((c.tc : Thread Cert.QkFwdRefIdeal.nD Cert.QkFwdRefIdeal.τ).loc Cert.QkFwdRefIdeal.main_arg3) = m ((c.tc : Thread Cert.QkFwdRefIdeal.nD Cert.QkFwdRefIdeal.τ).loc Cert.QkFwdRefIdeal.main_arg3))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmTnA [hMmTnA : Cert.MmTnA.Facts] : Prop :=
  ∀ (m : (ℓ : Loc Cert.MmTnA.nD Cert.MmTnA.τ Cert.MmTnA.sig) → Buf (Elt Bits) ℓ) (g : Dev Cert.MmTnA.nD → PrngReg), Pre_MmTnA m →
    θ_run (Cert.MmTnA.defs (F := Bits)) (onTc (τ := Cert.MmTnA.τ) (Cert.MmTnA.main (F := Bits))) ⟨m, fun _ => 0, g⟩ (fun r => (∀ c : Dev Cert.MmTnA.nD,
      r.2.mem ((c.tc : Thread Cert.MmTnA.nD Cert.MmTnA.τ).loc Cert.MmTnA.main_arg0) = m ((c.tc : Thread Cert.MmTnA.nD Cert.MmTnA.τ).loc Cert.MmTnA.main_arg0)
      ∧ r.2.mem ((c.tc : Thread Cert.MmTnA.nD Cert.MmTnA.τ).loc Cert.MmTnA.main_arg1) = m ((c.tc : Thread Cert.MmTnA.nD Cert.MmTnA.τ).loc Cert.MmTnA.main_arg1))
      ∧ r.2.sem = fun _ => 0)

def quiescent_MmTnAIdeal [hMmTnAIdeal : Cert.MmTnAIdeal.Facts] : Prop :=
  ∀ (m : (ℓ : Loc Cert.MmTnAIdeal.nD Cert.MmTnAIdeal.τ Cert.MmTnAIdeal.sig) → Buf (Elt Ideal) ℓ) (g : Dev Cert.MmTnAIdeal.nD → PrngReg), Pre_MmTnAIdeal m →
    θ_run (Cert.MmTnAIdeal.defs (F := Ideal)) (onTc (τ := Cert.MmTnAIdeal.τ) (Cert.MmTnAIdeal.main (F := Ideal))) ⟨m, fun _ => 0, g⟩ (fun r => (∀ c : Dev Cert.MmTnAIdeal.nD,
      r.2.mem ((c.tc : Thread Cert.MmTnAIdeal.nD Cert.MmTnAIdeal.τ).loc Cert.MmTnAIdeal.main_arg0) = m ((c.tc : Thread Cert.MmTnAIdeal.nD Cert.MmTnAIdeal.τ).loc Cert.MmTnAIdeal.main_arg0)
      ∧ r.2.mem ((c.tc : Thread Cert.MmTnAIdeal.nD Cert.MmTnAIdeal.τ).loc Cert.MmTnAIdeal.main_arg1) = m ((c.tc : Thread Cert.MmTnAIdeal.nD Cert.MmTnAIdeal.τ).loc Cert.MmTnAIdeal.main_arg1))
      ∧ r.2.sem = fun _ => 0)

def quiescent_MmTnARefIdeal [hMmTnARefIdeal : Cert.MmTnARefIdeal.Facts] : Prop :=
  ∀ (m : (ℓ : Loc Cert.MmTnARefIdeal.nD Cert.MmTnARefIdeal.τ Cert.MmTnARefIdeal.sig) → Buf (Elt Ideal) ℓ) (g : Dev Cert.MmTnARefIdeal.nD → PrngReg), Pre_MmTnARefIdeal m →
    θ_run (Cert.MmTnARefIdeal.defs (F := Ideal)) (onTc (τ := Cert.MmTnARefIdeal.τ) (Cert.MmTnARefIdeal.main (F := Ideal))) ⟨m, fun _ => 0, g⟩ (fun r => (∀ c : Dev Cert.MmTnARefIdeal.nD,
      r.2.mem ((c.tc : Thread Cert.MmTnARefIdeal.nD Cert.MmTnARefIdeal.τ).loc Cert.MmTnARefIdeal.main_arg0) = m ((c.tc : Thread Cert.MmTnARefIdeal.nD Cert.MmTnARefIdeal.τ).loc Cert.MmTnARefIdeal.main_arg0)
      ∧ r.2.mem ((c.tc : Thread Cert.MmTnARefIdeal.nD Cert.MmTnARefIdeal.τ).loc Cert.MmTnARefIdeal.main_arg1) = m ((c.tc : Thread Cert.MmTnARefIdeal.nD Cert.MmTnARefIdeal.τ).loc Cert.MmTnARefIdeal.main_arg1))
      ∧ r.2.sem = fun _ => 0)

def quiescent_MmTnB [hMmTnB : Cert.MmTnB.Facts] : Prop :=
  ∀ (m : (ℓ : Loc Cert.MmTnB.nD Cert.MmTnB.τ Cert.MmTnB.sig) → Buf (Elt Bits) ℓ) (g : Dev Cert.MmTnB.nD → PrngReg), Pre_MmTnB m →
    θ_run (Cert.MmTnB.defs (F := Bits)) (onTc (τ := Cert.MmTnB.τ) (Cert.MmTnB.main (F := Bits))) ⟨m, fun _ => 0, g⟩ (fun r => (∀ c : Dev Cert.MmTnB.nD,
      r.2.mem ((c.tc : Thread Cert.MmTnB.nD Cert.MmTnB.τ).loc Cert.MmTnB.main_arg0) = m ((c.tc : Thread Cert.MmTnB.nD Cert.MmTnB.τ).loc Cert.MmTnB.main_arg0)
      ∧ r.2.mem ((c.tc : Thread Cert.MmTnB.nD Cert.MmTnB.τ).loc Cert.MmTnB.main_arg1) = m ((c.tc : Thread Cert.MmTnB.nD Cert.MmTnB.τ).loc Cert.MmTnB.main_arg1))
      ∧ r.2.sem = fun _ => 0)

def quiescent_MmTnBIdeal [hMmTnBIdeal : Cert.MmTnBIdeal.Facts] : Prop :=
  ∀ (m : (ℓ : Loc Cert.MmTnBIdeal.nD Cert.MmTnBIdeal.τ Cert.MmTnBIdeal.sig) → Buf (Elt Ideal) ℓ) (g : Dev Cert.MmTnBIdeal.nD → PrngReg), Pre_MmTnBIdeal m →
    θ_run (Cert.MmTnBIdeal.defs (F := Ideal)) (onTc (τ := Cert.MmTnBIdeal.τ) (Cert.MmTnBIdeal.main (F := Ideal))) ⟨m, fun _ => 0, g⟩ (fun r => (∀ c : Dev Cert.MmTnBIdeal.nD,
      r.2.mem ((c.tc : Thread Cert.MmTnBIdeal.nD Cert.MmTnBIdeal.τ).loc Cert.MmTnBIdeal.main_arg0) = m ((c.tc : Thread Cert.MmTnBIdeal.nD Cert.MmTnBIdeal.τ).loc Cert.MmTnBIdeal.main_arg0)
      ∧ r.2.mem ((c.tc : Thread Cert.MmTnBIdeal.nD Cert.MmTnBIdeal.τ).loc Cert.MmTnBIdeal.main_arg1) = m ((c.tc : Thread Cert.MmTnBIdeal.nD Cert.MmTnBIdeal.τ).loc Cert.MmTnBIdeal.main_arg1))
      ∧ r.2.sem = fun _ => 0)

def quiescent_MmTnBRefIdeal [hMmTnBRefIdeal : Cert.MmTnBRefIdeal.Facts] : Prop :=
  ∀ (m : (ℓ : Loc Cert.MmTnBRefIdeal.nD Cert.MmTnBRefIdeal.τ Cert.MmTnBRefIdeal.sig) → Buf (Elt Ideal) ℓ) (g : Dev Cert.MmTnBRefIdeal.nD → PrngReg), Pre_MmTnBRefIdeal m →
    θ_run (Cert.MmTnBRefIdeal.defs (F := Ideal)) (onTc (τ := Cert.MmTnBRefIdeal.τ) (Cert.MmTnBRefIdeal.main (F := Ideal))) ⟨m, fun _ => 0, g⟩ (fun r => (∀ c : Dev Cert.MmTnBRefIdeal.nD,
      r.2.mem ((c.tc : Thread Cert.MmTnBRefIdeal.nD Cert.MmTnBRefIdeal.τ).loc Cert.MmTnBRefIdeal.main_arg0) = m ((c.tc : Thread Cert.MmTnBRefIdeal.nD Cert.MmTnBRefIdeal.τ).loc Cert.MmTnBRefIdeal.main_arg0)
      ∧ r.2.mem ((c.tc : Thread Cert.MmTnBRefIdeal.nD Cert.MmTnBRefIdeal.τ).loc Cert.MmTnBRefIdeal.main_arg1) = m ((c.tc : Thread Cert.MmTnBRefIdeal.nD Cert.MmTnBRefIdeal.τ).loc Cert.MmTnBRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6))
      ∧ r.2.sem = fun _ => 0)

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v1_0)) (v1 : (c : Dev Cert.PostIdeal.nD) → Buf (Elt Ideal) ((c.tc : Thread Cert.PostIdeal.nD Cert.PostIdeal.τ).loc Cert.PostIdeal.main_v1_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v1_0) = v0 c
          ∧ r.2.mem ((c.tc : Thread Cert.PostIdeal.nD Cert.PostIdeal.τ).loc Cert.PostIdeal.main_v1_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v40) = v0 c
          ∧ r.2.mem ((c.tc : Thread Cert.PostRefIdeal.nD Cert.PostRefIdeal.τ).loc Cert.PostRefIdeal.main_v41) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)) (v3 : (c : Dev Cert.MergeIdeal.nD) → Buf (Elt Ideal) ((c.tc : Thread Cert.MergeIdeal.nD Cert.MergeIdeal.τ).loc Cert.MergeIdeal.main_v16_3)) (v4 : (c : Dev Cert.MergeIdeal.nD) → Buf (Elt Ideal) ((c.tc : Thread Cert.MergeIdeal.nD Cert.MergeIdeal.τ).loc Cert.MergeIdeal.main_v16_4)) (v5 : (c : Dev Cert.MergeIdeal.nD) → Buf (Elt Ideal) ((c.tc : Thread Cert.MergeIdeal.nD Cert.MergeIdeal.τ).loc Cert.MergeIdeal.main_v16_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_v16_3) = v3 c
          ∧ r.2.mem ((c.tc : Thread Cert.MergeIdeal.nD Cert.MergeIdeal.τ).loc Cert.MergeIdeal.main_v16_4) = v4 c
          ∧ r.2.mem ((c.tc : Thread Cert.MergeIdeal.nD Cert.MergeIdeal.τ).loc Cert.MergeIdeal.main_v16_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v82) = v0 c
          ∧ r.2.mem ((c.tc : Thread Cert.MergeRefIdeal.nD Cert.MergeRefIdeal.τ).loc Cert.MergeRefIdeal.main_v83) = v1 c
          ∧ r.2.mem ((c.tc : Thread Cert.MergeRefIdeal.nD Cert.MergeRefIdeal.τ).loc Cert.MergeRefIdeal.main_v84) = v2 c
          ∧ r.2.mem ((c.tc : Thread Cert.MergeRefIdeal.nD Cert.MergeRefIdeal.τ).loc Cert.MergeRefIdeal.main_v88) = v3 c
          ∧ r.2.mem ((c.tc : Thread Cert.MergeRefIdeal.nD Cert.MergeRefIdeal.τ).loc Cert.MergeRefIdeal.main_v92) = v4 c
          ∧ r.2.mem ((c.tc : Thread Cert.MergeRefIdeal.nD Cert.MergeRefIdeal.τ).loc Cert.MergeRefIdeal.main_v96) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Dil1_Dil1Ideal : Prop :=
  IdealRules.named_const.Statement Cert.Dil1Ideal.κ "s" .f32 0x3DB504F3#32 (((Real.sqrt 128)⁻¹ : ℝ) : EReal)
  ∧ IdealRules.named_const.Statement Cert.Dil1Ideal.κ "mask" .f32 0xF149F2CA#32 ⊥

def algebraic_Dil1Ideal_Dil1RefIdeal_pre_dil1_finite [hDil1Ideal : Cert.Dil1Ideal.Facts] [hDil1RefIdeal : Cert.Dil1RefIdeal.Facts] [hPre_dil1_finite : Cert.Pre_dil1_finite.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal_dil1_finite m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)
      ∧ m' ((c.tc : Thread Cert.Dil1RefIdeal.nD Cert.Dil1RefIdeal.τ).loc Cert.Dil1RefIdeal.main_arg1) = m ((c.tc : Thread Cert.Dil1Ideal.nD Cert.Dil1Ideal.τ).loc Cert.Dil1Ideal.main_arg1)
      ∧ m' ((c.tc : Thread Cert.Dil1RefIdeal.nD Cert.Dil1RefIdeal.τ).loc Cert.Dil1RefIdeal.main_arg2) = m ((c.tc : Thread Cert.Dil1Ideal.nD Cert.Dil1Ideal.τ).loc Cert.Dil1Ideal.main_arg2)
      ∧ m' ((c.tc : Thread Cert.Dil1RefIdeal.nD Cert.Dil1RefIdeal.τ).loc Cert.Dil1RefIdeal.main_arg3) = m ((c.tc : Thread Cert.Dil1Ideal.nD Cert.Dil1Ideal.τ).loc Cert.Dil1Ideal.main_arg3)
      ∧ m' ((c.tc : Thread Cert.Dil1RefIdeal.nD Cert.Dil1RefIdeal.τ).loc Cert.Dil1RefIdeal.main_arg4) = m ((c.tc : Thread Cert.Dil1Ideal.nD Cert.Dil1Ideal.τ).loc Cert.Dil1Ideal.main_arg4)) →
    ∃ (v0 : (c : Dev Cert.Dil1Ideal.nD) → Buf (Elt Ideal) ((c.tc : Thread Cert.Dil1Ideal.nD Cert.Dil1Ideal.τ).loc Cert.Dil1Ideal.main_v13_0)) (v1 : (c : Dev Cert.Dil1Ideal.nD) → Buf (Elt Ideal) ((c.tc : Thread Cert.Dil1Ideal.nD Cert.Dil1Ideal.τ).loc Cert.Dil1Ideal.main_v13_1)) (v2 : (c : Dev Cert.Dil1Ideal.nD) → Buf (Elt Ideal) ((c.tc : Thread Cert.Dil1Ideal.nD Cert.Dil1Ideal.τ).loc Cert.Dil1Ideal.main_v13_2)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v13_0) = v0 c
          ∧ r.2.mem ((c.tc : Thread Cert.Dil1Ideal.nD Cert.Dil1Ideal.τ).loc Cert.Dil1Ideal.main_v13_1) = v1 c
          ∧ r.2.mem ((c.tc : Thread Cert.Dil1Ideal.nD Cert.Dil1Ideal.τ).loc Cert.Dil1Ideal.main_v13_2) = v2 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
          ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1)
          ∧ r.2.mem ((c.tc : Thread Cert.Dil1Ideal.nD Cert.Dil1Ideal.τ).loc Cert.Dil1Ideal.main_arg2) = m ((c.tc : Thread Cert.Dil1Ideal.nD Cert.Dil1Ideal.τ).loc Cert.Dil1Ideal.main_arg2)
          ∧ r.2.mem ((c.tc : Thread Cert.Dil1Ideal.nD Cert.Dil1Ideal.τ).loc Cert.Dil1Ideal.main_arg3) = m ((c.tc : Thread Cert.Dil1Ideal.nD Cert.Dil1Ideal.τ).loc Cert.Dil1Ideal.main_arg3)
          ∧ r.2.mem ((c.tc : Thread Cert.Dil1Ideal.nD Cert.Dil1Ideal.τ).loc Cert.Dil1Ideal.main_arg4) = m ((c.tc : Thread Cert.Dil1Ideal.nD Cert.Dil1Ideal.τ).loc Cert.Dil1Ideal.main_arg4))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v137) = v0 c
          ∧ r.2.mem ((c.tc : Thread Cert.Dil1RefIdeal.nD Cert.Dil1RefIdeal.τ).loc Cert.Dil1RefIdeal.main_v138) = v1 c
          ∧ r.2.mem ((c.tc : Thread Cert.Dil1RefIdeal.nD Cert.Dil1RefIdeal.τ).loc Cert.Dil1RefIdeal.main_v139) = v2 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0)
          ∧ r.2.mem ((c.tc : Thread Cert.Dil1RefIdeal.nD Cert.Dil1RefIdeal.τ).loc Cert.Dil1RefIdeal.main_arg1) = m' ((c.tc : Thread Cert.Dil1RefIdeal.nD Cert.Dil1RefIdeal.τ).loc Cert.Dil1RefIdeal.main_arg1)
          ∧ r.2.mem ((c.tc : Thread Cert.Dil1RefIdeal.nD Cert.Dil1RefIdeal.τ).loc Cert.Dil1RefIdeal.main_arg2) = m' ((c.tc : Thread Cert.Dil1RefIdeal.nD Cert.Dil1RefIdeal.τ).loc Cert.Dil1RefIdeal.main_arg2)
          ∧ r.2.mem ((c.tc : Thread Cert.Dil1RefIdeal.nD Cert.Dil1RefIdeal.τ).loc Cert.Dil1RefIdeal.main_arg3) = m' ((c.tc : Thread Cert.Dil1RefIdeal.nD Cert.Dil1RefIdeal.τ).loc Cert.Dil1RefIdeal.main_arg3)
          ∧ r.2.mem ((c.tc : Thread Cert.Dil1RefIdeal.nD Cert.Dil1RefIdeal.τ).loc Cert.Dil1RefIdeal.main_arg4) = m' ((c.tc : Thread Cert.Dil1RefIdeal.nD Cert.Dil1RefIdeal.τ).loc Cert.Dil1RefIdeal.main_arg4))

def preserves_Pre_PreIdeal : Prop :=
  True

def algebraic_PreIdeal_PreRefIdeal_pre_pre_finite [hPreIdeal : Cert.PreIdeal.Facts] [hPreRefIdeal : Cert.PreRefIdeal.Facts] [hPre_pre_finite : Cert.Pre_pre_finite.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal_pre_finite m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)) →
    ∃ (v0 : (c : Dev Cert.PreIdeal.nD) → Buf (Elt Ideal) ((c.tc : Thread Cert.PreIdeal.nD Cert.PreIdeal.τ).loc Cert.PreIdeal.main_v1_0)) (v1 : (c : Dev Cert.PreIdeal.nD) → Buf (Elt Ideal) ((c.tc : Thread Cert.PreIdeal.nD Cert.PreIdeal.τ).loc Cert.PreIdeal.main_v1_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1_0) = v0 c
          ∧ r.2.mem ((c.tc : Thread Cert.PreIdeal.nD Cert.PreIdeal.τ).loc Cert.PreIdeal.main_v1_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v36) = v0 c
          ∧ r.2.mem ((c.tc : Thread Cert.PreRefIdeal.nD Cert.PreRefIdeal.τ).loc Cert.PreRefIdeal.main_v37) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v2) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v8) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_FfnDa_FfnDaIdeal : Prop :=
  True

def algebraic_FfnDaIdeal_FfnDaRefIdeal_pre_ffn_da_finite [hFfnDaIdeal : Cert.FfnDaIdeal.Facts] [hFfnDaRefIdeal : Cert.FfnDaRefIdeal.Facts] [hPre_ffn_da_finite : Cert.Pre_ffn_da_finite.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.FfnDaRefIdeal.nD Cert.FfnDaRefIdeal.τ Cert.FfnDaRefIdeal.sig) → Buf (Elt Ideal) ℓ) (g' : Dev Cert.FfnDaRefIdeal.nD → PrngReg), Pre_FfnDaIdeal_ffn_da_finite m →
    (∀ c : Dev Cert.FfnDaIdeal.nD,
      m' ((c.tc : Thread Cert.FfnDaRefIdeal.nD Cert.FfnDaRefIdeal.τ).loc Cert.FfnDaRefIdeal.main_arg0) = m ((c.tc : Thread Cert.FfnDaIdeal.nD Cert.FfnDaIdeal.τ).loc Cert.FfnDaIdeal.main_arg0)
      ∧ m' ((c.tc : Thread Cert.FfnDaRefIdeal.nD Cert.FfnDaRefIdeal.τ).loc Cert.FfnDaRefIdeal.main_arg1) = m ((c.tc : Thread Cert.FfnDaIdeal.nD Cert.FfnDaIdeal.τ).loc Cert.FfnDaIdeal.main_arg1)
      ∧ m' ((c.tc : Thread Cert.FfnDaRefIdeal.nD Cert.FfnDaRefIdeal.τ).loc Cert.FfnDaRefIdeal.main_arg2) = m ((c.tc : Thread Cert.FfnDaIdeal.nD Cert.FfnDaIdeal.τ).loc Cert.FfnDaIdeal.main_arg2)
      ∧ m' ((c.tc : Thread Cert.FfnDaRefIdeal.nD Cert.FfnDaRefIdeal.τ).loc Cert.FfnDaRefIdeal.main_arg3) = m ((c.tc : Thread Cert.FfnDaIdeal.nD Cert.FfnDaIdeal.τ).loc Cert.FfnDaIdeal.main_arg3)) →
    ∃ (v0 : (c : Dev Cert.FfnDaIdeal.nD) → Buf (Elt Ideal) ((c.tc : Thread Cert.FfnDaIdeal.nD Cert.FfnDaIdeal.τ).loc Cert.FfnDaIdeal.main_v5_0)) (v1 : (c : Dev Cert.FfnDaIdeal.nD) → Buf (Elt Ideal) ((c.tc : Thread Cert.FfnDaIdeal.nD Cert.FfnDaIdeal.τ).loc Cert.FfnDaIdeal.main_v5_1)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v5_0) = v0 c
          ∧ r.2.mem ((c.tc : Thread Cert.FfnDaIdeal.nD Cert.FfnDaIdeal.τ).loc Cert.FfnDaIdeal.main_v5_1) = v1 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
          ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
          ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ θ_run (Cert.FfnDaRefIdeal.defs (F := Ideal)) (onTc (τ := Cert.FfnDaRefIdeal.τ) (Cert.FfnDaRefIdeal.main (F := Ideal))) ⟨m', fun _ => 0, g'⟩ (fun r => ∀ c : Dev Cert.FfnDaRefIdeal.nD,
          r.2.mem ((c.tc : Thread Cert.FfnDaRefIdeal.nD Cert.FfnDaRefIdeal.τ).loc Cert.FfnDaRefIdeal.main_v13) = v0 c
          ∧ r.2.mem ((c.tc : Thread Cert.FfnDaRefIdeal.nD Cert.FfnDaRefIdeal.τ).loc Cert.FfnDaRefIdeal.main_v16) = v1 c
          ∧ r.2.mem ((c.tc : Thread Cert.FfnDaRefIdeal.nD Cert.FfnDaRefIdeal.τ).loc Cert.FfnDaRefIdeal.main_arg0) = m' ((c.tc : Thread Cert.FfnDaRefIdeal.nD Cert.FfnDaRefIdeal.τ).loc Cert.FfnDaRefIdeal.main_arg0)
          ∧ r.2.mem ((c.tc : Thread Cert.FfnDaRefIdeal.nD Cert.FfnDaRefIdeal.τ).loc Cert.FfnDaRefIdeal.main_arg1) = m' ((c.tc : Thread Cert.FfnDaRefIdeal.nD Cert.FfnDaRefIdeal.τ).loc Cert.FfnDaRefIdeal.main_arg1)
          ∧ r.2.mem ((c.tc : Thread Cert.FfnDaRefIdeal.nD Cert.FfnDaRefIdeal.τ).loc Cert.FfnDaRefIdeal.main_arg2) = m' ((c.tc : Thread Cert.FfnDaRefIdeal.nD Cert.FfnDaRefIdeal.τ).loc Cert.FfnDaRefIdeal.main_arg2)
          ∧ r.2.mem ((c.tc : Thread Cert.FfnDaRefIdeal.nD Cert.FfnDaRefIdeal.τ).loc Cert.FfnDaRefIdeal.main_arg3) = m' ((c.tc : Thread Cert.FfnDaRefIdeal.nD Cert.FfnDaRefIdeal.τ).loc Cert.FfnDaRefIdeal.main_arg3))

def preserves_FfnDh_FfnDhIdeal : Prop :=
  True

def algebraic_FfnDhIdeal_FfnDhRefIdeal_pre_ffn_dh_finite [hFfnDhIdeal : Cert.FfnDhIdeal.Facts] [hFfnDhRefIdeal : Cert.FfnDhRefIdeal.Facts] [hPre_ffn_dh_finite : Cert.Pre_ffn_dh_finite.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal_ffn_dh_finite m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)
      ∧ m' ((c.tc : Thread Cert.FfnDhRefIdeal.nD Cert.FfnDhRefIdeal.τ).loc Cert.FfnDhRefIdeal.main_arg5) = m ((c.tc : Thread Cert.FfnDhIdeal.nD Cert.FfnDhIdeal.τ).loc Cert.FfnDhIdeal.main_arg5)
      ∧ m' ((c.tc : Thread Cert.FfnDhRefIdeal.nD Cert.FfnDhRefIdeal.τ).loc Cert.FfnDhRefIdeal.main_arg6) = m ((c.tc : Thread Cert.FfnDhIdeal.nD Cert.FfnDhIdeal.τ).loc Cert.FfnDhIdeal.main_arg6)) →
    ∃ (v0 : (c : Dev Cert.FfnDhIdeal.nD) → Buf (Elt Ideal) ((c.tc : Thread Cert.FfnDhIdeal.nD Cert.FfnDhIdeal.τ).loc Cert.FfnDhIdeal.main_v9_0)) (v1 : (c : Dev Cert.FfnDhIdeal.nD) → Buf (Elt Ideal) ((c.tc : Thread Cert.FfnDhIdeal.nD Cert.FfnDhIdeal.τ).loc Cert.FfnDhIdeal.main_v9_1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v9_0) = v0 c
          ∧ r.2.mem ((c.tc : Thread Cert.FfnDhIdeal.nD Cert.FfnDhIdeal.τ).loc Cert.FfnDhIdeal.main_v9_1) = v1 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
          ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v45) = v0 c
          ∧ r.2.mem ((c.tc : Thread Cert.FfnDhRefIdeal.nD Cert.FfnDhRefIdeal.τ).loc Cert.FfnDhRefIdeal.main_v46) = v1 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4)
          ∧ r.2.mem ((c.tc : Thread Cert.FfnDhRefIdeal.nD Cert.FfnDhRefIdeal.τ).loc Cert.FfnDhRefIdeal.main_arg5) = m' ((c.tc : Thread Cert.FfnDhRefIdeal.nD Cert.FfnDhRefIdeal.τ).loc Cert.FfnDhRefIdeal.main_arg5)
          ∧ r.2.mem ((c.tc : Thread Cert.FfnDhRefIdeal.nD Cert.FfnDhRefIdeal.τ).loc Cert.FfnDhRefIdeal.main_arg6) = m' ((c.tc : Thread Cert.FfnDhRefIdeal.nD Cert.FfnDhRefIdeal.τ).loc Cert.FfnDhRefIdeal.main_arg6))

def preserves_QkFin_QkFinIdeal : Prop :=
  True

def algebraic_QkFinIdeal_QkFinRefIdeal [hQkFinIdeal : Cert.QkFinIdeal.Facts] [hQkFinRefIdeal : Cert.QkFinRefIdeal.Facts] : Prop :=
  ∀ (m : (ℓ : Loc Cert.QkFinIdeal.nD Cert.QkFinIdeal.τ Cert.QkFinIdeal.sig) → Buf (Elt Ideal) ℓ) (g : Dev Cert.QkFinIdeal.nD → PrngReg)
    (m' : (ℓ : Loc Cert.QkFinRefIdeal.nD Cert.QkFinRefIdeal.τ Cert.QkFinRefIdeal.sig) → Buf (Elt Ideal) ℓ) (g' : Dev Cert.QkFinRefIdeal.nD → PrngReg), Pre_QkFinIdeal m →
    (∀ c : Dev Cert.QkFinIdeal.nD,
      m' ((c.tc : Thread Cert.QkFinRefIdeal.nD Cert.QkFinRefIdeal.τ).loc Cert.QkFinRefIdeal.main_arg0) = m ((c.tc : Thread Cert.QkFinIdeal.nD Cert.QkFinIdeal.τ).loc Cert.QkFinIdeal.main_arg0)
      ∧ m' ((c.tc : Thread Cert.QkFinRefIdeal.nD Cert.QkFinRefIdeal.τ).loc Cert.QkFinRefIdeal.main_arg1) = m ((c.tc : Thread Cert.QkFinIdeal.nD Cert.QkFinIdeal.τ).loc Cert.QkFinIdeal.main_arg1)
      ∧ m' ((c.tc : Thread Cert.QkFinRefIdeal.nD Cert.QkFinRefIdeal.τ).loc Cert.QkFinRefIdeal.main_arg2) = m ((c.tc : Thread Cert.QkFinIdeal.nD Cert.QkFinIdeal.τ).loc Cert.QkFinIdeal.main_arg2)
      ∧ m' ((c.tc : Thread Cert.QkFinRefIdeal.nD Cert.QkFinRefIdeal.τ).loc Cert.QkFinRefIdeal.main_arg3) = m ((c.tc : Thread Cert.QkFinIdeal.nD Cert.QkFinIdeal.τ).loc Cert.QkFinIdeal.main_arg3)) →
    ∃ (v0 : (c : Dev Cert.QkFinIdeal.nD) → Buf (Elt Ideal) ((c.tc : Thread Cert.QkFinIdeal.nD Cert.QkFinIdeal.τ).loc Cert.QkFinIdeal.main_v50_0)) (v1 : (c : Dev Cert.QkFinIdeal.nD) → Buf (Elt Ideal) ((c.tc : Thread Cert.QkFinIdeal.nD Cert.QkFinIdeal.τ).loc Cert.QkFinIdeal.main_v50_1)) (v2 : (c : Dev Cert.QkFinIdeal.nD) → Buf (Elt Ideal) ((c.tc : Thread Cert.QkFinIdeal.nD Cert.QkFinIdeal.τ).loc Cert.QkFinIdeal.main_v50_2)),
      θ_run (Cert.QkFinIdeal.defs (F := Ideal)) (onTc (τ := Cert.QkFinIdeal.τ) (Cert.QkFinIdeal.main (F := Ideal))) ⟨m, fun _ => 0, g⟩ (fun r => ∀ c : Dev Cert.QkFinIdeal.nD,
          r.2.mem ((c.tc : Thread Cert.QkFinIdeal.nD Cert.QkFinIdeal.τ).loc Cert.QkFinIdeal.main_v50_0) = v0 c
          ∧ r.2.mem ((c.tc : Thread Cert.QkFinIdeal.nD Cert.QkFinIdeal.τ).loc Cert.QkFinIdeal.main_v50_1) = v1 c
          ∧ r.2.mem ((c.tc : Thread Cert.QkFinIdeal.nD Cert.QkFinIdeal.τ).loc Cert.QkFinIdeal.main_v50_2) = v2 c
          ∧ r.2.mem ((c.tc : Thread Cert.QkFinIdeal.nD Cert.QkFinIdeal.τ).loc Cert.QkFinIdeal.main_arg0) = m ((c.tc : Thread Cert.QkFinIdeal.nD Cert.QkFinIdeal.τ).loc Cert.QkFinIdeal.main_arg0)
          ∧ r.2.mem ((c.tc : Thread Cert.QkFinIdeal.nD Cert.QkFinIdeal.τ).loc Cert.QkFinIdeal.main_arg1) = m ((c.tc : Thread Cert.QkFinIdeal.nD Cert.QkFinIdeal.τ).loc Cert.QkFinIdeal.main_arg1)
          ∧ r.2.mem ((c.tc : Thread Cert.QkFinIdeal.nD Cert.QkFinIdeal.τ).loc Cert.QkFinIdeal.main_arg2) = m ((c.tc : Thread Cert.QkFinIdeal.nD Cert.QkFinIdeal.τ).loc Cert.QkFinIdeal.main_arg2)
          ∧ r.2.mem ((c.tc : Thread Cert.QkFinIdeal.nD Cert.QkFinIdeal.τ).loc Cert.QkFinIdeal.main_arg3) = m ((c.tc : Thread Cert.QkFinIdeal.nD Cert.QkFinIdeal.τ).loc Cert.QkFinIdeal.main_arg3))
      ∧ θ_run (Cert.QkFinRefIdeal.defs (F := Ideal)) (onTc (τ := Cert.QkFinRefIdeal.τ) (Cert.QkFinRefIdeal.main (F := Ideal))) ⟨m', fun _ => 0, g'⟩ (fun r => ∀ c : Dev Cert.QkFinRefIdeal.nD,
          r.2.mem ((c.tc : Thread Cert.QkFinRefIdeal.nD Cert.QkFinRefIdeal.τ).loc Cert.QkFinRefIdeal.main_v99) = v0 c
          ∧ r.2.mem ((c.tc : Thread Cert.QkFinRefIdeal.nD Cert.QkFinRefIdeal.τ).loc Cert.QkFinRefIdeal.main_v100) = v1 c
          ∧ r.2.mem ((c.tc : Thread Cert.QkFinRefIdeal.nD Cert.QkFinRefIdeal.τ).loc Cert.QkFinRefIdeal.main_v102) = v2 c
          ∧ r.2.mem ((c.tc : Thread Cert.QkFinRefIdeal.nD Cert.QkFinRefIdeal.τ).loc Cert.QkFinRefIdeal.main_arg0) = m' ((c.tc : Thread Cert.QkFinRefIdeal.nD Cert.QkFinRefIdeal.τ).loc Cert.QkFinRefIdeal.main_arg0)
          ∧ r.2.mem ((c.tc : Thread Cert.QkFinRefIdeal.nD Cert.QkFinRefIdeal.τ).loc Cert.QkFinRefIdeal.main_arg1) = m' ((c.tc : Thread Cert.QkFinRefIdeal.nD Cert.QkFinRefIdeal.τ).loc Cert.QkFinRefIdeal.main_arg1)
          ∧ r.2.mem ((c.tc : Thread Cert.QkFinRefIdeal.nD Cert.QkFinRefIdeal.τ).loc Cert.QkFinRefIdeal.main_arg2) = m' ((c.tc : Thread Cert.QkFinRefIdeal.nD Cert.QkFinRefIdeal.τ).loc Cert.QkFinRefIdeal.main_arg2)
          ∧ r.2.mem ((c.tc : Thread Cert.QkFinRefIdeal.nD Cert.QkFinRefIdeal.τ).loc Cert.QkFinRefIdeal.main_arg3) = m' ((c.tc : Thread Cert.QkFinRefIdeal.nD Cert.QkFinRefIdeal.τ).loc Cert.QkFinRefIdeal.main_arg3))

def preserves_MlaFwd_MlaFwdIdeal : Prop :=
  IdealRules.named_const.Statement Cert.MlaFwdIdeal.κ "mask" .f32 0xF149F2CA#32 ⊥
  ∧ IdealRules.named_const.Statement Cert.MlaFwdIdeal.κ "s" .f32 0x3D93CD3A#32 (((Real.sqrt 192)⁻¹ : ℝ) : EReal)

def algebraic_MlaFwdIdeal_MlaFwdRefIdeal_pre_mla_fwd_finite [hMlaFwdIdeal : Cert.MlaFwdIdeal.Facts] [hMlaFwdRefIdeal : Cert.MlaFwdRefIdeal.Facts] [hPre_mla_fwd_finite : Cert.Pre_mla_fwd_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_mla_fwd_finite m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)
      ∧ m' ((c.tc : Thread Cert.MlaFwdRefIdeal.nD Cert.MlaFwdRefIdeal.τ).loc Cert.MlaFwdRefIdeal.main_arg3) = m ((c.tc : Thread Cert.MlaFwdIdeal.nD Cert.MlaFwdIdeal.τ).loc Cert.MlaFwdIdeal.main_arg3)
      ∧ m' ((c.tc : Thread Cert.MlaFwdRefIdeal.nD Cert.MlaFwdRefIdeal.τ).loc Cert.MlaFwdRefIdeal.main_arg4) = m ((c.tc : Thread Cert.MlaFwdIdeal.nD Cert.MlaFwdIdeal.τ).loc Cert.MlaFwdIdeal.main_arg4)) →
    ∃ (v0 : (c : Dev Cert.MlaFwdIdeal.nD) → Buf (Elt Ideal) ((c.tc : Thread Cert.MlaFwdIdeal.nD Cert.MlaFwdIdeal.τ).loc Cert.MlaFwdIdeal.main_v14_0)) (v1 : (c : Dev Cert.MlaFwdIdeal.nD) → Buf (Elt Ideal) ((c.tc : Thread Cert.MlaFwdIdeal.nD Cert.MlaFwdIdeal.τ).loc Cert.MlaFwdIdeal.main_v14_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v14_0) = v0 c
          ∧ r.2.mem ((c.tc : Thread Cert.MlaFwdIdeal.nD Cert.MlaFwdIdeal.τ).loc Cert.MlaFwdIdeal.main_v14_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
          ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
          ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v37) = v0 c
          ∧ r.2.mem ((c.tc : Thread Cert.MlaFwdRefIdeal.nD Cert.MlaFwdRefIdeal.τ).loc Cert.MlaFwdRefIdeal.main_v40) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2)
          ∧ r.2.mem ((c.tc : Thread Cert.MlaFwdRefIdeal.nD Cert.MlaFwdRefIdeal.τ).loc Cert.MlaFwdRefIdeal.main_arg3) = m' ((c.tc : Thread Cert.MlaFwdRefIdeal.nD Cert.MlaFwdRefIdeal.τ).loc Cert.MlaFwdRefIdeal.main_arg3)
          ∧ r.2.mem ((c.tc : Thread Cert.MlaFwdRefIdeal.nD Cert.MlaFwdRefIdeal.τ).loc Cert.MlaFwdRefIdeal.main_arg4) = m' ((c.tc : Thread Cert.MlaFwdRefIdeal.nD Cert.MlaFwdRefIdeal.τ).loc Cert.MlaFwdRefIdeal.main_arg4))

def preserves_Dil1Fwd_Dil1FwdIdeal : Prop :=
  IdealRules.named_const.Statement Cert.Dil1FwdIdeal.κ "s" .f32 0x3DB504F3#32 (((Real.sqrt 128)⁻¹ : ℝ) : EReal)
  ∧ IdealRules.named_const.Statement Cert.Dil1FwdIdeal.κ "mask" .f32 0xF149F2CA#32 ⊥

def algebraic_Dil1FwdIdeal_Dil1FwdRefIdeal_pre_dil1_fwd_finite [hDil1FwdIdeal : Cert.Dil1FwdIdeal.Facts] [hDil1FwdRefIdeal : Cert.Dil1FwdRefIdeal.Facts] [hPre_dil1_fwd_finite : Cert.Pre_dil1_fwd_finite.Facts] : Prop :=
  ∀ (m : (ℓ : Loc Cert.Dil1FwdIdeal.nD Cert.Dil1FwdIdeal.τ Cert.Dil1FwdIdeal.sig) → Buf (Elt Ideal) ℓ) (g : Dev Cert.Dil1FwdIdeal.nD → PrngReg)
    (m' : (ℓ : Loc Cert.Dil1FwdRefIdeal.nD Cert.Dil1FwdRefIdeal.τ Cert.Dil1FwdRefIdeal.sig) → Buf (Elt Ideal) ℓ) (g' : Dev Cert.Dil1FwdRefIdeal.nD → PrngReg), Pre_Dil1FwdIdeal_dil1_fwd_finite m →
    (∀ c : Dev Cert.Dil1FwdIdeal.nD,
      m' ((c.tc : Thread Cert.Dil1FwdRefIdeal.nD Cert.Dil1FwdRefIdeal.τ).loc Cert.Dil1FwdRefIdeal.main_arg0) = m ((c.tc : Thread Cert.Dil1FwdIdeal.nD Cert.Dil1FwdIdeal.τ).loc Cert.Dil1FwdIdeal.main_arg0)
      ∧ m' ((c.tc : Thread Cert.Dil1FwdRefIdeal.nD Cert.Dil1FwdRefIdeal.τ).loc Cert.Dil1FwdRefIdeal.main_arg1) = m ((c.tc : Thread Cert.Dil1FwdIdeal.nD Cert.Dil1FwdIdeal.τ).loc Cert.Dil1FwdIdeal.main_arg1)
      ∧ m' ((c.tc : Thread Cert.Dil1FwdRefIdeal.nD Cert.Dil1FwdRefIdeal.τ).loc Cert.Dil1FwdRefIdeal.main_arg2) = m ((c.tc : Thread Cert.Dil1FwdIdeal.nD Cert.Dil1FwdIdeal.τ).loc Cert.Dil1FwdIdeal.main_arg2)) →
    ∃ (v0 : (c : Dev Cert.Dil1FwdIdeal.nD) → Buf (Elt Ideal) ((c.tc : Thread Cert.Dil1FwdIdeal.nD Cert.Dil1FwdIdeal.τ).loc Cert.Dil1FwdIdeal.main_v3_0)) (v1 : (c : Dev Cert.Dil1FwdIdeal.nD) → Buf (Elt Ideal) ((c.tc : Thread Cert.Dil1FwdIdeal.nD Cert.Dil1FwdIdeal.τ).loc Cert.Dil1FwdIdeal.main_v3_1)),
      θ_run (Cert.Dil1FwdIdeal.defs (F := Ideal)) (onTc (τ := Cert.Dil1FwdIdeal.τ) (Cert.Dil1FwdIdeal.main (F := Ideal))) ⟨m, fun _ => 0, g⟩ (fun r => ∀ c : Dev Cert.Dil1FwdIdeal.nD,
          r.2.mem ((c.tc : Thread Cert.Dil1FwdIdeal.nD Cert.Dil1FwdIdeal.τ).loc Cert.Dil1FwdIdeal.main_v3_0) = v0 c
          ∧ r.2.mem ((c.tc : Thread Cert.Dil1FwdIdeal.nD Cert.Dil1FwdIdeal.τ).loc Cert.Dil1FwdIdeal.main_v3_1) = v1 c
          ∧ r.2.mem ((c.tc : Thread Cert.Dil1FwdIdeal.nD Cert.Dil1FwdIdeal.τ).loc Cert.Dil1FwdIdeal.main_arg0) = m ((c.tc : Thread Cert.Dil1FwdIdeal.nD Cert.Dil1FwdIdeal.τ).loc Cert.Dil1FwdIdeal.main_arg0)
          ∧ r.2.mem ((c.tc : Thread Cert.Dil1FwdIdeal.nD Cert.Dil1FwdIdeal.τ).loc Cert.Dil1FwdIdeal.main_arg1) = m ((c.tc : Thread Cert.Dil1FwdIdeal.nD Cert.Dil1FwdIdeal.τ).loc Cert.Dil1FwdIdeal.main_arg1)
          ∧ r.2.mem ((c.tc : Thread Cert.Dil1FwdIdeal.nD Cert.Dil1FwdIdeal.τ).loc Cert.Dil1FwdIdeal.main_arg2) = m ((c.tc : Thread Cert.Dil1FwdIdeal.nD Cert.Dil1FwdIdeal.τ).loc Cert.Dil1FwdIdeal.main_arg2))
      ∧ θ_run (Cert.Dil1FwdRefIdeal.defs (F := Ideal)) (onTc (τ := Cert.Dil1FwdRefIdeal.τ) (Cert.Dil1FwdRefIdeal.main (F := Ideal))) ⟨m', fun _ => 0, g'⟩ (fun r => ∀ c : Dev Cert.Dil1FwdRefIdeal.nD,
          r.2.mem ((c.tc : Thread Cert.Dil1FwdRefIdeal.nD Cert.Dil1FwdRefIdeal.τ).loc Cert.Dil1FwdRefIdeal.main_v78) = v0 c
          ∧ r.2.mem ((c.tc : Thread Cert.Dil1FwdRefIdeal.nD Cert.Dil1FwdRefIdeal.τ).loc Cert.Dil1FwdRefIdeal.main_v81) = v1 c
          ∧ r.2.mem ((c.tc : Thread Cert.Dil1FwdRefIdeal.nD Cert.Dil1FwdRefIdeal.τ).loc Cert.Dil1FwdRefIdeal.main_arg0) = m' ((c.tc : Thread Cert.Dil1FwdRefIdeal.nD Cert.Dil1FwdRefIdeal.τ).loc Cert.Dil1FwdRefIdeal.main_arg0)
          ∧ r.2.mem ((c.tc : Thread Cert.Dil1FwdRefIdeal.nD Cert.Dil1FwdRefIdeal.τ).loc Cert.Dil1FwdRefIdeal.main_arg1) = m' ((c.tc : Thread Cert.Dil1FwdRefIdeal.nD Cert.Dil1FwdRefIdeal.τ).loc Cert.Dil1FwdRefIdeal.main_arg1)
          ∧ r.2.mem ((c.tc : Thread Cert.Dil1FwdRefIdeal.nD Cert.Dil1FwdRefIdeal.τ).loc Cert.Dil1FwdRefIdeal.main_arg2) = m' ((c.tc : Thread Cert.Dil1FwdRefIdeal.nD Cert.Dil1FwdRefIdeal.τ).loc Cert.Dil1FwdRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MergeFwd_MergeFwdIdeal : Prop :=
  True

def algebraic_MergeFwdIdeal_MergeFwdRefIdeal_pre_merge_fwd_finite [hMergeFwdIdeal : Cert.MergeFwdIdeal.Facts] [hMergeFwdRefIdeal : Cert.MergeFwdRefIdeal.Facts] [hPre_merge_fwd_finite : Cert.Pre_merge_fwd_finite.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal_merge_fwd_finite m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v15)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v15) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v24) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_v15) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_v2) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_QkFwd_QkFwdIdeal : Prop :=
  True

def algebraic_QkFwdIdeal_QkFwdRefIdeal [hQkFwdIdeal : Cert.QkFwdIdeal.Facts] [hQkFwdRefIdeal : Cert.QkFwdRefIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg)
    (m' : (ℓ : Loc Cert.QkFwdRefIdeal.nD Cert.QkFwdRefIdeal.τ Cert.QkFwdRefIdeal.sig) → Buf (Elt Ideal) ℓ) (g' : Dev Cert.QkFwdRefIdeal.nD → PrngReg), Pre_QkFwdIdeal m →
    (∀ c : Dev Cert.QkFwdIdeal.nD,
      m' ((c.tc : Thread Cert.QkFwdRefIdeal.nD Cert.QkFwdRefIdeal.τ).loc Cert.QkFwdRefIdeal.main_arg0) = m ((c.tc : Thread Cert.QkFwdIdeal.nD Cert.QkFwdIdeal.τ).loc Cert.QkFwdIdeal.main_arg0)
      ∧ m' ((c.tc : Thread Cert.QkFwdRefIdeal.nD Cert.QkFwdRefIdeal.τ).loc Cert.QkFwdRefIdeal.main_arg1) = m ((c.tc : Thread Cert.QkFwdIdeal.nD Cert.QkFwdIdeal.τ).loc Cert.QkFwdIdeal.main_arg1)
      ∧ m' ((c.tc : Thread Cert.QkFwdRefIdeal.nD Cert.QkFwdRefIdeal.τ).loc Cert.QkFwdRefIdeal.main_arg2) = m ((c.tc : Thread Cert.QkFwdIdeal.nD Cert.QkFwdIdeal.τ).loc Cert.QkFwdIdeal.main_arg2)
      ∧ m' ((c.tc : Thread Cert.QkFwdRefIdeal.nD Cert.QkFwdRefIdeal.τ).loc Cert.QkFwdRefIdeal.main_arg3) = m ((c.tc : Thread Cert.QkFwdIdeal.nD Cert.QkFwdIdeal.τ).loc Cert.QkFwdIdeal.main_arg3)) →
    ∃ (v0 : (c : Dev Cert.QkFwdIdeal.nD) → Buf (Elt Ideal) ((c.tc : Thread Cert.QkFwdIdeal.nD Cert.QkFwdIdeal.τ).loc Cert.QkFwdIdeal.main_v54_0)) (v1 : (c : Dev Cert.QkFwdIdeal.nD) → Buf (Elt Ideal) ((c.tc : Thread Cert.QkFwdIdeal.nD Cert.QkFwdIdeal.τ).loc Cert.QkFwdIdeal.main_v54_1)),
      θ_run (Cert.QkFwdIdeal.defs (F := Ideal)) (onTc (τ := Cert.QkFwdIdeal.τ) (Cert.QkFwdIdeal.main (F := Ideal))) ⟨m, fun _ => 0, g⟩ (fun r => ∀ c : Dev Cert.QkFwdIdeal.nD,
          r.2.mem ((c.tc : Thread Cert.QkFwdIdeal.nD Cert.QkFwdIdeal.τ).loc Cert.QkFwdIdeal.main_v54_0) = v0 c
          ∧ r.2.mem ((c.tc : Thread Cert.QkFwdIdeal.nD Cert.QkFwdIdeal.τ).loc Cert.QkFwdIdeal.main_v54_1) = v1 c
          ∧ r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
          ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
          ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2)
          ∧ r.2.mem ((c.tc : Thread Cert.QkFwdIdeal.nD Cert.QkFwdIdeal.τ).loc Cert.QkFwdIdeal.main_arg3) = m ((c.tc : Thread Cert.QkFwdIdeal.nD Cert.QkFwdIdeal.τ).loc Cert.QkFwdIdeal.main_arg3))
      ∧ θ_run (Cert.QkFwdRefIdeal.defs (F := Ideal)) (onTc (τ := Cert.QkFwdRefIdeal.τ) (Cert.QkFwdRefIdeal.main (F := Ideal))) ⟨m', fun _ => 0, g'⟩ (fun r => ∀ c : Dev Cert.QkFwdRefIdeal.nD,
          r.2.mem ((c.tc : Thread Cert.QkFwdRefIdeal.nD Cert.QkFwdRefIdeal.τ).loc Cert.QkFwdRefIdeal.main_v44) = v0 c
          ∧ r.2.mem ((c.tc : Thread Cert.QkFwdRefIdeal.nD Cert.QkFwdRefIdeal.τ).loc Cert.QkFwdRefIdeal.main_v47) = v1 c
          ∧ r.2.mem ((c.tc : Thread Cert.QkFwdRefIdeal.nD Cert.QkFwdRefIdeal.τ).loc Cert.QkFwdRefIdeal.main_arg0) = m' ((c.tc : Thread Cert.QkFwdRefIdeal.nD Cert.QkFwdRefIdeal.τ).loc Cert.QkFwdRefIdeal.main_arg0)
          ∧ r.2.mem ((c.tc : Thread Cert.QkFwdRefIdeal.nD Cert.QkFwdRefIdeal.τ).loc Cert.QkFwdRefIdeal.main_arg1) = m' ((c.tc : Thread Cert.QkFwdRefIdeal.nD Cert.QkFwdRefIdeal.τ).loc Cert.QkFwdRefIdeal.main_arg1)
          ∧ r.2.mem ((c.tc : Thread Cert.QkFwdRefIdeal.nD Cert.QkFwdRefIdeal.τ).loc Cert.QkFwdRefIdeal.main_arg2) = m' ((c.tc : Thread Cert.QkFwdRefIdeal.nD Cert.QkFwdRefIdeal.τ).loc Cert.QkFwdRefIdeal.main_arg2)
          ∧ r.2.mem ((c.tc : Thread Cert.QkFwdRefIdeal.nD Cert.QkFwdRefIdeal.τ).loc Cert.QkFwdRefIdeal.main_arg3) = m' ((c.tc : Thread Cert.QkFwdRefIdeal.nD Cert.QkFwdRefIdeal.τ).loc Cert.QkFwdRefIdeal.main_arg3))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v5)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v5) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v7) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v10)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v10) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v4) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v5)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v5) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v11) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmTnA_MmTnAIdeal : Prop :=
  True

def algebraic_MmTnAIdeal_MmTnARefIdeal [hMmTnAIdeal : Cert.MmTnAIdeal.Facts] [hMmTnARefIdeal : Cert.MmTnARefIdeal.Facts] : Prop :=
  ∀ (m : (ℓ : Loc Cert.MmTnAIdeal.nD Cert.MmTnAIdeal.τ Cert.MmTnAIdeal.sig) → Buf (Elt Ideal) ℓ) (g : Dev Cert.MmTnAIdeal.nD → PrngReg)
    (m' : (ℓ : Loc Cert.MmTnARefIdeal.nD Cert.MmTnARefIdeal.τ Cert.MmTnARefIdeal.sig) → Buf (Elt Ideal) ℓ) (g' : Dev Cert.MmTnARefIdeal.nD → PrngReg), Pre_MmTnAIdeal m →
    (∀ c : Dev Cert.MmTnAIdeal.nD,
      m' ((c.tc : Thread Cert.MmTnARefIdeal.nD Cert.MmTnARefIdeal.τ).loc Cert.MmTnARefIdeal.main_arg0) = m ((c.tc : Thread Cert.MmTnAIdeal.nD Cert.MmTnAIdeal.τ).loc Cert.MmTnAIdeal.main_arg0)
      ∧ m' ((c.tc : Thread Cert.MmTnARefIdeal.nD Cert.MmTnARefIdeal.τ).loc Cert.MmTnARefIdeal.main_arg1) = m ((c.tc : Thread Cert.MmTnAIdeal.nD Cert.MmTnAIdeal.τ).loc Cert.MmTnAIdeal.main_arg1)) →
    ∃ (v0 : (c : Dev Cert.MmTnAIdeal.nD) → Buf (Elt Ideal) ((c.tc : Thread Cert.MmTnAIdeal.nD Cert.MmTnAIdeal.τ).loc Cert.MmTnAIdeal.main_v2)),
      θ_run (Cert.MmTnAIdeal.defs (F := Ideal)) (onTc (τ := Cert.MmTnAIdeal.τ) (Cert.MmTnAIdeal.main (F := Ideal))) ⟨m, fun _ => 0, g⟩ (fun r => ∀ c : Dev Cert.MmTnAIdeal.nD,
          r.2.mem ((c.tc : Thread Cert.MmTnAIdeal.nD Cert.MmTnAIdeal.τ).loc Cert.MmTnAIdeal.main_v2) = v0 c
          ∧ r.2.mem ((c.tc : Thread Cert.MmTnAIdeal.nD Cert.MmTnAIdeal.τ).loc Cert.MmTnAIdeal.main_arg0) = m ((c.tc : Thread Cert.MmTnAIdeal.nD Cert.MmTnAIdeal.τ).loc Cert.MmTnAIdeal.main_arg0)
          ∧ r.2.mem ((c.tc : Thread Cert.MmTnAIdeal.nD Cert.MmTnAIdeal.τ).loc Cert.MmTnAIdeal.main_arg1) = m ((c.tc : Thread Cert.MmTnAIdeal.nD Cert.MmTnAIdeal.τ).loc Cert.MmTnAIdeal.main_arg1))
      ∧ θ_run (Cert.MmTnARefIdeal.defs (F := Ideal)) (onTc (τ := Cert.MmTnARefIdeal.τ) (Cert.MmTnARefIdeal.main (F := Ideal))) ⟨m', fun _ => 0, g'⟩ (fun r => ∀ c : Dev Cert.MmTnARefIdeal.nD,
          r.2.mem ((c.tc : Thread Cert.MmTnARefIdeal.nD Cert.MmTnARefIdeal.τ).loc Cert.MmTnARefIdeal.main_v7) = v0 c
          ∧ r.2.mem ((c.tc : Thread Cert.MmTnARefIdeal.nD Cert.MmTnARefIdeal.τ).loc Cert.MmTnARefIdeal.main_arg0) = m' ((c.tc : Thread Cert.MmTnARefIdeal.nD Cert.MmTnARefIdeal.τ).loc Cert.MmTnARefIdeal.main_arg0)
          ∧ r.2.mem ((c.tc : Thread Cert.MmTnARefIdeal.nD Cert.MmTnARefIdeal.τ).loc Cert.MmTnARefIdeal.main_arg1) = m' ((c.tc : Thread Cert.MmTnARefIdeal.nD Cert.MmTnARefIdeal.τ).loc Cert.MmTnARefIdeal.main_arg1))

def preserves_MmTnB_MmTnBIdeal : Prop :=
  True

def algebraic_MmTnBIdeal_MmTnBRefIdeal [hMmTnBIdeal : Cert.MmTnBIdeal.Facts] [hMmTnBRefIdeal : Cert.MmTnBRefIdeal.Facts] : Prop :=
  ∀ (m : (ℓ : Loc Cert.MmTnBIdeal.nD Cert.MmTnBIdeal.τ Cert.MmTnBIdeal.sig) → Buf (Elt Ideal) ℓ) (g : Dev Cert.MmTnBIdeal.nD → PrngReg)
    (m' : (ℓ : Loc Cert.MmTnBRefIdeal.nD Cert.MmTnBRefIdeal.τ Cert.MmTnBRefIdeal.sig) → Buf (Elt Ideal) ℓ) (g' : Dev Cert.MmTnBRefIdeal.nD → PrngReg), Pre_MmTnBIdeal m →
    (∀ c : Dev Cert.MmTnBIdeal.nD,
      m' ((c.tc : Thread Cert.MmTnBRefIdeal.nD Cert.MmTnBRefIdeal.τ).loc Cert.MmTnBRefIdeal.main_arg0) = m ((c.tc : Thread Cert.MmTnBIdeal.nD Cert.MmTnBIdeal.τ).loc Cert.MmTnBIdeal.main_arg0)
      ∧ m' ((c.tc : Thread Cert.MmTnBRefIdeal.nD Cert.MmTnBRefIdeal.τ).loc Cert.MmTnBRefIdeal.main_arg1) = m ((c.tc : Thread Cert.MmTnBIdeal.nD Cert.MmTnBIdeal.τ).loc Cert.MmTnBIdeal.main_arg1)) →
    ∃ (v0 : (c : Dev Cert.MmTnBIdeal.nD) → Buf (Elt Ideal) ((c.tc : Thread Cert.MmTnBIdeal.nD Cert.MmTnBIdeal.τ).loc Cert.MmTnBIdeal.main_v2)),
      θ_run (Cert.MmTnBIdeal.defs (F := Ideal)) (onTc (τ := Cert.MmTnBIdeal.τ) (Cert.MmTnBIdeal.main (F := Ideal))) ⟨m, fun _ => 0, g⟩ (fun r => ∀ c : Dev Cert.MmTnBIdeal.nD,
          r.2.mem ((c.tc : Thread Cert.MmTnBIdeal.nD Cert.MmTnBIdeal.τ).loc Cert.MmTnBIdeal.main_v2) = v0 c
          ∧ r.2.mem ((c.tc : Thread Cert.MmTnBIdeal.nD Cert.MmTnBIdeal.τ).loc Cert.MmTnBIdeal.main_arg0) = m ((c.tc : Thread Cert.MmTnBIdeal.nD Cert.MmTnBIdeal.τ).loc Cert.MmTnBIdeal.main_arg0)
          ∧ r.2.mem ((c.tc : Thread Cert.MmTnBIdeal.nD Cert.MmTnBIdeal.τ).loc Cert.MmTnBIdeal.main_arg1) = m ((c.tc : Thread Cert.MmTnBIdeal.nD Cert.MmTnBIdeal.τ).loc Cert.MmTnBIdeal.main_arg1))
      ∧ θ_run (Cert.MmTnBRefIdeal.defs (F := Ideal)) (onTc (τ := Cert.MmTnBRefIdeal.τ) (Cert.MmTnBRefIdeal.main (F := Ideal))) ⟨m', fun _ => 0, g'⟩ (fun r => ∀ c : Dev Cert.MmTnBRefIdeal.nD,
          r.2.mem ((c.tc : Thread Cert.MmTnBRefIdeal.nD Cert.MmTnBRefIdeal.τ).loc Cert.MmTnBRefIdeal.main_v8) = v0 c
          ∧ r.2.mem ((c.tc : Thread Cert.MmTnBRefIdeal.nD Cert.MmTnBRefIdeal.τ).loc Cert.MmTnBRefIdeal.main_arg0) = m' ((c.tc : Thread Cert.MmTnBRefIdeal.nD Cert.MmTnBRefIdeal.τ).loc Cert.MmTnBRefIdeal.main_arg0)
          ∧ r.2.mem ((c.tc : Thread Cert.MmTnBRefIdeal.nD Cert.MmTnBRefIdeal.τ).loc Cert.MmTnBRefIdeal.main_arg1) = m' ((c.tc : Thread Cert.MmTnBRefIdeal.nD Cert.MmTnBRefIdeal.τ).loc Cert.MmTnBRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v12) = v0 c
          ∧ r.2.mem ((c.tc : Thread Cert.AdamRefIdeal.nD Cert.AdamRefIdeal.τ).loc Cert.AdamRefIdeal.main_v36) = v1 c
          ∧ r.2.mem ((c.tc : Thread Cert.AdamRefIdeal.nD Cert.AdamRefIdeal.τ).loc Cert.AdamRefIdeal.main_v17) = v2 c
          ∧ r.2.mem ((c.tc : Thread Cert.AdamRefIdeal.nD Cert.AdamRefIdeal.τ).loc Cert.AdamRefIdeal.main_v23) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6))

def Claim : Prop :=
  ∃ (hPost : Cert.Post.Facts) (hPostIdeal : Cert.PostIdeal.Facts) (hPostRefIdeal : Cert.PostRefIdeal.Facts) (hMerge : Cert.Merge.Facts) (hMergeIdeal : Cert.MergeIdeal.Facts) (hMergeRefIdeal : Cert.MergeRefIdeal.Facts) (hDil1 : Cert.Dil1.Facts) (hDil1Ideal : Cert.Dil1Ideal.Facts) (hDil1RefIdeal : Cert.Dil1RefIdeal.Facts) (hPre : Cert.Pre.Facts) (hPreIdeal : Cert.PreIdeal.Facts) (hPreRefIdeal : Cert.PreRefIdeal.Facts) (hLoss : Cert.Loss.Facts) (hLossIdeal : Cert.LossIdeal.Facts) (hLossRefIdeal : Cert.LossRefIdeal.Facts) (hFfnDa : Cert.FfnDa.Facts) (hFfnDaIdeal : Cert.FfnDaIdeal.Facts) (hFfnDaRefIdeal : Cert.FfnDaRefIdeal.Facts) (hFfnDh : Cert.FfnDh.Facts) (hFfnDhIdeal : Cert.FfnDhIdeal.Facts) (hFfnDhRefIdeal : Cert.FfnDhRefIdeal.Facts) (hQkFin : Cert.QkFin.Facts) (hQkFinIdeal : Cert.QkFinIdeal.Facts) (hQkFinRefIdeal : Cert.QkFinRefIdeal.Facts) (hMlaFwd : Cert.MlaFwd.Facts) (hMlaFwdIdeal : Cert.MlaFwdIdeal.Facts) (hMlaFwdRefIdeal : Cert.MlaFwdRefIdeal.Facts) (hDil1Fwd : Cert.Dil1Fwd.Facts) (hDil1FwdIdeal : Cert.Dil1FwdIdeal.Facts) (hDil1FwdRefIdeal : Cert.Dil1FwdRefIdeal.Facts) (hNorm : Cert.Norm.Facts) (hNormIdeal : Cert.NormIdeal.Facts) (hNormRefIdeal : Cert.NormRefIdeal.Facts) (hMergeFwd : Cert.MergeFwd.Facts) (hMergeFwdIdeal : Cert.MergeFwdIdeal.Facts) (hMergeFwdRefIdeal : Cert.MergeFwdRefIdeal.Facts) (hFfnUp : Cert.FfnUp.Facts) (hFfnUpIdeal : Cert.FfnUpIdeal.Facts) (hFfnUpRefIdeal : Cert.FfnUpRefIdeal.Facts) (hDown : Cert.Down.Facts) (hDownIdeal : Cert.DownIdeal.Facts) (hDownRefIdeal : Cert.DownRefIdeal.Facts) (hQkFwd : Cert.QkFwd.Facts) (hQkFwdIdeal : Cert.QkFwdIdeal.Facts) (hQkFwdRefIdeal : Cert.QkFwdRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hMmTnA : Cert.MmTnA.Facts) (hMmTnAIdeal : Cert.MmTnAIdeal.Facts) (hMmTnARefIdeal : Cert.MmTnARefIdeal.Facts) (hMmTnB : Cert.MmTnB.Facts) (hMmTnBIdeal : Cert.MmTnBIdeal.Facts) (hMmTnBRefIdeal : Cert.MmTnBRefIdeal.Facts) (hAdam : Cert.Adam.Facts) (hAdamIdeal : Cert.AdamIdeal.Facts) (hAdamRefIdeal : Cert.AdamRefIdeal.Facts) (hPre_post_finite : Cert.Pre_post_finite.Facts) (hPre_merge_finite : Cert.Pre_merge_finite.Facts) (hPre_dil1_finite : Cert.Pre_dil1_finite.Facts) (hPre_pre_finite : Cert.Pre_pre_finite.Facts) (hPre_ffn_da_finite : Cert.Pre_ffn_da_finite.Facts) (hPre_ffn_dh_finite : Cert.Pre_ffn_dh_finite.Facts) (hPre_mla_fwd_finite : Cert.Pre_mla_fwd_finite.Facts) (hPre_dil1_fwd_finite : Cert.Pre_dil1_fwd_finite.Facts) (hPre_merge_fwd_finite : Cert.Pre_merge_fwd_finite.Facts),
    quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Dil1 (hDil1 := hDil1)
    ∧ quiescent_Dil1Ideal (hDil1Ideal := hDil1Ideal)
    ∧ quiescent_Dil1Ideal_pre_dil1_finite (hDil1Ideal := hDil1Ideal) (hPre_dil1_finite := hPre_dil1_finite)
    ∧ quiescent_Dil1RefIdeal (hDil1RefIdeal := hDil1RefIdeal)
    ∧ quiescent_Dil1RefIdeal_pre_dil1_finite (hDil1RefIdeal := hDil1RefIdeal) (hPre_dil1_finite := hPre_dil1_finite)
    ∧ quiescent_Pre (hPre := hPre)
    ∧ quiescent_PreIdeal (hPreIdeal := hPreIdeal)
    ∧ quiescent_PreIdeal_pre_pre_finite (hPreIdeal := hPreIdeal) (hPre_pre_finite := hPre_pre_finite)
    ∧ quiescent_PreRefIdeal (hPreRefIdeal := hPreRefIdeal)
    ∧ quiescent_PreRefIdeal_pre_pre_finite (hPreRefIdeal := hPreRefIdeal) (hPre_pre_finite := hPre_pre_finite)
    ∧ quiescent_Loss (hLoss := hLoss)
    ∧ quiescent_LossIdeal (hLossIdeal := hLossIdeal)
    ∧ quiescent_LossRefIdeal (hLossRefIdeal := hLossRefIdeal)
    ∧ quiescent_FfnDa (hFfnDa := hFfnDa)
    ∧ quiescent_FfnDaIdeal (hFfnDaIdeal := hFfnDaIdeal)
    ∧ quiescent_FfnDaIdeal_pre_ffn_da_finite (hFfnDaIdeal := hFfnDaIdeal) (hPre_ffn_da_finite := hPre_ffn_da_finite)
    ∧ quiescent_FfnDaRefIdeal (hFfnDaRefIdeal := hFfnDaRefIdeal)
    ∧ quiescent_FfnDaRefIdeal_pre_ffn_da_finite (hFfnDaRefIdeal := hFfnDaRefIdeal) (hPre_ffn_da_finite := hPre_ffn_da_finite)
    ∧ quiescent_FfnDh (hFfnDh := hFfnDh)
    ∧ quiescent_FfnDhIdeal (hFfnDhIdeal := hFfnDhIdeal)
    ∧ quiescent_FfnDhIdeal_pre_ffn_dh_finite (hFfnDhIdeal := hFfnDhIdeal) (hPre_ffn_dh_finite := hPre_ffn_dh_finite)
    ∧ quiescent_FfnDhRefIdeal (hFfnDhRefIdeal := hFfnDhRefIdeal)
    ∧ quiescent_FfnDhRefIdeal_pre_ffn_dh_finite (hFfnDhRefIdeal := hFfnDhRefIdeal) (hPre_ffn_dh_finite := hPre_ffn_dh_finite)
    ∧ quiescent_QkFin (hQkFin := hQkFin)
    ∧ quiescent_QkFinIdeal (hQkFinIdeal := hQkFinIdeal)
    ∧ quiescent_QkFinRefIdeal (hQkFinRefIdeal := hQkFinRefIdeal)
    ∧ quiescent_MlaFwd (hMlaFwd := hMlaFwd)
    ∧ quiescent_MlaFwdIdeal (hMlaFwdIdeal := hMlaFwdIdeal)
    ∧ quiescent_MlaFwdIdeal_pre_mla_fwd_finite (hMlaFwdIdeal := hMlaFwdIdeal) (hPre_mla_fwd_finite := hPre_mla_fwd_finite)
    ∧ quiescent_MlaFwdRefIdeal (hMlaFwdRefIdeal := hMlaFwdRefIdeal)
    ∧ quiescent_MlaFwdRefIdeal_pre_mla_fwd_finite (hMlaFwdRefIdeal := hMlaFwdRefIdeal) (hPre_mla_fwd_finite := hPre_mla_fwd_finite)
    ∧ quiescent_Dil1Fwd (hDil1Fwd := hDil1Fwd)
    ∧ quiescent_Dil1FwdIdeal (hDil1FwdIdeal := hDil1FwdIdeal)
    ∧ quiescent_Dil1FwdIdeal_pre_dil1_fwd_finite (hDil1FwdIdeal := hDil1FwdIdeal) (hPre_dil1_fwd_finite := hPre_dil1_fwd_finite)
    ∧ quiescent_Dil1FwdRefIdeal (hDil1FwdRefIdeal := hDil1FwdRefIdeal)
    ∧ quiescent_Dil1FwdRefIdeal_pre_dil1_fwd_finite (hDil1FwdRefIdeal := hDil1FwdRefIdeal) (hPre_dil1_fwd_finite := hPre_dil1_fwd_finite)
    ∧ quiescent_Norm (hNorm := hNorm)
    ∧ quiescent_NormIdeal (hNormIdeal := hNormIdeal)
    ∧ quiescent_NormRefIdeal (hNormRefIdeal := hNormRefIdeal)
    ∧ quiescent_MergeFwd (hMergeFwd := hMergeFwd)
    ∧ quiescent_MergeFwdIdeal (hMergeFwdIdeal := hMergeFwdIdeal)
    ∧ quiescent_MergeFwdIdeal_pre_merge_fwd_finite (hMergeFwdIdeal := hMergeFwdIdeal) (hPre_merge_fwd_finite := hPre_merge_fwd_finite)
    ∧ quiescent_MergeFwdRefIdeal (hMergeFwdRefIdeal := hMergeFwdRefIdeal)
    ∧ quiescent_MergeFwdRefIdeal_pre_merge_fwd_finite (hMergeFwdRefIdeal := hMergeFwdRefIdeal) (hPre_merge_fwd_finite := hPre_merge_fwd_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Down (hDown := hDown)
    ∧ quiescent_DownIdeal (hDownIdeal := hDownIdeal)
    ∧ quiescent_DownRefIdeal (hDownRefIdeal := hDownRefIdeal)
    ∧ quiescent_QkFwd (hQkFwd := hQkFwd)
    ∧ quiescent_QkFwdIdeal (hQkFwdIdeal := hQkFwdIdeal)
    ∧ quiescent_QkFwdRefIdeal (hQkFwdRefIdeal := hQkFwdRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmTnA (hMmTnA := hMmTnA)
    ∧ quiescent_MmTnAIdeal (hMmTnAIdeal := hMmTnAIdeal)
    ∧ quiescent_MmTnARefIdeal (hMmTnARefIdeal := hMmTnARefIdeal)
    ∧ quiescent_MmTnB (hMmTnB := hMmTnB)
    ∧ quiescent_MmTnBIdeal (hMmTnBIdeal := hMmTnBIdeal)
    ∧ quiescent_MmTnBRefIdeal (hMmTnBRefIdeal := hMmTnBRefIdeal)
    ∧ quiescent_Adam (hAdam := hAdam)
    ∧ quiescent_AdamIdeal (hAdamIdeal := hAdamIdeal)
    ∧ quiescent_AdamRefIdeal (hAdamRefIdeal := hAdamRefIdeal)
    ∧ preserves_Post_PostIdeal
    ∧ algebraic_PostIdeal_PostRefIdeal_pre_post_finite (hPostIdeal := hPostIdeal) (hPostRefIdeal := hPostRefIdeal) (hPre_post_finite := hPre_post_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Dil1_Dil1Ideal
    ∧ algebraic_Dil1Ideal_Dil1RefIdeal_pre_dil1_finite (hDil1Ideal := hDil1Ideal) (hDil1RefIdeal := hDil1RefIdeal) (hPre_dil1_finite := hPre_dil1_finite)
    ∧ preserves_Pre_PreIdeal
    ∧ algebraic_PreIdeal_PreRefIdeal_pre_pre_finite (hPreIdeal := hPreIdeal) (hPreRefIdeal := hPreRefIdeal) (hPre_pre_finite := hPre_pre_finite)
    ∧ preserves_Loss_LossIdeal
    ∧ algebraic_LossIdeal_LossRefIdeal (hLossIdeal := hLossIdeal) (hLossRefIdeal := hLossRefIdeal)
    ∧ preserves_FfnDa_FfnDaIdeal
    ∧ algebraic_FfnDaIdeal_FfnDaRefIdeal_pre_ffn_da_finite (hFfnDaIdeal := hFfnDaIdeal) (hFfnDaRefIdeal := hFfnDaRefIdeal) (hPre_ffn_da_finite := hPre_ffn_da_finite)
    ∧ preserves_FfnDh_FfnDhIdeal
    ∧ algebraic_FfnDhIdeal_FfnDhRefIdeal_pre_ffn_dh_finite (hFfnDhIdeal := hFfnDhIdeal) (hFfnDhRefIdeal := hFfnDhRefIdeal) (hPre_ffn_dh_finite := hPre_ffn_dh_finite)
    ∧ preserves_QkFin_QkFinIdeal
    ∧ algebraic_QkFinIdeal_QkFinRefIdeal (hQkFinIdeal := hQkFinIdeal) (hQkFinRefIdeal := hQkFinRefIdeal)
    ∧ preserves_MlaFwd_MlaFwdIdeal
    ∧ algebraic_MlaFwdIdeal_MlaFwdRefIdeal_pre_mla_fwd_finite (hMlaFwdIdeal := hMlaFwdIdeal) (hMlaFwdRefIdeal := hMlaFwdRefIdeal) (hPre_mla_fwd_finite := hPre_mla_fwd_finite)
    ∧ preserves_Dil1Fwd_Dil1FwdIdeal
    ∧ algebraic_Dil1FwdIdeal_Dil1FwdRefIdeal_pre_dil1_fwd_finite (hDil1FwdIdeal := hDil1FwdIdeal) (hDil1FwdRefIdeal := hDil1FwdRefIdeal) (hPre_dil1_fwd_finite := hPre_dil1_fwd_finite)
    ∧ preserves_Norm_NormIdeal
    ∧ algebraic_NormIdeal_NormRefIdeal (hNormIdeal := hNormIdeal) (hNormRefIdeal := hNormRefIdeal)
    ∧ preserves_MergeFwd_MergeFwdIdeal
    ∧ algebraic_MergeFwdIdeal_MergeFwdRefIdeal_pre_merge_fwd_finite (hMergeFwdIdeal := hMergeFwdIdeal) (hMergeFwdRefIdeal := hMergeFwdRefIdeal) (hPre_merge_fwd_finite := hPre_merge_fwd_finite)
    ∧ preserves_FfnUp_FfnUpIdeal
    ∧ algebraic_FfnUpIdeal_FfnUpRefIdeal (hFfnUpIdeal := hFfnUpIdeal) (hFfnUpRefIdeal := hFfnUpRefIdeal)
    ∧ preserves_Down_DownIdeal
    ∧ algebraic_DownIdeal_DownRefIdeal (hDownIdeal := hDownIdeal) (hDownRefIdeal := hDownRefIdeal)
    ∧ preserves_QkFwd_QkFwdIdeal
    ∧ algebraic_QkFwdIdeal_QkFwdRefIdeal (hQkFwdIdeal := hQkFwdIdeal) (hQkFwdRefIdeal := hQkFwdRefIdeal)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_MmTnA_MmTnAIdeal
    ∧ algebraic_MmTnAIdeal_MmTnARefIdeal (hMmTnAIdeal := hMmTnAIdeal) (hMmTnARefIdeal := hMmTnARefIdeal)
    ∧ preserves_MmTnB_MmTnBIdeal
    ∧ algebraic_MmTnBIdeal_MmTnBRefIdeal (hMmTnBIdeal := hMmTnBIdeal) (hMmTnBRefIdeal := hMmTnBRefIdeal)
    ∧ preserves_Adam_AdamIdeal
    ∧ algebraic_AdamIdeal_AdamRefIdeal (hAdamIdeal := hAdamIdeal) (hAdamRefIdeal := hAdamRefIdeal)
-- ==== Pre_dil1_finite.lean ====
abbrev S1x8192x8x128 : Shape := ⟨4, ![1, 8192, 8, 128]⟩
abbrev S1x8192x8 : Shape := ⟨3, ![1, 8192, 8]⟩
abbrev S_ : Shape := ⟨0, ![]⟩

class Facts : Prop where
  bcast_S_S1x8192x8x128 : S_.BroadcastsInDim S1x8192x8x128 (![] : Fin 0 → Fin S1x8192x8x128.rank)
  bcast_S_S1x8192x8 : S_.BroadcastsInDim S1x8192x8 (![] : Fin 0 → Fin S1x8192x8.rank)

variable [Facts]

def fn {F : FTy → Type} [FloatOps F] (main_arg0 : FVec F S1x8192x8x128 .f32) (main_arg1 : FVec F S1x8192x8x128 .f32) (main_arg2 : FVec F S1x8192x8x128 .f32) (main_arg3 : FVec F S1x8192x8x128 .f32) (main_arg4 : FVec F S1x8192x8 .f32) : IVec S1x8192x8x128 1 × IVec S1x8192x8x128 1 × IVec S1x8192x8x128 1 × IVec S1x8192x8x128 1 × IVec S1x8192x8 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8192x8x128 .f32 := Host.absf main_arg1
  let main_cst_0 : FVec F S_ .f32 := constant S_ .f32 0x7F800000#32
  let main_v4 : FVec F S1x8192x8x128 .f32 := broadcastInDim S1x8192x8x128 ![] bcast_S_S1x8192x8x128 main_cst_0
  let main_v5 : IVec S1x8192x8x128 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  let main_v9 : FVec F S1x8192x8x128 .f32 := Host.absf main_arg3
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_v12 : FVec F S1x8192x8 .f32 := Host.absf main_arg4
  let main_cst_3 : FVec F S_ .f32 := constant S_ .f32 0x7F800000#32
  let main_v13 : FVec F S1x8192x8 .f32 := broadcastInDim S1x8192x8 ![] bcast_S_S1x8192x8 main_cst_3
  let main_v14 : IVec S1x8192x8 1 := cmpf .olt main_v12 main_v13
  (main_v2, main_v5, main_v8, main_v11, main_v14)
-- ==== Pre_dil1_fwd_finite.lean ====
abbrev S1x8192x8x128 : Shape := ⟨4, ![1, 8192, 8, 128]⟩
abbrev S_ : Shape := ⟨0, ![]⟩

class Facts : Prop where
  bcast_S_S1x8192x8x128 : S_.BroadcastsInDim S1x8192x8x128 (![] : Fin 0 → Fin S1x8192x8x128.rank)

variable [Facts]

def fn {F : FTy → Type} [FloatOps F] (main_arg0 : FVec F S1x8192x8x128 .f32) (main_arg1 : FVec F S1x8192x8x128 .f32) (main_arg2 : FVec F S1x8192x8x128 .f32) : IVec S1x8192x8x128 1 × IVec S1x8192x8x128 1 × IVec S1x8192x8x128 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8192x8x128 .f32 := Host.absf main_arg1
  let main_cst_0 : FVec F S_ .f32 := constant S_ .f32 0x7F800000#32
  let main_v4 : FVec F S1x8192x8x128 .f32 := broadcastInDim S1x8192x8x128 ![] bcast_S_S1x8192x8x128 main_cst_0
  let main_v5 : IVec S1x8192x8x128 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  (main_v2, main_v5, main_v8)
-- ==== Pre_ffn_da_finite.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .bf16) (main_arg1 : FVec F S8192x5632 .bf16) (main_arg2 : FVec F S5632x2048 .bf16) (main_arg3 : FVec F S8192x2048 .bf16) : IVec S8192x5632 1 × IVec S8192x5632 1 × IVec S5632x2048 1 × IVec S8192x2048 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_v3 : FVec F S8192x5632 .bf16 := Host.absf main_arg1
  let main_cst_0 : FVec F S_ .bf16 := constant S_ .bf16 0x7F80#16
  let main_v4 : FVec F S8192x5632 .bf16 := broadcastInDim S8192x5632 ![] bcast_S_S8192x5632 main_cst_0
  let main_v5 : IVec S8192x5632 1 := cmpf .olt main_v3 main_v4
  let main_v6 : FVec F S5632x2048 .bf16 := Host.absf main_arg2
  let main_cst_1 : FVec F S_ .bf16 := constant S_ .bf16 0x7F80#16
  let main_v7 : FVec F S5632x2048 .bf16 := broadcastInDim S5632x2048 ![] bcast_S_S5632x2048 main_cst_1
  let main_v8 : IVec S5632x2048 1 := cmpf .olt main_v6 main_v7
  let main_v9 : FVec F S8192x2048 .bf16 := Host.absf main_arg3
  let main_cst_2 : FVec F S_ .bf16 := constant S_ .bf16 0x7F80#16
  let main_v10 : FVec F S8192x2048 .bf16 := broadcastInDim S8192x2048 ![] bcast_S_S8192x2048 main_cst_2
  let main_v11 : IVec S8192x2048 1 := cmpf .olt main_v9 main_v10
  (main_v2, main_v5, main_v8, main_v11)
-- ==== Pre_ffn_dh_finite.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S_S2048x5632 : S_.BroadcastsInDim S2048x5632 (![] : Fin 0 → Fin S2048x5632.rank)
  bcast_S_S8192x5632 : S_.BroadcastsInDim S8192x5632 (![] : Fin 0 → Fin S8192x5632.rank)

variable [Facts]

def fn {F : FTy → Type} [FloatOps F] (main_arg0 : FVec F S8192x2048 .f32) (main_arg1 : FVec F S2048 .f32) (main_arg2 : FVec F S2048x5632 .bf16) (main_arg3 : FVec F S2048x5632 .bf16) (main_arg4 : FVec F S8192x2048 .f32) (main_arg5 : FVec F S8192x5632 .bf16) (main_arg6 : FVec F S8192x5632 .bf16) : IVec S8192x2048 1 × IVec S2048 1 × IVec S2048x5632 1 × IVec S2048x5632 1 × IVec S8192x5632 1 × IVec S8192x5632 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x5632 .bf16 := Host.absf main_arg2
  let main_cst_1 : FVec F S_ .bf16 := constant S_ .bf16 0x7F80#16
  let main_v7 : FVec F S2048x5632 .bf16 := broadcastInDim S2048x5632 ![] bcast_S_S2048x5632 main_cst_1
  let main_v8 : IVec S2048x5632 1 := cmpf .olt main_v6 main_v7
  let main_v9 : FVec F S2048x5632 .bf16 := Host.absf main_arg3
  let main_cst_2 : FVec F S_ .bf16 := constant S_ .bf16 0x7F80#16
  let main_v10 : FVec F S2048x5632 .bf16 := broadcastInDim S2048x5632 ![] bcast_S_S2048x5632 main_cst_2
  let main_v11 : IVec S2048x5632 1 := cmpf .olt main_v9 main_v10
  let main_v12 : FVec F S8192x5632 .bf16 := Host.absf main_arg5
  let main_cst_3 : FVec F S_ .bf16 := constant S_ .bf16 0x7F80#16
  let main_v13 : FVec F S8192x5632 .bf16 := broadcastInDim S8192x5632 ![] bcast_S_S8192x5632 main_cst_3
  let main_v14 : IVec S8192x5632 1 := cmpf .olt main_v12 main_v13
  let main_v15 : FVec F S8192x5632 .bf16 := Host.absf main_arg6
  let main_cst_4 : FVec F S_ .bf16 := constant S_ .bf16 0x7F80#16
  let main_v16 : FVec F S8192x5632 .bf16 := broadcastInDim S8192x5632 ![] bcast_S_S8192x5632 main_cst_4
  let main_v17 : IVec S8192x5632 1 := cmpf .olt main_v15 main_v16
  (main_v2, main_v5, main_v8, main_v11, main_v14, main_v17)
-- ==== Pre_merge_finite.lean ====
abbrev S1x8192x8x128 : Shape := ⟨4, ![1, 8192, 8, 128]⟩
abbrev S1x8192x8 : Shape := ⟨3, ![1, 8192, 8]⟩
abbrev S_ : Shape := ⟨0, ![]⟩

class Facts : Prop where
  bcast_S_S1x8192x8x128 : S_.BroadcastsInDim S1x8192x8x128 (![] : Fin 0 → Fin S1x8192x8x128.rank)
  bcast_S_S1x8192x8 : S_.BroadcastsInDim S1x8192x8 (![] : Fin 0 → Fin S1x8192x8.rank)

variable [Facts]

def fn_part1 {F : FTy → Type} [FloatOps F] (main_arg6 : FVec F S1x8192x8x128 .f32) (main_v2 : IVec S1x8192x8x128 1) (main_v5 : IVec S1x8192x8x128 1) (main_v8 : IVec S1x8192x8x128 1) (main_v11 : IVec S1x8192x8 1) (main_v14 : IVec S1x8192x8 1) (main_v17 : IVec S1x8192x8 1) : IVec S1x8192x8x128 1 × IVec S1x8192x8x128 1 × IVec S1x8192x8x128 1 × IVec S1x8192x8 1 × IVec S1x8192x8 1 × IVec S1x8192x8 1 × IVec S1x8192x8x128 1 :=
  let main_v18 : FVec F S1x8192x8x128 .f32 := Host.absf main_arg6
  let main_cst_5 : FVec F S_ .f32 := constant S_ .f32 0x7F800000#32
  let main_v19 : FVec F S1x8192x8x128 .f32 := broadcastInDim S1x8192x8x128 ![] bcast_S_S1x8192x8x128 main_cst_5
  let main_v20 : IVec S1x8192x8x128 1 := cmpf .olt main_v18 main_v19
  (main_v2, main_v5, main_v8, main_v11, main_v14, main_v17, main_v20)

def fn {F : FTy → Type} [FloatOps F] (main_arg0 : FVec F S1x8192x8x128 .f32) (main_arg1 : FVec F S1x8192x8x128 .f32) (main_arg2 : FVec F S1x8192x8x128 .f32) (main_arg3 : FVec F S1x8192x8 .f32) (main_arg4 : FVec F S1x8192x8 .f32) (main_arg5 : FVec F S1x8192x8 .f32) (main_arg6 : FVec F S1x8192x8x128 .f32) : IVec S1x8192x8x128 1 × IVec S1x8192x8x128 1 × IVec S1x8192x8x128 1 × IVec S1x8192x8 1 × IVec S1x8192x8 1 × IVec S1x8192x8 1 × IVec S1x8192x8x128 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8192x8x128 .f32 := Host.absf main_arg1
  let main_cst_0 : FVec F S_ .f32 := constant S_ .f32 0x7F800000#32
  let main_v4 : FVec F S1x8192x8x128 .f32 := broadcastInDim S1x8192x8x128 ![] bcast_S_S1x8192x8x128 main_cst_0
  let main_v5 : IVec S1x8192x8x128 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  let main_v9 : FVec F S1x8192x8 .f32 := Host.absf main_arg3
  let main_cst_2 : FVec F S_ .f32 := constant S_ .f32 0x7F800000#32
  let main_v10 : FVec F S1x8192x8 .f32 := broadcastInDim S1x8192x8 ![] bcast_S_S1x8192x8 main_cst_2
  let main_v11 : IVec S1x8192x8 1 := cmpf .olt main_v9 main_v10
  let main_v12 : FVec F S1x8192x8 .f32 := Host.absf main_arg4
  let main_cst_3 : FVec F S_ .f32 := constant S_ .f32 0x7F800000#32
  let main_v13 : FVec F S1x8192x8 .f32 := broadcastInDim S1x8192x8 ![] bcast_S_S1x8192x8 main_cst_3
  let main_v14 : IVec S1x8192x8 1 := cmpf .olt main_v12 main_v13
  let main_v15 : FVec F S1x8192x8 .f32 := Host.absf main_arg5
  let main_cst_4 : FVec F S_ .f32 := constant S_ .f32 0x7F800000#32
  let main_v16 : FVec F S1x8192x8 .f32 := broadcastInDim S1x8192x8 ![] bcast_S_S1x8192x8 main_cst_4
  let main_v17 : IVec S1x8192x8 1 := cmpf .olt main_v15 main_v16
  fn_part1 (F := F) main_arg6 main_v2 main_v5 main_v8 main_v11 main_v14 main_v17
-- ==== Pre_merge_fwd_finite.lean ====
abbrev S1x8192x8x128 : Shape := ⟨4, ![1, 8192, 8, 128]⟩
abbrev S1x8192x8 : Shape := ⟨3, ![1, 8192, 8]⟩
abbrev S_ : Shape := ⟨0, ![]⟩

class Facts : Prop where
  bcast_S_S1x8192x8 : S_.BroadcastsInDim S1x8192x8 (![] : Fin 0 → Fin S1x8192x8.rank)

variable [Facts]

def fn {F : FTy → Type} [FloatOps F] (main_arg0 : FVec F S1x8192x8x128 .f32) (main_arg1 : FVec F S1x8192x8x128 .f32) (main_arg2 : FVec F S1x8192x8x128 .f32) (main_arg3 : FVec F S1x8192x8 .f32) (main_arg4 : FVec F S1x8192x8 .f32) (main_arg5 : FVec F S1x8192x8 .f32) : IVec S1x8192x8 1 × IVec S1x8192x8 1 × IVec S1x8192x8 1 :=
  let main_v0 : FVec F S1x8192x8 .f32 := Host.absf main_arg3
  let main_cst : FVec F S_ .f32 := constant S_ .f32 0x7F800000#32
  let main_v1 : FVec F S1x8192x8 .f32 := broadcastInDim S1x8192x8 ![] bcast_S_S1x8192x8 main_cst
  let main_v2 : IVec S1x8192x8 1 := cmpf .olt main_v0 main_v1
  let main_v3 : FVec F S1x8192x8 .f32 := Host.absf main_arg4
  let main_cst_0 : FVec F S_ .f32 := constant S_ .f32 0x7F800000#32
  let main_v4 : FVec F S1x8192x8 .f32 := broadcastInDim S1x8192x8 ![] bcast_S_S1x8192x8 main_cst_0
  let main_v5 : IVec S1x8192x8 1 := cmpf .olt main_v3 main_v4
  let main_v6 : FVec F S1x8192x8 .f32 := Host.absf main_arg5
  let main_cst_1 : FVec F S_ .f32 := constant S_ .f32 0x7F800000#32
  let main_v7 : FVec F S1x8192x8 .f32 := broadcastInDim S1x8192x8 ![] bcast_S_S1x8192x8 main_cst_1
  let main_v8 : IVec S1x8192x8 1 := cmpf .olt main_v6 main_v7
  (main_v2, main_v5, main_v8)
-- ==== Pre_mla_fwd_finite.lean ====
abbrev S1x8192x8x128 : Shape := ⟨4, ![1, 8192, 8, 128]⟩
abbrev S1x8192x8x64 : Shape := ⟨4, ![1, 8192, 8, 64]⟩
abbrev S1x8192x64 : Shape := ⟨3, ![1, 8192, 64]⟩
abbrev S_ : Shape := ⟨0, ![]⟩

class Facts : Prop where
  bcast_S_S1x8192x8x128 : S_.BroadcastsInDim S1x8192x8x128 (![] : Fin 0 → Fin S1x8192x8x128.rank)
  bcast_S_S1x8192x8x64 : S_.BroadcastsInDim S1x8192x8x64 (![] : Fin 0 → Fin S1x8192x8x64.rank)
  bcast_S_S1x8192x64 : S_.BroadcastsInDim S1x8192x64 (![] : Fin 0 → Fin S1x8192x64.rank)

variable [Facts]

def fn {F : FTy → Type} [FloatOps F] (main_arg0 : FVec F S1x8192x8x128 .f32) (main_arg1 : FVec F S1x8192x8x64 .f32) (main_arg2 : FVec F S1x8192x8x128 .f32) (main_arg3 : FVec F S1x8192x64 .f32) (main_arg4 : FVec F S1x8192x8x128 .f32) : IVec S1x8192x8x128 1 × IVec S1x8192x8x64 1 × IVec S1x8192x8x128 1 × IVec S1x8192x64 1 × IVec S1x8192x8x128 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8192x8x64 .f32 := Host.absf main_arg1
  let main_cst_0 : FVec F S_ .f32 := constant S_ .f32 0x7F800000#32
  let main_v4 : FVec F S1x8192x8x64 .f32 := broadcastInDim S1x8192x8x64 ![] bcast_S_S1x8192x8x64 main_cst_0
  let main_v5 : IVec S1x8192x8x64 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  let main_v9 : FVec F S1x8192x64 .f32 := Host.absf main_arg3
  let main_cst_2 : FVec F S_ .f32 := constant S_ .f32 0x7F800000#32
  let main_v10 : FVec F S1x8192x64 .f32 := broadcastInDim S1x8192x64 ![] bcast_S_S1x8192x64 main_cst_2
  let main_v11 : IVec S1x8192x64 1 := cmpf .olt main_v9 main_v10
  let main_v12 : FVec F S1x8192x8x128 .f32 := Host.absf main_arg4
  let main_cst_3 : FVec F S_ .f32 := constant S_ .f32 0x7F800000#32
  let main_v13 : FVec F S1x8192x8x128 .f32 := broadcastInDim S1x8192x8x128 ![] bcast_S_S1x8192x8x128 main_cst_3
  let main_v14 : IVec S1x8192x8x128 1 := cmpf .olt main_v12 main_v13
  (main_v2, main_v5, main_v8, main_v11, main_v14)
-- ==== Pre_post_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S8192x2048 .f32) : IVec S8192x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_pre_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S8192x2048 .f32) (main_arg3 : FVec F S8192x2048 .f32) : IVec S8192x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x2048 .f32 := Host.absf main_arg3
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Post.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_13 : BitVec 32 := 0#32
  let v39 : BitVec 1 := Scalar.cmpi .ne v38 c0_i32_13
  v39

def k0_cond2 (i : grid0.Coords) : BitVec 1 :=
  let arg0 : BitVec 32 := BitVec.ofNat 32 (i 0).val
  let c0_i32_14 : BitVec 32 := 0#32
  let v40 : BitVec 1 := Scalar.cmpi .sgt arg0 c0_i32_14
  let v41 : BitVec 32 := Scalar.extui v40
  let c0_i32_15 : BitVec 32 := 0#32
  let v42 : BitVec 1 := Scalar.cmpi .ne v41 c0_i32_15
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Merge.lean ====
abbrev S1x8192x8x128 : Shape := ⟨4, ![1, 8192, 8, 128]⟩
abbrev S1x8192x8 : Shape := ⟨3, ![1, 8192, 8]⟩
abbrev S8192x1024 : Shape := ⟨2, ![8192, 1024]⟩
abbrev S8192x8 : Shape := ⟨2, ![8192, 8]⟩
abbrev S8192x8x1 : Shape := ⟨3, ![8192, 8, 1]⟩
abbrev S8192x8x128 : Shape := ⟨3, ![8192, 8, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 29
  | .vmem => 26
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S1x8192x8, .f32⟩
  | .hbm, ⟨4, _⟩ => ⟨S1x8192x8, .f32⟩
  | .hbm, ⟨5, _⟩ => ⟨S1x8192x8, .f32⟩
  | .hbm, ⟨6, _⟩ => ⟨S1x8192x8x128, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x8, .f32⟩
  | .hbm, ⟨12, _⟩ => ⟨S8192x8x1, .f32⟩
  | .hbm, ⟨13, _⟩ => ⟨S8192x8x128, .f32⟩
  | .hbm, ⟨14, _⟩ => ⟨S8192x1024, .f32⟩
  | .hbm, ⟨15, _⟩ => ⟨S8192x8, .f32⟩
  | .hbm, ⟨16, _⟩ => ⟨S8192x8x1, .f32⟩
  | .hbm, ⟨17, _⟩ => ⟨S8192x8x128, .f32⟩
  | .hbm, ⟨18, _⟩ => ⟨S8192x1024, .f32⟩
  | .hbm, ⟨19, _⟩ => ⟨S8192x8, .f32⟩
  | .hbm, ⟨20, _⟩ => ⟨S8192x8x1, .f32⟩
  | .hbm, ⟨21, _⟩ => ⟨S8192x8x128, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S1x8192x8x128 : Shape := ⟨4, ![1, 8192, 8, 128]⟩
abbrev S1x8192x8 : Shape := ⟨3, ![1, 8192, 8]⟩
abbrev S1x1x8192x8 : Shape := ⟨4, ![1, 1, 8192, 8]⟩
abbrev S3x1x8192x8 : Shape := ⟨4, ![3, 1, 8192, 8]⟩
abbrev S_ : Shape := ⟨0, ![]⟩
abbrev S3x1x8192x8x1 : Shape := ⟨5, ![3, 1, 8192, 8, 1]⟩
abbrev S1x1x8192x8x128 : Shape := ⟨5, ![1, 1, 8192, 8, 128]⟩
abbrev S3x1x8192x8x128 : Shape := ⟨5, ![3, 1, 8192, 8, 128]⟩
abbrev S3x8192x8 : Shape := ⟨3, ![3, 8192, 8]⟩
abbrev S8192x8 : Shape := ⟨2, ![8192, 8]⟩
abbrev S8192x1024 : Shape := ⟨2, ![8192, 1024]⟩
abbrev S8192x8x1 : Shape := ⟨3, ![8192, 8, 1]⟩
abbrev S8192x8x128 : Shape := ⟨3, ![8192, 8, 128]⟩

abbrev nBuf : Space → Nat
  | .hbm => 122
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S1x8192x8, .f32⟩
  | .hbm, ⟨4, _⟩ => ⟨S1x8192x8, .f32⟩
  | .hbm, ⟨5, _⟩ => ⟨S1x8192x8, .f32⟩
  | .hbm, ⟨6, _⟩ => ⟨S1x8192x8x128, .f32⟩
  | .hbm, ⟨7, _⟩ => ⟨S1x1x8192x8, .f32⟩
  | .hbm, ⟨8, _⟩ => ⟨S1x1x8192x8, .f32⟩
  | .hbm, ⟨9, _⟩ => ⟨S1x1x8192x8, .f32⟩
  | .hbm, ⟨10, _⟩ => ⟨S3x1x8192x8, .f32⟩
  | .hbm, ⟨11, _⟩ => ⟨S_, .f32⟩
  | .hbm, ⟨12, _⟩ => ⟨S1x8192x8, .f32⟩
  | .hbm, ⟨13, _⟩ => ⟨S1x1x8192x8, .f32⟩
  | .hbm, ⟨14, _⟩ => ⟨S3x1x8192x8, .f32⟩
  | .hbm, ⟨15, _⟩ => ⟨S3x1x8192x8, .i1⟩
  | .hbm, ⟨16, _⟩ => ⟨S3x1x8192x8, .f32⟩
  | .hbm, ⟨17, _⟩ => ⟨S_, .f32⟩
  | .hbm, ⟨18, _⟩ => ⟨S1x8192x8, .f32⟩
  | .hbm, ⟨19, _⟩ => ⟨S_, .f32⟩
  | .hbm, ⟨20, _⟩ => ⟨S1x8192x8, .f32⟩
  | .hbm, ⟨21, _⟩ => ⟨S1x8192x8, .f32⟩
  | .hbm, ⟨22, _⟩ => ⟨S_, .f32⟩
  | .hbm, ⟨23, _⟩ => ⟨S1x8192x8, .f32⟩
  | .hbm, ⟨24, _⟩ => ⟨S1x8192x8, .i1⟩
  | .hbm, ⟨25, _⟩ => ⟨S_, .f32⟩
  | .hbm, ⟨26, _⟩ => ⟨S1x8192x8, .f32⟩
  | .hbm, ⟨27, _⟩ => ⟨S1x8192x8, .i1⟩
  | .hbm, ⟨28, _⟩ => ⟨S_, .f32⟩
  | .hbm, ⟨29, _⟩ => ⟨S1x8192x8, .f32⟩
  | .hbm, ⟨30, _⟩ => ⟨S_, .f32⟩
  | .hbm, ⟨31, _⟩ => ⟨S1x8192x8, .f32⟩
  | .hbm, ⟨32, _⟩ => ⟨S_, .f32⟩
  | .hbm, ⟨33, _⟩ => ⟨S1x8192x8, .f32⟩
  | .hbm, ⟨34, _⟩ => ⟨S1x8192x8, .f32⟩
  | .hbm, ⟨35, _⟩ => ⟨S1x8192x8, .f32⟩
  | .hbm, ⟨36, _⟩ => ⟨S1x1x8192x8, .f32⟩
  | .hbm, ⟨37, _⟩ => ⟨S3x1x8192x8, .f32⟩
  | .hbm, ⟨38, _⟩ => ⟨S3x1x8192x8, .f32⟩
  | .hbm, ⟨39, _⟩ => ⟨S3x1x8192x8, .f32⟩
  | .hbm, ⟨40, _⟩ => ⟨S_, .f32⟩
  | .hbm, ⟨41, _⟩ => ⟨S1x8192x8, .f32⟩
  | .hbm, ⟨42, _⟩ => ⟨S1x1x8192x8, .f32⟩
  | .hbm, ⟨43, _⟩ => ⟨S3x1x8192x8, .f32⟩
  | .hbm, ⟨44, _⟩ => ⟨S3x1x8192x8, .f32⟩
  | .hbm, ⟨45, _⟩ => ⟨S1x1x8192x8, .f32⟩
  | .hbm, ⟨46, _⟩ => ⟨S_, .f32⟩
  | .hbm, ⟨47, _⟩ => ⟨S1x1x8192x8, .f32⟩
  | .hbm, ⟨48, _⟩ => ⟨S1x1x8192x8, .f32⟩
  | .hbm, ⟨49, _⟩ => ⟨S3x1x8192x8x1, .f32⟩
  | .hbm, ⟨50, _⟩ => ⟨S1x1x8192x8x128, .f32⟩
  | .hbm, ⟨51, _⟩ => ⟨S1x1x8192x8x128, .f32⟩
  | .hbm, ⟨52, _⟩ => ⟨S1x1x8192x8x128, .f32⟩
  | .hbm, ⟨53, _⟩ => ⟨S3x1x8192x8x128, .f32⟩
  | .hbm, ⟨54, _⟩ => ⟨S3x1x8192x8x128, .f32⟩
  | .hbm, ⟨55, _⟩ => ⟨S3x1x8192x8x128, .f32⟩
  | .hbm, ⟨56, _⟩ => ⟨S_, .f32⟩
  | .hbm, ⟨57, _⟩ => ⟨S1x8192x8x128, .f32⟩
  | .hbm, ⟨58, _⟩ => ⟨S3x1x8192x8x128, .f32⟩
  | .hbm, ⟨59, _⟩ => ⟨S3x1x8192x8x128, .f32⟩
  | .hbm, ⟨60, _⟩ => ⟨S3x1x8192x8x128, .f32⟩
  | .hbm, ⟨61, _⟩ => ⟨S3x1x8192x8x128, .f32⟩
  | .hbm, ⟨62, _⟩ => ⟨S_, .f32⟩
  | .hbm, ⟨63, _⟩ => ⟨S3x1x8192x8, .f32⟩
  | .hbm, ⟨64, _⟩ => ⟨S3x1x8192x8x1, .f32⟩
  | .hbm, ⟨65, _⟩ => ⟨S1x1x8192x8x128, .f32⟩
  | .hbm, ⟨66, _⟩ => ⟨S1x8192x8x128, .f32⟩
  | .hbm, ⟨67, _⟩ => ⟨S1x1x8192x8x128, .f32⟩
  | .hbm, ⟨68, _⟩ => ⟨S1x8192x8x128, .f32⟩
  | .hbm, ⟨69, _⟩ => ⟨S1x1x8192x8x128, .f32⟩
  | .hbm, ⟨70, _⟩ => ⟨S1x8192x8x128, .f32⟩
  | .hbm, ⟨71, _⟩ => ⟨S_, .f32⟩
  | .hbm, ⟨72, _⟩ => ⟨S3x8192x8, .f32⟩
  | .hbm, ⟨73, _⟩ => ⟨S3x1x8192x8, .f32⟩
  | .hbm, ⟨74, _⟩ => ⟨S3x1x8192x8, .f32⟩
  | .hbm, ⟨75, _⟩ => ⟨S3x1x8192x8, .f32⟩
  | .hbm, ⟨76, _⟩ => ⟨S3x1x8192x8, .f32⟩
  | .hbm, ⟨77, _⟩ => ⟨S_, .f32⟩
  | .hbm, ⟨78, _⟩ => ⟨S1x8192x8, .f32⟩
  | .hbm, ⟨79, _⟩ => ⟨S1x1x8192x8, .f32⟩
  | .hbm, ⟨80, _⟩ => ⟨S1x1x8192x8, .f32⟩
  | .hbm, ⟨81, _⟩ => ⟨S3x1x8192x8, .f32⟩
  | .hbm, ⟨82, _⟩ => ⟨S3x1x8192x8, .f32⟩
  | .hbm, ⟨83, _⟩ => ⟨S_, .f32⟩
  | .hbm, ⟨84, _⟩ => ⟨S8192x8, .f32⟩
  | .hbm, ⟨85, _⟩ => ⟨S1x8192x8, .f32⟩
  | .hbm, ⟨86, _⟩ => ⟨S3x1x8192x8, .f32⟩
  | .hbm, ⟨87, _⟩ => ⟨S3x1x8192x8, .f32⟩
  | .hbm, ⟨88, _⟩ => ⟨S3x1x8192x8, .f32⟩
  | .hbm, ⟨89, _⟩ => ⟨S1x1x8192x8, .f32⟩
  | .hbm, ⟨90, _⟩ => ⟨S1x8192x8, .f32⟩
  | .hbm, ⟨91, _⟩ => ⟨S1x1x8192x8, .f32⟩
  | .hbm, ⟨92, _⟩ => ⟨S1x8192x8, .f32⟩
  | .hbm, ⟨93, _⟩ => ⟨S1x1x8192x8, .f32⟩
  | .hbm, ⟨94, _⟩ => ⟨S1x8192x8, .f32⟩
  | .hbm, ⟨95, _⟩ => ⟨S1x8192x8x128, .f32⟩
  | .hbm, ⟨96, _⟩ => ⟨S_, .f32⟩
  | .hbm, ⟨97, _⟩ => ⟨S1x8192x8, .f32⟩
  | .hbm, ⟨98, _⟩ => ⟨S1x8192x8, .f32⟩
  | .hbm, ⟨99, _⟩ => ⟨S1x8192x8x128, .f32⟩
  | .hbm, ⟨100, _⟩ => ⟨S_, .f32⟩
  | .hbm, ⟨101, _⟩ => ⟨S1x8192x8, .f32⟩
  | .hbm, ⟨102, _⟩ => ⟨S1x8192x8, .f32⟩
  | .hbm, ⟨103, _⟩ => ⟨S1x8192x8x128, .f32⟩
  | .hbm, ⟨104, _⟩ => ⟨S_, .f32⟩
  | .hbm, ⟨105, _⟩ => ⟨S1x8192x8, .f32⟩
  | .hbm, ⟨106, _⟩ => ⟨S1x8192x8, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x8, .f32⟩
  | .hbm, ⟨111, _⟩ => ⟨S8192x8x1, .f32⟩
  | .hbm, ⟨112, _⟩ => ⟨S8192x8x128, .f32⟩
  | .hbm, ⟨113, _⟩ => ⟨S8192x1024, .f32⟩
  | .hbm, ⟨114, _⟩ => ⟨S8192x8, .f32⟩
  | .hbm, ⟨115, _⟩ => ⟨S8192x8x1, .f32⟩
  | .hbm, ⟨116, _⟩ => ⟨S8192x8x128, .f32⟩
  | .hbm, ⟨117, _⟩ => ⟨S8192x1024, .f32⟩
  | .hbm, ⟨118, _⟩ => ⟨S8192x8, .f32⟩
  | .hbm, ⟨119, _⟩ => ⟨S8192x8x1, .f32⟩
  | .hbm, ⟨120, _⟩ => ⟨S8192x8x128, .f32⟩
  | .hbm, ⟨121, _⟩ => ⟨S8192x1024, .f32⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Dil1.lean ====
abbrev S1x8192x8x128 : Shape := ⟨4, ![1, 8192, 8, 128]⟩
abbrev S1x8192x8 : Shape := ⟨3, ![1, 8192, 8]⟩
abbrev S8192x1024 : Shape := ⟨2, ![8192, 1024]⟩
abbrev S2048x128 : Shape := ⟨2, ![2048, 128]⟩
abbrev S128x128 : Shape := ⟨2, ![128, 128]⟩
abbrev S16x128x128 : Shape := ⟨3, ![16, 128, 128]⟩
abbrev S1x128x128 : Shape := ⟨3, ![1, 128, 128]⟩
abbrev S15x128x128 : Shape := ⟨3, ![15, 128, 128]⟩
abbrev S16x128 : Shape := ⟨2, ![16, 128]⟩
abbrev S16x128x1 : Shape := ⟨3, ![16, 128, 1]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 23
  | .vmem => 44
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S1x8192x8x128, .f32⟩
  | .hbm, ⟨4, _⟩ => ⟨S1x8192x8, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x8x128, .f32⟩
  | .hbm, ⟨13, _⟩ => ⟨S_, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8x1, .f32⟩
  | .hbm, ⟨18, _⟩ => ⟨S8192x8x128, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg1.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg1.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg1.toNat]

def cc1_transform_11 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg1.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S2048x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S2048x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S2048x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== Dil1Ideal.lean ====
variable {F : FTy → Type} [FloatOps F] [Named F]
def κ : String → Option EReal := fun
  | "mask" => some ⊥
  | "s" => some (((Real.sqrt 128)⁻¹ : ℝ) : EReal)
  | _ => none
-- ==== Dil1RefIdeal.lean ====
abbrev S1x8192x8x128 : Shape := ⟨4, ![1, 8192, 8, 128]⟩
abbrev S1x8192x8 : Shape := ⟨3, ![1, 8192, 8]⟩
abbrev S8192x8x128 : Shape := ⟨3, ![8192, 8, 128]⟩
abbrev S8192x8 : Shape := ⟨2, ![8192, 8]⟩
abbrev S_ : Shape := ⟨0, ![]⟩
abbrev S8192x1x8x128 : Shape := ⟨4, ![8192, 1, 8, 128]⟩
abbrev S1x64x128x8x128 : Shape := ⟨5, ![1, 64, 128, 8, 128]⟩
abbrev S1x1x128x8x128 : Shape := ⟨5, ![1, 1, 128, 8, 128]⟩
abbrev S1x63x128x8x128 : Shape := ⟨5, ![1, 63, 128, 8, 128]⟩
abbrev S1x64x256x8x128 : Shape := ⟨5, ![1, 64, 256, 8, 128]⟩
abbrev S1x64x8x128x256 : Shape := ⟨5, ![1, 64, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x128x256 : Shape := ⟨5, ![1, 64, 1, 128, 256]⟩
abbrev S1x64x8x128 : Shape := ⟨4, ![1, 64, 8, 128]⟩
abbrev S1x64x8x128x1 : Shape := ⟨5, ![1, 64, 8, 128, 1]⟩
abbrev S1x64x8x128x128 : Shape := ⟨5, ![1, 64, 8, 128, 128]⟩
abbrev S1x64x128x8 : Shape := ⟨4, ![1, 64, 128, 8]⟩
abbrev S8192x1x8 : Shape := ⟨3, ![8192, 1, 8]⟩
abbrev S64x8x128 : Shape := ⟨3, ![64, 8, 128]⟩
abbrev S1x64x8x256x128 : Shape := ⟨5, ![1, 64, 8, 256, 128]⟩
abbrev S8192x1024 : Shape := ⟨2, ![8192, 1024]⟩

abbrev nBuf : Space → Nat
  | .hbm => 171
  | .vmem => 0
  | .smem => 0
  | _ => 0

abbrev hbmTy0_0 (i : Nat) : BufTy := match i % 128 with
  | 0 => ⟨S1x8192x8x128, .f32⟩
  | 1 => ⟨S1x8192x8x128, .f32⟩
  | 2 => ⟨S1x8192x8x128, .f32⟩
  | 3 => ⟨S1x8192x8x128, .f32⟩
  | 4 => ⟨S1x8192x8, .f32⟩
  | 5 => ⟨S8192x8x128, .f32⟩
  | 6 => ⟨S8192x8x128, .f32⟩
  | 7 => ⟨S8192x8x128, .f32⟩
  | 8 => ⟨S8192x8x128, .f32⟩
  | 9 => ⟨S8192x8, .f32⟩
  | 10 => ⟨S_, .f32⟩
  | 11 => ⟨S_, .f32⟩
  | 12 => ⟨S_, .f32⟩
  | 13 => ⟨S_, .f32⟩
  | 14 => ⟨S8192x1x8x128, .f32⟩
  | 15 => ⟨S1x8192x8x128, .f32⟩
  | 16 => ⟨S1x64x128x8x128, .f32⟩
  | 17 => ⟨S8192x1x8x128, .f32⟩
  | 18 => ⟨S1x8192x8x128, .f32⟩
  | 19 => ⟨S1x64x128x8x128, .f32⟩
  | 20 => ⟨S1x1x128x8x128, .f32⟩
  | 21 => ⟨S_, .f32⟩
  | 22 => ⟨S1x1x128x8x128, .f32⟩
  | 23 => ⟨S1x63x128x8x128, .f32⟩
  | 24 => ⟨S1x64x128x8x128, .f32⟩
  | 25 => ⟨S_, .f32⟩
  | 26 => ⟨S1x1x128x8x128, .f32⟩
  | 27 => ⟨S1x64x256x8x128, .f32⟩
  | 28 => ⟨S8192x1x8x128, .f32⟩
  | 29 => ⟨S1x8192x8x128, .f32⟩
  | 30 => ⟨S1x64x128x8x128, .f32⟩
  | 31 => ⟨S1x1x128x8x128, .f32⟩
  | 32 => ⟨S_, .f32⟩
  | 33 => ⟨S1x1x128x8x128, .f32⟩
  | 34 => ⟨S1x63x128x8x128, .f32⟩
  | 35 => ⟨S1x64x128x8x128, .f32⟩
  | 36 => ⟨S_, .f32⟩
  | 37 => ⟨S1x1x128x8x128, .f32⟩
  | 38 => ⟨S1x64x256x8x128, .f32⟩
  | 39 => ⟨S1x64x8x128x256, .f32⟩
  | 40 => ⟨S1x64x8x128x256, .f32⟩
  | 41 => ⟨S1x64x8x128x256, .f32⟩
  | 42 => ⟨S128, .i32⟩
  | 43 => ⟨S128x1, .i32⟩
  | 44 => ⟨S256, .i32⟩
  | 45 => ⟨S1x256, .i32⟩
  | 46 => ⟨S_, .i32⟩
  | 47 => ⟨S128x1, .i32⟩
  | 48 => ⟨S128x1, .i32⟩
  | 49 => ⟨S128x256, .i32⟩
  | 50 => ⟨S128x256, .i32⟩
  | 51 => ⟨S128x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S64, .i32⟩
  | 60 => ⟨S64x1x1, .i32⟩
  | 61 => ⟨S_, .i32⟩
  | 62 => ⟨S64x1x1, .i32⟩
  | 63 => ⟨S64x1x1, .i1⟩
  | 64 => ⟨S_, .i32⟩
  | 65 => ⟨S1x256, .i32⟩
  | 66 => ⟨S1x256, .i1⟩
  | 67 => ⟨S1x1x256, .i1⟩
  | 68 => ⟨S64x1x256, .i1⟩
  | 69 => ⟨S64x1x256, .i1⟩
  | 70 => ⟨S64x1x256, .i1⟩
  | 71 => ⟨S1x128x256, .i1⟩
  | 72 => ⟨S64x128x256, .i1⟩
  | 73 => ⟨S64x128x256, .i1⟩
  | 74 => ⟨S64x128x256, .i1⟩
  | 75 => ⟨S1x64x1x128x256, .i1⟩
  | 76 => ⟨S_, .f32⟩
  | 77 => ⟨S_, .f32⟩
  | 78 => ⟨S1x64x8x128x256, .i1⟩
  | 79 => ⟨S1x64x8x128x256, .f32⟩
  | 80 => ⟨S1x64x8x128x256, .f32⟩
  | 81 => ⟨S_, .f32⟩
  | 82 => ⟨S1x64x8x128x256, .f32⟩
  | 83 => ⟨S_, .f32⟩
  | 84 => ⟨S1x64x8x128, .f32⟩
  | 85 => ⟨S1x64x8x128x1, .f32⟩
  | 86 => ⟨S1x64x8x128x256, .f32⟩
  | 87 => ⟨S1x64x8x128x256, .i1⟩
  | 88 => ⟨S1x64x8x128x256, .f32⟩
  | 89 => ⟨S_, .f32⟩
  | 90 => ⟨S1x64x8x128, .f32⟩
  | 91 => ⟨S1x64x8x128x1, .f32⟩
  | 92 => ⟨S1x64x8x128x256, .f32⟩
  | 93 => ⟨S1x64x8x128x256, .f32⟩
  | 94 => ⟨S1x64x8x128x256, .f32⟩
  | 95 => ⟨S_, .f32⟩
  | 96 => ⟨S1x64x8x128, .f32⟩
  | 97 => ⟨S1x64x8x128, .f32⟩
  | 98 => ⟨S1x64x8x128, .f32⟩
  | 99 => ⟨S1x64x8x128x1, .f32⟩
  | 100 => ⟨S1x64x8x128x256, .f32⟩
  | 101 => ⟨S1x64x8x128x256, .f32⟩
  | 102 => ⟨S1x64x8x128x256, .f32⟩
  | 103 => ⟨S1x64x8x128x128, .f32⟩
  | 104 => ⟨S1x64x128x8x128, .f32⟩
  | 105 => ⟨S1x8192x8x128, .f32⟩
  | 106 => ⟨S8192x1x8x128, .f32⟩
  | 107 => ⟨S8192x8x128, .f32⟩
  | 108 => ⟨S1x64x128x8, .f32⟩
  | 109 => ⟨S1x8192x8, .f32⟩
  | 110 => ⟨S8192x1x8, .f32⟩
  | 111 => ⟨S8192x8, .f32⟩
  | 112 => ⟨S8192x1x8, .f32⟩
  | 113 => ⟨S1x8192x8, .f32⟩
  | 114 => ⟨S1x64x128x8, .f32⟩
  | 115 => ⟨S1x64x8x128, .f32⟩
  | 116 => ⟨S8192x1x8x128, .f32⟩
  | 117 => ⟨S1x8192x8x128, .f32⟩
  | 118 => ⟨S1x64x128x8x128, .f32⟩
  | 119 => ⟨S1x64x8x128x128, .f32⟩
  | 120 => ⟨S1x64x8x128x256, .f32⟩
  | 121 => ⟨S1x64x8x128x256, .f32⟩
  | 122 => ⟨S1x64x256x8x128, .f32⟩
  | 123 => ⟨S1x64x8x128x256, .f32⟩
  | 124 => ⟨S1x64x8x128x256, .f32⟩
  | 125 => ⟨S_, .f32⟩
  | 126 => ⟨S1x64x8x128, .f32⟩
  | 127 => ⟨S1x64x8x128x1, .f32⟩
  | _ => ⟨S1x8192x8x128, .f32⟩

abbrev hbmTy0_1 (i : Nat) : BufTy := match i % 128 with
  | 0 => ⟨S_, .f32⟩
  | 1 => ⟨S64x8x128, .f32⟩
  | 2 => ⟨S1x64x8x128, .f32⟩
  | 3 => ⟨S1x64x8x128, .f32⟩
  | 4 => ⟨S1x64x8x128, .f32⟩
  | 5 => ⟨S1x64x8x128x256, .f32⟩
  | 6 => ⟨S1x64x8x128x256, .f32⟩
  | 7 => ⟨S1x64x8x128x256, .f32⟩
  | 8 => ⟨S_, .f32⟩
  | 9 => ⟨S1x64x8x128x256, .f32⟩
  | 10 => ⟨S1x64x8x128x256, .f32⟩
  | 11 => ⟨S1x64x8x128x256, .f32⟩
  | 12 => ⟨S1x64x8x128x256, .f32⟩
  | 13 => ⟨S1x64x8x256x128, .f32⟩
  | 14 => ⟨S1x64x256x8x128, .f32⟩
  | 15 => ⟨S1x64x8x128x128, .f32⟩
  | 16 => ⟨S1x64x128x8x128, .f32⟩
  | 17 => ⟨S1x64x128x8x128, .f32⟩
  | 18 => ⟨S1x64x128x8x128, .f32⟩
  | 19 => ⟨S1x1x128x8x128, .f32⟩
  | 20 => ⟨S1x63x128x8x128, .f32⟩
  | 21 => ⟨S_, .f32⟩
  | 22 => ⟨S1x64x128x8x128, .f32⟩
  | 23 => ⟨S1x64x128x8x128, .f32⟩
  | 24 => ⟨S1x8192x8x128, .f32⟩
  | 25 => ⟨S8192x1x8x128, .f32⟩
  | 26 => ⟨S8192x8x128, .f32⟩
  | 27 => ⟨S1x64x128x8x128, .f32⟩
  | 28 => ⟨S1x64x128x8x128, .f32⟩
  | 29 => ⟨S1x1x128x8x128, .f32⟩
  | 30 => ⟨S1x63x128x8x128, .f32⟩
  | 31 => ⟨S_, .f32⟩
  | 32 => ⟨S1x64x128x8x128, .f32⟩
  | 33 => ⟨S1x64x128x8x128, .f32⟩
  | 34 => ⟨S1x8192x8x128, .f32⟩
  | 35 => ⟨S8192x1x8x128, .f32⟩
  | 36 => ⟨S8192x8x128, .f32⟩
  | 37 => ⟨S1x8192x8x128, .f32⟩
  | 38 => ⟨S8192x1x8x128, .f32⟩
  | 39 => ⟨S8192x8x128, .f32⟩
  | 40 => ⟨S8192x1024, .f32⟩
  | 41 => ⟨S8192x1024, .f32⟩
  | 42 => ⟨S8192x1024, .f32⟩
  | _ => ⟨S1x8192x8x128, .f32⟩

abbrev hbmTy (i : Nat) : BufTy := match i / 128 with
  | 0 => hbmTy0_0 i
  | 1 => hbmTy0_1 i
  | _ => ⟨S1x8192x8x128, .f32⟩

abbrev bufTy : (tb : Table) → Fin (tcTables nBuf tb) → BufTy
  | .hbm, ⟨i, _⟩ => hbmTy i
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_call0_v0 : Ref sig .tc := ⟨.hbm, 77, rfl⟩
abbrev main_v60_1 : Ref sig .tc := ⟨.hbm, 78, rfl⟩
abbrev main_call0_v2 : Ref sig .tc := ⟨.hbm, 79, rfl⟩
abbrev main_v60_0 : Ref sig .tc := ⟨.hbm, 80, rfl⟩
abbrev main_call0_cst : Ref sig .tc := ⟨.hbm, 81, rfl⟩
abbrev main_v60_2 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_13 : Ref sig .tc := ⟨.hbm, 125, rfl⟩
abbrev main_v100 : Ref sig .tc := ⟨.hbm, 126, rfl⟩
abbrev main_v101 : Ref sig .tc := ⟨.hbm, 127, rfl⟩
abbrev main_cst_14 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_call1_cst : Ref sig .tc := ⟨.hbm, 136, rfl⟩
abbrev main_call1_v0 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_15 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_16 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩

abbrev nD : Nat := 1
abbrev τ : Topo := Topo.v7x

variable {F : FTy → Type} [FloatOps F]
-- ==== Pre.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Loss.lean ====
abbrev S8192x2048 : Shape := ⟨2, ![8192, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x128, .f32⟩
  | .hbm, ⟨4, _⟩ => ⟨S1x1, .f32⟩
  | .hbm, ⟨5, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x2048 : Shape := ⟨2, ![8192, 2048]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== FfnDa.lean ====
abbrev S8192x5632 : Shape := ⟨2, ![8192, 5632]⟩
abbrev S5632x2048 : Shape := ⟨2, ![5632, 2048]⟩
abbrev S8192x2048 : Shape := ⟨2, ![8192, 2048]⟩
abbrev S8x704x2048 : Shape := ⟨3, ![8, 704, 2048]⟩
abbrev S8192x8x704 : Shape := ⟨3, ![8192, 8, 704]⟩
abbrev S8x8192x704 : Shape := ⟨3, ![8, 8192, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 11
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S5632x2048, .bf16⟩
  | .hbm, ⟨3, _⟩ => ⟨S8192x2048, .bf16⟩
  | .hbm, ⟨4, _⟩ => ⟨S8x704x2048, .bf16⟩
  | .hbm, ⟨5, _⟩ => ⟨S8192x8x704, .bf16⟩
  | .hbm, ⟨6, _⟩ => ⟨S8x8192x704, .bf16⟩
  | .hbm, ⟨7, _⟩ => ⟨S8192x8x704, .bf16⟩
  | .hbm, ⟨8, _⟩ => ⟨S8x8192x704, .bf16⟩
  | .hbm, ⟨9, _⟩ => ⟨S8x8192x704, .bf16⟩
  | .hbm, ⟨10, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDaRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S8192x8x704 : Shape := ⟨3, ![8192, 8, 704]⟩
abbrev S8x8192x704 : Shape := ⟨3, ![8, 8192, 704]⟩

abbrev nBuf : Space → Nat
  | .hbm => 36
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S5632x2048, .bf16⟩
  | .hbm, ⟨3, _⟩ => ⟨S8192x2048, .bf16⟩
  | .hbm, ⟨4, _⟩ => ⟨S8192x5632, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x8x704, .bf16⟩
  | .hbm, ⟨32, _⟩ => ⟨S8x8192x704, .bf16⟩
  | .hbm, ⟨33, _⟩ => ⟨S8192x5632, .bf16⟩
  | .hbm, ⟨34, _⟩ => ⟨S8192x8x704, .bf16⟩
  | .hbm, ⟨35, _⟩ => ⟨S8x8192x704, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== FfnDh.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S2048x8x704 : Shape := ⟨3, ![2048, 8, 704]⟩
abbrev S8x2048x704 : Shape := ⟨3, ![8, 2048, 704]⟩
abbrev S1x2048 : Shape := ⟨2, ![1, 2048]⟩
abbrev S1x512x704 : Shape := ⟨3, ![1, 512, 704]⟩
abbrev S1x2048x704 : Shape := ⟨3, ![1, 2048, 704]⟩
abbrev S512x2048 : Shape := ⟨2, ![512, 2048]⟩
abbrev S512x704 : Shape := ⟨2, ![512, 704]⟩
abbrev S2048x704 : Shape := ⟨2, ![2048, 704]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S8192x2048, .f32⟩
  | .hbm, ⟨5, _⟩ => ⟨S8192x5632, .bf16⟩
  | .hbm, ⟨6, _⟩ => ⟨S8192x5632, .bf16⟩
  | .hbm, ⟨7, _⟩ => ⟨S8192x8x704, .bf16⟩
  | .hbm, ⟨8, _⟩ => ⟨S8x8192x704, .bf16⟩
  | .hbm, ⟨9, _⟩ => ⟨S8192x8x704, .bf16⟩
  | .hbm, ⟨10, _⟩ => ⟨S8x8192x704, .bf16⟩
  | .hbm, ⟨11, _⟩ => ⟨S2048x8x704, .bf16⟩
  | .hbm, ⟨12, _⟩ => ⟨S8x2048x704, .bf16⟩
  | .hbm, ⟨13, _⟩ => ⟨S2048x8x704, .bf16⟩
  | .hbm, ⟨14, _⟩ => ⟨S8x2048x704, .bf16⟩
  | .hbm, ⟨15, _⟩ => ⟨S1x2048, .f32⟩
  | .hbm, ⟨16, _⟩ => ⟨S8192x2048, .f32⟩
  | .hbm, ⟨17, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | .local _ .vmem, ⟨16, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_15 : BitVec 32 := 0#32
  let v19 : BitVec 1 := Scalar.cmpi .ne v18 c0_i32_15
  v19

def k0_cond4 (i : grid0.Coords) : BitVec 1 :=
  let arg0 : BitVec 32 := BitVec.ofNat 32 (i 0).val
  let c0_i32_48 : BitVec 32 := 0#32
  let v95 : BitVec 1 := Scalar.cmpi .eq arg0 c0_i32_48
  let v96 : BitVec 32 := Scalar.extui v95
  let c0_i32_49 : BitVec 32 := 0#32
  let v97 : BitVec 1 := Scalar.cmpi .ne v96 c0_i32_49
  v97

def k0_cond5 (i : grid0.Coords) : BitVec 1 :=
  let arg0 : BitVec 32 := BitVec.ofNat 32 (i 0).val
  let c0_i32_50 : BitVec 32 := 0#32
  let v98 : BitVec 1 := Scalar.cmpi .sgt arg0 c0_i32_50
  let v99 : BitVec 32 := Scalar.extui v98
  let c0_i32_51 : BitVec 32 := 0#32
  let v100 : BitVec 1 := Scalar.cmpi .ne v99 c0_i32_51
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnDhRefIdeal.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S8192x2048, .f32⟩
  | .hbm, ⟨5, _⟩ => ⟨S8192x5632, .bf16⟩
  | .hbm, ⟨6, _⟩ => ⟨S8192x5632, .bf16⟩
  | .hbm, ⟨7, _⟩ => ⟨S2048x5632, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x5632, .f32⟩
  | .hbm, ⟨32, _⟩ => ⟨S8192x5632, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== QkFin.lean ====
abbrev S1x8192 : Shape := ⟨2, ![1, 8192]⟩
abbrev S1x8192x8x192 : Shape := ⟨4, ![1, 8192, 8, 192]⟩
abbrev S1x8192x8x128 : Shape := ⟨4, ![1, 8192, 8, 128]⟩
abbrev S8192x8x192 : Shape := ⟨3, ![8192, 8, 192]⟩
abbrev S_ : Shape := ⟨0, ![]⟩
abbrev S8192x8x256 : Shape := ⟨3, ![8192, 8, 256]⟩
abbrev S8192x2048 : Shape := ⟨2, ![8192, 2048]⟩
abbrev S8192x1024 : Shape := ⟨2, ![8192, 1024]⟩
abbrev S8192 : Shape := ⟨1, ![8192]⟩
abbrev S8192x1 : Shape := ⟨2, ![8192, 1]⟩
abbrev S32 : Shape := ⟨1, ![32]⟩
abbrev S1x32 : Shape := ⟨2, ![1, 32]⟩
abbrev S8192x32 : Shape := ⟨2, ![8192, 32]⟩
abbrev S16 : Shape := ⟨1, ![16]⟩
abbrev S1x16 : Shape := ⟨2, ![1, 16]⟩
abbrev S8192x16 : Shape := ⟨2, ![8192, 16]⟩
abbrev S8192x64 : Shape := ⟨2, ![8192, 64]⟩
abbrev S8192x128 : Shape := ⟨2, ![8192, 128]⟩
abbrev S8192x96 : Shape := ⟨2, ![8192, 96]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 73
  | .vmem => 16
  | .smem => 0
  | _ => 0

abbrev bufTy : (tb : Table) → Fin (tcTables nBuf tb) → BufTy
  | .hbm, ⟨0, _⟩ => ⟨S1x8192, .i32⟩
  | .hbm, ⟨1, _⟩ => ⟨S1x8192x8x192, .f32⟩
  | .hbm, ⟨2, _⟩ => ⟨S1x8192x8x192, .f32⟩
  | .hbm, ⟨3, _⟩ => ⟨S1x8192x8x128, .bf16⟩
  | .hbm, ⟨4, _⟩ => ⟨S8192x8x192, .f32⟩
  | .hbm, ⟨5, _⟩ => ⟨S_, .i32⟩
  | .hbm, ⟨6, _⟩ => ⟨S_, .f32⟩
  | .hbm, ⟨7, _⟩ => ⟨S8192x8x256, .f32⟩
  | .hbm, ⟨8, _⟩ => ⟨S8192x2048, .f32⟩
  | .hbm, ⟨9, _⟩ => ⟨S8192x8x192, .f32⟩
  | .hbm, ⟨10, _⟩ => ⟨S_, .i32⟩
  | .hbm, ⟨11, _⟩ => ⟨S_, .f32⟩
  | .hbm, ⟨12, _⟩ => ⟨S8192x8x256, .f32⟩
  | .hbm, ⟨13, _⟩ => ⟨S8192x2048, .f32⟩
  | .hbm, ⟨14, _⟩ => ⟨S8192x1024, .bf16⟩
  | .hbm, ⟨15, _⟩ => ⟨S8192, .i32⟩
  | .hbm, ⟨16, _⟩ => ⟨S8192, .f32⟩
  | .hbm, ⟨17, _⟩ => ⟨S8192x1, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S1x16, .f32⟩
  | .hbm, ⟨53, _⟩ => ⟨S8192x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S_, .f32⟩
  | .hbm, ⟨59, _⟩ => ⟨S8192x64, .f32⟩
  | .hbm, ⟨60, _⟩ => ⟨S8192x128, .f32⟩
  | .hbm, ⟨61, _⟩ => ⟨S_, .f32⟩
  | .hbm, ⟨62, _⟩ => ⟨S8192x64, .f32⟩
  | .hbm, ⟨63, _⟩ => ⟨S8192x128, .f32⟩
  | .hbm, ⟨64, _⟩ => ⟨S_, .f32⟩
  | .hbm, ⟨65, _⟩ => ⟨S8192x96, .f32⟩
  | .hbm, ⟨66, _⟩ => ⟨S8192x128, .f32⟩
  | .hbm, ⟨67, _⟩ => ⟨S_, .f32⟩
  | .hbm, ⟨68, _⟩ => ⟨S8192x96, .f32⟩
  | .hbm, ⟨69, _⟩ => ⟨S8192x128, .f32⟩
  | .hbm, ⟨70, _⟩ => ⟨S8192x2048, .bf16⟩
  | .hbm, ⟨71, _⟩ => ⟨S8192x2048, .bf16⟩
  | .hbm, ⟨72, _⟩ => ⟨S8192x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x128, .f32⟩
  | .local _ .vmem, ⟨15, _⟩ => ⟨S256x128, .f32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev main_v50_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkFinRefIdeal.lean ====
abbrev S1x8192 : Shape := ⟨2, ![1, 8192]⟩
abbrev S1x8192x8x192 : Shape := ⟨4, ![1, 8192, 8, 192]⟩
abbrev S1x8192x8x128 : Shape := ⟨4, ![1, 8192, 8, 128]⟩
abbrev S32 : Shape := ⟨1, ![32]⟩
abbrev S_ : Shape := ⟨0, ![]⟩
abbrev S1x8192x1 : Shape := ⟨3, ![1, 8192, 1]⟩
abbrev S1x1x32 : Shape := ⟨3, ![1, 1, 32]⟩
abbrev S1x8192x32 : Shape := ⟨3, ![1, 8192, 32]⟩
abbrev S1x8192x8x256 : Shape := ⟨4, ![1, 8192, 8, 256]⟩
abbrev S1x8192x64 : Shape := ⟨3, ![1, 8192, 64]⟩
abbrev S1x8192x8x64 : Shape := ⟨4, ![1, 8192, 8, 64]⟩
abbrev S1x8192x1x32 : Shape := ⟨4, ![1, 8192, 1, 32]⟩
abbrev S1x8192x8x32 : Shape := ⟨4, ![1, 8192, 8, 32]⟩
abbrev S1x8192x1x64 : Shape := ⟨4, ![1, 8192, 1, 64]⟩
abbrev S8192x64 : Shape := ⟨2, ![8192, 64]⟩
abbrev S8192x2048 : Shape := ⟨2, ![8192, 2048]⟩
abbrev S8192x1024 : Shape := ⟨2, ![8192, 1024]⟩
abbrev S8192x128 : Shape := ⟨2, ![8192, 128]⟩

abbrev nBuf : Space → Nat
  | .hbm => 124
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S1x8192x8x192, .f32⟩
  | .hbm, ⟨2, _⟩ => ⟨S1x8192x8x192, .f32⟩
  | .hbm, ⟨3, _⟩ => ⟨S1x8192x8x128, .bf16⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x8192, .f32⟩
  | .hbm, ⟨19, _⟩ => ⟨S1x8192x1, .f32⟩
  | .hbm, ⟨20, _⟩ => ⟨S1x1x32, .f32⟩
  | .hbm, ⟨21, _⟩ => ⟨S1x8192x32, .f32⟩
  | .hbm, ⟨22, _⟩ => ⟨S1x8192x32, .f32⟩
  | .hbm, ⟨23, _⟩ => ⟨S1x8192x32, .f32⟩
  | .hbm, ⟨24, _⟩ => ⟨S1x8192x32, .f32⟩
  | .hbm, ⟨25, _⟩ => ⟨S1x8192x32, .f32⟩
  | .hbm, ⟨26, _⟩ => ⟨S_, .f32⟩
  | .hbm, ⟨27, _⟩ => ⟨S1x8192x8x192, .f32⟩
  | .hbm, ⟨28, _⟩ => ⟨S_, .f32⟩
  | .hbm, ⟨29, _⟩ => ⟨S1x8192x8x256, .f32⟩
  | .hbm, ⟨30, _⟩ => ⟨S_, .f32⟩
  | .hbm, ⟨31, _⟩ => ⟨S1x8192x64, .f32⟩
  | .hbm, ⟨32, _⟩ => ⟨S1x8192x8x128, .f32⟩
  | .hbm, ⟨33, _⟩ => ⟨S1x8192x8x64, .f32⟩
  | .hbm, ⟨34, _⟩ => ⟨S1x8192x1x32, .f32⟩
  | .hbm, ⟨35, _⟩ => ⟨S1x8192x1x32, .f32⟩
  | .hbm, ⟨36, _⟩ => ⟨S1x8192x8x32, .f32⟩
  | .hbm, ⟨37, _⟩ => ⟨S1x8192x8x32, .f32⟩
  | .hbm, ⟨38, _⟩ => ⟨S1x8192x8x32, .f32⟩
  | .hbm, ⟨39, _⟩ => ⟨S1x8192x8x32, .f32⟩
  | .hbm, ⟨40, _⟩ => ⟨S1x8192x8x32, .f32⟩
  | .hbm, ⟨41, _⟩ => ⟨S1x8192x8x32, .f32⟩
  | .hbm, ⟨42, _⟩ => ⟨S1x8192x8x32, .f32⟩
  | .hbm, ⟨43, _⟩ => ⟨S1x8192x8x32, .f32⟩
  | .hbm, ⟨44, _⟩ => ⟨S1x8192x8x32, .f32⟩
  | .hbm, ⟨45, _⟩ => ⟨S1x8192x8x32, .f32⟩
  | .hbm, ⟨46, _⟩ => ⟨S1x8192x8x32, .f32⟩
  | .hbm, ⟨47, _⟩ => ⟨S1x8192x8x32, .f32⟩
  | .hbm, ⟨48, _⟩ => ⟨S1x8192x8x64, .f32⟩
  | .hbm, ⟨49, _⟩ => ⟨S1x8192x32, .f32⟩
  | .hbm, ⟨50, _⟩ => ⟨S1x8192x32, .f32⟩
  | .hbm, ⟨51, _⟩ => ⟨S1x8192x32, .f32⟩
  | .hbm, ⟨52, _⟩ => ⟨S1x8192x32, .f32⟩
  | .hbm, ⟨53, _⟩ => ⟨S1x8192x32, .f32⟩
  | .hbm, ⟨54, _⟩ => ⟨S1x8192x32, .f32⟩
  | .hbm, ⟨55, _⟩ => ⟨S1x8192x32, .f32⟩
  | .hbm, ⟨56, _⟩ => ⟨S1x8192x32, .f32⟩
  | .hbm, ⟨57, _⟩ => ⟨S1x8192x64, .f32⟩
  | .hbm, ⟨58, _⟩ => ⟨S1x8192x8x128, .f32⟩
  | .hbm, ⟨59, _⟩ => ⟨S1x8192x8x128, .f32⟩
  | .hbm, ⟨60, _⟩ => ⟨S1x8192x1x64, .f32⟩
  | .hbm, ⟨61, _⟩ => ⟨S1x8192x8x64, .f32⟩
  | .hbm, ⟨62, _⟩ => ⟨S1x8192x8x192, .f32⟩
  | .hbm, ⟨63, _⟩ => ⟨S1x8192x8x192, .f32⟩
  | .hbm, ⟨64, _⟩ => ⟨S1x8192x8x128, .f32⟩
  | .hbm, ⟨65, _⟩ => ⟨S1x8192x8x128, .f32⟩
  | .hbm, ⟨66, _⟩ => ⟨S1x8192x8x64, .f32⟩
  | .hbm, ⟨67, _⟩ => ⟨S1x8192x8x128, .f32⟩
  | .hbm, ⟨68, _⟩ => ⟨S1x8192x8x64, .f32⟩
  | .hbm, ⟨69, _⟩ => ⟨S_, .f32⟩
  | .hbm, ⟨70, _⟩ => ⟨S8192x64, .f32⟩
  | .hbm, ⟨71, _⟩ => ⟨S1x8192x1x64, .f32⟩
  | .hbm, ⟨72, _⟩ => ⟨S_, .f32⟩
  | .hbm, ⟨73, _⟩ => ⟨S8192x64, .f32⟩
  | .hbm, ⟨74, _⟩ => ⟨S1x8192x64, .f32⟩
  | .hbm, ⟨75, _⟩ => ⟨S_, .f32⟩
  | .hbm, ⟨76, _⟩ => ⟨S1x8192x8x256, .f32⟩
  | .hbm, ⟨77, _⟩ => ⟨S_, .f32⟩
  | .hbm, ⟨78, _⟩ => ⟨S1x8192x8x256, .f32⟩
  | .hbm, ⟨79, _⟩ => ⟨S1x8192x8x256, .f32⟩
  | .hbm, ⟨80, _⟩ => ⟨S1x8192x32, .f32⟩
  | .hbm, ⟨81, _⟩ => ⟨S1x8192x32, .f32⟩
  | .hbm, ⟨82, _⟩ => ⟨S1x8192x32, .f32⟩
  | .hbm, ⟨83, _⟩ => ⟨S1x8192x32, .f32⟩
  | .hbm, ⟨84, _⟩ => ⟨S1x8192x32, .f32⟩
  | .hbm, ⟨85, _⟩ => ⟨S1x8192x32, .f32⟩
  | .hbm, ⟨86, _⟩ => ⟨S1x8192x32, .f32⟩
  | .hbm, ⟨87, _⟩ => ⟨S1x8192x32, .f32⟩
  | .hbm, ⟨88, _⟩ => ⟨S1x8192x32, .f32⟩
  | .hbm, ⟨89, _⟩ => ⟨S1x8192x64, .f32⟩
  | .hbm, ⟨90, _⟩ => ⟨S1x8192x8x32, .f32⟩
  | .hbm, ⟨91, _⟩ => ⟨S1x8192x8x32, .f32⟩
  | .hbm, ⟨92, _⟩ => ⟨S1x8192x8x32, .f32⟩
  | .hbm, ⟨93, _⟩ => ⟨S1x8192x8x32, .f32⟩
  | .hbm, ⟨94, _⟩ => ⟨S1x8192x8x32, .f32⟩
  | .hbm, ⟨95, _⟩ => ⟨S1x8192x8x32, .f32⟩
  | .hbm, ⟨96, _⟩ => ⟨S1x8192x8x32, .f32⟩
  | .hbm, ⟨97, _⟩ => ⟨S1x8192x8x32, .f32⟩
  | .hbm, ⟨98, _⟩ => ⟨S1x8192x8x32, .f32⟩
  | .hbm, ⟨99, _⟩ => ⟨S1x8192x8x32, .f32⟩
  | .hbm, ⟨100, _⟩ => ⟨S1x8192x8x32, .f32⟩
  | .hbm, ⟨101, _⟩ => ⟨S1x8192x8x32, .f32⟩
  | .hbm, ⟨102, _⟩ => ⟨S1x8192x8x32, .f32⟩
  | .hbm, ⟨103, _⟩ => ⟨S1x8192x8x64, .f32⟩
  | .hbm, ⟨104, _⟩ => ⟨S_, .f32⟩
  | .hbm, ⟨105, _⟩ => ⟨S1x8192x8x192, .f32⟩
  | .hbm, ⟨106, _⟩ => ⟨S_, .f32⟩
  | .hbm, ⟨107, _⟩ => ⟨S1x8192x8x192, .f32⟩
  | .hbm, ⟨108, _⟩ => ⟨S1x8192x8x192, .f32⟩
  | .hbm, ⟨109, _⟩ => ⟨S_, .i32⟩
  | .hbm, ⟨110, _⟩ => ⟨S_, .f32⟩
  | .hbm, ⟨111, _⟩ => ⟨S1x8192x8x256, .f32⟩
  | .hbm, ⟨112, _⟩ => ⟨S8192x2048, .f32⟩
  | .hbm, ⟨113, _⟩ => ⟨S1x8192x8x128, .f32⟩
  | .hbm, ⟨114, _⟩ => ⟨S8192x1024, .f32⟩
  | .hbm, ⟨115, _⟩ => ⟨S1x8192x8x128, .f32⟩
  | .hbm, ⟨116, _⟩ => ⟨S8192x1024, .f32⟩
  | .hbm, ⟨117, _⟩ => ⟨S8192x2048, .f32⟩
  | .hbm, ⟨118, _⟩ => ⟨S8192x2048, .bf16⟩
  | .hbm, ⟨119, _⟩ => ⟨S8192x2048, .bf16⟩
  | .hbm, ⟨120, _⟩ => ⟨S8192x64, .f32⟩
  | .hbm, ⟨121, _⟩ => ⟨S_, .i32⟩
  | .hbm, ⟨122, _⟩ => ⟨S_, .f32⟩
  | .hbm, ⟨123, _⟩ => ⟨S8192x128, .f32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_10 : Ref sig .tc := ⟨.hbm, 104, rfl⟩
abbrev main_v89 : Ref sig .tc := ⟨.hbm, 105, rfl⟩
abbrev main_cst_11 : Ref sig .tc := ⟨.hbm, 106, rfl⟩
abbrev main_v90 : Ref sig .tc := ⟨.hbm, 107, rfl⟩
abbrev main_v91 : Ref sig .tc := ⟨.hbm, 108, rfl⟩
abbrev main_c : Ref sig .tc := ⟨.hbm, 109, rfl⟩
abbrev main_call0_v0 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_c_12 : Ref sig .tc := ⟨.hbm, 121, rfl⟩
abbrev main_call1_v0 : Ref sig .tc := ⟨.hbm, 122, rfl⟩
abbrev main_v102 : Ref sig .tc := ⟨.hbm, 123, rfl⟩

abbrev nD : Nat := 1
abbrev τ : Topo := Topo.v7x

variable {F : FTy → Type} [FloatOps F]
-- ==== MlaFwd.lean ====
abbrev S1x8192x8x128 : Shape := ⟨4, ![1, 8192, 8, 128]⟩
abbrev S1x8192x8x64 : Shape := ⟨4, ![1, 8192, 8, 64]⟩
abbrev S1x8192x64 : Shape := ⟨3, ![1, 8192, 64]⟩
abbrev S_ : Shape := ⟨0, ![]⟩
abbrev S1x8192x8x256 : Shape := ⟨4, ![1, 8192, 8, 256]⟩
abbrev S8192x2048 : Shape := ⟨2, ![8192, 2048]⟩
abbrev S1x8192x1x64 : Shape := ⟨4, ![1, 8192, 1, 64]⟩
abbrev S8192x1024 : Shape := ⟨2, ![8192, 1024]⟩
abbrev S8x8192x128 : Shape := ⟨3, ![8, 8192, 128]⟩
abbrev S512x512 : Shape := ⟨2, ![512, 512]⟩
abbrev S8192x512 : Shape := ⟨2, ![8192, 512]⟩
abbrev S8192x256 : Shape := ⟨2, ![8192, 256]⟩
abbrev S512x256 : Shape := ⟨2, ![512, 256]⟩
abbrev S2x512x128 : Shape := ⟨3, ![2, 512, 128]⟩
abbrev S512x1 : Shape := ⟨2, ![512, 1]⟩
abbrev S512x128 : Shape := ⟨2, ![512, 128]⟩
abbrev S512 : Shape := ⟨1, ![512]⟩
abbrev S1x512x128 : Shape := ⟨3, ![1, 512, 128]⟩

abbrev nBuf : Space → Nat
  | .hbm => 23
  | .vmem => 10
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x64, .f32⟩
  | .hbm, ⟨2, _⟩ => ⟨S1x8192x8x128, .f32⟩
  | .hbm, ⟨3, _⟩ => ⟨S1x8192x64, .f32⟩
  | .hbm, ⟨4, _⟩ => ⟨S1x8192x8x128, .f32⟩
  | .hbm, ⟨5, _⟩ => ⟨S_, .f32⟩
  | .hbm, ⟨6, _⟩ => ⟨S1x8192x8x64, .f32⟩
  | .hbm, ⟨7, _⟩ => ⟨S1x8192x8x256, .f32⟩
  | .hbm, ⟨8, _⟩ => ⟨S8192x2048, .f32⟩
  | .hbm, ⟨9, _⟩ => ⟨S8192x2048, .bf16⟩
  | .hbm, ⟨10, _⟩ => ⟨S1x8192x1x64, .f32⟩
  | .hbm, ⟨11, _⟩ => ⟨S1x8192x8x64, .f32⟩
  | .hbm, ⟨12, _⟩ => ⟨S_, .f32⟩
  | .hbm, ⟨13, _⟩ => ⟨S1x8192x8x64, .f32⟩
  | .hbm, ⟨14, _⟩ => ⟨S1x8192x8x256, .f32⟩
  | .hbm, ⟨15, _⟩ => ⟨S8192x2048, .f32⟩
  | .hbm, ⟨16, _⟩ => ⟨S8192x2048, .bf16⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x2048, .bf16⟩
  | .hbm, ⟨21, _⟩ => ⟨S8192x1024, .bf16⟩
  | .hbm, ⟨22, _⟩ => ⟨S8x8192x128, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x256, .bf16⟩
  | .local _ .vmem, ⟨5, _⟩ => ⟨S8192x256, .bf16⟩
  | .local _ .vmem, ⟨6, _⟩ => ⟨S512x256, .bf16⟩
  | .local _ .vmem, ⟨7, _⟩ => ⟨S512x256, .bf16⟩
  | .local _ .vmem, ⟨8, _⟩ => ⟨S2x512x128, .f32⟩
  | .local _ .vmem, ⟨9, _⟩ => ⟨S2x512x128, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_12 : BitVec 32 := 1#32
  ⟨c0_i32_10, v28, c1_i32_12⟩
def k0_mult1 (i : grid0.Coords) (k0_t1 : Fin (k0_t1_loop i).trips) : BitVec 32 :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  v132
def k0_off1 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v136 : Index := Scalar.indexCast v133
  let c0_49 : Index := 0#32
  ![v136.toNat, 0]
def k0_off2 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v157 : Index := Scalar.indexCast v133
  let c0_54 : Index := 0#32
  ![v157.toNat, 0]
def k0_off3 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v164 : Index := Scalar.indexCast v133
  let c256_58 : Index := 256#32
  ![v164.toNat, 256]
def k0_off4 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v185 : Index := Scalar.indexCast v133
  let c128_63 : Index := 128#32
  ![v185.toNat, 128]
@[reducible] def k0_t2_loop (i : grid0.Coords) : Scf.Loop 32 :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let v25 : BitVec 32 := Scalar.addi c0_i32_10 v24
  let c1_i32_13 : BitVec 32 := 1#32
  ⟨v28, v25, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  v132
def k0_off5 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v136 : Index := Scalar.indexCast v133
  let c0_49 : Index := 0#32
  ![v136.toNat, 0]
def k0_off6 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v157 : Index := Scalar.indexCast v133
  let c0_54 : Index := 0#32
  ![v157.toNat, 0]
def k0_off7 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v164 : Index := Scalar.indexCast v133
  let c256_58 : Index := 256#32
  ![v164.toNat, 256]
def k0_off8 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v185 : Index := Scalar.indexCast v133
  let c128_63 : Index := 128#32
  ![v185.toNat, 128]
def k0_mult3 (i : grid0.Coords) : BitVec 32 :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  v32
def k0_off9 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v36 : Index := Scalar.indexCast v33
  let c0_17 : Index := 0#32
  ![v36.toNat, 0]
def k0_off10 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v67 : Index := Scalar.indexCast v33
  let c0_25 : Index := 0#32
  ![v67.toNat, 0]
def k0_off11 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v74 : Index := Scalar.indexCast v33
  let c256_28 : Index := 256#32
  ![v74.toNat, 256]
def k0_off12 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v105 : Index := Scalar.indexCast v33
  let c128 : Index := 128#32
  ![v105.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlaFwdIdeal.lean ====
variable {F : FTy → Type} [FloatOps F] [Named F]
def κ : String → Option EReal := fun
  | "mask" => some ⊥
  | "s" => some (((Real.sqrt 192)⁻¹ : ℝ) : EReal)
  | _ => none
-- ==== MlaFwdRefIdeal.lean ====
abbrev S1x8192x8x128 : Shape := ⟨4, ![1, 8192, 8, 128]⟩
abbrev S1x8192x8x64 : Shape := ⟨4, ![1, 8192, 8, 64]⟩
abbrev S1x8192x64 : Shape := ⟨3, ![1, 8192, 64]⟩
abbrev S_ : Shape := ⟨0, ![]⟩
abbrev S1x8x8192x8192 : Shape := ⟨4, ![1, 8, 8192, 8192]⟩
abbrev S1x8192x8192x8 : Shape := ⟨4, ![1, 8192, 8192, 8]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x8192 : Shape := ⟨3, ![1, 8, 8192]⟩
abbrev S1x8x8192x1 : Shape := ⟨4, ![1, 8, 8192, 1]⟩
abbrev S1x8x128x8192 : Shape := ⟨4, ![1, 8, 128, 8192]⟩
abbrev S8192x1024 : Shape := ⟨2, ![8192, 1024]⟩
abbrev S8x8192 : Shape := ⟨2, ![8, 8192]⟩
abbrev S8x8192x1 : Shape := ⟨3, ![8, 8192, 1]⟩
abbrev S8x8192x128 : Shape := ⟨3, ![8, 8192, 128]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x64, .f32⟩
  | .hbm, ⟨2, _⟩ => ⟨S1x8192x8x128, .f32⟩
  | .hbm, ⟨3, _⟩ => ⟨S1x8192x64, .f32⟩
  | .hbm, ⟨4, _⟩ => ⟨S1x8192x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x8x8192x8192, .f32⟩
  | .hbm, ⟨10, _⟩ => ⟨S1x8192x8192x8, .f32⟩
  | .hbm, ⟨11, _⟩ => ⟨S1x8x8192x8192, .f32⟩
  | .hbm, ⟨12, _⟩ => ⟨S1x8x8192x8192, .f32⟩
  | .hbm, ⟨13, _⟩ => ⟨S1x8x8192x8192, .f32⟩
  | .hbm, ⟨14, _⟩ => ⟨S1x8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S1x8x8192x8192, .i1⟩
  | .hbm, ⟨24, _⟩ => ⟨S1x8x8192x8192, .f32⟩
  | .hbm, ⟨25, _⟩ => ⟨S1x8x8192x8192, .f32⟩
  | .hbm, ⟨26, _⟩ => ⟨S_, .f32⟩
  | .hbm, ⟨27, _⟩ => ⟨S1x8x8192, .f32⟩
  | .hbm, ⟨28, _⟩ => ⟨S_, .f32⟩
  | .hbm, ⟨29, _⟩ => ⟨S1x8x8192, .f32⟩
  | .hbm, ⟨30, _⟩ => ⟨S1x8x8192, .f32⟩
  | .hbm, ⟨31, _⟩ => ⟨S1x8x8192x1, .f32⟩
  | .hbm, ⟨32, _⟩ => ⟨S1x8x8192x8192, .f32⟩
  | .hbm, ⟨33, _⟩ => ⟨S1x8x8192x8192, .f32⟩
  | .hbm, ⟨34, _⟩ => ⟨S1x8x8192x8192, .f32⟩
  | .hbm, ⟨35, _⟩ => ⟨S_, .f32⟩
  | .hbm, ⟨36, _⟩ => ⟨S1x8x8192, .f32⟩
  | .hbm, ⟨37, _⟩ => ⟨S1x8x8192x1, .f32⟩
  | .hbm, ⟨38, _⟩ => ⟨S1x8x8192x8192, .f32⟩
  | .hbm, ⟨39, _⟩ => ⟨S1x8x8192x8192, .f32⟩
  | .hbm, ⟨40, _⟩ => ⟨S_, .f32⟩
  | .hbm, ⟨41, _⟩ => ⟨S1x8x8192, .f32⟩
  | .hbm, ⟨42, _⟩ => ⟨S1x8x8192x1, .f32⟩
  | .hbm, ⟨43, _⟩ => ⟨S1x8x8192x8192, .f32⟩
  | .hbm, ⟨44, _⟩ => ⟨S1x8x8192x8192, .f32⟩
  | .hbm, ⟨45, _⟩ => ⟨S1x8x8192x8192, .f32⟩
  | .hbm, ⟨46, _⟩ => ⟨S_, .f32⟩
  | .hbm, ⟨47, _⟩ => ⟨S1x8x8192, .f32⟩
  | .hbm, ⟨48, _⟩ => ⟨S1x8x8192, .f32⟩
  | .hbm, ⟨49, _⟩ => ⟨S1x8x8192, .f32⟩
  | .hbm, ⟨50, _⟩ => ⟨S1x8x128x8192, .f32⟩
  | .hbm, ⟨51, _⟩ => ⟨S1x8192x8x128, .f32⟩
  | .hbm, ⟨52, _⟩ => ⟨S8192x1024, .f32⟩
  | .hbm, ⟨53, _⟩ => ⟨S8192x1024, .bf16⟩
  | .hbm, ⟨54, _⟩ => ⟨S8x8192, .f32⟩
  | .hbm, ⟨55, _⟩ => ⟨S8x8192x1, .f32⟩
  | .hbm, ⟨56, _⟩ => ⟨S8x8192x128, .f32⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Dil1Fwd.lean ====
abbrev S1x8192x8x128 : Shape := ⟨4, ![1, 8192, 8, 128]⟩
abbrev S8192x1024 : Shape := ⟨2, ![8192, 1024]⟩
abbrev S2048x128 : Shape := ⟨2, ![2048, 128]⟩
abbrev S128x128 : Shape := ⟨2, ![128, 128]⟩
abbrev S16x128x128 : Shape := ⟨3, ![16, 128, 128]⟩
abbrev S1x128x128 : Shape := ⟨3, ![1, 128, 128]⟩
abbrev S15x128x128 : Shape := ⟨3, ![15, 128, 128]⟩
abbrev S16x128 : Shape := ⟨2, ![16, 128]⟩
abbrev S16x128x1 : Shape := ⟨3, ![16, 128, 1]⟩

abbrev nBuf : Space → Nat
  | .hbm => 8
  | .vmem => 14
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Dil1FwdIdeal.lean ====
variable {F : FTy → Type} [FloatOps F] [Named F]
def κ : String → Option EReal := fun
  | "mask" => some ⊥
  | "s" => some (((Real.sqrt 128)⁻¹ : ℝ) : EReal)
  | _ => none
-- ==== Dil1FwdRefIdeal.lean ====
abbrev S1x8192x8x128 : Shape := ⟨4, ![1, 8192, 8, 128]⟩
abbrev S8192x8x128 : Shape := ⟨3, ![8192, 8, 128]⟩
abbrev S_ : Shape := ⟨0, ![]⟩
abbrev S8192x1x8x128 : Shape := ⟨4, ![8192, 1, 8, 128]⟩
abbrev S1x64x128x8x128 : Shape := ⟨5, ![1, 64, 128, 8, 128]⟩
abbrev S1x1x128x8x128 : Shape := ⟨5, ![1, 1, 128, 8, 128]⟩
abbrev S1x63x128x8x128 : Shape := ⟨5, ![1, 63, 128, 8, 128]⟩
abbrev S1x64x256x8x128 : Shape := ⟨5, ![1, 64, 256, 8, 128]⟩
abbrev S1x64x8x128x256 : Shape := ⟨5, ![1, 64, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x128x256 : Shape := ⟨5, ![1, 64, 1, 128, 256]⟩
abbrev S1x64x8x128 : Shape := ⟨4, ![1, 64, 8, 128]⟩
abbrev S1x64x8x128x1 : Shape := ⟨5, ![1, 64, 8, 128, 1]⟩
abbrev S1x64x8x128x128 : Shape := ⟨5, ![1, 64, 8, 128, 128]⟩
abbrev S1x64x128x8 : Shape := ⟨4, ![1, 64, 128, 8]⟩
abbrev S1x8192x8 : Shape := ⟨3, ![1, 8192, 8]⟩
abbrev S8192x1x8 : Shape := ⟨3, ![8192, 1, 8]⟩
abbrev S8192x8 : Shape := ⟨2, ![8192, 8]⟩
abbrev S8192x1024 : Shape := ⟨2, ![8192, 1024]⟩
abbrev S8192x8x1 : Shape := ⟨3, ![8192, 8, 1]⟩

abbrev nBuf : Space → Nat
  | .hbm => 100
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S8192x8x128, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x1x8x128, .f32⟩
  | .hbm, ⟨11, _⟩ => ⟨S1x8192x8x128, .f32⟩
  | .hbm, ⟨12, _⟩ => ⟨S1x64x128x8x128, .f32⟩
  | .hbm, ⟨13, _⟩ => ⟨S8192x1x8x128, .f32⟩
  | .hbm, ⟨14, _⟩ => ⟨S1x8192x8x128, .f32⟩
  | .hbm, ⟨15, _⟩ => ⟨S1x64x128x8x128, .f32⟩
  | .hbm, ⟨16, _⟩ => ⟨S1x1x128x8x128, .f32⟩
  | .hbm, ⟨17, _⟩ => ⟨S_, .f32⟩
  | .hbm, ⟨18, _⟩ => ⟨S1x1x128x8x128, .f32⟩
  | .hbm, ⟨19, _⟩ => ⟨S1x63x128x8x128, .f32⟩
  | .hbm, ⟨20, _⟩ => ⟨S1x64x128x8x128, .f32⟩
  | .hbm, ⟨21, _⟩ => ⟨S1x64x256x8x128, .f32⟩
  | .hbm, ⟨22, _⟩ => ⟨S8192x1x8x128, .f32⟩
  | .hbm, ⟨23, _⟩ => ⟨S1x8192x8x128, .f32⟩
  | .hbm, ⟨24, _⟩ => ⟨S1x64x128x8x128, .f32⟩
  | .hbm, ⟨25, _⟩ => ⟨S1x1x128x8x128, .f32⟩
  | .hbm, ⟨26, _⟩ => ⟨S_, .f32⟩
  | .hbm, ⟨27, _⟩ => ⟨S1x1x128x8x128, .f32⟩
  | .hbm, ⟨28, _⟩ => ⟨S1x63x128x8x128, .f32⟩
  | .hbm, ⟨29, _⟩ => ⟨S1x64x128x8x128, .f32⟩
  | .hbm, ⟨30, _⟩ => ⟨S1x64x256x8x128, .f32⟩
  | .hbm, ⟨31, _⟩ => ⟨S1x64x8x128x256, .f32⟩
  | .hbm, ⟨32, _⟩ => ⟨S1x64x8x128x256, .f32⟩
  | .hbm, ⟨33, _⟩ => ⟨S1x64x8x128x256, .f32⟩
  | .hbm, ⟨34, _⟩ => ⟨S128, .i32⟩
  | .hbm, ⟨35, _⟩ => ⟨S128x1, .i32⟩
  | .hbm, ⟨36, _⟩ => ⟨S256, .i32⟩
  | .hbm, ⟨37, _⟩ => ⟨S1x256, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S64, .i32⟩
  | .hbm, ⟨52, _⟩ => ⟨S64x1x1, .i32⟩
  | .hbm, ⟨53, _⟩ => ⟨S_, .i32⟩
  | .hbm, ⟨54, _⟩ => ⟨S64x1x1, .i32⟩
  | .hbm, ⟨55, _⟩ => ⟨S64x1x1, .i1⟩
  | .hbm, ⟨56, _⟩ => ⟨S_, .i32⟩
  | .hbm, ⟨57, _⟩ => ⟨S1x256, .i32⟩
  | .hbm, ⟨58, _⟩ => ⟨S1x256, .i1⟩
  | .hbm, ⟨59, _⟩ => ⟨S1x1x256, .i1⟩
  | .hbm, ⟨60, _⟩ => ⟨S64x1x256, .i1⟩
  | .hbm, ⟨61, _⟩ => ⟨S64x1x256, .i1⟩
  | .hbm, ⟨62, _⟩ => ⟨S64x1x256, .i1⟩
  | .hbm, ⟨63, _⟩ => ⟨S1x128x256, .i1⟩
  | .hbm, ⟨64, _⟩ => ⟨S64x128x256, .i1⟩
  | .hbm, ⟨65, _⟩ => ⟨S64x128x256, .i1⟩
  | .hbm, ⟨66, _⟩ => ⟨S64x128x256, .i1⟩
  | .hbm, ⟨67, _⟩ => ⟨S1x64x1x128x256, .i1⟩
  | .hbm, ⟨68, _⟩ => ⟨S_, .f32⟩
  | .hbm, ⟨69, _⟩ => ⟨S_, .f32⟩
  | .hbm, ⟨70, _⟩ => ⟨S1x64x8x128x256, .i1⟩
  | .hbm, ⟨71, _⟩ => ⟨S1x64x8x128x256, .f32⟩
  | .hbm, ⟨72, _⟩ => ⟨S1x64x8x128x256, .f32⟩
  | .hbm, ⟨73, _⟩ => ⟨S_, .f32⟩
  | .hbm, ⟨74, _⟩ => ⟨S1x64x8x128, .f32⟩
  | .hbm, ⟨75, _⟩ => ⟨S1x64x8x128x1, .f32⟩
  | .hbm, ⟨76, _⟩ => ⟨S1x64x8x128x256, .f32⟩
  | .hbm, ⟨77, _⟩ => ⟨S1x64x8x128x256, .f32⟩
  | .hbm, ⟨78, _⟩ => ⟨S1x64x8x128x256, .f32⟩
  | .hbm, ⟨79, _⟩ => ⟨S_, .f32⟩
  | .hbm, ⟨80, _⟩ => ⟨S1x64x8x128, .f32⟩
  | .hbm, ⟨81, _⟩ => ⟨S1x64x8x128, .f32⟩
  | .hbm, ⟨82, _⟩ => ⟨S1x64x8x128, .f32⟩
  | .hbm, ⟨83, _⟩ => ⟨S1x64x8x128x1, .f32⟩
  | .hbm, ⟨84, _⟩ => ⟨S1x64x8x128x256, .f32⟩
  | .hbm, ⟨85, _⟩ => ⟨S1x64x8x128x256, .f32⟩
  | .hbm, ⟨86, _⟩ => ⟨S1x64x8x128x256, .f32⟩
  | .hbm, ⟨87, _⟩ => ⟨S1x64x8x128x128, .f32⟩
  | .hbm, ⟨88, _⟩ => ⟨S1x64x128x8x128, .f32⟩
  | .hbm, ⟨89, _⟩ => ⟨S1x8192x8x128, .f32⟩
  | .hbm, ⟨90, _⟩ => ⟨S8192x1x8x128, .f32⟩
  | .hbm, ⟨91, _⟩ => ⟨S8192x8x128, .f32⟩
  | .hbm, ⟨92, _⟩ => ⟨S1x64x128x8, .f32⟩
  | .hbm, ⟨93, _⟩ => ⟨S1x8192x8, .f32⟩
  | .hbm, ⟨94, _⟩ => ⟨S8192x1x8, .f32⟩
  | .hbm, ⟨95, _⟩ => ⟨S8192x8, .f32⟩
  | .hbm, ⟨96, _⟩ => ⟨S8192x1024, .f32⟩
  | .hbm, ⟨97, _⟩ => ⟨S8192x8x1, .f32⟩
  | .hbm, ⟨98, _⟩ => ⟨S8192x8x128, .f32⟩
  | .hbm, ⟨99, _⟩ => ⟨S8192x1024, .f32⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MergeFwd.lean ====
abbrev S1x8192x8x128 : Shape := ⟨4, ![1, 8192, 8, 128]⟩
abbrev S1x8192x8 : Shape := ⟨3, ![1, 8192, 8]⟩
abbrev S8192x1024 : Shape := ⟨2, ![8192, 1024]⟩
abbrev S8192x8 : Shape := ⟨2, ![8192, 8]⟩
abbrev S8192x8x1 : Shape := ⟨3, ![8192, 8, 1]⟩
abbrev S8192x8x128 : Shape := ⟨3, ![8192, 8, 128]⟩
abbrev S256x1024 : Shape := ⟨2, ![256, 1024]⟩

abbrev nBuf : Space → Nat
  | .hbm => 22
  | .vmem => 14
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S1x8192x8, .f32⟩
  | .hbm, ⟨4, _⟩ => ⟨S1x8192x8, .f32⟩
  | .hbm, ⟨5, _⟩ => ⟨S1x8192x8, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x8, .f32⟩
  | .hbm, ⟨10, _⟩ => ⟨S8192x8x1, .f32⟩
  | .hbm, ⟨11, _⟩ => ⟨S8192x8x128, .f32⟩
  | .hbm, ⟨12, _⟩ => ⟨S8192x1024, .f32⟩
  | .hbm, ⟨13, _⟩ => ⟨S8192x8, .f32⟩
  | .hbm, ⟨14, _⟩ => ⟨S8192x8x1, .f32⟩
  | .hbm, ⟨15, _⟩ => ⟨S8192x8x128, .f32⟩
  | .hbm, ⟨16, _⟩ => ⟨S8192x1024, .f32⟩
  | .hbm, ⟨17, _⟩ => ⟨S8192x8, .f32⟩
  | .hbm, ⟨18, _⟩ => ⟨S8192x8x1, .f32⟩
  | .hbm, ⟨19, _⟩ => ⟨S8192x8x128, .f32⟩
  | .hbm, ⟨20, _⟩ => ⟨S8192x1024, .f32⟩
  | .hbm, ⟨21, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S1x8192x8x128 : Shape := ⟨4, ![1, 8192, 8, 128]⟩
abbrev S1x8192x8 : Shape := ⟨3, ![1, 8192, 8]⟩
abbrev S1x1x8192x8 : Shape := ⟨4, ![1, 1, 8192, 8]⟩
abbrev S3x1x8192x8 : Shape := ⟨4, ![3, 1, 8192, 8]⟩
abbrev S_ : Shape := ⟨0, ![]⟩
abbrev S3x1x8192x8x1 : Shape := ⟨5, ![3, 1, 8192, 8, 1]⟩
abbrev S1x1x8192x8x128 : Shape := ⟨5, ![1, 1, 8192, 8, 128]⟩
abbrev S3x1x8192x8x128 : Shape := ⟨5, ![3, 1, 8192, 8, 128]⟩
abbrev S8192x1024 : Shape := ⟨2, ![8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S1x8192x8, .f32⟩
  | .hbm, ⟨4, _⟩ => ⟨S1x8192x8, .f32⟩
  | .hbm, ⟨5, _⟩ => ⟨S1x8192x8, .f32⟩
  | .hbm, ⟨6, _⟩ => ⟨S1x1x8192x8, .f32⟩
  | .hbm, ⟨7, _⟩ => ⟨S1x1x8192x8, .f32⟩
  | .hbm, ⟨8, _⟩ => ⟨S1x1x8192x8, .f32⟩
  | .hbm, ⟨9, _⟩ => ⟨S3x1x8192x8, .f32⟩
  | .hbm, ⟨10, _⟩ => ⟨S_, .f32⟩
  | .hbm, ⟨11, _⟩ => ⟨S1x8192x8, .f32⟩
  | .hbm, ⟨12, _⟩ => ⟨S_, .f32⟩
  | .hbm, ⟨13, _⟩ => ⟨S1x8192x8, .f32⟩
  | .hbm, ⟨14, _⟩ => ⟨S1x8192x8, .f32⟩
  | .hbm, ⟨15, _⟩ => ⟨S1x1x8192x8, .f32⟩
  | .hbm, ⟨16, _⟩ => ⟨S3x1x8192x8, .f32⟩
  | .hbm, ⟨17, _⟩ => ⟨S3x1x8192x8, .f32⟩
  | .hbm, ⟨18, _⟩ => ⟨S3x1x8192x8, .f32⟩
  | .hbm, ⟨19, _⟩ => ⟨S_, .f32⟩
  | .hbm, ⟨20, _⟩ => ⟨S1x8192x8, .f32⟩
  | .hbm, ⟨21, _⟩ => ⟨S1x1x8192x8, .f32⟩
  | .hbm, ⟨22, _⟩ => ⟨S3x1x8192x8, .f32⟩
  | .hbm, ⟨23, _⟩ => ⟨S3x1x8192x8, .f32⟩
  | .hbm, ⟨24, _⟩ => ⟨S3x1x8192x8x1, .f32⟩
  | .hbm, ⟨25, _⟩ => ⟨S1x1x8192x8x128, .f32⟩
  | .hbm, ⟨26, _⟩ => ⟨S1x1x8192x8x128, .f32⟩
  | .hbm, ⟨27, _⟩ => ⟨S1x1x8192x8x128, .f32⟩
  | .hbm, ⟨28, _⟩ => ⟨S3x1x8192x8x128, .f32⟩
  | .hbm, ⟨29, _⟩ => ⟨S3x1x8192x8x128, .f32⟩
  | .hbm, ⟨30, _⟩ => ⟨S3x1x8192x8x128, .f32⟩
  | .hbm, ⟨31, _⟩ => ⟨S_, .f32⟩
  | .hbm, ⟨32, _⟩ => ⟨S1x8192x8x128, .f32⟩
  | .hbm, ⟨33, _⟩ => ⟨S8192x1024, .f32⟩
  | .hbm, ⟨34, _⟩ => ⟨S8192x1024, .bf16⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== FfnUp.lean ====
abbrev S8192x2048 : Shape := ⟨2, ![8192, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x8192x704 : Shape := ⟨3, ![8, 8192, 704]⟩
abbrev S1024x2048 : Shape := ⟨2, ![1024, 2048]⟩
abbrev S1x2048x704 : Shape := ⟨3, ![1, 2048, 704]⟩
abbrev S1x1024x704 : Shape := ⟨3, ![1, 1024, 704]⟩
abbrev S256x2048 : Shape := ⟨2, ![256, 2048]⟩
abbrev S2048x704 : Shape := ⟨2, ![2048, 704]⟩
abbrev S256x704 : Shape := ⟨2, ![256, 704]⟩
abbrev S1x256x704 : Shape := ⟨3, ![1, 256, 704]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S2048x8x704, .bf16⟩
  | .hbm, ⟨4, _⟩ => ⟨S8x2048x704, .bf16⟩
  | .hbm, ⟨5, _⟩ => ⟨S2048x8x704, .bf16⟩
  | .hbm, ⟨6, _⟩ => ⟨S8x2048x704, .bf16⟩
  | .hbm, ⟨7, _⟩ => ⟨S8x8192x704, .bf16⟩
  | .hbm, ⟨8, _⟩ => ⟨S8x8192x704, .bf16⟩
  | .hbm, ⟨9, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x2048 : Shape := ⟨2, ![8192, 2048]⟩
abbrev S2048x5632 : Shape := ⟨2, ![2048, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .bf16⟩
  | .hbm, ⟨9, _⟩ => ⟨S8192x8x704, .bf16⟩
  | .hbm, ⟨10, _⟩ => ⟨S8x8192x704, .bf16⟩
  | .hbm, ⟨11, _⟩ => ⟨S8192x5632, .bf16⟩
  | .hbm, ⟨12, _⟩ => ⟨S8192x8x704, .bf16⟩
  | .hbm, ⟨13, _⟩ => ⟨S8x8192x704, .bf16⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .bf16⟩
  | .hbm, ⟨25, _⟩ => ⟨S8192x8x704, .bf16⟩
  | .hbm, ⟨26, _⟩ => ⟨S8x8192x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S8192x8x704 : Shape := ⟨3, ![8192, 8, 704]⟩
abbrev S8x8192x704 : Shape := ⟨3, ![8, 8192, 704]⟩
abbrev S8x704x2048 : Shape := ⟨3, ![8, 704, 2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S8192x8x704, .bf16⟩
  | .hbm, ⟨5, _⟩ => ⟨S8x8192x704, .bf16⟩
  | .hbm, ⟨6, _⟩ => ⟨S8x704x2048, .bf16⟩
  | .hbm, ⟨7, _⟩ => ⟨S1x2048, .f32⟩
  | .hbm, ⟨8, _⟩ => ⟨S8192x2048, .f32⟩
  | .hbm, ⟨9, _⟩ => ⟨S8192x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== QkFwd.lean ====
abbrev S1x8192 : Shape := ⟨2, ![1, 8192]⟩
abbrev S1x8192x8x192 : Shape := ⟨4, ![1, 8192, 8, 192]⟩
abbrev S1x8192x8x256 : Shape := ⟨4, ![1, 8192, 8, 256]⟩
abbrev S1x8192x64 : Shape := ⟨3, ![1, 8192, 64]⟩
abbrev S8192x8x192 : Shape := ⟨3, ![8192, 8, 192]⟩
abbrev S_ : Shape := ⟨0, ![]⟩
abbrev S8192x8x256 : Shape := ⟨3, ![8192, 8, 256]⟩
abbrev S8192x2048 : Shape := ⟨2, ![8192, 2048]⟩
abbrev S8192x8x128 : Shape := ⟨3, ![8192, 8, 128]⟩
abbrev S8192x1024 : Shape := ⟨2, ![8192, 1024]⟩
abbrev S8192x64 : Shape := ⟨2, ![8192, 64]⟩
abbrev S8192x128 : Shape := ⟨2, ![8192, 128]⟩
abbrev S8192 : Shape := ⟨1, ![8192]⟩
abbrev S8192x1 : Shape := ⟨2, ![8192, 1]⟩
abbrev S32 : Shape := ⟨1, ![32]⟩
abbrev S1x32 : Shape := ⟨2, ![1, 32]⟩
abbrev S8192x32 : Shape := ⟨2, ![8192, 32]⟩
abbrev S16 : Shape := ⟨1, ![16]⟩
abbrev S1x16 : Shape := ⟨2, ![1, 16]⟩
abbrev S8192x16 : Shape := ⟨2, ![8192, 16]⟩
abbrev S8192x96 : Shape := ⟨2, ![8192, 96]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 76
  | .vmem => 14
  | .smem => 0
  | _ => 0

abbrev bufTy : (tb : Table) → Fin (tcTables nBuf tb) → BufTy
  | .hbm, ⟨0, _⟩ => ⟨S1x8192, .i32⟩
  | .hbm, ⟨1, _⟩ => ⟨S1x8192x8x192, .f32⟩
  | .hbm, ⟨2, _⟩ => ⟨S1x8192x8x256, .bf16⟩
  | .hbm, ⟨3, _⟩ => ⟨S1x8192x64, .bf16⟩
  | .hbm, ⟨4, _⟩ => ⟨S8192x8x192, .f32⟩
  | .hbm, ⟨5, _⟩ => ⟨S_, .i32⟩
  | .hbm, ⟨6, _⟩ => ⟨S_, .f32⟩
  | .hbm, ⟨7, _⟩ => ⟨S8192x8x256, .f32⟩
  | .hbm, ⟨8, _⟩ => ⟨S8192x2048, .f32⟩
  | .hbm, ⟨9, _⟩ => ⟨S8192x8x256, .bf16⟩
  | .hbm, ⟨10, _⟩ => ⟨S8192x8x128, .bf16⟩
  | .hbm, ⟨11, _⟩ => ⟨S8192x1024, .bf16⟩
  | .hbm, ⟨12, _⟩ => ⟨S8192x8x128, .bf16⟩
  | .hbm, ⟨13, _⟩ => ⟨S8192x1024, .bf16⟩
  | .hbm, ⟨14, _⟩ => ⟨S8192x2048, .bf16⟩
  | .hbm, ⟨15, _⟩ => ⟨S8192x64, .bf16⟩
  | .hbm, ⟨16, _⟩ => ⟨S_, .i32⟩
  | .hbm, ⟨17, _⟩ => ⟨S_, .bf16⟩
  | .hbm, ⟨18, _⟩ => ⟨S8192x128, .bf16⟩
  | .hbm, ⟨19, _⟩ => ⟨S8192, .i32⟩
  | .hbm, ⟨20, _⟩ => ⟨S8192, .f32⟩
  | .hbm, ⟨21, _⟩ => ⟨S8192x1, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S1x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S_, .f32⟩
  | .hbm, ⟨63, _⟩ => ⟨S8192x64, .f32⟩
  | .hbm, ⟨64, _⟩ => ⟨S8192x128, .f32⟩
  | .hbm, ⟨65, _⟩ => ⟨S_, .f32⟩
  | .hbm, ⟨66, _⟩ => ⟨S8192x64, .f32⟩
  | .hbm, ⟨67, _⟩ => ⟨S8192x128, .f32⟩
  | .hbm, ⟨68, _⟩ => ⟨S_, .f32⟩
  | .hbm, ⟨69, _⟩ => ⟨S8192x96, .f32⟩
  | .hbm, ⟨70, _⟩ => ⟨S8192x128, .f32⟩
  | .hbm, ⟨71, _⟩ => ⟨S_, .f32⟩
  | .hbm, ⟨72, _⟩ => ⟨S8192x96, .f32⟩
  | .hbm, ⟨73, _⟩ => ⟨S8192x128, .f32⟩
  | .hbm, ⟨74, _⟩ => ⟨S8192x2048, .bf16⟩
  | .hbm, ⟨75, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x128, .bf16⟩
  | .local _ .vmem, ⟨5, _⟩ => ⟨S256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54_0 : Ref sig .tc := ⟨.hbm, 74, rfl⟩
abbrev main_v54_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkFwdRefIdeal.lean ====
abbrev S1x8192 : Shape := ⟨2, ![1, 8192]⟩
abbrev S1x8192x8x192 : Shape := ⟨4, ![1, 8192, 8, 192]⟩
abbrev S1x8192x8x256 : Shape := ⟨4, ![1, 8192, 8, 256]⟩
abbrev S1x8192x64 : Shape := ⟨3, ![1, 8192, 64]⟩
abbrev S32 : Shape := ⟨1, ![32]⟩
abbrev S_ : Shape := ⟨0, ![]⟩
abbrev S1x8192x1 : Shape := ⟨3, ![1, 8192, 1]⟩
abbrev S1x1x32 : Shape := ⟨3, ![1, 1, 32]⟩
abbrev S1x8192x32 : Shape := ⟨3, ![1, 8192, 32]⟩
abbrev S1x8192x8x128 : Shape := ⟨4, ![1, 8192, 8, 128]⟩
abbrev S1x8192x8x64 : Shape := ⟨4, ![1, 8192, 8, 64]⟩
abbrev S1x8192x1x32 : Shape := ⟨4, ![1, 8192, 1, 32]⟩
abbrev S1x8192x8x32 : Shape := ⟨4, ![1, 8192, 8, 32]⟩
abbrev S1x8192x1x64 : Shape := ⟨4, ![1, 8192, 1, 64]⟩
abbrev S8192x2048 : Shape := ⟨2, ![8192, 2048]⟩

abbrev nBuf : Space → Nat
  | .hbm => 60
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S1x8192x8x192, .f32⟩
  | .hbm, ⟨2, _⟩ => ⟨S1x8192x8x256, .bf16⟩
  | .hbm, ⟨3, _⟩ => ⟨S1x8192x64, .bf16⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x8192, .f32⟩
  | .hbm, ⟨19, _⟩ => ⟨S1x8192x1, .f32⟩
  | .hbm, ⟨20, _⟩ => ⟨S1x1x32, .f32⟩
  | .hbm, ⟨21, _⟩ => ⟨S1x8192x32, .f32⟩
  | .hbm, ⟨22, _⟩ => ⟨S1x8192x32, .f32⟩
  | .hbm, ⟨23, _⟩ => ⟨S1x8192x32, .f32⟩
  | .hbm, ⟨24, _⟩ => ⟨S1x8192x32, .f32⟩
  | .hbm, ⟨25, _⟩ => ⟨S1x8192x32, .f32⟩
  | .hbm, ⟨26, _⟩ => ⟨S1x8192x8x128, .f32⟩
  | .hbm, ⟨27, _⟩ => ⟨S1x8192x8x64, .f32⟩
  | .hbm, ⟨28, _⟩ => ⟨S1x8192x1x32, .f32⟩
  | .hbm, ⟨29, _⟩ => ⟨S1x8192x1x32, .f32⟩
  | .hbm, ⟨30, _⟩ => ⟨S1x8192x8x32, .f32⟩
  | .hbm, ⟨31, _⟩ => ⟨S1x8192x8x32, .f32⟩
  | .hbm, ⟨32, _⟩ => ⟨S1x8192x8x32, .f32⟩
  | .hbm, ⟨33, _⟩ => ⟨S1x8192x8x32, .f32⟩
  | .hbm, ⟨34, _⟩ => ⟨S1x8192x8x32, .f32⟩
  | .hbm, ⟨35, _⟩ => ⟨S1x8192x8x32, .f32⟩
  | .hbm, ⟨36, _⟩ => ⟨S1x8192x8x32, .f32⟩
  | .hbm, ⟨37, _⟩ => ⟨S1x8192x8x32, .f32⟩
  | .hbm, ⟨38, _⟩ => ⟨S1x8192x8x32, .f32⟩
  | .hbm, ⟨39, _⟩ => ⟨S1x8192x8x32, .f32⟩
  | .hbm, ⟨40, _⟩ => ⟨S1x8192x8x32, .f32⟩
  | .hbm, ⟨41, _⟩ => ⟨S1x8192x8x32, .f32⟩
  | .hbm, ⟨42, _⟩ => ⟨S1x8192x8x64, .f32⟩
  | .hbm, ⟨43, _⟩ => ⟨S1x8192x64, .f32⟩
  | .hbm, ⟨44, _⟩ => ⟨S1x8192x1x64, .f32⟩
  | .hbm, ⟨45, _⟩ => ⟨S1x8192x8x64, .f32⟩
  | .hbm, ⟨46, _⟩ => ⟨S1x8192x8x192, .f32⟩
  | .hbm, ⟨47, _⟩ => ⟨S1x8192x8x128, .bf16⟩
  | .hbm, ⟨48, _⟩ => ⟨S1x8192x8x128, .f32⟩
  | .hbm, ⟨49, _⟩ => ⟨S1x8192x8x192, .f32⟩
  | .hbm, ⟨50, _⟩ => ⟨S_, .i32⟩
  | .hbm, ⟨51, _⟩ => ⟨S_, .f32⟩
  | .hbm, ⟨52, _⟩ => ⟨S1x8192x8x256, .f32⟩
  | .hbm, ⟨53, _⟩ => ⟨S8192x2048, .f32⟩
  | .hbm, ⟨54, _⟩ => ⟨S8192x2048, .bf16⟩
  | .hbm, ⟨55, _⟩ => ⟨S_, .i32⟩
  | .hbm, ⟨56, _⟩ => ⟨S_, .f32⟩
  | .hbm, ⟨57, _⟩ => ⟨S1x8192x8x256, .f32⟩
  | .hbm, ⟨58, _⟩ => ⟨S8192x2048, .f32⟩
  | .hbm, ⟨59, _⟩ => ⟨S8192x2048, .bf16⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_call0_v0 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_3 : Ref sig .tc := ⟨.hbm, 55, rfl⟩
abbrev main_call1_v0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== MmNn.lean ====
abbrev S8192x2048 : Shape := ⟨2, ![8192, 2048]⟩
abbrev S2048x4160 : Shape := ⟨2, ![2048, 4160]⟩
abbrev S2048x1024 : Shape := ⟨2, ![2048, 1024]⟩
abbrev S2048x3072 : Shape := ⟨2, ![2048, 3072]⟩
abbrev S2048x64 : Shape := ⟨2, ![2048, 64]⟩
abbrev S_ : Shape := ⟨0, ![]⟩
abbrev S2048x4224 : Shape := ⟨2, ![2048, 4224]⟩
abbrev S8192x4224 : Shape := ⟨2, ![8192, 4224]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4160, .bf16⟩
  | .hbm, ⟨2, _⟩ => ⟨S2048x1024, .bf16⟩
  | .hbm, ⟨3, _⟩ => ⟨S2048x3072, .bf16⟩
  | .hbm, ⟨4, _⟩ => ⟨S2048x64, .bf16⟩
  | .hbm, ⟨5, _⟩ => ⟨S_, .bf16⟩
  | .hbm, ⟨6, _⟩ => ⟨S2048x64, .bf16⟩
  | .hbm, ⟨7, _⟩ => ⟨S2048x4224, .bf16⟩
  | .hbm, ⟨8, _⟩ => ⟨S8192x4224, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNnRefIdeal.lean ====
abbrev S8192x2048 : Shape := ⟨2, ![8192, 2048]⟩
abbrev S2048x4160 : Shape := ⟨2, ![2048, 4160]⟩
abbrev S8192x4160 : Shape := ⟨2, ![8192, 4160]⟩
abbrev S8192x1024 : Shape := ⟨2, ![8192, 1024]⟩
abbrev S8192x3072 : Shape := ⟨2, ![8192, 3072]⟩
abbrev S8192x64 : Shape := ⟨2, ![8192, 64]⟩
abbrev S_ : Shape := ⟨0, ![]⟩
abbrev S8192x4224 : Shape := ⟨2, ![8192, 4224]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4160, .bf16⟩
  | .hbm, ⟨2, _⟩ => ⟨S8192x2048, .f32⟩
  | .hbm, ⟨3, _⟩ => ⟨S2048x4160, .f32⟩
  | .hbm, ⟨4, _⟩ => ⟨S8192x4160, .f32⟩
  | .hbm, ⟨5, _⟩ => ⟨S8192x1024, .f32⟩
  | .hbm, ⟨6, _⟩ => ⟨S8192x3072, .f32⟩
  | .hbm, ⟨7, _⟩ => ⟨S8192x64, .f32⟩
  | .hbm, ⟨8, _⟩ => ⟨S8192x4160, .f32⟩
  | .hbm, ⟨9, _⟩ => ⟨S_, .i32⟩
  | .hbm, ⟨10, _⟩ => ⟨S_, .f32⟩
  | .hbm, ⟨11, _⟩ => ⟨S8192x4224, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MmNt.lean ====
abbrev S8192x4160 : Shape := ⟨2, ![8192, 4160]⟩
abbrev S2048x4160 : Shape := ⟨2, ![2048, 4160]⟩
abbrev S8192x1024 : Shape := ⟨2, ![8192, 1024]⟩
abbrev S8192x3072 : Shape := ⟨2, ![8192, 3072]⟩
abbrev S8192x64 : Shape := ⟨2, ![8192, 64]⟩
abbrev S_ : Shape := ⟨0, ![]⟩
abbrev S8192x4224 : Shape := ⟨2, ![8192, 4224]⟩
abbrev S2048x1024 : Shape := ⟨2, ![2048, 1024]⟩
abbrev S2048x3072 : Shape := ⟨2, ![2048, 3072]⟩
abbrev S2048x64 : Shape := ⟨2, ![2048, 64]⟩
abbrev S2048x4224 : Shape := ⟨2, ![2048, 4224]⟩
abbrev S8192x2048 : Shape := ⟨2, ![8192, 2048]⟩
abbrev S1024x1408 : Shape := ⟨2, ![1024, 1408]⟩
abbrev S2048x1408 : Shape := ⟨2, ![2048, 1408]⟩
abbrev S1024x2048 : Shape := ⟨2, ![1024, 2048]⟩

abbrev nBuf : Space → Nat
  | .hbm => 17
  | .vmem => 7
  | .smem => 0
  | _ => 0

abbrev bufTy : (tb : Table) → Fin (tcTables nBuf tb) → BufTy
  | .hbm, ⟨0, _⟩ => ⟨S8192x4160, .bf16⟩
  | .hbm, ⟨1, _⟩ => ⟨S2048x4160, .bf16⟩
  | .hbm, ⟨2, _⟩ => ⟨S8192x1024, .bf16⟩
  | .hbm, ⟨3, _⟩ => ⟨S8192x3072, .bf16⟩
  | .hbm, ⟨4, _⟩ => ⟨S8192x64, .bf16⟩
  | .hbm, ⟨5, _⟩ => ⟨S8192x4160, .bf16⟩
  | .hbm, ⟨6, _⟩ => ⟨S_, .i32⟩
  | .hbm, ⟨7, _⟩ => ⟨S_, .bf16⟩
  | .hbm, ⟨8, _⟩ => ⟨S8192x4224, .bf16⟩
  | .hbm, ⟨9, _⟩ => ⟨S2048x1024, .bf16⟩
  | .hbm, ⟨10, _⟩ => ⟨S2048x3072, .bf16⟩
  | .hbm, ⟨11, _⟩ => ⟨S2048x64, .bf16⟩
  | .hbm, ⟨12, _⟩ => ⟨S2048x4160, .bf16⟩
  | .hbm, ⟨13, _⟩ => ⟨S_, .i32⟩
  | .hbm, ⟨14, _⟩ => ⟨S_, .bf16⟩
  | .hbm, ⟨15, _⟩ => ⟨S2048x4224, .bf16⟩
  | .hbm, ⟨16, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x4160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmNtRefIdeal.lean ====
abbrev S8192x4160 : Shape := ⟨2, ![8192, 4160]⟩
abbrev S2048x4160 : Shape := ⟨2, ![2048, 4160]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4160, .bf16⟩
  | .hbm, ⟨1, _⟩ => ⟨S2048x4160, .bf16⟩
  | .hbm, ⟨2, _⟩ => ⟨S_, .f32⟩
  | .hbm, ⟨3, _⟩ => ⟨S8192x2048, .f32⟩
  | .hbm, ⟨4, _⟩ => ⟨S2048x4160, .f32⟩
  | .hbm, ⟨5, _⟩ => ⟨S8192x4160, .f32⟩
  | .hbm, ⟨6, _⟩ => ⟨S8192x4160, .f32⟩
  | .hbm, ⟨7, _⟩ => ⟨S8192x2048, .f32⟩
  | _, _ => ⟨S8192x4160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmTn.lean ====
abbrev S8192x2048 : Shape := ⟨2, ![8192, 2048]⟩
abbrev S8192x4160 : Shape := ⟨2, ![8192, 4160]⟩
abbrev S8192x1024 : Shape := ⟨2, ![8192, 1024]⟩
abbrev S8192x3072 : Shape := ⟨2, ![8192, 3072]⟩
abbrev S8192x64 : Shape := ⟨2, ![8192, 64]⟩
abbrev S_ : Shape := ⟨0, ![]⟩
abbrev S8192x4224 : Shape := ⟨2, ![8192, 4224]⟩
abbrev S2048x4224 : Shape := ⟨2, ![2048, 4224]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4160, .bf16⟩
  | .hbm, ⟨2, _⟩ => ⟨S8192x1024, .bf16⟩
  | .hbm, ⟨3, _⟩ => ⟨S8192x3072, .bf16⟩
  | .hbm, ⟨4, _⟩ => ⟨S8192x64, .bf16⟩
  | .hbm, ⟨5, _⟩ => ⟨S8192x4160, .bf16⟩
  | .hbm, ⟨6, _⟩ => ⟨S_, .i32⟩
  | .hbm, ⟨7, _⟩ => ⟨S_, .bf16⟩
  | .hbm, ⟨8, _⟩ => ⟨S8192x4224, .bf16⟩
  | .hbm, ⟨9, _⟩ => ⟨S2048x4224, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmTnRefIdeal.lean ====
abbrev S8192x2048 : Shape := ⟨2, ![8192, 2048]⟩
abbrev S8192x4160 : Shape := ⟨2, ![8192, 4160]⟩
abbrev S_ : Shape := ⟨0, ![]⟩
abbrev S2048x4160 : Shape := ⟨2, ![2048, 4160]⟩
abbrev S4160x2048 : Shape := ⟨2, ![4160, 2048]⟩
abbrev S2048x1024 : Shape := ⟨2, ![2048, 1024]⟩
abbrev S2048x3072 : Shape := ⟨2, ![2048, 3072]⟩
abbrev S2048x64 : Shape := ⟨2, ![2048, 64]⟩
abbrev S2048x4224 : Shape := ⟨2, ![2048, 4224]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4160, .bf16⟩
  | .hbm, ⟨2, _⟩ => ⟨S8192x2048, .f32⟩
  | .hbm, ⟨3, _⟩ => ⟨S_, .f32⟩
  | .hbm, ⟨4, _⟩ => ⟨S2048x4160, .f32⟩
  | .hbm, ⟨5, _⟩ => ⟨S8192x4160, .f32⟩
  | .hbm, ⟨6, _⟩ => ⟨S8192x4160, .f32⟩
  | .hbm, ⟨7, _⟩ => ⟨S4160x2048, .f32⟩
  | .hbm, ⟨8, _⟩ => ⟨S2048x4160, .f32⟩
  | .hbm, ⟨9, _⟩ => ⟨S2048x1024, .f32⟩
  | .hbm, ⟨10, _⟩ => ⟨S2048x3072, .f32⟩
  | .hbm, ⟨11, _⟩ => ⟨S2048x64, .f32⟩
  | .hbm, ⟨12, _⟩ => ⟨S2048x4160, .f32⟩
  | .hbm, ⟨13, _⟩ => ⟨S_, .i32⟩
  | .hbm, ⟨14, _⟩ => ⟨S_, .f32⟩
  | .hbm, ⟨15, _⟩ => ⟨S2048x4224, .f32⟩
  | .hbm, ⟨16, _⟩ => ⟨S2048x4224, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MmTnA.lean ====
abbrev S8192x5632 : Shape := ⟨2, ![8192, 5632]⟩
abbrev S8192x2048 : Shape := ⟨2, ![8192, 2048]⟩
abbrev S8192x8x704 : Shape := ⟨3, ![8192, 8, 704]⟩
abbrev S8x8192x704 : Shape := ⟨3, ![8, 8192, 704]⟩
abbrev S8x704x2048 : Shape := ⟨3, ![8, 704, 2048]⟩
abbrev S1x2048x704 : Shape := ⟨3, ![1, 2048, 704]⟩
abbrev S2048x2048 : Shape := ⟨2, ![2048, 2048]⟩
abbrev S1x704x2048 : Shape := ⟨3, ![1, 704, 2048]⟩
abbrev S704x2048 : Shape := ⟨2, ![704, 2048]⟩
abbrev S2048x704 : Shape := ⟨2, ![2048, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x8x704, .bf16⟩
  | .hbm, ⟨3, _⟩ => ⟨S8x8192x704, .bf16⟩
  | .hbm, ⟨4, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S2048x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmTnARefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S_, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S8x704x2048, .f32⟩
  | .hbm, ⟨10, _⟩ => ⟨S8x704x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MmTnB.lean ====
abbrev S8192x2048 : Shape := ⟨2, ![8192, 2048]⟩
abbrev S8192x5632 : Shape := ⟨2, ![8192, 5632]⟩
abbrev S8192x8x704 : Shape := ⟨3, ![8192, 8, 704]⟩
abbrev S8x8192x704 : Shape := ⟨3, ![8, 8192, 704]⟩
abbrev S8x2048x704 : Shape := ⟨3, ![8, 2048, 704]⟩
abbrev S2048x2048 : Shape := ⟨2, ![2048, 2048]⟩
abbrev S1x2048x704 : Shape := ⟨3, ![1, 2048, 704]⟩
abbrev S2048x704 : Shape := ⟨2, ![2048, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x8x704, .bf16⟩
  | .hbm, ⟨3, _⟩ => ⟨S8x8192x704, .bf16⟩
  | .hbm, ⟨4, _⟩ => ⟨S8x2048x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmTnBRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x8x704, .f32⟩
  | .hbm, ⟨10, _⟩ => ⟨S8x2048x704, .f32⟩
  | .hbm, ⟨11, _⟩ => ⟨S8x2048x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Adam.lean ====
abbrev S8x2048x704 : Shape := ⟨3, ![8, 2048, 704]⟩
abbrev S4x2048x704 : Shape := ⟨3, ![4, 2048, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 11
  | .vmem => 22
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x2048x704, .bf16⟩
  | .hbm, ⟨3, _⟩ => ⟨S8x2048x704, .bf16⟩
  | .hbm, ⟨4, _⟩ => ⟨S4x2048x704, .f32⟩
  | .hbm, ⟨5, _⟩ => ⟨S4x2048x704, .f32⟩
  | .hbm, ⟨6, _⟩ => ⟨S4x2048x704, .f32⟩
  | .hbm, ⟨7, _⟩ => ⟨S4x2048x704, .f32⟩
  | .hbm, ⟨8, _⟩ => ⟨S4x2048x704, .f32⟩
  | .hbm, ⟨9, _⟩ => ⟨S4x2048x704, .f32⟩
  | .hbm, ⟨10, _⟩ => ⟨S4x2048x704, .f32⟩
  | .local _ .vmem, ⟨0, _⟩ => ⟨S8x128x704, .bf16⟩
  | .local _ .vmem, ⟨1, _⟩ => ⟨S8x128x704, .bf16⟩
  | .local _ .vmem, ⟨2, _⟩ => ⟨S8x128x704, .bf16⟩
  | .local _ .vmem, ⟨3, _⟩ => ⟨S8x128x704, .bf16⟩
  | .local _ .vmem, ⟨4, _⟩ => ⟨S8x128x704, .bf16⟩
  | .local _ .vmem, ⟨5, _⟩ => ⟨S8x128x704, .bf16⟩
  | .local _ .vmem, ⟨6, _⟩ => ⟨S8x128x704, .bf16⟩
  | .local _ .vmem, ⟨7, _⟩ => ⟨S8x128x704, .bf16⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | .local _ .vmem, ⟨17, _⟩ => ⟨S1x128x704, .f32⟩
  | .local _ .vmem, ⟨18, _⟩ => ⟨S1x128x704, .f32⟩
  | .local _ .vmem, ⟨19, _⟩ => ⟨S1x128x704, .f32⟩
  | .local _ .vmem, ⟨20, _⟩ => ⟨S1x128x704, .f32⟩
  | .local _ .vmem, ⟨21, _⟩ => ⟨S1x128x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c15_i32 : BitVec 32 := 15#32
  let c0_i32_1 : BitVec 32 := 0#32
  let v2 : BitVec 32 := Scalar.select v1 c15_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamRefIdeal.lean ====
abbrev S8x2048x704 : Shape := ⟨3, ![8, 2048, 704]⟩
abbrev S4x2048x704 : Shape := ⟨3, ![4, 2048, 704]⟩
abbrev S_ : Shape := ⟨0, ![]⟩
abbrev S2048x704 : Shape := ⟨2, ![2048, 704]⟩
abbrev S1x2048x704 : Shape := ⟨3, ![1, 2048, 704]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x2048x704, .bf16⟩
  | .hbm, ⟨3, _⟩ => ⟨S8x2048x704, .bf16⟩
  | .hbm, ⟨4, _⟩ => ⟨S4x2048x704, .f32⟩
  | .hbm, ⟨5, _⟩ => ⟨S4x2048x704, .f32⟩
  | .hbm, ⟨6, _⟩ => ⟨S4x2048x704, .f32⟩
  | .hbm, ⟨7, _⟩ => ⟨S8x2048x704, .f32⟩
  | .hbm, ⟨8, _⟩ => ⟨S_, .f32⟩
  | .hbm, ⟨9, _⟩ => ⟨S2048x704, .f32⟩
  | .hbm, ⟨10, _⟩ => ⟨S8x2048x704, .f32⟩
  | .hbm, ⟨11, _⟩ => ⟨S_, .f32⟩
  | .hbm, ⟨12, _⟩ => ⟨S2048x704, .f32⟩
  | .hbm, ⟨13, _⟩ => ⟨S8x2048x704, .f32⟩
  | .hbm, ⟨14, _⟩ => ⟨S_, .f32⟩
  | .hbm, ⟨15, _⟩ => ⟨S2048x704, .f32⟩
  | .hbm, ⟨16, _⟩ => ⟨S8x2048x704, .f32⟩
  | .hbm, ⟨17, _⟩ => ⟨S_, .f32⟩
  | .hbm, ⟨18, _⟩ => ⟨S2048x704, .f32⟩
  | .hbm, ⟨19, _⟩ => ⟨S1x2048x704, .f32⟩
  | .hbm, ⟨20, _⟩ => ⟨S1x2048x704, .f32⟩
  | .hbm, ⟨21, _⟩ => ⟨S1x2048x704, .f32⟩
  | .hbm, ⟨22, _⟩ => ⟨S1x2048x704, .f32⟩
  | .hbm, ⟨23, _⟩ => ⟨S4x2048x704, .f32⟩
  | .hbm, ⟨24, _⟩ => ⟨S_, .f32⟩
  | .hbm, ⟨25, _⟩ => ⟨S4x2048x704, .f32⟩
  | .hbm, ⟨26, _⟩ => ⟨S4x2048x704, .f32⟩
  | .hbm, ⟨27, _⟩ => ⟨S_, .f32⟩
  | .hbm, ⟨28, _⟩ => ⟨S4x2048x704, .f32⟩
  | .hbm, ⟨29, _⟩ => ⟨S4x2048x704, .f32⟩
  | .hbm, ⟨30, _⟩ => ⟨S4x2048x704, .f32⟩
  | .hbm, ⟨31, _⟩ => ⟨S_, .f32⟩
  | .hbm, ⟨32, _⟩ => ⟨S4x2048x704, .f32⟩
  | .hbm, ⟨33, _⟩ => ⟨S4x2048x704, .f32⟩
  | .hbm, ⟨34, _⟩ => ⟨S4x2048x704, .f32⟩
  | .hbm, ⟨35, _⟩ => ⟨S_, .f32⟩
  | .hbm, ⟨36, _⟩ => ⟨S4x2048x704, .f32⟩
  | .hbm, ⟨37, _⟩ => ⟨S4x2048x704, .f32⟩
  | .hbm, ⟨38, _⟩ => ⟨S4x2048x704, .f32⟩
  | .hbm, ⟨39, _⟩ => ⟨S_, .f32⟩
  | .hbm, ⟨40, _⟩ => ⟨S4x2048x704, .f32⟩
  | .hbm, ⟨41, _⟩ => ⟨S4x2048x704, .f32⟩
  | .hbm, ⟨42, _⟩ => ⟨S_, .f32⟩
  | .hbm, ⟨43, _⟩ => ⟨S4x2048x704, .f32⟩
  | .hbm, ⟨44, _⟩ => ⟨S4x2048x704, .f32⟩
  | .hbm, ⟨45, _⟩ => ⟨S4x2048x704, .f32⟩
  | .hbm, ⟨46, _⟩ => ⟨S_, .f32⟩
  | .hbm, ⟨47, _⟩ => ⟨S4x2048x704, .f32⟩
  | .hbm, ⟨48, _⟩ => ⟨S4x2048x704, .f32⟩
  | .hbm, ⟨49, _⟩ => ⟨S4x2048x704, .f32⟩
  | .hbm, ⟨50, _⟩ => ⟨S_, .f32⟩
  | .hbm, ⟨51, _⟩ => ⟨S4x2048x704, .f32⟩
  | .hbm, ⟨52, _⟩ => ⟨S4x2048x704, .f32⟩
  | .hbm, ⟨53, _⟩ => ⟨S4x2048x704, .f32⟩
  | .hbm, ⟨54, _⟩ => ⟨S_, .f32⟩
  | .hbm, ⟨55, _⟩ => ⟨S4x2048x704, .f32⟩
  | .hbm, ⟨56, _⟩ => ⟨S4x2048x704, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Reals.lean ====
/-
  Real numbers inside the extended reals: what every value proof of this directory needs. A finite argument array is
  the image of an array of real numbers; sums, quotients by a nonzero number, and the reciprocal root of a positive
  number of real numbers are real numbers again; and the constants of the programs are these real numbers.
-/
module

public import Idealize.ShloMosaic.Lib.Pointwise
public import Idealize.ShloMosaic.PureOps.Ideal
public import Idealize.ShloMosaic.PureOps.Ideal.Laws
public import Mathlib.Tactic.FieldSimp
public import Mathlib.Tactic.Ring
public import Mathlib.Tactic.Positivity

@[expose] public section

noncomputable section

namespace Cert.Reals

open Idealize.ShloMosaic

/-- Zero offsets of a rank-2 access, as a constant function. -/
theorem hz2 : (![0, 0] : Fin 2 → Nat) = fun _ => 0 := funext fun a => by fin_cases a <;> rfl

/-- A finite sum of real numbers, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- A sum over `N = B * L` numbers taken block by block. -/
theorem sum_blocks {M : Type*} [AddCommMonoid M] (B L N : ℕ) (hN : B * L = N) (f : Fin N → M) :
    ∑ i, f i = ∑ s ∈ Finset.range B, ∑ r : Fin L, (if h : s * L + r.val < N then f ⟨s * L + r.val, h⟩ else 0) := by
  subst hN
  rw [Finset.sum_range, ← Fintype.sum_prod_type', ← finProdFinEquiv.sum_comp]
  refine Finset.sum_congr rfl fun p _ => ?_
  have e : (finProdFinEquiv p).val = p.1.val * L + p.2.val := by rw [finProdFinEquiv_apply_val]; ring
  have h : p.1.val * L + p.2.val < B * L := e ▸ (finProdFinEquiv p).isLt
  rw [dif_pos h]
  exact congrArg f (Fin.ext e)

/-- Division of a real number by a nonzero real number. -/
theorem div_real {y : ℝ} (x : ℝ) (h : y ≠ 0) : Ideal.div (x : EReal) (y : EReal) = ((x / y : ℝ) : EReal) := by
  rw [Ideal.div_coe h, ← EReal.coe_mul, mul_one_div]

/-- The reciprocal root of a positive real number. -/
theorem rsqrt_real {v : ℝ} (h : 0 < v) : Ideal.rsqrt (v : EReal) = (((Real.sqrt v)⁻¹ : ℝ) : EReal) := by
  rw [Ideal.rsqrt_coe, if_neg (not_lt.mpr h.le), if_neg h.ne']

/-- The word of positive infinity. -/
theorem lit_inf : Ideal.ofBits .f32 0x7F800000#32 = ⊤ := by simp [Ideal.ofBits, Ideal.ieee]

/-- The word of positive infinity at sixteen bits. -/
theorem lit_inf16 : Ideal.ofBits .bf16 0x7F80#16 = ⊤ := by simp [Ideal.ofBits, Ideal.ieee]

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul, -EReal.coe_neg]; norm_num

theorem lit_2048 : Ideal.ofBits .f32 0x45000000#32 = ((2048 : ℝ) : EReal) := by
  simp [Ideal.ofBits, Ideal.ieee, -EReal.coe_mul]; norm_num

/-- The number the norm adds under the root: the f32 word nearest to one millionth. -/
def eps : ℝ := 8796093 / 2 ^ 43

theorem eps_pos : 0 < eps := by unfold eps; norm_num

theorem lit_eps : Ideal.ofBits .f32 0x358637BD#32 = (eps : EReal) := by
  unfold eps; simp [Ideal.ofBits, Ideal.ieee, -EReal.coe_mul]; norm_num

/-- An extended real whose absolute value is below infinity is a real number. -/
theorem real_of_abs_lt {x : EReal} (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- An array whose absolute values are all below infinity is an array of real numbers. -/
theorem real_array {s : Shape} (x : s.Idx → EReal) (h : ∀ i, Ideal.cmp .olt (max (x i) (-(x i))) ⊤ = 1#1) :
    ∃ X : s.Idx → ℝ, x = fun i => ((X i : ℝ) : EReal) :=
  ⟨fun i => (real_of_abs_lt (h i)).choose, funext fun i => (real_of_abs_lt (h i)).choose_spec⟩

/-- The preconditions' test of one array, passed: the array is one of real numbers. -/
theorem real_of_test {s s0 : Shape} {φ : FTy} {dims : Fin s0.rank → Fin s.rank} (hb : s0.BroadcastsInDim s dims) (b : BitVec φ.bits)
    (hinf : Ideal.ofBits φ b = ⊤) (x : FVec Ideal s φ)
    (h : cmpf .olt (Host.absf x) (broadcastInDim s dims hb (constant (F := Ideal) s0 φ b)) = fun _ => 1#1) :
    ∃ X : s.Idx → ℝ, x = fun i => ((X i : ℝ) : EReal) :=
  real_array x fun i => by rw [← hinf]; exact congrFun h i

end Cert.Reals

end
-- ==== Proof.RowNorm.lean ====
/-
  The root-mean-square norm of a row of real numbers and its gradient. `scale` is the reciprocal root of the mean of
  the squares (plus the small number), `grad` the gradient with respect to the row as the kernels write it, and
  `vjp_eq` says that the transposed chain of the derivative (the reciprocal root's own derivative is minus one half of
  the reciprocal root over its argument, and the square's is counted twice) is the same number.
-/
module

public import proofs.«01_k».proof.Proof.Reals

@[expose] public section

noncomputable section

namespace Cert.RowNorm

open Idealize.ShloMosaic Cert.Reals

variable {n : ℕ}

/-- The mean of the squares plus the small number, the mean taken over `N` numbers. -/
def meanSq (N : ℝ) (x : Fin n → ℝ) : ℝ := (∑ k, x k * x k) / N + eps

/-- The reciprocal root of `meanSq`. -/
def scale (N : ℝ) (x : Fin n → ℝ) : ℝ := (Real.sqrt (meanSq N x))⁻¹

/-- The gradient of the norm with respect to its row: `t` is the cotangent times the gain. -/
def grad (N : ℝ) (x t : Fin n → ℝ) (j : Fin n) : ℝ :=
  scale N x * t j - x j * (scale N x * scale N x * scale N x) * ((∑ k, t k * x k) / N)

theorem meanSq_pos {N : ℝ} (hN : 0 < N) (x : Fin n → ℝ) : 0 < meanSq N x :=
  add_pos_of_nonneg_of_pos (div_nonneg (Finset.sum_nonneg fun k _ => mul_self_nonneg (x k)) hN.le) eps_pos

/-- The reciprocal root the programs take is `scale`. -/
theorem rsqrt_mean {N : ℝ} (hN : 0 < N) (x : Fin n → ℝ) :
    Ideal.rsqrt (((∑ k, x k * x k) / N + eps : ℝ) : EReal) = ((scale N x : ℝ) : EReal) :=
  rsqrt_real (meanSq_pos hN x)

/-- The cube of the scale is the scale over its mean. -/
theorem cube {N : ℝ} (hN : 0 < N) (x : Fin n → ℝ) : scale N x * scale N x * scale N x = scale N x / meanSq N x := by
  have h := meanSq_pos hN x
  unfold scale
  rw [div_eq_mul_inv, mul_assoc, ← mul_inv, Real.mul_self_sqrt h.le, mul_comm, mul_comm (meanSq N x)⁻¹]

/-- The chain of transposed derivatives gives `grad`. -/
theorem vjp_eq {N : ℝ} (hN : 0 < N) (x t : Fin n → ℝ) (j : Fin n) (s : ℝ) (hs : s = ∑ k, t k * x k) :
    t j * scale N x + x j * (s * (-(1 / 2) * (scale N x / meanSq N x)) / N) + s * (-(1 / 2) * (scale N x / meanSq N x)) / N * x j
      = grad N x t j := by
  unfold grad
  rw [cube hN, hs]
  ring

end Cert.RowNorm

end
-- ==== Proof.PostBlock.lean ====
/-
  The post-norm's backward kernel, one block: what its body computes of a block of 512 rows. The payload of the row
  gradient and the block's part of the gain's gradient as real numbers, and the contents the body leaves in its two
  output windows at the first grid point (case A) and at a later one (case B: the part is added to what was there).
-/
module

public import proofs.«01_k».proof.Proof.RowNorm
public import proofs.«01_k».proof.Proof.Gen.PostIdeal.Value
@[expose] public section
set_option maxRecDepth 16384
noncomputable section
namespace Cert.PostIdeal.Block
open Cert.PostIdeal Cert.PostIdeal.Gen Idealize.ShloMosaic Cert.Reals

/-- The row gradient: the cotangent is halved and multiplied by the gain. -/
theorem pay4_apply (X T : S512x2048.Idx → ℝ) (G : S1x2048.Idx → ℝ) (r : Fin 512) (j : Fin 2048) :
    k0_pay4 (F := Ideal) (fun i => ((X i : ℝ) : EReal)) (fun i => ((G i : ℝ) : EReal)) (fun i => ((T i : ℝ) : EReal)) (ix2 r j)
      = ((RowNorm.grad 2048 (fun k => X (ix2 r k)) (fun k => 1 / 2 * T (ix2 r k) * G (ix2 0 k)) j : ℝ) : EReal) := by
  unfold_payloads
  pointwise
  have h : (0 : ℝ) < 2048 := by norm_num
  simp only [lit_half, lit_2048, lit_eps, ← EReal.coe_mul, coe_sum, div_real _ h.ne', ← EReal.coe_add, RowNorm.rsqrt_mean h, ← EReal.coe_sub]
  rfl

/-- One block's part of the gain's gradient. -/
theorem pay5_apply (X T : S512x2048.Idx → ℝ) (z : Fin 1) (j : Fin 2048) :
    k0_pay5 (F := Ideal) (fun i => ((X i : ℝ) : EReal)) (fun i => ((T i : ℝ) : EReal)) (ix2 z j)
      = ((∑ r : Fin 512, 1 / 2 * T (ix2 r j) * X (ix2 r j) * RowNorm.scale 2048 (fun k => X (ix2 r k)) : ℝ) : EReal) := by
  unfold_payloads
  pointwise
  have h : (0 : ℝ) < 2048 := by norm_num
  simp only [lit_half, lit_2048, lit_eps, ← EReal.coe_mul, coe_sum, div_real _ h.ne', ← EReal.coe_add, RowNorm.rsqrt_mean h]

variable (c : Dev nD) (i : grid0.Coords) (a1 : Memref sig .tc .vmem S512x2048 .f32) (h1 : a1.IsWhole)
  (a2 : Memref sig .tc .vmem S512x2048 .f32) (h2 : a2.IsWhole) (a3 : Memref sig .tc .vmem S1x2048 .f32) (h3 : a3.IsWhole)
  (a4 : Memref sig .tc .vmem S512x2048 .bf16) (h4 : a4.IsWhole) (a5 : Memref sig .tc .vmem S1x2048 .f32) (h5 : a5.IsWhole)
  (x0 x1 : Vec Ideal S512x2048 .f32) (x2 xo : Vec Ideal S1x2048 .f32)

/-- The first point's row gradients. -/
theorem out_A_3 (hc0 : cond0_0 i) (hc1 : ¬cond0_1 i) :
    out0_A_3 c i a1 h1 a2 h2 a3 h3 a4 h4 a5 h5 hc0 hc1 x0 x1 x2 = k0_pay4 x1 x2 x0 := by
  unfold out0_A_3
  rw [View.read_writes_eq_canon _ _ _ (cover0_A_3 c i a1 h1 a2 h2 a3 h3 a4 h4 a5 h5 hc0 hc1 x0 x1 x2)]
  unfold kernelRun0_A
  dsimp only
  sl_unfold_words
  rw [View.canon_unit_zero hz2]
  simp only [View.readAt_eq_ld, h1.read_unread, h2.read_unread, h3.read_unread, View.ld_unit_zero (S := S512x2048) hz2, View.ld_unit_zero (S := S1x2048) hz2]

/-- A later point's row gradients: the same. -/
theorem out_B_3 (hc0 : ¬cond0_0 i) (hc1 : cond0_1 i) :
    out0_B_3 c i a1 h1 a2 h2 a3 h3 a4 h4 a5 h5 hc0 hc1 x0 x1 x2 xo = k0_pay4 x1 x2 x0 := by
  unfold out0_B_3
  rw [View.read_writes_eq_canon _ _ _ (cover0_B_3 c i a1 h1 a2 h2 a3 h3 a4 h4 a5 h5 hc0 hc1 x0 x1 x2 xo)]
  unfold kernelRun0_B
  dsimp only
  sl_unfold_words
  rw [View.canon_unit_zero hz2]
  simp only [View.readAt_eq_ld, h1.read_unread, h2.read_unread, h3.read_unread, View.ld_unit_zero (S := S512x2048) hz2, View.ld_unit_zero (S := S1x2048) hz2]

/-- The first point's gain gradient: the block's part. -/
theorem out_A_4 (hc0 : cond0_0 i) (hc1 : ¬cond0_1 i) :
    out0_A_4 c i a1 h1 a2 h2 a3 h3 a4 h4 a5 h5 hc0 hc1 x0 x1 x2 = k0_pay5 x1 x0 := by
  unfold out0_A_4
  rw [View.read_writes_eq_canon _ _ _ (cover0_A_4 c i a1 h1 a2 h2 a3 h3 a4 h4 a5 h5 hc0 hc1 x0 x1 x2)]
  unfold kernelRun0_A
  dsimp only
  sl_unfold_words
  rw [View.canon_unit_zero hz2]
  simp only [View.readAt_eq_ld, h1.read_unread, h2.read_unread, h3.read_unread, View.ld_unit_zero (S := S512x2048) hz2, View.ld_unit_zero (S := S1x2048) hz2]

/-- A later point's gain gradient: the block's part added to what the window held. -/
theorem out_B_4 (hc0 : ¬cond0_0 i) (hc1 : cond0_1 i) :
    out0_B_4 c i a1 h1 a2 h2 a3 h3 a4 h4 a5 h5 hc0 hc1 x0 x1 x2 xo = addf xo (k0_pay5 x1 x0) := by
  unfold out0_B_4
  rw [View.read_writes_eq_canon _ _ _ (cover0_B_4 c i a1 h1 a2 h2 a3 h3 a4 h4 a5 h5 hc0 hc1 x0 x1 x2 xo)]
  unfold kernelRun0_B
  dsimp only
  sl_unfold_words
  rw [View.canon_unit_zero hz2]
  unfold k0_pay1
  simp only [View.readAt_eq_ld, h1.read_unread, h2.read_unread, h3.read_unread, h5.read_unread, View.ld_unit_zero (S := S512x2048) hz2, View.ld_unit_zero (S := S1x2048) hz2, shapeCast_self]

end Cert.PostIdeal.Block
end
-- ==== Proof.PostValue.lean ====
/-
  The post-norm's backward kernel, the arrays: at finite arguments the first result holds the row gradient of every
  row, the second the sum over all rows of the gain's gradient. The second window stays on the same block at every grid
  point, so its contents after a point are the sum of the parts so far, and its array takes them at the last point.
-/
module

public import proofs.«01_k».proof.Proof.PostBlock

@[expose] public section

set_option maxRecDepth 16384

noncomputable section

namespace Cert.PostIdeal.Result

open Cert.PostIdeal Cert.PostIdeal.Gen Cert.PostIdeal.Block Idealize.ShloMosaic Idealize.ShloMosaic.TcCoe Idealize.SL.Sem Cert.Reals
open Idealize.ShloMosaic.Pipeline (Dat)

variable (m : (ℓ : Loc nD τ sig) → Buf (Elt Ideal) ℓ) (c : Dev nD)
  (Y T : S8192x2048.Idx → ℝ) (G : S2048.Idx → ℝ)
  (hY : m ((c.tc : Thread nD τ).loc main_arg0) = fun i => ((Y i : ℝ) : EReal))
  (hG : m ((c.tc : Thread nD τ).loc main_arg1) = fun i => ((G i : ℝ) : EReal))
  (hT : m ((c.tc : Thread nD τ).loc main_arg2) = fun i => ((T i : ℝ) : EReal))

/-- Row `r` of block `n`, as a row of the array. -/
def rowOf (n : Fin cfg0.N) (r : Fin 512) : Fin 8192 :=
  ⟨n.val * 512 + r.val, by have hN : cfg0.N = 16 := N_0; have := n.isLt; have := r.isLt; omega⟩

/-- The row windows move by one block a point … -/
theorem index_row : ∀ t : Fin cfg0.N, (win0_0.index t 0 = t.val ∧ win0_0.index t 1 = 0) ∧ (win0_1.index t 0 = t.val ∧ win0_1.index t 1 = 0)
    ∧ (win0_3.index t 0 = t.val ∧ win0_3.index t 1 = 0) := by decide +kernel

/-- … and the gain's windows stay. -/
theorem index_stay : ∀ t : Fin cfg0.N, (win0_2.index t 0 = 0 ∧ win0_2.index t 1 = 0) ∧ (win0_4.index t 0 = 0 ∧ win0_4.index t 1 = 0) := by
  decide +kernel

include hT in
/-- Window 0's block: rows of the cotangent. -/
theorem iblk0 (t : Fin cfg0.N) : iblk m c 0 t = fun j : S512x2048.Idx => ((T (ix2 (rowOf t (j 0)) (j 1)) : ℝ) : EReal) := by
  obtain ⟨⟨e0, e1⟩, -, -⟩ := index_row t
  funext j
  unfold iblk
  rw [View.read_apply]
  show V m c main_arg2 _ = _
  rw [V_main_arg2, hT]
  refine congrArg (fun i => ((T i : ℝ) : EReal)) (funext fun a => Fin.ext ?_)
  match a with
  | ⟨0, _⟩ => show win0_0.index t 0 * 512 + 1 * (j 0).val = t.val * 512 + (j 0).val; rw [e0]; omega
  | ⟨1, _⟩ => show win0_0.index t 1 * 2048 + 1 * (j 1).val = (j 1).val; rw [e1]; omega

include hY in
/-- Window 1's block: rows of the norm's argument. -/
theorem iblk1 (t : Fin cfg0.N) : iblk m c 1 t = fun j : S512x2048.Idx => ((Y (ix2 (rowOf t (j 0)) (j 1)) : ℝ) : EReal) := by
  obtain ⟨-, ⟨e0, e1⟩, -⟩ := index_row t
  funext j
  unfold iblk
  rw [View.read_apply]
  show V m c main_arg0 _ = _
  rw [V_main_arg0, hY]
  refine congrArg (fun i => ((Y i : ℝ) : EReal)) (funext fun a => Fin.ext ?_)
  match a with
  | ⟨0, _⟩ => show win0_1.index t 0 * 512 + 1 * (j 0).val = t.val * 512 + (j 0).val; rw [e0]; omega
  | ⟨1, _⟩ => show win0_1.index t 1 * 2048 + 1 * (j 1).val = (j 1).val; rw [e1]; omega

include hG in
/-- Window 2's block: the gain as one row. -/
theorem iblk2 (t : Fin cfg0.N) : iblk m c 2 t = fun j : S1x2048.Idx => ((G (ix1 (j 1)) : ℝ) : EReal) := by
  obtain ⟨⟨e0, e1⟩, -⟩ := index_stay t
  have hV : V m c main_v0 = fun j : S1x2048.Idx => ((G (ix1 (j 1)) : ℝ) : EReal) := by
    have h : V m c main_v0 = broadcastInDim S1x2048 ![1] bcast_S2048_S1x2048_1 (m ((c.tc : Thread nD τ).loc main_arg1)) := by
      after_results_simp <;> rfl
    rw [h, hG]
    funext j
    pointwise
  funext j
  unfold iblk
  rw [View.read_apply]
  show V m c main_v0 _ = _
  rw [hV]
  refine congrArg (fun k => ((G (ix1 k) : ℝ) : EReal)) (Fin.ext ?_)
  show win0_2.index t 1 * 2048 + 1 * (j 1).val = (j 1).val
  rw [e1]; omega

/-- The first result: the row gradient of every row. -/
def dy (i : S8192x2048.Idx) : ℝ :=
  RowNorm.grad 2048 (fun k => Y (ix2 (i 0) k)) (fun k => 1 / 2 * T (ix2 (i 0) k) * G (ix1 k)) (i 1)

/-- Row `r`'s part of the gain's gradient. -/
def part (r : Fin 8192) (j : Fin 2048) : ℝ := 1 / 2 * T (ix2 r j) * Y (ix2 r j) * RowNorm.scale 2048 (fun k => Y (ix2 r k))

include hT hY hG in
/-- What the body leaves in the first output window at any point. -/
theorem outs_3 (t : Fin cfg0.N) (r : Fin 512) (j : Fin 2048) :
    (outsAt0 m c t.val t.isLt).1 (ix2 r j) = ((dy Y T G (ix2 (rowOf t r) j) : ℝ) : EReal) := by
  have hN : cfg0.N = 16 := N_0
  have ht := t.isLt
  by_cases h0 : t.val % 16 = 0
  · rw [outsAt0_A m c t h0 (by omega)]
    dsimp only
    rw [out_A_3, iblk0 m c T hT, iblk1 m c Y hY, iblk2 m c G hG]
    exact pay4_apply (fun j => Y (ix2 (rowOf t (j 0)) (j 1))) (fun j => T (ix2 (rowOf t (j 0)) (j 1))) (fun j => G (ix1 (j 1))) r j
  · rw [outsAt0_B m c t h0 (by omega)]
    dsimp only
    rw [out_B_3, iblk0 m c T hT, iblk1 m c Y hY, iblk2 m c G hG]
    exact pay4_apply (fun j => Y (ix2 (rowOf t (j 0)) (j 1))) (fun j => T (ix2 (rowOf t (j 0)) (j 1))) (fun j => G (ix1 (j 1))) r j

include hT hY in
/-- What the body leaves in the second output window after point `n`: the parts of the blocks so far. -/
theorem outs_4 : ∀ (n : ℕ) (h : n < cfg0.N) (z : Fin 1) (j : Fin 2048),
    (outsAt0 m c n h).2 (ix2 z j)
      = ((∑ s ∈ Finset.range (n + 1), ∑ r : Fin 512, (if hs : s * 512 + r.val < 8192 then part Y T ⟨s * 512 + r.val, hs⟩ j else 0) : ℝ) : EReal)
  | 0, h, z, j => by
    rw [show outsAt0 m c 0 h = _ from outsAt0_A m c ⟨0, h⟩ rfl (by simp)]
    dsimp only
    rw [out_A_4, iblk0 m c T hT, iblk1 m c Y hY]
    refine (pay5_apply (fun j => Y (ix2 (rowOf ⟨0, h⟩ (j 0)) (j 1))) (fun j => T (ix2 (rowOf ⟨0, h⟩ (j 0)) (j 1))) z j).trans ?_
    rw [Finset.sum_range_one]
    refine congrArg _ (Finset.sum_congr rfl fun r _ => ?_)
    rw [dif_pos (by have := r.isLt; omega)]
    rfl
  | n + 1, h, z, j => by
    have hN : cfg0.N = 16 := N_0
    rw [show outsAt0 m c (n + 1) h = _ from outsAt0_B m c ⟨n + 1, h⟩ (by dsimp only; omega) (by dsimp only; omega)]
    dsimp only
    rw [out_B_4, iblk0 m c T hT, iblk1 m c Y hY, Finset.sum_range_succ, EReal.coe_add]
    refine congrArg₂ (· + ·) (outs_4 n _ z j) ?_
    refine (pay5_apply (fun j => Y (ix2 (rowOf ⟨n + 1, h⟩ (j 0)) (j 1))) (fun j => T (ix2 (rowOf ⟨n + 1, h⟩ (j 0)) (j 1))) z j).trans ?_
    refine congrArg _ (Finset.sum_congr rfl fun r _ => ?_)
    rw [dif_pos (by have := r.isLt; omega)]
    rfl

include hT hY hG in
/-- The first result array. -/
theorem final_3 : (dats m 0 c).arrAt 3 cfg0.N = fun i : S8192x2048.Idx => ((dy Y T G i : ℝ) : EReal) := by
  have hN : cfg0.N = 16 := N_0
  refine (dats m 0 c).arrAt_eq_of_cover 3 _ (fun t _ => ?_) fun i => ?_
  · obtain ⟨-, -, ⟨e0, e1⟩⟩ := index_row t
    rw [Value.flushed3]
    funext j
    rw [View.read_apply]
    refine (show _ = (outsAt0 m c t.val t.isLt).1 (ix2 (j 0) (j 1)) from congrArg _ (eq_ix2 j)).trans
      ((outs_3 m c Y T G hY hG hT t (j 0) (j 1)).trans ?_)
    refine congrArg (fun i => ((dy Y T G i : ℝ) : EReal)) (funext fun a => Fin.ext ?_)
    match a with
    | ⟨0, _⟩ => show t.val * 512 + (j 0).val = win0_3.index t 0 * 512 + 1 * (j 0).val; rw [e0]; omega
    | ⟨1, _⟩ => show (j 1).val = win0_3.index t 1 * 2048 + 1 * (j 1).val; rw [e1]; omega
  · have h0 : (i 0 : Nat) < 8192 := (i 0).isLt
    have h1 : (i 1 : Nat) < 2048 := (i 1).isLt
    obtain ⟨t, ht⟩ : ∃ t : Fin cfg0.N, t.val = (i 0 : Nat) / 512 := ⟨⟨(i 0 : Nat) / 512, by omega⟩, rfl⟩
    refine ⟨t, flush0_3 t, ?_⟩
    obtain ⟨-, -, ⟨e0, e1⟩⟩ := index_row t
    show i ∈ ((View.whole main_v1_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [e0]; omega
    | ⟨1, _⟩ => show win0_3.index t 1 * 2048 ≤ (i 1 : Nat) ∧ (i 1 : Nat) < win0_3.index t 1 * 2048 + 2048; rw [e1]; omega

include hT hY in
/-- The second result array: the sum over all rows. -/
theorem final_4 : (dats m 0 c).arrAt 4 cfg0.N = fun i : S1x2048.Idx => ((∑ r : Fin 8192, part Y T r (i 1) : ℝ) : EReal) := by
  have hN : cfg0.N = 16 := N_0
  refine (dats m 0 c).arrAt_eq_of_cover 4 _ (fun t hf => ?_) fun i => ?_
  · obtain ⟨-, ⟨e0, e1⟩⟩ := index_stay t
    have h15 : t.val = 15 := by have := (flush0_4 t).mp hf; have := t.isLt; omega
    rw [Value.flushed4]
    funext j
    rw [View.read_apply]
    refine (show _ = (outsAt0 m c t.val t.isLt).2 (ix2 (j 0) (j 1)) from congrArg _ (eq_ix2 j)).trans
      ((outs_4 m c Y T hY hT t.val t.isLt (j 0) (j 1)).trans ?_)
    refine congrArg (Real.toEReal) ?_
    refine Eq.trans ?_ (Finset.sum_congr rfl fun r _ => congrArg (part Y T r) (show j 1 = _ from Fin.ext ?_))
    · rw [h15]
      exact (Cert.Reals.sum_blocks 16 512 8192 rfl (fun r => part Y T r (j 1))).symm
    · show (j 1).val = win0_4.index t 1 * 2048 + 1 * (j 1).val; rw [e1]; omega
  · have h0 : (i 0 : Nat) < 1 := (i 0).isLt
    have h1 : (i 1 : Nat) < 2048 := (i 1).isLt
    obtain ⟨t, ht⟩ : ∃ t : Fin cfg0.N, t.val = 15 := ⟨⟨15, by omega⟩, rfl⟩
    refine ⟨t, (flush0_4 t).mpr (by omega), ?_⟩
    obtain ⟨-, ⟨e0, e1⟩⟩ := index_stay t
    show i ∈ ((View.whole main_v1_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [e0]; omega
    | ⟨1, _⟩ => show win0_4.index t 1 * 2048 ≤ (i 1 : Nat) ∧ (i 1 : Nat) < win0_4.index t 1 * 2048 + 2048; rw [e1]; omega

end Cert.PostIdeal.Result

end
-- ==== Proof.PostRef.lean ====
/-
  The post-norm's reference: what the derivative's transposed chain computes at finite arguments, element by element,
  and its run. The two results are the row gradient of every row and the sum over all rows of the gain's gradient.
-/
module

public import proofs.«01_k».proof.Proof.RowNorm
public import proofs.«01_k».proof.Proof.Gen.PostRefIdeal.Run
public import proofs.«01_k».proof.Proof.Gen.PostRefIdeal.Read

@[expose] public section

set_option maxRecDepth 16384

noncomputable section

namespace Cert.PostRefIdeal.Result

open Cert.PostRefIdeal Cert.PostRefIdeal.Gen Cert.PostRefIdeal.Read Idealize.ShloMosaic Idealize.ShloMosaic.TcCoe Cert.Reals

variable (Y T : S8192x2048.Idx → ℝ) (G : S2048.Idx → ℝ)

/-- The mean of a row's squares plus the small number. -/
theorem v6_apply (r : Fin 8192) (z : Fin 1) :
    val_main_v6 (F := Ideal) (fun i => ((Y i : ℝ) : EReal)) (ix2 r z) = ((RowNorm.meanSq 2048 (fun k => Y (ix2 r k)) : ℝ) : EReal) := by
  pointwise [val_main_v6, val_main_v5, val_main_v4, val_main_v3, val_main_v2, val_main_v1, val_main_v0, val_main_cst_0, val_main_cst_1, val_main_cst]
  have h : (2048 : ℝ) ≠ 0 := by norm_num
  simp only [lit_2048, lit_eps, ← EReal.coe_mul, coe_sum, div_real _ h, ← EReal.coe_add]
  rfl

/-- Its reciprocal root. -/
theorem v7_apply (r : Fin 8192) (z : Fin 1) :
    val_main_v7 (F := Ideal) (fun i => ((Y i : ℝ) : EReal)) (ix2 r z) = ((RowNorm.scale 2048 (fun k => Y (ix2 r k)) : ℝ) : EReal) := by
  rw [val_main_v7_apply, v6_apply]
  exact rsqrt_real (RowNorm.meanSq_pos (by norm_num) _)

/-- The reciprocal root's derivative. -/
theorem v10_apply (r : Fin 8192) (z : Fin 1) :
    val_main_v10 (F := Ideal) (fun i => ((Y i : ℝ) : EReal)) (ix2 r z)
      = ((-(1 / 2) * (RowNorm.scale 2048 (fun k => Y (ix2 r k)) / RowNorm.meanSq 2048 (fun k => Y (ix2 r k))) : ℝ) : EReal) := by
  rw [val_main_v10_apply, val_main_v8_apply, v6_apply, v7_apply]
  pointwise [val_main_v9, val_main_cst_2]
  simp only [lit_neg_half, div_real _ (RowNorm.meanSq_pos (by norm_num : (0 : ℝ) < 2048) _).ne', ← EReal.coe_mul]

/-- The first result: the row gradient. -/
theorem dy_apply (r : Fin 8192) (j : Fin 2048) :
    val_main_v40 (F := Ideal) (fun i => ((Y i : ℝ) : EReal)) (fun i => ((G i : ℝ) : EReal)) (fun i => ((T i : ℝ) : EReal)) (ix2 r j)
      = ((RowNorm.grad 2048 (fun k => Y (ix2 r k)) (fun k => 1 / 2 * T (ix2 r k) * G (ix1 k)) j : ℝ) : EReal) := by
  pointwise [val_main_v40, val_main_v39, val_main_v38, val_main_v37, val_main_v36, val_main_v35, val_main_v34, val_main_v33,
    val_main_v32, val_main_v31, val_main_v30, val_main_v29, val_main_v28, val_main_v27, val_main_v26, val_main_v24,
    val_main_v23, val_main_v19, val_main_v18, val_main_v13, val_main_v14, val_main_cst_4, val_main_cst_7, val_main_cst_8, val_main_cst_9]
  have h : (2048 : ℝ) ≠ 0 := by norm_num
  simp only [lit_half, lit_2048, v7_apply, v10_apply, ← EReal.coe_mul, coe_sum, div_real _ h, ← EReal.coe_add, Finset.univ_unique, Finset.sum_singleton]
  refine congrArg Real.toEReal ?_
  exact RowNorm.vjp_eq (by norm_num) _ (fun k => 1 / 2 * T (ix2 r k) * G (ix1 k)) j _ (Finset.sum_congr rfl fun k _ => mul_comm _ _)

/-- The second result: the sum over the rows. -/
theorem dg_apply (z : Fin 1) (j : Fin 2048) :
    val_main_v41 (F := Ideal) (fun i => ((Y i : ℝ) : EReal)) (fun i => ((T i : ℝ) : EReal)) (ix2 z j)
      = ((∑ r : Fin 8192, 1 / 2 * T (ix2 r j) * Y (ix2 r j) * RowNorm.scale 2048 (fun k => Y (ix2 r k)) : ℝ) : EReal) := by
  pointwise [val_main_v41, val_main_v25, val_main_v22, val_main_v21, val_main_v20, val_main_v19, val_main_v18, val_main_v12, val_main_v11,
    val_main_cst_4, val_main_cst_5, val_main_cst_6]
  simp only [lit_half, v7_apply, ← EReal.coe_mul, coe_sum, ← EReal.coe_add, Finset.univ_unique, Finset.sum_singleton]
  exact congrArg Real.toEReal (Finset.sum_congr rfl fun r _ => by ring)

end Cert.PostRefIdeal.Result

end
-- ==== Proof.PostClaim.lean ====
/-
  The post-norm's backward kernel: its claims. The frames are the generated ones; the equation sets the kernel's two
  arrays beside the reference's two results, both the same real numbers at finite arguments.
-/
module

public import proofs.«01_k».proof.Defs
public import proofs.«01_k».proof.Proof.PostValue
public import proofs.«01_k».proof.Proof.PostRef
public import proofs.«01_k».proof.Proof.Gen.Post.Frame
public import proofs.«01_k».proof.Proof.Gen.Pre_post_finite
public import Idealize.ShloMosaic.Lib.Quiescent

@[expose] public section

set_option maxRecDepth 16384

noncomputable section

namespace Cert.Proof.Post

open Idealize.ShloMosaic Idealize.ShloMosaic.TcCoe Idealize.SL.Sem Cert.Reals

/-- The reference ends with its arguments unchanged and its counters at zero. -/
theorem frame_ref : Cert.quiescent_PostRefIdeal := fun m g _ =>
  (θ_run Cert.PostRefIdeal.defs _ _).mono
    (fun r h => ⟨fun c => (h c).2.2, Idealize.ShloMosaic.sem_eq_zero_of_no_sems (by decide) r.2⟩) (Cert.PostRefIdeal.Value.run (F := Ideal) m g)

/-- At finite arguments the kernel's two arrays are the reference's two results. -/
theorem algebraic : Cert.algebraic_PostIdeal_PostRefIdeal_pre_post_finite := by
  intro m g m' g' hpre hagree
  refine ⟨_, _, Cert.PostIdeal.Value.run_blocks (F := Ideal) m g, ?_⟩
  refine (θ_run Cert.PostRefIdeal.defs _ _).mono (fun r h c => ⟨(h c).1.trans ?_, (h c).2.1.trans ?_, (h c).2.2⟩)
    (Cert.PostRefIdeal.Value.run (F := Ideal) m' g')
  all_goals
    obtain ⟨p0, p1, p2⟩ := hpre c
    obtain ⟨Y, hY⟩ := real_of_test _ _ lit_inf _ p0
    obtain ⟨G, hG⟩ := real_of_test _ _ lit_inf _ p1
    obtain ⟨T, hT⟩ := real_of_test _ _ lit_inf _ p2
    obtain ⟨a0, a1, a2⟩ := hagree c
  · rw [Cert.PostIdeal.Result.final_3 m c Y T G hY hG hT, Cert.PostRefIdeal.Read.val_main_v40_eq, a0, a1, a2, hY, hG, hT]
    funext i
    idx_vars i
    exact Cert.PostRefIdeal.Result.dy_apply Y T G _ _
  · rw [Cert.PostIdeal.Result.final_4 m c Y T hY hT, Cert.PostRefIdeal.Read.val_main_v41_eq, a0, a2, hY, hT]
    funext i
    idx_vars i
    exact Cert.PostRefIdeal.Result.dg_apply Y T _ _

end Cert.Proof.Post

end
-- ==== Proof.Weights.lean ====
/-
  Three weights that sum to one: the softmax of three real numbers. Written with or without their maximum subtracted,
  the weights are the same real numbers; and the number a weighted product subtracts twice cancels.
-/
module

public import proofs.«01_k».proof.Proof.Reals
public import Mathlib.Analysis.SpecialFunctions.Exp

@[expose] public section

noncomputable section

namespace Cert.Weights

open Idealize.ShloMosaic Cert.Reals

/-- The greater of two real numbers, taken in the extended reals. -/
theorem coe_max (a b : ℝ) : max (a : EReal) (b : EReal) = ((max a b : ℝ) : EReal) :=
  (EReal.coe_strictMono.monotone.map_max).symm

/-- The weight of the number `x` among `a`, `b` and `c`. -/
def weight (x a b c : ℝ) : ℝ := Real.exp x / (Real.exp a + Real.exp b + Real.exp c)

/-- Subtracting the same number from all of them changes no weight. -/
theorem weight_shift (x a b c M : ℝ) :
    Real.exp (x - M) / (Real.exp (a - M) + Real.exp (b - M) + Real.exp (c - M)) = weight x a b c := by
  unfold weight
  have h : 0 < Real.exp a + Real.exp b + Real.exp c := by positivity
  have h' : 0 < Real.exp (a - M) + Real.exp (b - M) + Real.exp (c - M) := by positivity
  rw [div_eq_div_iff h'.ne' h.ne']
  simp only [Real.exp_sub]
  ring

/-- The weight as the programs compute it: with any real number subtracted first. -/
theorem weight_coe (x a b c M : ℝ) :
    Ideal.div (Ideal.exp ((x : EReal) - (M : EReal)))
        (Ideal.exp ((a : EReal) - (M : EReal)) + Ideal.exp ((b : EReal) - (M : EReal)) + Ideal.exp ((c : EReal) - (M : EReal)))
      = ((weight x a b c : ℝ) : EReal) := by
  simp only [← EReal.coe_sub, Ideal.exp_coe, ← EReal.coe_add]
  rw [div_real _ (by positivity), weight_shift]

/-- What is left of a weighted number after its share of the mean's difference is taken away. -/
theorem sub_share (w s μ : ℝ) : w * s - w * (s - μ) = w * μ := by ring

end Cert.Weights

end
-- ==== Proof.MergeBlock.lean ====
/-
  The merge's backward kernel, one block: what its body computes of a block of 256 rows. A row has eight heads of 128
  columns; the three log-sums of a head's lanes give three weights. A part's cotangent is its weight times the
  merge's, and what the next kernel subtracts is the weight times the weighted mean of the three row products.
-/
module

public import proofs.«01_k».proof.Proof.Weights
public import proofs.«01_k».proof.Proof.Gen.MergeIdeal.Frame
public import Idealize.ShloMosaic.Lib.Pipeline.Value

@[expose] public section

set_option maxRecDepth 16384

noncomputable section

namespace Cert.MergeIdeal.Block

open Cert.MergeIdeal Cert.MergeIdeal.Gen Idealize.ShloMosaic Cert.Reals Cert.Weights

/-- Column `k` of the head that holds column `j`. -/
def lane (j : Fin 1024) (k : Fin 128) : Fin 1024 := ⟨j.val / 128 * 128 + k.val, by have := j.isLt; have := k.isLt; omega⟩

/-- The product of two rows over the columns of the head that holds column `j`. -/
def dot (a b : Fin 1024 → ℝ) (j : Fin 1024) : ℝ := ∑ k, a (lane j k) * b (lane j k)

/-- The three parts' products, weighted. -/
def mean (d o0 o1 o2 : Fin 1024 → ℝ) (a b c : ℝ) (j : Fin 1024) : ℝ :=
  weight a a b c * dot d o0 j + weight b a b c * dot d o1 j + weight c a b c * dot d o2 j

/-- Where the store of the head at column `o` puts its element. -/
theorem emb_head (o : ℕ) (inb) (r : Fin 256) (q : Fin 128) :
    (Rect.unit (s := S256x1024) ![0, o] S256x128.size inb).emb (ix2 r q) = ix2 r ⟨o + q.val, by have : o + 128 ≤ 1024 := inb 1; have := q.isLt; omega⟩ :=
  funext fun a => Fin.ext (by
    match a with
    | ⟨0, _⟩ => show 0 + 1 * r.val = r.val; omega
    | ⟨1, _⟩ => show o + 1 * q.val = o + q.val; omega)

/-- The product at a column of the head at column `o`. -/
theorem dot_head (a b : Fin 1024 → ℝ) (o : ℕ) (q : Fin 128) (h : o + q.val < 1024) (ho : o % 128 = 0) :
    dot a b ⟨o + q.val, h⟩
      = ∑ k : Fin 128, a ⟨o + k.val, by have := k.isLt; omega⟩ * b ⟨o + k.val, by have := k.isLt; omega⟩ := by
  have e : ∀ k, lane ⟨o + q.val, h⟩ k = ⟨o + k.val, by have := k.isLt; omega⟩ := fun k => Fin.ext (by
    show (o + q.val) / 128 * 128 + k.val = o + k.val
    have := q.isLt
    omega)
  unfold dot
  simp only [e]

/-- The product at a column of the first head. -/
theorem dot_first (a b : Fin 1024 → ℝ) (q : Fin 128) (h : q.val < 1024) :
    dot a b ⟨q.val, h⟩ = ∑ k : Fin 128, a ⟨k.val, by have := k.isLt; omega⟩ * b ⟨k.val, by have := k.isLt; omega⟩ := by
  have e : ∀ k, lane ⟨q.val, h⟩ k = ⟨k.val, by have := k.isLt; omega⟩ := fun k => Fin.ext (by
    show q.val / 128 * 128 + k.val = k.val
    have := q.isLt
    omega)
  unfold dot
  simp only [e]

/-- A block its pieces cover is `G` when every piece holds its part of `G`. -/
theorem canon_eq (G : Vec Ideal S256x1024 .f32) (L : List (View.Piece (Elt Ideal) S256x1024 .f32))
    (hL : ∀ p ∈ L, ∀ x : p.1.shape.Idx, p.2 x = G (p.1.emb x)) (hc : ∀ y, ∃ p ∈ L, y ∈ p.1.set) : View.canon L = G :=
  funext fun y => View.canon_apply_of_pieces G L hL y (hc y)

/-- Real numbers as a block. -/
abbrev up (X : S256x1024.Idx → ℝ) : Vec Ideal S256x1024 .f32 := fun i => ((X i : ℝ) : EReal)

variable (D O0 O1 O2 L0 L1 L2 : S256x1024.Idx → ℝ)

/-- The weighted mean of the three products at an index of the block. -/
def meanAt (y : S256x1024.Idx) : ℝ :=
  mean (fun j => D (ix2 (y 0) j)) (fun j => O0 (ix2 (y 0) j)) (fun j => O1 (ix2 (y 0) j)) (fun j => O2 (ix2 (y 0) j)) (L0 y) (L1 y) (L2 y) (y 1)

/-- The first part's cotangent. -/
theorem out_7 : out0_7 (F := Ideal) (up D) (up O0) (up O1) (up O2) (up L0) (up L1) (up L2)
    = fun y => ((weight (L0 y) (L0 y) (L1 y) (L2 y) * D y : ℝ) : EReal) := by
  unfold out0_7
  refine canon_eq _ _ ?_ (cover0_7 _ _ _ _ _ _ _ _)
  simp only [List.forall_mem_cons, List.not_mem_nil, false_implies, implies_true, and_true]
  refine ⟨?_, ?_, ?_, ?_, ?_, ?_, ?_, ?_⟩
  all_goals
    intro x
    idx_vars x
    rw [emb_head]
    unfold_payloads
    pointwise
    simp only [coe_max, weight_coe, ← EReal.coe_mul]

/-- The second part's cotangent. -/
theorem out_8 : out0_8 (F := Ideal) (up D) (up O0) (up O1) (up O2) (up L0) (up L1) (up L2)
    = fun y => ((weight (L1 y) (L0 y) (L1 y) (L2 y) * D y : ℝ) : EReal) := by
  unfold out0_8
  refine canon_eq _ _ ?_ (cover0_8 _ _ _ _ _ _ _ _)
  simp only [List.forall_mem_cons, List.not_mem_nil, false_implies, implies_true, and_true]
  refine ⟨?_, ?_, ?_, ?_, ?_, ?_, ?_, ?_⟩
  all_goals
    intro x
    idx_vars x
    rw [emb_head]
    unfold_payloads
    pointwise
    simp only [coe_max, weight_coe, ← EReal.coe_mul]

/-- The third part's cotangent. -/
theorem out_9 : out0_9 (F := Ideal) (up D) (up O0) (up O1) (up O2) (up L0) (up L1) (up L2)
    = fun y => ((weight (L2 y) (L0 y) (L1 y) (L2 y) * D y : ℝ) : EReal) := by
  unfold out0_9
  refine canon_eq _ _ ?_ (cover0_9 _ _ _ _ _ _ _ _)
  simp only [List.forall_mem_cons, List.not_mem_nil, false_implies, implies_true, and_true]
  refine ⟨?_, ?_, ?_, ?_, ?_, ?_, ?_, ?_⟩
  all_goals
    intro x
    idx_vars x
    rw [emb_head]
    unfold_payloads
    pointwise
    simp only [coe_max, weight_coe, ← EReal.coe_mul]

/-- What the first part's kernel subtracts. -/
theorem out_10 : out0_10 (F := Ideal) (up D) (up O0) (up O1) (up O2) (up L0) (up L1) (up L2)
    = fun y => ((weight (L0 y) (L0 y) (L1 y) (L2 y) * meanAt D O0 O1 O2 L0 L1 L2 y : ℝ) : EReal) := by
  unfold out0_10
  refine canon_eq _ _ ?_ (cover0_10 _ _ _ _ _ _ _ _)
  simp only [List.forall_mem_cons, List.not_mem_nil, false_implies, implies_true, and_true]
  refine ⟨?_, ?_, ?_, ?_, ?_, ?_, ?_, ?_⟩
  all_goals
    intro x
    idx_vars x
    rw [emb_head]
    unfold_payloads
    pointwise [meanAt, mean]
    simp only [coe_max, weight_coe]
    simp only [← EReal.coe_mul, coe_sum, ← EReal.coe_add, ← EReal.coe_sub, sub_share]
    first
      | simp (disch := decide) only [dot_head]
      | simp only [dot_first]

/-- What the second part's kernel subtracts. -/
theorem out_11 : out0_11 (F := Ideal) (up D) (up O0) (up O1) (up O2) (up L0) (up L1) (up L2)
    = fun y => ((weight (L1 y) (L0 y) (L1 y) (L2 y) * meanAt D O0 O1 O2 L0 L1 L2 y : ℝ) : EReal) := by
  unfold out0_11
  refine canon_eq _ _ ?_ (cover0_11 _ _ _ _ _ _ _ _)
  simp only [List.forall_mem_cons, List.not_mem_nil, false_implies, implies_true, and_true]
  refine ⟨?_, ?_, ?_, ?_, ?_, ?_, ?_, ?_⟩
  all_goals
    intro x
    idx_vars x
    rw [emb_head]
    unfold_payloads
    pointwise [meanAt, mean]
    simp only [coe_max, weight_coe]
    simp only [← EReal.coe_mul, coe_sum, ← EReal.coe_add, ← EReal.coe_sub, sub_share]
    first
      | simp (disch := decide) only [dot_head]
      | simp only [dot_first]

/-- What the third part's kernel subtracts. -/
theorem out_12 : out0_12 (F := Ideal) (up D) (up O0) (up O1) (up O2) (up L0) (up L1) (up L2)
    = fun y => ((weight (L2 y) (L0 y) (L1 y) (L2 y) * meanAt D O0 O1 O2 L0 L1 L2 y : ℝ) : EReal) := by
  unfold out0_12
  refine canon_eq _ _ ?_ (cover0_12 _ _ _ _ _ _ _ _)
  simp only [List.forall_mem_cons, List.not_mem_nil, false_implies, implies_true, and_true]
  refine ⟨?_, ?_, ?_, ?_, ?_, ?_, ?_, ?_⟩
  all_goals
    intro x
    idx_vars x
    rw [emb_head]
    unfold_payloads
    pointwise [meanAt, mean]
    simp only [coe_max, weight_coe]
    simp only [← EReal.coe_mul, coe_sum, ← EReal.coe_add, ← EReal.coe_sub, sub_share]
    first
      | simp (disch := decide) only [dot_head]
      | simp only [dot_first]

end Cert.MergeIdeal.Block

end
-- ==== Proof.MergeValue.lean ====
/-
  The merge's backward kernel, the arrays: at finite arguments each of the six results holds, at every row and column,
  the number the block's lemma names. A point's blocks are 256 rows of the arrays the host code lays out: the heads of a
  row side by side, and every log-sum repeated over its head's columns.
-/
module

public import proofs.«01_k».proof.Proof.MergeBlock

@[expose] public section

set_option maxRecDepth 16384

noncomputable section

namespace Cert.MergeIdeal.Result

open Cert.MergeIdeal Cert.MergeIdeal.Gen Cert.MergeIdeal.Block Idealize.ShloMosaic Idealize.ShloMosaic.TcCoe Idealize.SL.Sem Cert.Reals Cert.Weights
open Idealize.ShloMosaic.Pipeline (Dat)

/-- The head that holds column `j`. -/
def head (j : Fin 1024) : Fin 8 := ⟨j.val / 128, by have := j.isLt; omega⟩

/-- The column inside its head. -/
def inHead (j : Fin 1024) : Fin 128 := ⟨j.val % 128, by omega⟩

/-- An array of heads, the heads of a row side by side. -/
def rows (X : S1x8192x8x128.Idx → ℝ) (i : S8192x1024.Idx) : ℝ := X (ix4 0 (i 0) (head (i 1)) (inHead (i 1)))

/-- An array with one number per head, repeated over the head's columns. -/
def lanes (L : S1x8192x8.Idx → ℝ) (i : S8192x1024.Idx) : ℝ := L (ix3 0 (i 0) (head (i 1)))

variable (m : (ℓ : Loc nD τ sig) → Buf (Elt Ideal) ℓ) (c : Dev nD)
  (O0 O1 O2 : S1x8192x8x128.Idx → ℝ) (L0 L1 L2 : S1x8192x8.Idx → ℝ) (D : S1x8192x8x128.Idx → ℝ)

/-- The arguments are these real numbers. -/
structure Real : Prop where
  o0 : m ((c.tc : Thread nD τ).loc main_arg0) = fun i => ((O0 i : ℝ) : EReal)
  o1 : m ((c.tc : Thread nD τ).loc main_arg1) = fun i => ((O1 i : ℝ) : EReal)
  o2 : m ((c.tc : Thread nD τ).loc main_arg2) = fun i => ((O2 i : ℝ) : EReal)
  l0 : m ((c.tc : Thread nD τ).loc main_arg3) = fun i => ((L0 i : ℝ) : EReal)
  l1 : m ((c.tc : Thread nD τ).loc main_arg4) = fun i => ((L1 i : ℝ) : EReal)
  l2 : m ((c.tc : Thread nD τ).loc main_arg5) = fun i => ((L2 i : ℝ) : EReal)
  d : m ((c.tc : Thread nD τ).loc main_arg6) = fun i => ((D i : ℝ) : EReal)

variable (h : Real m c O0 O1 O2 L0 L1 L2 D)

/-- Row `r` of block `n`, as a row of the array. -/
def rowOf (n : Fin cfg0.N) (r : Fin 256) : Fin 8192 :=
  ⟨n.val * 256 + r.val, by have hN : cfg0.N = 32 := N_0; have := n.isLt; have := r.isLt; omega⟩

/-- The rows of block `n`. -/
def cut (n : Fin cfg0.N) (X : S8192x1024.Idx → ℝ) (j : S256x1024.Idx) : ℝ := X (ix2 (rowOf n (j 0)) (j 1))

/-- Every window moves by one block of rows a point. -/
theorem index_row : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) ∧ (win0_6.index t 0 = t.val ∧ win0_6.index t 1 = 0)) := by
  decide +kernel

theorem index_out : ∀ t : Fin cfg0.N, ((win0_7.index t 0 = t.val ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0)) := by
  decide +kernel

/-- An index of the array read at a row of block `t`. -/
theorem at_row (t : Fin cfg0.N) (i : S8192x1024.Idx) (j : S256x1024.Idx) (e0 : (i 0).val = t.val * 256 + 1 * (j 0).val) (e1 : (i 1).val = 0 * 1024 + 1 * (j 1).val) :
    i = ix2 (rowOf t (j 0)) (j 1) :=
  funext fun a => Fin.ext (by
    match a with
    | ⟨0, _⟩ => show (i 0).val = t.val * 256 + (j 0).val; omega
    | ⟨1, _⟩ => show (i 1).val = (j 1).val; omega)

/-- The host's row layout of an array of heads. -/
theorem rows_eq (X : S1x8192x8x128.Idx → ℝ) :
    shapeCast S8192x1024 (fun i => ((X i : ℝ) : EReal)) shapeCasts_S1x8192x8x128_S8192x1024 = fun i => ((rows X i : ℝ) : EReal) := by
  funext i
  idx_vars i
  pointwise
  rfl

/-- The host's repetition of a number per head over the head's columns. -/
theorem lanes_eq (L : S1x8192x8.Idx → ℝ) :
    shapeCast S8192x1024 (broadcastInDim S8192x8x128 ![0, 1, 2] bcast_S8192x8x1_S8192x8x128_0_1_2 (broadcastInDim S8192x8x1 ![0, 1] bcast_S8192x8_S8192x8x1_0_1
      (shapeCast S8192x8 (fun i => ((L i : ℝ) : EReal)) shapeCasts_S1x8192x8_S8192x8))) shapeCasts_S8192x8x128_S8192x1024 = fun i => ((lanes L i : ℝ) : EReal) := by
  funext i
  idx_vars i
  pointwise
  rfl

include h in
/-- What the host code leaves in the arrays the windows read. -/
theorem host : V m c main_v0 = (fun i => ((rows D i : ℝ) : EReal)) ∧ V m c main_v1 = (fun i => ((rows O0 i : ℝ) : EReal))
    ∧ V m c main_v2 = (fun i => ((rows O1 i : ℝ) : EReal)) ∧ V m c main_v3 = (fun i => ((rows O2 i : ℝ) : EReal))
    ∧ V m c main_v7 = (fun i => ((lanes L0 i : ℝ) : EReal)) ∧ V m c main_v11 = (fun i => ((lanes L1 i : ℝ) : EReal))
    ∧ V m c main_v15 = (fun i => ((lanes L2 i : ℝ) : EReal)) := by
  refine ⟨?_, ?_, ?_, ?_, ?_, ?_, ?_⟩
  · rw [← rows_eq, ← h.d]
    show StableHlo.after hostOps0 _ _ = _
    after_results_simp <;> rfl
  · rw [← rows_eq, ← h.o0]
    show StableHlo.after hostOps0 _ _ = _
    after_results_simp <;> rfl
  · rw [← rows_eq, ← h.o1]
    show StableHlo.after hostOps0 _ _ = _
    after_results_simp <;> rfl
  · rw [← rows_eq, ← h.o2]
    show StableHlo.after hostOps0 _ _ = _
    after_results_simp <;> rfl
  · rw [← lanes_eq, ← h.l0]
    show StableHlo.after hostOps0 _ _ = _
    after_results_simp <;> rfl
  · rw [← lanes_eq, ← h.l1]
    show StableHlo.after hostOps0 _ _ = _
    after_results_simp <;> rfl
  · rw [← lanes_eq, ← h.l2]
    show StableHlo.after hostOps0 _ _ = _
    after_results_simp <;> rfl

include h in
/-- The blocks the body reads: rows of those arrays. -/
theorem blocks (t : Fin cfg0.N) : iblk m c 0 t = up (cut t (rows D)) ∧ iblk m c 1 t = up (cut t (rows O0)) ∧ iblk m c 2 t = up (cut t (rows O1))
    ∧ iblk m c 3 t = up (cut t (rows O2)) ∧ iblk m c 4 t = up (cut t (lanes L0)) ∧ iblk m c 5 t = up (cut t (lanes L1)) ∧ iblk m c 6 t = up (cut t (lanes L2)) := by
  obtain ⟨v0, v1, v2, v3, v4, v5, v6⟩ := host m c O0 O1 O2 L0 L1 L2 D h
  obtain ⟨⟨a0, b0⟩, ⟨a1, b1⟩, ⟨a2, b2⟩, ⟨a3, b3⟩, ⟨a4, b4⟩, ⟨a5, b5⟩, a6, b6⟩ := index_row t
  refine ⟨?_, ?_, ?_, ?_, ?_, ?_, ?_⟩
  all_goals
    funext j
    unfold iblk
    rw [View.read_apply]
  · exact (congrFun v0 _).trans (congrArg (fun i => ((rows D i : ℝ) : EReal)) (at_row t _ j (by rw [← a0]; rfl) (by rw [← b0]; rfl)))
  · exact (congrFun v1 _).trans (congrArg (fun i => ((rows O0 i : ℝ) : EReal)) (at_row t _ j (by rw [← a1]; rfl) (by rw [← b1]; rfl)))
  · exact (congrFun v2 _).trans (congrArg (fun i => ((rows O1 i : ℝ) : EReal)) (at_row t _ j (by rw [← a2]; rfl) (by rw [← b2]; rfl)))
  · exact (congrFun v3 _).trans (congrArg (fun i => ((rows O2 i : ℝ) : EReal)) (at_row t _ j (by rw [← a3]; rfl) (by rw [← b3]; rfl)))
  · exact (congrFun v4 _).trans (congrArg (fun i => ((lanes L0 i : ℝ) : EReal)) (at_row t _ j (by rw [← a4]; rfl) (by rw [← b4]; rfl)))
  · exact (congrFun v5 _).trans (congrArg (fun i => ((lanes L1 i : ℝ) : EReal)) (at_row t _ j (by rw [← a5]; rfl) (by rw [← b5]; rfl)))
  · exact (congrFun v6 _).trans (congrArg (fun i => ((lanes L2 i : ℝ) : EReal)) (at_row t _ j (by rw [← a6]; rfl) (by rw [← b6]; rfl)))

/-- The three weights at an index of the array: the weight of the number `x` there. -/
def weightAt (x : S8192x1024.Idx → ℝ) (i : S8192x1024.Idx) : ℝ := weight (x i) (lanes L0 i) (lanes L1 i) (lanes L2 i)

/-- A part's cotangent. -/
def cot (x : S8192x1024.Idx → ℝ) (i : S8192x1024.Idx) : ℝ := weightAt L0 L1 L2 x i * rows D i

/-- What the part's kernel subtracts. -/
def sub (x : S8192x1024.Idx → ℝ) (i : S8192x1024.Idx) : ℝ :=
  weightAt L0 L1 L2 x i * mean (fun j => rows D (ix2 (i 0) j)) (fun j => rows O0 (ix2 (i 0) j)) (fun j => rows O1 (ix2 (i 0) j))
    (fun j => rows O2 (ix2 (i 0) j)) (lanes L0 i) (lanes L1 i) (lanes L2 i) (i 1)

/-- Every index of the array lies in some point's block. -/
theorem point_of (i : S8192x1024.Idx) : ∃ t : Fin cfg0.N, t.val * 256 ≤ (i 0).val ∧ (i 0).val < t.val * 256 + 256 := by
  have hN : cfg0.N = 32 := N_0
  have h0 : (i 0 : Nat) < 8192 := (i 0).isLt
  exact ⟨⟨(i 0 : Nat) / 256, by omega⟩, by dsimp only; omega, by dsimp only; omega⟩

/-- An index between a block's first and last row lies in the block. -/
theorem in_rows (i : S8192x1024.Idx) (t : Fin cfg0.N) (n : Fin 2 → ℕ) (e0 : n 0 = t.val) (e1 : n 1 = 0) (h0 : t.val * 256 ≤ (i 0).val)
    (h1 : (i 0).val < t.val * 256 + 256) (a : Fin 2) : n a * S256x1024.size a ≤ (i a).val ∧ (i a).val < n a * S256x1024.size a + S256x1024.size a := by
  have hi : (i 1 : Nat) < 1024 := (i 1).isLt
  match a with
  | ⟨0, _⟩ => show n 0 * 256 ≤ (i 0).val ∧ (i 0).val < n 0 * 256 + 256; rw [e0]; omega
  | ⟨1, _⟩ => show n 1 * 1024 ≤ (i 1).val ∧ (i 1).val < n 1 * 1024 + 1024; rw [e1]; omega

include h in
/-- The blocks a point writes back: rows of the six results. -/
theorem outs (t : Fin cfg0.N) :
    (dats m 0 c).after 7 t = up (cut t (cot L0 L1 L2 D (lanes L0))) ∧ (dats m 0 c).after 8 t = up (cut t (cot L0 L1 L2 D (lanes L1)))
    ∧ (dats m 0 c).after 9 t = up (cut t (cot L0 L1 L2 D (lanes L2))) ∧ (dats m 0 c).after 10 t = up (cut t (sub O0 O1 O2 L0 L1 L2 D (lanes L0)))
    ∧ (dats m 0 c).after 11 t = up (cut t (sub O0 O1 O2 L0 L1 L2 D (lanes L1))) ∧ (dats m 0 c).after 12 t = up (cut t (sub O0 O1 O2 L0 L1 L2 D (lanes L2))) := by
  obtain ⟨e0, e1, e2, e3, e4, e5, e6⟩ := blocks m c O0 O1 O2 L0 L1 L2 D h t
  refine ⟨?_, ?_, ?_, ?_, ?_, ?_⟩
  · rw [after0_7, e0, e1, e2, e3, e4, e5, e6, out_7]; rfl
  · rw [after0_8, e0, e1, e2, e3, e4, e5, e6, out_8]; rfl
  · rw [after0_9, e0, e1, e2, e3, e4, e5, e6, out_9]; rfl
  · rw [after0_10, e0, e1, e2, e3, e4, e5, e6, out_10]; rfl
  · rw [after0_11, e0, e1, e2, e3, e4, e5, e6, out_11]; rfl
  · rw [after0_12, e0, e1, e2, e3, e4, e5, e6, out_12]; rfl

include h in
/-- Result 1. -/
theorem final_7 : (dats m 0 c).arrAt 7 cfg0.N = fun i : S8192x1024.Idx => ((cot L0 L1 L2 D (lanes L0) i : ℝ) : EReal) := by
  refine (dats m 0 c).arrAt_eq_of_cover 7 _ (fun t _ => ?_) fun i => ?_
  · obtain ⟨a, b⟩ := (index_out t).1
    show (cfg0.win 7).cut (grid0.coords t) ((dats m 0 c).after 7 t) = _
    rw [(outs m c O0 O1 O2 L0 L1 L2 D h t).1]
    funext j
    rw [View.read_apply]
    exact congrArg (fun i => ((cot L0 L1 L2 D (lanes L0) i : ℝ) : EReal)) (at_row t _ j (by rw [← a]; rfl) (by rw [← b]; rfl)).symm
  · obtain ⟨t, h0, h1⟩ := point_of i
    obtain ⟨a, b⟩ := (index_out t).1
    refine ⟨t, flush0_7 t, ?_⟩
    show i ∈ ((View.whole main_v16_0).slice (win0_7.rect t)).set
    rw [View.set_slice_whole, Rect.mem_set_unit]
    exact in_rows i t _ a b h0 h1

include h in
/-- Result 2. -/
theorem final_8 : (dats m 0 c).arrAt 8 cfg0.N = fun i : S8192x1024.Idx => ((cot L0 L1 L2 D (lanes L1) i : ℝ) : EReal) := by
  refine (dats m 0 c).arrAt_eq_of_cover 8 _ (fun t _ => ?_) fun i => ?_
  · obtain ⟨a, b⟩ := (index_out t).2.1
    show (cfg0.win 8).cut (grid0.coords t) ((dats m 0 c).after 8 t) = _
    rw [(outs m c O0 O1 O2 L0 L1 L2 D h t).2.1]
    funext j
    rw [View.read_apply]
    exact congrArg (fun i => ((cot L0 L1 L2 D (lanes L1) i : ℝ) : EReal)) (at_row t _ j (by rw [← a]; rfl) (by rw [← b]; rfl)).symm
  · obtain ⟨t, h0, h1⟩ := point_of i
    obtain ⟨a, b⟩ := (index_out t).2.1
    refine ⟨t, flush0_8 t, ?_⟩
    show i ∈ ((View.whole main_v16_1).slice (win0_8.rect t)).set
    rw [View.set_slice_whole, Rect.mem_set_unit]
    exact in_rows i t _ a b h0 h1

include h in
/-- Result 3. -/
theorem final_9 : (dats m 0 c).arrAt 9 cfg0.N = fun i : S8192x1024.Idx => ((cot L0 L1 L2 D (lanes L2) i : ℝ) : EReal) := by
  refine (dats m 0 c).arrAt_eq_of_cover 9 _ (fun t _ => ?_) fun i => ?_
  · obtain ⟨a, b⟩ := (index_out t).2.2.1
    show (cfg0.win 9).cut (grid0.coords t) ((dats m 0 c).after 9 t) = _
    rw [(outs m c O0 O1 O2 L0 L1 L2 D h t).2.2.1]
    funext j
    rw [View.read_apply]
    exact congrArg (fun i => ((cot L0 L1 L2 D (lanes L2) i : ℝ) : EReal)) (at_row t _ j (by rw [← a]; rfl) (by rw [← b]; rfl)).symm
  · obtain ⟨t, h0, h1⟩ := point_of i
    obtain ⟨a, b⟩ := (index_out t).2.2.1
    refine ⟨t, flush0_9 t, ?_⟩
    show i ∈ ((View.whole main_v16_2).slice (win0_9.rect t)).set
    rw [View.set_slice_whole, Rect.mem_set_unit]
    exact in_rows i t _ a b h0 h1

include h in
/-- Result 4. -/
theorem final_10 : (dats m 0 c).arrAt 10 cfg0.N = fun i : S8192x1024.Idx => ((sub O0 O1 O2 L0 L1 L2 D (lanes L0) i : ℝ) : EReal) := by
  refine (dats m 0 c).arrAt_eq_of_cover 10 _ (fun t _ => ?_) fun i => ?_
  · obtain ⟨a, b⟩ := (index_out t).2.2.2.1
    show (cfg0.win 10).cut (grid0.coords t) ((dats m 0 c).after 10 t) = _
    rw [(outs m c O0 O1 O2 L0 L1 L2 D h t).2.2.2.1]
    funext j
    rw [View.read_apply]
    exact congrArg (fun i => ((sub O0 O1 O2 L0 L1 L2 D (lanes L0) i : ℝ) : EReal)) (at_row t _ j (by rw [← a]; rfl) (by rw [← b]; rfl)).symm
  · obtain ⟨t, h0, h1⟩ := point_of i
    obtain ⟨a, b⟩ := (index_out t).2.2.2.1
    refine ⟨t, flush0_10 t, ?_⟩
    show i ∈ ((View.whole main_v16_3).slice (win0_10.rect t)).set
    rw [View.set_slice_whole, Rect.mem_set_unit]
    exact in_rows i t _ a b h0 h1

include h in
/-- Result 5. -/
theorem final_11 : (dats m 0 c).arrAt 11 cfg0.N = fun i : S8192x1024.Idx => ((sub O0 O1 O2 L0 L1 L2 D (lanes L1) i : ℝ) : EReal) := by
  refine (dats m 0 c).arrAt_eq_of_cover 11 _ (fun t _ => ?_) fun i => ?_
  · obtain ⟨a, b⟩ := (index_out t).2.2.2.2.1
    show (cfg0.win 11).cut (grid0.coords t) ((dats m 0 c).after 11 t) = _
    rw [(outs m c O0 O1 O2 L0 L1 L2 D h t).2.2.2.2.1]
    funext j
    rw [View.read_apply]
    exact congrArg (fun i => ((sub O0 O1 O2 L0 L1 L2 D (lanes L1) i : ℝ) : EReal)) (at_row t _ j (by rw [← a]; rfl) (by rw [← b]; rfl)).symm
  · obtain ⟨t, h0, h1⟩ := point_of i
    obtain ⟨a, b⟩ := (index_out t).2.2.2.2.1
    refine ⟨t, flush0_11 t, ?_⟩
    show i ∈ ((View.whole main_v16_4).slice (win0_11.rect t)).set
    rw [View.set_slice_whole, Rect.mem_set_unit]
    exact in_rows i t _ a b h0 h1

include h in
/-- Result 6. -/
theorem final_12 : (dats m 0 c).arrAt 12 cfg0.N = fun i : S8192x1024.Idx => ((sub O0 O1 O2 L0 L1 L2 D (lanes L2) i : ℝ) : EReal) := by
  refine (dats m 0 c).arrAt_eq_of_cover 12 _ (fun t _ => ?_) fun i => ?_
  · obtain ⟨a, b⟩ := (index_out t).2.2.2.2.2
    show (cfg0.win 12).cut (grid0.coords t) ((dats m 0 c).after 12 t) = _
    rw [(outs m c O0 O1 O2 L0 L1 L2 D h t).2.2.2.2.2]
    funext j
    rw [View.read_apply]
    exact congrArg (fun i => ((sub O0 O1 O2 L0 L1 L2 D (lanes L2) i : ℝ) : EReal)) (at_row t _ j (by rw [← a]; rfl) (by rw [← b]; rfl)).symm
  · obtain ⟨t, h0, h1⟩ := point_of i
    obtain ⟨a, b⟩ := (index_out t).2.2.2.2.2
    refine ⟨t, flush0_12 t, ?_⟩
    show i ∈ ((View.whole main_v16_5).slice (win0_12.rect t)).set
    rw [View.set_slice_whole, Rect.mem_set_unit]
    exact in_rows i t _ a b h0 h1

end Cert.MergeIdeal.Result

end
-- ==== Proof.MergeRef.lean ====
/-
  The merge's reference: what the derivative of the softmax mixture computes at finite arguments, element by element.
  A part's cotangent is its weight times the mixture's; what is left of its row product after the log-sum's cotangent
  is taken away is the weight times the weighted mean of the three row products.
-/
module

public import proofs.«01_k».proof.Proof.Weights
public import proofs.«01_k».proof.Proof.Gen.MergeRefIdeal.Run
public import proofs.«01_k».proof.Proof.Gen.MergeRefIdeal.Read

@[expose] public section

set_option maxRecDepth 16384

noncomputable section

namespace Cert.MergeRefIdeal.Result

open Cert.MergeRefIdeal Cert.MergeRefIdeal.Gen Cert.MergeRefIdeal.Read Idealize.ShloMosaic Idealize.ShloMosaic.TcCoe Cert.Reals Cert.Weights

variable (O0 O1 O2 : S1x8192x8x128.Idx → ℝ) (L0 L1 L2 : S1x8192x8.Idx → ℝ) (D : S1x8192x8x128.Idx → ℝ)

/-- Real numbers as an array. -/
abbrev up {s : Shape} (X : s.Idx → ℝ) : s.Idx → EReal := fun i => ((X i : ℝ) : EReal)

/-- A sum that takes away only axes of length one is the one element. -/
theorem sum_one {s t : Shape} {axes : List (Fin s.rank)} (h : s.ReducesTo axes t) (x : s.Idx → EReal) (b : EReal) (j : t.Idx) (i : s.Idx)
    (e : ∀ y, h.drop y = j ↔ y = i) : Ideal.hostReduceAdd h x b j = b + x i := by
  unfold Ideal.hostReduceAdd
  rw [show Finset.univ.filter (fun y => h.drop y = j) = {i} by ext y; simp [e y], Finset.sum_singleton]

/-- The sum over the first two axes, both of length one. -/
theorem sum_front (x : S1x1x8192x8.Idx → EReal) (b : EReal) (r : Fin 8192) (h : Fin 8) :
    Ideal.hostReduceAdd reducesTo_S1x1x8192x8_S8192x8_d0_1 x b (ix2 r h) = b + x (ix4 0 0 r h) :=
  sum_one _ _ _ _ _ fun y => by
    constructor
    · intro e
      funext a
      match a with
      | ⟨0, _⟩ => exact Subsingleton.elim (α := Fin 1) _ _
      | ⟨1, _⟩ => exact Subsingleton.elim (α := Fin 1) _ _
      | ⟨2, _⟩ => exact Fin.ext (congrArg (fun f : S8192x8.Idx => (f 0).val) e)
      | ⟨3, _⟩ => exact Fin.ext (congrArg (fun f : S8192x8.Idx => (f 1).val) e)
    · rintro rfl
      funext a
      match a with
      | ⟨0, _⟩ => rfl
      | ⟨1, _⟩ => rfl

/-- The sum over the second and the last axis, both of length one. -/
theorem sum_ends (x : S3x1x8192x8x1.Idx → EReal) (b : EReal) (p : Fin 3) (r : Fin 8192) (h : Fin 8) :
    Ideal.hostReduceAdd reducesTo_S3x1x8192x8x1_S3x8192x8_d1_4 x b (ix3 p r h) = b + x (ix5 p 0 r h 0) :=
  sum_one _ _ _ _ _ fun y => by
    constructor
    · intro e
      funext a
      match a with
      | ⟨0, _⟩ => exact Fin.ext (congrArg (fun f : S3x8192x8.Idx => (f 0).val) e)
      | ⟨1, _⟩ => exact Subsingleton.elim (α := Fin 1) _ _
      | ⟨2, _⟩ => exact Fin.ext (congrArg (fun f : S3x8192x8.Idx => (f 1).val) e)
      | ⟨3, _⟩ => exact Fin.ext (congrArg (fun f : S3x8192x8.Idx => (f 2).val) e)
      | ⟨4, _⟩ => exact Subsingleton.elim (α := Fin 1) _ _
    · rintro rfl
      funext a
      match a with
      | ⟨0, _⟩ => rfl
      | ⟨1, _⟩ => rfl
      | ⟨2, _⟩ => rfl

/-- The `p`-th of three. -/
def pick (p : Fin 3) (a b c : ℝ) : ℝ := ![a, b, c] p

theorem pick_0 (a b c : ℝ) : pick 0 a b c = a := rfl
theorem pick_1 (a b c : ℝ) : pick 1 a b c = b := rfl
theorem pick_2 (a b c : ℝ) : pick 2 a b c = c := rfl

/-- The stacked log-sums. -/
theorem v3_apply (p : Fin 3) (z : Fin 1) (r : Fin 8192) (h : Fin 8) :
    val_main_v3 (F := Ideal) (up L0) (up L1) (up L2) (ix4 p z r h)
      = ((pick p (L0 (ix3 0 r h)) (L1 (ix3 0 r h)) (L2 (ix3 0 r h)) : ℝ) : EReal) := by
  pointwise [val_main_v3, val_main_v2, val_main_v1, val_main_v0]
  fin_cases p <;> rfl

/-- The stacked parts. -/
theorem v36_apply (p : Fin 3) (z : Fin 1) (r : Fin 8192) (h : Fin 8) (k : Fin 128) :
    val_main_v36 (F := Ideal) (up O0) (up O1) (up O2) (ix5 p z r h k)
      = ((pick p (O0 (ix4 0 r h k)) (O1 (ix4 0 r h k)) (O2 (ix4 0 r h k)) : ℝ) : EReal) := by
  pointwise [val_main_v36, val_main_v35, val_main_v34, val_main_v33]
  fin_cases p <;> rfl

/-- The number subtracted from the log-sums is a real number. -/
theorem v11_real (z : Fin 1) (r : Fin 8192) (h : Fin 8) :
    ∃ M : ℝ, val_main_v11 (F := Ideal) (up L0) (up L1) (up L2) (ix3 z r h) = ↑M := by
  refine ⟨max (L0 (ix3 0 r h)) (max (L1 (ix3 0 r h)) (L2 (ix3 0 r h))), ?_⟩
  pointwise [val_main_v11, val_main_v10, val_main_v4, val_main_cst_1, val_main_cst]
  simp only [v3_apply]
  have e : Ideal.ofBits .f32 0xFF800000#32 = ⊥ := by simp [Ideal.ofBits, Ideal.ieee]
  rw [show (Finset.univ : Finset (Fin 3)) = {0, 1, 2} from rfl, e]
  simp [pick, coe_max]

/-- The exponentials, over a real number subtracted. -/
theorem v24_apply : ∃ M : Fin 8192 → Fin 8 → ℝ, ∀ (p : Fin 3) (z : Fin 1) (r : Fin 8192) (h : Fin 8),
    val_main_v24 (F := Ideal) (up L0) (up L1) (up L2) (ix4 p z r h)
      = ((Real.exp (pick p (L0 (ix3 0 r h)) (L1 (ix3 0 r h)) (L2 (ix3 0 r h)) - M r h) : ℝ) : EReal) := by
  choose M hM using fun r h => v11_real L0 L1 L2 0 r h
  refine ⟨M, fun p z r h => ?_⟩
  pointwise [val_main_v24, val_main_v23, val_main_v22, val_main_v21]
  rw [v3_apply, hM, ← EReal.coe_sub, Ideal.exp_coe]

/-- The weight of the `p`-th part. -/
def weightAt (p : Fin 3) (r : Fin 8192) (h : Fin 8) : ℝ :=
  weight (pick p (L0 (ix3 0 r h)) (L1 (ix3 0 r h)) (L2 (ix3 0 r h))) (L0 (ix3 0 r h)) (L1 (ix3 0 r h)) (L2 (ix3 0 r h))

/-- The softmax is the weights. -/
theorem v28_apply (p : Fin 3) (z : Fin 1) (r : Fin 8192) (h : Fin 8) :
    val_main_v28 (F := Ideal) (up L0) (up L1) (up L2) (ix4 p z r h) = ((weightAt L0 L1 L2 p r h : ℝ) : EReal) := by
  obtain ⟨M, hM⟩ := v24_apply L0 L1 L2
  pointwise [val_main_v28, val_main_v27, val_main_v26, val_main_v25, val_main_cst_7]
  simp only [hM, Fin.sum_univ_three, ← EReal.coe_add]
  rw [div_real _ (by positivity)]
  exact congrArg Real.toEReal (weight_shift _ _ _ _ _)

/-- The cotangent of the `p`-th part. -/
theorem v42_apply (p : Fin 3) (z : Fin 1) (r : Fin 8192) (h : Fin 8) (k : Fin 128) :
    val_main_v42 (F := Ideal) (up L0) (up L1) (up L2) (up D) (ix5 p z r h k)
      = ((weightAt L0 L1 L2 p r h * D (ix4 0 r h k) : ℝ) : EReal) := by
  pointwise [val_main_v42, val_main_v41, val_main_v40, val_main_v32]
  rw [v28_apply, EReal.coe_mul]

/-- The product of the mixture's cotangent with the `p`-th part over a head's columns. -/
def prod (p : Fin 3) (r : Fin 8192) (h : Fin 8) : ℝ :=
  ∑ k, D (ix4 0 r h k) * pick p (O0 (ix4 0 r h k)) (O1 (ix4 0 r h k)) (O2 (ix4 0 r h k))

/-- The cotangent of the `p`-th weight. -/
theorem v53_apply (p : Fin 3) (z : Fin 1) (r : Fin 8192) (h : Fin 8) :
    val_main_v53 (F := Ideal) (up O0) (up O1) (up O2) (up D) (ix4 p z r h) = ((prod O0 O1 O2 D p r h : ℝ) : EReal) := by
  pointwise [val_main_v53, val_main_v52, val_main_cst_11]
  rw [sum_ends]
  pointwise [val_main_v45, val_main_v44, val_main_v43, val_main_v40, val_main_cst_10]
  simp only [v36_apply, ← EReal.coe_mul, coe_sum]
  rfl

/-- The weighted mean of the three products. -/
def mean (r : Fin 8192) (h : Fin 8) : ℝ :=
  weightAt L0 L1 L2 0 r h * prod O0 O1 O2 D 0 r h + weightAt L0 L1 L2 1 r h * prod O0 O1 O2 D 1 r h
    + weightAt L0 L1 L2 2 r h * prod O0 O1 O2 D 2 r h

/-- The quotient's derivative: three exponentials `a`, `b`, `c` over their sum, of which `x` is one. -/
theorem quotient_real (x a b c s s0 s1 s2 : ℝ) (ha : 0 < a) (hb : 0 < b) (hc : 0 < c) :
    (s / (a + b + c) + -(s0 * (1 / ((a + b + c) * (a + b + c))) * a + s1 * (1 / ((a + b + c) * (a + b + c))) * b
        + s2 * (1 / ((a + b + c) * (a + b + c))) * c)) * x
      = x / (a + b + c) * (s - (a / (a + b + c) * s0 + b / (a + b + c) * s1 + c / (a + b + c) * s2)) := by
  have h : a + b + c ≠ 0 := by positivity
  field_simp
  ring

/-- The cotangent of the `p`-th log-sum: the weight times how far the product lies from the mean. -/
theorem v66_apply (p : Fin 3) (z : Fin 1) (r : Fin 8192) (h : Fin 8) :
    val_main_v66 (F := Ideal) (up O0) (up O1) (up O2) (up L0) (up L1) (up L2) (up D) (ix4 p z r h)
      = ((weightAt L0 L1 L2 p r h * (prod O0 O1 O2 D p r h - mean O0 O1 O2 L0 L1 L2 D r h) : ℝ) : EReal) := by
  obtain ⟨M, hM⟩ := v24_apply L0 L1 L2
  pointwise [val_main_v66, val_main_v65, val_main_v64, val_main_v63, val_main_v62, val_main_v61, val_main_v60, val_main_v26, val_main_v25,
    val_main_cst_7, val_main_cst_13]
  rw [sum_front]
  pointwise [val_main_v59, val_main_v58, val_main_v57, val_main_v56, val_main_v55, val_main_v54, val_main_v31, val_main_v30, val_main_v29,
    val_main_v26, val_main_v25, val_main_cst_7, val_main_cst_8, val_main_cst_12]
  have one : ∀ y : ℝ, y ≠ 0 → Ideal.div 1 (y : EReal) = ((1 / y : ℝ) : EReal) := fun y h => by rw [← EReal.coe_one, div_real _ h]
  have pos : ∀ l0 l1 l2 : ℝ, Real.exp l0 + Real.exp l1 + Real.exp l2 ≠ 0 := fun _ _ _ => by positivity
  have pos2 : ∀ l0 l1 l2 : ℝ, (Real.exp l0 + Real.exp l1 + Real.exp l2) * (Real.exp l0 + Real.exp l1 + Real.exp l2) ≠ 0 := fun _ _ _ => by positivity
  simp only [hM, v53_apply, Fin.sum_univ_three, ← EReal.coe_add, ← EReal.coe_mul, one _ (pos2 _ _ _), div_real _ (pos _ _ _), ← EReal.coe_neg]
  refine congrArg Real.toEReal ((quotient_real _ _ _ _ _ _ _ _ (Real.exp_pos _) (Real.exp_pos _) (Real.exp_pos _)).trans ?_)
  unfold mean weightAt
  simp only [← weight_shift _ _ _ _ (M r h)]
  rfl

/-- The weighted part's row product, less the log-sum's cotangent, is the weight times the mean. -/
theorem left_over (p : Fin 3) (r : Fin 8192) (h : Fin 8) :
    ∑ k, weightAt L0 L1 L2 p r h * D (ix4 0 r h k) * pick p (O0 (ix4 0 r h k)) (O1 (ix4 0 r h k)) (O2 (ix4 0 r h k))
        - weightAt L0 L1 L2 p r h * (prod O0 O1 O2 D p r h - mean O0 O1 O2 L0 L1 L2 D r h)
      = weightAt L0 L1 L2 p r h * mean O0 O1 O2 L0 L1 L2 D r h := by
  simp only [mul_assoc, ← Finset.mul_sum]
  exact sub_share _ _ _

/-- The first part's cotangent, a row of eight heads. -/
theorem do0_apply (r : Fin 8192) (j : Fin 1024) :
    val_main_v82 (F := Ideal) (up L0) (up L1) (up L2) (up D) (ix2 r j)
      = ((weightAt L0 L1 L2 0 r ⟨j.val / 128, by omega⟩ * D (ix4 0 r ⟨j.val / 128, by omega⟩ ⟨j.val % 128, by omega⟩) : ℝ) : EReal) := by
  pointwise [val_main_v82, val_main_v47, val_main_v46]
  rw [v42_apply]

/-- The second part's cotangent, a row of eight heads. -/
theorem do1_apply (r : Fin 8192) (j : Fin 1024) :
    val_main_v83 (F := Ideal) (up L0) (up L1) (up L2) (up D) (ix2 r j)
      = ((weightAt L0 L1 L2 1 r ⟨j.val / 128, by omega⟩ * D (ix4 0 r ⟨j.val / 128, by omega⟩ ⟨j.val % 128, by omega⟩) : ℝ) : EReal) := by
  pointwise [val_main_v83, val_main_v49, val_main_v48]
  rw [v42_apply]

/-- The third part's cotangent, a row of eight heads. -/
theorem do2_apply (r : Fin 8192) (j : Fin 1024) :
    val_main_v84 (F := Ideal) (up L0) (up L1) (up L2) (up D) (ix2 r j)
      = ((weightAt L0 L1 L2 2 r ⟨j.val / 128, by omega⟩ * D (ix4 0 r ⟨j.val / 128, by omega⟩ ⟨j.val % 128, by omega⟩) : ℝ) : EReal) := by
  pointwise [val_main_v84, val_main_v51, val_main_v50]
  rw [v42_apply]

/-- What is left of the first part's row product, on every column of a head. -/
theorem dd0_apply (r : Fin 8192) (j : Fin 1024) :
    val_main_v88 (F := Ideal) (up O0) (up O1) (up O2) (up L0) (up L1) (up L2) (up D) (ix2 r j)
      = ((weightAt L0 L1 L2 0 r ⟨j.val / 128, by omega⟩ * mean O0 O1 O2 L0 L1 L2 D r ⟨j.val / 128, by omega⟩ : ℝ) : EReal) := by
  pointwise [val_main_v88, val_main_v87, val_main_v86, val_main_v85, val_main_v75, val_main_v68, val_main_v67, val_main_v74, val_main_v73, val_main_v47, val_main_v46, val_main_cst_14]
  simp only [v42_apply, v66_apply, ← EReal.coe_mul, coe_sum, ← EReal.coe_sub]
  have e := left_over O0 O1 O2 L0 L1 L2 D 0 r ⟨j.val / 128, by omega⟩
  simp only [pick_0] at e
  exact congrArg Real.toEReal e

/-- What is left of the second part's row product, on every column of a head. -/
theorem dd1_apply (r : Fin 8192) (j : Fin 1024) :
    val_main_v92 (F := Ideal) (up O0) (up O1) (up O2) (up L0) (up L1) (up L2) (up D) (ix2 r j)
      = ((weightAt L0 L1 L2 1 r ⟨j.val / 128, by omega⟩ * mean O0 O1 O2 L0 L1 L2 D r ⟨j.val / 128, by omega⟩ : ℝ) : EReal) := by
  pointwise [val_main_v92, val_main_v91, val_main_v90, val_main_v89, val_main_v78, val_main_v70, val_main_v69, val_main_v77, val_main_v76, val_main_v49, val_main_v48, val_main_cst_15]
  simp only [v42_apply, v66_apply, ← EReal.coe_mul, coe_sum, ← EReal.coe_sub]
  have e := left_over O0 O1 O2 L0 L1 L2 D 1 r ⟨j.val / 128, by omega⟩
  simp only [pick_1] at e
  exact congrArg Real.toEReal e

/-- What is left of the third part's row product, on every column of a head. -/
theorem dd2_apply (r : Fin 8192) (j : Fin 1024) :
    val_main_v96 (F := Ideal) (up O0) (up O1) (up O2) (up L0) (up L1) (up L2) (up D) (ix2 r j)
      = ((weightAt L0 L1 L2 2 r ⟨j.val / 128, by omega⟩ * mean O0 O1 O2 L0 L1 L2 D r ⟨j.val / 128, by omega⟩ : ℝ) : EReal) := by
  pointwise [val_main_v96, val_main_v95, val_main_v94, val_main_v93, val_main_v81, val_main_v72, val_main_v71, val_main_v80, val_main_v79, val_main_v51, val_main_v50, val_main_cst_16]
  simp only [v42_apply, v66_apply, ← EReal.coe_mul, coe_sum, ← EReal.coe_sub]
  have e := left_over O0 O1 O2 L0 L1 L2 D 2 r ⟨j.val / 128, by omega⟩
  simp only [pick_2] at e
  exact congrArg Real.toEReal e

end Cert.MergeRefIdeal.Result

end
-- ==== Proof.MergeClaim.lean ====
/-
  The merge's backward kernel: its claims. The frames are the generated ones; the equation sets the kernel's six
  arrays beside the reference's six results, the same real numbers at finite arguments.
-/
module

public import proofs.«01_k».proof.Defs
public import proofs.«01_k».proof.Proof.MergeValue
public import proofs.«01_k».proof.Proof.MergeRef
public import proofs.«01_k».proof.Proof.Gen.Merge.Frame
public import proofs.«01_k».proof.Proof.Gen.Pre_merge_finite
public import Idealize.ShloMosaic.Lib.Quiescent

@[expose] public section

set_option maxRecDepth 16384

noncomputable section

namespace Cert.MergeIdeal.Result

open Cert.MergeIdeal Cert.MergeIdeal.Gen Idealize.ShloMosaic Idealize.ShloMosaic.TcCoe Idealize.SL.Sem

/-- The run: the six arrays end as the blocks left them, the arguments unchanged. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v16_0) = (dats m 0 c).arrAt 7 cfg0.N
      ∧ r.2.mem ((c : Thread nD τ).loc main_v16_1) = (dats m 0 c).arrAt 8 cfg0.N
      ∧ r.2.mem ((c : Thread nD τ).loc main_v16_2) = (dats m 0 c).arrAt 9 cfg0.N
      ∧ r.2.mem ((c : Thread nD τ).loc main_v16_3) = (dats m 0 c).arrAt 10 cfg0.N
      ∧ r.2.mem ((c : Thread nD τ).loc main_v16_4) = (dats m 0 c).arrAt 11 cfg0.N
      ∧ r.2.mem ((c : Thread nD τ).loc main_v16_5) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7, (h c).1 8, (h c).1 9, (h c).1 10, (h c).1 11, (h c).1 12,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m ρ)

end Cert.MergeIdeal.Result

namespace Cert.MergeRefIdeal.Result

open Cert.MergeRefIdeal Cert.MergeRefIdeal.Gen Idealize.ShloMosaic Cert.MergeIdeal.Block Cert.MergeIdeal.Result

variable (O0 O1 O2 : S1x8192x8x128.Idx → ℝ) (L0 L1 L2 : S1x8192x8.Idx → ℝ) (D : S1x8192x8x128.Idx → ℝ)

/-- A head's product is the product over the columns of its row that lie in the head. -/
theorem dot_rows (A B : S1x8192x8x128.Idx → ℝ) (r : Fin 8192) (j : Fin 1024) :
    ∑ k, A (ix4 0 r ⟨j.val / 128, by omega⟩ k) * B (ix4 0 r ⟨j.val / 128, by omega⟩ k) = dot (fun x => rows A (ix2 r x)) (fun x => rows B (ix2 r x)) j := by
  refine Finset.sum_congr rfl fun k _ => ?_
  have e : ∀ X : S1x8192x8x128.Idx → ℝ, rows X (ix2 r (lane j k)) = X (ix4 0 r ⟨j.val / 128, by omega⟩ k) := fun X => by
    have e0 : head (lane j k) = ⟨j.val / 128, by omega⟩ := Fin.ext (by
      show (j.val / 128 * 128 + k.val) / 128 = j.val / 128
      have := k.isLt
      omega)
    have e1 : inHead (lane j k) = k := Fin.ext (by
      show (j.val / 128 * 128 + k.val) % 128 = k.val
      have := k.isLt
      omega)
    show X (ix4 0 r (head (lane j k)) (inHead (lane j k))) = _
    rw [e0, e1]
  show _ = rows A (ix2 r (lane j k)) * rows B (ix2 r (lane j k))
  rw [e, e]

/-- The two ways to write the weighted mean agree. -/
theorem mean_rows (r : Fin 8192) (j : Fin 1024) :
    mean O0 O1 O2 L0 L1 L2 D r ⟨j.val / 128, by omega⟩
      = Cert.MergeIdeal.Block.mean (fun x => rows D (ix2 r x)) (fun x => rows O0 (ix2 r x)) (fun x => rows O1 (ix2 r x)) (fun x => rows O2 (ix2 r x))
          (lanes L0 (ix2 r j)) (lanes L1 (ix2 r j)) (lanes L2 (ix2 r j)) j := by
  unfold Cert.MergeIdeal.Block.mean
  rw [← dot_rows, ← dot_rows, ← dot_rows]
  rfl

end Cert.MergeRefIdeal.Result

namespace Cert.Proof.Merge

open Idealize.ShloMosaic Idealize.ShloMosaic.TcCoe Idealize.SL.Sem Cert.Reals

/-- The reference ends with its arguments unchanged and its counters at zero. -/
theorem frame_ref : Cert.quiescent_MergeRefIdeal := fun m g _ =>
  (θ_run Cert.MergeRefIdeal.defs _ _).mono
    (fun r h => ⟨fun c => (h c).2.2.2.2.2.2, Idealize.ShloMosaic.sem_eq_zero_of_no_sems (by decide) r.2⟩) (Cert.MergeRefIdeal.Value.run (F := Ideal) m g)

set_option maxHeartbeats 1000000 in
/-- At finite arguments the kernel's six arrays are the reference's six results. -/
theorem algebraic : Cert.algebraic_MergeIdeal_MergeRefIdeal_pre_merge_finite := by
  intro m g m' g' hpre hagree
  refine ⟨fun c => (Cert.MergeIdeal.Gen.dats m 0 c).arrAt 7 Cert.MergeIdeal.cfg0.N, fun c => (Cert.MergeIdeal.Gen.dats m 0 c).arrAt 8 Cert.MergeIdeal.cfg0.N, fun c => (Cert.MergeIdeal.Gen.dats m 0 c).arrAt 9 Cert.MergeIdeal.cfg0.N, fun c => (Cert.MergeIdeal.Gen.dats m 0 c).arrAt 10 Cert.MergeIdeal.cfg0.N, fun c => (Cert.MergeIdeal.Gen.dats m 0 c).arrAt 11 Cert.MergeIdeal.cfg0.N, fun c => (Cert.MergeIdeal.Gen.dats m 0 c).arrAt 12 Cert.MergeIdeal.cfg0.N,
    Cert.MergeIdeal.Result.run_blocks m g, ?_⟩
  refine (θ_run Cert.MergeRefIdeal.defs _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.MergeRefIdeal.Value.run (F := Ideal) m' g')
  all_goals
    obtain ⟨p0, p1, p2, p3, p4, p5, p6⟩ := hpre c
    obtain ⟨O0, hO0⟩ := real_of_test _ _ lit_inf _ p0
    obtain ⟨O1, hO1⟩ := real_of_test _ _ lit_inf _ p1
    obtain ⟨O2, hO2⟩ := real_of_test _ _ lit_inf _ p2
    obtain ⟨L0, hL0⟩ := real_of_test _ _ lit_inf _ p3
    obtain ⟨L1, hL1⟩ := real_of_test _ _ lit_inf _ p4
    obtain ⟨L2, hL2⟩ := real_of_test _ _ lit_inf _ p5
    obtain ⟨D, hD⟩ := real_of_test _ _ lit_inf _ p6
    obtain ⟨a0, a1, a2, a3, a4, a5, a6⟩ := hagree c
    have hR : Cert.MergeIdeal.Result.Real m c O0 O1 O2 L0 L1 L2 D := ⟨hO0, hO1, hO2, hL0, hL1, hL2, hD⟩
  · refine Eq.trans ?_ (Cert.MergeIdeal.Result.final_7 m c O0 O1 O2 L0 L1 L2 D hR).symm
    rw [Cert.MergeRefIdeal.Read.val_main_v82_eq, a3, a4, a5, a6, hL0, hL1, hL2, hD]
    funext i
    idx_vars i
    exact Cert.MergeRefIdeal.Result.do0_apply L0 L1 L2 D _ _
  · refine Eq.trans ?_ (Cert.MergeIdeal.Result.final_8 m c O0 O1 O2 L0 L1 L2 D hR).symm
    rw [Cert.MergeRefIdeal.Read.val_main_v83_eq, a3, a4, a5, a6, hL0, hL1, hL2, hD]
    funext i
    idx_vars i
    exact Cert.MergeRefIdeal.Result.do1_apply L0 L1 L2 D _ _
  · refine Eq.trans ?_ (Cert.MergeIdeal.Result.final_9 m c O0 O1 O2 L0 L1 L2 D hR).symm
    rw [Cert.MergeRefIdeal.Read.val_main_v84_eq, a3, a4, a5, a6, hL0, hL1, hL2, hD]
    funext i
    idx_vars i
    exact Cert.MergeRefIdeal.Result.do2_apply L0 L1 L2 D _ _
  · refine Eq.trans ?_ (Cert.MergeIdeal.Result.final_10 m c O0 O1 O2 L0 L1 L2 D hR).symm
    rw [Cert.MergeRefIdeal.Read.val_main_v88_eq, a0, a1, a2, a3, a4, a5, a6, hO0, hO1, hO2, hL0, hL1, hL2, hD]
    funext i
    idx_vars i
    exact (Cert.MergeRefIdeal.Result.dd0_apply O0 O1 O2 L0 L1 L2 D _ _).trans
      (congrArg Real.toEReal (congrArg (_ * ·) (Cert.MergeRefIdeal.Result.mean_rows O0 O1 O2 L0 L1 L2 D _ _)))
  · refine Eq.trans ?_ (Cert.MergeIdeal.Result.final_11 m c O0 O1 O2 L0 L1 L2 D hR).symm
    rw [Cert.MergeRefIdeal.Read.val_main_v92_eq, a0, a1, a2, a3, a4, a5, a6, hO0, hO1, hO2, hL0, hL1, hL2, hD]
    funext i
    idx_vars i
    exact (Cert.MergeRefIdeal.Result.dd1_apply O0 O1 O2 L0 L1 L2 D _ _).trans
      (congrArg Real.toEReal (congrArg (_ * ·) (Cert.MergeRefIdeal.Result.mean_rows O0 O1 O2 L0 L1 L2 D _ _)))
  · refine Eq.trans ?_ (Cert.MergeIdeal.Result.final_12 m c O0 O1 O2 L0 L1 L2 D hR).symm
    rw [Cert.MergeRefIdeal.Read.val_main_v96_eq, a0, a1, a2, a3, a4, a5, a6, hO0, hO1, hO2, hL0, hL1, hL2, hD]
    funext i
    idx_vars i
    exact (Cert.MergeRefIdeal.Result.dd2_apply O0 O1 O2 L0 L1 L2 D _ _).trans
      (congrArg Real.toEReal (congrArg (_ * ·) (Cert.MergeRefIdeal.Result.mean_rows O0 O1 O2 L0 L1 L2 D _ _)))

end Cert.Proof.Merge

end
-- ==== Proof.Band.lean ====
/-
  Causal attention inside a band of keys, over the real numbers, one block of 128 queries at a time. A query block sees
  its own key block up to the diagonal and the block before it from the diagonal on, when there is one. This module
  defines the softmax over both, its row log-sum and its output, and the gradients of the queries, keys and values for a
  cotangent of the output and one of the log-sum; and it proves that the softmax, computed in the extended reals with the
  row's maximum subtracted and minus infinity for a masked score, is the real one.
-/
module

public import proofs.«01_k».proof.Proof.Reals

@[expose] public section

noncomputable section

namespace Cert.Band

open Idealize.ShloMosaic Cert.Reals

/-- One block of 128 rows with 128 features of one head. -/
abbrev Tile := Fin 128 → Fin 128 → ℝ

/-- Which keys of a block a query sees. -/
abbrev Mask := Fin 128 → Fin 128 → Bool

/-- The scale of the scores, one over the root of the head's width. -/
def s : ℝ := (Real.sqrt 128)⁻¹

/-- The query's own block: the keys up to the query. -/
def cur : Mask := fun i j => decide (j.val ≤ i.val)

/-- The block before, if it exists: the keys from the query on. -/
def prev (g : Bool) : Mask := fun i j => g && decide (i.val ≤ j.val)

/-- The inner product of two blocks' rows. -/
def dot (a b : Tile) : Tile := fun i j => ∑ c, a i c * b j c

/-- The scaled scores. -/
def score (q k : Tile) : Tile := fun i j => dot q k i j * s

/-- The numbers a mask keeps, zero elsewhere. -/
def keep (M : Mask) (f : Tile) : Tile := fun i j => if M i j then f i j else 0

/-- The sum of the exponentials of the scores the query sees in its own block and the one before. -/
def z (g : Bool) (q k kp : Tile) (i : Fin 128) : ℝ :=
  ∑ j, keep (prev g) (fun i j => Real.exp (score q kp i j)) i j + ∑ j, keep cur (fun i j => Real.exp (score q k i j)) i j

/-- The row's log-sum. -/
def lse (g : Bool) (q k kp : Tile) (i : Fin 128) : ℝ := Real.log (z g q k kp i)

/-- The softmax weights of one block of keys, given the rows' log-sums. -/
def weight (M : Mask) (q k : Tile) (L : Fin 128 → ℝ) : Tile := keep M fun i j => Real.exp (score q k i j - L i)

/-- The rows times a block: what the weights gather from the values. -/
def apply (p v : Tile) : Tile := fun i c => ∑ j, p i j * v j c

/-- The columns times a block. -/
def applyT (p v : Tile) : Tile := fun j c => ∑ i, p i j * v i c

/-- The attention's output. -/
def att (g : Bool) (q k kp v vp : Tile) : Tile := fun i c =>
  apply (weight (prev g) q kp (lse g q k kp)) vp i c + apply (weight cur q k (lse g q k kp)) v i c

/-- The row's sum of the cotangent times the output, minus the log-sum's cotangent. -/
def corr (o a : Tile) (e : Fin 128 → ℝ) (i : Fin 128) : ℝ := ∑ c, o i c * a i c - e i

/-- The gradient of the scores of one block of keys. -/
def ds (M : Mask) (q k v o : Tile) (L D : Fin 128 → ℝ) : Tile := fun i j => weight M q k L i j * (dot o v i j - D i) * s

theorem keep_none (f : Tile) : keep (prev false) f = fun _ _ => 0 := by
  funext i j; simp [keep, prev]

theorem weight_none (q k : Tile) (L : Fin 128 → ℝ) : weight (prev false) q k L = fun _ _ => 0 := keep_none _

theorem ds_none (q k v o : Tile) (L D : Fin 128 → ℝ) : ds (prev false) q k v o L D = fun _ _ => 0 := by
  funext i j; simp [ds, weight_none]

theorem applyT_zero (v : Tile) : applyT (fun _ _ => 0) v = fun _ _ => 0 := by
  funext j c; simp [applyT]

theorem s_pos : 0 < s := by unfold s; positivity

theorem keep_exp_nonneg (M : Mask) (f : Tile) (i j : Fin 128) : 0 ≤ keep M (fun i j => Real.exp (f i j)) i j := by
  unfold keep; split_ifs <;> positivity

/-- A query sees at least itself, so the sum is positive. -/
theorem z_pos (g : Bool) (q k kp : Tile) (i : Fin 128) : 0 < z g q k kp i := by
  unfold z
  refine add_pos_of_nonneg_of_pos (Finset.sum_nonneg fun j _ => keep_exp_nonneg _ _ _ _)
    (Finset.sum_pos' (fun j _ => keep_exp_nonneg _ _ _ _) ⟨i, Finset.mem_univ _, ?_⟩)
  have : cur i i = true := by simp [cur]
  simp only [keep, this, if_true]
  positivity

/-! ## In the extended reals -/

/-- A finite sum of extended reals each of which is a real number. -/
theorem sum_real {J : Type*} [Fintype J] (A : J → EReal) (f : J → ℝ) (h : ∀ j, A j = ((f j : ℝ) : EReal)) :
    ∑ j, A j = ((∑ j, f j : ℝ) : EReal) := by
  rw [← coe_sum]
  exact Finset.sum_congr rfl fun j _ => h j

/-- A masked score: minus infinity where the mask is off. -/
def hide (M : Bool) (f : ℝ) : EReal := if M then (f : EReal) else ⊥

/-- The maximum of masked scores is minus infinity or a real number. -/
theorem max_hide {J : Type*} [Fintype J] (M : J → Bool) (f : J → ℝ) :
    Finset.univ.fold max ⊥ (fun j => hide (M j) (f j)) ≠ ⊤ := by
  classical
  generalize (Finset.univ : Finset J) = S
  induction S using Finset.induction_on with
  | empty => simp
  | insert a S ha ih =>
    rw [Finset.fold_insert ha]
    unfold hide at ih ⊢
    rcases max_choice (if M a then ((f a : ℝ) : EReal) else ⊥) (Finset.fold max ⊥ (fun j => if M j then ((f j : ℝ) : EReal) else ⊥) S) with h | h
    · rw [h]; split_ifs <;> simp
    · rw [h]; exact ih

/-- Where the mask is on somewhere the maximum is a real number. -/
theorem max_hide_real {J : Type*} [Fintype J] (M : J → Bool) (f : J → ℝ) (j : J) (hj : M j = true) :
    ∃ m : ℝ, Finset.univ.fold max ⊥ (fun j => hide (M j) (f j)) = (m : EReal) := by
  have hT := max_hide M f
  have hB : Finset.univ.fold max ⊥ (fun j => hide (M j) (f j)) ≠ ⊥ := by
    intro h
    have := (Finset.fold_max_le (s := Finset.univ) (f := fun j => hide (M j) (f j)) (b := ⊥) ⊥).1 h.le
    have := this.2 j (Finset.mem_univ _)
    simp [hide, hj] at this
  exact ⟨_, (EReal.coe_toReal hT hB).symm⟩

/-- The larger of the two maxima of a row, own block and block before, is a real number. -/
theorem max_pair_real {J : Type*} [Fintype J] (M N : J → Bool) (f h : J → ℝ) (j : J) (hj : N j = true) :
    ∃ m : ℝ, max (Finset.univ.fold max ⊥ (fun j => hide (M j) (f j))) (Finset.univ.fold max ⊥ (fun j => hide (N j) (h j))) = (m : EReal) := by
  obtain ⟨b, hb⟩ := max_hide_real N h j hj
  have ha := max_hide M f
  rw [hb]
  generalize Finset.univ.fold max ⊥ (fun j => hide (M j) (f j)) = x at ha
  induction x using EReal.rec with
  | bot => exact ⟨b, by simp⟩
  | coe a => exact ⟨max a b, (EReal.coe_strictMono.monotone.map_max (a := a) (b := b)).symm⟩
  | top => exact absurd rfl ha

/-- The word of minus infinity. -/
theorem lit_neg_inf : Ideal.ofBits .f32 4286578688#32 = ⊥ := by simp [Ideal.ofBits, Ideal.ieee]

/-- The exponential of a masked score. -/
theorem exp_hide (M : Bool) (f m : ℝ) : Ideal.exp (hide M f - (m : EReal)) = ((if M then Real.exp (f - m) else 0 : ℝ) : EReal) := by
  unfold hide
  cases M
  · simp
  · simp [← EReal.coe_sub]

/-- The exponentials with a number subtracted, summed over both blocks. -/
theorem sum_shift (g : Bool) (q k kp : Tile) (i : Fin 128) (m : ℝ) :
    ∑ j, (if prev g i j then Real.exp (score q kp i j - m) else 0) + ∑ j, (if cur i j then Real.exp (score q k i j - m) else 0)
      = z g q k kp i * Real.exp (-m) := by
  unfold z keep
  rw [add_mul, Finset.sum_mul, Finset.sum_mul]
  congr 1 <;> refine Finset.sum_congr rfl fun j _ => ?_ <;> split_ifs <;> simp [sub_eq_add_neg, Real.exp_add]

/-- The log of that sum, with the number put back, is the row's log-sum. -/
theorem log_shift (g : Bool) (q k kp : Tile) (i : Fin 128) (m : ℝ) :
    (m : EReal) + Ideal.log ((z g q k kp i * Real.exp (-m) : ℝ) : EReal) = (lse g q k kp i : EReal) := by
  have h : 0 < z g q k kp i * Real.exp (-m) := mul_pos (z_pos ..) (Real.exp_pos _)
  rw [Ideal.log_coe, if_neg (not_le.mpr h), Real.log_mul (z_pos ..).ne' (Real.exp_pos _).ne', Real.log_exp, ← EReal.coe_add]
  unfold lse
  exact congrArg Real.toEReal (by ring)

/-- A weight is the exponential over the sum. -/
theorem weight_eq (M : Mask) (g : Bool) (q k' k kp : Tile) (i j : Fin 128) (m : ℝ) :
    (if M i j then Real.exp (score q k' i j - m) else 0) / (z g q k kp i * Real.exp (-m)) = weight M q k' (lse g q k kp) i j := by
  unfold weight keep
  split_ifs with h
  · show _ = Real.exp (score q k' i j - lse g q k kp i)
    unfold lse
    rw [Real.exp_sub, Real.exp_sub, Real.exp_log (z_pos ..), Real.exp_neg]
    have := (z_pos g q k kp i).ne'
    have := (Real.exp_pos m).ne'
    field_simp
  · simp

/-- The cotangent times the output, summed over a row, is the weights times the cotangent's products with the values. -/
theorem sum_corr (g : Bool) (q k kp v vp o : Tile) (i : Fin 128) :
    ∑ c, o i c * att g q k kp v vp i c
      = ∑ j, weight (prev g) q kp (lse g q k kp) i j * dot o vp i j + ∑ j, weight cur q k (lse g q k kp) i j * dot o v i j := by
  have key (p v : Tile) : ∑ c, o i c * apply p v i c = ∑ j, p i j * dot o v i j := by
    simp only [apply, dot, Finset.mul_sum]
    rw [Finset.sum_comm]
    exact Finset.sum_congr rfl fun j _ => Finset.sum_congr rfl fun c _ => by ring
  simp only [att, mul_add, Finset.sum_add_distrib, key]

/-! ## All blocks of a head -/

/-- The blocks of one head's array, by their number; a block one would need and which does not exist is any block. -/
abbrev Blocks := ℕ → Tile

/-- The rows' log-sums of block `n`, whose block before is `d` blocks back. -/
def L (d : ℕ) (q k : Blocks) (n : ℕ) : Fin 128 → ℝ := lse (decide (d ≤ n)) (q n) (k n) (k (n - d))

/-- The rows' corrections of block `n`. -/
def D (d : ℕ) (q k v o : Blocks) (e : ℕ → Fin 128 → ℝ) (n : ℕ) : Fin 128 → ℝ :=
  corr (o n) (att (decide (d ≤ n)) (q n) (k n) (k (n - d)) (v n) (v (n - d))) (e n)

/-- The gradient of the scores of block `n` with its own keys. -/
def dsCur (d : ℕ) (q k v o : Blocks) (e : ℕ → Fin 128 → ℝ) (n : ℕ) : Tile :=
  ds cur (q n) (k n) (v n) (o n) (L d q k n) (D d q k v o e n)

/-- The gradient of the scores of block `n` with the keys of block `m`, if `g`. -/
def dsPrev (g : Bool) (d : ℕ) (q k v o : Blocks) (e : ℕ → Fin 128 → ℝ) (n m : ℕ) : Tile :=
  ds (prev g) (q n) (k m) (v m) (o n) (L d q k n) (D d q k v o e n)

/-- The gradient of the queries. -/
def dq (d : ℕ) (q k v o : Blocks) (e : ℕ → Fin 128 → ℝ) (n : ℕ) : Tile := fun i c =>
  apply (dsCur d q k v o e n) (k n) i c + apply (dsPrev (decide (d ≤ n)) d q k v o e n (n - d)) (k (n - d)) i c

/-- The gradient of the keys: of the block's own queries and of those of the block after, if there is one among the `N`. -/
def dk (N d : ℕ) (q k v o : Blocks) (e : ℕ → Fin 128 → ℝ) (n : ℕ) : Tile := fun j c =>
  applyT (dsCur d q k v o e n) (q n) j c + applyT (dsPrev (decide (n + d < N)) d q k v o e (n + d) n) (q (n + d)) j c

/-- The gradient of the values. -/
def dv (N d : ℕ) (q k o : Blocks) (n : ℕ) : Tile := fun j c =>
  applyT (weight cur (q n) (k n) (L d q k n)) (o n) j c
    + applyT (weight (prev (decide (n + d < N))) (q (n + d)) (k n) (L d q k (n + d))) (o (n + d)) j c

end Cert.Band

end
-- ==== Proof.BandBlock.lean ====
/-
  Stacks of blocks in the extended reals: a tile of 2048 rows as sixteen blocks of 128, a single block as a window,
  and masks as arrays of one-bit words. The readings here are what the banded attention's kernels have in common.
-/
module

public import proofs.«01_k».proof.Proof.Band
public import Idealize.ShloMosaic.Lib.Pipeline.FrameBody
public import Idealize.ShloMosaic.Lib.WordCmp

@[expose] public section

noncomputable section

namespace Cert.Band

open Idealize.ShloMosaic Cert.Reals

/-- The shape of a stack of sixteen blocks. -/
abbrev Sh16 : Shape := ⟨3, ![16, 128, 128]⟩
/-- The shape of a stack of one block. -/
abbrev Sh1 : Shape := ⟨3, ![1, 128, 128]⟩
/-- The shape of a tile of sixteen blocks of rows. -/
abbrev ShW : Shape := ⟨2, ![2048, 128]⟩
/-- The shape of one block. -/
abbrev ShT : Shape := ⟨2, ![128, 128]⟩

/-- Sixteen blocks as a stack. -/
def st {φ : FTy} (Y : Blocks) : FVec Ideal Sh16 φ := fun y => ((Y (y 0).val (y 1) (y 2) : ℝ) : EReal)

/-- One block as a stack. -/
def st1 {φ : FTy} (Y : Tile) : FVec Ideal Sh1 φ := fun y => ((Y (y 1) (y 2) : ℝ) : EReal)

/-- Sixteen blocks as a tile of rows, block after block. -/
def win (Y : Blocks) : FVec Ideal ShW .f32 := fun y =>
  ((Y ((y 0).val / 128) ⟨(y 0).val % 128, Nat.mod_lt _ (by norm_num)⟩ (y 1) : ℝ) : EReal)

/-- One block as a window. -/
def tile {φ : FTy} (Y : Tile) : FVec Ideal ShT φ := fun y => ((Y (y 0) (y 1) : ℝ) : EReal)

/-- The stack a tile of rows is read as. -/
def stk {φ : FTy} (x : FVec Ideal ShW .f32) : FVec Ideal Sh16 φ := fun y =>
  x (ix2 ⟨128 * (y 0).val + (y 1).val, by have : (y 0).val < 16 := (y 0).isLt; have : (y 1).val < 128 := (y 1).isLt; show _ < 2048; omega⟩ (y 2))

/-- Row `i` of block `b` of a tile. -/
theorem win_at (Y : Blocks) (b : ℕ) (i j : Fin 128) (h : 128 * b + i.val < 2048) :
    win Y (ix2 ⟨128 * b + i.val, h⟩ j) = ((Y b i j : ℝ) : EReal) := by
  have hb : (128 * b + i.val) / 128 = b := by have := i.isLt; omega
  have hi : (⟨(128 * b + i.val) % 128, Nat.mod_lt _ (by norm_num)⟩ : Fin 128) = i := Fin.ext (by have := i.isLt; show (128 * b + i.val) % 128 = _; omega)
  show ((Y ((128 * b + i.val) / 128) ⟨(128 * b + i.val) % 128, _⟩ j : ℝ) : EReal) = _
  rw [hb, hi]

theorem stk_win {φ : FTy} (Y : Blocks) : stk (φ := φ) (win Y) = st Y := funext fun y => win_at Y (y 0).val (y 1) (y 2) _

/-- A block's row in the stack and in the tile of rows. -/
theorem st_eq_win {φ : FTy} (Y : Blocks) (b : Fin 16) (o : ℕ) (ho : o = 128 * b.val) (i j : Fin 128) (h : o + i.val < 2048) :
    st (φ := φ) Y (ix3 b i j) = win Y (ix2 ⟨o + i.val, h⟩ j) := by
  subst ho
  exact (win_at Y b.val i j h).symm

theorem st_eq_win_zero {φ : FTy} (Y : Blocks) (i j : Fin 128) (h : i.val < 2048) :
    st (φ := φ) Y (ix3 0 i j) = win Y (ix2 ⟨i.val, h⟩ j) := by
  have e := st_eq_win (φ := φ) Y 0 0 rfl i j (by omega)
  simp only [Nat.zero_add] at e
  exact e

/-- Masks as one-bit words. -/
def mk (M : ℕ → Mask) : IVec Sh16 1 := fun y => BitVec.ofBool (M (y 0).val (y 1) (y 2))

/-- One mask as one-bit words. -/
def mk1 (M : Mask) : IVec Sh1 1 := fun y => BitVec.ofBool (M (y 1) (y 2))

/-- The blocks before: the first one's from elsewhere. -/
def shift (KP : Tile) (K : Blocks) : Blocks := fun b => if b = 0 then KP else K (b - 1)

/-- The blocks after: the last one's from elsewhere. -/
def shiftNext (KN : Tile) (K : Blocks) : Blocks := fun b => if b = 15 then KN else K (b + 1)

theorem shiftNext_of_lt (KN : Tile) (K : Blocks) {b : ℕ} (h : b < 15) : shiftNext KN K b = K (1 + b) := by
  unfold shiftNext
  rw [if_neg (by omega), Nat.add_comm]

theorem shiftNext_of_not_lt (KN : Tile) (K : Blocks) {b : ℕ} (h : ¬ b < 15) (hb : b < 16) : shiftNext KN K b = KN :=
  if_pos (by omega)

/-- The block before, read off a stack with its first block apart. -/
theorem shift_at {φ : FTy} (KP : Tile) (K : Blocks) (b : Fin 16) (i j : Fin 128) (p : ¬ b.val < 1 → b.val - 1 < 16) :
    (if h : b.val < 1 then tile (φ := φ) KP (ix2 i j) else st (φ := φ) K (ix3 ⟨b.val - 1, p h⟩ i j)) = ((shift KP K b.val i j : ℝ) : EReal) := by
  unfold shift
  by_cases h : b.val < 1
  · rw [dif_pos h, if_pos (by omega)]; rfl
  · rw [dif_neg h, if_neg (by omega)]; rfl

/-- A tile of rows its pieces cover is `G` when every piece holds its part of `G`. -/
theorem canon_eq (G : Vec Ideal ShW .f32) (L : List (View.Piece (Elt Ideal) ShW .f32))
    (hL : ∀ p ∈ L, ∀ x : p.1.shape.Idx, p.2 x = G (p.1.emb x)) (hc : ∀ y, ∃ p ∈ L, y ∈ p.1.set) : View.canon L = G :=
  funext fun y => View.canon_apply_of_pieces G L hL y (hc y)

/-- Where the store of the block at row `o` puts its element. -/
theorem emb_rows (o : ℕ) (inb) (r q : Fin 128) :
    (Rect.unit (s := ShW) ![o, 0] ShT.size inb).emb (ix2 r q) = ix2 ⟨o + r.val, by have : o + 128 ≤ 2048 := inb 0; have := r.isLt; omega⟩ q :=
  funext fun a => Fin.ext (by
    match a with
    | ⟨0, _⟩ => show o + 1 * r.val = o + r.val; omega
    | ⟨1, _⟩ => show 0 + 1 * q.val = q.val; omega)

/-- Whether block `b` of a tile has a block before it: not the first `d` of the first tile. -/
def has (d n b : ℕ) : Bool := !(decide (b < d) && decide (n = 0))

/-- The kernel's test of the diagonal, for a query's own block. -/
theorem word_cur (i j : Fin 128) : IntOp.cmpi .sle (BitVec.ofNat 32 j.val) (BitVec.ofNat 32 i.val) = BitVec.ofBool (cur i j) := by
  have := i.isLt; have := j.isLt
  unfold cur
  word_cmp

/-- The kernel's test for the block before: a limit no key reaches where there is none. -/
theorem word_prev (g : Bool) (i j : Fin 128) :
    IntOp.cmpi .sge (BitVec.ofNat 32 j.val) (IntOp.addi (BitVec.ofNat 32 i.val) (Scalar.select (BitVec.ofBool g) 128#32 0#32))
      = BitVec.ofBool (prev (!g) i j) := by
  have := i.isLt; have := j.isLt
  cases g
  · rw [show Scalar.select (BitVec.ofBool false) 128#32 0#32 = BitVec.ofNat 32 0 from rfl, WordCmp.addi_ofNat,
      WordCmp.cmpi_sge_ofNat (by norm_num; omega) (by norm_num; omega)]
    simp [prev]
  · rw [show Scalar.select (BitVec.ofBool true) 128#32 0#32 = BitVec.ofNat 32 128 from rfl, WordCmp.addi_ofNat,
      WordCmp.cmpi_sge_ofNat (by norm_num; omega) (by norm_num; omega)]
    have : ¬ i.val + 128 ≤ j.val := by omega
    simp [prev, this]

/-- The kernel's test for the first blocks. -/
theorem word_gone (d n b : ℕ) (hd : d < 2 ^ 31) (hn : n < 2 ^ 31) (hb : b < 2 ^ 31) :
    IntOp.andi (IntOp.cmpi .slt (BitVec.ofNat 32 b) (BitVec.ofNat 32 d)) (Scalar.cmpi .eq (BitVec.ofNat 32 n) 0#32)
      = BitVec.ofBool (decide (b < d) && decide (n = 0)) := by
  rw [WordCmp.scalar_cmpi_eq, WordCmp.cmpi_slt_ofNat hb hd, show (0#32) = BitVec.ofNat 32 0 from rfl,
    WordCmp.cmpi_eq_ofNat (by omega) (by norm_num), WordCmp.andi_ofBool]

/-- The kernel's test for the last block of all. -/
theorem word_last (d n e b : ℕ) (hd : d < 2 ^ 31) (hn : n < 2 ^ 31) (he : e < 2 ^ 31) (hb : b < d) :
    IntOp.andi (IntOp.cmpi .slt (BitVec.ofNat 32 b) (BitVec.ofNat 32 d)) (Scalar.cmpi .eq (BitVec.ofNat 32 n) (BitVec.ofNat 32 e))
      = BitVec.ofBool (decide (n = e)) := by
  rw [WordCmp.scalar_cmpi_eq, WordCmp.cmpi_slt_ofNat (by omega) hd,
    WordCmp.cmpi_eq_ofNat (by omega) (by omega), WordCmp.andi_ofBool]
  simp [hb]

/-- A weight: the exponential where the mask is on, zero elsewhere. -/
theorem select_weight (c : Bool) (f l : ℝ) :
    Scalar.select (BitVec.ofBool c) (Ideal.exp ((f : EReal) - (l : EReal))) 0 = ((if c then Real.exp (f - l) else 0 : ℝ) : EReal) := by
  cases c
  · rfl
  · rw [← EReal.coe_sub, Ideal.exp_coe]; rfl

end Cert.Band

end
-- ==== Proof.Dil1Block.lean ====
/-
  The forward kernel of the banded attention with dilation one, one tile: of sixteen blocks of queries, keys and values
  and the block of keys and values before them, the attention's output and the rows' log-sums.
-/
module

public import proofs.«01_k».proof.Proof.BandBlock
public import proofs.«01_k».proof.Proof.Gen.Dil1Ideal.Frame
public import Idealize.ShloMosaic.Lib.Pipeline.Value

@[expose] public section

set_option maxRecDepth 16384

noncomputable section

namespace Cert.Dil1Ideal.Block

open Cert.Dil1Ideal Cert.Dil1Ideal.Gen Idealize.ShloMosaic Cert.Reals Cert.Band

/-- The mask of the block before. -/
theorem pay6 (i : grid0.Coords) : k0_pay6 i = mk fun b => prev (has 1 (i 0).val b) := by
  funext y
  idx_vars y
  pointwise [k0_pay6]
  have h : (i 0).val < 4 := (i 0).isLt
  rw [word_gone 1 (i 0).val y0.val (by norm_num) (by omega) (by omega)]
  exact word_prev _ y1 y2

/-- The mask of the block itself. -/
theorem pay7 : k0_pay7 = mk fun _ => cur := by
  funext y
  idx_vars y
  pointwise [k0_pay7]
  exact word_cur y1 y2

variable (i : grid0.Coords) (x0 x1 x2 : Vec Ideal S2048x128 .f32) (x3 x4 : Vec Ideal S128x128 .f32)

theorem pay90 : k0_pay90 i x0 x1 x2 x3 x4 = stk x0 := by
  funext y
  idx_vars y
  unfold k0_pay90
  pointwise [k0_pay8, k0_pay9, k0_pay10, k0_pay11, k0_pay12, k0_pay13, k0_pay14, k0_pay15, k0_pay16]
  fin_cases y0
  · exact congrArg (fun r => x0 (ix2 r y2)) (Fin.ext (show y1.val = 128 * 0 + y1.val by omega))
  all_goals rfl

theorem pay91 : k0_pay91 i x0 x1 x2 x3 x4 = stk x1 := by
  funext y
  idx_vars y
  unfold k0_pay91
  pointwise [k0_pay17, k0_pay18, k0_pay19, k0_pay20, k0_pay21, k0_pay22, k0_pay23, k0_pay24, k0_pay25, k0_pay26, k0_pay27, k0_pay28, k0_pay29]
  fin_cases y0
  · exact congrArg (fun r => x1 (ix2 r y2)) (Fin.ext (show y1.val = 128 * 0 + y1.val by omega))
  all_goals rfl

/-- The scale the scores are multiplied by. -/
theorem named_s : Named.named (F := Ideal) κ "s" (φ := .f32) 1035273459#32 = ((s : ℝ) : EReal) :=
  (IdealRules.named_const.ideal_named_scalar _ _ _ _ rfl)

/-- What a masked score is. -/
theorem named_mask : Named.named (F := Ideal) κ "mask" (φ := .f32) 4048155338#32 = (⊥ : EReal) :=
  IdealRules.named_const.ideal_named_scalar _ _ _ _ rfl

variable (Q K V : Blocks) (KP VP : Tile) (g : ℕ → Bool)

/-- The scaled scores with the block before, masked. -/
theorem pay53 : k0_pay53 (F := Ideal) (mk fun b => prev (g b)) (st Q) (st K) (tile (φ := .f32) KP)
    = fun y : Sh16.Idx => hide (prev (g (y 0).val) (y 1) (y 2)) (score (Q (y 0).val) (shift KP K (y 0).val) (y 1) (y 2)) := by
  funext y
  idx_vars y
  pointwise [k0_pay53]
  rw [named_s, named_mask, sum_real _ (fun x => Q y0.val y1 x * shift KP K y0.val y2 x) fun x => ?_, ← EReal.coe_mul]
  · exact WordCmp.select_ofBool _ _ _
  · exact (congrArg (_ * ·) (shift_at KP K y0 y2 x _)).trans (EReal.coe_mul _ _).symm

/-- The scaled scores with the block itself, masked. -/
theorem pay54 : k0_pay54 (F := Ideal) (mk fun _ => cur) (st Q) (st K)
    = fun y : Sh16.Idx => hide (cur (y 1) (y 2)) (score (Q (y 0).val) (K (y 0).val) (y 1) (y 2)) := by
  funext y
  idx_vars y
  pointwise [k0_pay54]
  rw [named_s, named_mask, sum_real _ (fun x => Q y0.val y1 x * K y0.val y2 x) fun x => ?_, ← EReal.coe_mul]
  · exact WordCmp.select_ofBool _ _ _
  · exact (EReal.coe_mul _ _).symm

/-- The rows' maxima are real numbers. -/
theorem pay55 : ∃ m : ℕ → Fin 128 → ℝ,
    k0_pay55 (F := Ideal) (mk fun b => prev (g b)) (mk fun _ => cur) (st Q) (st K) (tile (φ := .f32) KP)
      = fun y : S16x128x1.Idx => ((m (y 0).val (y 1) : ℝ) : EReal) := by
  choose m hm using fun (b : ℕ) (i : Fin 128) => max_pair_real (prev (g b) i) (cur i)
    (score (Q b) (shift KP K b) i) (score (Q b) (K b) i) i (by simp [cur])
  refine ⟨m, ?_⟩
  funext y
  idx_vars y
  unfold k0_pay55
  rw [pay53, pay54]
  pointwise []
  rw [lit_neg_inf]
  exact hm y0.val y1

variable (m : ℕ → Fin 128 → ℝ)
  (hm : k0_pay55 (F := Ideal) (mk fun b => prev (g b)) (mk fun _ => cur) (st Q) (st K) (tile (φ := .f32) KP)
    = fun y : S16x128x1.Idx => ((m (y 0).val (y 1) : ℝ) : EReal))

include hm in
/-- The rows' sums of exponentials over the block before. -/
theorem pay56 : k0_pay56 (F := Ideal) (mk fun b => prev (g b)) (mk fun _ => cur) (st Q) (st K) (tile (φ := .f32) KP)
    = fun y : S16x128x1.Idx => ((∑ j, (if prev (g (y 0).val) (y 1) j then
        Real.exp (score (Q (y 0).val) (shift KP K (y 0).val) (y 1) j - m (y 0).val (y 1)) else 0) : ℝ) : EReal) := by
  funext y
  idx_vars y
  unfold k0_pay56
  rw [pay53, hm]
  pointwise []
  exact sum_real _ _ fun j => exp_hide _ _ _

include hm in
/-- The exponentials over the block itself. -/
theorem pay57 : k0_pay57 (F := Ideal) (mk fun b => prev (g b)) (mk fun _ => cur) (st Q) (st K) (tile (φ := .f32) KP)
    = fun y : Sh16.Idx => (((if cur (y 1) (y 2) then
        Real.exp (score (Q (y 0).val) (K (y 0).val) (y 1) (y 2) - m (y 0).val (y 1)) else 0) : ℝ) : EReal) := by
  funext y
  idx_vars y
  unfold k0_pay57
  rw [pay54, hm]
  pointwise []
  exact exp_hide _ _ _

/-- The rows' log-sums as a stack of columns. -/
def lseCol : FVec Ideal S16x128x1 .f32 := fun y =>
  ((lse (g (y 0).val) (Q (y 0).val) (K (y 0).val) (shift KP K (y 0).val) (y 1) : ℝ) : EReal)

/-- The rows' log-sums. -/
theorem pay58 : k0_pay58 (F := Ideal) (fun y : S16x128x1.Idx => ((m (y 0).val (y 1) : ℝ) : EReal))
    (fun y : S16x128x1.Idx => ((∑ j, (if prev (g (y 0).val) (y 1) j then
        Real.exp (score (Q (y 0).val) (shift KP K (y 0).val) (y 1) j - m (y 0).val (y 1)) else 0) : ℝ) : EReal))
    (fun y : Sh16.Idx => (((if cur (y 1) (y 2) then
        Real.exp (score (Q (y 0).val) (K (y 0).val) (y 1) (y 2) - m (y 0).val (y 1)) else 0) : ℝ) : EReal))
    = lseCol Q K KP g := by
  funext y
  idx_vars y
  pointwise [k0_pay58]
  rw [sum_real _ _ fun j => rfl, ← EReal.coe_add, sum_shift]
  exact log_shift _ _ _ _ _ _

/-- The output. -/
theorem pay59 (a : FVec Ideal S16x128x1 .f32) (b : FVec Ideal S16x128x1 .f32) (c : FVec Ideal S16x128x128 .f32)
    (h : k0_pay58 (F := Ideal) a b c = lseCol Q K KP g) : k0_pay59 (F := Ideal) (st V) (st (shift VP V))
    (fun y : Sh16.Idx => hide (prev (g (y 0).val) (y 1) (y 2)) (score (Q (y 0).val) (shift KP K (y 0).val) (y 1) (y 2)))
    (fun y : Sh16.Idx => hide (cur (y 1) (y 2)) (score (Q (y 0).val) (K (y 0).val) (y 1) (y 2))) a b c
    = st fun n => att (g n) (Q n) (K n) (shift KP K n) (V n) (shift VP V n) := by
  funext y
  idx_vars y
  unfold k0_pay59
  rw [h]
  pointwise []
  rw [sum_real _ (fun j => weight (prev (g y0.val)) (Q y0.val) (shift KP K y0.val) (lse (g y0.val) (Q y0.val) (K y0.val) (shift KP K y0.val)) y1 j
      * shift VP V y0.val j y2) fun j => ?_,
    sum_real _ (fun j => weight cur (Q y0.val) (K y0.val) (lse (g y0.val) (Q y0.val) (K y0.val) (shift KP K y0.val)) y1 j
      * V y0.val j y2) fun j => ?_, ← EReal.coe_add]
  · rfl
  · rw [EReal.coe_mul]
    exact congrArg (· * _) (exp_hide _ _ _)
  · rw [EReal.coe_mul]
    exact congrArg (· * _) (exp_hide _ _ _)

/-- The stack of values. -/
theorem pay108 : k0_pay108 i x0 x1 x2 x3 x4 = stk x2 := by
  funext y
  idx_vars y
  unfold k0_pay108 k0_pay92 k0_pay93 k0_pay94 k0_pay95 k0_pay96 k0_pay97 k0_pay98 k0_pay99 k0_pay100 k0_pay101 k0_pay102 k0_pay103 k0_pay104 k0_pay105 k0_pay106 k0_pay107
  pointwise [k0_pay51, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
  fin_cases y0
  · exact congrArg (fun r => x2 (ix2 r y2)) (Fin.ext (show y1.val = 128 * 0 + y1.val by omega))
  all_goals rfl

/-- The stack of the values of the blocks before. -/
theorem pay109 : k0_pay109 i x0 x1 (win V) x3 (tile (φ := .f32) VP) = st (shift VP V) := by
  funext y
  idx_vars y
  have e := pay108 i x0 x1 (win V) x3 (tile (φ := .f32) VP)
  unfold k0_pay108 at e
  unfold k0_pay109 k0_pay52
  rw [e, stk_win]
  pointwise []
  exact shift_at VP V y0 y1 y2 _

/-- The log-sums, on every lane. -/
theorem pay76 : k0_pay76 (F := Ideal) (lseCol Q K KP g)
    = st fun b i _ => lse (g b) (Q b) (K b) (shift KP K b) i := by
  funext y
  idx_vars y
  pointwise [k0_pay76]
  rfl

/-- Whether a block of the tile at `i` has a block before it. -/
abbrev hasAt (i : grid0.Coords) : ℕ → Bool := has 1 (i 0).val

/-- The maxima, sums and exponentials of a tile make its log-sums. -/
theorem pay115 : k0_pay115 i (win Q) (win K) (win V) (tile (φ := .f32) KP) (tile (φ := .f32) VP) = lseCol Q K KP (hasAt i) := by
  obtain ⟨m, hm⟩ := pay55 Q K KP (hasAt i)
  unfold k0_pay115 k0_pay112 k0_pay113 k0_pay114 k0_pay88 k0_pay89
  rw [pay90, pay91, pay6, pay7, stk_win, stk_win, View.ld_unit_zero hz2]
  rw [hm, pay56 _ _ _ _ _ hm, pay57 _ _ _ _ _ hm]
  exact pay58 _ _ _ _ _

/-- The output's stack. -/
theorem pay116 : k0_pay116 i (win Q) (win K) (win V) (tile (φ := .f32) KP) (tile (φ := .f32) VP)
    = st fun n => att (hasAt i n) (Q n) (K n) (shift KP K n) (V n) (shift VP V n) := by
  have h := pay115 i Q K V KP VP
  unfold k0_pay115 at h
  unfold k0_pay116 k0_pay110 k0_pay111 k0_pay88 k0_pay89
  rw [pay108, pay109, pay90, pay91, pay6, pay7, stk_win, stk_win, stk_win, View.ld_unit_zero hz2, pay53, pay54]
  exact pay59 _ _ _ _ _ _ _ _ _ h

/-- The tile's output. -/
theorem out_5 : out0_5 (F := Ideal) i (win Q) (win K) (win V) (tile (φ := .f32) KP) (tile (φ := .f32) VP)
    = win fun n => att (hasAt i n) (Q n) (K n) (shift KP K n) (V n) (shift VP V n) := by
  have h := pay116 i Q K V KP VP
  have h' := h
  unfold k0_pay116 at h'
  unfold out0_5
  refine canon_eq _ _ ?_ (cover0_5 _ _ _ _ _ _ _ _ _ _ _ _ _ _ _ _)
  simp only [List.forall_mem_cons, List.not_mem_nil, false_implies, implies_true, and_true]
  refine ⟨?_, ?_, ?_, ?_, ?_, ?_, ?_, ?_, ?_, ?_, ?_, ?_, ?_, ?_, ?_, ?_⟩
  all_goals
    intro x
    idx_vars x
    rw [emb_rows]
    simp only [k0_pay60, k0_pay61, k0_pay62, k0_pay63, k0_pay64, k0_pay65, k0_pay66, k0_pay67, k0_pay68, k0_pay69, k0_pay70, k0_pay71, k0_pay72, k0_pay73, k0_pay74, k0_pay75, h, h']
    pointwise []
    first | exact st_eq_win_zero _ _ _ _ | exact st_eq_win _ _ _ rfl _ _ _

/-- The tile's log-sums, on every lane. -/
theorem out_6 : out0_6 (F := Ideal) i (win Q) (win K) (win V) (tile (φ := .f32) KP) (tile (φ := .f32) VP)
    = win fun n r _ => lse (hasAt i n) (Q n) (K n) (shift KP K n) r := by
  have h := pay115 i Q K V KP VP
  have h' := pay76 Q K KP (hasAt i)
  unfold out0_6
  refine canon_eq _ _ ?_ (cover0_6 _ _ _ _ _ _ _ _ _ _ _ _ _ _ _ _)
  simp only [List.forall_mem_cons, List.not_mem_nil, false_implies, implies_true, and_true]
  refine ⟨?_, ?_, ?_, ?_, ?_, ?_, ?_, ?_, ?_, ?_, ?_, ?_, ?_, ?_, ?_, ?_⟩
  all_goals
    intro x
    idx_vars x
    rw [emb_rows]
    simp only [k0_pay117, k0_pay1, k0_pay2, k0_pay3, k0_pay4, k0_pay5, k0_pay77, k0_pay78, k0_pay79, k0_pay80, k0_pay81, k0_pay82, k0_pay83, k0_pay84, k0_pay85, k0_pay86, k0_pay87, h, h']
    pointwise []
    first | exact st_eq_win_zero _ _ _ _ | exact st_eq_win _ _ _ rfl _ _ _

end Cert.Dil1Ideal.Block

end
-- ==== Proof.Dil1Back.lean ====
/-
  The backward kernel of the banded attention with dilation one, one tile: of sixteen blocks of queries, keys, values,
  the output's cotangent, the rows' log-sums and corrections, the block of keys and values before them and the block of
  the rest after them, the gradients of the tile's queries, keys and values.
-/
module

public import proofs.«01_k».proof.Proof.Dil1Block

@[expose] public section

set_option maxRecDepth 16384

noncomputable section

namespace Cert.Dil1Ideal.Back

open Cert.Dil1Ideal Cert.Dil1Ideal.Gen Idealize.ShloMosaic Cert.Reals Cert.Band Cert.Dil1Ideal.Block

/-- The mask of the block before. -/
theorem pay7 (i : grid1.Coords) : k1_pay7 i = mk fun b => prev (has 1 (i 0).val b) := by
  funext y
  idx_vars y
  pointwise [k1_pay7]
  have h : (i 0).val < 4 := (i 0).isLt
  rw [word_gone 1 (i 0).val y0.val (by norm_num) (by omega) (by omega)]
  exact word_prev _ y1 y2

/-- The mask of the block itself. -/
theorem pay8 : k1_pay8 = mk fun _ => cur := by
  funext y
  idx_vars y
  pointwise [k1_pay8]
  exact word_cur y1 y2

/-- The mask of the tile's last keys for the block after: nothing in the last tile. -/
theorem pay9 (i : grid1.Coords) : k1_pay9 i = mk1 (prev !decide ((i 0).val = 3)) := by
  funext y
  idx_vars y
  pointwise [k1_pay9]
  have h : (i 0).val < 4 := (i 0).isLt
  have e := word_last 1 (i 0).val 3 0 (by norm_num) (by omega) (by norm_num) (by norm_num)
  exact (congrArg (fun c => IntOp.cmpi .sge (BitVec.ofNat 32 y2.val) (IntOp.addi (BitVec.ofNat 32 y1.val) (Scalar.select c 128#32 0#32))) e).trans (word_prev _ y1 y2)

section Stacks

variable (i : grid1.Coords) (x0 x1 x2 x3 x4 x5 : Vec Ideal S2048x128 .f32) (x6 x7 x8 x9 x10 x11 : Vec Ideal S128x128 .f32)

/-- The stack of queries. -/
theorem pay169 : k1_pay169 (F := Ideal) i x0 x1 x2 x3 x4 x5 x6 x7 x8 x9 x10 x11 = stk x0 := by
  funext y
  idx_vars y
  unfold k1_pay169
  pointwise [k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  fin_cases y0
  · exact congrArg (fun r => x0 (ix2 r y2)) (Fin.ext (show y1.val = 128 * 0 + y1.val by omega))
  all_goals rfl

/-- The stack of keys. -/
theorem pay170 : k1_pay170 (F := Ideal) i x0 x1 x2 x3 x4 x5 x6 x7 x8 x9 x10 x11 = stk x1 := by
  funext y
  idx_vars y
  unfold k1_pay170
  pointwise [k1_pay30, k1_pay31, k1_pay32, k1_pay33, k1_pay34, k1_pay35, k1_pay36, k1_pay37, k1_pay38, k1_pay39]
  fin_cases y0
  · exact congrArg (fun r => x1 (ix2 r y2)) (Fin.ext (show y1.val = 128 * 0 + y1.val by omega))
  all_goals rfl

/-- The stack of values. -/
theorem pay171 : k1_pay171 (F := Ideal) i x0 x1 x2 x3 x4 x5 x6 x7 x8 x9 x10 x11 = stk x2 := by
  funext y
  idx_vars y
  unfold k1_pay171
  pointwise [k1_pay40, k1_pay41, k1_pay42, k1_pay43, k1_pay44, k1_pay45, k1_pay46, k1_pay47, k1_pay48, k1_pay49, k1_pay50, k1_pay51, k1_pay52, k1_pay53, k1_pay54, k1_pay55]
  fin_cases y0
  · exact congrArg (fun r => x2 (ix2 r y2)) (Fin.ext (show y1.val = 128 * 0 + y1.val by omega))
  all_goals rfl

/-- The stack of output's cotangents. -/
theorem pay172 : k1_pay172 (F := Ideal) i x0 x1 x2 x3 x4 x5 x6 x7 x8 x9 x10 x11 = stk x3 := by
  funext y
  idx_vars y
  unfold k1_pay172
  pointwise [k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78]
  fin_cases y0
  · exact congrArg (fun r => x3 (ix2 r y2)) (Fin.ext (show y1.val = 128 * 0 + y1.val by omega))
  all_goals rfl

/-- The stack of log-sums. -/
theorem pay173 : k1_pay173 (F := Ideal) i x0 x1 x2 x3 x4 x5 x6 x7 x8 x9 x10 x11 = stk x4 := by
  funext y
  idx_vars y
  unfold k1_pay173
  pointwise [k1_pay79, k1_pay80, k1_pay81, k1_pay82, k1_pay83, k1_pay84, k1_pay85, k1_pay86, k1_pay87, k1_pay88, k1_pay89, k1_pay90, k1_pay91, k1_pay92]
  fin_cases y0
  · exact congrArg (fun r => x4 (ix2 r y2)) (Fin.ext (show y1.val = 128 * 0 + y1.val by omega))
  all_goals rfl

/-- The stack of corrections. -/
theorem pay174 : k1_pay174 (F := Ideal) i x0 x1 x2 x3 x4 x5 x6 x7 x8 x9 x10 x11 = stk x5 := by
  funext y
  idx_vars y
  unfold k1_pay174
  pointwise [k1_pay93, k1_pay94, k1_pay95, k1_pay96, k1_pay97, k1_pay98, k1_pay99, k1_pay100, k1_pay101]
  fin_cases y0
  · exact congrArg (fun r => x5 (ix2 r y2)) (Fin.ext (show y1.val = 128 * 0 + y1.val by omega))
  all_goals rfl

end Stacks

variable (Q K V O : Blocks) (KP VP QN ON : Tile) (L D : ℕ → Fin 128 → ℝ) (LN DN : Fin 128 → ℝ) (g : ℕ → Bool) (M : Mask)

theorem pay102 : k1_pay102 (F := Ideal) (st K) (tile (φ := .f32) KP) = st (shift KP K) := by
  funext y
  idx_vars y
  pointwise [k1_pay102]
  exact shift_at KP K y0 y1 y2 _

/-- The weights of the own block. -/
theorem pay104 : k1_pay104 (F := Ideal) (mk fun _ => cur) (st Q) (st K) (st fun b i _ => L b i)
    = st fun b => weight cur (Q b) (K b) (L b) := by
  funext y
  idx_vars y
  pointwise [k1_pay104]
  rw [named_s, sum_real _ (fun x => Q y0.val y1 x * K y0.val y2 x) fun x => ?_, ← EReal.coe_mul]
  · exact select_weight _ _ _
  · exact (EReal.coe_mul _ _).symm

/-- The gradient of the own block's scores. -/
theorem pay105 : k1_pay105 (F := Ideal) (mk fun _ => cur) (st Q) (st K) (st V) (st O) (st fun b i _ => L b i) (st fun b i _ => D b i)
    = st fun b => ds cur (Q b) (K b) (V b) (O b) (L b) (D b) := by
  funext y
  idx_vars y
  unfold k1_pay105
  rw [pay104]
  pointwise []
  rw [named_s, sum_real _ (fun x => O y0.val y1 x * V y0.val y2 x) fun x => ?_]
  · show ((_ : ℝ) : EReal) * ((_ : ℝ) - (_ : ℝ) : EReal) * _ = _
    rw [← EReal.coe_sub, ← EReal.coe_mul, ← EReal.coe_mul]
    rfl
  · exact (EReal.coe_mul _ _).symm

/-- The weights of the block before. -/
theorem pay107 : k1_pay107 (F := Ideal) (mk fun b => prev (g b)) (st Q) (st fun b i _ => L b i) (st K)
    = st fun b => weight (prev (g b)) (Q b) (K b) (L b) := by
  funext y
  idx_vars y
  pointwise [k1_pay107]
  rw [named_s, sum_real _ (fun x => Q y0.val y1 x * K y0.val y2 x) fun x => ?_, ← EReal.coe_mul]
  · exact select_weight _ _ _
  · exact (EReal.coe_mul _ _).symm

/-- The gradient of the scores with the block before. -/
theorem pay108 : k1_pay108 (F := Ideal) (mk fun b => prev (g b)) (st Q) (st V) (st O) (st fun b i _ => L b i) (st fun b i _ => D b i) (st K) (tile VP)
    = st fun b => ds (prev (g b)) (Q b) (K b) (shift VP V b) (O b) (L b) (D b) := by
  funext y
  idx_vars y
  unfold k1_pay108
  rw [pay107]
  pointwise []
  rw [named_s, sum_real _ (fun x => O y0.val y1 x * shift VP V y0.val y2 x) fun x => ?_]
  · show ((_ : ℝ) : EReal) * ((_ : ℝ) - (_ : ℝ) : EReal) * _ = _
    rw [← EReal.coe_sub, ← EReal.coe_mul, ← EReal.coe_mul]
    rfl
  · exact (congrArg (_ * ·) (shift_at VP V y0 y2 x _)).trans (EReal.coe_mul _ _).symm

/-- The weights of the block after. -/
theorem pay115 : k1_pay115 (F := Ideal) (mk1 M) (st1 QN) (st1 KP) (st1 fun i _ => LN i) = st1 (weight M QN KP LN) := by
  funext y
  idx_vars y
  pointwise [k1_pay115]
  rw [named_s, sum_real _ (fun x => QN y1 x * KP y2 x) fun x => ?_, ← EReal.coe_mul]
  · exact select_weight _ _ _
  · exact (EReal.coe_mul _ _).symm

variable (A B : Blocks)

/-- The gradient of the queries. -/
theorem pay116 : k1_pay116 (F := Ideal) (st K) (st V) (st A) (st B) = st fun b i c => apply (A b) (K b) i c + apply (B b) (V b) i c := by
  funext y
  idx_vars y
  pointwise [k1_pay116]
  rw [sum_real _ (fun x => A y0.val y1 x * K y0.val x y2) fun x => ?_,
    sum_real _ (fun x => B y0.val y1 x * V y0.val x y2) fun x => ?_, ← EReal.coe_add]
  · rfl
  · exact (EReal.coe_mul _ _).symm
  · exact (EReal.coe_mul _ _).symm

/-- The gradient of the keys. -/
theorem pay117 : k1_pay117 (F := Ideal) (mk1 M) (st Q) (st A) (st B) (st1 QN) (st1 ON) (st1 KP) (st1 VP) (st1 fun i _ => LN i) (tile (φ := .f32) fun i _ => DN i)
    = st fun b j c => applyT (A b) (Q b) j c + shiftNext (applyT (ds M QN KP VP ON LN DN) QN) (fun b => applyT (B b) (Q b)) b j c := by
  funext y
  idx_vars y
  unfold k1_pay117
  rw [pay115]
  pointwise []
  have hA := sum_real (fun x => st (φ := .bf16) A (ix3 y0 x y1) * st (φ := .bf16) Q (ix3 y0 x y2)) (fun x => A y0.val x y1 * Q y0.val x y2)
    fun x => (EReal.coe_mul _ _).symm
  refine (congrArg (· + _) hA).trans ?_
  by_cases h : y0.val < 15
  · have hB := sum_real (fun x => st (φ := .bf16) B (ix3 ⟨1 + y0.val, by omega⟩ x y1) * st (φ := .bf16) Q (ix3 ⟨1 + y0.val, by omega⟩ x y2))
      (fun x => B (1 + y0.val) x y1 * Q (1 + y0.val) x y2) fun x => (EReal.coe_mul _ _).symm
    refine (congrArg (_ + ·) ((dif_pos h).trans hB)).trans ((EReal.coe_add _ _).symm.trans (congrArg Real.toEReal ?_))
    show _ = applyT (A y0.val) (Q y0.val) y1 y2 + shiftNext (applyT (ds M QN KP VP ON LN DN) QN) (fun b => applyT (B b) (Q b)) y0.val y1 y2
    rw [shiftNext_of_lt _ _ h]
    rfl
  · refine (congrArg (_ + ·) ((dif_neg h).trans (sum_real _ (fun x => ds M QN KP VP ON LN DN x y1 * QN x y2) fun x => ?_))).trans
      ((EReal.coe_add _ _).symm.trans (congrArg Real.toEReal ?_))
    · rw [named_s, sum_real _ (fun c => ON x c * VP y1 c) fun c => ?_]
      · show ((_ : ℝ) : EReal) * ((_ : ℝ) - (_ : ℝ) : EReal) * _ * ((_ : ℝ) : EReal) = _
        rw [← EReal.coe_sub, ← EReal.coe_mul, ← EReal.coe_mul, ← EReal.coe_mul]
        rfl
      · exact (EReal.coe_mul _ _).symm
    · show _ = applyT (A y0.val) (Q y0.val) y1 y2 + shiftNext (applyT (ds M QN KP VP ON LN DN) QN) (fun b => applyT (B b) (Q b)) y0.val y1 y2
      rw [shiftNext_of_not_lt _ _ h y0.isLt]
      rfl

/-- The gradient of the values. -/
theorem pay118 : k1_pay118 (F := Ideal) (mk1 M) (st O) (st A) (st B) (st1 QN) (st1 ON) (st1 KP) (st1 fun i _ => LN i)
    = st fun b j c => applyT (A b) (O b) j c + shiftNext (applyT (weight M QN KP LN) ON) (fun b => applyT (B b) (O b)) b j c := by
  funext y
  idx_vars y
  unfold k1_pay118
  rw [pay115]
  pointwise []
  have hA := sum_real (fun x => st (φ := .bf16) A (ix3 y0 x y1) * st (φ := .bf16) O (ix3 y0 x y2)) (fun x => A y0.val x y1 * O y0.val x y2)
    fun x => (EReal.coe_mul _ _).symm
  refine (congrArg (· + _) hA).trans ?_
  by_cases h : y0.val < 15
  · have hB := sum_real (fun x => st (φ := .bf16) B (ix3 ⟨1 + y0.val, by omega⟩ x y1) * st (φ := .bf16) O (ix3 ⟨1 + y0.val, by omega⟩ x y2))
      (fun x => B (1 + y0.val) x y1 * O (1 + y0.val) x y2) fun x => (EReal.coe_mul _ _).symm
    refine (congrArg (_ + ·) ((dif_pos h).trans hB)).trans ((EReal.coe_add _ _).symm.trans (congrArg Real.toEReal ?_))
    show _ = applyT (A y0.val) (O y0.val) y1 y2 + shiftNext (applyT (weight M QN KP LN) ON) (fun b => applyT (B b) (O b)) y0.val y1 y2
    rw [shiftNext_of_lt _ _ h]
    rfl
  · have hB := sum_real (fun x => st1 (φ := .bf16) (weight M QN KP LN) (ix3 ⟨y0.val - 15, by omega⟩ x y1) * st1 (φ := .bf16) ON (ix3 ⟨y0.val - 15, by omega⟩ x y2))
      (fun x => weight M QN KP LN x y1 * ON x y2) fun x => (EReal.coe_mul _ _).symm
    refine (congrArg (_ + ·) ((dif_neg h).trans hB)).trans ((EReal.coe_add _ _).symm.trans (congrArg Real.toEReal ?_))
    show _ = applyT (A y0.val) (O y0.val) y1 y2 + shiftNext (applyT (weight M QN KP LN) ON) (fun b => applyT (B b) (O b)) y0.val y1 y2
    rw [shiftNext_of_not_lt _ _ h y0.isLt]
    rfl

/-- The last block of a stack. -/
theorem pay112 : k1_pay112 (F := Ideal) (st K) = st1 (K 15) := by
  funext y
  idx_vars y
  pointwise [k1_pay112]
  rfl

theorem pay113 : k1_pay113 (F := Ideal) (st V) = st1 (V 15) := by
  funext y
  idx_vars y
  pointwise [k1_pay113]
  rfl

theorem pay110 : k1_pay110 (F := Ideal) (tile (φ := .f32) QN) = st1 QN := by
  funext y
  idx_vars y
  pointwise [k1_pay110]
  rfl

theorem pay111 : k1_pay111 (F := Ideal) (tile (φ := .f32) QN) = st1 QN := by
  funext y
  idx_vars y
  pointwise [k1_pay111]
  rfl

theorem pay114 : k1_pay114 (F := Ideal) (tile (φ := .f32) QN) = st1 QN := by
  funext y
  idx_vars y
  pointwise [k1_pay114]
  rfl

theorem pay103 : k1_pay103 (F := Ideal) (tile (φ := .f32) VP) = tile VP := by
  funext y
  idx_vars y
  pointwise [k1_pay103]
  rfl

theorem pay106 : k1_pay106 (F := Ideal) (mk fun _ => cur) (st Q) (st K) (st fun b i _ => L b i)
    = st fun b => weight cur (Q b) (K b) (L b) := by
  unfold k1_pay106
  rw [pay104]
  rfl

theorem pay109 : k1_pay109 (F := Ideal) (mk fun b => prev (g b)) (st Q) (st fun b i _ => L b i) (st K)
    = st fun b => weight (prev (g b)) (Q b) (K b) (L b) := by
  unfold k1_pay109
  rw [pay107]
  rfl

/-! ## The tile -/

variable (i : grid1.Coords)

/-- Whether a block of the tile at `i` has a block before it. -/
abbrev hasAt : ℕ → Bool := has 1 (i 0).val

/-- Whether the tile at `i` has a block after it. -/
abbrev nextAt : Bool := !decide ((i 0).val = 3)

/-- The log-sums or the corrections of a tile's rows, on every lane. -/
abbrev lanes (L : ℕ → Fin 128 → ℝ) : FVec Ideal ShW .f32 := win fun b r _ => L b r

/-- The same of one block. -/
abbrev lane (L : Fin 128 → ℝ) : FVec Ideal ShT .f32 := tile fun r _ => L r

theorem pay175 : k1_pay175 (F := Ideal) i (win Q) (win K) (win V) (win O) (lanes L) (lanes D) (tile (φ := .f32) KP) (tile (φ := .f32) VP)
    (tile (φ := .f32) QN) (tile (φ := .f32) ON) (lane LN) (lane DN) = st (shift KP K) := by
  unfold k1_pay175
  rw [pay170, stk_win, View.ld_unit_zero hz2, pay102]

theorem pay176 : k1_pay176 (F := Ideal) i (win Q) (win K) (win V) (win O) (lanes L) (lanes D) (tile (φ := .f32) KP) (tile (φ := .f32) VP)
    (tile (φ := .f32) QN) (tile (φ := .f32) ON) (lane LN) (lane DN) = st fun b => ds cur (Q b) (K b) (V b) (O b) (L b) (D b) := by
  unfold k1_pay176 k1_pay167
  rw [pay169, pay170, pay171, pay172, pay173, pay174, pay8, stk_win, stk_win, stk_win, stk_win, stk_win, stk_win, pay105]

theorem pay177 : k1_pay177 (F := Ideal) i (win Q) (win K) (win V) (win O) (lanes L) (lanes D) (tile (φ := .f32) KP) (tile (φ := .f32) VP)
    (tile (φ := .f32) QN) (tile (φ := .f32) ON) (lane LN) (lane DN)
    = st fun b => ds (prev (hasAt i b)) (Q b) (shift KP K b) (shift VP V b) (O b) (L b) (D b) := by
  unfold k1_pay177 k1_pay166
  rw [pay169, pay171, pay172, pay173, pay174, pay175, pay7, stk_win, stk_win, stk_win, stk_win, stk_win, View.ld_unit_zero hz2, pay103, pay108]

theorem pay182 : k1_pay182 (F := Ideal) i (win Q) (win K) (win V) (win O) (lanes L) (lanes D) (tile (φ := .f32) KP) (tile (φ := .f32) VP)
    (tile (φ := .f32) QN) (tile (φ := .f32) ON) (lane LN) (lane DN)
    = st fun b r c => apply (ds cur (Q b) (K b) (V b) (O b) (L b) (D b)) (K b) r c
        + apply (ds (prev (hasAt i b)) (Q b) (shift KP K b) (shift VP V b) (O b) (L b) (D b)) (shift KP K b) r c := by
  unfold k1_pay182
  rw [pay170, pay175, pay176, pay177, stk_win, pay116]

theorem pay183 : k1_pay183 (F := Ideal) i (win Q) (win K) (win V) (win O) (lanes L) (lanes D) (tile (φ := .f32) KP) (tile (φ := .f32) VP)
    (tile (φ := .f32) QN) (tile (φ := .f32) ON) (lane LN) (lane DN)
    = st fun b r c => applyT (ds cur (Q b) (K b) (V b) (O b) (L b) (D b)) (Q b) r c
        + shiftNext (applyT (ds (prev (nextAt i)) QN (K 15) (V 15) ON LN DN) QN)
            (fun b => applyT (ds (prev (hasAt i b)) (Q b) (shift KP K b) (shift VP V b) (O b) (L b) (D b)) (Q b)) b r c := by
  unfold k1_pay183 k1_pay168 k1_pay178 k1_pay179 k1_pay180 k1_pay181
  rw [pay169, pay170, pay171, pay176, pay177, pay9, stk_win, stk_win, stk_win, View.ld_unit_zero hz2, View.ld_unit_zero hz2,
    View.ld_unit_zero hz2, View.ld_unit_zero hz2, pay110, pay111, pay112, pay113, pay114, pay117]

theorem pay184 : k1_pay184 (F := Ideal) i (win Q) (win K) (win V) (win O) (lanes L) (lanes D) (tile (φ := .f32) KP) (tile (φ := .f32) VP)
    (tile (φ := .f32) QN) (tile (φ := .f32) ON) (lane LN) (lane DN)
    = st fun b r c => applyT (weight cur (Q b) (K b) (L b)) (O b) r c
        + shiftNext (applyT (weight (prev (nextAt i)) QN (K 15) LN) ON)
            (fun b => applyT (weight (prev (hasAt i b)) (Q b) (shift KP K b) (L b)) (O b)) b r c := by
  unfold k1_pay184 k1_pay166 k1_pay167 k1_pay168 k1_pay178 k1_pay179 k1_pay180 k1_pay181
  rw [pay169, pay170, pay172, pay173, pay175, pay7, pay8, pay9, stk_win, stk_win, stk_win, stk_win, View.ld_unit_zero hz2, View.ld_unit_zero hz2,
    View.ld_unit_zero hz2, pay110, pay111, pay112, pay114, pay106, pay109, pay118]

/-- The gradient of the tile's queries. -/
theorem out_12 : out1_12 (F := Ideal) i (win Q) (win K) (win V) (win O) (lanes L) (lanes D) (tile (φ := .f32) KP) (tile (φ := .f32) VP)
    (tile (φ := .f32) QN) (tile (φ := .f32) ON) (lane LN) (lane DN)
    = win fun b r c => apply (ds cur (Q b) (K b) (V b) (O b) (L b) (D b)) (K b) r c
        + apply (ds (prev (hasAt i b)) (Q b) (shift KP K b) (shift VP V b) (O b) (L b) (D b)) (shift KP K b) r c := by
  have h := pay182 Q K V O KP VP QN ON L D LN DN i
  have h' := h
  unfold k1_pay182 at h'
  unfold out1_12
  refine canon_eq _ _ ?_ (cover1_12 _ _ _ _ _ _ _ _ _ _ _ _ _ _ _ _)
  simp only [List.forall_mem_cons, List.not_mem_nil, false_implies, implies_true, and_true]
  refine ⟨?_, ?_, ?_, ?_, ?_, ?_, ?_, ?_, ?_, ?_, ?_, ?_, ?_, ?_, ?_, ?_⟩
  all_goals
    intro x
    idx_vars x
    rw [emb_rows]
    simp only [k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, h, h']
    pointwise []
    first | exact st_eq_win_zero _ _ _ _ | exact st_eq_win _ _ _ rfl _ _ _

/-- The gradient of the tile's keys. -/
theorem out_13 : out1_13 (F := Ideal) i (win Q) (win K) (win V) (win O) (lanes L) (lanes D) (tile (φ := .f32) KP) (tile (φ := .f32) VP)
    (tile (φ := .f32) QN) (tile (φ := .f32) ON) (lane LN) (lane DN)
    = win fun b r c => applyT (ds cur (Q b) (K b) (V b) (O b) (L b) (D b)) (Q b) r c
        + shiftNext (applyT (ds (prev (nextAt i)) QN (K 15) (V 15) ON LN DN) QN)
            (fun b => applyT (ds (prev (hasAt i b)) (Q b) (shift KP K b) (shift VP V b) (O b) (L b) (D b)) (Q b)) b r c := by
  have h := pay183 Q K V O KP VP QN ON L D LN DN i
  have h' := h
  unfold k1_pay183 at h'
  unfold out1_13
  refine canon_eq _ _ ?_ (cover1_13 _ _ _ _ _ _ _ _ _ _ _ _ _ _ _ _)
  simp only [List.forall_mem_cons, List.not_mem_nil, false_implies, implies_true, and_true]
  refine ⟨?_, ?_, ?_, ?_, ?_, ?_, ?_, ?_, ?_, ?_, ?_, ?_, ?_, ?_, ?_, ?_⟩
  all_goals
    intro x
    idx_vars x
    rw [emb_rows]
    simp only [k1_pay137, k1_pay138, k1_pay139, k1_pay140, k1_pay141, k1_pay142, k1_pay143, k1_pay144, k1_pay145, k1_pay146, k1_pay147, k1_pay148, k1_pay149, k1_pay150, k1_pay151, k1_pay152, k1_pay153, h, h']
    pointwise []
    first | exact st_eq_win_zero _ _ _ _ | exact st_eq_win _ _ _ rfl _ _ _

/-- The gradient of the tile's values. -/
theorem out_14 : out1_14 (F := Ideal) i (win Q) (win K) (win V) (win O) (lanes L) (lanes D) (tile (φ := .f32) KP) (tile (φ := .f32) VP)
    (tile (φ := .f32) QN) (tile (φ := .f32) ON) (lane LN) (lane DN)
    = win fun b r c => applyT (weight cur (Q b) (K b) (L b)) (O b) r c
        + shiftNext (applyT (weight (prev (nextAt i)) QN (K 15) LN) ON)
            (fun b => applyT (weight (prev (hasAt i b)) (Q b) (shift KP K b) (L b)) (O b)) b r c := by
  have h := pay184 Q K V O KP VP QN ON L D LN DN i
  have h' := h
  unfold k1_pay184 at h'
  unfold out1_14
  refine canon_eq _ _ ?_ (cover1_14 _ _ _ _ _ _ _ _ _ _ _ _ _ _ _ _)
  simp only [List.forall_mem_cons, List.not_mem_nil, false_implies, implies_true, and_true]
  refine ⟨?_, ?_, ?_, ?_, ?_, ?_, ?_, ?_, ?_, ?_, ?_, ?_, ?_, ?_, ?_, ?_⟩
  all_goals
    intro x
    idx_vars x
    rw [emb_rows]
    simp only [k1_pay1, k1_pay2, k1_pay3, k1_pay4, k1_pay5, k1_pay6, k1_pay154, k1_pay155, k1_pay156, k1_pay157, k1_pay158, k1_pay159, k1_pay160, k1_pay161, k1_pay162, k1_pay163, k1_pay164, k1_pay165, h, h']
    pointwise []
    first | exact st_eq_win_zero _ _ _ _ | exact st_eq_win _ _ _ rfl _ _ _

end Cert.Dil1Ideal.Back

end
-- ==== Proof.BandArray.lean ====
/-
  The arrays of the banded attention: eight heads side by side in 1024 columns, the 8192 rows of a head as 64 blocks of
  128 rows, each block taking every `d`-th row. What a host reshape or an elementwise host operation leaves in such an
  array, and how the blocks of a tile of 2048 rows are numbered.
-/
module

public import proofs.«01_k».proof.Proof.BandBlock
public import Idealize.ShloMosaic.Lib.Pointwise

@[expose] public section

set_option maxRecDepth 16384

noncomputable section

namespace Cert.Band

open Idealize.ShloMosaic Cert.Reals

/-- The shape of an array of rows, all heads of a row side by side. -/
abbrev ShA : Shape := ⟨2, ![8192, 1024]⟩
/-- The shape of an argument of the attention. -/
abbrev ShX : Shape := ⟨4, ![1, 8192, 8, 128]⟩
/-- The shape of one number per row and head. -/
abbrev ShE : Shape := ⟨3, ![1, 8192, 8]⟩

/-- The dilations of the model. -/
def Dilation (d : ℕ) : Prop := d = 1 ∨ d = 4 ∨ d = 16

/-- The block that holds row `r`. -/
def nOf (d r : ℕ) : ℕ := r / (128 * d) * d + r % d

/-- The place of row `r` in its block. -/
def iOf (d r : ℕ) : Fin 128 := ⟨r % (128 * d) / d % 128, Nat.mod_lt _ (by norm_num)⟩

/-- The row at place `i` of block `n`. -/
def rowOf (d n i : ℕ) : ℕ := n / d * (128 * d) + n % d + d * i

theorem nOf_rowOf {d : ℕ} (hd : Dilation d) (n : ℕ) (i : Fin 128) : nOf d (rowOf d n i.val) = n := by
  have := i.isLt
  unfold nOf rowOf
  rcases hd with h | h | h <;> subst h <;> omega

theorem iOf_rowOf {d : ℕ} (hd : Dilation d) (n : ℕ) (i : Fin 128) : iOf d (rowOf d n i.val) = i := by
  have := i.isLt
  refine Fin.ext ?_
  show rowOf d n i.val % (128 * d) / d % 128 = i.val
  unfold rowOf
  rcases hd with h | h | h <;> subst h <;> omega

theorem rowOf_of {d : ℕ} (hd : Dilation d) (r : ℕ) : rowOf d (nOf d r) (iOf d r).val = r := by
  show nOf d r / d * (128 * d) + nOf d r % d + d * (r % (128 * d) / d % 128) = r
  unfold nOf
  rcases hd with h | h | h <;> subst h <;> omega

theorem nOf_lt {d : ℕ} (hd : Dilation d) {r : ℕ} (hr : r < 8192) : nOf d r < 64 := by
  unfold nOf
  rcases hd with h | h | h <;> subst h <;> omega

theorem rowOf_lt {d : ℕ} (hd : Dilation d) {n : ℕ} (hn : n < 64) (i : Fin 128) : rowOf d n i.val < 8192 := by
  have := i.isLt
  unfold rowOf
  rcases hd with h | h | h <;> subst h <;> omega

/-- The head that holds column `j`. -/
def headOf (j : Fin 1024) : Fin 8 := ⟨j.val / 128, by have := j.isLt; omega⟩

/-- The column inside its head. -/
def colOf (j : Fin 1024) : Fin 128 := ⟨j.val % 128, by omega⟩

/-- The array whose heads hold these blocks. -/
def arr (d : ℕ) (A : Fin 8 → Blocks) : FVec Ideal ShA .f32 := fun y => ((A (headOf (y 1)) (nOf d (y 0).val) (iOf d (y 0).val) (colOf (y 1)) : ℝ) : EReal)

/-- Row `i` of block `n` of a head. -/
theorem arr_at {d : ℕ} (hd : Dilation d) (A : Fin 8 → Blocks) (y : ShA.Idx) (h : Fin 8) (n : ℕ) (i c : Fin 128)
    (hr : (y 0).val = rowOf d n i.val) (hj : (y 1).val = h.val * 128 + c.val) : arr d A y = ((A h n i c : ℝ) : EReal) := by
  have e0 : headOf (y 1) = h := Fin.ext (by have := c.isLt; show (y 1).val / 128 = _; omega)
  have e1 : colOf (y 1) = c := Fin.ext (by have := c.isLt; show (y 1).val % 128 = _; omega)
  unfold arr
  rw [e0, e1, hr, nOf_rowOf hd, iOf_rowOf hd]

/-- The blocks of a head of an argument. -/
def blk (d : ℕ) (X : ShX.Idx → ℝ) (h : Fin 8) : Blocks := fun n i c =>
  if hr : rowOf d n i.val < 8192 then X (ix4 0 ⟨rowOf d n i.val, hr⟩ h c) else 0

/-- The rows' numbers of a head, block by block. -/
def eblk (d : ℕ) (E : ShE.Idx → ℝ) (h : Fin 8) (n : ℕ) (i : Fin 128) : ℝ :=
  if hr : rowOf d n i.val < 8192 then E (ix3 0 ⟨rowOf d n i.val, hr⟩ h) else 0

theorem blk_of {d : ℕ} (hd : Dilation d) (X : ShX.Idx → ℝ) (h : Fin 8) (r : Fin 8192) (c : Fin 128) :
    blk d X h (nOf d r.val) (iOf d r.val) c = X (ix4 0 r h c) := by
  unfold blk
  rw [dif_pos (by rw [rowOf_of hd]; exact r.isLt)]
  exact congrArg (fun r => X (ix4 0 r h c)) (Fin.ext (rowOf_of hd r.val))

theorem eblk_of {d : ℕ} (hd : Dilation d) (E : ShE.Idx → ℝ) (h : Fin 8) (r : Fin 8192) :
    eblk d E h (nOf d r.val) (iOf d r.val) = E (ix3 0 r h) := by
  unfold eblk
  rw [dif_pos (by rw [rowOf_of hd]; exact r.isLt)]
  exact congrArg (fun r => E (ix3 0 r h)) (Fin.ext (rowOf_of hd r.val))

/-- The host's layout of an argument. -/
theorem rows_eq {d : ℕ} (hd : Dilation d) (X : ShX.Idx → ℝ) (h : ShX.ShapeCasts ShA) :
    shapeCast ShA (fun i => ((X i : ℝ) : EReal)) h = arr d (blk d X) := by
  funext i
  idx_vars i
  pointwise
  exact congrArg Real.toEReal (blk_of hd X (headOf i1) i0 (colOf i1)).symm

/-- The blocks the masked rows' sums repeat over the columns of a head. -/
def lanes (E : Fin 8 → ℕ → Fin 128 → ℝ) : Fin 8 → Blocks := fun h n i _ => E h n i

end Cert.Band

end
-- ==== Proof.Dil1Window.lean ====
/-
  The banded attention with dilation one, the arrays: what the forward and the backward kernel read at a grid point,
  and what their arrays hold afterwards, head by head and block by block.
-/
module

public import proofs.«01_k».proof.Proof.Dil1Back
public import proofs.«01_k».proof.Proof.BandArray

@[expose] public section

set_option maxRecDepth 16384

noncomputable section

namespace Cert.Dil1Ideal.Result

open Cert.Dil1Ideal Cert.Dil1Ideal.Gen Idealize.ShloMosaic Idealize.ShloMosaic.TcCoe Idealize.SL.Sem Cert.Reals Cert.Band
open Idealize.ShloMosaic.Pipeline (Dat)

theorem one : Dilation 1 := .inl rfl

/-- A tile of rows of an array. -/
theorem arr_win (A : Fin 8 → Blocks) (n : ℕ) (h : Fin 8) (y : S2048x128.Idx) (i : S8192x1024.Idx)
    (e0 : (i 0).val = n * 2048 + 1 * (y 0).val) (e1 : (i 1).val = h.val * 128 + 1 * (y 1).val) :
    arr 1 A i = win (fun b => A h (16 * n + b)) y := by
  have h0 : (y 0).val < 2048 := (y 0).isLt
  refine arr_at one A i h (16 * n + (y 0).val / 128) ⟨(y 0).val % 128, Nat.mod_lt _ (by norm_num)⟩ (y 1) ?_ (by omega)
  unfold rowOf
  dsimp only
  omega

/-- A block of an array. -/
theorem arr_tile (A : Fin 8 → Blocks) (N : ℕ) (h : Fin 8) (y : S128x128.Idx) (i : S8192x1024.Idx)
    (e0 : (i 0).val = N * 128 + 1 * (y 0).val) (e1 : (i 1).val = h.val * 128 + 1 * (y 1).val) :
    arr 1 A i = tile (φ := .f32) (A h N) y := by
  refine arr_at one A i h N (y 0) (y 1) ?_ (by omega)
  unfold rowOf
  dsimp only
  omega

/-- The tile of rows of point `t`. -/
def tileAt (t : ℕ) : ℕ := t / 8

/-- The head of point `t`. -/
def hd (t : ℕ) : Fin 8 := ⟨t % 8, by omega⟩

/-- The block after the tile: the last one again where there is none. -/
def after (n : ℕ) : ℕ := if n = 3 then 63 else 16 * n + 16

/-! Where the windows of a point lie. -/

theorem index0_0 : ∀ t : Fin cfg0.N, win0_0.index t 0 = tileAt t.val ∧ win0_0.index t 1 = (hd t.val).val := by decide +kernel
theorem index0_1 : ∀ t : Fin cfg0.N, win0_1.index t 0 = tileAt t.val ∧ win0_1.index t 1 = (hd t.val).val := by decide +kernel
theorem index0_2 : ∀ t : Fin cfg0.N, win0_2.index t 0 = tileAt t.val ∧ win0_2.index t 1 = (hd t.val).val := by decide +kernel
theorem index0_3 : ∀ t : Fin cfg0.N, win0_3.index t 0 = 16 * tileAt t.val - 1 ∧ win0_3.index t 1 = (hd t.val).val := by decide +kernel
theorem index0_4 : ∀ t : Fin cfg0.N, win0_4.index t 0 = 16 * tileAt t.val - 1 ∧ win0_4.index t 1 = (hd t.val).val := by decide +kernel
theorem index0_5 : ∀ t : Fin cfg0.N, win0_5.index t 0 = tileAt t.val ∧ win0_5.index t 1 = (hd t.val).val := by decide +kernel
theorem index0_6 : ∀ t : Fin cfg0.N, win0_6.index t 0 = tileAt t.val ∧ win0_6.index t 1 = (hd t.val).val := by decide +kernel
theorem index1_0 : ∀ t : Fin cfg1.N, win1_0.index t 0 = tileAt t.val ∧ win1_0.index t 1 = (hd t.val).val := by decide +kernel
theorem index1_1 : ∀ t : Fin cfg1.N, win1_1.index t 0 = tileAt t.val ∧ win1_1.index t 1 = (hd t.val).val := by decide +kernel
theorem index1_2 : ∀ t : Fin cfg1.N, win1_2.index t 0 = tileAt t.val ∧ win1_2.index t 1 = (hd t.val).val := by decide +kernel
theorem index1_3 : ∀ t : Fin cfg1.N, win1_3.index t 0 = tileAt t.val ∧ win1_3.index t 1 = (hd t.val).val := by decide +kernel
theorem index1_4 : ∀ t : Fin cfg1.N, win1_4.index t 0 = tileAt t.val ∧ win1_4.index t 1 = (hd t.val).val := by decide +kernel
theorem index1_5 : ∀ t : Fin cfg1.N, win1_5.index t 0 = tileAt t.val ∧ win1_5.index t 1 = (hd t.val).val := by decide +kernel
theorem index1_6 : ∀ t : Fin cfg1.N, win1_6.index t 0 = 16 * tileAt t.val - 1 ∧ win1_6.index t 1 = (hd t.val).val := by decide +kernel
theorem index1_7 : ∀ t : Fin cfg1.N, win1_7.index t 0 = 16 * tileAt t.val - 1 ∧ win1_7.index t 1 = (hd t.val).val := by decide +kernel
theorem index1_8 : ∀ t : Fin cfg1.N, win1_8.index t 0 = after (tileAt t.val) ∧ win1_8.index t 1 = (hd t.val).val := by decide +kernel
theorem index1_9 : ∀ t : Fin cfg1.N, win1_9.index t 0 = after (tileAt t.val) ∧ win1_9.index t 1 = (hd t.val).val := by decide +kernel
theorem index1_10 : ∀ t : Fin cfg1.N, win1_10.index t 0 = after (tileAt t.val) ∧ win1_10.index t 1 = (hd t.val).val := by decide +kernel
theorem index1_11 : ∀ t : Fin cfg1.N, win1_11.index t 0 = after (tileAt t.val) ∧ win1_11.index t 1 = (hd t.val).val := by decide +kernel
theorem index1_12 : ∀ t : Fin cfg1.N, win1_12.index t 0 = tileAt t.val ∧ win1_12.index t 1 = (hd t.val).val := by decide +kernel
theorem index1_13 : ∀ t : Fin cfg1.N, win1_13.index t 0 = tileAt t.val ∧ win1_13.index t 1 = (hd t.val).val := by decide +kernel
theorem index1_14 : ∀ t : Fin cfg1.N, win1_14.index t 0 = tileAt t.val ∧ win1_14.index t 1 = (hd t.val).val := by decide +kernel
theorem coord0 : ∀ t : Fin cfg0.N, (grid0.coords t 0).val = tileAt t.val := by decide +kernel
theorem coord1 : ∀ t : Fin cfg1.N, (grid1.coords t 0).val = tileAt t.val := by decide +kernel

section Regions

variable (V : (c : Dev nD) → (b : Ref sig .tc) → Buf (Elt Ideal) ((c : Thread nD τ).loc b)) (c : Dev nD) (Q K W O : Fin 8 → Blocks)

/-! What a point reads. -/

theorem block0_0 (A : Fin 8 → Blocks) (h : V c main_v0 = arr 1 A) (t : Fin cfg0.N) : iblk0 V c 0 t = win (fun b => A (hd t.val) (16 * tileAt t.val + b)) := by
  obtain ⟨e0, e1⟩ := index0_0 t
  funext y
  unfold iblk0
  rw [View.read_apply]
  exact (congrFun h _).trans (arr_win A _ _ y _ (by rw [← e0]; rfl) (by rw [← e1]; rfl))

theorem block0_1 (A : Fin 8 → Blocks) (h : V c main_v1 = arr 1 A) (t : Fin cfg0.N) : iblk0 V c 1 t = win (fun b => A (hd t.val) (16 * tileAt t.val + b)) := by
  obtain ⟨e0, e1⟩ := index0_1 t
  funext y
  unfold iblk0
  rw [View.read_apply]
  exact (congrFun h _).trans (arr_win A _ _ y _ (by rw [← e0]; rfl) (by rw [← e1]; rfl))

theorem block0_2 (A : Fin 8 → Blocks) (h : V c main_v2 = arr 1 A) (t : Fin cfg0.N) : iblk0 V c 2 t = win (fun b => A (hd t.val) (16 * tileAt t.val + b)) := by
  obtain ⟨e0, e1⟩ := index0_2 t
  funext y
  unfold iblk0
  rw [View.read_apply]
  exact (congrFun h _).trans (arr_win A _ _ y _ (by rw [← e0]; rfl) (by rw [← e1]; rfl))

theorem block0_3 (A : Fin 8 → Blocks) (h : V c main_v1 = arr 1 A) (t : Fin cfg0.N) : iblk0 V c 3 t = tile (φ := .f32) (A (hd t.val) (16 * tileAt t.val - 1)) := by
  obtain ⟨e0, e1⟩ := index0_3 t
  funext y
  unfold iblk0
  rw [View.read_apply]
  exact (congrFun h _).trans (arr_tile A _ _ y _ (by rw [← e0]; rfl) (by rw [← e1]; rfl))

theorem block0_4 (A : Fin 8 → Blocks) (h : V c main_v2 = arr 1 A) (t : Fin cfg0.N) : iblk0 V c 4 t = tile (φ := .f32) (A (hd t.val) (16 * tileAt t.val - 1)) := by
  obtain ⟨e0, e1⟩ := index0_4 t
  funext y
  unfold iblk0
  rw [View.read_apply]
  exact (congrFun h _).trans (arr_tile A _ _ y _ (by rw [← e0]; rfl) (by rw [← e1]; rfl))

theorem block1_0 (A : Fin 8 → Blocks) (h : V c main_v0 = arr 1 A) (t : Fin cfg1.N) : iblk1 V c 0 t = win (fun b => A (hd t.val) (16 * tileAt t.val + b)) := by
  obtain ⟨e0, e1⟩ := index1_0 t
  funext y
  unfold iblk1
  rw [View.read_apply]
  exact (congrFun h _).trans (arr_win A _ _ y _ (by rw [← e0]; rfl) (by rw [← e1]; rfl))

theorem block1_1 (A : Fin 8 → Blocks) (h : V c main_v1 = arr 1 A) (t : Fin cfg1.N) : iblk1 V c 1 t = win (fun b => A (hd t.val) (16 * tileAt t.val + b)) := by
  obtain ⟨e0, e1⟩ := index1_1 t
  funext y
  unfold iblk1
  rw [View.read_apply]
  exact (congrFun h _).trans (arr_win A _ _ y _ (by rw [← e0]; rfl) (by rw [← e1]; rfl))

theorem block1_2 (A : Fin 8 → Blocks) (h : V c main_v2 = arr 1 A) (t : Fin cfg1.N) : iblk1 V c 2 t = win (fun b => A (hd t.val) (16 * tileAt t.val + b)) := by
  obtain ⟨e0, e1⟩ := index1_2 t
  funext y
  unfold iblk1
  rw [View.read_apply]
  exact (congrFun h _).trans (arr_win A _ _ y _ (by rw [← e0]; rfl) (by rw [← e1]; rfl))

theorem block1_3 (A : Fin 8 → Blocks) (h : V c main_v3 = arr 1 A) (t : Fin cfg1.N) : iblk1 V c 3 t = win (fun b => A (hd t.val) (16 * tileAt t.val + b)) := by
  obtain ⟨e0, e1⟩ := index1_3 t
  funext y
  unfold iblk1
  rw [View.read_apply]
  exact (congrFun h _).trans (arr_win A _ _ y _ (by rw [← e0]; rfl) (by rw [← e1]; rfl))

theorem block1_4 (A : Fin 8 → Blocks) (h : V c main_v4_1 = arr 1 A) (t : Fin cfg1.N) : iblk1 V c 4 t = win (fun b => A (hd t.val) (16 * tileAt t.val + b)) := by
  obtain ⟨e0, e1⟩ := index1_4 t
  funext y
  unfold iblk1
  rw [View.read_apply]
  exact (congrFun h _).trans (arr_win A _ _ y _ (by rw [← e0]; rfl) (by rw [← e1]; rfl))

theorem block1_5 (A : Fin 8 → Blocks) (h : V c main_v12 = arr 1 A) (t : Fin cfg1.N) : iblk1 V c 5 t = win (fun b => A (hd t.val) (16 * tileAt t.val + b)) := by
  obtain ⟨e0, e1⟩ := index1_5 t
  funext y
  unfold iblk1
  rw [View.read_apply]
  exact (congrFun h _).trans (arr_win A _ _ y _ (by rw [← e0]; rfl) (by rw [← e1]; rfl))

theorem block1_6 (A : Fin 8 → Blocks) (h : V c main_v1 = arr 1 A) (t : Fin cfg1.N) : iblk1 V c 6 t = tile (φ := .f32) (A (hd t.val) (16 * tileAt t.val - 1)) := by
  obtain ⟨e0, e1⟩ := index1_6 t
  funext y
  unfold iblk1
  rw [View.read_apply]
  exact (congrFun h _).trans (arr_tile A _ _ y _ (by rw [← e0]; rfl) (by rw [← e1]; rfl))

theorem block1_7 (A : Fin 8 → Blocks) (h : V c main_v2 = arr 1 A) (t : Fin cfg1.N) : iblk1 V c 7 t = tile (φ := .f32) (A (hd t.val) (16 * tileAt t.val - 1)) := by
  obtain ⟨e0, e1⟩ := index1_7 t
  funext y
  unfold iblk1
  rw [View.read_apply]
  exact (congrFun h _).trans (arr_tile A _ _ y _ (by rw [← e0]; rfl) (by rw [← e1]; rfl))

theorem block1_8 (A : Fin 8 → Blocks) (h : V c main_v0 = arr 1 A) (t : Fin cfg1.N) : iblk1 V c 8 t = tile (φ := .f32) (A (hd t.val) (after (tileAt t.val))) := by
  obtain ⟨e0, e1⟩ := index1_8 t
  funext y
  unfold iblk1
  rw [View.read_apply]
  exact (congrFun h _).trans (arr_tile A _ _ y _ (by rw [← e0]; rfl) (by rw [← e1]; rfl))

theorem block1_9 (A : Fin 8 → Blocks) (h : V c main_v3 = arr 1 A) (t : Fin cfg1.N) : iblk1 V c 9 t = tile (φ := .f32) (A (hd t.val) (after (tileAt t.val))) := by
  obtain ⟨e0, e1⟩ := index1_9 t
  funext y
  unfold iblk1
  rw [View.read_apply]
  exact (congrFun h _).trans (arr_tile A _ _ y _ (by rw [← e0]; rfl) (by rw [← e1]; rfl))

theorem block1_10 (A : Fin 8 → Blocks) (h : V c main_v4_1 = arr 1 A) (t : Fin cfg1.N) : iblk1 V c 10 t = tile (φ := .f32) (A (hd t.val) (after (tileAt t.val))) := by
  obtain ⟨e0, e1⟩ := index1_10 t
  funext y
  unfold iblk1
  rw [View.read_apply]
  exact (congrFun h _).trans (arr_tile A _ _ y _ (by rw [← e0]; rfl) (by rw [← e1]; rfl))

theorem block1_11 (A : Fin 8 → Blocks) (h : V c main_v12 = arr 1 A) (t : Fin cfg1.N) : iblk1 V c 11 t = tile (φ := .f32) (A (hd t.val) (after (tileAt t.val))) := by
  obtain ⟨e0, e1⟩ := index1_11 t
  funext y
  unfold iblk1
  rw [View.read_apply]
  exact (congrFun h _).trans (arr_tile A _ _ y _ (by rw [← e0]; rfl) (by rw [← e1]; rfl))

end Regions

end Cert.Dil1Ideal.Result

end
-- ==== Proof.Dil1Value.lean ====
/-
  The banded attention with dilation one, the arrays after each kernel: the forward's output and log-sums, and the
  gradients of the queries, keys and values, block by block of every head.
-/
module

public import proofs.«01_k».proof.Proof.Dil1Window

@[expose] public section

set_option maxRecDepth 16384

noncomputable section

namespace Cert.Dil1Ideal.Result

open Cert.Dil1Ideal Cert.Dil1Ideal.Gen Cert.Dil1Ideal.Block Cert.Dil1Ideal.Back Idealize.ShloMosaic Idealize.ShloMosaic.TcCoe Idealize.SL.Sem
open Cert.Reals Cert.Band
open Idealize.ShloMosaic.Pipeline (Dat)

/-- Only the sixteen blocks of a tile count. -/
theorem win_congr {Y Z : Blocks} (h : ∀ b < 16, Y b = Z b) : win Y = win Z := funext fun y => by
  have : (y 0).val < 2048 := (y 0).isLt
  unfold win
  rw [h _ (by omega)]

theorem has_eq (n b : ℕ) : has 1 n b = decide (1 ≤ 16 * n + b) := by
  by_cases h : 1 ≤ 16 * n + b
  · rw [decide_eq_true h]; simp [has]; omega
  · rw [decide_eq_false h]; simp [has]; omega

/-- The blocks before a tile's blocks. -/
theorem shift_eq (K : Blocks) (n b : ℕ) : shift (K (16 * n - 1)) (fun b => K (16 * n + b)) b = K (16 * n + b - 1) := by
  unfold shift
  split_ifs with h
  · rw [h, Nat.add_zero]
  · exact congrArg K (by omega)

/-- The blocks after a tile's blocks. -/
theorem shiftNext_eq (n b : ℕ) (hn : n < 4) (hb : b < 16) (X : Tile) (Y Z : Blocks)
    (h0 : b = 15 → X = Z (16 * n + b)) (h1 : b < 15 → Y (b + 1) = Z (16 * n + b)) : shiftNext X Y b = Z (16 * n + b) := by
  unfold shiftNext
  split_ifs with h
  · exact h0 h
  · exact h1 (by omega)

/-- Every index of the array lies in some point's tile. -/
theorem point_of (i : S8192x1024.Idx) : ∃ t : Fin 32, tileAt t.val * 2048 ≤ (i 0).val ∧ (i 0).val < tileAt t.val * 2048 + 2048
    ∧ (hd t.val).val * 128 ≤ (i 1).val ∧ (i 1).val < (hd t.val).val * 128 + 128 := by
  have h0 : (i 0 : Nat) < 8192 := (i 0).isLt
  have h1 : (i 1 : Nat) < 1024 := (i 1).isLt
  refine ⟨⟨(i 0 : Nat) / 2048 * 8 + (i 1 : Nat) / 128, by omega⟩, ?_⟩
  unfold tileAt hd
  dsimp only
  omega

/-- An index in a point's tile lies in its window. -/
theorem in_tile (i : S8192x1024.Idx) (t : ℕ) (n : Fin 2 → ℕ) (e : n 0 = tileAt t ∧ n 1 = (hd t).val)
    (h : tileAt t * 2048 ≤ (i 0).val ∧ (i 0).val < tileAt t * 2048 + 2048 ∧ (hd t).val * 128 ≤ (i 1).val ∧ (i 1).val < (hd t).val * 128 + 128) (a : Fin 2) :
    n a * S2048x128.size a ≤ (i a).val ∧ (i a).val < n a * S2048x128.size a + S2048x128.size a := by
  match a with
  | ⟨0, _⟩ => show n 0 * 2048 ≤ (i 0).val ∧ (i 0).val < n 0 * 2048 + 2048; rw [e.1]; omega
  | ⟨1, _⟩ => show n 1 * 128 ≤ (i 1).val ∧ (i 1).val < n 1 * 128 + 128; rw [e.2]; omega

section Regions

variable (V : (c : Dev nD) → (b : Ref sig .tc) → Buf (Elt Ideal) ((c : Thread nD τ).loc b)) (c : Dev nD) (Q K W O : Fin 8 → Blocks)
  (E : Fin 8 → ℕ → Fin 128 → ℝ)

/-- The output, block by block. -/
def outs (h : Fin 8) : Blocks := fun N => att (decide (1 ≤ N)) (Q h N) (K h N) (K h (N - 1)) (W h N) (W h (N - 1))

/-- The rows' log-sums. -/
def sums (h : Fin 8) (N : ℕ) : Fin 128 → ℝ := L 1 (Q h) (K h) N

/-- The rows' corrections. -/
def corrs (h : Fin 8) (N : ℕ) : Fin 128 → ℝ := D 1 (Q h) (K h) (W h) (O h) (E h) N

variable (hq : V c main_v0 = arr 1 Q) (hk : V c main_v1 = arr 1 K) (hw : V c main_v2 = arr 1 W)

include hq hk hw in
/-- The array of outputs. -/
theorem final0_5 : (dat0 V c).arrAt 5 cfg0.N = arr 1 (outs Q K W) := by
  refine (dat0 V c).arrAt_eq_of_cover 5 _ (fun t _ => ?_) fun i => ?_
  · obtain ⟨a, b⟩ := index0_5 t
    show (cfg0.win 5).cut (grid0.coords t) ((dat0 V c).after 5 t) = _
    rw [after0_5, block0_0 V c Q hq, block0_1 V c K hk, block0_2 V c W hw, block0_3 V c K hk, block0_4 V c W hw, out_5]
    funext j
    rw [View.read_apply]
    refine Eq.trans (congrFun (win_congr fun b hb => ?_) j) (arr_win (outs Q K W) (tileAt t.val) (hd t.val) j _ (by rw [← a]; rfl) (by rw [← b]; rfl)).symm
    rw [shift_eq (K (hd t.val)), shift_eq (W (hd t.val)), Block.hasAt, coord0, has_eq]
    rfl
  · obtain ⟨t, h⟩ := point_of i
    refine ⟨t, flush0_5 t, ?_⟩
    show i ∈ ((View.whole main_v4_0).slice (win0_5.rect t)).set
    rw [View.set_slice_whole, Rect.mem_set_unit]
    exact in_tile i t _ (index0_5 t) h

include hq hk hw in
/-- The array of log-sums, repeated over the columns of a head. -/
theorem final0_6 : (dat0 V c).arrAt 6 cfg0.N = arr 1 (Band.lanes (sums Q K)) := by
  refine (dat0 V c).arrAt_eq_of_cover 6 _ (fun t _ => ?_) fun i => ?_
  · obtain ⟨a, b⟩ := index0_6 t
    show (cfg0.win 6).cut (grid0.coords t) ((dat0 V c).after 6 t) = _
    rw [after0_6, block0_0 V c Q hq, block0_1 V c K hk, block0_2 V c W hw, block0_3 V c K hk, block0_4 V c W hw, out_6]
    funext j
    rw [View.read_apply]
    refine Eq.trans (congrFun (win_congr fun b hb => ?_) j) (arr_win (Band.lanes (sums Q K)) (tileAt t.val) (hd t.val) j _ (by rw [← a]; rfl) (by rw [← b]; rfl)).symm
    rw [shift_eq (K (hd t.val)), Block.hasAt, coord0, has_eq]
    rfl
  · obtain ⟨t, h⟩ := point_of i
    refine ⟨t, flush0_6 t, ?_⟩
    show i ∈ ((View.whole main_v4_1).slice (win0_6.rect t)).set
    rw [View.set_slice_whole, Rect.mem_set_unit]
    exact in_tile i t _ (index0_6 t) h

theorem tile_lt : ∀ t : Fin cfg1.N, tileAt t.val < 4 := by decide +kernel

/-- The mask of the keys a tile's next block sees, where there is a next block. -/
theorem nextAt_eq (t : Fin cfg1.N) : nextAt (grid1.coords t) = decide (16 * tileAt t.val + 15 + 1 < 64) := by
  have := coord1 t
  have h4 := tile_lt t
  unfold nextAt
  rw [coord1]
  by_cases h : tileAt t.val = 3
  · rw [h]; rfl
  · rw [decide_eq_false h, decide_eq_true (by omega)]; rfl

/-- The block after the tile. -/
theorem after_eq (n : ℕ) (h : 16 * n + 15 + 1 < 64) : after n = 16 * n + 15 + 1 := if_neg (by omega)

variable (ho : V c main_v3 = arr 1 O) (hl : V c main_v4_1 = arr 1 (Band.lanes (sums Q K))) (hd' : V c main_v12 = arr 1 (Band.lanes (corrs Q K W O E)))

include hq hk hw ho hl hd' in
/-- What a point leaves, of the blocks it reads. -/
theorem reads1 (t : Fin cfg1.N) :
    let q : Blocks := fun b => Q (hd t.val) (16 * tileAt t.val + b)
    let k : Blocks := fun b => K (hd t.val) (16 * tileAt t.val + b)
    let v : Blocks := fun b => W (hd t.val) (16 * tileAt t.val + b)
    let o : Blocks := fun b => O (hd t.val) (16 * tileAt t.val + b)
    let ls := fun b => sums Q K (hd t.val) (16 * tileAt t.val + b)
    let ds' := fun b => corrs Q K W O E (hd t.val) (16 * tileAt t.val + b)
    let kp := K (hd t.val) (16 * tileAt t.val - 1)
    let vp := W (hd t.val) (16 * tileAt t.val - 1)
    let qn := Q (hd t.val) (after (tileAt t.val))
    let on := O (hd t.val) (after (tileAt t.val))
    let ln := sums Q K (hd t.val) (after (tileAt t.val))
    let dn := corrs Q K W O E (hd t.val) (after (tileAt t.val))
    let i := grid1.coords t
    (dat1 V c).after 12 t = (win fun b r c => apply (ds cur (q b) (k b) (v b) (o b) (ls b) (ds' b)) (k b) r c
        + apply (ds (prev (Back.hasAt i b)) (q b) (shift kp k b) (shift vp v b) (o b) (ls b) (ds' b)) (shift kp k b) r c)
    ∧ (dat1 V c).after 13 t = (win fun b r c => applyT (ds cur (q b) (k b) (v b) (o b) (ls b) (ds' b)) (q b) r c
        + shiftNext (applyT (ds (prev (nextAt i)) qn (k 15) (v 15) on ln dn) qn)
          (fun b => applyT (ds (prev (Back.hasAt i b)) (q b) (shift kp k b) (shift vp v b) (o b) (ls b) (ds' b)) (q b)) b r c)
    ∧ (dat1 V c).after 14 t = (win fun b r c => applyT (weight cur (q b) (k b) (ls b)) (o b) r c
        + shiftNext (applyT (weight (prev (nextAt i)) qn (k 15) ln) on)
          (fun b => applyT (weight (prev (Back.hasAt i b)) (q b) (shift kp k b) (ls b)) (o b)) b r c) := by
  intro q k v o ls ds' kp vp qn on ln dn i
  have l4 : iblk1 V c 4 t = Back.lanes ls := block1_4 V c _ hl t
  have l5 : iblk1 V c 5 t = Back.lanes ds' := block1_5 V c _ hd' t
  have l10 : iblk1 V c 10 t = lane ln := block1_10 V c _ hl t
  have l11 : iblk1 V c 11 t = lane dn := block1_11 V c _ hd' t
  refine ⟨?_, ?_, ?_⟩
  · rw [after1_12, block1_0 V c Q hq, block1_1 V c K hk, block1_2 V c W hw, block1_3 V c O ho, l4, l5, block1_6 V c K hk,
      block1_7 V c W hw, block1_8 V c Q hq, block1_9 V c O ho, l10, l11]
    exact out_12 q k v o kp vp qn on ls ds' ln dn i
  · rw [after1_13, block1_0 V c Q hq, block1_1 V c K hk, block1_2 V c W hw, block1_3 V c O ho, l4, l5, block1_6 V c K hk,
      block1_7 V c W hw, block1_8 V c Q hq, block1_9 V c O ho, l10, l11]
    exact out_13 q k v o kp vp qn on ls ds' ln dn i
  · rw [after1_14, block1_0 V c Q hq, block1_1 V c K hk, block1_2 V c W hw, block1_3 V c O ho, l4, l5, block1_6 V c K hk,
      block1_7 V c W hw, block1_8 V c Q hq, block1_9 V c O ho, l10, l11]
    exact out_14 q k v o kp vp qn on ls ds' ln dn i

include hq hk hw ho hl hd' in
/-- The array of the queries' gradients. -/
theorem final1_12 : (dat1 V c).arrAt 12 cfg1.N = arr 1 fun h => dq 1 (Q h) (K h) (W h) (O h) (E h) := by
  refine (dat1 V c).arrAt_eq_of_cover 12 _ (fun t _ => ?_) fun i => ?_
  · obtain ⟨a, b⟩ := index1_12 t
    show (cfg1.win 12).cut (grid1.coords t) ((dat1 V c).after 12 t) = _
    rw [(reads1 V c Q K W O E hq hk hw ho hl hd' t).1]
    funext j
    rw [View.read_apply]
    refine Eq.trans (congrFun (win_congr fun b hb => ?_) j) (arr_win (fun h => dq 1 (Q h) (K h) (W h) (O h) (E h)) (tileAt t.val) (hd t.val) j _ (by rw [← a]; rfl) (by rw [← b]; rfl)).symm
    rw [shift_eq (K (hd t.val)), shift_eq (W (hd t.val)), Back.hasAt, coord1, has_eq]
    rfl
  · obtain ⟨t, h⟩ := point_of i
    refine ⟨t, flush1_12 t, ?_⟩
    show i ∈ ((View.whole main_v13_0).slice (win1_12.rect t)).set
    rw [View.set_slice_whole, Rect.mem_set_unit]
    exact in_tile i t _ (index1_12 t) h

include hq hk hw ho hl hd' in
/-- The array of the keys' gradients. -/
theorem final1_13 : (dat1 V c).arrAt 13 cfg1.N = arr 1 fun h => dk 64 1 (Q h) (K h) (W h) (O h) (E h) := by
  refine (dat1 V c).arrAt_eq_of_cover 13 _ (fun t _ => ?_) fun i => ?_
  · obtain ⟨a, b⟩ := index1_13 t
    show (cfg1.win 13).cut (grid1.coords t) ((dat1 V c).after 13 t) = _
    rw [(reads1 V c Q K W O E hq hk hw ho hl hd' t).2.1]
    funext j
    rw [View.read_apply]
    refine Eq.trans (congrFun (win_congr fun b hb => ?_) j) (arr_win (fun h => dk 64 1 (Q h) (K h) (W h) (O h) (E h)) (tileAt t.val) (hd t.val) j _ (by rw [← a]; rfl) (by rw [← b]; rfl)).symm
    have h4 := tile_lt t
    funext r q
    refine congrArg (_ + ·) (congrFun (congrFun (shiftNext_eq (tileAt t.val) b h4 hb _ _ (fun N => applyT (dsPrev (decide (N + 1 < 64)) 1 (Q (hd t.val)) (K (hd t.val)) (W (hd t.val)) (O (hd t.val)) (E (hd t.val)) (N + 1) N) (Q (hd t.val) (N + 1))) (fun e => ?_) fun e => ?_) r) q)
    · subst e
      rw [nextAt_eq]
      dsimp only
      by_cases h : 16 * tileAt t.val + 15 + 1 < 64
      · rw [after_eq _ h]; rfl
      · rw [decide_eq_false h]
        unfold dsPrev
        rw [ds_none, ds_none, applyT_zero, applyT_zero]
    · rw [shift_eq (K (hd t.val)), shift_eq (W (hd t.val)), Back.hasAt, coord1, has_eq, decide_eq_true (by omega)]
      dsimp only
      rw [decide_eq_true (show 16 * tileAt t.val + b + 1 < 64 by omega)]
      rfl
  · obtain ⟨t, h⟩ := point_of i
    refine ⟨t, flush1_13 t, ?_⟩
    show i ∈ ((View.whole main_v13_1).slice (win1_13.rect t)).set
    rw [View.set_slice_whole, Rect.mem_set_unit]
    exact in_tile i t _ (index1_13 t) h

include hq hk hw ho hl hd' in
/-- The array of the values' gradients. -/
theorem final1_14 : (dat1 V c).arrAt 14 cfg1.N = arr 1 fun h => dv 64 1 (Q h) (K h) (O h) := by
  refine (dat1 V c).arrAt_eq_of_cover 14 _ (fun t _ => ?_) fun i => ?_
  · obtain ⟨a, b⟩ := index1_14 t
    show (cfg1.win 14).cut (grid1.coords t) ((dat1 V c).after 14 t) = _
    rw [(reads1 V c Q K W O E hq hk hw ho hl hd' t).2.2]
    funext j
    rw [View.read_apply]
    refine Eq.trans (congrFun (win_congr fun b hb => ?_) j) (arr_win (fun h => dv 64 1 (Q h) (K h) (O h)) (tileAt t.val) (hd t.val) j _ (by rw [← a]; rfl) (by rw [← b]; rfl)).symm
    have h4 := tile_lt t
    funext r q
    refine congrArg (_ + ·) (congrFun (congrFun (shiftNext_eq (tileAt t.val) b h4 hb _ _ (fun N => applyT (weight (prev (decide (N + 1 < 64))) (Q (hd t.val) (N + 1)) (K (hd t.val) N) (L 1 (Q (hd t.val)) (K (hd t.val)) (N + 1))) (O (hd t.val) (N + 1))) (fun e => ?_) fun e => ?_) r) q)
    · subst e
      rw [nextAt_eq]
      dsimp only
      by_cases h : 16 * tileAt t.val + 15 + 1 < 64
      · rw [after_eq _ h]; rfl
      · rw [decide_eq_false h, weight_none, weight_none, applyT_zero, applyT_zero]
    · rw [shift_eq (K (hd t.val)), Back.hasAt, coord1, has_eq, decide_eq_true (by omega)]
      dsimp only
      rw [decide_eq_true (show 16 * tileAt t.val + b + 1 < 64 by omega)]
      rfl
  · obtain ⟨t, h⟩ := point_of i
    refine ⟨t, flush1_14 t, ?_⟩
    show i ∈ ((View.whole main_v13_2).slice (win1_14.rect t)).set
    rw [View.set_slice_whole, Rect.mem_set_unit]
    exact in_tile i t _ (index1_14 t) h

end Regions

end Cert.Dil1Ideal.Result

end
-- ==== Proof.Dil1Run.lean ====
/-
  The banded attention with dilation one, the run: the host code lays the arguments out by rows and takes the rows'
  corrections from the forward's output, so at finite arguments the three arrays end as the gradients.
-/
module

public import proofs.«01_k».proof.Proof.Dil1Value
public import Idealize.ShloMosaic.Lib.Quiescent

@[expose] public section

set_option maxRecDepth 16384

noncomputable section

namespace Cert.Dil1Ideal.Result

open Cert.Dil1Ideal Cert.Dil1Ideal.Gen Idealize.ShloMosaic Idealize.ShloMosaic.TcCoe Cert.Reals Cert.Band
open Idealize.SL Idealize.SL.RA Idealize.SL.BI
open scoped Idealize.SL.BI
open Idealize.ShloMosaic.Rounds
open Idealize.SL.BI.BIBase Idealize.SL.BI.Laws Idealize.SL.ProofMode Idealize.SL.Sem

/-- The host's rows' corrections: the output's cotangent times the output, summed over a head, less the log-sum's cotangent. -/
theorem corr_eq (A B : Fin 8 → Blocks) (E : S1x8192x8.Idx → ℝ) :
    shapeCast S8192x1024 (broadcastInDim S8192x8x128 ![0, 1, 2] bcast_S8192x8x1_S8192x8x128_0_1_2 (broadcastInDim S8192x8x1 ![0, 1] bcast_S8192x8_S8192x8x1_0_1
      (subf (Host.reduceAdd (shapeCast S8192x8x128 (mulf (arr 1 A) (arr 1 B)) shapeCasts_S8192x1024_S8192x8x128) (constant S_ .f32 0x00000000#32)
        reducesTo_S8192x8x128_S8192x8_d2 h_S_) (shapeCast S8192x8 (fun i => ((E i : ℝ) : EReal)) shapeCasts_S1x8192x8_S8192x8)))) shapeCasts_S8192x8x128_S8192x1024
      = arr 1 (Band.lanes fun h N i => ∑ c, A h N i c * B h N i c - eblk 1 E h N i) := by
  funext y
  idx_vars y
  pointwise
  rw [arr_at one (Band.lanes fun h N i => ∑ c, A h N i c * B h N i c - eblk 1 E h N i) (ix2 y0 y1) (headOf y1) (nOf 1 y0.val) (iOf 1 y0.val) (colOf y1)
    (rowOf_of one y0.val).symm (by show y1.val = y1.val / 128 * 128 + y1.val % 128; omega)]
  have read (X : Fin 8 → Blocks) (c : Fin 128) (hc : y1.val / 128 * 128 + c.val < 1024) :
      arr 1 X (ix2 y0 ⟨y1.val / 128 * 128 + c.val, hc⟩) = ((X (headOf y1) (nOf 1 y0.val) (iOf 1 y0.val) c : ℝ) : EReal) :=
    arr_at one X _ (headOf y1) _ _ c (rowOf_of one y0.val).symm rfl
  simp only [read, ← EReal.coe_mul, coe_sum, ← EReal.coe_sub]
  refine congrArg Real.toEReal ?_
  show _ = _ - eblk 1 E (headOf y1) (nOf 1 y0.val) (iOf 1 y0.val)
  rw [eblk_of one]
  rfl

variable (m : (ℓ : Loc nD τ sig) → Buf (Elt Ideal) ℓ) (ρ : Dev nD → PrngReg) (c : Dev nD)
  (Q K W O : S1x8192x8x128.Idx → ℝ) (E : S1x8192x8.Idx → ℝ)

/-- The arguments are these real numbers. -/
structure Real : Prop where
  q : m ((c.tc : Thread nD τ).loc main_arg0) = fun i => ((Q i : ℝ) : EReal)
  k : m ((c.tc : Thread nD τ).loc main_arg1) = fun i => ((K i : ℝ) : EReal)
  v : m ((c.tc : Thread nD τ).loc main_arg2) = fun i => ((W i : ℝ) : EReal)
  o : m ((c.tc : Thread nD τ).loc main_arg3) = fun i => ((O i : ℝ) : EReal)
  e : m ((c.tc : Thread nD τ).loc main_arg4) = fun i => ((E i : ℝ) : EReal)

variable (h : Real m c Q K W O E)

include h in
/-- The arrays the forward reads, and the output's cotangent. -/
theorem host0 : V1 m ρ c main_v0 = arr 1 (blk 1 Q) ∧ V1 m ρ c main_v1 = arr 1 (blk 1 K) ∧ V1 m ρ c main_v2 = arr 1 (blk 1 W)
    ∧ V1 m ρ c main_v3 = arr 1 (blk 1 O) := by
  refine ⟨?_, ?_, ?_, ?_⟩
  · rw [← rows_eq one Q shapeCasts_S1x8192x8x128_S8192x1024, ← h.q]
    show StableHlo.after hostOps0 _ _ = _
    after_results_simp <;> rfl
  · rw [← rows_eq one K shapeCasts_S1x8192x8x128_S8192x1024, ← h.k]
    show StableHlo.after hostOps0 _ _ = _
    after_results_simp <;> rfl
  · rw [← rows_eq one W shapeCasts_S1x8192x8x128_S8192x1024, ← h.v]
    show StableHlo.after hostOps0 _ _ = _
    after_results_simp <;> rfl
  · rw [← rows_eq one O shapeCasts_S1x8192x8x128_S8192x1024, ← h.o]
    show StableHlo.after hostOps0 _ _ = _
    after_results_simp <;> rfl

include h in
/-- The arrays the backward reads. -/
theorem host1 : V3 m ρ c main_v0 = arr 1 (blk 1 Q) ∧ V3 m ρ c main_v1 = arr 1 (blk 1 K) ∧ V3 m ρ c main_v2 = arr 1 (blk 1 W)
    ∧ V3 m ρ c main_v3 = arr 1 (blk 1 O) ∧ V3 m ρ c main_v4_1 = arr 1 (Band.lanes (sums (blk 1 Q) (blk 1 K)))
    ∧ V3 m ρ c main_v12 = arr 1 (Band.lanes (corrs (blk 1 Q) (blk 1 K) (blk 1 W) (blk 1 O) (eblk 1 E))) := by
  obtain ⟨q, k, v, o⟩ := host0 m ρ c Q K W O E h
  have keep (r : Ref sig .tc) (h1 : r ∉ hostOps1_W) (h0 : ∀ w : Fin cfg0.W, Pipeline.arrRef spec0 w = r → (cfg0.win w).isOut = false) :
      V3 m ρ c r = V1 m ρ c r := (W3_of m ρ c r h1).trans (W2_of m ρ c r h0)
  have o2 : W2 m ρ c (Proc.devRef .tc main_v3) = arr 1 (blk 1 O) := (W2_of m ρ c main_v3 (by decide +kernel)).trans o
  have a5 : W2 m ρ c (Proc.devRef .tc main_v4_0) = arr 1 (outs (blk 1 Q) (blk 1 K) (blk 1 W)) :=
    (W2_arr m ρ c 5).trans (final0_5 (V1 m ρ) c _ _ _ q k v)
  have e2 : W2 m ρ c (Proc.devRef .tc main_arg4) = fun i => ((E i : ℝ) : EReal) := (W2_args m ρ c main_arg4 (by decide)).trans h.e
  refine ⟨(keep main_v0 (by decide) (by decide +kernel)).trans q, (keep main_v1 (by decide) (by decide +kernel)).trans k,
    (keep main_v2 (by decide) (by decide +kernel)).trans v, (keep main_v3 (by decide) (by decide +kernel)).trans o,
    (W3_of m ρ c main_v4_1 (by decide)).trans ((W2_arr m ρ c 6).trans (final0_6 (V1 m ρ) c _ _ _ q k v)), ?_⟩
  refine Eq.trans ?_ (corr_eq (blk 1 O) (outs (blk 1 Q) (blk 1 K) (blk 1 W)) E)
  rw [← o2, ← a5, ← e2]
  show StableHlo.after hostOps1 _ _ = _
  after_results_simp <;> rfl

set_option backward.isDefEq.respectTransparency.types false in
/-- The run: the three arrays end as the backward leaves them, the arguments unchanged. -/
theorem run_blocks : θ_run defs (onTc (τ := τ) (main (F := Ideal))) ⟨m, fun _ => 0, ρ⟩ fun r => ∀ c : Dev nD,
      r.2.mem ((c : Thread nD τ).loc main_v13_0) = (dat1 (V3 m ρ) c).arrAt 12 cfg1.N
      ∧ r.2.mem ((c : Thread nD τ).loc main_v13_1) = (dat1 (V3 m ρ) c).arrAt 13 cfg1.N
      ∧ r.2.mem ((c : Thread nD τ).loc main_v13_2) = (dat1 (V3 m ρ) c).arrAt 14 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v13_0 (by decide))).trans (W4_arr m ρ c 12),
       (h c _ (mem_uc main_v13_1 (by decide))).trans (W4_arr m ρ c 13),
       (h c _ (mem_uc main_v13_2 (by decide))).trans (W4_arr m ρ c 14),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

include h in
/-- The three arrays at finite arguments. -/
theorem finals : (dat1 (V3 m ρ) c).arrAt 12 cfg1.N = arr 1 (fun h => dq 1 (blk 1 Q h) (blk 1 K h) (blk 1 W h) (blk 1 O h) (eblk 1 E h))
    ∧ (dat1 (V3 m ρ) c).arrAt 13 cfg1.N = arr 1 (fun h => dk 64 1 (blk 1 Q h) (blk 1 K h) (blk 1 W h) (blk 1 O h) (eblk 1 E h))
    ∧ (dat1 (V3 m ρ) c).arrAt 14 cfg1.N = arr 1 (fun h => dv 64 1 (blk 1 Q h) (blk 1 K h) (blk 1 O h)) := by
  obtain ⟨q, k, v, o, l, d⟩ := host1 m ρ c Q K W O E h
  exact ⟨final1_12 (V3 m ρ) c _ _ _ _ _ q k v o l d, final1_13 (V3 m ρ) c _ _ _ _ _ q k v o l d, final1_14 (V3 m ρ) c _ _ _ _ _ q k v o l d⟩

end Cert.Dil1Ideal.Result

end
-- ==== Proof.BandRow.lean ====
/-
  One row of the banded attention as the reference computes it: the 128 keys of the block before and the 128 of the
  query's own block side by side. The row's maximum, sum of exponentials, weights and gradient are those of the two
  blocks.
-/
module

public import proofs.«01_k».proof.Proof.Band
public import Idealize.ShloMosaic.Lib.WordCmp

@[expose] public section

noncomputable section

namespace Cert.Band

open Idealize.ShloMosaic Cert.Reals

/-- Two blocks side by side. -/
def cat {α : Type} (a b : Fin 128 → α) (j : Fin 256) : α := if h : j.val < 128 then a ⟨j.val, h⟩ else b ⟨j.val - 128, by have := j.isLt; omega⟩

theorem cat_fst {α : Type} (a b : Fin 128 → α) (j : Fin 128) (h : j.val < 256) : cat a b ⟨j.val, h⟩ = a j := dif_pos j.isLt

theorem cat_snd {α : Type} (a b : Fin 128 → α) (j : Fin 128) (h : 128 + j.val < 256) : cat a b ⟨128 + j.val, h⟩ = b j :=
  (dif_neg (by show ¬ 128 + j.val < 128; omega)).trans (congrArg b (Fin.ext (by show 128 + j.val - 128 = j.val; omega)))

theorem sum_cat (f : Fin 256 → ℝ) : ∑ j, f j = ∑ j : Fin 128, f ⟨j.val, by omega⟩ + ∑ j : Fin 128, f ⟨128 + j.val, by omega⟩ :=
  Fin.sum_univ_add (a := 128) (b := 128) f

/-- A function of the 256 places is a side-by-side pair when its two halves are. -/
theorem cat_eq {α : Type} {a b : Fin 128 → α} (f : Fin 256 → α) (h0 : ∀ j : Fin 128, f ⟨j.val, by omega⟩ = a j)
    (h1 : ∀ j : Fin 128, f ⟨128 + j.val, by omega⟩ = b j) (j : Fin 256) : f j = cat a b j := by
  unfold cat
  split_ifs with h
  · exact h0 ⟨j.val, h⟩
  · refine Eq.trans (congrArg f (Fin.ext ?_)) (h1 ⟨j.val - 128, by have := j.isLt; omega⟩)
    show j.val = 128 + (j.val - 128)
    omega

variable (g : Bool) (q k kp v vp o : Tile) (e : Fin 128 → ℝ) (i : Fin 128)

/-- The keys a query sees. -/
def seen : Fin 256 → Bool := cat (prev g i) (cur i)

/-- The scores of a query. -/
def scores : Fin 256 → ℝ := cat (score q kp i) (score q k i)

/-- The cotangents of a query's weights. -/
def dots : Fin 256 → ℝ := cat (dot o vp i) (dot o v i)

/-- The weights of a query. -/
def weights : Fin 256 → ℝ := cat (weight (prev g) q kp (lse g q k kp) i) (weight cur q k (lse g q k kp) i)

/-- The correction of a query's row. -/
def fix : ℝ := corr o (att g q k kp v vp) e i

/-- The gradient of a query's scores. -/
def grads : Fin 256 → ℝ :=
  cat (ds (prev g) q kp vp o (lse g q k kp) (corr o (att g q k kp v vp) e) i) (ds cur q k v o (lse g q k kp) (corr o (att g q k kp v vp) e) i)

/-- A row's maximum is a real number. -/
theorem row_max : ∃ m : ℝ, Finset.univ.fold max ⊥ (fun j => hide (seen g i j) (scores q k kp i j)) = (m : EReal) := by
  refine max_hide_real (seen g i) (scores q k kp i) ⟨128 + i.val, by omega⟩ ?_
  unfold seen
  rw [cat_snd]
  simp [cur]

/-- The exponential of a row's score with a number subtracted. -/
def expo (m : ℝ) (j : Fin 256) : ℝ := if seen g i j then Real.exp (scores q k kp i j - m) else 0

theorem row_exp (m : ℝ) (j : Fin 256) : Ideal.exp (hide (seen g i j) (scores q k kp i j) - (m : EReal)) = ((expo g q k kp i m j : ℝ) : EReal) :=
  exp_hide _ _ _

/-- A row's sum of exponentials. -/
theorem row_sum (m : ℝ) : ∑ j, expo g q k kp i m j = z g q k kp i * Real.exp (-m) := by
  rw [sum_cat, ← sum_shift]
  unfold expo seen scores
  simp only [cat_fst, cat_snd]

theorem row_pos (m : ℝ) : 0 < z g q k kp i * Real.exp (-m) := mul_pos (z_pos ..) (Real.exp_pos _)

/-- The row's log-sum. -/
theorem row_lse (m : ℝ) : Ideal.log ((z g q k kp i * Real.exp (-m) : ℝ) : EReal) + (m : EReal) = (lse g q k kp i : EReal) := by
  rw [add_comm]; exact log_shift g q k kp i m

/-- A row's weights. -/
theorem row_weight (j : Fin 256) : expo g q k kp i (lse g q k kp i) j = weights g q k kp i j := by
  refine cat_eq _ (fun j => ?_) (fun j => ?_) j <;> unfold expo seen scores <;> simp only [cat_fst, cat_snd] <;> rfl

/-- A weight is the exponential over the sum. -/
theorem row_ratio (m : ℝ) (j : Fin 256) : expo g q k kp i m j / (z g q k kp i * Real.exp (-m)) = weights g q k kp i j := by
  rw [div_eq_iff (row_pos g q k kp i m).ne', ← row_weight]
  unfold expo
  split_ifs
  · unfold lse
    rw [Real.exp_sub, Real.exp_sub, Real.exp_log (z_pos ..), Real.exp_neg]
    have := (z_pos g q k kp i).ne'
    field_simp
  · simp

/-- What the log-sum's cotangent and the weights' cotangents leave of a row: minus its correction. -/
theorem row_fix : e i + ∑ j, -(dots v vp o i j * weights g q k kp i j) = - fix g q k kp v vp o e i := by
  unfold fix corr
  rw [sum_corr, Finset.sum_neg_distrib, sum_cat]
  unfold dots weights
  simp only [cat_fst, cat_snd, mul_comm (dot o _ i _)]
  ring

/-- The gradient of a row's scores, as the derivative of the log-sum and of the exponentials gives it. -/
theorem row_grad (m : ℝ) (j : Fin 256) :
    (if seen g i j then dots v vp o i j * weights g q k kp i j + - fix g q k kp v vp o e i / (z g q k kp i * Real.exp (-m)) * expo g q k kp i m j else 0) * s
      = grads g q k kp v vp o e i j := by
  have h : - fix g q k kp v vp o e i / (z g q k kp i * Real.exp (-m)) * expo g q k kp i m j = - fix g q k kp v vp o e i * weights g q k kp i j := by
    rw [← row_ratio g q k kp i m j]; ring
  rw [h]
  refine cat_eq (fun j => (if seen g i j then dots v vp o i j * weights g q k kp i j + - fix g q k kp v vp o e i * weights g q k kp i j else 0) * s) (fun j => ?_) (fun j => ?_) j <;>
    unfold seen dots weights <;> simp only [cat_fst, cat_snd] <;> unfold ds weight keep fix <;> split_ifs <;> ring

/-- The block before, a block of zeros if there is none. -/
def back (g : Bool) (a : Tile) : Tile := fun j c => if g then a j c else 0

theorem z_back : z g q k (back g kp) = z g q k kp := by
  cases g
  · funext i; unfold z; simp only [keep_none]
  · rfl

theorem lse_back : lse g q k (back g kp) = lse g q k kp := by unfold lse; rw [z_back]

theorem att_back : att g q k (back g kp) v (back g vp) = att g q k kp v vp := by
  cases g
  · unfold att
    simp only [lse_back, weight_none]
    funext i c
    unfold apply
    simp
  · rfl

theorem weights_back : weights g q k (back g kp) i = weights g q k kp i := by
  unfold weights
  rw [lse_back]
  cases g
  · simp only [weight_none]
  · rfl

theorem grads_back : grads g q k (back g kp) v (back g vp) o e i = grads g q k kp v vp o e i := by
  unfold grads
  rw [lse_back, att_back]
  cases g
  · simp only [ds_none]
  · rfl

/-- The reference's scale, a quotient by a root, is the constant. -/
theorem scale_eq : Ideal.div (1 : EReal) (Ideal.sqrt (Ideal.ofBits .f32 0x43000000#32)) = (s : EReal) := by
  have e : Ideal.ofBits .f32 0x43000000#32 = ((128 : ℝ) : EReal) := by
    simp [Ideal.ofBits, Ideal.ieee]
    norm_num [← EReal.coe_mul]
  rw [e, Ideal.sqrt_coe, if_neg (by norm_num : ¬ (128 : ℝ) < 0), Ideal.div_coe (by positivity : Real.sqrt 128 ≠ 0), one_mul, one_div]
  rfl

/-- The products of a row with the rows of two blocks. -/
theorem sum_dot (a b : Tile) (j : Fin 256) : ∑ c, o i c * cat a b j c = cat (dot o a i) (dot o b i) j :=
  cat_eq (fun j => ∑ c, o i c * cat a b j c) (fun j => by simp only [cat_fst]; rfl) (fun j => by simp only [cat_snd]; rfl) j

/-- A scaled product is a score. -/
theorem sum_score (j : Fin 256) : (∑ c, q i c * cat kp k j c) * s = scores q k kp i j := by
  rw [sum_dot]
  refine cat_eq (fun j => cat (dot q kp i) (dot q k i) j * s) (fun j => ?_) (fun j => ?_) j <;> simp only [cat_fst, cat_snd] <;> rfl

/-- The gradient's last steps: the mask and the scale. -/
theorem row_step (M : Bool) (a b t d : ℝ) (ht : t ≠ 0) :
    Scalar.select (BitVec.ofBool M) (((a : EReal) + Ideal.div (b : EReal) (t : EReal) * (d : EReal)) * (s : EReal)) 0
      = (((if M then a + b / t * d else 0) * s : ℝ) : EReal) := by
  rw [WordCmp.select_ofBool, div_real _ ht, ← EReal.coe_mul, ← EReal.coe_add, ← EReal.coe_mul]
  cases M
  · simp
  · rfl

/-- A small difference of words. -/
theorem toInt_diff (i j : ℕ) (hi : i < 128) (hj : j < 256) :
    (IntOp.subi (IntOp.addi 128#32 (BitVec.ofNat 32 i)) (BitVec.ofNat 32 j)).toInt = 128 + (i : ℤ) - j := by
  show (BitVec.ofNat 32 128 + BitVec.ofNat 32 i - BitVec.ofNat 32 j).toInt = _
  rw [BitVec.toInt_sub, BitVec.toInt_add, WordCmp.toInt_ofNat_of_lt (by norm_num), WordCmp.toInt_ofNat_of_lt (by norm_num; omega),
    WordCmp.toInt_ofNat_of_lt (by norm_num; omega), Int.bmod_eq_of_le (n := ((128 : ℕ) : ℤ) + i) (by norm_num; omega) (by norm_num; omega),
    Int.bmod_eq_of_le (by norm_num; omega) (by norm_num; omega)]
  rfl

/-- The reference's test for the keys a query sees: between 0 and 128 places back, and none before the first block. -/
theorem word_band (g : Bool) (j : Fin 256) :
    IntOp.andi
      (IntOp.andi (IntOp.cmpi .sge (IntOp.subi (IntOp.addi 128#32 (BitVec.ofNat 32 i.val)) (BitVec.ofNat 32 j.val)) 0#32)
        (IntOp.cmpi .sle (IntOp.subi (IntOp.addi 128#32 (BitVec.ofNat 32 i.val)) (BitVec.ofNat 32 j.val)) 128#32))
      (IntOp.ori (BitVec.ofBool g) (IntOp.cmpi .sge (BitVec.ofNat 32 j.val) 128#32)) = BitVec.ofBool (seen g i j) := by
  have hi := i.isLt; have hj := j.isLt
  have e := toInt_diff i.val j.val hi hj
  have e0 : IntOp.cmpi .sge (IntOp.subi (IntOp.addi 128#32 (BitVec.ofNat 32 i.val)) (BitVec.ofNat 32 j.val)) 0#32 = BitVec.ofBool (decide (j.val ≤ 128 + i.val)) := by
    show BitVec.ofBool (BitVec.sle _ _) = _
    rw [BitVec.sle_eq_decide, e]
    refine congrArg BitVec.ofBool (decide_eq_decide.mpr ?_)
    simp; omega
  have e1 : IntOp.cmpi .sle (IntOp.subi (IntOp.addi 128#32 (BitVec.ofNat 32 i.val)) (BitVec.ofNat 32 j.val)) 128#32 = BitVec.ofBool (decide (i.val ≤ j.val)) := by
    show BitVec.ofBool (BitVec.sle _ _) = _
    rw [BitVec.sle_eq_decide, e]
    refine congrArg BitVec.ofBool (decide_eq_decide.mpr ?_)
    rw [show (128#32).toInt = 128 from rfl]; omega
  rw [e0, e1, show (128#32) = BitVec.ofNat 32 128 from rfl, WordCmp.cmpi_sge_ofNat (by norm_num; omega) (by norm_num), WordCmp.andi_ofBool, WordCmp.ori_ofBool, WordCmp.andi_ofBool]
  refine congrArg BitVec.ofBool ?_
  unfold seen
  refine cat_eq (fun j : Fin 256 => decide (j.val ≤ 128 + i.val) && decide (i.val ≤ j.val) && (g || decide (128 ≤ j.val))) (fun j => ?_) (fun j => ?_) j
  · have h0 : j.val ≤ 128 + i.val := by have := j.isLt; omega
    have h1 : ¬ 128 ≤ j.val := by have := j.isLt; omega
    simp [prev, h0, h1, Bool.and_comm]
  · have h0 : i.val ≤ 128 + j.val := by omega
    simp [cur, h0]

/-! The three gradients of the blocks of a head, from the gradients of the rows. -/

section Blocks

variable (N d : ℕ) (Q K V O : Blocks) (E : ℕ → Fin 128 → ℝ) (n : ℕ)

/-- The weights of the rows of block `n`. -/
abbrev weightsOf : Fin 128 → Fin 256 → ℝ := weights (decide (d ≤ n)) (Q n) (K n) (back (decide (d ≤ n)) (K (n - d)))

/-- The gradients of the scores of block `n`. -/
abbrev gradsOf : Fin 128 → Fin 256 → ℝ :=
  grads (decide (d ≤ n)) (Q n) (K n) (back (decide (d ≤ n)) (K (n - d))) (V n) (back (decide (d ≤ n)) (V (n - d))) (O n) (E n)

theorem weightsOf_eq (i : Fin 128) :
    weightsOf d Q K n i = cat (weight (prev (decide (d ≤ n))) (Q n) (K (n - d)) (L d Q K n) i) (weight cur (Q n) (K n) (L d Q K n) i) :=
  weights_back _ _ _ _ _

theorem gradsOf_eq (i : Fin 128) :
    gradsOf d Q K V O E n i = cat (dsPrev (decide (d ≤ n)) d Q K V O E n (n - d) i) (dsCur d Q K V O E n i) :=
  grads_back _ _ _ _ _ _ _ _ _

theorem dv_own (j c : Fin 128) (h : 128 + j.val < 256) :
    ∑ i, O n i c * weightsOf d Q K n i ⟨128 + j.val, h⟩ = applyT (weight cur (Q n) (K n) (L d Q K n)) (O n) j c := by
  unfold applyT
  exact Finset.sum_congr rfl fun i _ => by rw [weightsOf_eq, cat_snd, mul_comm]

theorem dv_after (j c : Fin 128) (h : j.val < 256) :
    ∑ i, O (n + d) i c * weightsOf d Q K (n + d) i ⟨j.val, h⟩ = applyT (weight (prev true) (Q (n + d)) (K n) (L d Q K (n + d))) (O (n + d)) j c := by
  unfold applyT
  exact Finset.sum_congr rfl fun i _ => by
    rw [weightsOf_eq, cat_fst, mul_comm, show decide (d ≤ n + d) = true by simp, Nat.add_sub_cancel]

/-- The gradient of the values: the block's own queries and those of the block after. -/
theorem dv_next (m : ℕ) (hm : m = n + d) (hN : n + d < N) (j c : Fin 128) (h0 : 128 + j.val < 256) (h1 : j.val < 256) :
    ((∑ i, O n i c * weightsOf d Q K n i ⟨128 + j.val, h0⟩ : ℝ) : EReal) + ((∑ i, O m i c * weightsOf d Q K m i ⟨j.val, h1⟩ : ℝ) : EReal)
      = (dv N d Q K O n j c : EReal) := by
  subst hm
  rw [← EReal.coe_add, dv_own, dv_after]
  unfold dv
  rw [decide_eq_true hN]

/-- The gradient of the values of a last block. -/
theorem dv_last (hN : ¬ n + d < N) (j c : Fin 128) (h0 : 128 + j.val < 256) :
    ((∑ i, O n i c * weightsOf d Q K n i ⟨128 + j.val, h0⟩ : ℝ) : EReal) + 0 = (dv N d Q K O n j c : EReal) := by
  rw [add_zero, dv_own]
  unfold dv
  rw [decide_eq_false hN, weight_none, applyT_zero, add_zero]

theorem dk_own (j c : Fin 128) (h : 128 + j.val < 256) :
    ∑ i, gradsOf d Q K V O E n i ⟨128 + j.val, h⟩ * Q n i c = applyT (dsCur d Q K V O E n) (Q n) j c := by
  unfold applyT
  exact Finset.sum_congr rfl fun i _ => by rw [gradsOf_eq, cat_snd]

theorem dk_after (j c : Fin 128) (h : j.val < 256) :
    ∑ i, gradsOf d Q K V O E (n + d) i ⟨j.val, h⟩ * Q (n + d) i c = applyT (dsPrev true d Q K V O E (n + d) n) (Q (n + d)) j c := by
  unfold applyT
  exact Finset.sum_congr rfl fun i _ => by
    rw [gradsOf_eq, cat_fst, show decide (d ≤ n + d) = true by simp, Nat.add_sub_cancel]

/-- The gradient of the keys: the block's own queries and those of the block after. -/
theorem dk_next (m : ℕ) (hm : m = n + d) (hN : n + d < N) (j c : Fin 128) (h0 : 128 + j.val < 256) (h1 : j.val < 256) :
    ((∑ i, gradsOf d Q K V O E n i ⟨128 + j.val, h0⟩ * Q n i c : ℝ) : EReal) + ((∑ i, gradsOf d Q K V O E m i ⟨j.val, h1⟩ * Q m i c : ℝ) : EReal)
      = (dk N d Q K V O E n j c : EReal) := by
  subst hm
  rw [← EReal.coe_add, dk_own, dk_after]
  unfold dk
  rw [decide_eq_true hN]

/-- The gradient of the keys of a last block. -/
theorem dk_last (hN : ¬ n + d < N) (j c : Fin 128) (h0 : 128 + j.val < 256) :
    ((∑ i, gradsOf d Q K V O E n i ⟨128 + j.val, h0⟩ * Q n i c : ℝ) : EReal) + 0 = (dk N d Q K V O E n j c : EReal) := by
  rw [add_zero, dk_own]
  unfold dk dsPrev
  rw [decide_eq_false hN, ds_none, applyT_zero, add_zero]

/-- The gradient of the queries. -/
theorem dq_eq (i c : Fin 128) :
    ∑ j, gradsOf d Q K V O E n i j * cat (back (decide (d ≤ n)) (K (n - d))) (K n) j c = dq d Q K V O E n i c := by
  rw [sum_cat]
  simp only [cat_fst, cat_snd, gradsOf_eq]
  rw [add_comm]
  unfold dq apply
  refine congrArg (_ + ·) (Finset.sum_congr rfl fun j _ => ?_)
  by_cases h : d ≤ n
  · simp [back, h]
  · unfold dsPrev
    simp [h, ds_none]

end Blocks

end Cert.Band

end
-- ==== Proof.Dil1Ref.lean ====
/-
  The dilated attention's reference, dilation 1: what its derivative computes at finite arguments. Each stage is read
  at an index: block `n` of head `h`, the query's place `i`, the key's place `j` among the 256 of the block before and
  the block itself.
-/
module

public import proofs.«01_k».proof.Proof.BandRow
public import proofs.«01_k».proof.Proof.BandArray
public import proofs.«01_k».proof.Proof.MergeRef
public import proofs.«01_k».proof.Proof.Gen.Dil1RefIdeal.Run
public import proofs.«01_k».proof.Proof.Gen.Dil1RefIdeal.Read

@[expose] public section

set_option maxRecDepth 16384

noncomputable section

namespace Cert.Dil1RefIdeal.Result

open Cert.Dil1RefIdeal Cert.Dil1RefIdeal.Gen Cert.Dil1RefIdeal.Read Idealize.ShloMosaic Idealize.ShloMosaic.TcCoe Cert.Reals Cert.Band
open Cert.MergeRefIdeal.Result (up sum_one)

variable (Q K W O : ShX.Idx → ℝ) (E : ShE.Idx → ℝ)

/-- The number of a block. -/
def num (z : Fin 1) (n : Fin 64) : ℕ := n.val * 1 + z.val

theorem row_num (z : Fin 1) (n : Fin 64) (i : Fin 128) : rowOf 1 (num z n) i.val = n.val * 128 + i.val := by
  have := z.isLt
  unfold rowOf num
  omega

/-- An argument's row, in its block. -/
theorem blk_num (X : ShX.Idx → ℝ) (z : Fin 1) (n : Fin 64) (i : Fin 128) (h : Fin 8) (c : Fin 128) (r : Fin 8192)
    (hr : r.val = n.val * 128 + i.val) : X (ix4 0 r h c) = blk 1 X h (num z n) i c := by
  unfold blk
  rw [dif_pos (by rw [row_num]; omega)]
  exact congrArg (fun r => X (ix4 0 r h c)) (Fin.ext (by show r.val = rowOf 1 (num z n) i.val; rw [row_num, hr]))

theorem eblk_num (z : Fin 1) (n : Fin 64) (i : Fin 128) (h : Fin 8) (r : Fin 8192)
    (hr : r.val = n.val * 128 + i.val) : E (ix3 0 r h) = eblk 1 E h (num z n) i := by
  unfold eblk
  rw [dif_pos (by rw [row_num]; omega)]
  exact congrArg (fun r => E (ix3 0 r h)) (Fin.ext (by show r.val = rowOf 1 (num z n) i.val; rw [row_num, hr]))

/-- Whether a block has a block before it. -/
def has (z : Fin 1) (n : Fin 64) : Bool := decide (1 ≤ num z n)

/-- A block of an argument. -/
abbrev own (X : ShX.Idx → ℝ) (z : Fin 1) (n : Fin 64) (h : Fin 8) : Tile := blk 1 X h (num z n)

/-- The block before. -/
abbrev bef (X : ShX.Idx → ℝ) (z : Fin 1) (n : Fin 64) (h : Fin 8) : Tile := back (has z n) (blk 1 X h (num z n - 1))

theorem v9_apply (z : Fin 1) (n : Fin 64) (i : Fin 128) (h : Fin 8) (c : Fin 128) :
    val_main_v9 (F := Ideal) (up Q) (ix5 z n i h c) = ((own Q z n h i c : ℝ) : EReal) := by
  obtain rfl : z = 0 := Subsingleton.elim _ _
  pointwise [val_main_v9, val_main_v8, val_main_v7, val_main_v0]
  exact congrArg Real.toEReal (blk_num _ _ _ _ _ _ _ rfl)

theorem v12_apply (z : Fin 1) (n : Fin 64) (i : Fin 128) (h : Fin 8) (c : Fin 128) :
    val_main_v12 (F := Ideal) (up K) (ix5 z n i h c) = ((own K z n h i c : ℝ) : EReal) := by
  obtain rfl : z = 0 := Subsingleton.elim _ _
  pointwise [val_main_v12, val_main_v11, val_main_v10, val_main_v1]
  exact congrArg Real.toEReal (blk_num _ _ _ _ _ _ _ rfl)

/-- The test for a block before. -/
theorem has_word (z : Fin 1) (n : Fin 64) : IntOp.cmpi .sgt (BitVec.ofNat 32 n.val) 0#32 = BitVec.ofBool (has z n) := by
  rw [show (0#32) = BitVec.ofNat 32 0 from rfl, WordCmp.cmpi_sgt_ofNat (by have := n.isLt; norm_num; omega) (by norm_num)]
  refine congrArg BitVec.ofBool (decide_eq_decide.mpr ?_)
  have := z.isLt
  unfold num
  omega

/-- The block before, as the reference shifts it in. -/
theorem bef_of (X : ShX.Idx → ℝ) (n : Fin 64) (h : Fin 8) (i c : Fin 128) (f : Fin 64 → EReal) (hf : ∀ n, f n = (own X 0 n h i c : EReal)) (e : n.val - 1 < 64) :
    (if _h : n.val < 1 then (0 : EReal) else f ⟨n.val - 1, e⟩) = ((bef X 0 n h i c : ℝ) : EReal) := by
  unfold bef back has num
  rw [hf]
  by_cases hn : n.val < 1
  · have : ¬ 1 ≤ n.val := by omega
    simp [hn, this]
  · have : 1 ≤ n.val := by omega
    simp [hn, this, own, num]

theorem v16_apply (z : Fin 1) (n : Fin 64) (i : Fin 128) (h : Fin 8) (c : Fin 128) :
    val_main_v16 (F := Ideal) (up K) (ix5 z n i h c) = ((bef K z n h i c : ℝ) : EReal) := by
  obtain rfl : z = 0 := Subsingleton.elim _ _
  pointwise [val_main_v16, val_main_v15, val_main_v14, val_main_cst_1]
  exact bef_of K n h i c (fun n => val_main_v12 (F := Ideal) (up K) (ix5 0 n i h c)) (fun n => v12_apply K 0 n i h c) (by have := n.isLt; omega)

theorem v18_apply (z : Fin 1) (n : Fin 64) (j : Fin 256) (h : Fin 8) (c : Fin 128) :
    val_main_v18 (F := Ideal) (up K) (ix5 z n j h c) = ((cat (bef K z n h) (own K z n h) j c : ℝ) : EReal) := by
  obtain rfl : z = 0 := Subsingleton.elim _ _
  pointwise [val_main_v18]
  simp only [v16_apply, v12_apply]
  unfold cat
  split_ifs <;> rfl

theorem v21_apply (z : Fin 1) (n : Fin 64) (i : Fin 128) (h : Fin 8) (c : Fin 128) :
    val_main_v21 (F := Ideal) (up W) (ix5 z n i h c) = ((own W z n h i c : ℝ) : EReal) := by
  obtain rfl : z = 0 := Subsingleton.elim _ _
  pointwise [val_main_v21, val_main_v20, val_main_v19, val_main_v2]
  exact congrArg Real.toEReal (blk_num _ _ _ _ _ _ _ rfl)

theorem v25_apply (z : Fin 1) (n : Fin 64) (i : Fin 128) (h : Fin 8) (c : Fin 128) :
    val_main_v25 (F := Ideal) (up W) (ix5 z n i h c) = ((bef W z n h i c : ℝ) : EReal) := by
  obtain rfl : z = 0 := Subsingleton.elim _ _
  pointwise [val_main_v25, val_main_v24, val_main_v23, val_main_cst_3]
  exact bef_of W n h i c (fun n => val_main_v21 (F := Ideal) (up W) (ix5 0 n i h c)) (fun n => v21_apply W 0 n i h c) (by have := n.isLt; omega)

theorem v27_apply (z : Fin 1) (n : Fin 64) (j : Fin 256) (h : Fin 8) (c : Fin 128) :
    val_main_v27 (F := Ideal) (up W) (ix5 z n j h c) = ((cat (bef W z n h) (own W z n h) j c : ℝ) : EReal) := by
  obtain rfl : z = 0 := Subsingleton.elim _ _
  pointwise [val_main_v27]
  simp only [v25_apply, v21_apply]
  unfold cat
  split_ifs <;> rfl

theorem v28_apply (z : Fin 1) (n : Fin 64) (h : Fin 8) (i : Fin 128) (j : Fin 256) :
    val_main_v28 (F := Ideal) (up Q) (up K) (ix5 z n h i j)
      = ((∑ c, own Q z n h i c * cat (bef K z n h) (own K z n h) j c : ℝ) : EReal) := by
  obtain rfl : z = 0 := Subsingleton.elim _ _
  pointwise [val_main_v28]
  simp only [v9_apply, v18_apply, ← EReal.coe_mul, coe_sum]

/-- The keys a query sees. -/
theorem v60_1_apply (z : Fin 1) (n : Fin 64) (h : Fin 8) (i : Fin 128) (j : Fin 256) :
    val_main_v60_1 (F := Ideal) (ix5 z n h i j) = BitVec.ofBool (seen (has z n) i j) := by
  obtain rfl : z = 0 := Subsingleton.elim _ _
  pointwise [val_main_v60_1, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_c, val_main_c_5,
    val_main_c_6, val_main_c_7, val_main_c_8]
  rw [has_word 0 n]
  exact word_band _ _ _

/-- The masked scores. -/
theorem v60_0_apply (z : Fin 1) (n : Fin 64) (h : Fin 8) (i : Fin 128) (j : Fin 256) :
    val_main_v60_0 (F := Ideal) (up Q) (up K) (ix5 z n h i j)
      = hide (seen (has z n) i j) (scores (own Q z n h) (own K z n h) (bef K z n h) i j) := by
  obtain rfl : z = 0 := Subsingleton.elim _ _
  pointwise [val_main_v60_0, val_main_v30, val_main_v29, val_main_v6, val_main_v5, val_main_cst, val_main_cst_0, val_main_call0_v2, val_main_call0_v0, val_main_cst_9]
  rw [v60_1_apply, v28_apply, WordCmp.select_ofBool, scale_eq, ← EReal.coe_mul, sum_score]
  unfold hide
  refine congrArg (fun b : EReal => if _ = true then _ else b) lit_neg_inf

/-- The number subtracted from a row's scores is a real number. -/
theorem v61_real (z : Fin 1) (n : Fin 64) (h : Fin 8) (i : Fin 128) :
    ∃ m : ℝ, val_main_v61 (F := Ideal) (up Q) (up K) (ix4 z n h i) = (m : EReal) := by
  obtain rfl : z = 0 := Subsingleton.elim _ _
  pointwise [val_main_v61, val_main_cst_10]
  simp only [v60_0_apply, lit_neg_inf]
  exact row_max _ _ _ _ _

/-- The number subtracted from a row's scores. -/
def top (z : Fin 1) (n : Fin 64) (h : Fin 8) (i : Fin 128) : ℝ := (v61_real Q K z n h i).choose

theorem v61_apply (z : Fin 1) (n : Fin 64) (h : Fin 8) (i : Fin 128) :
    val_main_v61 (F := Ideal) (up Q) (up K) (ix4 z n h i) = (top Q K z n h i : EReal) := (v61_real Q K z n h i).choose_spec

/-- The exponentials. -/
theorem v70_apply (z : Fin 1) (n : Fin 64) (h : Fin 8) (i : Fin 128) (j : Fin 256) :
    val_main_v70 (F := Ideal) (up Q) (up K) (ix5 z n h i j)
      = ((expo (has z n) (own Q z n h) (own K z n h) (bef K z n h) i (top Q K z n h i) j : ℝ) : EReal) := by
  obtain rfl : z = 0 := Subsingleton.elim _ _
  pointwise [val_main_v70, val_main_v69, val_main_v68, val_main_v67]
  rw [v60_0_apply, v61_apply]
  exact row_exp _ _ _ _ _ _ _

/-- A row's sum of exponentials, over the number subtracted. -/
def total (z : Fin 1) (n : Fin 64) (h : Fin 8) (i : Fin 128) : ℝ :=
  Cert.Band.z (has z n) (own Q z n h) (own K z n h) (bef K z n h) i * Real.exp (-(top Q K z n h i))

theorem v71_apply (z : Fin 1) (n : Fin 64) (h : Fin 8) (i : Fin 128) :
    val_main_v71 (F := Ideal) (up Q) (up K) (ix4 z n h i) = (total Q K z n h i : EReal) := by
  obtain rfl : z = 0 := Subsingleton.elim _ _
  pointwise [val_main_v71, val_main_cst_12]
  simp only [v70_apply, coe_sum]
  rw [row_sum]
  rfl

/-- A row's log-sum. -/
theorem v73_apply (z : Fin 1) (n : Fin 64) (h : Fin 8) (i : Fin 128) :
    val_main_v73 (F := Ideal) (up Q) (up K) (ix4 z n h i) = (lse (has z n) (own Q z n h) (own K z n h) (bef K z n h) i : EReal) := by
  obtain rfl : z = 0 := Subsingleton.elim _ _
  pointwise [val_main_v73, val_main_v72]
  rw [v71_apply, v61_apply]
  exact row_lse _ _ _ _ _ _

/-- The weights. -/
theorem v77_apply (z : Fin 1) (n : Fin 64) (h : Fin 8) (i : Fin 128) (j : Fin 256) :
    val_main_v77 (F := Ideal) (up Q) (up K) (ix5 z n h i j)
      = ((weights (has z n) (own Q z n h) (own K z n h) (bef K z n h) i j : ℝ) : EReal) := by
  obtain rfl : z = 0 := Subsingleton.elim _ _
  pointwise [val_main_v77, val_main_v76, val_main_v75, val_main_v74]
  rw [v60_0_apply, v73_apply, row_exp, row_weight]

/-- The log-sums' cotangent. -/
theorem v90_apply (z : Fin 1) (n : Fin 64) (h : Fin 8) (i : Fin 128) :
    val_main_v90 (F := Ideal) (up E) (ix4 z n h i) = (eblk 1 E h (num z n) i : EReal) := by
  obtain rfl : z = 0 := Subsingleton.elim _ _
  pointwise [val_main_v90, val_main_v89, val_main_v88, val_main_v87, val_main_v4]
  exact congrArg Real.toEReal (eblk_num _ _ _ _ _ _ rfl)

/-- The output's cotangent. -/
theorem v94_apply (z : Fin 1) (n : Fin 64) (h : Fin 8) (c : Fin 128) (i : Fin 128) :
    val_main_v94 (F := Ideal) (up O) (ix5 z n h c i) = (own O z n h i c : EReal) := by
  obtain rfl : z = 0 := Subsingleton.elim _ _
  pointwise [val_main_v94, val_main_v93, val_main_v92, val_main_v91, val_main_v3]
  exact congrArg Real.toEReal (blk_num _ _ _ _ _ _ _ rfl)

/-- The weights' cotangent, of the output alone. -/
theorem v95_apply (z : Fin 1) (n : Fin 64) (h : Fin 8) (i : Fin 128) (j : Fin 256) :
    val_main_v95 (F := Ideal) (up W) (up O) (ix5 z n h i j)
      = ((dots (own W z n h) (bef W z n h) (own O z n h) i j : ℝ) : EReal) := by
  obtain rfl : z = 0 := Subsingleton.elim _ _
  pointwise [val_main_v95]
  simp only [v94_apply, v27_apply]
  simp only [← EReal.coe_mul, coe_sum]
  exact congrArg Real.toEReal (sum_dot _ _ _ _ _)

/-- The gradient of the values, over the 256 keys. -/
theorem v97_apply (z : Fin 1) (n : Fin 64) (j : Fin 256) (h : Fin 8) (c : Fin 128) :
    val_main_v97 (F := Ideal) (up Q) (up K) (up O) (ix5 z n j h c)
      = ((∑ i, own O z n h i c * weights (has z n) (own Q z n h) (own K z n h) (bef K z n h) i j : ℝ) : EReal) := by
  obtain rfl : z = 0 := Subsingleton.elim _ _
  pointwise [val_main_v97, val_main_v96]
  simp only [v94_apply, v77_apply, ← EReal.coe_mul, coe_sum]

theorem v98_apply (z : Fin 1) (n : Fin 64) (h : Fin 8) (i : Fin 128) (j : Fin 256) :
    val_main_v98 (F := Ideal) (up Q) (up K) (up W) (up O) (ix5 z n h i j)
      = ((dots (own W z n h) (bef W z n h) (own O z n h) i j * weights (has z n) (own Q z n h) (own K z n h) (bef K z n h) i j : ℝ) : EReal) := by
  obtain rfl : z = 0 := Subsingleton.elim _ _
  pointwise [val_main_v98]
  rw [v95_apply, v77_apply, EReal.coe_mul]

/-- The sum over the first and the last axis, both of length one. -/
theorem sum_ends (x : S1x64x8x128x1.Idx → EReal) (b : EReal) (n : Fin 64) (h : Fin 8) (i : Fin 128) :
    Ideal.hostReduceAdd reducesTo_S1x64x8x128x1_S64x8x128_d0_4 x b (ix3 n h i) = b + x (ix5 0 n h i 0) :=
  sum_one _ _ _ _ _ fun y => by
    constructor
    · intro e
      funext a
      match a with
      | ⟨0, _⟩ => exact Subsingleton.elim (α := Fin 1) _ _
      | ⟨1, _⟩ => exact Fin.ext (congrArg (fun f : S64x8x128.Idx => (f 0).val) e)
      | ⟨2, _⟩ => exact Fin.ext (congrArg (fun f : S64x8x128.Idx => (f 1).val) e)
      | ⟨3, _⟩ => exact Fin.ext (congrArg (fun f : S64x8x128.Idx => (f 2).val) e)
      | ⟨4, _⟩ => exact Subsingleton.elim (α := Fin 1) _ _
    · rintro rfl
      funext a
      match a with
      | ⟨0, _⟩ => rfl
      | ⟨1, _⟩ => rfl
      | ⟨2, _⟩ => rfl

/-- The correction of a row of a block. -/
abbrev fixAt (z : Fin 1) (n : Fin 64) (h : Fin 8) (i : Fin 128) : ℝ :=
  fix (has z n) (own Q z n h) (own K z n h) (bef K z n h) (own W z n h) (bef W z n h) (own O z n h) (eblk 1 E h (num z n)) i

/-- The log-sum's whole cotangent: minus the row's correction. -/
theorem v104_apply (z : Fin 1) (n : Fin 64) (h : Fin 8) (i : Fin 128) :
    val_main_v104 (F := Ideal) (up Q) (up K) (up W) (up O) (up E) (ix4 z n h i) = ((-(fixAt Q K W O E z n h i) : ℝ) : EReal) := by
  obtain rfl : z = 0 := Subsingleton.elim _ _
  pointwise [val_main_v104, val_main_v103, val_main_v102, val_main_cst_14]
  rw [sum_ends, v90_apply]
  pointwise [val_main_v101, val_main_v100, val_main_v99, val_main_cst_13]
  simp only [v98_apply, ← EReal.coe_neg, coe_sum]
  rw [← EReal.coe_add, row_fix]

/-- The scores' gradient. -/
abbrev gradAt (z : Fin 1) (n : Fin 64) (h : Fin 8) : Fin 128 → Fin 256 → ℝ :=
  grads (has z n) (own Q z n h) (own K z n h) (bef K z n h) (own W z n h) (bef W z n h) (own O z n h) (eblk 1 E h (num z n))

theorem v111_apply (z : Fin 1) (n : Fin 64) (h : Fin 8) (i : Fin 128) (j : Fin 256) :
    val_main_v111 (F := Ideal) (up Q) (up K) (up W) (up O) (up E) (ix5 z n h i j) = (gradAt Q K W O E z n h i j : EReal) := by
  obtain rfl : z = 0 := Subsingleton.elim _ _
  pointwise [val_main_v111, val_main_v110, val_main_v109, val_main_v108, val_main_v107, val_main_v106, val_main_v105, val_main_call1_v0, val_main_call1_cst, val_main_v6, val_main_v5,
    val_main_cst, val_main_cst_0]
  rw [v60_1_apply, v98_apply, v104_apply, v71_apply, v70_apply, scale_eq]
  exact (row_step _ _ _ _ _ (row_pos _ _ _ _ _ _).ne').trans (congrArg Real.toEReal (row_grad _ _ _ _ _ _ _ _ _ _ _))

/-- The gradient of the keys, over the 256. -/
theorem v113_apply (z : Fin 1) (n : Fin 64) (j : Fin 256) (h : Fin 8) (c : Fin 128) :
    val_main_v113 (F := Ideal) (up Q) (up K) (up W) (up O) (up E) (ix5 z n j h c)
      = ((∑ i, gradAt Q K W O E z n h i j * own Q z n h i c : ℝ) : EReal) := by
  obtain rfl : z = 0 := Subsingleton.elim _ _
  pointwise [val_main_v113, val_main_v112]
  simp only [v9_apply, v111_apply, ← EReal.coe_mul, coe_sum]

/-- The gradient of the queries. -/
theorem v115_apply (z : Fin 1) (n : Fin 64) (i : Fin 128) (h : Fin 8) (c : Fin 128) :
    val_main_v115 (F := Ideal) (up Q) (up K) (up W) (up O) (up E) (ix5 z n i h c)
      = ((∑ j, gradAt Q K W O E z n h i j * cat (bef K z n h) (own K z n h) j c : ℝ) : EReal) := by
  obtain rfl : z = 0 := Subsingleton.elim _ _
  pointwise [val_main_v115, val_main_v114]
  simp only [v18_apply, v111_apply, ← EReal.coe_mul, coe_sum]

/-- The number of the block after. -/
theorem num_next (n : Fin 64) (h : 1 + n.val < 64) : num 0 ⟨1 + n.val, h⟩ = num 0 n + 1 := by
  unfold num
  show (1 + n.val) * 1 + 0 = n.val * 1 + 0 + 1
  omega

theorem num_zero (n : Fin 64) : num 0 n = n.val := by unfold num; show n.val * 1 + 0 = _; omega

theorem v121_apply (z : Fin 1) (n : Fin 64) (i : Fin 128) (h : Fin 8) (c : Fin 128) :
    val_main_v121 (F := Ideal) (up Q) (up K) (up O) (ix5 z n i h c) = (dv 64 1 (blk 1 Q h) (blk 1 K h) (blk 1 O h) (num z n) i c : EReal) := by
  obtain rfl : z = 0 := Subsingleton.elim _ _
  pointwise [val_main_v121, val_main_v120, val_main_v119, val_main_v118, val_main_v117, val_main_v116, val_main_cst_15]
  simp only [v97_apply]
  split_ifs with hn
  · exact dv_next 64 1 (blk 1 Q h) (blk 1 K h) (blk 1 O h) (num 0 n) _ (num_next n (by omega)) (by rw [num_zero]; omega) i c _ _
  · exact dv_last 64 1 (blk 1 Q h) (blk 1 K h) (blk 1 O h) (num 0 n) (by rw [num_zero]; omega) i c _

theorem v130_apply (z : Fin 1) (n : Fin 64) (i : Fin 128) (h : Fin 8) (c : Fin 128) :
    val_main_v130 (F := Ideal) (up Q) (up K) (up W) (up O) (up E) (ix5 z n i h c)
      = (dk 64 1 (blk 1 Q h) (blk 1 K h) (blk 1 W h) (blk 1 O h) (eblk 1 E h) (num z n) i c : EReal) := by
  obtain rfl : z = 0 := Subsingleton.elim _ _
  pointwise [val_main_v130, val_main_v129, val_main_v128, val_main_v127, val_main_v126, val_main_v125, val_main_cst_16]
  simp only [v113_apply]
  split_ifs with hn
  · exact dk_next 64 1 (blk 1 Q h) (blk 1 K h) (blk 1 W h) (blk 1 O h) (eblk 1 E h) (num 0 n) _ (num_next n (by omega)) (by rw [num_zero]; omega) i c _ _
  · exact dk_last 64 1 (blk 1 Q h) (blk 1 K h) (blk 1 W h) (blk 1 O h) (eblk 1 E h) (num 0 n) (by rw [num_zero]; omega) i c _

/-- The number of the block that holds a row. -/
theorem num_of (r : Fin 8192) (h : r.val / 128 < 64) : num 0 ⟨r.val / 128, h⟩ = nOf 1 r.val := by
  unfold num nOf
  show r.val / 128 * 1 + 0 = r.val / (128 * 1) * 1 + r.val % 1
  omega

/-- The first result: the gradient of the queries. -/
theorem final_0 : val_main_v137 (F := Ideal) (up Q) (up K) (up W) (up O) (up E)
    = arr 1 fun h => dq 1 (blk 1 Q h) (blk 1 K h) (blk 1 W h) (blk 1 O h) (eblk 1 E h) := by
  funext y
  idx_vars y
  pointwise [val_main_v137, val_main_v136, val_main_v135, val_main_v134]
  rw [v115_apply]
  refine (congrArg Real.toEReal (dq_eq 1 (blk 1 Q _) (blk 1 K _) (blk 1 W _) (blk 1 O _) (eblk 1 E _) (num 0 _) _ _)).trans ?_
  exact (arr_at (Or.inl rfl) (fun h => dq 1 (blk 1 Q h) (blk 1 K h) (blk 1 W h) (blk 1 O h) (eblk 1 E h)) (ix2 y0 y1) ⟨y1.val / 128, by have := y1.isLt; omega⟩ (num 0 ⟨y0.val / 128, by have := y0.isLt; omega⟩) ⟨y0.val % 128, by omega⟩ ⟨y1.val % 128, by omega⟩
      (by rw [row_num]; show y0.val = y0.val / 128 * 128 + y0.val % 128; omega) (by show y1.val = y1.val / 128 * 128 + y1.val % 128; omega)).symm

/-- The second result: the gradient of the keys. -/
theorem final_1 : val_main_v138 (F := Ideal) (up Q) (up K) (up W) (up O) (up E)
    = arr 1 fun h => dk 64 1 (blk 1 Q h) (blk 1 K h) (blk 1 W h) (blk 1 O h) (eblk 1 E h) := by
  funext y
  idx_vars y
  pointwise [val_main_v138, val_main_v133, val_main_v132, val_main_v131]
  rw [v130_apply]
  exact (arr_at (Or.inl rfl) (fun h => dk 64 1 (blk 1 Q h) (blk 1 K h) (blk 1 W h) (blk 1 O h) (eblk 1 E h)) (ix2 y0 y1) ⟨y1.val / 128, by have := y1.isLt; omega⟩ (num 0 ⟨y0.val / 128, by have := y0.isLt; omega⟩) ⟨y0.val % 128, by omega⟩ ⟨y1.val % 128, by omega⟩
      (by rw [row_num]; show y0.val = y0.val / 128 * 128 + y0.val % 128; omega) (by show y1.val = y1.val / 128 * 128 + y1.val % 128; omega)).symm

/-- The third result: the gradient of the values. -/
theorem final_2 : val_main_v139 (F := Ideal) (up Q) (up K) (up O)
    = arr 1 fun h => dv 64 1 (blk 1 Q h) (blk 1 K h) (blk 1 O h) := by
  funext y
  idx_vars y
  pointwise [val_main_v139, val_main_v124, val_main_v123, val_main_v122]
  rw [v121_apply]
  exact (arr_at (Or.inl rfl) (fun h => dv 64 1 (blk 1 Q h) (blk 1 K h) (blk 1 O h)) (ix2 y0 y1) ⟨y1.val / 128, by have := y1.isLt; omega⟩ (num 0 ⟨y0.val / 128, by have := y0.isLt; omega⟩) ⟨y0.val % 128, by omega⟩ ⟨y1.val % 128, by omega⟩
      (by rw [row_num]; show y0.val = y0.val / 128 * 128 + y0.val % 128; omega) (by show y1.val = y1.val / 128 * 128 + y1.val % 128; omega)).symm

end Cert.Dil1RefIdeal.Result

end
-- ==== Proof.Dil1Claim.lean ====
/-
  The dilated attention's gradient at dilation 1: its claims. The frames are the generated ones; the equation sets the
  kernel's three arrays beside the reference's three results, the same real numbers at finite arguments.
-/
module

public import proofs.«01_k».proof.Defs
public import proofs.«01_k».proof.Proof.Dil1Run
public import proofs.«01_k».proof.Proof.Dil1Ref
public import proofs.«01_k».proof.Proof.Gen.Dil1.Frame
public import proofs.«01_k».proof.Proof.Gen.Pre_dil1_finite
public import Idealize.ShloMosaic.Lib.Quiescent

@[expose] public section

set_option maxRecDepth 16384

noncomputable section

namespace Cert.Proof.Dil1

open Idealize.ShloMosaic Idealize.ShloMosaic.TcCoe Idealize.SL.Sem Cert.Reals

/-- The two named constants: the scale stands for the inverse root of 128, the mask for the infinity below. -/
theorem preserves : Cert.preserves_Dil1_Dil1Ideal :=
  ⟨IdealRules.named_const.statement Cert.Dil1Ideal.κ "s" .f32 0x3DB504F3#32 (((Real.sqrt 128)⁻¹ : ℝ) : EReal) rfl,
    IdealRules.named_const.statement Cert.Dil1Ideal.κ "mask" .f32 0xF149F2CA#32 ⊥ rfl⟩

/-- The reference ends, its arguments unchanged. -/
theorem frame_ref : Cert.quiescent_Dil1RefIdeal := fun m g _ =>
  (θ_run Cert.Dil1RefIdeal.defs _ _).mono
    (fun r h => ⟨fun c => (h c).2.2.2, Idealize.ShloMosaic.sem_eq_zero_of_no_sems (by decide) r.2⟩) (Cert.Dil1RefIdeal.Value.run (F := Ideal) m g)

set_option maxHeartbeats 1000000 in
/-- At finite arguments the kernel's three arrays are the reference's three results. -/
theorem algebraic : Cert.algebraic_Dil1Ideal_Dil1RefIdeal_pre_dil1_finite := by
  intro m g m' g' hpre hagree
  refine ⟨fun c => (Cert.Dil1Ideal.Gen.dat1 (Cert.Dil1Ideal.Gen.V3 m g) c).arrAt 12 Cert.Dil1Ideal.cfg1.N,
    fun c => (Cert.Dil1Ideal.Gen.dat1 (Cert.Dil1Ideal.Gen.V3 m g) c).arrAt 13 Cert.Dil1Ideal.cfg1.N,
    fun c => (Cert.Dil1Ideal.Gen.dat1 (Cert.Dil1Ideal.Gen.V3 m g) c).arrAt 14 Cert.Dil1Ideal.cfg1.N, Cert.Dil1Ideal.Result.run_blocks m g, ?_⟩
  refine (θ_run Cert.Dil1RefIdeal.defs _ _).mono (fun r h c => ⟨(h c).1.trans ?_, (h c).2.1.trans ?_, (h c).2.2.1.trans ?_, (h c).2.2.2⟩)
    (Cert.Dil1RefIdeal.Value.run (F := Ideal) m' g')
  all_goals
    obtain ⟨p0, p1, p2, p3, p4⟩ := hpre c
    obtain ⟨Q, hQ⟩ := real_of_test _ _ lit_inf _ p0
    obtain ⟨K, hK⟩ := real_of_test _ _ lit_inf _ p1
    obtain ⟨W, hW⟩ := real_of_test _ _ lit_inf _ p2
    obtain ⟨O, hO⟩ := real_of_test _ _ lit_inf _ p3
    obtain ⟨E, hE⟩ := real_of_test _ _ lit_inf _ p4
    obtain ⟨a0, a1, a2, a3, a4⟩ := hagree c
    have b0 : StableHlo.launchContents m' c (Proc.devRef .tc Cert.Dil1RefIdeal.main_arg0) = fun i => ((Q i : ℝ) : EReal) := a0.trans hQ
    have b1 : StableHlo.launchContents m' c (Proc.devRef .tc Cert.Dil1RefIdeal.main_arg1) = fun i => ((K i : ℝ) : EReal) := a1.trans hK
    have b2 : StableHlo.launchContents m' c (Proc.devRef .tc Cert.Dil1RefIdeal.main_arg2) = fun i => ((W i : ℝ) : EReal) := a2.trans hW
    have b3 : StableHlo.launchContents m' c (Proc.devRef .tc Cert.Dil1RefIdeal.main_arg3) = fun i => ((O i : ℝ) : EReal) := a3.trans hO
    have b4 : StableHlo.launchContents m' c (Proc.devRef .tc Cert.Dil1RefIdeal.main_arg4) = fun i => ((E i : ℝ) : EReal) := a4.trans hE
    have hR : Cert.Dil1Ideal.Result.Real m c Q K W O E := ⟨hQ, hK, hW, hO, hE⟩
    obtain ⟨f0, f1, f2⟩ := Cert.Dil1Ideal.Result.finals m g c Q K W O E hR
  · refine Eq.trans ?_ f0.symm
    rw [Cert.Dil1RefIdeal.Read.val_main_v137_eq, b0, b1, b2, b3, b4]
    exact Cert.Dil1RefIdeal.Result.final_0 Q K W O E
  · refine Eq.trans ?_ f1.symm
    rw [Cert.Dil1RefIdeal.Read.val_main_v138_eq, b0, b1, b2, b3, b4]
    exact Cert.Dil1RefIdeal.Result.final_1 Q K W O E
  · refine Eq.trans ?_ f2.symm
    rw [Cert.Dil1RefIdeal.Read.val_main_v139_eq, b0, b1, b3]
    exact Cert.Dil1RefIdeal.Result.final_2 Q K O

end Cert.Proof.Dil1

end
-- ==== Proof.PreBlock.lean ====
/-
  The pre-norm's backward kernel, one block of 512 rows: the row gradient added to the residual path's cotangent, the
  block's part of the gain's gradient, and the contents the body leaves in its two output windows at the first grid
  point (case A) and at a later one (case B: the part is added to what was there). The residual path's cotangent may be
  infinite: it is only added.
-/
module

public import proofs.«01_k».proof.Proof.RowNorm
public import proofs.«01_k».proof.Proof.Gen.PreIdeal.Value

@[expose] public section

set_option maxRecDepth 16384

noncomputable section

namespace Cert.PreIdeal.Block

open Cert.PreIdeal Cert.PreIdeal.Gen Idealize.ShloMosaic Cert.Reals

/-- The row gradient: the cotangent times the gain, taken back through the norm, on top of the residual path. -/
theorem pay3_apply (X T : S512x2048.Idx → ℝ) (G : S1x2048.Idx → ℝ) (D : S512x2048.Idx → EReal) (r : Fin 512) (j : Fin 2048) :
    k0_pay3 (F := Ideal) (fun i => ((X i : ℝ) : EReal)) (fun i => ((G i : ℝ) : EReal)) (fun i => ((T i : ℝ) : EReal)) D (ix2 r j)
      = D (ix2 r j) + ((RowNorm.grad 2048 (fun k => X (ix2 r k)) (fun k => T (ix2 r k) * G (ix2 0 k)) j : ℝ) : EReal) := by
  unfold_payloads
  pointwise
  have h : (0 : ℝ) < 2048 := by norm_num
  simp only [lit_2048, lit_eps, ← EReal.coe_mul, coe_sum, div_real _ h.ne', ← EReal.coe_add, RowNorm.rsqrt_mean h, ← EReal.coe_sub]
  rfl

/-- One block's part of the gain's gradient. -/
theorem pay4_apply (X T : S512x2048.Idx → ℝ) (z : Fin 1) (j : Fin 2048) :
    k0_pay4 (F := Ideal) (fun i => ((X i : ℝ) : EReal)) (fun i => ((T i : ℝ) : EReal)) (ix2 z j)
      = ((∑ r : Fin 512, T (ix2 r j) * X (ix2 r j) * RowNorm.scale 2048 (fun k => X (ix2 r k)) : ℝ) : EReal) := by
  unfold_payloads
  pointwise
  have h : (0 : ℝ) < 2048 := by norm_num
  simp only [lit_2048, lit_eps, ← EReal.coe_mul, coe_sum, div_real _ h.ne', ← EReal.coe_add, RowNorm.rsqrt_mean h]

variable (c : Dev nD) (i : grid0.Coords) (a1 : Memref sig .tc .vmem S512x2048 .f32) (h1 : a1.IsWhole)
  (a2 : Memref sig .tc .vmem S512x2048 .f32) (h2 : a2.IsWhole) (a3 : Memref sig .tc .vmem S1x2048 .f32) (h3 : a3.IsWhole)
  (a4 : Memref sig .tc .vmem S512x2048 .f32) (h4 : a4.IsWhole) (a5 : Memref sig .tc .vmem S512x2048 .f32) (h5 : a5.IsWhole)
  (a6 : Memref sig .tc .vmem S1x2048 .f32) (h6 : a6.IsWhole)
  (x0 x1 x3 : Vec Ideal S512x2048 .f32) (x2 xo : Vec Ideal S1x2048 .f32)

/-- The first point's row gradients. -/
theorem out_A_4 (hc0 : cond0_0 i) (hc1 : ¬cond0_1 i) :
    out0_A_4 c i a1 h1 a2 h2 a3 h3 a4 h4 a5 h5 a6 h6 hc0 hc1 x0 x1 x2 x3 = k0_pay3 x1 x2 x0 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_unit_zero hz2]
  simp only [View.readAt_eq_ld, h1.read_unread, h2.read_unread, h3.read_unread, h4.read_unread, View.ld_unit_zero (S := S512x2048) hz2, View.ld_unit_zero (S := S1x2048) hz2]

/-- A later point's row gradients: the same. -/
theorem out_B_4 (hc0 : ¬cond0_0 i) (hc1 : cond0_1 i) :
    out0_B_4 c i a1 h1 a2 h2 a3 h3 a4 h4 a5 h5 a6 h6 hc0 hc1 x0 x1 x2 x3 xo = k0_pay3 x1 x2 x0 x3 := by
  unfold out0_B_4
  rw [View.read_writes_eq_canon _ _ _ (cover0_B_4 c i a1 h1 a2 h2 a3 h3 a4 h4 a5 h5 a6 h6 hc0 hc1 x0 x1 x2 x3 xo)]
  unfold kernelRun0_B
  dsimp only
  sl_unfold_words
  rw [View.canon_unit_zero hz2]
  simp only [View.readAt_eq_ld, h1.read_unread, h2.read_unread, h3.read_unread, h4.read_unread, View.ld_unit_zero (S := S512x2048) hz2, View.ld_unit_zero (S := S1x2048) hz2]

/-- The first point's gain gradient: the block's part. -/
theorem out_A_5 (hc0 : cond0_0 i) (hc1 : ¬cond0_1 i) :
    out0_A_5 c i a1 h1 a2 h2 a3 h3 a4 h4 a5 h5 a6 h6 hc0 hc1 x0 x1 x2 x3 = k0_pay4 x1 x0 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_unit_zero hz2]
  simp only [View.readAt_eq_ld, h1.read_unread, h2.read_unread, h3.read_unread, View.ld_unit_zero (S := S512x2048) hz2, View.ld_unit_zero (S := S1x2048) hz2]

/-- A later point's gain gradient: the block's part added to what the window held. -/
theorem out_B_5 (hc0 : ¬cond0_0 i) (hc1 : cond0_1 i) :
    out0_B_5 c i a1 h1 a2 h2 a3 h3 a4 h4 a5 h5 a6 h6 hc0 hc1 x0 x1 x2 x3 xo = addf xo (k0_pay4 x1 x0) := by
  unfold out0_B_5
  rw [View.read_writes_eq_canon _ _ _ (cover0_B_5 c i a1 h1 a2 h2 a3 h3 a4 h4 a5 h5 a6 h6 hc0 hc1 x0 x1 x2 x3 xo)]
  unfold kernelRun0_B
  dsimp only
  sl_unfold_words
  rw [View.canon_unit_zero hz2]
  unfold k0_pay1
  simp only [View.readAt_eq_ld, h1.read_unread, h2.read_unread, h3.read_unread, h6.read_unread, View.ld_unit_zero (S := S512x2048) hz2, View.ld_unit_zero (S := S1x2048) hz2, shapeCast_self]

end Cert.PreIdeal.Block

end
-- ==== Proof.PreValue.lean ====
/-
  The pre-norm's backward kernel, the arrays: the first result holds every row's residual cotangent plus its gradient,
  the second the sum over all rows of the gain's gradient. The second window stays on the same block at every grid
  point, so its contents after a point are the sum of the parts so far, and its array takes them at the last point.
-/
module

public import proofs.«01_k».proof.Proof.PreBlock

@[expose] public section

set_option maxRecDepth 16384

noncomputable section

namespace Cert.PreIdeal.Result

open Cert.PreIdeal Cert.PreIdeal.Gen Cert.PreIdeal.Block Idealize.ShloMosaic Idealize.ShloMosaic.TcCoe Idealize.SL.Sem Cert.Reals
open Idealize.ShloMosaic.Pipeline (Dat)

variable (m : (ℓ : Loc nD τ sig) → Buf (Elt Ideal) ℓ) (c : Dev nD)
  (X T : S8192x2048.Idx → ℝ) (G : S2048.Idx → ℝ) (D : S8192x2048.Idx → EReal)
  (hX : m ((c.tc : Thread nD τ).loc main_arg0) = fun i => ((X i : ℝ) : EReal))
  (hG : m ((c.tc : Thread nD τ).loc main_arg1) = fun i => ((G i : ℝ) : EReal))
  (hD : m ((c.tc : Thread nD τ).loc main_arg2) = D)
  (hT : m ((c.tc : Thread nD τ).loc main_arg3) = fun i => ((T i : ℝ) : EReal))

/-- Row `r` of block `n`, as a row of the array. -/
def rowOf (n : Fin cfg0.N) (r : Fin 512) : Fin 8192 :=
  ⟨n.val * 512 + r.val, by have hN : cfg0.N = 16 := N_0; have := n.isLt; have := r.isLt; omega⟩

/-- The row windows move by one block a point … -/
theorem index_row : ∀ t : Fin cfg0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0) := by decide +kernel

/-- … and the gain's windows stay. -/
theorem index_stay : ∀ t : Fin cfg0.N, (win0_2.index t 0 = 0 ∧ win0_2.index t 1 = 0) ∧ (win0_5.index t 0 = 0 ∧ win0_5.index t 1 = 0) := by
  decide +kernel

include hT in
/-- Window 0's block: rows of the cotangent. -/
theorem iblk0 (t : Fin cfg0.N) : iblk m c 0 t = fun j : S512x2048.Idx => ((T (ix2 (rowOf t (j 0)) (j 1)) : ℝ) : EReal) := by
  obtain ⟨⟨e0, e1⟩, -⟩ := index_row t
  funext j
  unfold iblk
  rw [View.read_apply]
  show V m c main_arg3 _ = _
  rw [V_main_arg3, hT]
  refine congrArg (fun i => ((T i : ℝ) : EReal)) (funext fun a => Fin.ext ?_)
  match a with
  | ⟨0, _⟩ => show win0_0.index t 0 * 512 + 1 * (j 0).val = t.val * 512 + (j 0).val; rw [e0]; omega
  | ⟨1, _⟩ => show win0_0.index t 1 * 2048 + 1 * (j 1).val = (j 1).val; rw [e1]; omega

include hX in
/-- Window 1's block: rows of the norm's argument. -/
theorem iblk1 (t : Fin cfg0.N) : iblk m c 1 t = fun j : S512x2048.Idx => ((X (ix2 (rowOf t (j 0)) (j 1)) : ℝ) : EReal) := by
  obtain ⟨-, ⟨e0, e1⟩, -⟩ := index_row t
  funext j
  unfold iblk
  rw [View.read_apply]
  show V m c main_arg0 _ = _
  rw [V_main_arg0, hX]
  refine congrArg (fun i => ((X i : ℝ) : EReal)) (funext fun a => Fin.ext ?_)
  match a with
  | ⟨0, _⟩ => show win0_1.index t 0 * 512 + 1 * (j 0).val = t.val * 512 + (j 0).val; rw [e0]; omega
  | ⟨1, _⟩ => show win0_1.index t 1 * 2048 + 1 * (j 1).val = (j 1).val; rw [e1]; omega

include hD in
/-- Window 3's block: rows of the residual path's cotangent. -/
theorem iblk3 (t : Fin cfg0.N) : iblk m c 3 t = fun j : S512x2048.Idx => D (ix2 (rowOf t (j 0)) (j 1)) := by
  obtain ⟨-, -, ⟨e0, e1⟩, -⟩ := index_row t
  funext j
  unfold iblk
  rw [View.read_apply]
  show V m c main_arg2 _ = _
  rw [V_main_arg2, hD]
  refine congrArg D (funext fun a => Fin.ext ?_)
  match a with
  | ⟨0, _⟩ => show win0_3.index t 0 * 512 + 1 * (j 0).val = t.val * 512 + (j 0).val; rw [e0]; omega
  | ⟨1, _⟩ => show win0_3.index t 1 * 2048 + 1 * (j 1).val = (j 1).val; rw [e1]; omega

include hG in
/-- Window 2's block: the gain as one row. -/
theorem iblk2 (t : Fin cfg0.N) : iblk m c 2 t = fun j : S1x2048.Idx => ((G (ix1 (j 1)) : ℝ) : EReal) := by
  obtain ⟨⟨e0, e1⟩, -⟩ := index_stay t
  have hV : V m c main_v0 = fun j : S1x2048.Idx => ((G (ix1 (j 1)) : ℝ) : EReal) := by
    have h : V m c main_v0 = broadcastInDim S1x2048 ![1] bcast_S2048_S1x2048_1 (m ((c.tc : Thread nD τ).loc main_arg1)) := by
      after_results_simp <;> rfl
    rw [h, hG]
    funext j
    pointwise
  funext j
  unfold iblk
  rw [View.read_apply]
  show V m c main_v0 _ = _
  rw [hV]
  refine congrArg (fun k => ((G (ix1 k) : ℝ) : EReal)) (Fin.ext ?_)
  show win0_2.index t 1 * 2048 + 1 * (j 1).val = (j 1).val
  rw [e1]; omega

/-- The first result: the residual path's cotangent and the row gradient of every row. -/
def dx (i : S8192x2048.Idx) : EReal :=
  D (ix2 (i 0) (i 1)) + ((RowNorm.grad 2048 (fun k => X (ix2 (i 0) k)) (fun k => T (ix2 (i 0) k) * G (ix1 k)) (i 1) : ℝ) : EReal)

/-- Row `r`'s part of the gain's gradient. -/
def part (r : Fin 8192) (j : Fin 2048) : ℝ := T (ix2 r j) * X (ix2 r j) * RowNorm.scale 2048 (fun k => X (ix2 r k))

include hT hX hG hD in
/-- What the body leaves in the first output window at any point. -/
theorem outs_4 (t : Fin cfg0.N) (r : Fin 512) (j : Fin 2048) :
    (outsAt0 m c t.val t.isLt).1 (ix2 r j) = dx X T G D (ix2 (rowOf t r) j) := by
  have hN : cfg0.N = 16 := N_0
  have ht := t.isLt
  have key := pay3_apply (fun j => X (ix2 (rowOf t (j 0)) (j 1))) (fun j => T (ix2 (rowOf t (j 0)) (j 1))) (fun j => G (ix1 (j 1)))
    (fun j => D (ix2 (rowOf t (j 0)) (j 1))) r j
  by_cases h0 : t.val % 16 = 0
  · rw [outsAt0_A m c t h0 (by omega)]
    dsimp only
    rw [out_A_4, iblk0 m c T hT, iblk1 m c X hX, iblk2 m c G hG, iblk3 m c D hD]
    exact key
  · rw [outsAt0_B m c t h0 (by omega)]
    dsimp only
    rw [out_B_4, iblk0 m c T hT, iblk1 m c X hX, iblk2 m c G hG, iblk3 m c D hD]
    exact key

include hT hX in
/-- What the body leaves in the second output window after point `n`: the parts of the blocks so far. -/
theorem outs_5 : ∀ (n : ℕ) (h : n < cfg0.N) (z : Fin 1) (j : Fin 2048),
    (outsAt0 m c n h).2 (ix2 z j)
      = ((∑ s ∈ Finset.range (n + 1), ∑ r : Fin 512, (if hs : s * 512 + r.val < 8192 then part X T ⟨s * 512 + r.val, hs⟩ j else 0) : ℝ) : EReal)
  | 0, h, z, j => by
    rw [show outsAt0 m c 0 h = _ from outsAt0_A m c ⟨0, h⟩ rfl (by simp)]
    dsimp only
    rw [out_A_5, iblk0 m c T hT, iblk1 m c X hX]
    refine (pay4_apply (fun j => X (ix2 (rowOf ⟨0, h⟩ (j 0)) (j 1))) (fun j => T (ix2 (rowOf ⟨0, h⟩ (j 0)) (j 1))) z j).trans ?_
    rw [Finset.sum_range_one]
    refine congrArg _ (Finset.sum_congr rfl fun r _ => ?_)
    rw [dif_pos (by have := r.isLt; omega)]
    rfl
  | n + 1, h, z, j => by
    have hN : cfg0.N = 16 := N_0
    rw [show outsAt0 m c (n + 1) h = _ from outsAt0_B m c ⟨n + 1, h⟩ (by dsimp only; omega) (by dsimp only; omega)]
    dsimp only
    rw [out_B_5, iblk0 m c T hT, iblk1 m c X hX, Finset.sum_range_succ, EReal.coe_add]
    refine congrArg₂ (· + ·) (outs_5 n _ z j) ?_
    refine (pay4_apply (fun j => X (ix2 (rowOf ⟨n + 1, h⟩ (j 0)) (j 1))) (fun j => T (ix2 (rowOf ⟨n + 1, h⟩ (j 0)) (j 1))) z j).trans ?_
    refine congrArg _ (Finset.sum_congr rfl fun r _ => ?_)
    rw [dif_pos (by have := r.isLt; omega)]
    rfl

include hT hX hG hD in
/-- The first result array. -/
theorem final_4 : (dats m 0 c).arrAt 4 cfg0.N = dx X T G D := by
  have hN : cfg0.N = 16 := N_0
  refine (dats m 0 c).arrAt_eq_of_cover 4 _ (fun t _ => ?_) fun i => ?_
  · obtain ⟨-, -, -, ⟨e0, e1⟩⟩ := index_row t
    rw [Value.flushed4]
    funext j
    rw [View.read_apply]
    refine (show _ = (outsAt0 m c t.val t.isLt).1 (ix2 (j 0) (j 1)) from congrArg _ (eq_ix2 j)).trans
      ((outs_4 m c X T G D hX hG hD hT t (j 0) (j 1)).trans ?_)
    refine congrArg (dx X T G D) (funext fun a => Fin.ext ?_)
    match a with
    | ⟨0, _⟩ => show t.val * 512 + (j 0).val = win0_4.index t 0 * 512 + 1 * (j 0).val; rw [e0]; omega
    | ⟨1, _⟩ => show (j 1).val = win0_4.index t 1 * 2048 + 1 * (j 1).val; rw [e1]; omega
  · have h0 : (i 0 : Nat) < 8192 := (i 0).isLt
    have h1 : (i 1 : Nat) < 2048 := (i 1).isLt
    obtain ⟨t, ht⟩ : ∃ t : Fin cfg0.N, t.val = (i 0 : Nat) / 512 := ⟨⟨(i 0 : Nat) / 512, by omega⟩, rfl⟩
    refine ⟨t, flush0_4 t, ?_⟩
    obtain ⟨-, -, -, ⟨e0, e1⟩⟩ := index_row t
    show i ∈ ((View.whole main_v1_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; rw [e0]; omega
    | ⟨1, _⟩ => show win0_4.index t 1 * 2048 ≤ (i 1 : Nat) ∧ (i 1 : Nat) < win0_4.index t 1 * 2048 + 2048; rw [e1]; omega

include hT hX in
/-- The second result array: the sum over all rows. -/
theorem final_5 : (dats m 0 c).arrAt 5 cfg0.N = fun i : S1x2048.Idx => ((∑ r : Fin 8192, part X T r (i 1) : ℝ) : EReal) := by
  have hN : cfg0.N = 16 := N_0
  refine (dats m 0 c).arrAt_eq_of_cover 5 _ (fun t hf => ?_) fun i => ?_
  · obtain ⟨-, ⟨e0, e1⟩⟩ := index_stay t
    have h15 : t.val = 15 := by have := (flush0_5 t).mp hf; have := t.isLt; omega
    rw [Value.flushed5]
    funext j
    rw [View.read_apply]
    refine (show _ = (outsAt0 m c t.val t.isLt).2 (ix2 (j 0) (j 1)) from congrArg _ (eq_ix2 j)).trans
      ((outs_5 m c X T hX hT t.val t.isLt (j 0) (j 1)).trans ?_)
    refine congrArg (Real.toEReal) ?_
    refine Eq.trans ?_ (Finset.sum_congr rfl fun r _ => congrArg (part X T r) (show j 1 = _ from Fin.ext ?_))
    · rw [h15]
      exact (Cert.Reals.sum_blocks 16 512 8192 rfl (fun r => part X T r (j 1))).symm
    · show (j 1).val = win0_5.index t 1 * 2048 + 1 * (j 1).val; rw [e1]; omega
  · have h0 : (i 0 : Nat) < 1 := (i 0).isLt
    have h1 : (i 1 : Nat) < 2048 := (i 1).isLt
    obtain ⟨t, ht⟩ : ∃ t : Fin cfg0.N, t.val = 15 := ⟨⟨15, by omega⟩, rfl⟩
    refine ⟨t, (flush0_5 t).mpr (by omega), ?_⟩
    obtain ⟨-, ⟨e0, e1⟩⟩ := index_stay t
    show i ∈ ((View.whole main_v1_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; rw [e0]; omega
    | ⟨1, _⟩ => show win0_5.index t 1 * 2048 ≤ (i 1 : Nat) ∧ (i 1 : Nat) < win0_5.index t 1 * 2048 + 2048; rw [e1]; omega

end Cert.PreIdeal.Result

end
-- ==== Proof.PreRef.lean ====
/-
  The pre-norm's reference: what the derivative's transposed chain computes, element by element. The two results are the
  residual path's cotangent plus the row gradient of every row, and the sum over all rows of the gain's gradient.
-/
module

public import proofs.«01_k».proof.Proof.RowNorm
public import proofs.«01_k».proof.Proof.Gen.PreRefIdeal.Run
public import proofs.«01_k».proof.Proof.Gen.PreRefIdeal.Read

@[expose] public section

set_option maxRecDepth 16384

noncomputable section

namespace Cert.PreRefIdeal.Result

open Cert.PreRefIdeal Cert.PreRefIdeal.Gen Cert.PreRefIdeal.Read Idealize.ShloMosaic Idealize.ShloMosaic.TcCoe Cert.Reals

variable (X T : S8192x2048.Idx → ℝ) (G : S2048.Idx → ℝ) (D : S8192x2048.Idx → EReal)

/-- The mean of a row's squares plus the small number. -/
theorem v6_apply (r : Fin 8192) (z : Fin 1) :
    val_main_v6 (F := Ideal) (fun i => ((X i : ℝ) : EReal)) (ix2 r z) = ((RowNorm.meanSq 2048 (fun k => X (ix2 r k)) : ℝ) : EReal) := by
  pointwise [val_main_v6, val_main_v5, val_main_v4, val_main_v3, val_main_v2, val_main_v1, val_main_v0, val_main_cst_0, val_main_cst_1, val_main_cst]
  have h : (2048 : ℝ) ≠ 0 := by norm_num
  simp only [lit_2048, lit_eps, ← EReal.coe_mul, coe_sum, div_real _ h, ← EReal.coe_add]
  rfl

/-- Its reciprocal root. -/
theorem v7_apply (r : Fin 8192) (z : Fin 1) :
    val_main_v7 (F := Ideal) (fun i => ((X i : ℝ) : EReal)) (ix2 r z) = ((RowNorm.scale 2048 (fun k => X (ix2 r k)) : ℝ) : EReal) := by
  rw [val_main_v7_apply, v6_apply]
  exact rsqrt_real (RowNorm.meanSq_pos (by norm_num) _)

/-- The reciprocal root's derivative. -/
theorem v10_apply (r : Fin 8192) (z : Fin 1) :
    val_main_v10 (F := Ideal) (fun i => ((X i : ℝ) : EReal)) (ix2 r z)
      = ((-(1 / 2) * (RowNorm.scale 2048 (fun k => X (ix2 r k)) / RowNorm.meanSq 2048 (fun k => X (ix2 r k))) : ℝ) : EReal) := by
  rw [val_main_v10_apply, val_main_v8_apply, v6_apply, v7_apply]
  pointwise [val_main_v9, val_main_cst_2]
  simp only [lit_neg_half, div_real _ (RowNorm.meanSq_pos (by norm_num : (0 : ℝ) < 2048) _).ne', ← EReal.coe_mul]

/-- The first result. -/
theorem dx_apply (r : Fin 8192) (j : Fin 2048) :
    val_main_v36 (F := Ideal) (fun i => ((X i : ℝ) : EReal)) (fun i => ((G i : ℝ) : EReal)) D (fun i => ((T i : ℝ) : EReal)) (ix2 r j)
      = D (ix2 r j) + ((RowNorm.grad 2048 (fun k => X (ix2 r k)) (fun k => T (ix2 r k) * G (ix1 k)) j : ℝ) : EReal) := by
  pointwise [val_main_v36, val_main_v35, val_main_v34, val_main_v33, val_main_v32, val_main_v31, val_main_v30, val_main_v29,
    val_main_v28, val_main_v27, val_main_v26, val_main_v25, val_main_v24, val_main_v23, val_main_v22, val_main_v20, val_main_v19,
    val_main_v13, val_main_cst_5, val_main_cst_6, val_main_cst_7]
  have h : (2048 : ℝ) ≠ 0 := by norm_num
  simp only [lit_2048, v7_apply, v10_apply, ← EReal.coe_mul, coe_sum, div_real _ h, ← EReal.coe_add, Finset.univ_unique, Finset.sum_singleton, add_assoc]
  refine congrArg (fun u : ℝ => D (ix2 r j) + (u : EReal)) ?_
  rw [← add_assoc]
  exact RowNorm.vjp_eq (by norm_num) _ (fun k => T (ix2 r k) * G (ix1 k)) j _ (Finset.sum_congr rfl fun k _ => mul_comm _ _)

/-- The second result: the sum over the rows. -/
theorem dg_apply (z : Fin 1) (j : Fin 2048) :
    val_main_v37 (F := Ideal) (fun i => ((X i : ℝ) : EReal)) (fun i => ((T i : ℝ) : EReal)) (ix2 z j)
      = ((∑ r : Fin 8192, T (ix2 r j) * X (ix2 r j) * RowNorm.scale 2048 (fun k => X (ix2 r k)) : ℝ) : EReal) := by
  pointwise [val_main_v37, val_main_v21, val_main_v18, val_main_v17, val_main_v16, val_main_v12, val_main_v11, val_main_cst_3, val_main_cst_4]
  simp only [v7_apply, ← EReal.coe_mul, coe_sum, ← EReal.coe_add, Finset.univ_unique, Finset.sum_singleton]
  exact congrArg Real.toEReal (Finset.sum_congr rfl fun r _ => by ring)

end Cert.PreRefIdeal.Result

end
-- ==== Proof.PreClaim.lean ====
/-
  The pre-norm's backward kernel: its claims. The frames are the generated ones; the equation sets the kernel's two
  arrays beside the reference's two results, where the norm's row, its gain and the norm's cotangent are finite.
-/
module

public import proofs.«01_k».proof.Defs
public import proofs.«01_k».proof.Proof.PreValue
public import proofs.«01_k».proof.Proof.PreRef
public import proofs.«01_k».proof.Proof.Gen.Pre.Frame
public import proofs.«01_k».proof.Proof.Gen.Pre_pre_finite
public import Idealize.ShloMosaic.Lib.Quiescent

@[expose] public section

set_option maxRecDepth 16384

noncomputable section

namespace Cert.Proof.Pre

open Idealize.ShloMosaic Idealize.ShloMosaic.TcCoe Idealize.SL.Sem Cert.Reals

/-- The reference ends with its arguments unchanged and its counters at zero. -/
theorem frame_ref : Cert.quiescent_PreRefIdeal := fun m g _ =>
  (θ_run Cert.PreRefIdeal.defs _ _).mono
    (fun r h => ⟨fun c => (h c).2.2, Idealize.ShloMosaic.sem_eq_zero_of_no_sems (by decide) r.2⟩) (Cert.PreRefIdeal.Value.run (F := Ideal) m g)

/-- The kernel's two arrays are the reference's two results. -/
theorem algebraic : Cert.algebraic_PreIdeal_PreRefIdeal_pre_pre_finite := by
  intro m g m' g' hpre hagree
  refine ⟨_, _, Cert.PreIdeal.Value.run_blocks (F := Ideal) m g, ?_⟩
  refine (θ_run Cert.PreRefIdeal.defs _ _).mono (fun r h c => ⟨(h c).1.trans ?_, (h c).2.1.trans ?_, (h c).2.2⟩)
    (Cert.PreRefIdeal.Value.run (F := Ideal) m' g')
  all_goals
    obtain ⟨p0, p1, p3⟩ := hpre c
    obtain ⟨X, hX⟩ := real_of_test _ _ lit_inf _ p0
    obtain ⟨G, hG⟩ := real_of_test _ _ lit_inf _ p1
    obtain ⟨T, hT⟩ := real_of_test _ _ lit_inf _ p3
    obtain ⟨a0, a1, a2, a3⟩ := hagree c
  · rw [Cert.PreIdeal.Result.final_4 m c X T G _ hX hG rfl hT, Cert.PreRefIdeal.Read.val_main_v36_eq, a0, a1, a2, a3, hX, hG, hT]
    funext i
    idx_vars i
    exact Cert.PreRefIdeal.Result.dx_apply X T G _ _ _
  · rw [Cert.PreIdeal.Result.final_5 m c X T hX hT, Cert.PreRefIdeal.Read.val_main_v37_eq, a0, a3, hX, hT]
    funext i
    idx_vars i
    exact Cert.PreRefIdeal.Result.dg_apply X T _ _

end Cert.Proof.Pre

end
-- ==== Proof.LossBlock.lean ====
/-
  The loss kernel, one block of 512 rows: the gradient of the block's elements, the block's part of the loss, and the
  contents the body leaves in its two output windows at the first grid point (case A) and at a later one (case B: the
  part is added to what was there). Everything holds of any extended real numbers.
-/
module

public import proofs.«01_k».proof.Proof.Reals
public import proofs.«01_k».proof.Proof.Gen.LossIdeal.Frame
public import Idealize.ShloMosaic.Lib.Pointwise
public import Idealize.ShloMosaic.Lib.Pipeline.Value

@[expose] public section

set_option maxRecDepth 16384

noncomputable section

namespace Cert.LossIdeal.Block

open Cert.LossIdeal Cert.LossIdeal.Gen Idealize.ShloMosaic Cert.Reals

/-- The word of one over 2048. -/
theorem lit_inv : Ideal.ofBits .f32 0x3A000000#32 = ((1 / 2048 : ℝ) : EReal) := by
  simp [Ideal.ofBits, Ideal.ieee, -EReal.coe_mul]; norm_num

/-- Half the mean of the squares of a row of 2048 numbers. -/
def rowLoss (e : Fin 2048 → EReal) : EReal := ((1 / 2 : ℝ) : EReal) * Ideal.div (∑ k, e k * e k) ((2048 : ℝ) : EReal)

/-- The gradient: the difference over 2048. -/
theorem pay2_apply (Y T : S512x2048.Idx → EReal) (r : Fin 512) (j : Fin 2048) :
    k0_pay2 (F := Ideal) Y T (ix2 r j) = (Y (ix2 r j) - T (ix2 r j)) * ((1 / 2048 : ℝ) : EReal) := by
  unfold_payloads
  pointwise
  rw [lit_inv]

/-- The block's part of the loss, in every lane. -/
theorem pay3_apply (Y T : S512x2048.Idx → EReal) (z : Fin 1) (l : Fin 128) :
    k0_pay3 (F := Ideal) Y T (ix2 z l) = ∑ r : Fin 512, rowLoss fun k => Y (ix2 r k) - T (ix2 r k) := by
  unfold_payloads
  pointwise
  simp only [lit_half, lit_2048]
  rfl

variable (c : Dev nD) (i : grid0.Coords) (a1 : Memref sig .tc .vmem S512x2048 .f32) (h1 : a1.IsWhole)
  (a2 : Memref sig .tc .vmem S512x2048 .f32) (h2 : a2.IsWhole) (a3 : Memref sig .tc .vmem S512x2048 .f32) (h3 : a3.IsWhole)
  (a4 : Memref sig .tc .vmem S1x128 .f32) (h4 : a4.IsWhole)
  (x0 x1 : Vec Ideal S512x2048 .f32) (xo : Vec Ideal S1x128 .f32)

/-- The first point's gradients. -/
theorem out_A_2 (hc0 : cond0_0 i) (hc1 : ¬cond0_1 i) :
    out0_A_2 c i a1 h1 a2 h2 a3 h3 a4 h4 hc0 hc1 x0 x1 = k0_pay2 x0 x1 := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_unit_zero hz2]
  simp only [View.readAt_eq_ld, h1.read_unread, h2.read_unread, View.ld_unit_zero (S := S512x2048) hz2]

/-- A later point's gradients: the same. -/
theorem out_B_2 (hc0 : ¬cond0_0 i) (hc1 : cond0_1 i) :
    out0_B_2 c i a1 h1 a2 h2 a3 h3 a4 h4 hc0 hc1 x0 x1 xo = k0_pay2 x0 x1 := by
  unfold out0_B_2
  rw [View.read_writes_eq_canon _ _ _ (cover0_B_2 c i a1 h1 a2 h2 a3 h3 a4 h4 hc0 hc1 x0 x1 xo)]
  unfold kernelRun0_B
  dsimp only
  sl_unfold_words
  rw [View.canon_unit_zero hz2]
  simp only [View.readAt_eq_ld, h1.read_unread, h2.read_unread, View.ld_unit_zero (S := S512x2048) hz2]

/-- The first point's loss: the block's part. -/
theorem out_A_3 (hc0 : cond0_0 i) (hc1 : ¬cond0_1 i) :
    out0_A_3 c i a1 h1 a2 h2 a3 h3 a4 h4 hc0 hc1 x0 x1 = k0_pay3 x0 x1 := by
  unfold out0_A_3
  rw [View.read_writes_eq_canon _ _ _ (cover0_A_3 c i a1 h1 a2 h2 a3 h3 a4 h4 hc0 hc1 x0 x1)]
  unfold kernelRun0_A
  dsimp only
  sl_unfold_words
  rw [View.canon_unit_zero hz2]
  simp only [View.readAt_eq_ld, h1.read_unread, h2.read_unread, View.ld_unit_zero (S := S512x2048) hz2]

/-- A later point's loss: the block's part added to what the window held. -/
theorem out_B_3 (hc0 : ¬cond0_0 i) (hc1 : cond0_1 i) :
    out0_B_3 c i a1 h1 a2 h2 a3 h3 a4 h4 hc0 hc1 x0 x1 xo = addf xo (k0_pay3 x0 x1) := by
  unfold out0_B_3
  rw [View.read_writes_eq_canon _ _ _ (cover0_B_3 c i a1 h1 a2 h2 a3 h3 a4 h4 hc0 hc1 x0 x1 xo)]
  unfold kernelRun0_B
  dsimp only
  sl_unfold_words
  rw [View.canon_unit_zero hz2]
  unfold k0_pay4
  simp only [View.readAt_eq_ld, h1.read_unread, h2.read_unread, h4.read_unread, View.ld_unit_zero (S := S512x2048) hz2, View.ld_unit_zero (S := S1x128) hz2, shapeCast_self]

end Cert.LossIdeal.Block

end
-- ==== Proof.LossValue.lean ====
/-
  The loss kernel, the arrays and the run: the first result holds every element's gradient; the loss's window stays on
  the same block at every grid point, so its contents after a point are the sum of the parts so far, its array takes
  them at the last point, and the host takes one lane of it.
-/
module

public import proofs.«01_k».proof.Proof.LossBlock

@[expose] public section

set_option maxRecDepth 16384

noncomputable section

namespace Cert.LossIdeal.Result

open Cert.LossIdeal Cert.LossIdeal.Gen Cert.LossIdeal.Block Idealize.ShloMosaic Idealize.ShloMosaic.TcCoe Idealize.SL.Sem Cert.Reals
open Idealize.ShloMosaic.Pipeline (Dat)

variable (m : (ℓ : Loc nD τ sig) → Buf (Elt Ideal) ℓ) (c : Dev nD) (Y T : S8192x2048.Idx → EReal)
  (hY : m ((c.tc : Thread nD τ).loc main_arg0) = Y) (hT : m ((c.tc : Thread nD τ).loc main_arg1) = T)

/-- Row `r` of block `n`, as a row of the array. -/
def rowOf (n : Fin cfg0.N) (r : Fin 512) : Fin 8192 :=
  ⟨n.val * 512 + r.val, by have hN : cfg0.N = 16 := N_0; have := n.isLt; have := r.isLt; omega⟩

/-- The row windows move by one block a point, the loss's window stays. -/
theorem index_row : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) := by decide +kernel

include hY in
/-- Window 0's block: rows of the prediction. -/
theorem iblk0 (t : Fin cfg0.N) : iblk m c 0 t = fun j : S512x2048.Idx => Y (ix2 (rowOf t (j 0)) (j 1)) := by
  obtain ⟨⟨e0, e1⟩, -⟩ := index_row t
  funext j
  unfold iblk
  rw [View.read_apply]
  show V m c main_arg0 _ = _
  rw [V_main_arg0, hY]
  refine congrArg Y (funext fun a => Fin.ext ?_)
  match a with
  | ⟨0, _⟩ => show win0_0.index t 0 * 512 + 1 * (j 0).val = t.val * 512 + (j 0).val; rw [e0]; omega
  | ⟨1, _⟩ => show win0_0.index t 1 * 2048 + 1 * (j 1).val = (j 1).val; rw [e1]; omega

include hT in
/-- Window 1's block: rows of the target. -/
theorem iblk1 (t : Fin cfg0.N) : iblk m c 1 t = fun j : S512x2048.Idx => T (ix2 (rowOf t (j 0)) (j 1)) := by
  obtain ⟨-, ⟨e0, e1⟩, -⟩ := index_row t
  funext j
  unfold iblk
  rw [View.read_apply]
  show V m c main_arg1 _ = _
  rw [V_main_arg1, hT]
  refine congrArg T (funext fun a => Fin.ext ?_)
  match a with
  | ⟨0, _⟩ => show win0_1.index t 0 * 512 + 1 * (j 0).val = t.val * 512 + (j 0).val; rw [e0]; omega
  | ⟨1, _⟩ => show win0_1.index t 1 * 2048 + 1 * (j 1).val = (j 1).val; rw [e1]; omega

/-- The gradient of every element. -/
def dy (i : S8192x2048.Idx) : EReal := (Y (ix2 (i 0) (i 1)) - T (ix2 (i 0) (i 1))) * ((1 / 2048 : ℝ) : EReal)

/-- Row `r`'s part of the loss. -/
def part (r : Fin 8192) : EReal := rowLoss fun k => Y (ix2 r k) - T (ix2 r k)

include hT hY in
/-- What the body leaves in the first output window at any point. -/
theorem outs_2 (t : Fin cfg0.N) (r : Fin 512) (j : Fin 2048) :
    (outsAt0 m c t.val t.isLt).1 (ix2 r j) = dy Y T (ix2 (rowOf t r) j) := by
  have key := pay2_apply (fun j => Y (ix2 (rowOf t (j 0)) (j 1))) (fun j => T (ix2 (rowOf t (j 0)) (j 1))) r j
  by_cases h0 : t.val % 16 = 0
  · rw [outsAt0_A m c t h0 (by have := t.isLt; have hN : cfg0.N = 16 := N_0; omega)]
    dsimp only
    rw [out_A_2, iblk0 m c Y hY, iblk1 m c T hT]
    exact key
  · rw [outsAt0_B m c t h0 (by omega)]
    dsimp only
    rw [out_B_2, iblk0 m c Y hY, iblk1 m c T hT]
    exact key

include hT hY in
/-- What the body leaves in the loss's window after point `n`: the parts of the blocks so far. -/
theorem outs_3 : ∀ (n : ℕ) (h : n < cfg0.N) (z : Fin 1) (l : Fin 128),
    (outsAt0 m c n h).2 (ix2 z l)
      = ∑ s ∈ Finset.range (n + 1), ∑ r : Fin 512, (if hs : s * 512 + r.val < 8192 then part Y T ⟨s * 512 + r.val, hs⟩ else 0)
  | 0, h, z, l => by
    rw [show outsAt0 m c 0 h = _ from outsAt0_A m c ⟨0, h⟩ rfl (by simp)]
    dsimp only
    rw [out_A_3, iblk0 m c Y hY, iblk1 m c T hT]
    refine (pay3_apply (fun j => Y (ix2 (rowOf ⟨0, h⟩ (j 0)) (j 1))) (fun j => T (ix2 (rowOf ⟨0, h⟩ (j 0)) (j 1))) z l).trans ?_
    rw [Finset.sum_range_one]
    refine Finset.sum_congr rfl fun r _ => ?_
    rw [dif_pos (by have := r.isLt; omega)]
    rfl
  | n + 1, h, z, l => by
    have hN : cfg0.N = 16 := N_0
    rw [show outsAt0 m c (n + 1) h = _ from outsAt0_B m c ⟨n + 1, h⟩ (by dsimp only; omega) (by dsimp only; omega)]
    dsimp only
    rw [out_B_3, iblk0 m c Y hY, iblk1 m c T hT, Finset.sum_range_succ]
    refine congrArg₂ (· + ·) (outs_3 n _ z l) ?_
    refine (pay3_apply (fun j => Y (ix2 (rowOf ⟨n + 1, h⟩ (j 0)) (j 1))) (fun j => T (ix2 (rowOf ⟨n + 1, h⟩ (j 0)) (j 1))) z l).trans ?_
    refine Finset.sum_congr rfl fun r _ => ?_
    rw [dif_pos (by have := r.isLt; omega)]
    rfl

include hT hY in
/-- The first result array. -/
theorem final_2 : (dats m 0 c).arrAt 2 cfg0.N = dy Y T := by
  have hN : cfg0.N = 16 := N_0
  refine (dats m 0 c).arrAt_eq_of_cover 2 _ (fun t _ => ?_) fun i => ?_
  · obtain ⟨-, -, ⟨e0, e1⟩, -⟩ := index_row t
    show (cfg0.win 2).cut (grid0.coords t) ((dats m 0 c).after 2 t) = _
    rw [after0_2]
    funext j
    rw [View.read_apply]
    refine (show _ = (outsAt0 m c t.val t.isLt).1 (ix2 (j 0) (j 1)) from congrArg _ (eq_ix2 j)).trans
      ((outs_2 m c Y T hY hT t (j 0) (j 1)).trans ?_)
    refine congrArg (dy Y T) (funext fun a => Fin.ext ?_)
    match a with
    | ⟨0, _⟩ => show t.val * 512 + (j 0).val = win0_2.index t 0 * 512 + 1 * (j 0).val; rw [e0]; omega
    | ⟨1, _⟩ => show (j 1).val = win0_2.index t 1 * 2048 + 1 * (j 1).val; rw [e1]; omega
  · have h0 : (i 0 : Nat) < 8192 := (i 0).isLt
    have h1 : (i 1 : Nat) < 2048 := (i 1).isLt
    obtain ⟨t, ht⟩ : ∃ t : Fin cfg0.N, t.val = (i 0 : Nat) / 512 := ⟨⟨(i 0 : Nat) / 512, by omega⟩, rfl⟩
    refine ⟨t, flush0_2 t, ?_⟩
    obtain ⟨-, -, ⟨e0, e1⟩, -⟩ := index_row t
    show i ∈ ((View.whole main_v0_0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [e0]; omega
    | ⟨1, _⟩ => show win0_2.index t 1 * 2048 ≤ (i 1 : Nat) ∧ (i 1 : Nat) < win0_2.index t 1 * 2048 + 2048; rw [e1]; omega

include hT hY in
/-- The loss's array: the sum over all rows, in every lane. -/
theorem final_3 : (dats m 0 c).arrAt 3 cfg0.N = fun i : S1x128.Idx => ∑ r : Fin 8192, part Y T r := by
  have hN : cfg0.N = 16 := N_0
  refine (dats m 0 c).arrAt_eq_of_cover 3 _ (fun t hf => ?_) fun i => ?_
  · have h15 : t.val = 15 := by have := (flush0_3 t).mp hf; have := t.isLt; omega
    show (cfg0.win 3).cut (grid0.coords t) ((dats m 0 c).after 3 t) = _
    rw [after0_3]
    funext j
    rw [View.read_apply]
    refine (show _ = (outsAt0 m c t.val t.isLt).2 (ix2 (j 0) (j 1)) from congrArg _ (eq_ix2 j)).trans
      ((outs_3 m c Y T hY hT t.val t.isLt (j 0) (j 1)).trans ?_)
    rw [h15]
    exact (Cert.Reals.sum_blocks 16 512 8192 rfl (fun r => part Y T r)).symm
  · have h0 : (i 0 : Nat) < 1 := (i 0).isLt
    have h1 : (i 1 : Nat) < 128 := (i 1).isLt
    obtain ⟨t, ht⟩ : ∃ t : Fin cfg0.N, t.val = 15 := ⟨⟨15, by omega⟩, rfl⟩
    refine ⟨t, (flush0_3 t).mpr (by omega), ?_⟩
    obtain ⟨-, -, -, ⟨e0, e1⟩⟩ := index_row t
    show i ∈ ((View.whole main_v0_1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [e0]; omega
    | ⟨1, _⟩ => show win0_3.index t 1 * 128 ≤ (i 1 : Nat) ∧ (i 1 : Nat) < win0_3.index t 1 * 128 + 128; rw [e1]; omega

include hT hY in
/-- What the host leaves in the loss: one lane of the kernel's array. -/
theorem tail : Pipeline.afterTail₀ cfgs (dats m) 0 (V0 m) [hostOps1] c main_v2 = fun _ : S_.Idx => ∑ r : Fin 8192, part Y T r := by
  have h : Pipeline.withArrays spec0 c (V0 m c) (fun w => (dats m 0 c).arrAt w cfg0.N) (Proc.devRef .tc main_v0_1)
      = (dats m 0 c).arrAt 3 cfg0.N := Pipeline.withArrays_arr spec0 (by decide) c _ _ 3
  have e : Pipeline.afterTail₀ cfgs (dats m) 0 (V0 m) [hostOps1] c main_v2
      = shapeCast S_ (extractStridedSlice S1x1 ![0, 0] (Pipeline.withArrays spec0 c (V0 m c) (fun w => (dats m 0 c).arrAt w cfg0.N)
        (Proc.devRef .tc main_v0_1)) slices_S1x128_S1x1_0_0) shapeCasts_S1x1_S_ := by
    show StableHlo.after hostOps1 _ _ = _
    after_results_simp <;> rfl
  rw [e, h, final_3 m c Y T hY hT]
  rfl

/-- The run: the gradient's array, the loss, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v0_0) = dy (m ((c.tc : Thread nD τ).loc main_arg0)) (m ((c.tc : Thread nD τ).loc main_arg1))
    ∧ r.2.mem ((c.tc : Thread nD τ).loc main_v2)
      = (fun _ : S_.Idx => ∑ r : Fin 8192, part (m ((c.tc : Thread nD τ).loc main_arg0)) (m ((c.tc : Thread nD τ).loc main_arg1)) r)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h.1 c).1 2).trans (final_2 m c _ _ rfl rfl),
    ((h.1 c).2 main_v2 (Pipeline.mem_restRefs_of main_v2 (by decide) (by decide))).trans (tail m c _ _ rfl rfl), h.2 c⟩)
    (θ_run_and (run_main m ρ) (unchanged m ρ))

end Cert.LossIdeal.Result

end
-- ==== Proof.LossRef.lean ====
/-
  The loss's reference, element by element: the gradient is the difference over 2048, and half the sum of the rows'
  means is the sum of half of each, since no mean of squares is negative.
-/
module

public import proofs.«01_k».proof.Proof.LossBlock
public import proofs.«01_k».proof.Proof.Gen.LossRefIdeal.Run
public import proofs.«01_k».proof.Proof.Gen.LossRefIdeal.Read

@[expose] public section

set_option maxRecDepth 16384

noncomputable section

namespace Cert.LossRefIdeal.Result

open Cert.LossRefIdeal Cert.LossRefIdeal.Gen Cert.LossRefIdeal.Read Idealize.ShloMosaic Idealize.ShloMosaic.TcCoe Cert.Reals
open Cert.LossIdeal.Block (rowLoss)

variable (Y T : S8192x2048.Idx → EReal)

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

/-- The square of an extended real is not negative. -/
theorem mul_self_nonneg' (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- A number that is not negative distributes over a sum of such. -/
theorem mul_sum_nonneg {ι : Type*} (s : Finset ι) (a : EReal) (f : ι → EReal) (hf : ∀ i, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun k _ => hf k), ih]

/-- The gradient. -/
theorem dy_apply (r : Fin 8192) (j : Fin 2048) :
    val_main_v14 (F := Ideal) Y T (ix2 r j) = (Y (ix2 r j) - T (ix2 r j)) * ((1 / 2048 : ℝ) : EReal) := by
  pointwise [val_main_v14, val_main_v13, val_main_v12, val_main_v11, val_main_v10, val_main_v9, val_main_v3, val_main_v2, val_main_v0,
    val_main_cst, val_main_cst_4, val_main_cst_5, val_main_cst_6]
  have h : (2048 : ℝ) ≠ 0 := by norm_num
  simp only [lit_half, lit_one, lit_two, lit_2048, ← EReal.coe_mul, div_real _ h]
  rw [← mul_assoc, ← EReal.coe_mul, mul_comm]
  refine congrArg (fun u : ℝ => _ * (u : EReal)) ?_
  norm_num

/-- The loss. -/
theorem loss_apply (i : S_.Idx) :
    val_main_v8 (F := Ideal) Y T i = ∑ r : Fin 8192, rowLoss fun k => Y (ix2 r k) - T (ix2 r k) := by
  have h : (2048 : ℝ) ≠ 0 := by norm_num
  pointwise [val_main_v8, val_main_v7, val_main_v6, val_main_v5, val_main_v4, val_main_v1, val_main_v0,
    val_main_cst_0, val_main_cst_1, val_main_cst_2, val_main_cst_3]
  simp only [lit_half, lit_2048]
  refine mul_sum_nonneg _ _ _ fun r => ?_
  rw [Ideal.div_coe h]
  exact EReal.mul_nonneg (Finset.sum_nonneg fun k _ => mul_self_nonneg' _) (EReal.coe_nonneg.mpr (by norm_num))

end Cert.LossRefIdeal.Result

end
-- ==== Proof.LossClaim.lean ====
/-
  The loss kernel: its claims. The frames are the generated ones; the equation sets the kernel's gradient and loss
  beside the reference's, with no condition on the arguments.
-/
module

public import proofs.«01_k».proof.Defs
public import proofs.«01_k».proof.Proof.LossValue
public import proofs.«01_k».proof.Proof.LossRef
public import proofs.«01_k».proof.Proof.Gen.Loss.Frame
public import Idealize.ShloMosaic.Lib.Quiescent

@[expose] public section

set_option maxRecDepth 16384

noncomputable section

namespace Cert.Proof.Loss

open Idealize.ShloMosaic Idealize.ShloMosaic.TcCoe Idealize.SL.Sem

/-- The reference ends with its arguments unchanged and its counters at zero. -/
theorem frame_ref : Cert.quiescent_LossRefIdeal := fun m g _ =>
  (θ_run Cert.LossRefIdeal.defs _ _).mono
    (fun r h => ⟨fun c => (h c).2.2, Idealize.ShloMosaic.sem_eq_zero_of_no_sems (by decide) r.2⟩) (Cert.LossRefIdeal.Value.run (F := Ideal) m g)

/-- The kernel's gradient and loss are the reference's. -/
theorem algebraic : Cert.algebraic_LossIdeal_LossRefIdeal := by
  intro m g m' g' _ hagree
  refine ⟨_, _, Cert.LossIdeal.Result.run m g, ?_⟩
  refine (θ_run Cert.LossRefIdeal.defs _ _).mono (fun r h c => ⟨(h c).1.trans ?_, (h c).2.1.trans ?_, (h c).2.2⟩)
    (Cert.LossRefIdeal.Value.run (F := Ideal) m' g')
  all_goals obtain ⟨a0, a1⟩ := hagree c
  · rw [Cert.LossRefIdeal.Read.val_main_v14_eq, a0, a1]
    funext i
    idx_vars i
    exact Cert.LossRefIdeal.Result.dy_apply _ _ _ _
  · rw [Cert.LossRefIdeal.Read.val_main_v8_eq, a0, a1]
    funext i
    exact Cert.LossRefIdeal.Result.loss_apply _ _ i

end Cert.Proof.Loss

end
-- ==== Proof.FfnDaBlock.lean ====
/-
  The gate's backward kernel, one block: what its body computes of 1024 rows and one chunk of 704 hidden columns. The
  cotangent of the hidden activation is a row of dy against a row of w_down; the gate's and the up-projection's
  cotangents are that number times the gate's slope and the gate's value.
-/
module

public import proofs.«01_k».proof.Proof.Reals
public import proofs.«01_k».proof.Proof.Gen.FfnDaIdeal.Frame
public import Idealize.ShloMosaic.Lib.Pipeline.Value
public import Idealize.ShloMosaic.Lib.Pointwise

@[expose] public section

set_option maxRecDepth 16384

noncomputable section

namespace Cert.FfnDaIdeal.Block

open Cert.FfnDaIdeal Cert.FfnDaIdeal.Gen Idealize.ShloMosaic Cert.Reals

/-- The logistic function. -/
def sig (x : ℝ) : ℝ := (1 + Real.exp (-x))⁻¹

/-- The cotangent of the gate, of the activation's cotangent, the gate and the up-projection. -/
def dgate (a g u : ℝ) : ℝ := a * u * (sig g * (1 + g * (1 - sig g)))

/-- The cotangent of the up-projection, of the activation's cotangent and the gate. -/
def dup (a g : ℝ) : ℝ := a * (g * sig g)

theorem hz3 : (![0, 0, 0] : Fin 3 → Nat) = fun _ => 0 := funext fun a => by fin_cases a <;> rfl

variable (D : S1024x2048.Idx → ℝ) (W : S1x704x2048.Idx → ℝ) (G U : S1x1024x704.Idx → ℝ)

/-- The activation's cotangent at row `r` and hidden column `j`. -/
def da (r : Fin 1024) (j : Fin 704) : ℝ := ∑ k : Fin 2048, D (ix2 r k) * W (ix3 0 j k)

/-- The body's product. -/
theorem pay1_apply (r : Fin 1024) (j : Fin 704) :
    k0_pay1 (F := Ideal) (fun i => ((D i : ℝ) : EReal)) (fun i => ((W i : ℝ) : EReal)) (ix2 r j) = ((da D W r j : ℝ) : EReal) := by
  unfold k0_pay1 da
  pointwise
  simp only [← EReal.coe_mul, ← coe_sum]

theorem logistic_real (x : ℝ) : Ideal.logistic (x : EReal) = ((sig x : ℝ) : EReal) := Ideal.logistic_coe x

/-- The gate's cotangent. -/
theorem out_4 : out0_4 (F := Ideal) (fun i => ((D i : ℝ) : EReal)) (fun i => ((W i : ℝ) : EReal)) (fun i => ((G i : ℝ) : EReal)) (fun i => ((U i : ℝ) : EReal))
    = fun y => ((dgate (da D W (y 1) (y 2)) (G y) (U y) : ℝ) : EReal) := by
  unfold out0_4
  rw [View.canon_unit_zero hz3, View.ld_unit_zero hz2, View.ld_unit_zero hz3, View.ld_unit_zero hz3, View.ld_unit_zero hz3]
  funext y
  idx_vars y
  obtain rfl : y0 = 0 := Subsingleton.elim _ _
  unfold k0_pay4 k0_pay3 k0_pay2
  pointwise
  rw [pay1_apply]
  simp only [logistic_real, ← EReal.coe_one, ← EReal.coe_sub, ← EReal.coe_mul, ← EReal.coe_add]
  rfl

/-- The up-projection's cotangent. -/
theorem out_5 : out0_5 (F := Ideal) (fun i => ((D i : ℝ) : EReal)) (fun i => ((W i : ℝ) : EReal)) (fun i => ((G i : ℝ) : EReal)) (fun i => ((U i : ℝ) : EReal))
    = fun y => ((dup (da D W (y 1) (y 2)) (G y) : ℝ) : EReal) := by
  unfold out0_5
  rw [View.canon_unit_zero hz3, View.ld_unit_zero hz2, View.ld_unit_zero hz3, View.ld_unit_zero hz3]
  funext y
  idx_vars y
  obtain rfl : y0 = 0 := Subsingleton.elim _ _
  unfold k0_pay5 k0_pay3 k0_pay2
  pointwise
  rw [pay1_apply]
  simp only [logistic_real, ← EReal.coe_mul]
  rfl

end Cert.FfnDaIdeal.Block

end
-- ==== Proof.FfnDaValue.lean ====
/-
  The gate's backward kernel, the arrays: at finite arguments each of the two results holds, at every chunk, row and
  column, the number the block's lemma names. Point `t` works on chunk `t / 8` and on the block of rows `t % 8`.
-/
module

public import proofs.«01_k».proof.Proof.FfnDaBlock
public import proofs.«01_k».proof.Proof.Gen.FfnDaIdeal.Value

@[expose] public section

set_option maxRecDepth 16384

noncomputable section

namespace Cert.FfnDaIdeal.Result

open Cert.FfnDaIdeal Cert.FfnDaIdeal.Gen Cert.FfnDaIdeal.Block Idealize.ShloMosaic Idealize.ShloMosaic.TcCoe Idealize.SL.Sem Cert.Reals
open Idealize.ShloMosaic.Pipeline (Dat)

/-- Column `j` of chunk `c`, as a hidden column. -/
def hid (c : Fin 8) (j : Fin 704) : Fin 5632 := ⟨c.val * 704 + j.val, by have := c.isLt; have := j.isLt; omega⟩

variable (G U : S8192x5632.Idx → ℝ) (W : S5632x2048.Idx → ℝ) (D : S8192x2048.Idx → ℝ)

/-- The activation's cotangent. -/
def act (s : Fin 8192) (n : Fin 5632) : ℝ := ∑ k : Fin 2048, D (ix2 s k) * W (ix2 n k)

/-- The weight's rows, in chunks. -/
def wchunk (i : S8x704x2048.Idx) : ℝ := W (ix2 (hid (i 0) (i 1)) (i 2))

/-- An array of rows, its columns in chunks. -/
def chunks (X : S8192x5632.Idx → ℝ) (i : S8x8192x704.Idx) : ℝ := X (ix2 (i 1) (hid (i 0) (i 2)))

/-- The gate's cotangent, in chunks. -/
def res0 (i : S8x8192x704.Idx) : ℝ := dgate (act W D (i 1) (hid (i 0) (i 2))) (chunks G i) (chunks U i)

/-- The up-projection's cotangent, in chunks. -/
def res1 (i : S8x8192x704.Idx) : ℝ := dup (act W D (i 1) (hid (i 0) (i 2))) (chunks G i)

theorem wchunk_eq : shapeCast S8x704x2048 (fun i => ((W i : ℝ) : EReal)) shapeCasts_S5632x2048_S8x704x2048 = fun i => ((wchunk W i : ℝ) : EReal) := by
  funext i
  idx_vars i
  pointwise
  rfl

theorem chunks_eq (X : S8192x5632.Idx → ℝ) :
    transpose S8x8192x704 [1, 0, 2] (shapeCast S8192x8x704 (fun i => ((X i : ℝ) : EReal)) shapeCasts_S8192x5632_S8192x8x704) transposes_S8192x8x704_S8x8192x704_1_0_2
      = fun i => ((chunks X i : ℝ) : EReal) := by
  funext i
  idx_vars i
  pointwise
  rfl

variable (m : (ℓ : Loc nD τ sig) → Buf (Elt Ideal) ℓ) (c : Dev nD)

/-- The arguments are these real numbers. -/
structure Real : Prop where
  g : m ((c.tc : Thread nD τ).loc main_arg0) = fun i => ((G i : ℝ) : EReal)
  u : m ((c.tc : Thread nD τ).loc main_arg1) = fun i => ((U i : ℝ) : EReal)
  w : m ((c.tc : Thread nD τ).loc main_arg2) = fun i => ((W i : ℝ) : EReal)
  d : m ((c.tc : Thread nD τ).loc main_arg3) = fun i => ((D i : ℝ) : EReal)

variable (h : Real G U W D m c)

include h in
/-- What the host code leaves in the arrays the windows read. -/
theorem host : V m c main_arg3 = (fun i => ((D i : ℝ) : EReal)) ∧ V m c main_v0 = (fun i => ((wchunk W i : ℝ) : EReal))
    ∧ V m c main_v2 = (fun i => ((chunks G i : ℝ) : EReal)) ∧ V m c main_v4 = (fun i => ((chunks U i : ℝ) : EReal)) := by
  refine ⟨?_, ?_, ?_, ?_⟩
  · rw [V_main_arg3, h.d]
  · rw [← wchunk_eq, ← h.w]
    show StableHlo.after hostOps0 _ _ = _
    after_results_simp <;> rfl
  · rw [← chunks_eq, ← h.g]
    show StableHlo.after hostOps0 _ _ = _
    after_results_simp <;> rfl
  · rw [← chunks_eq, ← h.u]
    show StableHlo.after hostOps0 _ _ = _
    after_results_simp <;> rfl

/-- Where each window is at point `t`. -/
theorem index_in : ∀ t : Fin cfg0.N, (win0_0.index t 0 = t.val % 8 ∧ win0_0.index t 1 = 0)
    ∧ (win0_1.index t 0 = t.val / 8 ∧ win0_1.index t 1 = 0 ∧ win0_1.index t 2 = 0)
    ∧ (win0_2.index t 0 = t.val / 8 ∧ win0_2.index t 1 = t.val % 8 ∧ win0_2.index t 2 = 0)
    ∧ (win0_3.index t 0 = t.val / 8 ∧ win0_3.index t 1 = t.val % 8 ∧ win0_3.index t 2 = 0) := by
  decide +kernel

theorem index_out : ∀ t : Fin cfg0.N, (win0_4.index t 0 = t.val / 8 ∧ win0_4.index t 1 = t.val % 8 ∧ win0_4.index t 2 = 0)
    ∧ (win0_5.index t 0 = t.val / 8 ∧ win0_5.index t 1 = t.val % 8 ∧ win0_5.index t 2 = 0) := by
  decide +kernel

/-- The chunk point `t` works on. -/
def chunkOf (t : Fin cfg0.N) : Fin 8 := ⟨t.val / 8, by have hN : cfg0.N = 64 := N_0; have := t.isLt; omega⟩

/-- Row `r` of the block point `t` works on. -/
def rowOf (t : Fin cfg0.N) (r : Fin 1024) : Fin 8192 := ⟨t.val % 8 * 1024 + r.val, by have := r.isLt; omega⟩

theorem at_dy (t : Fin cfg0.N) (i : S8192x2048.Idx) (j : S1024x2048.Idx) (e0 : (i 0).val = t.val % 8 * 1024 + 1 * (j 0).val)
    (e1 : (i 1).val = 0 * 2048 + 1 * (j 1).val) : i = ix2 (rowOf t (j 0)) (j 1) :=
  funext fun a => Fin.ext (by
    match a with
    | ⟨0, _⟩ => show (i 0).val = t.val % 8 * 1024 + (j 0).val; omega
    | ⟨1, _⟩ => show (i 1).val = (j 1).val; omega)

theorem at_w (t : Fin cfg0.N) (i : S8x704x2048.Idx) (j : S1x704x2048.Idx) (e0 : (i 0).val = t.val / 8 * 1 + 1 * (j 0).val)
    (e1 : (i 1).val = 0 * 704 + 1 * (j 1).val) (e2 : (i 2).val = 0 * 2048 + 1 * (j 2).val) : i = ix3 (chunkOf t) (j 1) (j 2) :=
  funext fun a => Fin.ext (by
    have hj : (j 0).val < 1 := (j 0).isLt
    match a with
    | ⟨0, _⟩ => show (i 0).val = t.val / 8; omega
    | ⟨1, _⟩ => show (i 1).val = (j 1).val; omega
    | ⟨2, _⟩ => show (i 2).val = (j 2).val; omega)

theorem at_chunk (t : Fin cfg0.N) (i : S8x8192x704.Idx) (j : S1x1024x704.Idx) (e0 : (i 0).val = t.val / 8 * 1 + 1 * (j 0).val)
    (e1 : (i 1).val = t.val % 8 * 1024 + 1 * (j 1).val) (e2 : (i 2).val = 0 * 704 + 1 * (j 2).val) :
    i = ix3 (chunkOf t) (rowOf t (j 1)) (j 2) :=
  funext fun a => Fin.ext (by
    have hj : (j 0).val < 1 := (j 0).isLt
    match a with
    | ⟨0, _⟩ => show (i 0).val = t.val / 8; omega
    | ⟨1, _⟩ => show (i 1).val = t.val % 8 * 1024 + (j 1).val; omega
    | ⟨2, _⟩ => show (i 2).val = (j 2).val; omega)

/-- The block of point `t` of an array in chunks. -/
def cut (t : Fin cfg0.N) (X : S8x8192x704.Idx → ℝ) (j : S1x1024x704.Idx) : ℝ := X (ix3 (chunkOf t) (rowOf t (j 1)) (j 2))

include h in
/-- The blocks the body reads. -/
theorem blocks (t : Fin cfg0.N) :
    iblk m c 0 t = (fun j : S1024x2048.Idx => ((D (ix2 (rowOf t (j 0)) (j 1)) : ℝ) : EReal))
    ∧ iblk m c 1 t = (fun j : S1x704x2048.Idx => ((wchunk W (ix3 (chunkOf t) (j 1) (j 2)) : ℝ) : EReal))
    ∧ iblk m c 2 t = (fun j : S1x1024x704.Idx => ((cut t (chunks G) j : ℝ) : EReal))
    ∧ iblk m c 3 t = (fun j : S1x1024x704.Idx => ((cut t (chunks U) j : ℝ) : EReal)) := by
  obtain ⟨v0, v1, v2, v3⟩ := host G U W D m c h
  obtain ⟨⟨a0, b0⟩, ⟨a1, b1, c1⟩, ⟨a2, b2, c2⟩, a3, b3, c3⟩ := index_in t
  refine ⟨?_, ?_, ?_, ?_⟩
  all_goals
    funext j
    unfold iblk
    rw [View.read_apply]
  · exact (congrFun v0 _).trans (congrArg (fun i => ((D i : ℝ) : EReal)) (at_dy t _ j (by rw [← a0]; rfl) (by rw [← b0]; rfl)))
  · exact (congrFun v1 _).trans (congrArg (fun i => ((wchunk W i : ℝ) : EReal)) (at_w t _ j (by rw [← a1]; rfl) (by rw [← b1]; rfl) (by rw [← c1]; rfl)))
  · exact (congrFun v2 _).trans (congrArg (fun i => ((chunks G i : ℝ) : EReal)) (at_chunk t _ j (by rw [← a2]; rfl) (by rw [← b2]; rfl) (by rw [← c2]; rfl)))
  · exact (congrFun v3 _).trans (congrArg (fun i => ((chunks U i : ℝ) : EReal)) (at_chunk t _ j (by rw [← a3]; rfl) (by rw [← b3]; rfl) (by rw [← c3]; rfl)))

/-- Every index of a result lies in some point's block. -/
theorem point_of (i : S8x8192x704.Idx) : ∃ t : Fin cfg0.N, t.val / 8 = (i 0).val ∧ t.val % 8 * 1024 ≤ (i 1).val ∧ (i 1).val < t.val % 8 * 1024 + 1024 := by
  have hN : cfg0.N = 64 := N_0
  have h0 : (i 0 : Nat) < 8 := (i 0).isLt
  have h1 : (i 1 : Nat) < 8192 := (i 1).isLt
  exact ⟨⟨(i 0 : Nat) * 8 + (i 1 : Nat) / 1024, by omega⟩, by dsimp only; omega, by dsimp only; omega, by dsimp only; omega⟩

theorem in_block (i : S8x8192x704.Idx) (t : Fin cfg0.N) (n : Fin 3 → ℕ) (e0 : n 0 = t.val / 8) (e1 : n 1 = t.val % 8) (e2 : n 2 = 0)
    (h0 : t.val / 8 = (i 0).val) (h1 : t.val % 8 * 1024 ≤ (i 1).val) (h2 : (i 1).val < t.val % 8 * 1024 + 1024) (a : Fin 3) :
    n a * S1x1024x704.size a ≤ (i a).val ∧ (i a).val < n a * S1x1024x704.size a + S1x1024x704.size a := by
  have hi : (i 2 : Nat) < 704 := (i 2).isLt
  match a with
  | ⟨0, _⟩ => show n 0 * 1 ≤ (i 0).val ∧ (i 0).val < n 0 * 1 + 1; rw [e0]; omega
  | ⟨1, _⟩ => show n 1 * 1024 ≤ (i 1).val ∧ (i 1).val < n 1 * 1024 + 1024; rw [e1]; omega
  | ⟨2, _⟩ => show n 2 * 704 ≤ (i 2).val ∧ (i 2).val < n 2 * 704 + 704; rw [e2]; omega

include h in
/-- Result 1: the gate's cotangent. -/
theorem final_4 : (dats m 0 c).arrAt 4 cfg0.N = fun i : S8x8192x704.Idx => ((res0 G U W D i : ℝ) : EReal) := by
  refine (dats m 0 c).arrAt_eq_of_cover 4 _ (fun t _ => ?_) fun i => ?_
  · obtain ⟨a, b, e⟩ := (index_out t).1
    obtain ⟨e0, e1, e2, e3⟩ := blocks G U W D m c h t
    show (cfg0.win 4).cut (grid0.coords t) ((dats m 0 c).after 4 t) = _
    rw [after0_4, e0, e1, e2, e3, out_4]
    funext j
    rw [View.read_apply]
    exact congrArg (fun i => ((res0 G U W D i : ℝ) : EReal)) (at_chunk t _ j (by rw [← a]; rfl) (by rw [← b]; rfl) (by rw [← e]; rfl)).symm
  · obtain ⟨t, h0, h1, h2⟩ := point_of i
    obtain ⟨a, b, e⟩ := (index_out t).1
    refine ⟨t, flush0_4 t, ?_⟩
    show i ∈ ((View.whole main_v5_0).slice (win0_4.rect t)).set
    rw [View.set_slice_whole, Rect.mem_set_unit]
    exact in_block i t _ a b e h0 h1 h2

include h in
/-- Result 2: the up-projection's cotangent. -/
theorem final_5 : (dats m 0 c).arrAt 5 cfg0.N = fun i : S8x8192x704.Idx => ((res1 G W D i : ℝ) : EReal) := by
  refine (dats m 0 c).arrAt_eq_of_cover 5 _ (fun t _ => ?_) fun i => ?_
  · obtain ⟨a, b, e⟩ := (index_out t).2
    obtain ⟨e0, e1, e2, e3⟩ := blocks G U W D m c h t
    show (cfg0.win 5).cut (grid0.coords t) ((dats m 0 c).after 5 t) = _
    rw [after0_5, e0, e1, e2, e3, out_5]
    funext j
    rw [View.read_apply]
    exact congrArg (fun i => ((res1 G W D i : ℝ) : EReal)) (at_chunk t _ j (by rw [← a]; rfl) (by rw [← b]; rfl) (by rw [← e]; rfl)).symm
  · obtain ⟨t, h0, h1, h2⟩ := point_of i
    obtain ⟨a, b, e⟩ := (index_out t).2
    refine ⟨t, flush0_5 t, ?_⟩
    show i ∈ ((View.whole main_v5_1).slice (win0_5.rect t)).set
    rw [View.set_slice_whole, Rect.mem_set_unit]
    exact in_block i t _ a b e h0 h1 h2

end Cert.FfnDaIdeal.Result

end
-- ==== Proof.FfnDaRef.lean ====
/-
  The gate's backward pass, the reference: the derivative of `(silu(gate) * up) @ w_down` by the gate and by the
  up-projection at finite arguments, its columns in chunks, is what the kernel's block computes.
-/
module

public import proofs.«01_k».proof.Proof.FfnDaValue
public import proofs.«01_k».proof.Proof.Gen.FfnDaRefIdeal.Read

@[expose] public section

set_option maxRecDepth 16384

noncomputable section

namespace Cert.FfnDaRefIdeal.Result

open Cert.FfnDaRefIdeal Cert.FfnDaRefIdeal.Gen Cert.FfnDaRefIdeal.Read Idealize.ShloMosaic Cert.Reals
open Cert.FfnDaIdeal.Block (dgate dup)
open Cert.FfnDaIdeal.Result (hid act res0 res1 chunks)

variable (G U : S8192x5632.Idx → ℝ) (W : S5632x2048.Idx → ℝ) (D : S8192x2048.Idx → ℝ)

/-- The reference's logistic function. -/
theorem sig_coe (x : ℝ) : Ideal.div ((1 : ℝ) : EReal) (((1 : ℝ) : EReal) + Ideal.exp (-((x : ℝ) : EReal))) = ((Cert.FfnDaIdeal.Block.sig x : ℝ) : EReal) := by
  have h : (1 : ℝ) + Real.exp (-x) ≠ 0 := by positivity
  rw [← EReal.coe_neg, Ideal.exp_coe, ← EReal.coe_add, div_real _ h, one_div]
  rfl

/-- The activation's cotangent. -/
theorem act_apply (i : S8192x5632.Idx) :
    val_main_v7 (F := Ideal) (fun i => ((W i : ℝ) : EReal)) (fun i => ((D i : ℝ) : EReal)) i = ((act W D (i 0) (i 1) : ℝ) : EReal) := by
  idx_vars i
  rw [val_main_v7_apply]
  have el : ∀ k, lidx_main_v7 (ix2 i0 i1) k = ix2 i0 k := fun k => funext fun a => match a with | ⟨0, _⟩ => rfl | ⟨1, _⟩ => rfl
  have er : ∀ k, ridx_main_v7 (ix2 i0 i1) k = ix2 i1 k := fun k => funext fun a => match a with | ⟨0, _⟩ => rfl | ⟨1, _⟩ => rfl
  refine Eq.trans ?_ (coe_sum _ _)
  refine Finset.sum_congr rfl fun k _ => ?_
  rw [el, er, EReal.coe_mul]
  rfl

/-- The gate's cotangent. -/
theorem dgate_apply (i : S8192x5632.Idx) :
    val_main_v10 (F := Ideal) (fun i => ((G i : ℝ) : EReal)) (fun i => ((U i : ℝ) : EReal)) (fun i => ((W i : ℝ) : EReal)) (fun i => ((D i : ℝ) : EReal)) i
      = ((dgate (act W D (i 0) (i 1)) (G i) (U i) : ℝ) : EReal) := by
  idx_vars i
  simp only [val_main_v10_apply, val_main_call1_v2_apply, val_main_call1_v1_apply, val_main_call1_v0_apply, val_main_v9_apply, val_main_v4_2_apply, act_apply, val_main_v4_1_apply, val_main_call0_v7_apply, val_main_call0_v6_apply, val_main_call0_v4_apply, val_main_call0_v3_apply, val_main_call0_v2_apply, val_main_call0_v1_apply, val_main_call0_v0_apply, val_main_call0_cst_apply, val_main_call0_cst_0_apply, val_main_call0_cst_1_apply, val_main_v0_apply, val_main_v1_apply]
  pointwise
  simp only [← EReal.coe_one, sig_coe, ← EReal.coe_sub, ← EReal.coe_mul, ← EReal.coe_add]
  refine congrArg Real.toEReal ?_
  unfold dgate
  ring

/-- The up-projection's cotangent. -/
theorem dup_apply (i : S8192x5632.Idx) :
    val_main_v8 (F := Ideal) (fun i => ((G i : ℝ) : EReal)) (fun i => ((W i : ℝ) : EReal)) (fun i => ((D i : ℝ) : EReal)) i
      = ((dup (act W D (i 0) (i 1)) (G i) : ℝ) : EReal) := by
  idx_vars i
  simp only [val_main_v8_apply, val_main_v4_2_apply, act_apply, val_main_v4_0_apply, val_main_call0_v4_apply, val_main_call0_v3_apply, val_main_call0_v2_apply, val_main_call0_v1_apply, val_main_call0_v0_apply, val_main_call0_cst_apply, val_main_call0_cst_0_apply, val_main_v0_apply]
  pointwise
  simp only [← EReal.coe_one, sig_coe, ← EReal.coe_mul]
  refine congrArg Real.toEReal ?_
  unfold dup
  ring

/-- Where the chunked results read the plain ones. -/
theorem idx_eq (i : S8x8192x704.Idx) : idx_main_v12 (idx_main_v13 i) = ix2 (i 1) (hid (i 0) (i 2)) :=
  funext fun a => Fin.ext (by
    have h0 : (i 0).val < 8 := (i 0).isLt
    have h1 : (i 1).val < 8192 := (i 1).isLt
    have h2 : (i 2).val < 704 := (i 2).isLt
    match a with
    | ⟨0, _⟩ => show (((i 1).val * 8 + (i 0).val) * 704 + (i 2).val) / 5632 = (i 1).val; omega
    | ⟨1, _⟩ => show (((i 1).val * 8 + (i 0).val) * 704 + (i 2).val) % 5632 = (i 0).val * 704 + (i 2).val; omega)

/-- The first result. -/
theorem res0_apply (i : S8x8192x704.Idx) :
    val_main_v13 (F := Ideal) (fun i => ((G i : ℝ) : EReal)) (fun i => ((U i : ℝ) : EReal)) (fun i => ((W i : ℝ) : EReal)) (fun i => ((D i : ℝ) : EReal)) i
      = ((res0 G U W D i : ℝ) : EReal) := by
  rw [val_main_v13_apply, val_main_v12_apply, val_main_v11_apply, dgate_apply, idx_eq]
  rfl

/-- The second result. -/
theorem res1_apply (i : S8x8192x704.Idx) :
    val_main_v16 (F := Ideal) (fun i => ((G i : ℝ) : EReal)) (fun i => ((W i : ℝ) : EReal)) (fun i => ((D i : ℝ) : EReal)) i
      = ((res1 G W D i : ℝ) : EReal) := by
  rw [val_main_v16_apply, val_main_v15_apply, val_main_v14_apply, dup_apply, show idx_main_v15 (idx_main_v16 i) = _ from idx_eq i]
  rfl

end Cert.FfnDaRefIdeal.Result

end
-- ==== Proof.FfnDaClaim.lean ====
/-
  The gate's backward kernel: its claims. The frames are the generated ones; the equation sets the kernel's two arrays
  beside the reference's two results, where the gate, the up-projection, the weight and the cotangent are finite.
-/
module

public import proofs.«01_k».proof.Defs
public import proofs.«01_k».proof.Proof.FfnDaValue
public import proofs.«01_k».proof.Proof.FfnDaRef
public import proofs.«01_k».proof.Proof.Gen.FfnDa.Frame
public import proofs.«01_k».proof.Proof.Gen.Pre_ffn_da_finite
public import Idealize.ShloMosaic.Lib.Quiescent

@[expose] public section

set_option maxRecDepth 16384

noncomputable section

namespace Cert.Proof.FfnDa

open Idealize.ShloMosaic Idealize.ShloMosaic.TcCoe Idealize.SL.Sem Cert.Reals

/-- The reference ends with its arguments unchanged and its counters at zero. -/
theorem frame_ref : Cert.quiescent_FfnDaRefIdeal := fun m g _ =>
  (θ_run Cert.FfnDaRefIdeal.defs _ _).mono
    (fun r h => ⟨fun c => (h c).2.2, Idealize.ShloMosaic.sem_eq_zero_of_no_sems (by decide) r.2⟩) (Cert.FfnDaRefIdeal.Value.run (F := Ideal) m g)

/-- The kernel's two arrays are the reference's two results. -/
theorem algebraic : Cert.algebraic_FfnDaIdeal_FfnDaRefIdeal_pre_ffn_da_finite := by
  intro m g m' g' hpre hagree
  refine ⟨_, _, Cert.FfnDaIdeal.Value.run_blocks (F := Ideal) m g, ?_⟩
  refine (θ_run Cert.FfnDaRefIdeal.defs _ _).mono (fun r h c => ⟨(h c).1.trans ?_, (h c).2.1.trans ?_, (h c).2.2⟩)
    (Cert.FfnDaRefIdeal.Value.run (F := Ideal) m' g')
  all_goals
    obtain ⟨p0, p1, p2, p3⟩ := hpre c
    obtain ⟨G, hG⟩ := real_of_test _ _ lit_inf16 _ p0
    obtain ⟨U, hU⟩ := real_of_test _ _ lit_inf16 _ p1
    obtain ⟨W, hW⟩ := real_of_test _ _ lit_inf16 _ p2
    obtain ⟨D, hD⟩ := real_of_test _ _ lit_inf16 _ p3
    obtain ⟨a0, a1, a2, a3⟩ := hagree c
  · rw [Cert.FfnDaIdeal.Result.final_4 G U W D m c ⟨hG, hU, hW, hD⟩, Cert.FfnDaRefIdeal.Read.val_main_v13_eq, a0, a1, a2, a3, hG, hU, hW, hD]
    exact funext fun i => Cert.FfnDaRefIdeal.Result.res0_apply G U W D i
  · rw [Cert.FfnDaIdeal.Result.final_5 G U W D m c ⟨hG, hU, hW, hD⟩, Cert.FfnDaRefIdeal.Read.val_main_v16_eq, a0, a2, a3, hG, hW, hD]
    exact funext fun i => Cert.FfnDaRefIdeal.Result.res1_apply G W D i

end Cert.Proof.FfnDa

end
-- ==== Proof.FfnDhBlock.lean ====
/-
  The feed-forward norm's backward kernel, one block of 512 rows. Over eight grid points the two products with the
  chunks of the weights add up in a scratch array; at the eighth point the sum goes back through the norm, in two halves
  of 256 rows, on top of the residual path's cotangent, and the block's part of the gain's gradient is added up.
-/
module

public import proofs.«01_k».proof.Proof.RowNorm
public import proofs.«01_k».proof.Proof.Gen.FfnDhIdeal.Value

@[expose] public section

set_option maxRecDepth 16384

noncomputable section

namespace Cert.FfnDhIdeal.Block

open Cert.FfnDhIdeal Cert.FfnDhIdeal.Gen Idealize.ShloMosaic Cert.Reals

/-- The two products of one chunk. -/
theorem pay1_apply (A B : S1x512x704.Idx → ℝ) (V W : S1x2048x704.Idx → ℝ) (r : Fin 512) (j : Fin 2048) :
    k0_pay1 (F := Ideal) (fun i => ((A i : ℝ) : EReal)) (fun i => ((V i : ℝ) : EReal)) (fun i => ((B i : ℝ) : EReal)) (fun i => ((W i : ℝ) : EReal)) (ix2 r j)
      = ((∑ k : Fin 704, A (ix3 0 r k) * V (ix3 0 j k) + ∑ k : Fin 704, B (ix3 0 r k) * W (ix3 0 j k) : ℝ) : EReal) := by
  unfold k0_pay1
  pointwise
  simp only [← EReal.coe_mul, coe_sum, ← EReal.coe_add]

/-- The row gradient of the first half, on top of the residual path. -/
theorem pay6_apply (X T : S256x2048.Idx → ℝ) (G : S1x2048.Idx → ℝ) (D : S256x2048.Idx → EReal) (r : Fin 256) (j : Fin 2048) :
    k0_pay6 (F := Ideal) (fun i => ((X i : ℝ) : EReal)) (fun i => ((G i : ℝ) : EReal)) (fun i => ((T i : ℝ) : EReal)) D (ix2 r j)
      = D (ix2 r j) + ((RowNorm.grad 2048 (fun k => X (ix2 r k)) (fun k => T (ix2 r k) * G (ix2 0 k)) j : ℝ) : EReal) := by
  unfold_payloads
  pointwise
  have h : (0 : ℝ) < 2048 := by norm_num
  simp only [lit_2048, lit_eps, ← EReal.coe_mul, coe_sum, div_real _ h.ne', ← EReal.coe_add, RowNorm.rsqrt_mean h, ← EReal.coe_sub]
  rfl

/-- The row gradient of the second half: the same. -/
theorem pay9_apply (X T : S256x2048.Idx → ℝ) (G : S1x2048.Idx → ℝ) (D : S256x2048.Idx → EReal) (r : Fin 256) (j : Fin 2048) :
    k0_pay9 (F := Ideal) (fun i => ((X i : ℝ) : EReal)) (fun i => ((G i : ℝ) : EReal)) (fun i => ((T i : ℝ) : EReal)) D (ix2 r j)
      = D (ix2 r j) + ((RowNorm.grad 2048 (fun k => X (ix2 r k)) (fun k => T (ix2 r k) * G (ix2 0 k)) j : ℝ) : EReal) :=
  pay6_apply X T G D r j

/-- A half's part of the gain's gradient. -/
def half (X T : S256x2048.Idx → ℝ) (j : Fin 2048) : ℝ := ∑ r : Fin 256, T (ix2 r j) * X (ix2 r j) * RowNorm.scale 2048 (fun k => X (ix2 r k))

/-- The two halves' parts. -/
theorem pay10_apply (X T Y U : S256x2048.Idx → ℝ) (z : Fin 1) (j : Fin 2048) :
    k0_pay10 (F := Ideal) (k0_pay7 (fun i => ((X i : ℝ) : EReal)) (fun i => ((T i : ℝ) : EReal))) (fun i => ((Y i : ℝ) : EReal)) (fun i => ((U i : ℝ) : EReal)) (ix2 z j)
      = ((half X T j + half Y U j : ℝ) : EReal) := by
  unfold k0_pay10 k0_pay7 k0_pay5 k0_pay8 half
  pointwise
  have h : (0 : ℝ) < 2048 := by norm_num
  simp only [lit_2048, lit_eps, ← EReal.coe_mul, coe_sum, div_real _ h.ne', ← EReal.coe_add, RowNorm.rsqrt_mean h]

/-- The upper and the lower half of a block. -/
abbrev top : Rect S512x2048 := Rect.unit ![0, 0] ![256, 2048] inb_S512x2048_S256x2048_0_0
abbrev bot : Rect S512x2048 := Rect.unit ![256, 0] ![256, 2048] inb_S512x2048_S256x2048_256_0

theorem emb_top (r : Fin 256) (j : Fin 2048) : top.emb (ix2 r j) = ix2 ⟨r.val, by have := r.isLt; omega⟩ j :=
  funext fun a => Fin.ext (by
    match a with
    | ⟨0, _⟩ => show 0 + 1 * r.val = r.val; omega
    | ⟨1, _⟩ => show 0 + 1 * j.val = j.val; omega)

theorem emb_bot (r : Fin 256) (j : Fin 2048) : bot.emb (ix2 r j) = ix2 ⟨256 + r.val, by have := r.isLt; omega⟩ j :=
  funext fun a => Fin.ext (by
    match a with
    | ⟨0, _⟩ => show 256 + 1 * r.val = 256 + r.val; omega
    | ⟨1, _⟩ => show 0 + 1 * j.val = j.val; omega)

variable (X T : S512x2048.Idx → ℝ) (G : S1x2048.Idx → ℝ) (D : S512x2048.Idx → EReal)

/-- A block's row gradients on top of the residual path. -/
def rows (i : S512x2048.Idx) : EReal :=
  D (ix2 (i 0) (i 1)) + ((RowNorm.grad 2048 (fun k => X (ix2 (i 0) k)) (fun k => T (ix2 (i 0) k) * G (ix2 0 k)) (i 1) : ℝ) : EReal)

/-- A block's part of the gain's gradient. -/
def gain (j : Fin 2048) : ℝ := ∑ r : Fin 512, T (ix2 r j) * X (ix2 r j) * RowNorm.scale 2048 (fun k => X (ix2 r k))

/-- The two halves' stores make the block. -/
theorem rows_eq (v : View sig .tc .vmem S512x2048 .f32) :
    View.canon (Val := Elt Ideal) (s := S512x2048) (e := .f32)
      [⟨bot, k0_pay9 (F := Ideal) (View.ld (fun i => ((X i : ℝ) : EReal)) bot) (fun i => ((G i : ℝ) : EReal))
          (v.readCov [⟨Rect.unit ![0, 0] S512x2048.size inb_S512x2048_S512x2048_0_0, fun i => ((T i : ℝ) : EReal)⟩] bot.toLoadRect) (View.ld D bot)⟩,
        ⟨top, k0_pay6 (F := Ideal) (View.ld (fun i => ((X i : ℝ) : EReal)) top) (fun i => ((G i : ℝ) : EReal))
          (v.readCov [⟨Rect.unit ![0, 0] S512x2048.size inb_S512x2048_S512x2048_0_0, fun i => ((T i : ℝ) : EReal)⟩] top.toLoadRect) (View.ld D top)⟩]
      = rows X T G D := by
  rw [View.readCov_eq_canon', View.readCov_eq_canon', View.canon_unit_zero hz2]
  funext y
  refine View.canon_apply_of_pieces (Val := Elt Ideal) (e := .f32) (rows X T G D) _ ?_ y ?_
  · simp only [List.forall_mem_cons, List.not_mem_nil, false_implies, implies_true, and_true]
    refine ⟨fun x => ?_, fun x => ?_⟩
    · idx_vars x
      refine (pay9_apply (fun i => X (bot.emb i)) (fun i => T (bot.emb i)) G (fun i => D (bot.emb i)) _ _).trans ?_
      simp only [emb_bot]
      rfl
    · idx_vars x
      refine (pay6_apply (fun i => X (top.emb i)) (fun i => T (top.emb i)) G (fun i => D (top.emb i)) _ _).trans ?_
      simp only [emb_top]
      rfl
  · have h0 : (y 0 : ℕ) < 512 := (y 0).isLt
    have h1 : (y 1 : ℕ) < 2048 := (y 1).isLt
    by_cases h : (y 0 : ℕ) < 256
    · refine ⟨_, List.mem_cons_of_mem _ (List.mem_cons_self ..), ?_⟩
      show y ∈ top.set
      rw [Rect.mem_set_unit]
      intro a
      match a with
      | ⟨0, _⟩ => show 0 ≤ (y 0 : ℕ) ∧ (y 0 : ℕ) < 0 + 256; omega
      | ⟨1, _⟩ => show 0 ≤ (y 1 : ℕ) ∧ (y 1 : ℕ) < 0 + 2048; omega
    · refine ⟨_, List.mem_cons_self .., ?_⟩
      show y ∈ bot.set
      rw [Rect.mem_set_unit]
      intro a
      match a with
      | ⟨0, _⟩ => show 256 ≤ (y 0 : ℕ) ∧ (y 0 : ℕ) < 256 + 256; omega
      | ⟨1, _⟩ => show 0 ≤ (y 1 : ℕ) ∧ (y 1 : ℕ) < 0 + 2048; omega

/-- The two halves' parts make the block's part. -/
theorem gain_eq (v : View sig .tc .vmem S512x2048 .f32) (z : Fin 1) (j : Fin 2048) :
    k0_pay10 (F := Ideal) (k0_pay7 (View.ld (fun i => ((X i : ℝ) : EReal)) top)
          (v.readCov [⟨Rect.unit ![0, 0] S512x2048.size inb_S512x2048_S512x2048_0_0, fun i => ((T i : ℝ) : EReal)⟩] top.toLoadRect))
        (View.ld (fun i => ((X i : ℝ) : EReal)) bot)
        (v.readCov [⟨Rect.unit ![0, 0] S512x2048.size inb_S512x2048_S512x2048_0_0, fun i => ((T i : ℝ) : EReal)⟩] bot.toLoadRect) (ix2 z j)
      = ((gain X T j : ℝ) : EReal) := by
  rw [View.readCov_eq_canon', View.readCov_eq_canon', View.canon_unit_zero hz2]
  refine (pay10_apply (fun i => X (top.emb i)) (fun i => T (top.emb i)) (fun i => X (bot.emb i)) (fun i => T (bot.emb i)) z j).trans ?_
  unfold half gain
  simp only [emb_top, emb_bot]
  exact congrArg Real.toEReal (Fin.sum_univ_add (a := 256) (b := 256)
    fun r : Fin 512 => T (ix2 r j) * X (ix2 r j) * RowNorm.scale 2048 (fun k => X (ix2 r k))).symm

variable (c : Dev nD) (i : grid0.Coords) (a2 : Memref sig .tc .vmem S1x512x704 .bf16) (h2 : a2.IsWhole)
  (a3 : Memref sig .tc .vmem S1x2048x704 .bf16) (h3 : a3.IsWhole) (a4 : Memref sig .tc .vmem S1x512x704 .bf16) (h4 : a4.IsWhole)
  (a5 : Memref sig .tc .vmem S1x2048x704 .bf16) (h5 : a5.IsWhole) (a6 : Memref sig .tc .vmem S512x2048 .f32) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .f32) (h9 : a9.IsWhole) (a10 : Memref sig .tc .vmem S1x2048 .f32) (h10 : a10.IsWhole)
  (a11 : Memref sig .tc .vmem S512x2048 .f32) (h11 : a11.IsWhole)
  (x0 x2 : Vec Ideal S1x512x704 .bf16) (x1 x3 : Vec Ideal S1x2048x704 .bf16) (x4 x6 xs : Vec Ideal S512x2048 .f32) (x5 xo : Vec Ideal S1x2048 .f32)

theorem hz3 : (![0, 0, 0] : Fin 3 → Nat) = fun _ => 0 := funext fun a => by fin_cases a <;> rfl

/-- The scratch after a block's first point: the first chunk's products. -/
theorem sout_A (hc0 : cond0_0 i) (hc1 : ¬cond0_1 i) (hc2 : ¬cond0_2 i) :
    sout0_A_0 c i a2 h2 a3 h3 a4 h4 a5 h5 a6 h6 a7 h7 a8 h8 a9 h9 a10 h10 a11 h11 hc0 hc1 hc2 x0 x1 x2 x3 x4 x5 x6 = k0_pay1 x0 x1 x2 x3 := by
  unfold sout0_A_0
  rw [View.read_writes_eq_canon _ _ _ (scover0_A_0 c i a2 h2 a3 h3 a4 h4 a5 h5 a6 h6 a7 h7 a8 h8 a9 h9 a10 h10 a11 h11 hc0 hc1 hc2 x0 x1 x2 x3 x4 x5 x6)]
  unfold kernelRun0_A
  dsimp only
  sl_unfold_words
  rw [View.canon_unit_zero hz2]
  unfold k0_pay2
  simp only [View.readAt_eq_ld, h2.read_unread, h3.read_unread, h4.read_unread, h5.read_unread, View.ld_unit_zero (S := S1x512x704) hz3, View.ld_unit_zero (S := S1x2048x704) hz3, shapeCast_self]

/-- The scratch after a later point: the chunk's products added to it. -/
theorem sout_B (hc0 : ¬cond0_0 i) (hc1 : cond0_1 i) (hc2 : ¬cond0_2 i) :
    sout0_B_0 c i a2 h2 a3 h3 a4 h4 a5 h5 a6 h6 a7 h7 a8 h8 a9 h9 a10 h10 a11 h11 hc0 hc1 hc2 x0 x1 x2 x3 x4 x5 x6 xs = addf xs (k0_pay1 x0 x1 x2 x3) := by
  unfold sout0_B_0
  rw [View.read_writes_eq_canon _ _ _ (scover0_B_0 c i a2 h2 a3 h3 a4 h4 a5 h5 a6 h6 a7 h7 a8 h8 a9 h9 a10 h10 a11 h11 hc0 hc1 hc2 x0 x1 x2 x3 x4 x5 x6 xs)]
  unfold kernelRun0_B
  dsimp only
  sl_unfold_words
  rw [View.canon_unit_zero hz2]
  unfold k0_pay3
  simp only [View.readAt_eq_ld, h2.read_unread, h3.read_unread, h4.read_unread, h5.read_unread, h11.read_unread, View.ld_unit_zero (S := S1x512x704) hz3, View.ld_unit_zero (S := S1x2048x704) hz3, View.ld_unit_zero (S := S512x2048) hz2, shapeCast_self]

/-- The first block's row gradients, at its last point. -/
theorem out_C_7 (hT : addf xs (k0_pay1 x0 x1 x2 x3) = fun i => ((T i : ℝ) : EReal)) (hc0 : ¬cond0_0 i) (hc1 : cond0_1 i) (hc2 : cond0_2 i) (hc3 : cond0_3 i) (hc4 : ¬cond0_4 i) :
    out0_C_7 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xs = rows X T G D := by
  unfold out0_C_7
  rw [View.read_writes_eq_canon _ _ _ (cover0_C_7 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xs)]
  unfold kernelRun0_C
  dsimp only
  sl_unfold_words
  unfold k0_pay3
  simp only [View.readAt_eq_ld, h2.read_unread, h3.read_unread, h4.read_unread, h5.read_unread, h6.read_unread, h7.read_unread, h8.read_unread, h10.read_unread, h11.read_unread, View.ld_unit_zero (S := S1x512x704) hz3, View.ld_unit_zero (S := S1x2048x704) hz3, View.ld_unit_zero (S := S512x2048) hz2, View.ld_unit_zero (S := S1x2048) hz2, shapeCast_self]
  rw [hT]
  exact rows_eq X T G D _

/-- The gain's gradient after the first block. -/
theorem out_C_8 (hT : addf xs (k0_pay1 x0 x1 x2 x3) = fun i => ((T i : ℝ) : EReal)) (hc0 : ¬cond0_0 i) (hc1 : cond0_1 i) (hc2 : cond0_2 i) (hc3 : cond0_3 i) (hc4 : ¬cond0_4 i) (z : Fin 1) (j : Fin 2048) :
    out0_C_8 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xs (ix2 z j) = ((gain X T j : ℝ) : EReal) := by
  unfold out0_C_8
  rw [View.read_writes_eq_canon _ _ _ (cover0_C_8 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xs)]
  unfold kernelRun0_C
  dsimp only
  sl_unfold_words
  rw [View.canon_unit_zero hz2]
  unfold k0_pay3
  simp only [View.readAt_eq_ld, h2.read_unread, h3.read_unread, h4.read_unread, h5.read_unread, h6.read_unread, h7.read_unread, h8.read_unread, h10.read_unread, h11.read_unread, View.ld_unit_zero (S := S1x512x704) hz3, View.ld_unit_zero (S := S1x2048x704) hz3, View.ld_unit_zero (S := S512x2048) hz2, View.ld_unit_zero (S := S1x2048) hz2, shapeCast_self]
  rw [hT]
  exact gain_eq X T _ z j

/-- A later block's row gradients. -/
theorem out_D_7 (hT : addf xs (k0_pay1 x0 x1 x2 x3) = fun i => ((T i : ℝ) : EReal)) (hc0 : ¬cond0_0 i) (hc1 : cond0_1 i) (hc2 : cond0_2 i) (hc3 : ¬cond0_3 i) (hc4 : cond0_4 i) :
    out0_D_7 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xo xs = rows X T G D := by
  unfold out0_D_7
  rw [View.read_writes_eq_canon _ _ _ (cover0_D_7 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xo xs)]
  unfold kernelRun0_D
  dsimp only
  sl_unfold_words
  unfold k0_pay3
  simp only [View.readAt_eq_ld, h2.read_unread, h3.read_unread, h4.read_unread, h5.read_unread, h6.read_unread, h7.read_unread, h8.read_unread, h10.read_unread, h11.read_unread, View.ld_unit_zero (S := S1x512x704) hz3, View.ld_unit_zero (S := S1x2048x704) hz3, View.ld_unit_zero (S := S512x2048) hz2, View.ld_unit_zero (S := S1x2048) hz2, shapeCast_self]
  rw [hT]
  exact rows_eq X T G D _

/-- The gain's gradient after a later block: the block's part added. -/
theorem out_D_8 (hT : addf xs (k0_pay1 x0 x1 x2 x3) = fun i => ((T i : ℝ) : EReal)) (hc0 : ¬cond0_0 i) (hc1 : cond0_1 i) (hc2 : cond0_2 i) (hc3 : ¬cond0_3 i) (hc4 : cond0_4 i) (z : Fin 1) (j : Fin 2048) :
    out0_D_8 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xo xs (ix2 z j) = xo (ix2 z j) + ((gain X T j : ℝ) : EReal) := by
  unfold out0_D_8
  rw [View.read_writes_eq_canon _ _ _ (cover0_D_8 c i a2 h2 a3 h3 a4 h4 a5 h5 a6 h6 a7 h7 a8 h8 a9 h9 a10 h10 a11 h11 hc0 hc1 hc2 hc3 hc4 x0 x1 x2 x3 (fun i => ((X i : ℝ) : EReal)) (fun i => ((G i : ℝ) : EReal)) D xo xs)]
  unfold kernelRun0_D
  dsimp only
  sl_unfold_words
  rw [View.canon_unit_zero hz2]
  unfold k0_pay3
  simp only [View.readAt_eq_ld, h2.read_unread, h3.read_unread, h4.read_unread, h5.read_unread, h6.read_unread, h7.read_unread, h8.read_unread, h10.read_unread, h11.read_unread, View.ld_unit_zero (S := S1x512x704) hz3, View.ld_unit_zero (S := S1x2048x704) hz3, View.ld_unit_zero (S := S512x2048) hz2, View.ld_unit_zero (S := S1x2048) hz2, shapeCast_self]
  rw [hT]
  unfold k0_pay4
  rw [shapeCast_self]
  exact congrArg (xo (ix2 z j) + ·) (gain_eq X T _ z j)

end Cert.FfnDhIdeal.Block

end
-- ==== Proof.FfnDhValue.lean ====
/-
  The feed-forward norm's backward kernel, the arrays. Point `t` works on the block of rows `t / 8` and on chunk `t % 8`
  of the hidden columns. The scratch holds, after it, the sum of the chunks' products so far; at a block's last point
  this is the whole cotangent of the norm's value, the row gradients are written, and the block's part of the gain's
  gradient is added to the second output, whose window stays in place over the whole grid.
-/
module

public import proofs.«01_k».proof.Proof.FfnDhBlock

@[expose] public section

set_option maxRecDepth 16384

noncomputable section

namespace Cert.FfnDhIdeal.Result

open Cert.FfnDhIdeal Cert.FfnDhIdeal.Gen Cert.FfnDhIdeal.Block Idealize.ShloMosaic Idealize.ShloMosaic.TcCoe Idealize.SL.Sem Cert.Reals
open Idealize.ShloMosaic.Pipeline (Dat)

/-- Column `j` of chunk `c`, as a hidden column. -/
def hid (c : Fin 8) (j : Fin 704) : Fin 5632 := ⟨c.val * 704 + j.val, by have := c.isLt; have := j.isLt; omega⟩

variable (X : S8192x2048.Idx → ℝ) (G : S2048.Idx → ℝ) (W V : S2048x5632.Idx → ℝ) (D : S8192x2048.Idx → EReal) (A B : S8192x5632.Idx → ℝ)

/-- One hidden column's part of the cotangent of the norm's value. -/
def term (s : Fin 8192) (j : Fin 2048) (n : Fin 5632) : ℝ := A (ix2 s n) * W (ix2 j n) + B (ix2 s n) * V (ix2 j n)

/-- The cotangent of the norm's value. -/
def cot (s : Fin 8192) (j : Fin 2048) : ℝ := ∑ n : Fin 5632, term W V A B s j n

/-- The part of one chunk, and of the first `q` chunks. -/
def chunk (s : Fin 8192) (j : Fin 2048) (p : ℕ) : ℝ := ∑ k : Fin 704, if h : p * 704 + k.val < 5632 then term W V A B s j ⟨p * 704 + k.val, h⟩ else 0

def upto (q : ℕ) (s : Fin 8192) (j : Fin 2048) : ℝ := ∑ p ∈ Finset.range q, chunk W V A B s j p

theorem upto_all (s : Fin 8192) (j : Fin 2048) : upto W V A B 8 s j = cot W V A B s j :=
  (Cert.Reals.sum_blocks 8 704 5632 rfl (term W V A B s j)).symm

/-- The rows and the weights in chunks. -/
def rchunk (A : S8192x5632.Idx → ℝ) (i : S8x8192x704.Idx) : ℝ := A (ix2 (i 1) (hid (i 0) (i 2)))
def wchunk (W : S2048x5632.Idx → ℝ) (i : S8x2048x704.Idx) : ℝ := W (ix2 (i 1) (hid (i 0) (i 2)))

theorem rchunk_eq (A : S8192x5632.Idx → ℝ) :
    transpose S8x8192x704 [1, 0, 2] (shapeCast S8192x8x704 (fun i => ((A i : ℝ) : EReal)) shapeCasts_S8192x5632_S8192x8x704) transposes_S8192x8x704_S8x8192x704_1_0_2
      = fun i => ((rchunk A i : ℝ) : EReal) := by
  funext i
  idx_vars i
  pointwise
  rfl

theorem wchunk_eq (W : S2048x5632.Idx → ℝ) :
    transpose S8x2048x704 [1, 0, 2] (shapeCast S2048x8x704 (fun i => ((W i : ℝ) : EReal)) shapeCasts_S2048x5632_S2048x8x704) transposes_S2048x8x704_S8x2048x704_1_0_2
      = fun i => ((wchunk W i : ℝ) : EReal) := by
  funext i
  idx_vars i
  pointwise
  rfl

variable (m : (ℓ : Loc nD τ sig) → Buf (Elt Ideal) ℓ) (c : Dev nD)

/-- The arguments are these numbers. -/
structure Real : Prop where
  x : m ((c.tc : Thread nD τ).loc main_arg0) = fun i => ((X i : ℝ) : EReal)
  g : m ((c.tc : Thread nD τ).loc main_arg1) = fun i => ((G i : ℝ) : EReal)
  w : m ((c.tc : Thread nD τ).loc main_arg2) = fun i => ((W i : ℝ) : EReal)
  v : m ((c.tc : Thread nD τ).loc main_arg3) = fun i => ((V i : ℝ) : EReal)
  d : m ((c.tc : Thread nD τ).loc main_arg4) = D
  a : m ((c.tc : Thread nD τ).loc main_arg5) = fun i => ((A i : ℝ) : EReal)
  b : m ((c.tc : Thread nD τ).loc main_arg6) = fun i => ((B i : ℝ) : EReal)

variable (h : Real X G W V D A B m c)

include h in
/-- What the host code leaves in the arrays the windows read. -/
theorem host : Gen.V m c main_v1 = (fun i => ((rchunk A i : ℝ) : EReal)) ∧ Gen.V m c main_v5 = (fun i => ((wchunk W i : ℝ) : EReal))
    ∧ Gen.V m c main_v3 = (fun i => ((rchunk B i : ℝ) : EReal)) ∧ Gen.V m c main_v7 = (fun i => ((wchunk V i : ℝ) : EReal))
    ∧ Gen.V m c main_v8 = (fun j : S1x2048.Idx => ((G (ix1 (j 1)) : ℝ) : EReal)) := by
  refine ⟨?_, ?_, ?_, ?_, ?_⟩
  · rw [← rchunk_eq, ← h.a]
    show StableHlo.after hostOps0 _ _ = _
    after_results_simp <;> rfl
  · rw [← wchunk_eq, ← h.w]
    show StableHlo.after hostOps0 _ _ = _
    after_results_simp <;> rfl
  · rw [← rchunk_eq, ← h.b]
    show StableHlo.after hostOps0 _ _ = _
    after_results_simp <;> rfl
  · rw [← wchunk_eq, ← h.v]
    show StableHlo.after hostOps0 _ _ = _
    after_results_simp <;> rfl
  · have e : Gen.V m c main_v8 = broadcastInDim S1x2048 ![1] bcast_S2048_S1x2048_1 (m ((c.tc : Thread nD τ).loc main_arg1)) := by
      show StableHlo.after hostOps0 _ _ = _
      after_results_simp <;> rfl
    rw [e, h.g]
    funext j
    idx_vars j
    pointwise

/-- Where each window is at point `t`. -/
theorem index_chunk : ∀ t : Fin cfg0.N, (win0_0.index t 0 = t.val % 8 ∧ win0_0.index t 1 = t.val / 8 ∧ win0_0.index t 2 = 0)
    ∧ (win0_1.index t 0 = t.val % 8 ∧ win0_1.index t 1 = 0 ∧ win0_1.index t 2 = 0)
    ∧ (win0_2.index t 0 = t.val % 8 ∧ win0_2.index t 1 = t.val / 8 ∧ win0_2.index t 2 = 0)
    ∧ (win0_3.index t 0 = t.val % 8 ∧ win0_3.index t 1 = 0 ∧ win0_3.index t 2 = 0) := by
  decide +kernel

theorem index_row : ∀ t : Fin cfg0.N, (win0_4.index t 0 = t.val / 8 ∧ win0_4.index t 1 = 0) ∧ (win0_6.index t 0 = t.val / 8 ∧ win0_6.index t 1 = 0)
    ∧ (win0_7.index t 0 = t.val / 8 ∧ win0_7.index t 1 = 0) := by
  decide +kernel

theorem index_stay : ∀ t : Fin cfg0.N, (win0_5.index t 0 = 0 ∧ win0_5.index t 1 = 0) ∧ (win0_8.index t 0 = 0 ∧ win0_8.index t 1 = 0) := by
  decide +kernel

/-- The chunk point `n` works on. -/
def chunkOf (n : ℕ) : Fin 8 := ⟨n % 8, Nat.mod_lt _ (by norm_num)⟩

/-- Row `r` of the block point `n` works on. -/
def rowOf (n : ℕ) (hn : n < cfg0.N) (r : Fin 512) : Fin 8192 :=
  ⟨n / 8 * 512 + r.val, by have hN : cfg0.N = 128 := N_0; have := r.isLt; omega⟩

theorem at_r (t : Fin cfg0.N) (i : S8x8192x704.Idx) (j : S1x512x704.Idx) (e0 : (i 0).val = t.val % 8 * 1 + 1 * (j 0).val)
    (e1 : (i 1).val = t.val / 8 * 512 + 1 * (j 1).val) (e2 : (i 2).val = 0 * 704 + 1 * (j 2).val) :
    i = ix3 (chunkOf t.val) (rowOf t.val t.isLt (j 1)) (j 2) :=
  funext fun a => Fin.ext (by
    have hj : (j 0).val < 1 := (j 0).isLt
    match a with
    | ⟨0, _⟩ => show (i 0).val = t.val % 8; omega
    | ⟨1, _⟩ => show (i 1).val = t.val / 8 * 512 + (j 1).val; omega
    | ⟨2, _⟩ => show (i 2).val = (j 2).val; omega)

theorem at_w (t : Fin cfg0.N) (i : S8x2048x704.Idx) (j : S1x2048x704.Idx) (e0 : (i 0).val = t.val % 8 * 1 + 1 * (j 0).val)
    (e1 : (i 1).val = 0 * 2048 + 1 * (j 1).val) (e2 : (i 2).val = 0 * 704 + 1 * (j 2).val) : i = ix3 (chunkOf t.val) (j 1) (j 2) :=
  funext fun a => Fin.ext (by
    have hj : (j 0).val < 1 := (j 0).isLt
    match a with
    | ⟨0, _⟩ => show (i 0).val = t.val % 8; omega
    | ⟨1, _⟩ => show (i 1).val = (j 1).val; omega
    | ⟨2, _⟩ => show (i 2).val = (j 2).val; omega)

theorem at_x (t : Fin cfg0.N) (i : S8192x2048.Idx) (j : S512x2048.Idx) (e0 : (i 0).val = t.val / 8 * 512 + 1 * (j 0).val)
    (e1 : (i 1).val = 0 * 2048 + 1 * (j 1).val) : i = ix2 (rowOf t.val t.isLt (j 0)) (j 1) :=
  funext fun a => Fin.ext (by
    match a with
    | ⟨0, _⟩ => show (i 0).val = t.val / 8 * 512 + (j 0).val; omega
    | ⟨1, _⟩ => show (i 1).val = (j 1).val; omega)

include h in
/-- The blocks of the products' factors. -/
theorem blocks (t : Fin cfg0.N) :
    iblk m c 0 t = (fun j : S1x512x704.Idx => ((rchunk A (ix3 (chunkOf t.val) (rowOf t.val t.isLt (j 1)) (j 2)) : ℝ) : EReal))
    ∧ iblk m c 1 t = (fun j : S1x2048x704.Idx => ((wchunk W (ix3 (chunkOf t.val) (j 1) (j 2)) : ℝ) : EReal))
    ∧ iblk m c 2 t = (fun j : S1x512x704.Idx => ((rchunk B (ix3 (chunkOf t.val) (rowOf t.val t.isLt (j 1)) (j 2)) : ℝ) : EReal))
    ∧ iblk m c 3 t = (fun j : S1x2048x704.Idx => ((wchunk V (ix3 (chunkOf t.val) (j 1) (j 2)) : ℝ) : EReal)) := by
  obtain ⟨v0, v1, v2, v3, -⟩ := host X G W V D A B m c h
  obtain ⟨⟨a0, b0, c0⟩, ⟨a1, b1, c1⟩, ⟨a2, b2, c2⟩, a3, b3, c3⟩ := index_chunk t
  refine ⟨?_, ?_, ?_, ?_⟩
  · funext j
    unfold iblk
    rw [View.read_apply]
    show Gen.V m c main_v1 _ = _
    rw [v0]
    exact congrArg (fun i => ((rchunk A i : ℝ) : EReal)) (at_r t _ j (congrArg (· * 1 + 1 * (j 0).val) a0) (congrArg (· * 512 + 1 * (j 1).val) b0)
      (congrArg (· * 704 + 1 * (j 2).val) c0))
  · funext j
    unfold iblk
    rw [View.read_apply]
    show Gen.V m c main_v5 _ = _
    rw [v1]
    exact congrArg (fun i => ((wchunk W i : ℝ) : EReal)) (at_w t _ j (congrArg (· * 1 + 1 * (j 0).val) a1) (congrArg (· * 2048 + 1 * (j 1).val) b1)
      (congrArg (· * 704 + 1 * (j 2).val) c1))
  · funext j
    unfold iblk
    rw [View.read_apply]
    show Gen.V m c main_v3 _ = _
    rw [v2]
    exact congrArg (fun i => ((rchunk B i : ℝ) : EReal)) (at_r t _ j (congrArg (· * 1 + 1 * (j 0).val) a2) (congrArg (· * 512 + 1 * (j 1).val) b2)
      (congrArg (· * 704 + 1 * (j 2).val) c2))
  · funext j
    unfold iblk
    rw [View.read_apply]
    show Gen.V m c main_v7 _ = _
    rw [v3]
    exact congrArg (fun i => ((wchunk V i : ℝ) : EReal)) (at_w t _ j (congrArg (· * 1 + 1 * (j 0).val) a3) (congrArg (· * 2048 + 1 * (j 1).val) b3)
      (congrArg (· * 704 + 1 * (j 2).val) c3))

include h in
/-- The blocks of the norm's argument, of the gain and of the residual path's cotangent. -/
theorem rblocks (t : Fin cfg0.N) :
    iblk m c 4 t = (fun j : S512x2048.Idx => ((X (ix2 (rowOf t.val t.isLt (j 0)) (j 1)) : ℝ) : EReal))
    ∧ iblk m c 5 t = (fun j : S1x2048.Idx => ((G (ix1 (j 1)) : ℝ) : EReal))
    ∧ iblk m c 6 t = (fun j : S512x2048.Idx => D (ix2 (rowOf t.val t.isLt (j 0)) (j 1))) := by
  obtain ⟨-, -, -, -, v5⟩ := host X G W V D A B m c h
  obtain ⟨⟨a4, b4⟩, ⟨a6, b6⟩, -⟩ := index_row t
  obtain ⟨⟨a5, b5⟩, -⟩ := index_stay t
  refine ⟨?_, ?_, ?_⟩
  · funext j
    unfold iblk
    rw [View.read_apply]
    show Gen.V m c main_arg0 _ = _
    rw [V_main_arg0, h.x]
    exact congrArg (fun i => ((X i : ℝ) : EReal)) (at_x t _ j (congrArg (· * 512 + 1 * (j 0).val) a4) (congrArg (· * 2048 + 1 * (j 1).val) b4))
  · funext j
    unfold iblk
    rw [View.read_apply]
    show Gen.V m c main_v8 _ = _
    rw [v5]
    refine congrArg (fun k => ((G (ix1 k) : ℝ) : EReal)) (Fin.ext ?_)
    show win0_5.index t 1 * 2048 + 1 * (j 1).val = (j 1).val
    rw [b5]; omega
  · funext j
    unfold iblk
    rw [View.read_apply]
    show Gen.V m c main_arg4 _ = _
    rw [V_main_arg4, h.d]
    exact congrArg D (at_x t _ j (congrArg (· * 512 + 1 * (j 0).val) a6) (congrArg (· * 2048 + 1 * (j 1).val) b6))

/-- The products point `n` adds. -/
theorem chunk_eq (n : ℕ) (s : Fin 8192) (j : Fin 2048) :
    (∑ k : Fin 704, rchunk A (ix3 (chunkOf n) s k) * wchunk W (ix3 (chunkOf n) j k)
      + ∑ k : Fin 704, rchunk B (ix3 (chunkOf n) s k) * wchunk V (ix3 (chunkOf n) j k)) = chunk W V A B s j (n % 8) := by
  rw [← Finset.sum_add_distrib]
  refine Finset.sum_congr rfl fun k _ => ?_
  rw [dif_pos (by have := k.isLt; omega)]
  rfl

/-- The scratch after point `n`, as real numbers. -/
def scr (n : ℕ) (hn : n < cfg0.N) (i : S512x2048.Idx) : ℝ := upto W V A B (n % 8 + 1) (rowOf n hn (i 0)) (i 1)

include h in
/-- The products of point `t` at an index of its block. -/
theorem prod (t : Fin cfg0.N) (r : Fin 512) (j : Fin 2048) :
    k0_pay1 (F := Ideal) (iblk m c 0 t) (iblk m c 1 t) (iblk m c 2 t) (iblk m c 3 t) (ix2 r j)
      = ((chunk W V A B (rowOf t.val t.isLt r) j (t.val % 8) : ℝ) : EReal) := by
  obtain ⟨b0, b1, b2, b3⟩ := blocks X G W V D A B m c h t
  rw [b0, b1, b2, b3]
  refine (pay1_apply _ _ _ _ r j).trans (congrArg Real.toEReal ?_)
  exact chunk_eq W V A B t.val _ j

/-- A later point's sum: the row block is the same and one more chunk is in. -/
theorem scr_succ (n : ℕ) (hn : n + 1 < cfg0.N) (h0 : ¬(n + 1) % 8 = 0) (i : S512x2048.Idx) :
    scr W V A B (n + 1) hn i = scr W V A B n (by omega) i + chunk W V A B (rowOf (n + 1) hn (i 0)) (i 1) ((n + 1) % 8) := by
  unfold scr upto
  have e : (n + 1) % 8 = n % 8 + 1 := by omega
  have er : rowOf n (by omega) (i 0) = rowOf (n + 1) hn (i 0) := Fin.ext (by show n / 8 * 512 + _ = (n + 1) / 8 * 512 + _; omega)
  rw [er, e, Finset.sum_range_succ]

include h in
theorem add_scr (n : ℕ) (hn : n + 1 < cfg0.N) (h0 : ¬(n + 1) % 8 = 0) :
    addf (F := Ideal) (φ := .f32) (fun i : S512x2048.Idx => ((scr W V A B n (by omega) i : ℝ) : EReal))
        (k0_pay1 (F := Ideal) (iblk m c 0 ⟨n + 1, hn⟩) (iblk m c 1 ⟨n + 1, hn⟩) (iblk m c 2 ⟨n + 1, hn⟩) (iblk m c 3 ⟨n + 1, hn⟩))
      = fun i => ((scr W V A B (n + 1) hn i : ℝ) : EReal) := by
  funext i
  idx_vars i
  rw [scr_succ W V A B n hn h0, EReal.coe_add]
  exact congrArg (((scr W V A B n (by omega) (ix2 i0 i1) : ℝ) : EReal) + ·) (prod X G W V D A B m c h ⟨n + 1, hn⟩ i0 i1)

include h in
/-- The scratch after point `n`, when it is not the block's last. -/
theorem scratch : ∀ (n : ℕ) (hn : n < cfg0.N), ¬n % 8 = 7 → (outsAt0 m c n hn).2.2 = fun i => ((scr W V A B n hn i : ℝ) : EReal)
  | n, hn, h7 => by
    by_cases h0 : n % 8 = 0
    · rw [show outsAt0 m c n hn = _ from outsAt0_A m c ⟨n, hn⟩ h0 (by dsimp only; omega) h7]
      dsimp only
      rw [sout_A]
      funext i
      idx_vars i
      refine (prod X G W V D A B m c h ⟨n, hn⟩ i0 i1).trans (congrArg Real.toEReal ?_)
      show chunk W V A B _ i1 (n % 8) = upto W V A B (n % 8 + 1) _ i1
      unfold upto
      rw [h0, Finset.sum_range_one]
      rfl
    · obtain ⟨k, rfl⟩ : ∃ k, n = k + 1 := ⟨n - 1, by omega⟩
      rw [show outsAt0 m c (k + 1) hn = _ from outsAt0_B m c ⟨k + 1, hn⟩ h0 (by dsimp only; omega) h7]
      dsimp only
      rw [sout_B]
      refine Eq.trans (congrArg (fun z => addf (F := Ideal) (φ := .f32) z _) (scratch k (by omega) (by omega))) ?_
      exact add_scr X G W V D A B m c h k hn h0

/-- At a block's last point the scratch would hold the whole cotangent. -/
theorem scr_last (n : ℕ) (hn : n < cfg0.N) (h7 : n % 8 = 7) (i : S512x2048.Idx) :
    scr W V A B n hn i = cot W V A B (rowOf n hn (i 0)) (i 1) := by
  unfold scr
  rw [h7]
  exact upto_all W V A B _ _

/-- The first result: the residual path's cotangent and the row gradient of every row. -/
def dx (i : S8192x2048.Idx) : EReal :=
  D (ix2 (i 0) (i 1)) + ((RowNorm.grad 2048 (fun k => X (ix2 (i 0) k)) (fun k => cot W V A B (i 0) k * G (ix1 k)) (i 1) : ℝ) : EReal)

/-- Row `r`'s part of the gain's gradient. -/
def part (r : Fin 8192) (j : Fin 2048) : ℝ := cot W V A B r j * X (ix2 r j) * RowNorm.scale 2048 (fun k => X (ix2 r k))

include h in
/-- The sum the last point of a block reads back. -/
theorem last (n : ℕ) (hn : n + 1 < cfg0.N) (h7 : (n + 1) % 8 = 7) :
    addf (F := Ideal) (φ := .f32) (outsAt0 m c n (by omega)).2.2
        (k0_pay1 (F := Ideal) (iblk m c 0 ⟨n + 1, hn⟩) (iblk m c 1 ⟨n + 1, hn⟩) (iblk m c 2 ⟨n + 1, hn⟩) (iblk m c 3 ⟨n + 1, hn⟩))
      = fun i : S512x2048.Idx => ((cot W V A B (rowOf (n + 1) hn (i 0)) (i 1) : ℝ) : EReal) := by
  rw [scratch X G W V D A B m c h n (by omega) (by omega), add_scr X G W V D A B m c h n hn (by omega)]
  exact funext fun i => congrArg Real.toEReal (scr_last W V A B (n + 1) hn h7 i)

include h in
/-- What the body leaves in the first output window at a block's last point. -/
theorem outs_7 (n : ℕ) (hn : n < cfg0.N) (h7 : n % 8 = 7) (r : Fin 512) (j : Fin 2048) :
    (outsAt0 m c n hn).1 (ix2 r j) = dx X G W V D A B (ix2 (rowOf n hn r) j) := by
  obtain ⟨k, rfl⟩ : ∃ k, n = k + 1 := ⟨n - 1, by omega⟩
  obtain ⟨b4, b5, b6⟩ := rblocks X G W V D A B m c h ⟨k + 1, hn⟩
  by_cases h8 : k + 1 < 8
  · rw [show outsAt0 m c (k + 1) hn = _ from outsAt0_C m c ⟨k + 1, hn⟩ (by dsimp only; omega) (by dsimp only; omega) h7 h8 (by dsimp only; omega)]
    dsimp only
    rw [b4, b5, b6]
    exact congrFun (out_C_7 (hT := last X G W V D A B m c h k hn h7) ..) (ix2 r j)
  · rw [show outsAt0 m c (k + 1) hn = _ from outsAt0_D m c ⟨k + 1, hn⟩ (by dsimp only; omega) (by dsimp only; omega) h7 h8 (by dsimp only; omega)]
    dsimp only
    rw [b4, b5, b6]
    exact congrFun (out_D_7 (hT := last X G W V D A B m c h k hn h7) ..) (ix2 r j)

/-- A block's part of the gain's gradient, in the rows of the array. -/
theorem gain_block (n : ℕ) (hn : n < cfg0.N) (j : Fin 2048) :
    gain (fun i => X (ix2 (rowOf n hn (i 0)) (i 1))) (fun i => cot W V A B (rowOf n hn (i 0)) (i 1)) j
      = ∑ r : Fin 512, if hs : n / 8 * 512 + r.val < 8192 then part X W V A B ⟨n / 8 * 512 + r.val, hs⟩ j else 0 :=
  Finset.sum_congr rfl fun r _ => by
    have hN : cfg0.N = 128 := N_0
    rw [dif_pos (by have := r.isLt; omega)]
    rfl

include h in
/-- What the body leaves in the second output window after point `n`, once a block is done: the blocks' parts so far. -/
theorem outs_8 : ∀ (n : ℕ) (hn : n < cfg0.N), 7 ≤ n → ∀ (z : Fin 1) (j : Fin 2048),
    (outsAt0 m c n hn).2.1 (ix2 z j)
      = ((∑ s ∈ Finset.range ((n + 1) / 8), ∑ r : Fin 512, (if hs : s * 512 + r.val < 8192 then part X W V A B ⟨s * 512 + r.val, hs⟩ j else 0) : ℝ) : EReal)
  | 0, _, h7, _, _ => absurd h7 (by norm_num)
  | k + 1, hn, hk, z, j => by
    by_cases h7 : (k + 1) % 8 = 7
    · obtain ⟨b4, b5, b6⟩ := rblocks X G W V D A B m c h ⟨k + 1, hn⟩
      have e : (k + 1 + 1) / 8 = (k + 1) / 8 + 1 := by omega
      by_cases h8 : k + 1 < 8
      · rw [show outsAt0 m c (k + 1) hn = _ from outsAt0_C m c ⟨k + 1, hn⟩ (by dsimp only; omega) (by dsimp only; omega) h7 h8 (by dsimp only; omega)]
        dsimp only
        rw [b4, b5, b6]
        refine (out_C_8 (hT := last X G W V D A B m c h k hn h7) ..).trans ?_
        refine congrArg Real.toEReal ((gain_block X W V A B (k + 1) hn j).trans ?_)
        rw [e, show (k + 1) / 8 = 0 by omega, Finset.sum_range_one]
      · rw [show outsAt0 m c (k + 1) hn = _ from outsAt0_D m c ⟨k + 1, hn⟩ (by dsimp only; omega) (by dsimp only; omega) h7 h8 (by dsimp only; omega)]
        dsimp only
        rw [b4, b5, b6, e, Finset.sum_range_succ, EReal.coe_add]
        refine (out_D_8 (hT := last X G W V D A B m c h k hn h7) ..).trans ?_
        refine congrArg₂ (· + ·) ((outs_8 k _ (by omega) z j).trans ?_) (congrArg Real.toEReal (gain_block X W V A B (k + 1) hn j))
        rfl
    · refine Eq.trans ?_ ((outs_8 k (by omega) (by omega) z j).trans ?_)
      · by_cases h0 : (k + 1) % 8 = 0
        · rw [show outsAt0 m c (k + 1) hn = _ from outsAt0_A m c ⟨k + 1, hn⟩ h0 (by dsimp only; omega) h7]
          rfl
        · rw [show outsAt0 m c (k + 1) hn = _ from outsAt0_B m c ⟨k + 1, hn⟩ h0 (by dsimp only; omega) h7]
          rfl
      · rw [show (k + 1 + 1) / 8 = (k + 1) / 8 by omega]

include h in
/-- The first result array. -/
theorem final_7 : (dats m 0 c).arrAt 7 cfg0.N = dx X G W V D A B := by
  have hN : cfg0.N = 128 := N_0
  refine (dats m 0 c).arrAt_eq_of_cover 7 _ (fun t hf => ?_) fun i => ?_
  · obtain ⟨-, -, ⟨e0, e1⟩⟩ := index_row t
    rw [Value.flushed7]
    funext j
    rw [View.read_apply]
    refine (show _ = (outsAt0 m c t.val t.isLt).1 (ix2 (j 0) (j 1)) from congrArg _ (eq_ix2 j)).trans
      ((outs_7 X G W V D A B m c h t.val t.isLt ((flush0_7 t).mp hf) (j 0) (j 1)).trans ?_)
    exact congrArg (dx X G W V D A B) (at_x t _ j (congrArg (· * 512 + 1 * (j 0).val) e0) (congrArg (· * 2048 + 1 * (j 1).val) e1)).symm
  · have h0 : (i 0 : Nat) < 8192 := (i 0).isLt
    have h1 : (i 1 : Nat) < 2048 := (i 1).isLt
    obtain ⟨t, ht⟩ : ∃ t : Fin cfg0.N, t.val = (i 0 : Nat) / 512 * 8 + 7 := ⟨⟨(i 0 : Nat) / 512 * 8 + 7, by omega⟩, rfl⟩
    refine ⟨t, (flush0_7 t).mpr (by omega), ?_⟩
    obtain ⟨-, -, ⟨e0, e1⟩⟩ := index_row t
    show i ∈ ((View.whole main_v9_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [e0]; omega
    | ⟨1, _⟩ => show win0_7.index t 1 * 2048 ≤ (i 1 : Nat) ∧ (i 1 : Nat) < win0_7.index t 1 * 2048 + 2048; rw [e1]; omega

include h in
/-- The second result array: the sum over all rows. -/
theorem final_8 : (dats m 0 c).arrAt 8 cfg0.N = fun i : S1x2048.Idx => ((∑ r : Fin 8192, part X W V A B r (i 1) : ℝ) : EReal) := by
  have hN : cfg0.N = 128 := N_0
  refine (dats m 0 c).arrAt_eq_of_cover 8 _ (fun t hf => ?_) fun i => ?_
  · obtain ⟨-, ⟨e0, e1⟩⟩ := index_stay t
    have h127 : t.val = 127 := by have := (flush0_8 t).mp hf; have := t.isLt; omega
    rw [Value.flushed8]
    funext j
    rw [View.read_apply]
    refine (show _ = (outsAt0 m c t.val t.isLt).2.1 (ix2 (j 0) (j 1)) from congrArg _ (eq_ix2 j)).trans
      ((outs_8 X G W V D A B m c h t.val t.isLt (by omega) (j 0) (j 1)).trans ?_)
    refine congrArg (Real.toEReal) ?_
    refine Eq.trans ?_ (Finset.sum_congr rfl fun r _ => congrArg (part X W V A B r) (show j 1 = _ from Fin.ext ?_))
    · rw [h127]
      exact (Cert.Reals.sum_blocks 16 512 8192 rfl (fun r => part X W V A B r (j 1))).symm
    · show (j 1).val = win0_8.index t 1 * 2048 + 1 * (j 1).val; rw [e1]; omega
  · have h0 : (i 0 : Nat) < 1 := (i 0).isLt
    have h1 : (i 1 : Nat) < 2048 := (i 1).isLt
    obtain ⟨t, ht⟩ : ∃ t : Fin cfg0.N, t.val = 127 := ⟨⟨127, by omega⟩, rfl⟩
    refine ⟨t, (flush0_8 t).mpr (by omega), ?_⟩
    obtain ⟨-, ⟨e0, e1⟩⟩ := index_stay t
    show i ∈ ((View.whole main_v9_1).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [e0]; omega
    | ⟨1, _⟩ => show win0_8.index t 1 * 2048 ≤ (i 1 : Nat) ∧ (i 1 : Nat) < win0_8.index t 1 * 2048 + 2048; rw [e1]; omega

end Cert.FfnDhIdeal.Result

end
-- ==== Proof.FfnDhRef.lean ====
/-
  The feed-forward norm's reference: what the derivative's transposed chain computes, element by element. The cotangent
  of the norm's value is the sum of two products; the first result is the residual path's cotangent plus the row
  gradient of every row, the second the sum over all rows of the gain's gradient.
-/
module

public import proofs.«01_k».proof.Proof.RowNorm
public import proofs.«01_k».proof.Proof.Gen.FfnDhRefIdeal.Run
public import proofs.«01_k».proof.Proof.Gen.FfnDhRefIdeal.Read

@[expose] public section

set_option maxRecDepth 16384

noncomputable section

namespace Cert.FfnDhRefIdeal.Result

open Cert.FfnDhRefIdeal Cert.FfnDhRefIdeal.Gen Cert.FfnDhRefIdeal.Read Idealize.ShloMosaic Idealize.ShloMosaic.TcCoe Cert.Reals

variable (X : S8192x2048.Idx → ℝ) (G : S2048.Idx → ℝ) (W V : S2048x5632.Idx → ℝ) (D : S8192x2048.Idx → EReal) (A B : S8192x5632.Idx → ℝ)

/-- The cotangent of the norm's value. -/
def cot (s : Fin 8192) (j : Fin 2048) : ℝ := ∑ n : Fin 5632, (A (ix2 s n) * W (ix2 j n) + B (ix2 s n) * V (ix2 j n))

theorem v22_apply (r : Fin 8192) (j : Fin 2048) :
    val_main_v22 (F := Ideal) (fun i => ((V i : ℝ) : EReal)) (fun i => ((B i : ℝ) : EReal)) (ix2 r j)
      = ((∑ n : Fin 5632, B (ix2 r n) * V (ix2 j n) : ℝ) : EReal) := by
  have el : ∀ k, lidx_main_v22 (ix2 r j) k = ix2 r k := fun k => funext fun a => match a with | ⟨0, _⟩ => rfl | ⟨1, _⟩ => rfl
  have er : ∀ k, ridx_main_v22 (ix2 r j) k = ix2 j k := fun k => funext fun a => match a with | ⟨0, _⟩ => rfl | ⟨1, _⟩ => rfl
  rw [val_main_v22_apply]
  refine Eq.trans ?_ (coe_sum _ _)
  refine Finset.sum_congr rfl fun k _ => ?_
  rw [el, er, EReal.coe_mul]
  rfl

theorem v23_apply (r : Fin 8192) (j : Fin 2048) :
    val_main_v23 (F := Ideal) (fun i => ((W i : ℝ) : EReal)) (fun i => ((A i : ℝ) : EReal)) (ix2 r j)
      = ((∑ n : Fin 5632, A (ix2 r n) * W (ix2 j n) : ℝ) : EReal) := by
  have el : ∀ k, lidx_main_v23 (ix2 r j) k = ix2 r k := fun k => funext fun a => match a with | ⟨0, _⟩ => rfl | ⟨1, _⟩ => rfl
  have er : ∀ k, ridx_main_v23 (ix2 r j) k = ix2 j k := fun k => funext fun a => match a with | ⟨0, _⟩ => rfl | ⟨1, _⟩ => rfl
  rw [val_main_v23_apply]
  refine Eq.trans ?_ (coe_sum _ _)
  refine Finset.sum_congr rfl fun k _ => ?_
  rw [el, er, EReal.coe_mul]
  rfl

theorem v24_apply (r : Fin 8192) (j : Fin 2048) :
    val_main_v24 (F := Ideal) (fun i => ((W i : ℝ) : EReal)) (fun i => ((V i : ℝ) : EReal)) (fun i => ((A i : ℝ) : EReal)) (fun i => ((B i : ℝ) : EReal)) (ix2 r j)
      = ((cot W V A B r j : ℝ) : EReal) := by
  rw [val_main_v24_apply, v22_apply, v23_apply]
  unfold cot
  rw [Finset.sum_add_distrib, add_comm (∑ n : Fin 5632, A (ix2 r n) * W (ix2 j n)), EReal.coe_add]
  rfl

/-- The mean of a row's squares plus the small number. -/
theorem v10_apply (r : Fin 8192) (z : Fin 1) :
    val_main_v10 (F := Ideal) (fun i => ((X i : ℝ) : EReal)) (ix2 r z) = ((RowNorm.meanSq 2048 (fun k => X (ix2 r k)) : ℝ) : EReal) := by
  pointwise [val_main_v10, val_main_v9, val_main_v8, val_main_v7, val_main_v6, val_main_v5, val_main_v4, val_main_cst_0, val_main_cst_1, val_main_cst]
  have h : (2048 : ℝ) ≠ 0 := by norm_num
  simp only [lit_2048, lit_eps, ← EReal.coe_mul, coe_sum, div_real _ h, ← EReal.coe_add]
  rfl

/-- Its reciprocal root. -/
theorem v11_apply (r : Fin 8192) (z : Fin 1) :
    val_main_v11 (F := Ideal) (fun i => ((X i : ℝ) : EReal)) (ix2 r z) = ((RowNorm.scale 2048 (fun k => X (ix2 r k)) : ℝ) : EReal) := by
  rw [val_main_v11_apply, v10_apply]
  exact rsqrt_real (RowNorm.meanSq_pos (by norm_num) _)

/-- The reciprocal root's derivative. -/
theorem v14_apply (r : Fin 8192) (z : Fin 1) :
    val_main_v14 (F := Ideal) (fun i => ((X i : ℝ) : EReal)) (ix2 r z)
      = ((-(1 / 2) * (RowNorm.scale 2048 (fun k => X (ix2 r k)) / RowNorm.meanSq 2048 (fun k => X (ix2 r k))) : ℝ) : EReal) := by
  rw [val_main_v14_apply, val_main_v12_apply, v10_apply, v11_apply]
  pointwise [val_main_v13, val_main_cst_2]
  simp only [lit_neg_half, div_real _ (RowNorm.meanSq_pos (by norm_num : (0 : ℝ) < 2048) _).ne', ← EReal.coe_mul]

/-- The first result. -/
theorem dx_apply (r : Fin 8192) (j : Fin 2048) :
    val_main_v45 (F := Ideal) (fun i => ((X i : ℝ) : EReal)) (fun i => ((G i : ℝ) : EReal)) (fun i => ((W i : ℝ) : EReal)) (fun i => ((V i : ℝ) : EReal)) D
        (fun i => ((A i : ℝ) : EReal)) (fun i => ((B i : ℝ) : EReal)) (ix2 r j)
      = D (ix2 r j) + ((RowNorm.grad 2048 (fun k => X (ix2 r k)) (fun k => cot W V A B r k * G (ix1 k)) j : ℝ) : EReal) := by
  pointwise [val_main_v45, val_main_v44, val_main_v43, val_main_v42, val_main_v41, val_main_v40, val_main_v39, val_main_v38,
    val_main_v37, val_main_v36, val_main_v35, val_main_v34, val_main_v33, val_main_v32, val_main_v31, val_main_v29, val_main_v28,
    val_main_v17, val_main_cst_5, val_main_cst_6, val_main_cst_7]
  have h : (2048 : ℝ) ≠ 0 := by norm_num
  simp only [lit_2048, v24_apply, v11_apply, v14_apply, ← EReal.coe_mul, coe_sum, div_real _ h, ← EReal.coe_add, Finset.univ_unique, Finset.sum_singleton, add_assoc]
  refine congrArg (fun u : ℝ => D (ix2 r j) + (u : EReal)) ?_
  rw [← add_assoc]
  exact RowNorm.vjp_eq (by norm_num) _ (fun k => cot W V A B r k * G (ix1 k)) j _ (Finset.sum_congr rfl fun k _ => mul_comm _ _)

/-- The second result: the sum over the rows. -/
theorem dg_apply (z : Fin 1) (j : Fin 2048) :
    val_main_v46 (F := Ideal) (fun i => ((X i : ℝ) : EReal)) (fun i => ((W i : ℝ) : EReal)) (fun i => ((V i : ℝ) : EReal))
        (fun i => ((A i : ℝ) : EReal)) (fun i => ((B i : ℝ) : EReal)) (ix2 z j)
      = ((∑ r : Fin 8192, cot W V A B r j * X (ix2 r j) * RowNorm.scale 2048 (fun k => X (ix2 r k)) : ℝ) : EReal) := by
  pointwise [val_main_v46, val_main_v30, val_main_v27, val_main_v26, val_main_v25, val_main_v16, val_main_v15, val_main_cst_3, val_main_cst_4]
  simp only [v24_apply, v11_apply, ← EReal.coe_mul, coe_sum, ← EReal.coe_add, Finset.univ_unique, Finset.sum_singleton]
  exact congrArg Real.toEReal (Finset.sum_congr rfl fun r _ => by ring)

end Cert.FfnDhRefIdeal.Result

end
-- ==== Proof.FfnDhClaim.lean ====
/-
  The feed-forward norm's backward kernel: its claims. The frames are the generated ones; the equation sets the kernel's
  two arrays beside the reference's two results, where the norm's argument, the gain and the products' factors are
  finite. The residual path's cotangent is only added and may be infinite.
-/
module

public import proofs.«01_k».proof.Defs
public import proofs.«01_k».proof.Proof.FfnDhValue
public import proofs.«01_k».proof.Proof.FfnDhRef
public import proofs.«01_k».proof.Proof.Gen.FfnDh.Frame
public import proofs.«01_k».proof.Proof.Gen.Pre_ffn_dh_finite
public import Idealize.ShloMosaic.Lib.Quiescent

@[expose] public section

set_option maxRecDepth 16384

noncomputable section

namespace Cert.Proof.FfnDh

open Idealize.ShloMosaic Idealize.ShloMosaic.TcCoe Idealize.SL.Sem Cert.Reals

/-- The reference ends with its arguments unchanged and its counters at zero. -/
theorem frame_ref : Cert.quiescent_FfnDhRefIdeal := fun m g _ =>
  (θ_run Cert.FfnDhRefIdeal.defs _ _).mono
    (fun r h => ⟨fun c => (h c).2.2, Idealize.ShloMosaic.sem_eq_zero_of_no_sems (by decide) r.2⟩) (Cert.FfnDhRefIdeal.Value.run (F := Ideal) m g)

/-- The kernel's two arrays are the reference's two results. -/
theorem algebraic : Cert.algebraic_FfnDhIdeal_FfnDhRefIdeal_pre_ffn_dh_finite := by
  intro m g m' g' hpre hagree
  refine ⟨_, _, Cert.FfnDhIdeal.Value.run_blocks (F := Ideal) m g, ?_⟩
  refine (θ_run Cert.FfnDhRefIdeal.defs _ _).mono (fun r h c => ⟨(h c).1.trans ?_, (h c).2.1.trans ?_, (h c).2.2⟩)
    (Cert.FfnDhRefIdeal.Value.run (F := Ideal) m' g')
  all_goals
    obtain ⟨p0, p1, p2, p3, p5, p6⟩ := hpre c
    obtain ⟨X, hX⟩ := real_of_test _ _ lit_inf _ p0
    obtain ⟨G, hG⟩ := real_of_test _ _ lit_inf _ p1
    obtain ⟨W, hW⟩ := real_of_test _ _ lit_inf16 _ p2
    obtain ⟨V, hV⟩ := real_of_test _ _ lit_inf16 _ p3
    obtain ⟨A, hA⟩ := real_of_test _ _ lit_inf16 _ p5
    obtain ⟨B, hB⟩ := real_of_test _ _ lit_inf16 _ p6
    obtain ⟨a0, a1, a2, a3, a4, a5, a6⟩ := hagree c
  · rw [Cert.FfnDhIdeal.Result.final_7 X G W V _ A B m c ⟨hX, hG, hW, hV, rfl, hA, hB⟩, Cert.FfnDhRefIdeal.Read.val_main_v45_eq, a0, a1, a2, a3, a4, a5, a6,
      hX, hG, hW, hV, hA, hB]
    funext i
    idx_vars i
    exact Cert.FfnDhRefIdeal.Result.dx_apply X G W V _ A B _ _
  · rw [Cert.FfnDhIdeal.Result.final_8 X G W V _ A B m c ⟨hX, hG, hW, hV, rfl, hA, hB⟩, Cert.FfnDhRefIdeal.Read.val_main_v46_eq, a0, a2, a3, a5, a6,
      hX, hW, hV, hA, hB]
    funext i
    idx_vars i
    exact Cert.FfnDhRefIdeal.Result.dg_apply X W V A B _ _

end Cert.Proof.FfnDh

end
-- ==== Proof.Rope.lean ====
/-
  The transposed rotary embedding of a row of 128 lanes, as the kernels write it: every lane times its cosine, minus the
  row turned by half the rotated width times the sines. Lanes beyond the rotated width have the sine zero.
-/
module

public import proofs.«01_k».proof.Proof.Reals

@[expose] public section

noncomputable section

namespace Cert.Rope

open Idealize.ShloMosaic

/-- The transposed rotation of a row `x` with cosines `c` and sines `s`, over twice `hw` lanes. -/
def turn (hw : ℕ) (c s x : Fin 128 → EReal) (l : Fin 128) : EReal :=
  x l * c l - (if l.val < hw then 0 - x ⟨(l.val + hw) % 128, Nat.mod_lt _ (by norm_num)⟩ else x ⟨(l.val + (128 - hw)) % 128, Nat.mod_lt _ (by norm_num)⟩) * s l

/-- The rotation of equal rows at equal lanes. -/
theorem turn_congr (hw : ℕ) {c c' s s' x x' : Fin 128 → EReal} {l l' : Fin 128} (hc : c = c') (hs : s = s') (hx : x = x') (hl : l = l') :
    turn hw c s x l = turn hw c' s' x' l' := by
  subst hc hs hx hl
  rfl

/-- The integer zero as a float. -/
theorem pad_zero : FloatOps.sitofp (F := Ideal) FTy.f32 0#32 = (0 : EReal) := by
  show ((BitVec.toInt 0#32 : ℝ) : EReal) = 0
  norm_num

/-- The angle of position `p` in pair `j`, for a base and a width given by their words. -/
def angle (θ w : BitVec 32) (p : BitVec 32) (j : ℕ) : EReal :=
  FloatOps.sitofp (F := Ideal) FTy.f32 p
    * Ideal.pow (Ideal.ofBits FTy.f32 θ)
        (Ideal.div (-(Ideal.ofBits FTy.f32 1073741824#32 * FloatOps.sitofp (F := Ideal) FTy.f32 (BitVec.ofNat 32 j))) (Ideal.ofBits FTy.f32 w))

/-- A row of a table: `f` over the pairs twice, then zeros. -/
def table (hw : ℕ) (f : ℕ → EReal) (l : Fin 128) : EReal :=
  if l.val < hw then f l.val else if l.val - hw < hw then f (l.val - hw) else 0

/-- The rotation on the first half of the rotated lanes … -/
theorem turn_low (hw : ℕ) (hh : 2 * hw ≤ 128) (f g : ℕ → EReal) (x : Fin 128 → EReal) (l : Fin 128) (h : l.val < hw) :
    turn hw (table hw f) (table hw g) x l = x ⟨l.val + hw, by omega⟩ * g l.val + x l * f l.val := by
  unfold turn table
  rw [if_pos h, if_pos h, if_pos h, show (⟨(l.val + hw) % 128, Nat.mod_lt _ (by norm_num)⟩ : Fin 128) = ⟨l.val + hw, by omega⟩ from
    Fin.ext (Nat.mod_eq_of_lt (by omega)), sub_eq_add_neg, sub_eq_add_neg, zero_add, EReal.neg_mul, neg_neg, add_comm]

/-- … on the second half … -/
theorem turn_high (hw : ℕ) (hh : 2 * hw ≤ 128) (f g : ℕ → EReal) (x : Fin 128 → EReal) (l : Fin 128) (h : hw ≤ l.val) (h' : l.val - hw < hw) :
    turn hw (table hw f) (table hw g) x l = x l * f (l.val - hw) + -x ⟨l.val - hw, by omega⟩ * g (l.val - hw) := by
  have hl := l.isLt
  unfold turn table
  rw [if_neg (show ¬ l.val < hw by omega), if_neg (show ¬ l.val < hw by omega), if_neg (show ¬ l.val < hw by omega), if_pos h', if_pos h',
    show (⟨(l.val + (128 - hw)) % 128, Nat.mod_lt _ (by norm_num)⟩ : Fin 128) = ⟨l.val - hw, by omega⟩ from Fin.ext (by show (l.val + (128 - hw)) % 128 = l.val - hw; omega),
    sub_eq_add_neg, EReal.neg_mul]

/-- … and beyond them. -/
theorem turn_rest (hw : ℕ) (f g : ℕ → EReal) (x : Fin 128 → EReal) (l : Fin 128) (h : hw ≤ l.val) (h' : hw ≤ l.val - hw) :
    turn hw (table hw f) (table hw g) x l = 0 := by
  unfold turn table
  simp only [if_neg (show ¬ l.val < hw by omega), if_neg (show ¬ l.val - hw < hw by omega)]
  rw [mul_zero, mul_zero, sub_zero]

end Cert.Rope

end
-- ==== Proof.QkFinBlock.lean ====
/-
  The rotary backward kernel, one block of 256 rows: what its body leaves in the three output blocks. The first takes
  every head's 256 columns to the same columns, the first 128 unchanged and the last 128 through the transposed
  rotation; the second takes the first 128 columns of every head's keys side by side, and the values after them; the
  third rotates the sum over the heads of the last 128 columns of the keys.
-/
module

public import proofs.«01_k».proof.Proof.Rope
public import proofs.«01_k».proof.Proof.Gen.QkFinIdeal.Value

@[expose] public section

set_option maxRecDepth 16384

noncomputable section

namespace Cert.QkFinIdeal.Block

open Cert.QkFinIdeal Cert.QkFinIdeal.Gen Idealize.ShloMosaic Cert.Reals

/-- The kernel's test for the lanes of the first half. -/
theorem first_half (l : Fin 128) : IntOp.cmpi .slt (BitVec.ofNat 32 l.val) 32#32 = if l.val < 32 then 1#1 else 0#1 := by
  revert l; decide +kernel

/-- The kernel's rotation of a row, its two turned rows chosen by the lane's half. -/
theorem select_turn (c s x : Fin 128 → EReal) (l : Fin 128) :
    x l * c l - Scalar.select (IntOp.cmpi .slt (BitVec.ofNat 32 l.val) 32#32)
        (0 - x ⟨(l.val + 128 - 96) % 128, Nat.mod_lt _ (by norm_num)⟩) (x ⟨(l.val + 128 - 32) % 128, Nat.mod_lt _ (by norm_num)⟩) * s l
      = Rope.turn 32 c s x l := by
  unfold Rope.turn
  rw [first_half]
  by_cases h : l.val < 32
  · rw [if_pos h, if_pos h]
    refine congrArg (fun k => _ - (0 - x k) * _) (Fin.ext ?_)
    show (l.val + 128 - 96) % 128 = (l.val + 32) % 128
    omega
  · rw [if_neg h, if_neg h]
    refine congrArg (fun k => _ - x k * _) (Fin.ext ?_)
    show (l.val + 128 - 32) % 128 = (l.val + (128 - 32)) % 128
    omega

/-- The kernel's rotation of one head's block is the transposed rotation of every row. -/
theorem pay4_apply (C S X : S256x128.Idx → EReal) (r : Fin 256) (l : Fin 128) :
    k0_pay4 (F := Ideal) C S X (ix2 r l) = Rope.turn 32 (fun l => C (ix2 r l)) (fun l => S (ix2 r l)) (fun l => X (ix2 r l)) l := by
  unfold_payloads
  pointwise
  exact select_turn (fun l => C (ix2 r l)) (fun l => S (ix2 r l)) (fun l => X (ix2 r l)) l

/-- Column `128 · (q / 128) + l`: lane `l` of the 128 columns that hold column `q`. -/
def lane (q : Fin 2048) (l : Fin 128) : Fin 2048 := ⟨q.val / 128 * 128 + l.val, by have := q.isLt; have := l.isLt; omega⟩

/-- The lane of a column. -/
def laneOf (q : Fin 2048) : Fin 128 := ⟨q.val % 128, Nat.mod_lt _ (by norm_num)⟩

/-- Column `128 + l` of head `h`: lane `l` of its rotated part. -/
def rot (h : Fin 8) (l : Fin 128) : Fin 2048 := ⟨h.val * 256 + 128 + l.val, by have := h.isLt; have := l.isLt; omega⟩

/-- One row of the first result. -/
def rowQ (c s : Fin 128 → EReal) (x : Fin 2048 → EReal) (q : Fin 2048) : EReal :=
  if q.val % 256 < 128 then x q else Rope.turn 32 c s (fun l => x (lane q l)) (laneOf q)

/-- One row of the second result. -/
def rowK (x : Fin 2048 → EReal) (v : Fin 1024 → EReal) (q : Fin 2048) : EReal :=
  if h : q.val < 1024 then x ⟨q.val / 128 * 256 + q.val % 128, by omega⟩ else v ⟨q.val - 1024, by have := q.isLt; omega⟩

/-- One row of the third result. -/
def rowR (c s : Fin 128 → EReal) (x : Fin 2048 → EReal) : Fin 128 → EReal :=
  Rope.turn 32 c s fun l => ∑ h : Fin 8, x (rot h l)

/-- The first block. -/
def blockQ (C S : S256x128.Idx → EReal) (X : S256x2048.Idx → EReal) (y : S256x2048.Idx) : EReal :=
  rowQ (fun l => C (ix2 (y 0) l)) (fun l => S (ix2 (y 0) l)) (fun q => X (ix2 (y 0) q)) (y 1)

/-- The second block. -/
def blockK (X : S256x2048.Idx → EReal) (V : S256x1024.Idx → EReal) (y : S256x2048.Idx) : EReal :=
  rowK (fun q => X (ix2 (y 0) q)) (fun q => V (ix2 (y 0) q)) (y 1)

/-- A copy of a block of 128 columns. -/
theorem pay3_eq (X : S256x128.Idx → EReal) : k0_pay3 (F := Ideal) X = X := by
  unfold k0_pay3
  rw [shapeCast_self]
  rfl

/-- A copy of the values' block. -/
theorem pay40_eq (X : S256x1024.Idx → EReal) : k0_pay40 (F := Ideal) X = X := by
  unfold k0_pay40
  rw [shapeCast_self]

/-- A block written in pieces holds `G` when every piece does. -/
theorem canon_eq {S : Shape} (G : S.Idx → EReal) (L : List (Σ r : Rect S, r.shape.Idx → EReal)) (hL : ∀ p ∈ L, ∀ x, p.2 x = G (p.1.emb x))
    (hc : ∀ y, ∃ p ∈ L, y ∈ p.1.set) : View.canon (Val := Elt Ideal) (e := .f32) L = G :=
  funext fun y => View.canon_apply_of_pieces (Val := Elt Ideal) (e := .f32) G L hL y (hc y)

/-- Where a piece of 128 columns lies. -/
theorem emb_cols (o : ℕ) (ho : o + 128 ≤ 2048) (inb) (r : Fin 256) (l : Fin 128) :
    (Rect.unit (s := S256x2048) ![0, o] ![256, 128] inb).emb (ix2 r l) = ix2 r (⟨o + l.val, by have := l.isLt; omega⟩ : Fin 2048) :=
  funext fun a => Fin.ext (by
    match a with
    | ⟨0, _⟩ => show 0 + 1 * r.val = r.val; omega
    | ⟨1, _⟩ => show o + 1 * l.val = o + l.val; omega)

/-- A head's first 128 columns of the first block. -/
theorem piece_same (C S : S256x128.Idx → EReal) (X : S256x2048.Idx → EReal) (o : ℕ) (ho : o + 128 ≤ 2048 ∧ o % 256 = 0) (inb) (x : S256x128.Idx) :
    k0_pay3 (F := Ideal) (fun x => X ((Rect.unit (s := S256x2048) ![0, o] ![256, 128] inb).emb x)) x
      = blockQ C S X ((Rect.unit (s := S256x2048) ![0, o] ![256, 128] inb).emb x) := by
  obtain ⟨r, l, rfl⟩ : ∃ (r : Fin 256) (l : Fin 128), x = ix2 r l := ⟨x 0, x 1, eq_ix2 x⟩
  have hl := l.isLt
  rw [pay3_eq, emb_cols o ho.1]
  refine (if_pos ?_).symm
  show (o + l.val) % 256 < 128
  omega

/-- A head's last 128 columns of the first block. -/
theorem piece_turn (C S : S256x128.Idx → EReal) (X : S256x2048.Idx → EReal) (o : ℕ) (ho : o + 128 ≤ 2048 ∧ o % 256 = 128) (inb) (x : S256x128.Idx) :
    k0_pay4 (F := Ideal) C S (fun x => X ((Rect.unit (s := S256x2048) ![0, o] ![256, 128] inb).emb x)) x
      = blockQ C S X ((Rect.unit (s := S256x2048) ![0, o] ![256, 128] inb).emb x) := by
  obtain ⟨r, l, rfl⟩ : ∃ (r : Fin 256) (l : Fin 128), x = ix2 r l := ⟨x 0, x 1, eq_ix2 x⟩
  have hl := l.isLt
  rw [pay4_apply, emb_cols o ho.1]
  refine Eq.trans ?_ (if_neg ?_).symm
  · refine congrArg₂ (Rope.turn 32 _ _) (funext fun k => ?_) (Fin.ext ?_)
    · rw [emb_cols o ho.1]
      refine congrArg (fun q => X (ix2 r q)) (Fin.ext ?_)
      show o + k.val = (o + l.val) / 128 * 128 + k.val
      have := k.isLt
      omega
    · show l.val = (o + l.val) % 128
      omega
  · show ¬ (o + l.val) % 256 < 128
    omega

/-- A head's 128 columns of the second block. -/
theorem piece_key (X : S256x2048.Idx → EReal) (V : S256x1024.Idx → EReal) (o o' : ℕ) (ho : o + 128 ≤ 1024 ∧ o % 128 = 0 ∧ o' = 2 * o) (inb inb')
    (x : S256x128.Idx) :
    k0_pay3 (F := Ideal) (fun x => X ((Rect.unit (s := S256x2048) ![0, o'] ![256, 128] inb').emb x)) x = blockK X V ((Rect.unit (s := S256x2048) ![0, o] ![256, 128] inb).emb x) := by
  obtain ⟨r, l, rfl⟩ : ∃ (r : Fin 256) (l : Fin 128), x = ix2 r l := ⟨x 0, x 1, eq_ix2 x⟩
  have hl := l.isLt
  rw [pay3_eq, emb_cols o (by omega), emb_cols o' (by omega)]
  refine Eq.trans ?_ (dif_pos (show o + l.val < 1024 by omega)).symm
  refine congrArg (fun q => X (ix2 r q)) (Fin.ext ?_)
  show o' + l.val = (o + l.val) / 128 * 256 + (o + l.val) % 128
  omega

/-- The values' columns of the second block. -/
theorem piece_value (X : S256x2048.Idx → EReal) (V : S256x1024.Idx → EReal) (inb) (x : S256x1024.Idx) :
    k0_pay40 (F := Ideal) V x = blockK X V ((Rect.unit (s := S256x2048) ![0, 1024] ![256, 1024] inb).emb x) := by
  have e : (Rect.unit (s := S256x2048) ![0, 1024] ![256, 1024] inb).emb x
      = ix2 (x 0 : Fin 256) (⟨1024 + (x 1).val, by have : (x 1).val < 1024 := (x 1).isLt; omega⟩ : Fin 2048) :=
    funext fun a => Fin.ext (by
      match a with
      | ⟨0, _⟩ => show 0 + 1 * (x 0).val = (x 0).val; omega
      | ⟨1, _⟩ => show 1024 + 1 * (x 1).val = 1024 + (x 1).val; omega)
  rw [pay40_eq, e]
  refine Eq.trans ?_ (dif_neg (show ¬ 1024 + (x 1).val < 1024 by omega)).symm
  refine congrArg V (funext fun a => Fin.ext ?_)
  match a with
  | ⟨0, _⟩ => rfl
  | ⟨1, _⟩ => show (x 1).val = 1024 + (x 1).val - 1024; omega

variable (c : Dev nD) (i : grid0.Coords) (a1 : Memref sig .tc .vmem S256x2048 .f32) (h1 : a1.IsWhole)
  (a2 : Memref sig .tc .vmem S256x2048 .f32) (h2 : a2.IsWhole) (a3 : Memref sig .tc .vmem S256x1024 .bf16) (h3 : a3.IsWhole)
  (a4 : Memref sig .tc .vmem S256x128 .f32) (h4 : a4.IsWhole) (a5 : Memref sig .tc .vmem S256x128 .f32) (h5 : a5.IsWhole)
  (a6 : Memref sig .tc .vmem S256x2048 .bf16) (h6 : a6.IsWhole) (a7 : Memref sig .tc .vmem S256x2048 .bf16) (h7 : a7.IsWhole)
  (a8 : Memref sig .tc .vmem S256x128 .f32) (h8 : a8.IsWhole)
  (x0 x1 : Vec Ideal S256x2048 .f32) (x2 : Vec Ideal S256x1024 .bf16) (x3 x4 : Vec Ideal S256x128 .f32)

/-- The first output block. -/
theorem out_5 : out0_A_5 c i a1 h1 a2 h2 a3 h3 a4 h4 a5 h5 a6 h6 a7 h7 a8 h8 x0 x1 x2 x3 x4 = blockQ x3 x4 x0 := by
  unfold out0_A_5
  have hc := cover0_A_5 c i a1 h1 a2 h2 a3 h3 a4 h4 a5 h5 a6 h6 a7 h7 a8 h8 x0 x1 x2 x3 x4
  rw [View.read_writes_eq_canon _ _ _ hc]
  refine canon_eq (blockQ x3 x4 x0) _ ?_ hc
  unfold kernelRun0_A
  dsimp only
  sl_unfold_words
  simp only [View.readAt_eq_ld, h1.read_unread, h4.read_unread, h5.read_unread, View.ld_unit_zero (S := S256x128) hz2,
    List.forall_mem_cons, List.not_mem_nil, false_implies, implies_true, and_true]
  exact ⟨piece_turn x3 x4 x0 1920 (by decide) _,
    piece_same x3 x4 x0 1792 (by decide) _,
    piece_turn x3 x4 x0 1664 (by decide) _,
    piece_same x3 x4 x0 1536 (by decide) _,
    piece_turn x3 x4 x0 1408 (by decide) _,
    piece_same x3 x4 x0 1280 (by decide) _,
    piece_turn x3 x4 x0 1152 (by decide) _,
    piece_same x3 x4 x0 1024 (by decide) _,
    piece_turn x3 x4 x0 896 (by decide) _,
    piece_same x3 x4 x0 768 (by decide) _,
    piece_turn x3 x4 x0 640 (by decide) _,
    piece_same x3 x4 x0 512 (by decide) _,
    piece_turn x3 x4 x0 384 (by decide) _,
    piece_same x3 x4 x0 256 (by decide) _,
    piece_turn x3 x4 x0 128 (by decide) _,
    piece_same x3 x4 x0 0 (by decide) _⟩

/-- The second output block. -/
theorem out_6 : out0_A_6 c i a1 h1 a2 h2 a3 h3 a4 h4 a5 h5 a6 h6 a7 h7 a8 h8 x0 x1 x2 x3 x4 = blockK x1 x2 := by
  unfold out0_A_6
  have hc := cover0_A_6 c i a1 h1 a2 h2 a3 h3 a4 h4 a5 h5 a6 h6 a7 h7 a8 h8 x0 x1 x2 x3 x4
  rw [View.read_writes_eq_canon _ _ _ hc]
  refine canon_eq (blockK x1 x2) _ ?_ hc
  unfold kernelRun0_A
  dsimp only
  sl_unfold_words
  simp only [View.readAt_eq_ld, h2.read_unread, h3.read_unread, View.ld_unit_zero (S := S256x1024) hz2,
    List.forall_mem_cons, List.not_mem_nil, false_implies, implies_true, and_true]
  exact ⟨piece_value x1 x2 _, piece_key x1 x2 896 1792 (by decide) _ _,
    piece_key x1 x2 768 1536 (by decide) _ _,
    piece_key x1 x2 640 1280 (by decide) _ _,
    piece_key x1 x2 512 1024 (by decide) _ _,
    piece_key x1 x2 384 768 (by decide) _ _,
    piece_key x1 x2 256 512 (by decide) _ _,
    piece_key x1 x2 128 256 (by decide) _ _,
    piece_key x1 x2 0 0 (by decide) _ _⟩

/-- The third output block. -/
theorem out_7 : out0_A_7 c i a1 h1 a2 h2 a3 h3 a4 h4 a5 h5 a6 h6 a7 h7 a8 h8 x0 x1 x2 x3 x4
    = fun y : S256x128.Idx => rowR (fun l => x3 (ix2 (y 0) l)) (fun l => x4 (ix2 (y 0) l)) (fun q => x1 (ix2 (y 0) q)) (y 1) := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  sl_unfold_words
  rw [View.canon_unit_zero hz2]
  simp only [View.readAt_eq_ld, h2.read_unread, h4.read_unread, h5.read_unread, View.ld_unit_zero (S := S256x128) hz2]
  funext y
  obtain ⟨r, l, rfl⟩ : ∃ (r : Fin 256) (l : Fin 128), y = ix2 r l := ⟨y 0, y 1, eq_ix2 y⟩
  unfold_payloads
  pointwise
  refine Eq.trans ?_ (select_turn _ _ _ l)
  simp only [Fin.sum_univ_eight]
  rfl

end Cert.QkFinIdeal.Block

end
-- ==== Proof.QkFinValue.lean ====
/-
  The rotary backward kernel, the arrays: the blocks of 256 rows fill the three results, so every row of them is what
  the body makes of the same row of the arrays the host prepared.
-/
module

public import proofs.«01_k».proof.Proof.QkFinBlock

@[expose] public section

set_option maxRecDepth 16384

noncomputable section

namespace Cert.QkFinIdeal.Result

open Cert.QkFinIdeal Cert.QkFinIdeal.Gen Cert.QkFinIdeal.Block Idealize.ShloMosaic Idealize.ShloMosaic.TcCoe Idealize.SL.Sem Cert.Reals
open Idealize.ShloMosaic.Pipeline (Dat)

variable (m : (ℓ : Loc nD τ sig) → Buf (Elt Ideal) ℓ) (c : Dev nD)

/-- The rows the host prepared: the first two cotangents, every head in 256 columns … -/
def inQ : S8192x2048.Idx → EReal := V m c main_v2
@[inherit_doc inQ] def inK : S8192x2048.Idx → EReal := V m c main_v5
/-- … the values' cotangent … -/
def inV : S8192x1024.Idx → EReal := V m c main_v6
/-- … and the tables of cosines and sines. -/
def cosT : S8192x128.Idx → EReal := V m c main_v43
@[inherit_doc cosT] def sinT : S8192x128.Idx → EReal := V m c main_v45

/-- Row `r` of block `n`, as a row of the array. -/
def rowOf (n : Fin cfg0.N) (r : Fin 256) : Fin 8192 :=
  ⟨n.val * 256 + r.val, by have hN : cfg0.N = 32 := N_0; have := n.isLt; have := r.isLt; omega⟩

/-- The windows move by one block a point. -/
theorem index_in : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := by decide +kernel

@[inherit_doc index_in]
theorem index_out : ∀ t : Fin cfg0.N, (win0_5.index t 0 = t.val ∧ win0_5.index t 1 = 0) ∧ (win0_6.index t 0 = t.val ∧ win0_6.index t 1 = 0)
    ∧ (win0_7.index t 0 = t.val ∧ win0_7.index t 1 = 0) := by decide +kernel

/-- Window 0's block. -/
theorem iblk0 (t : Fin cfg0.N) : iblk m c 0 t = fun j : S256x2048.Idx => inQ m c (ix2 (rowOf t (j 0)) (j 1)) := by
  obtain ⟨⟨e0, e1⟩, -⟩ := index_in t
  funext j
  unfold iblk
  rw [View.read_apply]
  refine congrArg (inQ m c) (funext fun a => Fin.ext ?_)
  match a with
  | ⟨0, _⟩ => show win0_0.index t 0 * 256 + 1 * (j 0).val = t.val * 256 + (j 0).val; rw [e0]; omega
  | ⟨1, _⟩ => show win0_0.index t 1 * 2048 + 1 * (j 1).val = (j 1).val; rw [e1]; omega

/-- Window 1's block. -/
theorem iblk1 (t : Fin cfg0.N) : iblk m c 1 t = fun j : S256x2048.Idx => inK m c (ix2 (rowOf t (j 0)) (j 1)) := by
  obtain ⟨-, ⟨e0, e1⟩, -⟩ := index_in t
  funext j
  unfold iblk
  rw [View.read_apply]
  refine congrArg (inK m c) (funext fun a => Fin.ext ?_)
  match a with
  | ⟨0, _⟩ => show win0_1.index t 0 * 256 + 1 * (j 0).val = t.val * 256 + (j 0).val; rw [e0]; omega
  | ⟨1, _⟩ => show win0_1.index t 1 * 2048 + 1 * (j 1).val = (j 1).val; rw [e1]; omega

/-- Window 2's block. -/
theorem iblk2 (t : Fin cfg0.N) : iblk m c 2 t = fun j : S256x1024.Idx => inV m c (ix2 (rowOf t (j 0)) (j 1)) := by
  obtain ⟨-, -, ⟨e0, e1⟩, -⟩ := index_in t
  funext j
  unfold iblk
  rw [View.read_apply]
  refine congrArg (inV m c) (funext fun a => Fin.ext ?_)
  match a with
  | ⟨0, _⟩ => show win0_2.index t 0 * 256 + 1 * (j 0).val = t.val * 256 + (j 0).val; rw [e0]; omega
  | ⟨1, _⟩ => show win0_2.index t 1 * 1024 + 1 * (j 1).val = (j 1).val; rw [e1]; omega

/-- Window 3's block. -/
theorem iblk3 (t : Fin cfg0.N) : iblk m c 3 t = fun j : S256x128.Idx => cosT m c (ix2 (rowOf t (j 0)) (j 1)) := by
  obtain ⟨-, -, -, ⟨e0, e1⟩, -⟩ := index_in t
  funext j
  unfold iblk
  rw [View.read_apply]
  refine congrArg (cosT m c) (funext fun a => Fin.ext ?_)
  match a with
  | ⟨0, _⟩ => show win0_3.index t 0 * 256 + 1 * (j 0).val = t.val * 256 + (j 0).val; rw [e0]; omega
  | ⟨1, _⟩ => show win0_3.index t 1 * 128 + 1 * (j 1).val = (j 1).val; rw [e1]; omega

/-- Window 4's block. -/
theorem iblk4 (t : Fin cfg0.N) : iblk m c 4 t = fun j : S256x128.Idx => sinT m c (ix2 (rowOf t (j 0)) (j 1)) := by
  obtain ⟨-, -, -, -, ⟨e0, e1⟩⟩ := index_in t
  funext j
  unfold iblk
  rw [View.read_apply]
  refine congrArg (sinT m c) (funext fun a => Fin.ext ?_)
  match a with
  | ⟨0, _⟩ => show win0_4.index t 0 * 256 + 1 * (j 0).val = t.val * 256 + (j 0).val; rw [e0]; omega
  | ⟨1, _⟩ => show win0_4.index t 1 * 128 + 1 * (j 1).val = (j 1).val; rw [e1]; omega

/-- The first result. -/
def arrQ (i : S8192x2048.Idx) : EReal :=
  rowQ (fun l => cosT m c (ix2 (i 0) l)) (fun l => sinT m c (ix2 (i 0) l)) (fun q => inQ m c (ix2 (i 0) q)) (i 1)

/-- What the body leaves in the first output window at any point. -/
theorem outs_5 (t : Fin cfg0.N) (r : Fin 256) (j : Fin 2048) : (outsAt0 m c t).1 (ix2 r j) = arrQ m c (ix2 (rowOf t r) j) := by
  unfold outsAt0
  dsimp only
  rw [out_5, iblk0, iblk3, iblk4]
  rfl

/-- The first result array. -/
theorem final_5 : (dats m 0 c).arrAt 5 cfg0.N = arrQ m c := by
  have hN : cfg0.N = 32 := N_0
  refine (dats m 0 c).arrAt_eq_of_cover 5 _ (fun t _ => ?_) fun i => ?_
  · obtain ⟨⟨e0, e1⟩, -⟩ := index_out t
    rw [Value.flushed5]
    funext j
    rw [View.read_apply]
    refine (show _ = (outsAt0 m c t).1 (ix2 (j 0) (j 1)) from congrArg _ (eq_ix2 j)).trans ((outs_5 m c t (j 0) (j 1)).trans ?_)
    refine congrArg (arrQ m c) (funext fun a => Fin.ext ?_)
    match a with
    | ⟨0, _⟩ => show t.val * 256 + (j 0).val = win0_5.index t 0 * 256 + 1 * (j 0).val; rw [e0]; omega
    | ⟨1, _⟩ => show (j 1).val = win0_5.index t 1 * 2048 + 1 * (j 1).val; rw [e1]; omega
  · have h0 : (i 0 : Nat) < 8192 := (i 0).isLt
    have h1 : (i 1 : Nat) < 2048 := (i 1).isLt
    obtain ⟨t, ht⟩ : ∃ t : Fin cfg0.N, t.val = (i 0 : Nat) / 256 := ⟨⟨(i 0 : Nat) / 256, by omega⟩, rfl⟩
    refine ⟨t, flush0_5 t, ?_⟩
    obtain ⟨⟨e0, e1⟩, -⟩ := index_out t
    show i ∈ ((View.whole main_v50_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256; rw [e0]; omega
    | ⟨1, _⟩ => show win0_5.index t 1 * 2048 ≤ (i 1 : Nat) ∧ (i 1 : Nat) < win0_5.index t 1 * 2048 + 2048; rw [e1]; omega

/-- The second result. -/
def arrK (i : S8192x2048.Idx) : EReal :=
  rowK (fun q => inK m c (ix2 (i 0) q)) (fun q => inV m c (ix2 (i 0) q)) (i 1)

/-- What the body leaves in the second output window at any point. -/
theorem outs_6 (t : Fin cfg0.N) (r : Fin 256) (j : Fin 2048) : (outsAt0 m c t).2.1 (ix2 r j) = arrK m c (ix2 (rowOf t r) j) := by
  unfold outsAt0
  dsimp only
  rw [out_6, iblk1, iblk2]
  rfl

/-- The second result array. -/
theorem final_6 : (dats m 0 c).arrAt 6 cfg0.N = arrK m c := by
  have hN : cfg0.N = 32 := N_0
  refine (dats m 0 c).arrAt_eq_of_cover 6 _ (fun t _ => ?_) fun i => ?_
  · obtain ⟨-, ⟨e0, e1⟩, -⟩ := index_out t
    rw [Value.flushed6]
    funext j
    rw [View.read_apply]
    refine (show _ = (outsAt0 m c t).2.1 (ix2 (j 0) (j 1)) from congrArg _ (eq_ix2 j)).trans ((outs_6 m c t (j 0) (j 1)).trans ?_)
    refine congrArg (arrK m c) (funext fun a => Fin.ext ?_)
    match a with
    | ⟨0, _⟩ => show t.val * 256 + (j 0).val = win0_6.index t 0 * 256 + 1 * (j 0).val; rw [e0]; omega
    | ⟨1, _⟩ => show (j 1).val = win0_6.index t 1 * 2048 + 1 * (j 1).val; rw [e1]; omega
  · have h0 : (i 0 : Nat) < 8192 := (i 0).isLt
    have h1 : (i 1 : Nat) < 2048 := (i 1).isLt
    obtain ⟨t, ht⟩ : ∃ t : Fin cfg0.N, t.val = (i 0 : Nat) / 256 := ⟨⟨(i 0 : Nat) / 256, by omega⟩, rfl⟩
    refine ⟨t, flush0_6 t, ?_⟩
    obtain ⟨-, ⟨e0, e1⟩, -⟩ := index_out t
    show i ∈ ((View.whole main_v50_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256; rw [e0]; omega
    | ⟨1, _⟩ => show win0_6.index t 1 * 2048 ≤ (i 1 : Nat) ∧ (i 1 : Nat) < win0_6.index t 1 * 2048 + 2048; rw [e1]; omega

/-- The third result. -/
def arrR (i : S8192x128.Idx) : EReal :=
  rowR (fun l => cosT m c (ix2 (i 0) l)) (fun l => sinT m c (ix2 (i 0) l)) (fun q => inK m c (ix2 (i 0) q)) (i 1)

/-- What the body leaves in the third output window at any point. -/
theorem outs_7 (t : Fin cfg0.N) (r : Fin 256) (j : Fin 128) : (outsAt0 m c t).2.2 (ix2 r j) = arrR m c (ix2 (rowOf t r) j) := by
  unfold outsAt0
  dsimp only
  rw [out_7, iblk1, iblk3, iblk4]
  rfl

/-- The third result array. -/
theorem final_7 : (dats m 0 c).arrAt 7 cfg0.N = arrR m c := by
  have hN : cfg0.N = 32 := N_0
  refine (dats m 0 c).arrAt_eq_of_cover 7 _ (fun t _ => ?_) fun i => ?_
  · obtain ⟨-, -, ⟨e0, e1⟩⟩ := index_out t
    rw [Value.flushed7]
    funext j
    rw [View.read_apply]
    refine (show _ = (outsAt0 m c t).2.2 (ix2 (j 0) (j 1)) from congrArg _ (eq_ix2 j)).trans ((outs_7 m c t (j 0) (j 1)).trans ?_)
    refine congrArg (arrR m c) (funext fun a => Fin.ext ?_)
    match a with
    | ⟨0, _⟩ => show t.val * 256 + (j 0).val = win0_7.index t 0 * 256 + 1 * (j 0).val; rw [e0]; omega
    | ⟨1, _⟩ => show (j 1).val = win0_7.index t 1 * 128 + 1 * (j 1).val; rw [e1]; omega
  · have h0 : (i 0 : Nat) < 8192 := (i 0).isLt
    have h1 : (i 1 : Nat) < 128 := (i 1).isLt
    obtain ⟨t, ht⟩ : ∃ t : Fin cfg0.N, t.val = (i 0 : Nat) / 256 := ⟨⟨(i 0 : Nat) / 256, by omega⟩, rfl⟩
    refine ⟨t, flush0_7 t, ?_⟩
    obtain ⟨-, -, ⟨e0, e1⟩⟩ := index_out t
    show i ∈ ((View.whole main_v50_2).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256; rw [e0]; omega
    | ⟨1, _⟩ => show win0_7.index t 1 * 128 ≤ (i 1 : Nat) ∧ (i 1 : Nat) < win0_7.index t 1 * 128 + 128; rw [e1]; omega

end Cert.QkFinIdeal.Result

end
-- ==== Proof.QkFinHost.lean ====
/-
  The rotary backward kernel, the host's part: the padded heads, the values and the tables of cosines and sines, read
  at an index.
-/
module

public import proofs.«01_k».proof.Proof.QkFinValue
public import Idealize.ShloMosaic.Lib.Pointwise

@[expose] public section

set_option maxRecDepth 16384

noncomputable section

namespace Cert.QkFinIdeal.Result

open Cert.QkFinIdeal Cert.QkFinIdeal.Gen Cert.QkFinIdeal.Block Idealize.ShloMosaic Idealize.ShloMosaic.TcCoe Cert.Reals

variable (m : (ℓ : Loc nD τ sig) → Buf (Elt Ideal) ℓ) (c : Dev nD)

/-- The frequencies of the 32 rotated pairs. -/
def freq : S32.Idx → EReal :=
  Host.powf (F := Ideal) (φ := .f32) (broadcastInDim S32 ![] bcast_S_S32 (constant (F := Ideal) S_ .f32 0x48F42400#32))
    (Host.divf (Host.negf (addf (broadcastInDim S32 ![] bcast_S_S32 (constant S_ .f32 0x00000000#32))
      (mulf (broadcastInDim S32 ![] bcast_S_S32 (constant S_ .f32 0x40000000#32)) (sitofp .f32 (iotaInDim S32 32 0)))))
      (broadcastInDim S32 ![] bcast_S_S32 (constant S_ .f32 0x42800000#32)))

/-- The angles: a row's position times the frequencies. -/
def angles (p : S1x8192.Idx → BitVec 32) : S8192x32.Idx → EReal :=
  mulf (F := Ideal) (φ := .f32)
    (broadcastInDim S8192x32 ![0, 1] bcast_S8192x1_S8192x32_0_1
      (broadcastInDim S8192x1 ![0] bcast_S8192_S8192x1_0 (sitofp (F := Ideal) .f32 (shapeCast S8192 p shapeCasts_S1x8192_S8192))))
    (broadcastInDim S8192x32 ![0, 1] bcast_S1x32_S8192x32_0_1 (broadcastInDim S1x32 ![1] bcast_S32_S1x32_1 freq))

/-- Sixty-four columns of zeros. -/
def zeros : S8192x64.Idx → EReal := broadcastInDim S8192x64 ![] bcast_S_S8192x64 (constant (F := Ideal) S_ .f32 0x00000000#32)

theorem cosT_eq : cosT m c = concatenate S8192x128 1 [⟨S8192x32, Host.cos (F := Ideal) (φ := .f32) (angles (m ((c.tc : Thread nD τ).loc main_arg0)))⟩,
    ⟨S8192x32, Host.cos (F := Ideal) (φ := .f32) (angles (m ((c.tc : Thread nD τ).loc main_arg0)))⟩, ⟨S8192x64, zeros⟩]
      concatenates_S8192x32_S8192x32_S8192x64_S8192x128_d1 := by
  unfold cosT
  simp only [Gen.V, hostOps0, hostOps0_1, hostOps0_2, hostOps0_3, hostOps0_4, List.flatten_cons, List.flatten_nil, List.append_nil, List.cons_append, List.nil_append]
  after_results_simp <;> rfl

@[inherit_doc cosT_eq] theorem sinT_eq : sinT m c = concatenate S8192x128 1 [⟨S8192x32, Host.sin (F := Ideal) (φ := .f32) (angles (m ((c.tc : Thread nD τ).loc main_arg0)))⟩,
    ⟨S8192x32, Host.sin (F := Ideal) (φ := .f32) (angles (m ((c.tc : Thread nD τ).loc main_arg0)))⟩, ⟨S8192x64, zeros⟩]
      concatenates_S8192x32_S8192x32_S8192x64_S8192x128_d1 := by
  unfold sinT
  simp only [Gen.V, hostOps0, hostOps0_1, hostOps0_2, hostOps0_3, hostOps0_4, List.flatten_cons, List.flatten_nil, List.append_nil, List.cons_append, List.nil_append]
  after_results_simp <;> rfl

/-- The cosines … -/
theorem cosT_apply (s : Fin 8192) (l : Fin 128) : cosT m c (ix2 s l)
    = Rope.table 32 (fun j => Ideal.cos (Rope.angle 0x48F42400#32 0x42800000#32 (m ((c.tc : Thread nD τ).loc main_arg0) (ix2 0 s)) j)) l := by
  rw [cosT_eq]
  pointwise [angles, freq, zeros]
  rfl

/-- … and the sines. -/
theorem sinT_apply (s : Fin 8192) (l : Fin 128) : sinT m c (ix2 s l)
    = Rope.table 32 (fun j => Ideal.sin (Rope.angle 0x48F42400#32 0x42800000#32 (m ((c.tc : Thread nD τ).loc main_arg0) (ix2 0 s)) j)) l := by
  rw [sinT_eq]
  pointwise [angles, freq, zeros]
  rfl

/-- A row of heads of 192 columns, every head padded by zeros to 256. -/
def padded (x : S1x8192x8x192.Idx → EReal) (s : Fin 8192) (h : Fin 8) (l : Fin 256) : EReal :=
  if hl : l.val < 192 then x (ix4 0 s h ⟨l.val, hl⟩) else 0

/-- The first cotangent, padded. -/
theorem inQ_apply (s : Fin 8192) (h : Fin 8) (l : Fin 256) :
    inQ m c (ix2 s ⟨h.val * 256 + l.val, by omega⟩) = padded (m ((c.tc : Thread nD τ).loc main_arg1)) s h l := by
  unfold inQ
  generalize hx : V m c main_v2 = x
  revert hx
  simp only [Gen.V, hostOps0, hostOps0_1, hostOps0_2, hostOps0_3, hostOps0_4, List.flatten_cons, List.flatten_nil, List.append_nil, List.cons_append, List.nil_append]
  after_results_simp
  rintro rfl
  pointwise
  change pad S8192x8x256 ![0, 0, 0] ![0, 0, 64] ![0, 0, 0] (fun i : S8192x8x192.Idx => m ((c.tc : Thread nD τ).loc main_arg1) (ix4 0 (i 0) (i 1) (i 2)))
    (sitofp (F := Ideal) .f32 (constantI S_ 32 0#32)) pads_S8192x8x192_S8192x8x256_000_000_0640 h_S_ (ix3 s h l) = _
  pointwise
  rw [show FloatOps.sitofp (F := Ideal) FTy.f32 0#32 = (0 : EReal) from Rope.pad_zero]
  rfl

/-- The keys' cotangent, padded. -/
theorem inK_apply (s : Fin 8192) (h : Fin 8) (l : Fin 256) :
    inK m c (ix2 s ⟨h.val * 256 + l.val, by omega⟩) = padded (m ((c.tc : Thread nD τ).loc main_arg2)) s h l := by
  unfold inK
  generalize hx : V m c main_v5 = x
  revert hx
  simp only [Gen.V, hostOps0, hostOps0_1, hostOps0_2, hostOps0_3, hostOps0_4, List.flatten_cons, List.flatten_nil, List.append_nil, List.cons_append, List.nil_append]
  after_results_simp
  rintro rfl
  pointwise
  change pad S8192x8x256 ![0, 0, 0] ![0, 0, 64] ![0, 0, 0] (fun i : S8192x8x192.Idx => m ((c.tc : Thread nD τ).loc main_arg2) (ix4 0 (i 0) (i 1) (i 2)))
    (sitofp (F := Ideal) .f32 (constantI S_ 32 0#32)) pads_S8192x8x192_S8192x8x256_000_000_0640 h_S_ (ix3 s h l) = _
  pointwise
  rw [show FloatOps.sitofp (F := Ideal) FTy.f32 0#32 = (0 : EReal) from Rope.pad_zero]
  rfl

/-- The values' cotangent, its heads side by side. -/
theorem inV_apply (s : Fin 8192) (h : Fin 8) (l : Fin 128) :
    inV m c (ix2 s ⟨h.val * 128 + l.val, by omega⟩) = m ((c.tc : Thread nD τ).loc main_arg3) (ix4 0 s h l) := by
  unfold inV
  generalize hx : V m c main_v6 = x
  revert hx
  simp only [Gen.V, hostOps0, hostOps0_1, hostOps0_2, hostOps0_3, hostOps0_4, List.flatten_cons, List.flatten_nil, List.append_nil, List.cons_append, List.nil_append]
  after_results_simp
  rintro rfl
  pointwise

/-- The cosines and the sines of a row, by pair. -/
def cosR (p : S1x8192.Idx → BitVec 32) (s : Fin 8192) (j : ℕ) : EReal := Ideal.cos (Rope.angle 0x48F42400#32 0x42800000#32 (p (ix2 0 s)) j)
@[inherit_doc cosR] def sinR (p : S1x8192.Idx → BitVec 32) (s : Fin 8192) (j : ℕ) : EReal :=
  Ideal.sin (Rope.angle 0x48F42400#32 0x42800000#32 (p (ix2 0 s)) j)

/-- The last columns of a head, then zeros. -/
def tail (x : S1x8192x8x192.Idx → EReal) (s : Fin 8192) (h : Fin 8) (l : Fin 128) : EReal :=
  if hl : l.val < 64 then x (ix4 0 s h ⟨128 + l.val, by omega⟩) else 0

/-- A padded head's last 128 columns. -/
theorem padded_high (x : S1x8192x8x192.Idx → EReal) (s : Fin 8192) (h : Fin 8) (l : Fin 128) :
    padded x s h ⟨128 + l.val, by omega⟩ = tail x s h l := by
  unfold padded tail
  by_cases hl : l.val < 64
  · rw [dif_pos hl, dif_pos (show 128 + l.val < 192 by omega)]
  · rw [dif_neg hl, dif_neg (show ¬ 128 + l.val < 192 by omega)]

/-- The first result, a head's first 128 columns … -/
theorem arrQ_low (s : Fin 8192) (h : Fin 8) (l : Fin 128) :
    arrQ m c (ix2 s ⟨h.val * 256 + l.val, by omega⟩) = m ((c.tc : Thread nD τ).loc main_arg1) (ix4 0 s h ⟨l.val, by omega⟩) := by
  have hl := l.isLt
  refine (if_pos (show (h.val * 256 + l.val) % 256 < 128 by omega)).trans ?_
  refine (inQ_apply m c s h ⟨l.val, by omega⟩).trans ?_
  unfold padded
  rw [dif_pos (show l.val < 192 by omega)]

/-- … and its last 128. -/
theorem arrQ_high (s : Fin 8192) (h : Fin 8) (l : Fin 128) :
    arrQ m c (ix2 s ⟨h.val * 256 + (128 + l.val), by omega⟩)
      = Rope.turn 32 (Rope.table 32 (cosR (m ((c.tc : Thread nD τ).loc main_arg0)) s)) (Rope.table 32 (sinR (m ((c.tc : Thread nD τ).loc main_arg0)) s))
          (tail (m ((c.tc : Thread nD τ).loc main_arg1)) s h) l := by
  have hl := l.isLt
  refine (if_neg (show ¬ (h.val * 256 + (128 + l.val)) % 256 < 128 by omega)).trans ?_
  refine Rope.turn_congr 32 (funext (cosT_apply m c s)) (funext (sinT_apply m c s)) (funext fun k => ?_) (Fin.ext ?_)
  · refine Eq.trans ?_ ((inQ_apply m c s h ⟨128 + k.val, by omega⟩).trans (padded_high _ s h k))
    refine congrArg (fun q => inQ m c (ix2 s q)) (Fin.ext ?_)
    show (h.val * 256 + (128 + l.val)) / 128 * 128 + k.val = h.val * 256 + (128 + k.val)
    omega
  · show (h.val * 256 + (128 + l.val)) % 128 = l.val
    omega

/-- The second result: the keys' first 128 columns of every head … -/
theorem arrK_low (s : Fin 8192) (h : Fin 8) (l : Fin 128) :
    arrK m c (ix2 s ⟨h.val * 128 + l.val, by omega⟩) = m ((c.tc : Thread nD τ).loc main_arg2) (ix4 0 s h ⟨l.val, by omega⟩) := by
  have hl := l.isLt
  have hh := h.isLt
  refine (dif_pos (show h.val * 128 + l.val < 1024 by omega)).trans ?_
  refine Eq.trans ?_ ((inK_apply m c s h ⟨l.val, by omega⟩).trans ?_)
  · refine congrArg (fun q => inK m c (ix2 s q)) (Fin.ext ?_)
    show (h.val * 128 + l.val) / 128 * 256 + (h.val * 128 + l.val) % 128 = h.val * 256 + l.val
    omega
  · unfold padded
    rw [dif_pos (show l.val < 192 by omega)]

/-- … then the values. -/
theorem arrK_high (s : Fin 8192) (h : Fin 8) (l : Fin 128) :
    arrK m c (ix2 s ⟨1024 + (h.val * 128 + l.val), by omega⟩) = m ((c.tc : Thread nD τ).loc main_arg3) (ix4 0 s h l) := by
  have hl := l.isLt
  have hh := h.isLt
  refine (dif_neg (show ¬ 1024 + (h.val * 128 + l.val) < 1024 by omega)).trans ?_
  refine Eq.trans ?_ (inV_apply m c s h l)
  refine congrArg (fun q => inV m c (ix2 s q)) (Fin.ext ?_)
  show 1024 + (h.val * 128 + l.val) - 1024 = h.val * 128 + l.val
  omega

/-- The third result. -/
theorem arrR_apply (s : Fin 8192) (l : Fin 128) :
    arrR m c (ix2 s l)
      = Rope.turn 32 (Rope.table 32 (cosR (m ((c.tc : Thread nD τ).loc main_arg0)) s)) (Rope.table 32 (sinR (m ((c.tc : Thread nD τ).loc main_arg0)) s))
          (fun l => ∑ h : Fin 8, tail (m ((c.tc : Thread nD τ).loc main_arg2)) s h l) l := by
  unfold arrR rowR
  refine Rope.turn_congr 32 (funext (cosT_apply m c s)) (funext (sinT_apply m c s)) (funext fun k => Finset.sum_congr rfl fun h _ => ?_) rfl
  refine Eq.trans ?_ ((inK_apply m c s h ⟨128 + k.val, by omega⟩).trans (padded_high _ s h k))
  refine congrArg (fun q => inK m c (ix2 s q)) (Fin.ext ?_)
  show h.val * 256 + 128 + k.val = h.val * 256 + (128 + k.val)
  omega

end Cert.QkFinIdeal.Result

end
-- ==== Proof.HeadSum.lean ====
/-
  A host sum over the batch axis of one and over the heads, read at an index.
-/
module

public import proofs.«01_k».proof.Proof.Reals
public import Idealize.ShloMosaic.Lib.Pointwise

@[expose] public section

noncomputable section

namespace Cert.HeadSum

open Idealize.ShloMosaic

variable {S n D : ℕ}

/-- The indices that drop to row `s` and lane `l` are those of the heads. -/
theorem fiber (h : (⟨4, ![1, S, n, D]⟩ : Shape).ReducesTo [0, 2] ⟨2, ![S, D]⟩) (s : Fin S) (l : Fin D) (i : (⟨4, ![1, S, n, D]⟩ : Shape).Idx) :
    h.drop i = ix2 s l ↔ ∃ k : Fin n, ix4 0 s k l = i := by
  constructor
  · intro e
    refine ⟨i 2, ?_⟩
    funext a; apply Fin.ext
    match a with
    | ⟨0, _⟩ => exact (Nat.lt_one_iff.mp (i 0).isLt).symm
    | ⟨1, _⟩ => exact (congrArg Fin.val (congrFun e 0)).symm
    | ⟨2, _⟩ => rfl
    | ⟨3, _⟩ => exact (congrArg Fin.val (congrFun e 1)).symm
  · rintro ⟨k, rfl⟩
    funext b
    apply Fin.ext
    match b with
    | ⟨0, _⟩ => rfl
    | ⟨1, _⟩ => rfl

/-- The sum over the batch axis of one and the heads. -/
theorem apply (h : (⟨4, ![1, S, n, D]⟩ : Shape).ReducesTo [0, 2] ⟨2, ![S, D]⟩) (v : (⟨4, ![1, S, n, D]⟩ : Shape).Idx → EReal) (init : EReal)
    (s : Fin S) (l : Fin D) : Ideal.hostReduceAdd h v init (ix2 s l) = init + ∑ k : Fin n, v (ix4 0 s k l) :=
  congrArg (init + ·) (Finset.sum_filter_eq_sum_of_fiber _ (fun k : Fin n => (ix4 0 s k l : (⟨4, ![1, S, n, D]⟩ : Shape).Idx))
    (fun _ _ e => congrFun e 2) (fiber h s l) v)

end Cert.HeadSum

end
-- ==== Proof.QkFinRef.lean ====
/-
  The reference of the rotary backward kernel: the transpose of the forward's slices and rotations, read at an index,
  as the transposed rotation of every head's row.
-/
module

public import proofs.«01_k».proof.Proof.Rope
public import proofs.«01_k».proof.Proof.HeadSum
public import proofs.«01_k».proof.Proof.Gen.QkFinRefIdeal.Run
public import proofs.«01_k».proof.Proof.Gen.QkFinRefIdeal.Read
public import Idealize.ShloMosaic.Lib.Pointwise

@[expose] public section

set_option maxRecDepth 16384

noncomputable section

namespace Cert.QkFinRefIdeal.Result

open Cert.QkFinRefIdeal Cert.QkFinRefIdeal.Gen Cert.QkFinRefIdeal.Read Idealize.ShloMosaic Idealize.ShloMosaic.TcCoe Cert.Reals Cert

/-- The rotated part of a head of the first cotangent, then zeros. -/
def tail (x : S1x8192x8x192.Idx → EReal) (s : Fin 8192) (h : Fin 8) (l : Fin 128) : EReal :=
  if hl : l.val < 64 then x (ix4 0 s h ⟨128 + l.val, by omega⟩) else 0

/-- A head's first 128 columns come back unchanged. -/
theorem v92_low (p : S1x8192.Idx → BitVec 32) (x : S1x8192x8x192.Idx → EReal) (s : Fin 8192) (h : Fin 8) (l : Fin 128) :
    val_main_v92 (F := Ideal) p x (ix4 0 s h ⟨l.val, by omega⟩) = x (ix4 0 s h ⟨l.val, by omega⟩) := by
  have hl := l.isLt
  pointwise [val_main_v92, val_main_v91, val_main_v90, val_main_v89, val_main_v56, val_main_cst_10, val_main_cst_11]
  rw [dif_pos (show l.val < 192 by omega), dif_neg (fun h => h.1), zero_add]

/-- The table of cosines … -/
theorem cos_apply (p : S1x8192.Idx → BitVec 32) (s : Fin 8192) (j : Fin 32) :
    val_main_v16 (F := Ideal) p (ix3 0 s j) = Ideal.cos (Rope.angle 0x48F42400#32 0x42800000#32 (p (ix2 0 s)) j.val) := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_cst, val_main_cst_0, val_main_cst_1,
    val_main_cst_2]
  rfl

/-- … and of sines. -/
theorem sin_apply (p : S1x8192.Idx → BitVec 32) (s : Fin 8192) (j : Fin 32) :
    val_main_v17 (F := Ideal) p (ix3 0 s j) = Ideal.sin (Rope.angle 0x48F42400#32 0x42800000#32 (p (ix2 0 s)) j.val) := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v17, val_main_cst, val_main_cst_0, val_main_cst_1,
    val_main_cst_2]
  rfl

/-- The cosines and the sines of a row, by pair. -/
def cosR (p : S1x8192.Idx → BitVec 32) (s : Fin 8192) (j : ℕ) : EReal := Ideal.cos (Rope.angle 0x48F42400#32 0x42800000#32 (p (ix2 0 s)) j)
@[inherit_doc cosR] def sinR (p : S1x8192.Idx → BitVec 32) (s : Fin 8192) (j : ℕ) : EReal :=
  Ideal.sin (Rope.angle 0x48F42400#32 0x42800000#32 (p (ix2 0 s)) j)

/-- The transposed rotation of 64 lanes, as the gradient of the halves writes it. -/
theorem turned (y : Fin 64 → EReal) (f g : ℕ → EReal) (l : Fin 128) :
    (if h : l.val < 64 then
        if h1 : l.val < 32 then y ⟨32 + l.val, by omega⟩ * g l.val + y ⟨l.val, h⟩ * f l.val
        else y ⟨32 + (l.val - 32), by omega⟩ * f (l.val - 32) + -y ⟨l.val - 32, by omega⟩ * g (l.val - 32)
      else 0)
      = Rope.turn 32 (Rope.table 32 f) (Rope.table 32 g) (fun k => if hk : k.val < 64 then y ⟨k.val, hk⟩ else 0) l := by
  by_cases h1 : l.val < 32
  · rw [dif_pos (show l.val < 64 by omega), dif_pos h1, Rope.turn_low 32 (by norm_num) f g _ l h1]
    dsimp only
    rw [dif_pos (show l.val + 32 < 64 by omega), dif_pos (show l.val < 64 by omega)]
    refine congrArg (fun k => y k * _ + _) (Fin.ext ?_)
    show 32 + l.val = l.val + 32
    omega
  by_cases h2 : l.val < 64
  · rw [dif_pos h2, dif_neg h1, Rope.turn_high 32 (by norm_num) f g _ l (by omega) (by omega)]
    dsimp only
    rw [dif_pos (show l.val - 32 < 64 by omega), dif_pos h2]
    refine congrArg (fun k => y k * _ + _) (Fin.ext ?_)
    show 32 + (l.val - 32) = l.val
    omega
  · rw [dif_neg h2, Rope.turn_rest 32 f g _ l (by omega) (by omega)]

/-- A head's last 128 columns are turned back. -/
theorem v92_high (p : S1x8192.Idx → BitVec 32) (x : S1x8192x8x192.Idx → EReal) (s : Fin 8192) (h : Fin 8) (l : Fin 128) :
    val_main_v92 (F := Ideal) p x (ix4 0 s h ⟨128 + l.val, by omega⟩)
      = Rope.turn 32 (Rope.table 32 (cosR p s)) (Rope.table 32 (sinR p s)) (tail x s h) l := by
  have hl := l.isLt
  pointwise [val_main_v92, val_main_v91, val_main_v90, val_main_v89, val_main_v56, val_main_cst_10, val_main_cst_11, val_main_v88, val_main_v87,
    val_main_v86, val_main_v85, val_main_v84, val_main_v83, val_main_v82, val_main_v81, val_main_v80, val_main_v79, val_main_v78, val_main_v77,
    val_main_v76, val_main_v75, val_main_v57, val_main_v24, val_main_v23, val_main_call0_v0, val_main_c]
  simp only [cos_apply, sin_apply]
  refine Eq.trans ?_ (turned (fun k => x (ix4 0 s h ⟨128 + k.val, by omega⟩)) (cosR p s) (sinR p s) l)
  by_cases h2 : l.val < 64
  · rw [dif_pos (show 128 + l.val < 192 by omega)]
    rfl
  · rw [dif_neg (show ¬ 128 + l.val < 192 by omega), dif_neg h2]
    exact Rope.pad_zero

/-- The sum over the heads of the keys' last 64 columns. -/
theorem v61_apply (x : S1x8192x8x192.Idx → EReal) (s : Fin 8192) (l : Fin 64) :
    val_main_v61 (F := Ideal) x (ix3 0 s l) = ∑ h : Fin 8, x (ix4 0 s h ⟨128 + l.val, by omega⟩) := by
  pointwise [val_main_v61, val_main_v60, val_main_v59, val_main_cst_7]
  rw [HeadSum.apply, Fin.sum_univ_one]
  pointwise [val_main_v58, val_main_cst_6]
  rw [HeadSum.apply]
  pointwise [val_main_v55]

/-- The third result: the sum turned back, then zeros. -/
theorem v102_apply (p : S1x8192.Idx → BitVec 32) (x : S1x8192x8x192.Idx → EReal) (s : Fin 8192) (l : Fin 128) :
    val_main_v102 (F := Ideal) p x (ix2 s l)
      = Rope.turn 32 (Rope.table 32 (cosR p s)) (Rope.table 32 (sinR p s)) (fun l => ∑ h : Fin 8, tail x s h l) l := by
  have hl := l.isLt
  pointwise [val_main_v102, val_main_v101, val_main_v74, val_main_v73, val_main_v72, val_main_v71, val_main_v70, val_main_v69, val_main_v68, val_main_v67,
    val_main_v66, val_main_v65, val_main_call1_v0, val_main_c_12]
  simp only [cos_apply, sin_apply, v61_apply]
  have e : (fun l => ∑ h : Fin 8, tail x s h l)
      = fun k : Fin 128 => if hk : k.val < 64 then (fun k : Fin 64 => ∑ h : Fin 8, x (ix4 0 s h ⟨128 + k.val, by omega⟩)) ⟨k.val, hk⟩ else 0 := by
    funext k
    unfold tail
    by_cases hk : k.val < 64
    · simp only [dif_pos hk]
    · simp only [dif_neg hk, Finset.sum_const_zero]
  rw [e]
  refine Eq.trans ?_ (turned (fun k => ∑ h : Fin 8, x (ix4 0 s h ⟨128 + k.val, by omega⟩)) (cosR p s) (sinR p s) l)
  by_cases h2 : l.val < 64
  · rw [dif_pos h2, dif_pos h2]
    rfl
  · rw [dif_neg h2, dif_neg h2]
    exact Rope.pad_zero

/-- The second result: the keys' first 128 columns of every head … -/
theorem v98_low (x : S1x8192x8x192.Idx → EReal) (v : S1x8192x8x128.Idx → EReal) (s : Fin 8192) (h : Fin 8) (l : Fin 128) :
    val_main_v98 (F := Ideal) x v (ix2 s ⟨h.val * 128 + l.val, by omega⟩) = x (ix4 0 s h ⟨l.val, by omega⟩) := by
  have hl := l.isLt
  have hh := h.isLt
  pointwise [val_main_v98, val_main_v95, val_main_v94, val_main_v64, val_main_v63, val_main_v62, val_main_v54, val_main_cst_8, val_main_cst_9]
  rw [dif_pos (show h.val * 128 + l.val < 1024 by omega), dif_neg (fun h => h.1), zero_add]

/-- … then the values. -/
theorem v98_high (x : S1x8192x8x192.Idx → EReal) (v : S1x8192x8x128.Idx → EReal) (s : Fin 8192) (h : Fin 8) (l : Fin 128) :
    val_main_v98 (F := Ideal) x v (ix2 s ⟨1024 + (h.val * 128 + l.val), by omega⟩) = v (ix4 0 s h l) := by
  have hl := l.isLt
  have hh := h.isLt
  pointwise [val_main_v98, val_main_v97, val_main_v96, val_main_v64, val_main_v63, val_main_v62, val_main_v53, val_main_cst_8, val_main_cst_9]

/-- The first result, in rows of 2048 columns. -/
theorem v93_low (p : S1x8192.Idx → BitVec 32) (x : S1x8192x8x192.Idx → EReal) (s : Fin 8192) (h : Fin 8) (l : Fin 128) :
    val_main_v93 (F := Ideal) p x (ix2 s ⟨h.val * 256 + l.val, by omega⟩) = x (ix4 0 s h ⟨l.val, by omega⟩) := by
  have hl := l.isLt
  have hh := h.isLt
  rw [← v92_low p x s h l]
  pointwise [val_main_v93]
  refine congrArg (fun k => val_main_v92 (F := Ideal) p x (ix4 0 s h k)) (Fin.ext ?_)
  show (h.val * 256 + l.val) % 256 = l.val
  omega

@[inherit_doc v93_low]
theorem v93_high (p : S1x8192.Idx → BitVec 32) (x : S1x8192x8x192.Idx → EReal) (s : Fin 8192) (h : Fin 8) (l : Fin 128) :
    val_main_v93 (F := Ideal) p x (ix2 s ⟨h.val * 256 + (128 + l.val), by omega⟩)
      = Rope.turn 32 (Rope.table 32 (cosR p s)) (Rope.table 32 (sinR p s)) (tail x s h) l := by
  have hl := l.isLt
  have hh := h.isLt
  rw [← v92_high p x s h l]
  pointwise [val_main_v93]
  refine congrArg (fun k => val_main_v92 (F := Ideal) p x (ix4 0 s h k)) (Fin.ext ?_)
  show (h.val * 256 + (128 + l.val)) % 256 = 128 + l.val
  omega

end Cert.QkFinRefIdeal.Result

end
-- ==== Proof.QkFinClaim.lean ====
/-
  The rotary backward kernel: its claims. The frames are the generated ones; the equation sets the kernel's three arrays
  beside the reference's three results, at every argument.
-/
module

public import proofs.«01_k».proof.Defs
public import proofs.«01_k».proof.Proof.QkFinHost
public import proofs.«01_k».proof.Proof.QkFinRef
public import proofs.«01_k».proof.Proof.Gen.QkFin.Frame
public import Idealize.ShloMosaic.Lib.Quiescent

@[expose] public section

set_option maxRecDepth 16384

noncomputable section

namespace Cert.Proof.QkFin

open Idealize.ShloMosaic Idealize.ShloMosaic.TcCoe Idealize.SL.Sem Cert.Reals

/-- The reference ends with its arguments unchanged and its counters at zero. -/
theorem frame_ref : Cert.quiescent_QkFinRefIdeal := fun m g _ =>
  (θ_run Cert.QkFinRefIdeal.defs _ _).mono
    (fun r h => ⟨fun c => (h c).2.2.2, Idealize.ShloMosaic.sem_eq_zero_of_no_sems (by decide) r.2⟩) (Cert.QkFinRefIdeal.Value.run (F := Ideal) m g)

/-- A column of 2048 lies in the first or in the last 128 of a head's 256 … -/
theorem col_head (q : Fin 2048) : ∃ (h : Fin 8) (l : Fin 128),
    q = ⟨h.val * 256 + l.val, by omega⟩ ∨ q = ⟨h.val * 256 + (128 + l.val), by omega⟩ := by
  have hq := q.isLt
  refine ⟨⟨q.val / 256, by omega⟩, ⟨q.val % 128, by omega⟩, ?_⟩
  by_cases h : q.val % 256 < 128
  · exact Or.inl (Fin.ext (show q.val = q.val / 256 * 256 + q.val % 128 by omega))
  · exact Or.inr (Fin.ext (show q.val = q.val / 256 * 256 + (128 + q.val % 128) by omega))

/-- … or in the first or the last 1024, eight heads of 128 each. -/
theorem col_half (q : Fin 2048) : ∃ (h : Fin 8) (l : Fin 128),
    q = ⟨h.val * 128 + l.val, by omega⟩ ∨ q = ⟨1024 + (h.val * 128 + l.val), by omega⟩ := by
  have hq := q.isLt
  refine ⟨⟨q.val % 1024 / 128, by omega⟩, ⟨q.val % 128, by omega⟩, ?_⟩
  by_cases h : q.val < 1024
  · exact Or.inl (Fin.ext (show q.val = q.val % 1024 / 128 * 128 + q.val % 128 by omega))
  · exact Or.inr (Fin.ext (show q.val = 1024 + (q.val % 1024 / 128 * 128 + q.val % 128) by omega))

/-- The kernel's three arrays are the reference's three results. -/
theorem algebraic : Cert.algebraic_QkFinIdeal_QkFinRefIdeal := by
  intro m g m' g' _ hagree
  refine ⟨_, _, _, Cert.QkFinIdeal.Value.run_blocks (F := Ideal) m g, ?_⟩
  refine (θ_run Cert.QkFinRefIdeal.defs _ _).mono
    (fun r h c => ⟨(h c).1.trans ?_, (h c).2.1.trans ?_, (h c).2.2.1.trans ?_, (h c).2.2.2⟩) (Cert.QkFinRefIdeal.Value.run (F := Ideal) m' g')
  all_goals obtain ⟨a0, a1, a2, a3⟩ := hagree c
  · rw [Cert.QkFinIdeal.Result.final_5 m c, Cert.QkFinRefIdeal.Read.val_main_v99_eq, a0, a1]
    funext i
    obtain ⟨s, q, rfl⟩ : ∃ (s : Fin 8192) (q : Fin 2048), i = ix2 s q := ⟨i 0, i 1, eq_ix2 i⟩
    obtain ⟨h, l, rfl | rfl⟩ := col_head q
    · exact (Cert.QkFinRefIdeal.Result.v93_low _ _ s h l).trans (Cert.QkFinIdeal.Result.arrQ_low m c s h l).symm
    · exact (Cert.QkFinRefIdeal.Result.v93_high _ _ s h l).trans (Cert.QkFinIdeal.Result.arrQ_high m c s h l).symm
  · rw [Cert.QkFinIdeal.Result.final_6 m c, Cert.QkFinRefIdeal.Read.val_main_v100_eq, a2, a3]
    funext i
    obtain ⟨s, q, rfl⟩ : ∃ (s : Fin 8192) (q : Fin 2048), i = ix2 s q := ⟨i 0, i 1, eq_ix2 i⟩
    obtain ⟨h, l, rfl | rfl⟩ := col_half q
    · exact (Cert.QkFinRefIdeal.Result.v98_low _ _ s h l).trans (Cert.QkFinIdeal.Result.arrK_low m c s h l).symm
    · exact (Cert.QkFinRefIdeal.Result.v98_high _ _ s h l).trans (Cert.QkFinIdeal.Result.arrK_high m c s h l).symm
  · rw [Cert.QkFinIdeal.Result.final_7 m c, Cert.QkFinRefIdeal.Read.val_main_v102_eq, a0, a2]
    funext i
    obtain ⟨s, l, rfl⟩ : ∃ (s : Fin 8192) (l : Fin 128), i = ix2 s l := ⟨i 0, i 1, eq_ix2 i⟩
    exact (Cert.QkFinRefIdeal.Result.v102_apply _ _ s l).trans (Cert.QkFinIdeal.Result.arrR_apply m c s l).symm

end Cert.Proof.QkFin

end
-- ==== Proof.Flash.lean ====
/-
  The softmax of a row computed tile by tile: a running maximum, a running sum of exponentials and a running weighted
  sum, both rescaled whenever the maximum grows. This module says which real numbers the three stand for, that a step
  over one tile of keys keeps this, and what the quotient and the log-sum at the end are.
-/
module

public import proofs.«01_k».proof.Proof.Band

@[expose] public section

noncomputable section

namespace Cert.Flash

open Idealize.ShloMosaic Cert.Reals Cert.Band

variable {C J : Type} [Fintype J]

/-- A maximum, a sum and a weighted sum standing for the sum of exponentials `E` and the weighted sums `W`: either the
    maximum is a number and both sums carry its exponential's inverse, or nothing has been seen. -/
def Stands (m l : EReal) (a : C → EReal) (E : ℝ) (W : C → ℝ) : Prop :=
  (∃ μ : ℝ, m = (μ : EReal) ∧ l = ((Real.exp (-μ) * E : ℝ) : EReal) ∧ ∀ c, a c = ((Real.exp (-μ) * W c : ℝ) : EReal)) ∨
    (m = ⊥ ∧ l = 0 ∧ (∀ c, a c = 0) ∧ E = 0 ∧ ∀ c, W c = 0)

/-- The exponential of a seen score, zero for a masked one. -/
def part (M : J → Bool) (x : J → ℝ) (j : J) : ℝ := if M j then Real.exp (x j) else 0

theorem stands_zero : Stands (C := C) ⊥ 0 (fun _ => 0) 0 (fun _ => 0) := Or.inr ⟨rfl, rfl, fun _ => rfl, rfl, fun _ => rfl⟩

theorem part_shift (M : J → Bool) (x : J → ℝ) (μ : ℝ) (j : J) : (if M j then Real.exp (x j - μ) else 0) = Real.exp (-μ) * part M x j := by
  unfold part
  split_ifs
  · rw [sub_eq_add_neg, Real.exp_add, mul_comm]
  · rw [mul_zero]

/-- The maximum after a tile in which something is seen is a number. -/
theorem max_real {m l : EReal} {a : C → EReal} {E : ℝ} {W : C → ℝ} (h : Stands m l a E W) (M : J → Bool) (x : J → ℝ) (j : J) (hj : M j = true) :
    ∃ μ : ℝ, max m (Finset.univ.fold max ⊥ fun j => hide (M j) (x j)) = (μ : EReal) := by
  obtain ⟨b, hb⟩ := max_hide_real M x j hj
  rw [hb]
  rcases h with ⟨μ, rfl, -, -⟩ | ⟨rfl, -, -, -, -⟩
  · exact ⟨max μ b, (EReal.coe_strictMono.monotone.map_max (a := μ) (b := b)).symm⟩
  · exact ⟨b, by simp⟩

/-- One step: the new maximum, the rescaled sums with the tile's exponentials added. -/
theorem stands_step {m l : EReal} {a : C → EReal} {E : ℝ} {W : C → ℝ} (h : Stands m l a E W) (M : J → Bool) (x : J → ℝ) (j₀ : J)
    (hj : M j₀ = true) (v : J → C → ℝ) (m' : EReal) (hm : m' = max m (Finset.univ.fold max ⊥ fun j => hide (M j) (x j))) :
    Stands m' (Ideal.exp (m - m') * l + ∑ j, Ideal.exp (hide (M j) (x j) - m'))
      (fun c => Ideal.exp (m - m') * a c + ∑ j, Ideal.exp (hide (M j) (x j) - m') * (v j c : EReal))
      (E + ∑ j, part M x j) (fun c => W c + ∑ j, part M x j * v j c) := by
  obtain ⟨μ', hμ⟩ := max_real h M x j₀ hj
  obtain rfl : m' = (μ' : EReal) := hm.trans hμ
  have hs : ∑ j, Ideal.exp (hide (M j) (x j) - (μ' : EReal)) = ((Real.exp (-μ') * ∑ j, part M x j : ℝ) : EReal) := by
    rw [Finset.mul_sum]
    exact sum_real _ _ fun j => (exp_hide _ _ _).trans (congrArg Real.toEReal (part_shift M x μ' j))
  have hv (c : C) : ∑ j, Ideal.exp (hide (M j) (x j) - (μ' : EReal)) * (v j c : EReal) = ((Real.exp (-μ') * ∑ j, part M x j * v j c : ℝ) : EReal) := by
    rw [Finset.mul_sum]
    refine sum_real _ _ fun j => ?_
    rw [exp_hide, ← EReal.coe_mul, part_shift, mul_assoc]
  refine Or.inl ⟨μ', rfl, ?_, fun c => ?_⟩
  · rw [hs]
    rcases h with ⟨μ, rfl, rfl, -⟩ | ⟨rfl, rfl, -, rfl, -⟩
    · rw [← EReal.coe_sub, Ideal.exp_coe, ← EReal.coe_mul, ← EReal.coe_add]
      refine congrArg Real.toEReal ?_
      rw [mul_add, ← mul_assoc, ← Real.exp_add]
      congr 3
      ring
    · rw [mul_zero, zero_add, zero_add]
  · beta_reduce
    rw [hv]
    rcases h with ⟨μ, rfl, -, ha⟩ | ⟨rfl, -, ha, -, hW⟩
    · rw [ha, ← EReal.coe_sub, Ideal.exp_coe, ← EReal.coe_mul, ← EReal.coe_add]
      refine congrArg Real.toEReal ?_
      rw [mul_add, ← mul_assoc, ← Real.exp_add]
      congr 3
      ring
    · rw [ha, hW, mul_zero, zero_add, zero_add]

/-- At the end the quotient is the weighted sum over the sum of exponentials. -/
theorem stands_ratio {m l : EReal} {a : C → EReal} {E : ℝ} {W : C → ℝ} (h : Stands m l a E W) (hE : 0 < E) (c : C) :
    Ideal.div (a c) l = ((W c / E : ℝ) : EReal) := by
  rcases h with ⟨μ, -, rfl, ha⟩ | ⟨-, -, -, rfl, -⟩
  · rw [ha, Cert.Reals.div_real _ (mul_pos (Real.exp_pos _) hE).ne']
    exact congrArg Real.toEReal (mul_div_mul_left _ _ (Real.exp_pos _).ne')
  · exact absurd hE (lt_irrefl _)

/-- At the end the maximum plus the log of the sum is the log of the sum of exponentials. -/
theorem stands_log {m l : EReal} {a : C → EReal} {E : ℝ} {W : C → ℝ} (h : Stands m l a E W) (hE : 0 < E) :
    m + Ideal.log l = ((Real.log E : ℝ) : EReal) := by
  rcases h with ⟨μ, rfl, rfl, -⟩ | ⟨-, -, -, rfl, -⟩
  · have hp : 0 < Real.exp (-μ) * E := mul_pos (Real.exp_pos _) hE
    rw [Ideal.log_coe, if_neg (not_le.mpr hp), Real.log_mul (Real.exp_pos _).ne' hE.ne', Real.log_exp, ← EReal.coe_add]
    exact congrArg Real.toEReal (by ring)
  · exact absurd hE (lt_irrefl _)

/-! ## The keys up to the query, in tiles of 512 -/

/-- The exponential of a query's score with key `n`, zero for a key after the query. -/
def term (x : ℕ → ℝ) (q n : ℕ) : ℝ := if n ≤ q then Real.exp (x n) else 0

/-- The sum of exponentials over the keys before `N`. -/
def total (x : ℕ → ℝ) (q N : ℕ) : ℝ := ∑ n ∈ Finset.range N, term x q n

/-- The weighted sum over the keys before `N`. -/
def gather (x v : ℕ → ℝ) (q N : ℕ) : ℝ := ∑ n ∈ Finset.range N, term x q n * v n

theorem term_nonneg (x : ℕ → ℝ) (q n : ℕ) : 0 ≤ term x q n := by unfold term; split_ifs <;> positivity

theorem total_pos (x : ℕ → ℝ) (q N : ℕ) (h : q < N) : 0 < total x q N := by
  refine Finset.sum_pos' (fun n _ => term_nonneg x q n) ⟨q, Finset.mem_range.2 h, ?_⟩
  unfold term
  rw [if_pos le_rfl]
  positivity

/-- A tile of keys adds its exponentials. -/
theorem total_tile (x : ℕ → ℝ) (q t : ℕ) :
    total x q (512 * (t + 1)) = total x q (512 * t) + ∑ j : Fin 512, part (fun j : Fin 512 => decide (512 * t + j.val ≤ q)) (fun j => x (512 * t + j.val)) j := by
  unfold total
  rw [Nat.mul_succ, Finset.sum_range_add, Finset.sum_range (n := 512)]
  refine congrArg _ (Finset.sum_congr rfl fun j _ => ?_)
  simp only [term, part, decide_eq_true_eq]

theorem gather_tile (x v : ℕ → ℝ) (q t : ℕ) :
    gather x v q (512 * (t + 1)) = gather x v q (512 * t)
      + ∑ j : Fin 512, part (fun j : Fin 512 => decide (512 * t + j.val ≤ q)) (fun j => x (512 * t + j.val)) j * v (512 * t + j.val) := by
  unfold gather
  rw [Nat.mul_succ, Finset.sum_range_add, Finset.sum_range (n := 512)]
  refine congrArg _ (Finset.sum_congr rfl fun j _ => ?_)
  simp only [term, part, decide_eq_true_eq]

/-- The keys after the query add nothing. -/
theorem total_all (x : ℕ → ℝ) (q N M : ℕ) (hN : q < N) (hM : N ≤ M) : total x q N = total x q M := by
  refine Finset.sum_subset (Finset.range_mono hM) fun n _ hn => ?_
  rw [Finset.mem_range, not_lt] at hn
  exact if_neg (by omega)

theorem gather_all (x v : ℕ → ℝ) (q N M : ℕ) (hN : q < N) (hM : N ≤ M) : gather x v q N = gather x v q M := by
  refine Finset.sum_subset (Finset.range_mono hM) fun n _ hn => ?_
  rw [Finset.mem_range, not_lt] at hn
  rw [term, if_neg (by omega), zero_mul]

end Cert.Flash

end
-- ==== Proof.MlaFwdStep.lean ====
/-
  One step of the latent attention's forward kernel, one head, one tile of 512 queries and one tile of 512 keys: the
  scores of the tile, with or without the causal mask, and what the step makes of the running maximum, the running sum
  and the running weighted sum.
-/
module

public import proofs.«01_k».proof.Proof.Flash
public import proofs.«01_k».proof.Proof.Gen.MlaFwdIdeal.Value
public import Idealize.ShloMosaic.Lib.WordCmp

@[expose] public section

set_option maxRecDepth 16384

noncomputable section

namespace Cert.MlaFwdIdeal.Block

open Cert.MlaFwdIdeal Cert.MlaFwdIdeal.Gen Idealize.ShloMosaic Cert.Reals Cert.Band Cert.Flash

/-- The scale of the scores, one over the root of the head's width. -/
def s192 : ℝ := (Real.sqrt 192)⁻¹

/-- The named scale is the number. -/
theorem named_s : Named.named (F := Ideal) κ "s" (φ := .f32) 0x3D93CD3A#32 = ((s192 : ℝ) : EReal) :=
  IdealRules.named_const.ideal_named_scalar _ _ _ _ rfl

/-- The named mask is minus infinity. -/
theorem named_mask : Named.named (F := Ideal) κ "mask" (φ := .f32) 0xF149F2CA#32 = (⊥ : EReal) :=
  IdealRules.named_const.ideal_named_scalar _ _ _ _ rfl

/-- The new maximum of every row. -/
def newM (m : FVec Ideal S512x1 .f32) (s : FVec Ideal S512x512 .f32) : FVec Ideal S512x1 .f32 :=
  maximumf m (shapeCast S512x1 (multiReduction .maximumf [1] S512 s 0xFF800000#32 reduces_S512x512_S512 (.inl rfl) rfl) shapeCasts_S512_S512x1)

/-- The exponentials with the new maximum subtracted. -/
def newP (m : FVec Ideal S512x1 .f32) (s : FVec Ideal S512x512 .f32) : FVec Ideal S512x512 .f32 :=
  exp (subf s (broadcastTo S512x512 (newM m s) broadcasts_S512x1_S512x512))

/-- The new sum of every row. -/
def newL (m l : FVec Ideal S512x1 .f32) (s : FVec Ideal S512x512 .f32) : FVec Ideal S512x1 .f32 :=
  addf (mulf (exp (subf m (newM m s))) l)
    (shapeCast S512x1 (multiReduction .add [1] S512 (newP m s) 0x00000000#32 reduces_S512x512_S512 (.inl rfl) rfl) shapeCasts_S512_S512x1)

/-- The new weighted sums. -/
def newA (m : FVec Ideal S512x1 .f32) (a : FVec Ideal S512x128 .f32) (s : FVec Ideal S512x512 .f32) (v : FVec Ideal S512x128 .bf16) :
    FVec Ideal S512x128 .f32 :=
  addf (mulf (broadcastTo S512x128 (exp (subf m (newM m s))) broadcasts_S512x1_S512x128) a)
    (matmul dot_S512x512_S512x128_S512x128_1_0_0_1_n_n none (truncf .bf16 (newP m s) bitsLt_bf16_f32)
      (shapeCast S512x128 v shapeCasts_S512x128_S512x128) (constant S512x128 .f32 0x00000000#32))

theorem newM_apply (m : FVec Ideal S512x1 .f32) (s : FVec Ideal S512x512 .f32) (r : Fin 512) :
    newM m s (ix2 r 0) = max (m (ix2 r 0)) (Finset.univ.fold max ⊥ fun j => s (ix2 r j)) := by
  pointwise [newM]
  rw [lit_neg_inf]

theorem newP_apply (m : FVec Ideal S512x1 .f32) (s : FVec Ideal S512x512 .f32) (r j : Fin 512) :
    newP m s (ix2 r j) = Ideal.exp (s (ix2 r j) - newM m s (ix2 r 0)) := by
  unfold newP
  generalize newM m s = M
  pointwise

theorem newL_apply (m l : FVec Ideal S512x1 .f32) (s : FVec Ideal S512x512 .f32) (r : Fin 512) :
    newL m l s (ix2 r 0) = Ideal.exp (m (ix2 r 0) - newM m s (ix2 r 0)) * l (ix2 r 0) + ∑ j, Ideal.exp (s (ix2 r j) - newM m s (ix2 r 0)) := by
  simp only [← newP_apply]
  unfold newL
  generalize newP m s = P
  generalize newM m s = M
  pointwise

theorem newA_apply (m : FVec Ideal S512x1 .f32) (a : FVec Ideal S512x128 .f32) (s : FVec Ideal S512x512 .f32) (v : FVec Ideal S512x128 .bf16)
    (r : Fin 512) (c : Fin 128) :
    newA m a s v (ix2 r c) = Ideal.exp (m (ix2 r 0) - newM m s (ix2 r 0)) * a (ix2 r c) + ∑ j, Ideal.exp (s (ix2 r j) - newM m s (ix2 r 0)) * v (ix2 j c) := by
  simp only [← newP_apply]
  unfold newA
  generalize newP m s = P
  generalize newM m s = M
  pointwise

/-- Every row's maximum, sum and weighted sums stand for the sums of exponentials `E` and the weighted sums `W`. -/
def Rows (m l : FVec Ideal S512x1 .f32) (a : FVec Ideal S512x128 .f32) (E : Fin 512 → ℝ) (W : Fin 512 → Fin 128 → ℝ) : Prop :=
  ∀ r, Stands (m (ix2 r 0)) (l (ix2 r 0)) (fun c => a (ix2 r c)) (E r) (W r)

/-- A step over a tile whose scores are masked real numbers keeps this. -/
theorem rows_step {m l : FVec Ideal S512x1 .f32} {a : FVec Ideal S512x128 .f32} {E : Fin 512 → ℝ} {W : Fin 512 → Fin 128 → ℝ} (h : Rows m l a E W)
    (s : FVec Ideal S512x512 .f32) (v : FVec Ideal S512x128 .bf16) (M : Fin 512 → Fin 512 → Bool) (x : Fin 512 → Fin 512 → ℝ) (w : Fin 512 → Fin 128 → ℝ)
    (hs : ∀ r j, s (ix2 r j) = hide (M r j) (x r j)) (hv : ∀ j c, v (ix2 j c) = ((w j c : ℝ) : EReal)) (hM : ∀ r, ∃ j, M r j = true) :
    Rows (newM m s) (newL m l s) (newA m a s v) (fun r => E r + ∑ j, part (M r) (x r) j) (fun r c => W r c + ∑ j, part (M r) (x r) j * w j c) := by
  intro r
  obtain ⟨j, hj⟩ := hM r
  have := stands_step (h r) (M r) (x r) j hj w (newM m s (ix2 r 0)) (by rw [newM_apply]; simp only [hs])
  simp only [newL_apply, newA_apply, hs, hv]
  exact this

/-- A tile's scores without a mask. -/
theorem score_apply (q k : FVec Ideal S512x256 .bf16) (Q K : Fin 512 → Fin 256 → ℝ) (hq : ∀ r d, q (ix2 r d) = ((Q r d : ℝ) : EReal))
    (hk : ∀ j d, k (ix2 j d) = ((K j d : ℝ) : EReal)) (r j : Fin 512) :
    k0_pay2 (F := Ideal) q k (ix2 r j) = (((∑ d, Q r d * K j d) * s192 : ℝ) : EReal) := by
  pointwise [k0_pay2]
  rw [named_s, sum_real _ (fun d => Q r d * K j d) fun d => ?_, ← EReal.coe_mul]
  rw [hq, hk, EReal.coe_mul]

/-- The kernel's test for the keys up to the query, at the tile on the diagonal. -/
theorem word_le (n : Fin 16) (r j : Fin 512) :
    IntOp.cmpi .sge (IntOp.addi (BitVec.ofNat 32 r.val) (Scalar.subi (Scalar.muli (BitVec.ofNat 32 n.val) 512#32) (Scalar.muli (BitVec.ofNat 32 n.val) 512#32)))
      (BitVec.ofNat 32 j.val) = BitVec.ofBool (decide (j.val ≤ r.val)) := by
  have e : Scalar.subi (Scalar.muli (BitVec.ofNat 32 n.val) 512#32) (Scalar.muli (BitVec.ofNat 32 n.val) 512#32) = 0#32 := by
    unfold Scalar.subi
    exact BitVec.sub_self _
  have e' : IntOp.addi (BitVec.ofNat 32 r.val) 0#32 = BitVec.ofNat 32 r.val := BitVec.add_zero _
  rw [e, e', WordCmp.cmpi_sge_ofNat (by have := r.isLt; omega) (by have := j.isLt; omega)]

/-- The first head's scores of the tile on the diagonal, with the mask. -/
theorem masked_apply (n : Fin 16) (q k : FVec Ideal S512x256 .bf16) (Q K : Fin 512 → Fin 256 → ℝ) (hq : ∀ r d, q (ix2 r d) = ((Q r d : ℝ) : EReal))
    (hk : ∀ j d, k (ix2 j d) = ((K j d : ℝ) : EReal)) (r j : Fin 512) :
    k0_pay33 (F := Ideal) (BitVec.ofNat 32 n.val) (BitVec.ofNat 32 n.val) q k (ix2 r j)
      = hide (decide (j.val ≤ r.val)) ((∑ d, Q r d * K j d) * s192) := by
  pointwise [k0_pay33]
  rw [word_le, named_s, named_mask, sum_real _ (fun d => Q r d * K j d) fun d => ?_, ← EReal.coe_mul]
  · unfold hide
    cases decide (j.val ≤ r.val) <;> rfl
  · rw [hq, hk, EReal.coe_mul]

/-- The second head's. -/
theorem masked_apply' (n : Fin 16) (q k : FVec Ideal S512x256 .bf16) (Q K : Fin 512 → Fin 256 → ℝ) (hq : ∀ r d, q (ix2 r d) = ((Q r d : ℝ) : EReal))
    (hk : ∀ j d, k (ix2 j d) = ((K j d : ℝ) : EReal)) (r j : Fin 512) :
    k0_pay40 (F := Ideal) (BitVec.ofNat 32 n.val) (BitVec.ofNat 32 n.val) (k0_pay39 q k) 512#32 (ix2 r j)
      = hide (decide (j.val ≤ r.val)) ((∑ d, Q r d * K j d) * s192) := by
  rw [← masked_apply n q k Q K hq hk r j]
  pointwise [k0_pay40, k0_pay39, k0_pay33]

end Cert.MlaFwdIdeal.Block

end
-- ==== Proof.MlaFwdBlock.lean ====
/-
  The latent attention's forward kernel, one grid point: a tile of 512 queries of two heads. The loop over the key tiles
  before the query tile and the masked step on the diagonal leave, in the first output block, every query's weighted sum
  of the values over its sum of exponentials, and in the second the log of that sum on every lane.
-/
module

public import proofs.«01_k».proof.Proof.MlaFwdStep

@[expose] public section

set_option maxRecDepth 16384

noncomputable section

namespace Cert.MlaFwdIdeal.Block

open Cert.MlaFwdIdeal Cert.MlaFwdIdeal.Gen Idealize.ShloMosaic Idealize.ShloMosaic.TcCoe Cert.Reals Cert.Band Cert.Flash

/-- The number of trips is the number of key tiles before the query tile. -/
theorem trips1 (i : grid0.Coords) : (k0_t1_loop i).trips = (i 1).val := by
  unfold k0_t1_loop
  generalize i 1 = n
  revert n
  decide +kernel

/-- The remainder loop makes no trip. -/
theorem trips2 (i : grid0.Coords) : (k0_t2_loop i).trips = 0 := by
  unfold k0_t2_loop
  generalize i 1 = n
  revert n
  decide +kernel

/-- The row the tile on the diagonal begins at. -/
theorem edge_row (i : grid0.Coords) : k0_off9 i = ![512 * (i 1).val, 0] ∧ k0_off10 i = ![512 * (i 1).val, 0] ∧ k0_off11 i = ![512 * (i 1).val, 256]
    ∧ k0_off12 i = ![512 * (i 1).val, 128] := by
  unfold k0_off9 k0_off10 k0_off11 k0_off12
  generalize i 1 = n
  revert n
  decide +kernel

/-- The word of the row trip `k` begins at. -/
theorem trip_row (k : ℕ) (h : k < 16) : BitVec.toNat (Scalar.indexCast (Scalar.muli (Scf.iv 0#32 1#32 k) 512#32)) = 512 * k := by
  have := (by decide +kernel : ∀ k : Fin 16, BitVec.toNat (Scalar.indexCast (Scalar.muli (Scf.iv 0#32 1#32 k.val) 512#32)) = 512 * k.val)
  exact this ⟨k, h⟩

/-- A block of 256 columns of the queries' tile. -/
theorem ld_q (x : Vec Ideal S512x512 .bf16) (o : ℕ) (inb) (r : Fin 512) (d : Fin 256) (h : o + 256 ≤ 512) :
    View.ld x (Rect.unit (s := S512x512) ![0, o] ![512, 256] inb) (ix2 r d) = x (ix2 r (⟨o + d.val, by have := d.isLt; omega⟩ : Fin 512)) :=
  congrArg x (funext fun a => Fin.ext (by
    match a with
    | ⟨0, _⟩ => show 0 + 1 * r.val = r.val; omega
    | ⟨1, _⟩ => show o + 1 * d.val = o + d.val; omega))

/-- Row `n` of an array of 8192 rows. -/
def at8 (n : ℕ) : Fin 8192 := Fin.ofNat 8192 n

/-- A tile of 512 rows and 256 columns of the keys. -/
theorem ld_k (x : Vec Ideal S8192x512 .bf16) (b : Fin 2 → ℕ) (a o : ℕ) (hb : b = ![a, o]) (inb) (r : Fin 512) (d : Fin 256) (h : o + 256 ≤ 512)
    (ha : a + 512 ≤ 8192) :
    View.ld x (Rect.unit (s := S8192x512) b ![512, 256] inb) (ix2 r d) = x (ix2 (at8 (a + r.val)) (⟨o + d.val, by have := d.isLt; omega⟩ : Fin 512)) := by
  subst hb
  refine congrArg x (funext fun e => Fin.ext ?_)
  match e with
  | ⟨0, _⟩ => show a + 1 * r.val = (a + r.val) % 8192; have := r.isLt; omega
  | ⟨1, _⟩ => show o + 1 * d.val = o + d.val; omega

/-- A tile of 512 rows and 128 columns of the values. -/
theorem ld_v (x : Vec Ideal S8192x256 .bf16) (b : Fin 2 → ℕ) (a o : ℕ) (hb : b = ![a, o]) (inb) (r : Fin 512) (d : Fin 128) (h : o + 128 ≤ 256)
    (ha : a + 512 ≤ 8192) :
    View.ld x (Rect.unit (s := S8192x256) b ![512, 128] inb) (ix2 r d) = x (ix2 (at8 (a + r.val)) (⟨o + d.val, by have := d.isLt; omega⟩ : Fin 256)) := by
  subst hb
  refine congrArg x (funext fun e => Fin.ext ?_)
  match e with
  | ⟨0, _⟩ => show a + 1 * r.val = (a + r.val) % 8192; have := r.isLt; omega
  | ⟨1, _⟩ => show o + 1 * d.val = o + d.val; omega

section
variable (Q : Fin 512 → Fin 512 → ℝ) (K : Fin 8192 → Fin 512 → ℝ) (W : Fin 8192 → Fin 256 → ℝ)

/-- The score of query `r` and key `n`, head `p` of the two. -/
def sc (p : Fin 2) (r : Fin 512) (n : ℕ) : ℝ :=
  (∑ d : Fin 256, Q r ⟨256 * p.val + d.val, by have := p.isLt; have := d.isLt; omega⟩ * K (at8 n) ⟨256 * p.val + d.val, by have := p.isLt; have := d.isLt; omega⟩) * s192

/-- Feature `c` of value `n`, head `p` of the two. -/
def va (p : Fin 2) (c : Fin 128) (n : ℕ) : ℝ := W (at8 n) ⟨128 * p.val + c.val, by have := p.isLt; have := c.isLt; omega⟩

/-- What the loops carry: for both heads the maximum, the sum and the weighted sums. -/
abbrev Carry := FVec Ideal S512x1 .f32 × FVec Ideal S512x1 .f32 × FVec Ideal S512x128 .f32 × FVec Ideal S512x1 .f32 × FVec Ideal S512x1 .f32 × FVec Ideal S512x128 .f32

/-- Both heads' carried values stand for the sums over the first `N` keys, the query tile being tile `n`. -/
def Holds (n N : ℕ) (a : Carry) : Prop :=
  Rows a.1 a.2.1 a.2.2.1 (fun r => total (sc Q K 0 r) (512 * n + r.val) N) (fun r c => gather (sc Q K 0 r) (va W 0 c) (512 * n + r.val) N)
    ∧ Rows a.2.2.2.1 a.2.2.2.2.1 a.2.2.2.2.2 (fun r => total (sc Q K 1 r) (512 * n + r.val) N) (fun r c => gather (sc Q K 1 r) (va W 1 c) (512 * n + r.val) N)

variable {Q K W} {x0 : Vec Ideal S512x512 .bf16} {x1 : Vec Ideal S8192x512 .bf16} {x2 : Vec Ideal S8192x256 .bf16}

/-- One head's step over a key tile. -/
theorem head_step (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) (p : Fin 2) (n t : ℕ) (ht : t ≤ n) (hn : n < 16)
    {m l : FVec Ideal S512x1 .f32} {a : FVec Ideal S512x128 .f32}
    (h : Rows m l a (fun r => total (sc Q K p r) (512 * n + r.val) (512 * t)) (fun r c => gather (sc Q K p r) (va W p c) (512 * n + r.val) (512 * t)))
    (q k : FVec Ideal S512x256 .bf16) (v : FVec Ideal S512x128 .bf16) (s : FVec Ideal S512x512 .f32)
    (hq : ∀ (r : Fin 512) (d : Fin 256), q (ix2 r d) = x0 (ix2 r (⟨256 * p.val + d.val, by have := p.isLt; have := d.isLt; omega⟩ : Fin 512)))
    (hk : ∀ (j : Fin 512) (d : Fin 256), k (ix2 j d) = x1 (ix2 (at8 (512 * t + j.val)) (⟨256 * p.val + d.val, by have := p.isLt; have := d.isLt; omega⟩ : Fin 512)))
    (hv : ∀ (j : Fin 512) (c : Fin 128), v (ix2 j c) = x2 (ix2 (at8 (512 * t + j.val)) (⟨128 * p.val + c.val, by have := p.isLt; have := c.isLt; omega⟩ : Fin 256)))
    (hs : ∀ (A B : Fin 512 → Fin 256 → ℝ) (_ : ∀ r d, q (ix2 r d) = ((A r d : ℝ) : EReal)) (_ : ∀ j d, k (ix2 j d) = ((B j d : ℝ) : EReal)) (r j : Fin 512),
      s (ix2 r j) = hide (decide (512 * t + j.val ≤ 512 * n + r.val)) ((∑ d, A r d * B j d) * s192)) :
    Rows (newM m s) (newL m l s) (newA m a s v) (fun r => total (sc Q K p r) (512 * n + r.val) (512 * (t + 1)))
      (fun r c => gather (sc Q K p r) (va W p c) (512 * n + r.val) (512 * (t + 1))) := by
  have := rows_step h s v (fun r j => decide (512 * t + j.val ≤ 512 * n + r.val)) (fun r j => sc Q K p r (512 * t + j.val))
    (fun j c => va W p c (512 * t + j.val)) (hs _ _ (fun r d => (hq r d).trans (h0 _ _)) (fun j d => (hk j d).trans (h1 _ _)))
    (fun j c => (hv j c).trans (h2 _ _)) (fun r => ⟨⟨0, by norm_num⟩, by simp only [decide_eq_true_eq]; omega⟩)
  simpa only [total_tile, gather_tile] using this

/-- The unmasked scores of a tile before the diagonal. -/
theorem plain_score (n t : ℕ) (h : t < n) (q k : FVec Ideal S512x256 .bf16) (A B : Fin 512 → Fin 256 → ℝ)
    (hq : ∀ r d, q (ix2 r d) = ((A r d : ℝ) : EReal)) (hk : ∀ j d, k (ix2 j d) = ((B j d : ℝ) : EReal)) (r j : Fin 512) :
    k0_pay2 (F := Ideal) q k (ix2 r j) = hide (decide (512 * t + j.val ≤ 512 * n + r.val)) ((∑ d, A r d * B j d) * s192) := by
  rw [score_apply q k A B hq hk, decide_eq_true (by have := j.isLt; omega)]
  rfl

/-- The loop's start. -/
theorem holds_zero (n : ℕ) : Holds Q K W n 0 (k0_pay20, k0_pay21, k0_pay22, k0_pay23, k0_pay24, k0_pay25) := by
  have e (a : S512x1.Idx) : k0_pay20 (F := Ideal) a = ⊥ := by pointwise [k0_pay20]; exact named_mask
  have e' (a : S512x1.Idx) : k0_pay23 (F := Ideal) a = ⊥ := by pointwise [k0_pay23]; exact named_mask
  have f (a : S512x1.Idx) : k0_pay21 (F := Ideal) a = 0 := by pointwise [k0_pay21]
  have f' (a : S512x1.Idx) : k0_pay24 (F := Ideal) a = 0 := by pointwise [k0_pay24]
  have g (a : S512x128.Idx) : k0_pay22 (F := Ideal) a = 0 := by pointwise [k0_pay22]
  have g' (a : S512x128.Idx) : k0_pay25 (F := Ideal) a = 0 := by pointwise [k0_pay25]
  exact ⟨fun r => Or.inr ⟨e (ix2 r 0), f (ix2 r 0), fun c => g (ix2 r c), rfl, fun _ => rfl⟩,
    fun r => Or.inr ⟨e' (ix2 r 0), f' (ix2 r 0), fun c => g' (ix2 r c), rfl, fun _ => rfl⟩⟩

section
variable (𝒱 : Variants) (c : Dev nD) (bd : Option 𝒱.V) (i : grid0.Coords) (arg2 : Memref sig .tc .vmem S512x512 .bf16) (harg2 : arg2.IsWhole)
  (arg3 : Memref sig .tc .vmem S8192x512 .bf16) (harg3 : arg3.IsWhole) (arg4 : Memref sig .tc .vmem S8192x256 .bf16) (harg4 : arg4.IsWhole)
  (arg5 : Memref sig .tc .vmem S512x256 .bf16) (harg5 : arg5.IsWhole) (arg6 : Memref sig .tc .vmem S2x512x128 .f32) (harg6 : arg6.IsWhole)

/-- One trip of the loop. -/
theorem holds_trip (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) (k : Fin (k0_t1_loop i).trips) (a : Carry) (h : Holds Q K W (i 1).val (512 * k.val) a) :
    Holds Q K W (i 1).val (512 * (k.val + 1))
      (tripR_k0_t1 (F := Ideal) 𝒱 c bd i arg2 harg2 arg3 harg3 arg4 harg4 arg5 harg5 arg6 harg6 (harg2.unread x0) (harg3.unread x1) (harg4.unread x2) k a) := by
  have hk : k.val < (i 1).val := lt_of_lt_of_eq k.isLt (trips1 i)
  have hn : (i 1).val < 16 := (i 1).isLt
  have hr := trip_row k.val (hk.trans hn)
  unfold tripR_k0_t1 trip_k0_t1
  dsimp only
  sl_unfold_words
  simp only [View.readAt_eq_ld, harg2.read_unread, harg3.read_unread, harg4.read_unread]
  constructor
  · exact head_step h0 h1 h2 0 (i 1).val k.val hk.le hn h.1 (View.ld x0 (Rect.unit ![0, 0] ![512, 256] inb_S512x512_S512x256_0_0)) _ _ _
      (fun r d => ld_q x0 0 _ r d (by norm_num))
      (fun j d => ld_k x1 _ (512 * k.val) 0 (congrArg (fun z => ![z, 0]) hr) _ j d (by norm_num) (by omega))
      (fun j d => ld_v x2 _ (512 * k.val) 0 (congrArg (fun z => ![z, 0]) hr) _ j d (by norm_num) (by omega))
      (plain_score _ _ hk _ _)
  · exact head_step h0 h1 h2 1 (i 1).val k.val hk.le hn h.2 (View.ld x0 (Rect.unit ![0, 256] ![512, 256] inb_S512x512_S512x256_0_256)) _ _ _
      (fun r d => ld_q x0 256 _ r d (by norm_num))
      (fun j d => ld_k x1 _ (512 * k.val) 256 (congrArg (fun z => ![z, 256]) hr) _ j d (by norm_num) (by omega))
      (fun j d => ld_v x2 _ (512 * k.val) 128 (congrArg (fun z => ![z, 128]) hr) _ j d (by norm_num) (by omega))
      (plain_score _ _ hk _ _)

/-- The loop's carried values after `k` trips. -/
theorem holds_loop (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) (k : ℕ) (hk : k ≤ (k0_t1_loop i).trips) :
    Holds Q K W (i 1).val (512 * k)
      (st_k0_t1 (F := Ideal) 𝒱 c bd i arg2 harg2 arg3 harg3 arg4 harg4 arg5 harg5 arg6 harg6 (harg2.unread x0) (harg3.unread x1) (harg4.unread x2)
        (k0_pay20, k0_pay21, k0_pay22, k0_pay23, k0_pay24, k0_pay25) k) := by
  induction k with
  | zero => exact holds_zero _
  | succ k ih =>
    have := st_k0_t1_succ (F := Ideal) 𝒱 c bd i arg2 harg2 arg3 harg3 arg4 harg4 arg5 harg5 arg6 harg6 (harg2.unread x0) (harg3.unread x1) (harg4.unread x2)
      (k0_pay20, k0_pay21, k0_pay22, k0_pay23, k0_pay24, k0_pay25) ⟨k, hk⟩
    dsimp only at this
    rw [this]
    exact holds_trip 𝒱 c bd i arg2 harg2 arg3 harg3 arg4 harg4 arg5 harg5 arg6 harg6 h0 h1 h2 ⟨k, hk⟩ _ (ih (Nat.le_of_succ_le hk))

end
end

end Cert.MlaFwdIdeal.Block

end
-- ==== Proof.MlaFwdOut.lean ====
/-
  The latent attention's forward kernel, one grid point, at its end: the step on the diagonal closes the sums over the
  keys up to the query, and the two output blocks hold the quotient and the log of the sum of exponentials.
-/
module

public import proofs.«01_k».proof.Proof.MlaFwdBlock

@[expose] public section

set_option maxRecDepth 16384

noncomputable section

namespace Cert.MlaFwdIdeal.Block

open Cert.MlaFwdIdeal Cert.MlaFwdIdeal.Gen Idealize.ShloMosaic Idealize.ShloMosaic.TcCoe Cert.Reals Cert.Band Cert.Flash

/-- The word of the tile on the diagonal. -/
theorem edge_word (i : grid0.Coords) : kernelRun0_A.sl.v31 i = BitVec.ofNat 32 (i 1).val := by
  sl_unfold_words
  generalize i 1 = n
  revert n
  decide +kernel

section
variable (Q : Fin 512 → Fin 512 → ℝ) (K : Fin 8192 → Fin 512 → ℝ) (W : Fin 8192 → Fin 256 → ℝ)

/-- The attention's output: query `r` of the tile of rows from `b` on, head `p` of the two, feature `c`. -/
def attO (b : ℕ) (p : Fin 2) (r : Fin 512) (c : Fin 128) : ℝ :=
  gather (sc Q K p r) (va W p c) (b + r.val) 8192 / total (sc Q K p r) (b + r.val) 8192

/-- The row's log-sum. -/
def attL (b : ℕ) (p : Fin 2) (r : Fin 512) : ℝ := Real.log (total (sc Q K p r) (b + r.val) 8192)

/-- The first output block. -/
def blockO (b : ℕ) (y : S512x256.Idx) : EReal :=
  ((attO Q K W b ⟨(y 1).val / 128, Nat.div_lt_of_lt_mul (y 1).isLt⟩ (y 0) ⟨(y 1).val % 128, Nat.mod_lt _ (by norm_num)⟩ : ℝ) : EReal)

/-- The second output block. -/
def blockL (b : ℕ) (y : S2x512x128.Idx) : EReal := ((attL Q K b (y 0) (y 1) : ℝ) : EReal)

variable {Q K W} {x0 : Vec Ideal S512x512 .bf16} {x1 : Vec Ideal S8192x512 .bf16} {x2 : Vec Ideal S8192x256 .bf16}
variable (c : Dev nD) (i : grid0.Coords) (arg2 : Memref sig .tc .vmem S512x512 .bf16) (harg2 : arg2.IsWhole)
  (arg3 : Memref sig .tc .vmem S8192x512 .bf16) (harg3 : arg3.IsWhole) (arg4 : Memref sig .tc .vmem S8192x256 .bf16) (harg4 : arg4.IsWhole)
  (arg5 : Memref sig .tc .vmem S512x256 .bf16) (harg5 : arg5.IsWhole) (arg6 : Memref sig .tc .vmem S2x512x128 .f32) (harg6 : arg6.IsWhole)

/-- What the loops leave. -/
theorem holds_end (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) :
    Holds Q K W (i 1).val (512 * (i 1).val)
      (kernelRun0_A.sl.r (F := Ideal) c i arg2 harg2 arg3 harg3 arg4 harg4 arg5 harg5 arg6 harg6 x0 x1 x2,
        kernelRun0_A.sl.r_1 (F := Ideal) c i arg2 harg2 arg3 harg3 arg4 harg4 arg5 harg5 arg6 harg6 x0 x1 x2,
        kernelRun0_A.sl.r_2 (F := Ideal) c i arg2 harg2 arg3 harg3 arg4 harg4 arg5 harg5 arg6 harg6 x0 x1 x2,
        kernelRun0_A.sl.r_3 (F := Ideal) c i arg2 harg2 arg3 harg3 arg4 harg4 arg5 harg5 arg6 harg6 x0 x1 x2,
        kernelRun0_A.sl.r_4 (F := Ideal) c i arg2 harg2 arg3 harg3 arg4 harg4 arg5 harg5 arg6 harg6 x0 x1 x2,
        kernelRun0_A.sl.r_5 (F := Ideal) c i arg2 harg2 arg3 harg3 arg4 harg4 arg5 harg5 arg6 harg6 x0 x1 x2) := by
  have e1 : Scf.trips (k0_t1_loop i).lb (k0_t1_loop i).ub (k0_t1_loop i).st = (i 1).val := trips1 i
  have e2 : Scf.trips (k0_t2_loop i).lb (k0_t2_loop i).ub (k0_t2_loop i).st = 0 := trips2 i
  unfold kernelRun0_A.sl.r kernelRun0_A.sl.r_1 kernelRun0_A.sl.r_2 kernelRun0_A.sl.r_3 kernelRun0_A.sl.r_4 kernelRun0_A.sl.r_5
  rw [e1, e2]
  simp only [st_k0_t2_zero]
  exact holds_loop Variants.none c none i arg2 harg2 arg3 harg3 arg4 harg4 arg5 harg5 arg6 harg6 h0 h1 h2 (i 1).val (trips1 i).ge

/-- The scores of the tile on the diagonal, as the step wants them. -/
theorem edge_score (n : Fin 16) (q k : FVec Ideal S512x256 .bf16) (s : FVec Ideal S512x512 .f32)
    (hs : ∀ (A B : Fin 512 → Fin 256 → ℝ) (_ : ∀ r d, q (ix2 r d) = ((A r d : ℝ) : EReal)) (_ : ∀ j d, k (ix2 j d) = ((B j d : ℝ) : EReal)) (r j : Fin 512),
      s (ix2 r j) = hide (decide (j.val ≤ r.val)) ((∑ d, A r d * B j d) * s192))
    (A B : Fin 512 → Fin 256 → ℝ) (hq : ∀ r d, q (ix2 r d) = ((A r d : ℝ) : EReal)) (hk : ∀ j d, k (ix2 j d) = ((B j d : ℝ) : EReal)) (r j : Fin 512) :
    s (ix2 r j) = hide (decide (512 * n.val + j.val ≤ 512 * n.val + r.val)) ((∑ d, A r d * B j d) * s192) := by
  rw [hs A B hq hk]
  simp only [add_le_add_iff_left]

/-- The first head at the end. -/
theorem end0 (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) :
    Rows (kernelRun0_A.sl.r_7 (F := Ideal) c i arg2 harg2 arg3 harg3 arg4 harg4 arg5 harg5 arg6 harg6 x0 x1 x2)
      (kernelRun0_A.sl.r_8 (F := Ideal) c i arg2 harg2 arg3 harg3 arg4 harg4 arg5 harg5 arg6 harg6 x0 x1 x2)
      (kernelRun0_A.sl.r_9 (F := Ideal) c i arg2 harg2 arg3 harg3 arg4 harg4 arg5 harg5 arg6 harg6 x0 x1 x2)
      (fun r => total (sc Q K 0 r) (512 * (i 1).val + r.val) (512 * ((i 1).val + 1)))
      (fun r c => gather (sc Q K 0 r) (va W 0 c) (512 * (i 1).val + r.val) (512 * ((i 1).val + 1))) := by
  have h := (holds_end c i arg2 harg2 arg3 harg3 arg4 harg4 arg5 harg5 arg6 harg6 h0 h1 h2).1
  have hn : (i 1).val < 16 := (i 1).isLt
  obtain ⟨e9, e10, -, -⟩ := edge_row i
  unfold kernelRun0_A.sl.r_7 kernelRun0_A.sl.r_8 kernelRun0_A.sl.r_9 kernelRun0_A.sl.r_6
  rw [edge_word]
  simp only [View.readAt_eq_ld, harg2.read_unread, harg3.read_unread, harg4.read_unread]
  unfold k0_pay32
  rw [shapeCast_self]
  exact head_step h0 h1 h2 0 (i 1).val (i 1).val le_rfl hn h (View.ld x0 (Rect.unit ![0, 0] ![512, 256] inb_S512x512_S512x256_0_0)) _ _ _
      (fun r d => ld_q x0 0 _ r d (by norm_num))
      (fun j d => ld_k x1 _ (512 * (i 1).val) 0 e9 _ j d (by norm_num) (by omega))
      (fun j d => ld_v x2 _ (512 * (i 1).val) 0 e10 _ j d (by norm_num) (by omega))
      (edge_score (i 1) _ _ _ (masked_apply (i 1) _ _))

/-- The second head at the end; its weighted sums are the ones the second head's output is the quotient of. -/
theorem end1 (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) :
    ∃ a : FVec Ideal S512x128 .f32,
      kernelRun0_A.sl.r_13 (F := Ideal) c i arg2 harg2 arg3 harg3 arg4 harg4 arg5 harg5 arg6 harg6 x0 x1 x2
        = k0_pay45 (kernelRun0_A.sl.r_12 (F := Ideal) c i arg2 harg2 arg3 harg3 arg4 harg4 arg5 harg5 arg6 harg6 x0 x1 x2) a ∧
      Rows (kernelRun0_A.sl.r_11 (F := Ideal) c i arg2 harg2 arg3 harg3 arg4 harg4 arg5 harg5 arg6 harg6 x0 x1 x2)
        (kernelRun0_A.sl.r_12 (F := Ideal) c i arg2 harg2 arg3 harg3 arg4 harg4 arg5 harg5 arg6 harg6 x0 x1 x2) a
        (fun r => total (sc Q K 1 r) (512 * (i 1).val + r.val) (512 * ((i 1).val + 1)))
        (fun r c => gather (sc Q K 1 r) (va W 1 c) (512 * (i 1).val + r.val) (512 * ((i 1).val + 1))) := by
  have h := (holds_end c i arg2 harg2 arg3 harg3 arg4 harg4 arg5 harg5 arg6 harg6 h0 h1 h2).2
  have hn : (i 1).val < 16 := (i 1).isLt
  obtain ⟨-, -, e11, e12⟩ := edge_row i
  unfold kernelRun0_A.sl.r_11 kernelRun0_A.sl.r_12 kernelRun0_A.sl.r_13 kernelRun0_A.sl.r_10
  rw [edge_word]
  simp only [View.readAt_eq_ld, harg2.read_unread, harg3.read_unread, harg4.read_unread]
  exact ⟨_, rfl, head_step h0 h1 h2 1 (i 1).val (i 1).val le_rfl hn h (View.ld x0 (Rect.unit ![0, 256] ![512, 256] inb_S512x512_S512x256_0_256)) _ _ _
      (fun r d => ld_q x0 256 _ r d (by norm_num))
      (fun j d => ld_k x1 _ (512 * (i 1).val) 256 e11 _ j d (by norm_num) (by omega))
      (fun j d => ld_v x2 _ (512 * (i 1).val) 128 e12 _ j d (by norm_num) (by omega))
      (edge_score (i 1) _ _ _ (masked_apply' (i 1) _ _))⟩

/-- The quotient of a head's weighted sums and its sum. -/
theorem quot_apply {n : ℕ} (hn : n < 16) (p : Fin 2) {m l : FVec Ideal S512x1 .f32} {a : FVec Ideal S512x128 .f32}
    (h : Rows m l a (fun r => total (sc Q K p r) (512 * n + r.val) (512 * (n + 1))) (fun r c => gather (sc Q K p r) (va W p c) (512 * n + r.val) (512 * (n + 1))))
    (r : Fin 512) (f : Fin 128) : k0_pay45 (F := Ideal) l a (ix2 r f) = ((attO Q K W (512 * n) p r f : ℝ) : EReal) := by
  have hr := r.isLt
  pointwise [k0_pay45]
  rw [stands_ratio (h r) (total_pos _ _ _ (by omega))]
  beta_reduce
  unfold attO
  rw [total_all _ _ (512 * (n + 1)) 8192 (by omega) (by omega), gather_all _ _ _ (512 * (n + 1)) 8192 (by omega) (by omega)]

/-- The log-sum on every lane. -/
theorem log_apply {n : ℕ} (hn : n < 16) (p : Fin 2) {m l : FVec Ideal S512x1 .f32} {a : FVec Ideal S512x128 .f32}
    (h : Rows m l a (fun r => total (sc Q K p r) (512 * n + r.val) (512 * (n + 1))) (fun r c => gather (sc Q K p r) (va W p c) (512 * n + r.val) (512 * (n + 1))))
    (z : Fin 1) (r : Fin 512) (f : Fin 128) : k0_pay46 (F := Ideal) m l (ix3 z r f) = ((attL Q K (512 * n) p r : ℝ) : EReal) := by
  have hr := r.isLt
  obtain rfl : z = 0 := Subsingleton.elim _ _
  pointwise [k0_pay46]
  rw [stands_log (h r) (total_pos _ _ _ (by omega))]
  beta_reduce
  unfold attL
  rw [total_all _ _ (512 * (n + 1)) 8192 (by omega) (by omega)]

/-- The first output block at a grid point. -/
theorem outO (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) :
    out0_A_3 (F := Ideal) c i arg2 harg2 arg3 harg3 arg4 harg4 arg5 harg5 arg6 harg6 x0 x1 x2 = blockO Q K W (512 * (i 1).val) := by
  have hn : (i 1).val < 16 := (i 1).isLt
  have e0 := end0 c i arg2 harg2 arg3 harg3 arg4 harg4 arg5 harg5 arg6 harg6 h0 h1 h2
  obtain ⟨a, e, e1⟩ := end1 c i arg2 harg2 arg3 harg3 arg4 harg4 arg5 harg5 arg6 harg6 h0 h1 h2
  have hc := cover0_A_3 c i arg2 harg2 arg3 harg3 arg4 harg4 arg5 harg5 arg6 harg6 x0 x1 x2
  unfold out0_A_3
  rw [View.read_writes_eq_canon _ _ _ hc]
  revert hc
  unfold kernelRun0_A
  dsimp only
  rw [e]
  intro hc
  funext y
  refine View.canon_apply_of_pieces (Val := Elt Ideal) (e := .bf16) (blockO Q K W (512 * (i 1).val)) _ ?_ y (hc y)
  simp only [List.forall_mem_cons, List.not_mem_nil, false_implies, implies_true, and_true]
  constructor
  · intro x
    obtain ⟨r, f, rfl⟩ : ∃ (r : Fin 512) (f : Fin 128), x = ix2 r f := ⟨x 0, x 1, eq_ix2 x⟩
    refine (quot_apply hn 1 e1 r f).trans (congrArg Real.toEReal ?_)
    have hf := f.isLt
    congr 1 <;> exact Fin.ext (by first | (show 1 = (128 + 1 * f.val) / 128; omega) | (show r.val = 0 + 1 * r.val; omega) | (show f.val = (128 + 1 * f.val) % 128; omega))
  · intro x
    obtain ⟨r, f, rfl⟩ : ∃ (r : Fin 512) (f : Fin 128), x = ix2 r f := ⟨x 0, x 1, eq_ix2 x⟩
    refine (quot_apply hn 0 e0 r f).trans (congrArg Real.toEReal ?_)
    have hf := f.isLt
    congr 1 <;> exact Fin.ext (by first | (show 0 = (0 + 1 * f.val) / 128; omega) | (show r.val = 0 + 1 * r.val; omega) | (show f.val = (0 + 1 * f.val) % 128; omega))

/-- The second output block at a grid point. -/
theorem outL (h0 : ∀ r d, x0 (ix2 r d) = ((Q r d : ℝ) : EReal)) (h1 : ∀ r d, x1 (ix2 r d) = ((K r d : ℝ) : EReal))
    (h2 : ∀ r d, x2 (ix2 r d) = ((W r d : ℝ) : EReal)) :
    out0_A_4 (F := Ideal) c i arg2 harg2 arg3 harg3 arg4 harg4 arg5 harg5 arg6 harg6 x0 x1 x2 = blockL Q K (512 * (i 1).val) := by
  have hn : (i 1).val < 16 := (i 1).isLt
  have e0 := end0 c i arg2 harg2 arg3 harg3 arg4 harg4 arg5 harg5 arg6 harg6 h0 h1 h2
  obtain ⟨a, -, e1⟩ := end1 c i arg2 harg2 arg3 harg3 arg4 harg4 arg5 harg5 arg6 harg6 h0 h1 h2
  have hc := cover0_A_4 c i arg2 harg2 arg3 harg3 arg4 harg4 arg5 harg5 arg6 harg6 x0 x1 x2
  unfold out0_A_4
  rw [View.read_writes_eq_canon _ _ _ hc]
  revert hc
  unfold kernelRun0_A
  dsimp only
  intro hc
  funext y
  refine View.canon_apply_of_pieces (Val := Elt Ideal) (e := .f32) (blockL Q K (512 * (i 1).val)) _ ?_ y (hc y)
  simp only [List.forall_mem_cons, List.not_mem_nil, false_implies, implies_true, and_true]
  constructor
  · intro x
    obtain ⟨z, r, f, rfl⟩ : ∃ (z : Fin 1) (r : Fin 512) (f : Fin 128), x = ix3 z r f := ⟨x 0, x 1, x 2, eq_ix3 x⟩
    obtain rfl : z = 0 := Subsingleton.elim _ _
    refine (log_apply hn 1 e1 0 r f).trans (congrArg Real.toEReal ?_)
    congr 1 <;> exact Fin.ext (by first | rfl | (show r.val = 0 + 1 * r.val; omega))
  · intro x
    obtain ⟨z, r, f, rfl⟩ : ∃ (z : Fin 1) (r : Fin 512) (f : Fin 128), x = ix3 z r f := ⟨x 0, x 1, x 2, eq_ix3 x⟩
    obtain rfl : z = 0 := Subsingleton.elim _ _
    refine (log_apply hn 0 e0 0 r f).trans (congrArg Real.toEReal ?_)
    congr 1 <;> exact Fin.ext (by first | rfl | (show r.val = 0 + 1 * r.val; omega))

end

end Cert.MlaFwdIdeal.Block

end
-- ==== Proof.MlaFwdMath.lean ====
/-
  The latent attention over the real numbers, from its own arrays: the scores are the sum of two inner products, one of
  the heads' features without positions and one of the rotated features, whose key all the heads share. The kernel takes
  both as one inner product of 256 columns, the last 64 of them zeros.
-/
module

public import proofs.«01_k».proof.Proof.MlaFwdBlock

@[expose] public section

noncomputable section

namespace Cert.Latent

open Idealize.ShloMosaic Cert.Flash Cert.MlaFwdIdeal.Block

/-- Features of every head, and features all the heads share. -/
abbrev Heads (N : ℕ) := Fin 8192 → Fin 8 → Fin N → ℝ
@[inherit_doc Heads] abbrev Shared (N : ℕ) := Fin 8192 → Fin N → ℝ

/-- The scaled score of query `q` with key `n` in head `h`. -/
def score (A : Heads 128) (B : Heads 64) (C : Heads 128) (D : Shared 64) (h : Fin 8) (q : Fin 8192) (n : ℕ) : ℝ :=
  (∑ c, A q h c * C (at8 n) h c + ∑ c, B q h c * D (at8 n) c) * s192

/-- The attention's output: the values weighted by the softmax over the keys up to the query. -/
def out (A : Heads 128) (B : Heads 64) (C : Heads 128) (D : Shared 64) (E : Heads 128) (h : Fin 8) (q : Fin 8192) (c : Fin 128) : ℝ :=
  gather (score A B C D h q) (fun n => E (at8 n) h c) q.val 8192 / total (score A B C D h q) q.val 8192

/-- The log of the row's sum of exponentials. -/
def lse (A : Heads 128) (B : Heads 64) (C : Heads 128) (D : Shared 64) (h : Fin 8) (q : Fin 8192) : ℝ :=
  Real.log (total (score A B C D h q) q.val 8192)

/-- Both kinds of features in one row of 256, zeros at the end. -/
def wide (A : Heads 128) (B : Heads 64) (s : Fin 8192) (h : Fin 8) (l : Fin 256) : ℝ :=
  if hl : l.val < 128 then A s h ⟨l.val, hl⟩ else if hr : l.val - 128 < 64 then B s h ⟨l.val - 128, hr⟩ else 0

theorem wide_nope (A : Heads 128) (B : Heads 64) (s : Fin 8192) (h : Fin 8) (l : Fin 128) :
    wide A B s h (Fin.castAdd 128 l : Fin (128 + 128)) = A s h l := dif_pos l.isLt

theorem wide_rope (A : Heads 128) (B : Heads 64) (s : Fin 8192) (h : Fin 8) (l : Fin 64) :
    wide A B s h (Fin.natAdd 128 (Fin.castAdd 64 l : Fin (64 + 64)) : Fin (128 + 128)) = B s h l := by
  have hl := l.isLt
  unfold wide
  have e : ((Fin.natAdd 128 (Fin.castAdd 64 l : Fin (64 + 64)) : Fin (128 + 128)) : Fin 256).val = 128 + l.val := rfl
  rw [dif_neg (by omega), dif_pos (by omega)]
  exact congrArg (B s h) (Fin.ext (by show _ - 128 = _; omega))

theorem wide_zero (A : Heads 128) (B : Heads 64) (s : Fin 8192) (h : Fin 8) (l : Fin 64) :
    wide A B s h (Fin.natAdd 128 (Fin.natAdd 64 l : Fin (64 + 64)) : Fin (128 + 128)) = 0 := by
  have e : ((Fin.natAdd 128 (Fin.natAdd 64 l : Fin (64 + 64)) : Fin (128 + 128)) : Fin 256).val = 128 + (64 + l.val) := rfl
  unfold wide
  rw [dif_neg (by omega), dif_neg (by omega)]

/-- The inner product of two such rows is the sum of both inner products. -/
theorem sum_wide (A C : Heads 128) (B D : Heads 64) (s n : Fin 8192) (h : Fin 8) :
    ∑ l, wide A B s h l * wide C D n h l = ∑ c, A s h c * C n h c + ∑ c, B s h c * D n h c := by
  refine (Fin.sum_univ_add (a := 128) (b := 128) fun l => wide A B s h l * wide C D n h l).trans ?_
  refine congrArg₂ (· + ·) (Finset.sum_congr rfl fun c _ => by rw [wide_nope, wide_nope]) ?_
  refine (Fin.sum_univ_add (a := 64) (b := 64) fun l => wide A B s h (Fin.natAdd 128 l : Fin (128 + 128)) * wide C D n h (Fin.natAdd 128 l : Fin (128 + 128))).trans ?_
  simp only [wide_rope, wide_zero, mul_zero, Finset.sum_const_zero, add_zero]

end Cert.Latent

end
-- ==== Proof.MlaFwdHost.lean ====
/-
  The latent attention's forward call, the host's part: the three arrays the kernel reads, at finite arguments. A head
  of the queries and keys takes 256 columns; the values lie behind the 1024 columns of the keys.
-/
module

public import proofs.«01_k».proof.Proof.MlaFwdMath
public import Idealize.ShloMosaic.Lib.Pointwise

@[expose] public section

set_option maxRecDepth 16384

noncomputable section

namespace Cert.MlaFwdIdeal.Result

open Cert.MlaFwdIdeal Cert.MlaFwdIdeal.Gen Cert.MlaFwdIdeal.Block Idealize.ShloMosaic Idealize.ShloMosaic.TcCoe Cert.Reals Cert.Latent

variable (m : (ℓ : Loc nD τ sig) → Buf (Elt Ideal) ℓ) (c : Dev nD)
variable (A : Heads 128) (B : Heads 64) (C : Heads 128) (D : Shared 64) (E : Heads 128)

/-- The five arguments are these real numbers. -/
structure Real : Prop where
  a0 : ∀ s h d, (m ((c.tc : Thread nD τ).loc main_arg0) : S1x8192x8x128.Idx → EReal) (ix4 0 s h d) = ((A s h d : ℝ) : EReal)
  a1 : ∀ s h d, (m ((c.tc : Thread nD τ).loc main_arg1) : S1x8192x8x64.Idx → EReal) (ix4 0 s h d) = ((B s h d : ℝ) : EReal)
  a2 : ∀ s h d, (m ((c.tc : Thread nD τ).loc main_arg2) : S1x8192x8x128.Idx → EReal) (ix4 0 s h d) = ((C s h d : ℝ) : EReal)
  a3 : ∀ s d, (m ((c.tc : Thread nD τ).loc main_arg3) : S1x8192x64.Idx → EReal) (ix3 0 s d) = ((D s d : ℝ) : EReal)
  a4 : ∀ s h d, (m ((c.tc : Thread nD τ).loc main_arg4) : S1x8192x8x128.Idx → EReal) (ix4 0 s h d) = ((E s h d : ℝ) : EReal)

/-- The queries, keys and values as the kernel reads them. -/
def inQ : S8192x2048.Idx → EReal := V m c main_v3
@[inherit_doc inQ] def inK : S8192x2048.Idx → EReal := V m c main_v9
@[inherit_doc inQ] def inV : S8192x2048.Idx → EReal := V m c main_v13

/-- A head's column. -/
def col (h : Fin 8) (l : Fin 256) : Fin 2048 := ⟨h.val * 256 + l.val, by omega⟩

theorem sum_zero : (Ideal.ofBits .f32 0x00000000#32 : EReal) = 0 := by simp [Ideal.ofBits, Ideal.ieee]

/-- Sixty-four columns of zeros in every head. -/
def zeros : S1x8192x8x64.Idx → EReal := broadcastInDim S1x8192x8x64 ![] bcast_S_S1x8192x8x64 (constant (F := Ideal) S_ .f32 0x00000000#32)

/-- Heads of 128, 64 and 64 columns, side by side. -/
def packed (x : S1x8192x8x128.Idx → EReal) (y z : S1x8192x8x64.Idx → EReal) : S8192x2048.Idx → EReal :=
  truncf (F := Ideal) (φ := .f32) .bf16 (shapeCast S8192x2048 (concatenate S1x8192x8x256 3 [⟨S1x8192x8x128, x⟩, ⟨S1x8192x8x64, y⟩, ⟨S1x8192x8x64, z⟩]
    concatenates_S1x8192x8x128_S1x8192x8x64_S1x8192x8x64_S1x8192x8x256_d3) shapeCasts_S1x8192x8x256_S8192x2048) bitsLt_bf16_f32

theorem packed_apply (x : S1x8192x8x128.Idx → EReal) (y z : S1x8192x8x64.Idx → EReal) (s : Fin 8192) (h : Fin 8) (l : Fin 256) :
    packed x y z (ix2 s (col h l)) = if hl : l.val < 128 then x (ix4 0 s h ⟨l.val, hl⟩)
      else if hr : l.val - 128 < 64 then y (ix4 0 s h ⟨l.val - 128, hr⟩) else z (ix4 0 s h ⟨l.val - 128 - 64, by omega⟩) := by
  unfold col
  pointwise [packed]

theorem zeros_apply (i : S1x8192x8x64.Idx) : zeros i = 0 := by
  idx_vars i
  pointwise [zeros]

theorem inQ_eq : inQ m c = packed (m ((c.tc : Thread nD τ).loc main_arg0)) (m ((c.tc : Thread nD τ).loc main_arg1)) zeros := by
  show StableHlo.after hostOps0 _ _ = _
  after_results_simp <;> rfl

/-- The keys' rotated features, the same for every head. -/
def shared : S1x8192x8x64.Idx → EReal := broadcastInDim S1x8192x8x64 ![0, 1, 2, 3] bcast_S1x8192x1x64_S1x8192x8x64_0_1_2_3
  (broadcastInDim S1x8192x1x64 ![0, 1, 3] bcast_S1x8192x64_S1x8192x1x64_0_1_3 (m ((c.tc : Thread nD τ).loc main_arg3) : S1x8192x64.Idx → EReal))

theorem inK_eq : inK m c = packed (m ((c.tc : Thread nD τ).loc main_arg2)) (shared m c) zeros := by
  show StableHlo.after hostOps0 _ _ = _
  after_results_simp <;> rfl

/-- The keys' plain features and the values, side by side. -/
def paired (x y : S1x8192x8x128.Idx → EReal) : S8192x2048.Idx → EReal :=
  truncf (F := Ideal) (φ := .f32) .bf16 (concatenate S8192x2048 1 [⟨S8192x1024, shapeCast S8192x1024 x shapeCasts_S1x8192x8x128_S8192x1024⟩,
    ⟨S8192x1024, shapeCast S8192x1024 y shapeCasts_S1x8192x8x128_S8192x1024⟩] concatenates_S8192x1024_S8192x1024_S8192x2048_d1) bitsLt_bf16_f32

theorem inV_eq : inV m c = paired (m ((c.tc : Thread nD τ).loc main_arg2)) (m ((c.tc : Thread nD τ).loc main_arg4)) := by
  show StableHlo.after hostOps0 _ _ = _
  after_results_simp <;> rfl

variable {A B C D E}

theorem inQ_apply (H : Real m c A B C D E) (s : Fin 8192) (h : Fin 8) (l : Fin 256) :
    inQ m c (ix2 s (col h l)) = ((wide A B s h l : ℝ) : EReal) := by
  rw [inQ_eq, packed_apply]
  simp only [H.a0, H.a1, zeros_apply]
  unfold wide
  split_ifs <;> rfl

theorem inK_apply (H : Real m c A B C D E) (s : Fin 8192) (h : Fin 8) (l : Fin 256) :
    inK m c (ix2 s (col h l)) = ((wide C (fun s _ => D s) s h l : ℝ) : EReal) := by
  have e (d : Fin 64) : shared m c (ix4 0 s h d) = ((D s d : ℝ) : EReal) := by
    refine Eq.trans ?_ (H.a3 s d)
    pointwise [shared]
  rw [inK_eq, packed_apply]
  simp only [H.a2, e, zeros_apply]
  unfold wide
  split_ifs <;> rfl

theorem inV_apply (H : Real m c A B C D E) (s : Fin 8192) (h : Fin 8) (l : Fin 128) :
    inV m c (ix2 s (⟨1024 + (h.val * 128 + l.val), by omega⟩ : Fin 2048)) = ((E s h l : ℝ) : EReal) := by
  rw [inV_eq]
  refine Eq.trans ?_ (H.a4 s h l)
  pointwise [paired]

end Cert.MlaFwdIdeal.Result

end
-- ==== Proof.MlaFwdValue.lean ====
/-
  The latent attention's forward kernel, the arrays: point `(a, b)` of the grid fills rows `512 b` to `512 b + 511` of
  heads `2 a` and `2 a + 1`, and together the points fill the output and the row log-sums.
-/
module

public import proofs.«01_k».proof.Proof.MlaFwdOut
public import proofs.«01_k».proof.Proof.MlaFwdHost
public import proofs.«01_k».proof.Proof.Gen.MlaFwdIdeal.Value

@[expose] public section

set_option maxRecDepth 16384

noncomputable section

namespace Cert.MlaFwdIdeal.Result

open Cert.MlaFwdIdeal Cert.MlaFwdIdeal.Gen Cert.MlaFwdIdeal.Block Idealize.ShloMosaic Idealize.ShloMosaic.TcCoe Idealize.SL.Sem Cert.Reals Cert.Latent
open Idealize.ShloMosaic.Pipeline (Dat)

variable (m : (ℓ : Loc nD τ sig) → Buf (Elt Ideal) ℓ) (c : Dev nD)
variable {A : Heads 128} {B : Heads 64} {C : Heads 128} {D : Shared 64} {E : Heads 128}

/-- Where the windows lie at a point. -/
theorem index_in : ∀ t : Fin cfg0.N, (win0_0.index t 0 = t.val % 16 ∧ win0_0.index t 1 = t.val / 16) ∧ (win0_1.index t 0 = 0 ∧ win0_1.index t 1 = t.val / 16)
    ∧ (win0_2.index t 0 = 0 ∧ win0_2.index t 1 = 4 + t.val / 16) := by decide +kernel

@[inherit_doc index_in]
theorem index_out : ∀ t : Fin cfg0.N, (win0_3.index t 0 = t.val % 16 ∧ win0_3.index t 1 = t.val / 16)
    ∧ (win0_4.index t 0 = t.val / 16 ∧ win0_4.index t 1 = t.val % 16 ∧ win0_4.index t 2 = 0) := by decide +kernel

/-- The query tile of a point. -/
theorem tile_of : ∀ t : Fin cfg0.N, (grid0.coords t 1).val = t.val % 16 := by decide +kernel

/-- A row of the tile, as a row of the array. -/
def rowOf (t : Fin cfg0.N) (r : Fin 512) : Fin 8192 := ⟨512 * (t.val % 16) + r.val, by omega⟩

/-- One of the two heads of a point. -/
def headOf (t : Fin cfg0.N) (p : ℕ) (hp : p < 2) : Fin 8 := ⟨2 * (t.val / 16) + p, by have hN : cfg0.N = 64 := N_0; have := t.isLt; omega⟩

/-- The tile's queries, the pair's keys and the pair's values. -/
def tileQ (A : Heads 128) (B : Heads 64) (t : Fin cfg0.N) (r d : Fin 512) : ℝ := wide A B (rowOf t r) (headOf t (d.val / 256) (by omega)) ⟨d.val % 256, by omega⟩
@[inherit_doc tileQ] def tileK (C : Heads 128) (D : Shared 64) (t : Fin cfg0.N) (n : Fin 8192) (d : Fin 512) : ℝ :=
  wide C (fun s _ => D s) n (headOf t (d.val / 256) (by omega)) ⟨d.val % 256, by omega⟩
@[inherit_doc tileQ] def tileV (E : Heads 128) (t : Fin cfg0.N) (n : Fin 8192) (d : Fin 256) : ℝ := E n (headOf t (d.val / 128) (by omega)) ⟨d.val % 128, by omega⟩

/-- Window 0's block. -/
theorem iblk0 (H : Real m c A B C D E) (t : Fin cfg0.N) (r d : Fin 512) :
    (iblk m c 0 t : S512x512.Idx → EReal) (ix2 r d) = ((tileQ A B t r d : ℝ) : EReal) := by
  obtain ⟨⟨e0, e1⟩, -⟩ := index_in t
  refine Eq.trans ?_ (inQ_apply m c H _ _ _)
  unfold iblk
  rw [View.read_apply]
  refine congrArg (inQ m c) (funext fun a => Fin.ext ?_)
  match a with
  | ⟨0, _⟩ => show win0_0.index t 0 * 512 + 1 * r.val = 512 * (t.val % 16) + r.val; rw [e0]; omega
  | ⟨1, _⟩ => show win0_0.index t 1 * 512 + 1 * d.val = (2 * (t.val / 16) + d.val / 256) * 256 + d.val % 256; rw [e1]; omega

/-- Window 1's block. -/
theorem iblk1 (H : Real m c A B C D E) (t : Fin cfg0.N) (n : Fin 8192) (d : Fin 512) :
    (iblk m c 1 t : S8192x512.Idx → EReal) (ix2 n d) = ((tileK C D t n d : ℝ) : EReal) := by
  obtain ⟨-, ⟨e0, e1⟩, -⟩ := index_in t
  refine Eq.trans ?_ (inK_apply m c H _ _ _)
  unfold iblk
  rw [View.read_apply]
  refine congrArg (inK m c) (funext fun a => Fin.ext ?_)
  match a with
  | ⟨0, _⟩ => show win0_1.index t 0 * 8192 + 1 * n.val = n.val; rw [e0]; omega
  | ⟨1, _⟩ => show win0_1.index t 1 * 512 + 1 * d.val = (2 * (t.val / 16) + d.val / 256) * 256 + d.val % 256; rw [e1]; omega

/-- Window 2's block. -/
theorem iblk2 (H : Real m c A B C D E) (t : Fin cfg0.N) (n : Fin 8192) (d : Fin 256) :
    (iblk m c 2 t : S8192x256.Idx → EReal) (ix2 n d) = ((tileV E t n d : ℝ) : EReal) := by
  obtain ⟨-, -, ⟨e0, e1⟩⟩ := index_in t
  refine Eq.trans ?_ (inV_apply m c H _ _ _)
  unfold iblk
  rw [View.read_apply]
  refine congrArg (inV m c) (funext fun a => Fin.ext ?_)
  match a with
  | ⟨0, _⟩ => show win0_2.index t 0 * 8192 + 1 * n.val = n.val; rw [e0]; omega
  | ⟨1, _⟩ => show win0_2.index t 1 * 256 + 1 * d.val = 1024 + ((2 * (t.val / 16) + d.val / 128) * 128 + d.val % 128); rw [e1]; omega

/-- The tile's scores are the attention's. -/
theorem sc_tile (t : Fin cfg0.N) (p : Fin 2) (r : Fin 512) :
    sc (tileQ A B t) (tileK C D t) p r = score A B C D (headOf t p.val p.isLt) (rowOf t r) := by
  have hp := p.isLt
  funext n
  unfold sc score
  refine congrArg (· * s192) (Eq.trans (Finset.sum_congr rfl fun l _ => ?_) (sum_wide A C B (fun s _ => D s) (rowOf t r) (at8 n) (headOf t p.val p.isLt)))
  have hl := l.isLt
  have e1 : (256 * p.val + l.val) / 256 = p.val := by omega
  have e2 : (256 * p.val + l.val) % 256 = l.val := by omega
  unfold tileQ tileK
  simp only [e1, e2]

theorem va_tile (t : Fin cfg0.N) (p : Fin 2) (j : Fin 128) :
    va (tileV E t) p j = fun n => E (at8 n) (headOf t p.val p.isLt) j := by
  have hp := p.isLt
  have hl := j.isLt
  funext n
  unfold va tileV
  have e1 : (128 * p.val + j.val) / 128 = p.val := by omega
  have e2 : (128 * p.val + j.val) % 128 = j.val := by omega
  simp only [e1, e2]

variable (A B C D E)

/-- The output array. -/
def arrO (i : S8192x1024.Idx) : EReal :=
  ((Latent.out A B C D E ⟨(i 1).val / 128, Nat.div_lt_of_lt_mul (i 1).isLt⟩ (i 0) ⟨(i 1).val % 128, Nat.mod_lt _ (by norm_num)⟩ : ℝ) : EReal)

/-- The row log-sums, in every lane. -/
def arrL (i : S8x8192x128.Idx) : EReal := ((Latent.lse A B C D (i 0) (i 1) : ℝ) : EReal)

variable {A B C D E}

/-- What a point leaves in its two blocks. -/
theorem outs_3 (H : Real m c A B C D E) (t : Fin cfg0.N) : (outsAt0 m c t).1 = blockO (tileQ A B t) (tileK C D t) (tileV E t) (512 * (t.val % 16)) := by
  have e := tile_of t
  unfold outsAt0
  dsimp only
  refine Eq.trans (outO (Q := tileQ A B t) (K := tileK C D t) (W := tileV E t) (x0 := iblk m c 0 t) (x1 := iblk m c 1 t) (x2 := iblk m c 2 t) c (grid0.coords t)
    (ms0_0 t) (hs0_0 t) (ms0_1 t) (hs0_1 t) (ms0_2 t) (hs0_2 t) (ms0_3 t) (hs0_3 t) (ms0_4 t) (hs0_4 t) (iblk0 m c H t) (iblk1 m c H t) (iblk2 m c H t)) ?_
  exact congrArg (fun n => blockO (tileQ A B t) (tileK C D t) (tileV E t) (512 * n)) e

@[inherit_doc outs_3]
theorem outs_4 (H : Real m c A B C D E) (t : Fin cfg0.N) : (outsAt0 m c t).2 = blockL (tileQ A B t) (tileK C D t) (512 * (t.val % 16)) := by
  have e := tile_of t
  unfold outsAt0
  dsimp only
  refine Eq.trans (outL (Q := tileQ A B t) (K := tileK C D t) (W := tileV E t) (x0 := iblk m c 0 t) (x1 := iblk m c 1 t) (x2 := iblk m c 2 t) c (grid0.coords t)
    (ms0_0 t) (hs0_0 t) (ms0_1 t) (hs0_1 t) (ms0_2 t) (hs0_2 t) (ms0_3 t) (hs0_3 t) (ms0_4 t) (hs0_4 t) (iblk0 m c H t) (iblk1 m c H t) (iblk2 m c H t)) ?_
  exact congrArg (fun n => blockL (tileQ A B t) (tileK C D t) (512 * n)) e

/-- The tile's outputs are the attention's. -/
theorem attO_tile (t : Fin cfg0.N) (p : Fin 2) (r : Fin 512) (j : Fin 128) :
    attO (tileQ A B t) (tileK C D t) (tileV E t) (512 * (t.val % 16)) p r j = Latent.out A B C D E (headOf t p.val p.isLt) (rowOf t r) j := by
  unfold attO Latent.out
  rw [sc_tile, va_tile]
  rfl

@[inherit_doc attO_tile]
theorem attL_tile (t : Fin cfg0.N) (p : Fin 2) (r : Fin 512) :
    attL (tileQ A B t) (tileK C D t) (512 * (t.val % 16)) p r = Latent.lse A B C D (headOf t p.val p.isLt) (rowOf t r) := by
  unfold attL Latent.lse
  rw [sc_tile]
  rfl

/-- The output's block, in the array. -/
theorem block_O (t : Fin cfg0.N) (r : Fin 512) (j : Fin 256) (hj : 256 * (t.val / 16) + j.val < 1024) :
    blockO (tileQ A B t) (tileK C D t) (tileV E t) (512 * (t.val % 16)) (ix2 r j)
      = arrO A B C D E (ix2 (rowOf t r) (⟨256 * (t.val / 16) + j.val, hj⟩ : Fin 1024)) := by
  refine congrArg Real.toEReal ((attO_tile t ⟨j.val / 128, by omega⟩ r ⟨j.val % 128, by omega⟩).trans ?_)
  exact congrArg₂ (fun h d => Latent.out A B C D E h (rowOf t r) d)
    (Fin.ext (by show 2 * (t.val / 16) + j.val / 128 = (256 * (t.val / 16) + j.val) / 128; omega))
    (Fin.ext (by show j.val % 128 = (256 * (t.val / 16) + j.val) % 128; omega))

/-- The log-sums' block, in the array. -/
theorem block_L (t : Fin cfg0.N) (p : Fin 2) (r : Fin 512) (l : Fin 128) :
    blockL (tileQ A B t) (tileK C D t) (512 * (t.val % 16)) (ix3 p r l) = arrL A B C D (ix3 (headOf t p.val p.isLt) (rowOf t r) l) :=
  congrArg Real.toEReal (attL_tile t p r)

/-- The output array. -/
theorem final_3 (H : Real m c A B C D E) : (dats m 0 c).arrAt 3 cfg0.N = arrO A B C D E := by
  have hN : cfg0.N = 64 := N_0
  refine (dats m 0 c).arrAt_eq_of_cover 3 _ (fun t _ => ?_) fun i => ?_
  · obtain ⟨⟨e0, e1⟩, -⟩ := index_out t
    rw [Value.flushed3, outs_3 m c H]
    funext j
    rw [View.read_apply]
    refine (congrArg (blockO (tileQ A B t) (tileK C D t) (tileV E t) (512 * (t.val % 16))) (eq_ix2 j)).trans ((block_O t (j 0) (j 1) (by have := t.isLt; have h1 : (j 1 : Nat) < 256 := (j 1).isLt; omega)).trans ?_)
    refine congrArg (arrO A B C D E) (funext fun a => Fin.ext ?_)
    match a with
    | ⟨0, _⟩ => show 512 * (t.val % 16) + (j 0).val = win0_3.index t 0 * 512 + 1 * (j 0).val; rw [e0]; omega
    | ⟨1, _⟩ => show 256 * (t.val / 16) + (j 1).val = win0_3.index t 1 * 256 + 1 * (j 1).val; rw [e1]; omega
  · have h0 : (i 0 : Nat) < 8192 := (i 0).isLt
    have h1 : (i 1 : Nat) < 1024 := (i 1).isLt
    obtain ⟨t, ht⟩ : ∃ t : Fin cfg0.N, t.val = (i 1 : Nat) / 256 * 16 + (i 0 : Nat) / 512 := ⟨⟨(i 1 : Nat) / 256 * 16 + (i 0 : Nat) / 512, by omega⟩, rfl⟩
    refine ⟨t, flush0_3 t, ?_⟩
    obtain ⟨⟨e0, e1⟩, -⟩ := index_out t
    show i ∈ ((View.whole main_v14_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [e0]; omega
    | ⟨1, _⟩ => show win0_3.index t 1 * 256 ≤ (i 1 : Nat) ∧ (i 1 : Nat) < win0_3.index t 1 * 256 + 256; rw [e1]; omega

/-- The array of row log-sums. -/
theorem final_4 (H : Real m c A B C D E) : (dats m 0 c).arrAt 4 cfg0.N = arrL A B C D := by
  have hN : cfg0.N = 64 := N_0
  refine (dats m 0 c).arrAt_eq_of_cover 4 _ (fun t _ => ?_) fun i => ?_
  · obtain ⟨-, ⟨e0, e1, e2⟩⟩ := index_out t
    rw [Value.flushed4, outs_4 m c H]
    funext j
    rw [View.read_apply]
    refine (congrArg (blockL (tileQ A B t) (tileK C D t) (512 * (t.val % 16))) (eq_ix3 j)).trans ((block_L t (j 0) (j 1) (j 2)).trans ?_)
    refine congrArg (arrL A B C D) (funext fun a => Fin.ext ?_)
    match a with
    | ⟨0, _⟩ => show 2 * (t.val / 16) + (j 0).val = win0_4.index t 0 * 2 + 1 * (j 0).val; rw [e0]; omega
    | ⟨1, _⟩ => show 512 * (t.val % 16) + (j 1).val = win0_4.index t 1 * 512 + 1 * (j 1).val; rw [e1]; omega
    | ⟨2, _⟩ => show (j 2).val = win0_4.index t 2 * 128 + 1 * (j 2).val; rw [e2]; omega
  · have h0 : (i 0 : Nat) < 8 := (i 0).isLt
    have h1 : (i 1 : Nat) < 8192 := (i 1).isLt
    have h2 : (i 2 : Nat) < 128 := (i 2).isLt
    obtain ⟨t, ht⟩ : ∃ t : Fin cfg0.N, t.val = (i 0 : Nat) / 2 * 16 + (i 1 : Nat) / 512 := ⟨⟨(i 0 : Nat) / 2 * 16 + (i 1 : Nat) / 512, by omega⟩, rfl⟩
    refine ⟨t, flush0_4 t, ?_⟩
    obtain ⟨-, ⟨e0, e1, e2⟩⟩ := index_out t
    show i ∈ ((View.whole main_v14_1).slice (win0_4.rect t)).set
    rw [View.set_slice_whole, Rect.mem_set_unit]
    intro a
    match a with
    | ⟨0, _⟩ => show win0_4.index t 0 * 2 ≤ (i 0 : Nat) ∧ (i 0 : Nat) < win0_4.index t 0 * 2 + 2; rw [e0]; omega
    | ⟨1, _⟩ => show win0_4.index t 1 * 512 ≤ (i 1 : Nat) ∧ (i 1 : Nat) < win0_4.index t 1 * 512 + 512; rw [e1]; omega
    | ⟨2, _⟩ => show win0_4.index t 2 * 128 ≤ (i 2 : Nat) ∧ (i 2 : Nat) < win0_4.index t 2 * 128 + 128; rw [e2]; omega

end Cert.MlaFwdIdeal.Result

end
-- ==== Proof.MlaFwdRef.lean ====
/-
  The latent attention's reference at finite arguments: plain scores, the causal mask, the softmax with the row's
  maximum subtracted, the weighted values and the row's log-sum, each the real number its formula states.
-/
module

public import proofs.«01_k».proof.Proof.MlaFwdMath
public import proofs.«01_k».proof.Proof.Gen.MlaFwdRefIdeal.Run
public import proofs.«01_k».proof.Proof.Gen.MlaFwdRefIdeal.Read
public import Idealize.ShloMosaic.Lib.Pointwise

@[expose] public section

set_option maxRecDepth 16384

noncomputable section

namespace Cert.MlaFwdRefIdeal.Result

open Cert.MlaFwdRefIdeal Cert.MlaFwdRefIdeal.Gen Cert.MlaFwdRefIdeal.Read Idealize.ShloMosaic Idealize.ShloMosaic.TcCoe
open Cert.Reals Cert.Latent Cert.Flash
open Cert.Band (hide max_hide_real exp_hide lit_neg_inf)
open Cert.MlaFwdIdeal.Block (at8 s192)

variable {x0 x2 x4 : S1x8192x8x128.Idx → EReal} {x1 : S1x8192x8x64.Idx → EReal} {x3 : S1x8192x64.Idx → EReal}
variable {A : Heads 128} {B : Heads 64} {C : Heads 128} {D : Shared 64} {E : Heads 128}

/-- The run-time scale is the inverse root of 192. -/
theorem scale_eq : Ideal.div (1 : EReal) (Ideal.sqrt (Ideal.ofBits .f32 0x43400000#32)) = (s192 : EReal) := by
  have e : Ideal.ofBits .f32 0x43400000#32 = ((192 : ℝ) : EReal) := by
    simp [Ideal.ofBits, Ideal.ieee]
    norm_num [← EReal.coe_mul]
  rw [e, Ideal.sqrt_coe, if_neg (by norm_num : ¬ (192 : ℝ) < 0), Ideal.div_coe (by positivity : Real.sqrt 192 ≠ 0), one_mul, one_div]
  rfl

theorem at8_val (n : Fin 8192) : at8 n.val = n := Fin.ext (Nat.mod_eq_of_lt n.isLt)

/-- A key's place against the query's. -/
theorem seen_word (q n : Fin 8192) : IntOp.cmpi .sle (BitVec.ofNat 32 n.val) (BitVec.ofNat 32 q.val) = BitVec.ofBool (decide (n.val ≤ q.val)) :=
  WordCmp.cmpi_sle_ofNat (by have := n.isLt; norm_num; omega) (by have := q.isLt; norm_num; omega)

section
variable (a0 : ∀ s h d, x0 (ix4 0 s h d) = ((A s h d : ℝ) : EReal)) (a1 : ∀ s h d, x1 (ix4 0 s h d) = ((B s h d : ℝ) : EReal))
  (a2 : ∀ s h d, x2 (ix4 0 s h d) = ((C s h d : ℝ) : EReal)) (a3 : ∀ s d, x3 (ix3 0 s d) = ((D s d : ℝ) : EReal))
  (a4 : ∀ s h d, x4 (ix4 0 s h d) = ((E s h d : ℝ) : EReal))
include a0 a1 a2 a3

/-- The scaled scores. -/
theorem v7_apply (h : Fin 8) (q n : Fin 8192) :
    val_main_v7 (F := Ideal) x0 x1 x2 x3 (ix4 0 h q n) = ((score A B C D h q n.val : ℝ) : EReal) := by
  pointwise [val_main_v7, val_main_v6, val_main_v5, val_main_v4, val_main_v3, val_main_v2, val_main_v1, val_main_v0, val_main_cst, val_main_cst_0]
  rw [scale_eq]
  simp only [a0, a1, a2, a3, ← EReal.coe_mul, coe_sum, ← EReal.coe_add]
  unfold score
  rw [at8_val]
  simp only [mul_comm (D _ _)]

/-- The masked scores. -/
theorem v14_apply (h : Fin 8) (q n : Fin 8192) :
    val_main_v14 (F := Ideal) x0 x1 x2 x3 (ix4 0 h q n) = hide (decide (n.val ≤ q.val)) (score A B C D h q n.val) := by
  pointwise [val_main_v14, val_main_call0_v2, val_main_call0_v1, val_main_call0_v0, val_main_cst_1, val_main_v13, val_main_v12, val_main_v11, val_main_v10, val_main_v9, val_main_v8]
  rw [v7_apply a0 a1 a2 a3, seen_word, WordCmp.select_ofBool]
  unfold hide
  refine congrArg (fun b : EReal => if _ = true then _ else b) lit_neg_inf

omit a0 a1 a2 a3 in
/-- The reference's maximum over the keys. -/
theorem max_apply (y : (⟨S1x8x8192x8192, .f32⟩ : BufTy).Contents (Elt Ideal)) (h : Fin 8) (q : Fin 8192) :
    Host.reduce (FloatOps.maximumf (F := Ideal) (φ := .f32)) y (val_main_cst_2 (F := Ideal)) reducesTo_S1x8x8192x8192_S1x8x8192_d3 h_S_ (ix3 0 h q)
      = Finset.univ.fold max ⊥ fun n : Fin 8192 => y (ix4 0 h q n) := by
  pointwise [val_main_cst_2]
  rw [lit_neg_inf]

/-- A row's maximum is a real number, in both of the reference's readings of it. -/
theorem top_real (h : Fin 8) (q : Fin 8192) :
    ∃ μ : ℝ, val_main_v17 (F := Ideal) x0 x1 x2 x3 (ix3 0 h q) = (μ : EReal) ∧ val_main_v26 (F := Ideal) x0 x1 x2 x3 (ix3 0 h q) = (μ : EReal) := by
  obtain ⟨μ, hμ⟩ := max_hide_real (fun n : Fin 8192 => decide (n.val ≤ q.val)) (fun n => score A B C D h q n.val) q (by simp)
  have e : (Finset.univ.fold max ⊥ fun n : Fin 8192 => val_main_v14 (F := Ideal) x0 x1 x2 x3 (ix4 0 h q n)) = (μ : EReal) := by
    simp only [v14_apply a0 a1 a2 a3]
    exact hμ
  have e15 : val_main_v15 (F := Ideal) x0 x1 x2 x3 (ix3 0 h q) = (μ : EReal) := by
    unfold val_main_v15
    rw [max_apply, e]
  have e26 : val_main_v26 (F := Ideal) x0 x1 x2 x3 (ix3 0 h q) = (μ : EReal) := by
    unfold val_main_v26
    rw [show val_main_cst_5 (F := Ideal) = val_main_cst_2 from rfl, max_apply, e]
  refine ⟨μ, ?_, e26⟩
  rw [val_main_v17_apply, e15, val_main_v16_apply, val_main_cst_3_apply]
  show max (Ideal.ofBits .f32 0xFF800000#32) (μ : EReal) = _
  rw [lit_neg_inf]
  exact max_eq_right bot_le

/-- A row's maximum. -/
def top (h : Fin 8) (q : Fin 8192) : ℝ := (top_real a0 a1 a2 a3 h q).choose

theorem v17_apply (h : Fin 8) (q : Fin 8192) : val_main_v17 (F := Ideal) x0 x1 x2 x3 (ix3 0 h q) = (top a0 a1 a2 a3 h q : EReal) :=
  (top_real a0 a1 a2 a3 h q).choose_spec.1

theorem v26_apply (h : Fin 8) (q : Fin 8192) : val_main_v26 (F := Ideal) x0 x1 x2 x3 (ix3 0 h q) = (top a0 a1 a2 a3 h q : EReal) :=
  (top_real a0 a1 a2 a3 h q).choose_spec.2

omit a0 a1 a2 a3 in
/-- An exponential with a number subtracted. -/
theorem shift (x : ℕ → ℝ) (q n : ℕ) (μ : ℝ) : (if decide (n ≤ q) = true then Real.exp (x n - μ) else 0) = term x q n * Real.exp (-μ) := by
  unfold term
  by_cases h : n ≤ q
  · rw [if_pos (decide_eq_true h), if_pos h, ← Real.exp_add, sub_eq_add_neg]
  · rw [if_neg (by simpa using h), if_neg h, zero_mul]

omit a0 a1 a2 a3 in
/-- A row's sum, with a number subtracted. -/
theorem shift_sum (x : ℕ → ℝ) (q : ℕ) (μ : ℝ) : ∑ n : Fin 8192, term x q n.val * Real.exp (-μ) = total x q 8192 * Real.exp (-μ) := by
  rw [← Finset.sum_mul, total, Finset.sum_range]

/-- The exponentials. -/
theorem v21_apply (h : Fin 8) (q n : Fin 8192) :
    val_main_v21 (F := Ideal) x0 x1 x2 x3 (ix4 0 h q n) = ((term (score A B C D h q) q.val n.val * Real.exp (-top a0 a1 a2 a3 h q) : ℝ) : EReal) := by
  pointwise [val_main_v21, val_main_v20, val_main_v19, val_main_v18]
  rw [v14_apply a0 a1 a2 a3, v17_apply a0 a1 a2 a3, ← shift]
  exact exp_hide _ _ _

@[inherit_doc v21_apply]
theorem v30_apply (h : Fin 8) (q n : Fin 8192) :
    val_main_v30 (F := Ideal) x0 x1 x2 x3 (ix4 0 h q n) = ((term (score A B C D h q) q.val n.val * Real.exp (-top a0 a1 a2 a3 h q) : ℝ) : EReal) := by
  pointwise [val_main_v30, val_main_v29, val_main_v28, val_main_v27]
  rw [v14_apply a0 a1 a2 a3, v26_apply a0 a1 a2 a3, ← shift]
  exact exp_hide _ _ _

omit a0 a1 a2 a3 in
theorem lit_zero : (Ideal.ofBits .f32 0x00000000#32 : EReal) = 0 := by simp [Ideal.ofBits, Ideal.ieee]

/-- Their sums. -/
theorem v22_apply (h : Fin 8) (q : Fin 8192) :
    val_main_v22 (F := Ideal) x0 x1 x2 x3 (ix3 0 h q) = ((total (score A B C D h q) q.val 8192 * Real.exp (-top a0 a1 a2 a3 h q) : ℝ) : EReal) := by
  pointwise [val_main_v22, val_main_cst_4]
  simp only [v21_apply a0 a1 a2 a3, coe_sum, shift_sum, lit_zero, zero_add]

@[inherit_doc v22_apply]
theorem v31_apply (h : Fin 8) (q : Fin 8192) :
    val_main_v31 (F := Ideal) x0 x1 x2 x3 (ix3 0 h q) = ((total (score A B C D h q) q.val 8192 * Real.exp (-top a0 a1 a2 a3 h q) : ℝ) : EReal) := by
  pointwise [val_main_v31, val_main_cst_6]
  simp only [v30_apply a0 a1 a2 a3, coe_sum, shift_sum, lit_zero, zero_add]

omit a0 a1 a2 a3 in
theorem row_pos (h : Fin 8) (q : Fin 8192) (μ : ℝ) : 0 < total (score A B C D h q) q.val 8192 * Real.exp (-μ) :=
  mul_pos (total_pos _ _ _ q.isLt) (Real.exp_pos _)

/-- The softmax weights. -/
theorem v25_apply (h : Fin 8) (q n : Fin 8192) :
    val_main_v25 (F := Ideal) x0 x1 x2 x3 (ix4 0 h q n) = ((term (score A B C D h q) q.val n.val / total (score A B C D h q) q.val 8192 : ℝ) : EReal) := by
  pointwise [val_main_v25, val_main_v24, val_main_v23]
  rw [v21_apply a0 a1 a2 a3, v22_apply a0 a1 a2 a3]
  refine (div_real _ (row_pos h q _).ne').trans (congrArg Real.toEReal ?_)
  exact mul_div_mul_right _ _ (Real.exp_pos _).ne'

/-- The rows' log-sums. -/
theorem v33_apply (h : Fin 8) (q : Fin 8192) :
    val_main_v33 (F := Ideal) x0 x1 x2 x3 (ix3 0 h q) = ((Latent.lse A B C D h q : ℝ) : EReal) := by
  pointwise [val_main_v33, val_main_v32]
  rw [v31_apply a0 a1 a2 a3, v26_apply a0 a1 a2 a3]
  have hp := row_pos (A := A) (B := B) (C := C) (D := D) h q (top a0 a1 a2 a3 h q)
  have e : Ideal.log ((total (score A B C D h q) q.val 8192 * Real.exp (-top a0 a1 a2 a3 h q) : ℝ) : EReal)
      = ((Real.log (total (score A B C D h q) q.val 8192 * Real.exp (-top a0 a1 a2 a3 h q)) : ℝ) : EReal) := by
    rw [Ideal.log_coe, if_neg (by linarith)]
  rw [e, ← EReal.coe_add]
  refine congrArg Real.toEReal ?_
  rw [Real.log_mul (total_pos _ _ _ q.isLt).ne' (Real.exp_pos _).ne', Real.log_exp, neg_add_cancel_right]
  rfl

/-- The second result, in every lane. -/
theorem v40_apply (h : Fin 8) (q : Fin 8192) (l : Fin 128) :
    val_main_v40 (F := Ideal) x0 x1 x2 x3 (ix3 h q l) = ((Latent.lse A B C D h q : ℝ) : EReal) := by
  pointwise [val_main_v40, val_main_v39, val_main_v38]
  exact v33_apply a0 a1 a2 a3 h q

include a4

/-- The weighted values. -/
theorem v35_apply (h : Fin 8) (q : Fin 8192) (j : Fin 128) :
    val_main_v35 (F := Ideal) x0 x1 x2 x3 x4 (ix4 0 q h j) = ((Latent.out A B C D E h q j : ℝ) : EReal) := by
  pointwise [val_main_v35, val_main_v34]
  simp only [v25_apply a0 a1 a2 a3, a4, ← EReal.coe_mul, coe_sum]
  refine congrArg Real.toEReal ?_
  unfold Latent.out gather
  rw [Finset.sum_range, Finset.sum_div]
  refine Finset.sum_congr rfl fun n _ => ?_
  beta_reduce
  rw [at8_val]
  ring

/-- The first result. -/
theorem v37_apply (q : Fin 8192) (j : Fin 1024) :
    val_main_v37 (F := Ideal) x0 x1 x2 x3 x4 (ix2 q j)
      = ((Latent.out A B C D E ⟨j.val / 128, Nat.div_lt_of_lt_mul j.isLt⟩ q ⟨j.val % 128, Nat.mod_lt _ (by norm_num)⟩ : ℝ) : EReal) := by
  rw [val_main_v37_apply, val_main_v36_apply]
  refine Eq.trans (congrArg (val_main_v35 (F := Ideal) x0 x1 x2 x3 x4) ?_) (v35_apply a0 a1 a2 a3 a4 _ q _)
  have hq := q.isLt
  have hj := j.isLt
  funext a
  refine Fin.ext ?_
  match a with
  | ⟨0, _⟩ => rfl
  | ⟨1, _⟩ => show (q.val * 1024 + j.val) / 1024 % 8192 = q.val; omega
  | ⟨2, _⟩ => show (q.val * 1024 + j.val) / 128 % 8 = j.val / 128; omega
  | ⟨3, _⟩ => show (q.val * 1024 + j.val) % 128 = j.val % 128; omega

end

end Cert.MlaFwdRefIdeal.Result

end
-- ==== Proof.MlaFwdClaim.lean ====
/-
  The latent attention's forward call: its claims. The frames are the generated ones; the equation sets the kernel's two
  arrays, the output and the row log-sums, beside the reference's two results at finite arguments.
-/
module

public import proofs.«01_k».proof.Defs
public import proofs.«01_k».proof.Proof.MlaFwdValue
public import proofs.«01_k».proof.Proof.MlaFwdRef
public import proofs.«01_k».proof.Proof.Gen.MlaFwd.Frame
public import proofs.«01_k».proof.Proof.Gen.Pre_mla_fwd_finite
public import Idealize.ShloMosaic.Lib.Quiescent

@[expose] public section

set_option maxRecDepth 16384

noncomputable section

namespace Cert.Proof.MlaFwd

open Idealize.ShloMosaic Idealize.ShloMosaic.TcCoe Idealize.SL.Sem Cert.Reals Cert.Latent

/-- The two named constants: the mask stands for the infinity below, the scale for the inverse root of 192. -/
theorem preserves : Cert.preserves_MlaFwd_MlaFwdIdeal :=
  ⟨IdealRules.named_const.statement Cert.MlaFwdIdeal.κ "mask" .f32 0xF149F2CA#32 ⊥ rfl,
    IdealRules.named_const.statement Cert.MlaFwdIdeal.κ "s" .f32 0x3D93CD3A#32 (((Real.sqrt 192)⁻¹ : ℝ) : EReal) rfl⟩

/-- The reference ends, its arguments unchanged. -/
theorem frame_ref : Cert.quiescent_MlaFwdRefIdeal := fun m g _ =>
  (θ_run Cert.MlaFwdRefIdeal.defs _ _).mono
    (fun r h => ⟨fun c => (h c).2.2, Idealize.ShloMosaic.sem_eq_zero_of_no_sems (by decide) r.2⟩) (Cert.MlaFwdRefIdeal.Value.run (F := Ideal) m g)

/-- At finite arguments the kernel's two arrays are the reference's two results. -/
theorem algebraic : Cert.algebraic_MlaFwdIdeal_MlaFwdRefIdeal_pre_mla_fwd_finite := by
  intro m g m' g' hpre hagree
  refine ⟨_, _, Cert.MlaFwdIdeal.Value.run_blocks (F := Ideal) m g, ?_⟩
  refine (θ_run Cert.MlaFwdRefIdeal.defs _ _).mono (fun r h c => ⟨(h c).1.trans ?_, (h c).2.1.trans ?_, (h c).2.2⟩)
    (Cert.MlaFwdRefIdeal.Value.run (F := Ideal) m' g')
  all_goals
    obtain ⟨p0, p1, p2, p3, p4⟩ := hpre c
    obtain ⟨A, hA⟩ := real_of_test _ _ lit_inf _ p0
    obtain ⟨B, hB⟩ := real_of_test _ _ lit_inf _ p1
    obtain ⟨C, hC⟩ := real_of_test _ _ lit_inf _ p2
    obtain ⟨D, hD⟩ := real_of_test _ _ lit_inf _ p3
    obtain ⟨E, hE⟩ := real_of_test _ _ lit_inf _ p4
    obtain ⟨a0, a1, a2, a3, a4⟩ := hagree c
    have b0 := a0.trans hA
    have b1 := a1.trans hB
    have b2 := a2.trans hC
    have b3 := a3.trans hD
    have b4 := a4.trans hE
    have hR : Cert.MlaFwdIdeal.Result.Real m c (fun s h d => A (ix4 0 s h d)) (fun s h d => B (ix4 0 s h d)) (fun s h d => C (ix4 0 s h d))
        (fun s d => D (ix3 0 s d)) (fun s h d => E (ix4 0 s h d)) :=
      ⟨fun s h d => congrFun hA _, fun s h d => congrFun hB _, fun s h d => congrFun hC _, fun s d => congrFun hD _, fun s h d => congrFun hE _⟩
  · refine Eq.trans ?_ (Cert.MlaFwdIdeal.Result.final_3 m c hR).symm
    rw [Cert.MlaFwdRefIdeal.Read.val_main_v37_eq]
    funext i
    obtain ⟨q, j, rfl⟩ : ∃ (q : Fin 8192) (j : Fin 1024), i = ix2 q j := ⟨i 0, i 1, eq_ix2 i⟩
    exact Cert.MlaFwdRefIdeal.Result.v37_apply (fun s h d => congrFun b0 _) (fun s h d => congrFun b1 _) (fun s h d => congrFun b2 _)
      (fun s d => congrFun b3 _) (fun s h d => congrFun b4 _) q j
  · refine Eq.trans ?_ (Cert.MlaFwdIdeal.Result.final_4 m c hR).symm
    rw [Cert.MlaFwdRefIdeal.Read.val_main_v40_eq]
    funext i
    obtain ⟨h, q, l, rfl⟩ : ∃ (h : Fin 8) (q : Fin 8192) (l : Fin 128), i = ix3 h q l := ⟨i 0, i 1, i 2, eq_ix3 i⟩
    exact Cert.MlaFwdRefIdeal.Result.v40_apply (fun s h d => congrFun b0 _) (fun s h d => congrFun b1 _) (fun s h d => congrFun b2 _)
      (fun s d => congrFun b3 _) h q l

end Cert.Proof.MlaFwd

end
-- ==== Proof.Dil1FwdValue.lean ====
/-
  The banded attention's forward kernel with dilation one, taken by itself: what it reads at a grid point and what its
  two arrays hold afterwards. The body is the one the gradient's program runs first, so a point's output is the number
  that program's block lemma names.
-/
module

public import proofs.«01_k».proof.Proof.Dil1Value
public import proofs.«01_k».proof.Proof.Gen.Dil1FwdIdeal.Value

@[expose] public section

set_option maxRecDepth 16384

noncomputable section

namespace Cert.Dil1FwdIdeal.Result

open Cert.Dil1FwdIdeal Cert.Dil1FwdIdeal.Gen Idealize.ShloMosaic Idealize.ShloMosaic.TcCoe Idealize.SL.Sem Cert.Reals Cert.Band
open Idealize.ShloMosaic.Pipeline (Dat)
open Cert.Dil1Ideal.Result (one arr_win arr_tile tileAt hd win_congr has_eq shift_eq point_of in_tile outs sums)

/-- A point's output is the one of the gradient's program. -/
theorem same_5 (i : grid0.Coords) (x0 x1 x2 : Vec Ideal S2048x128 .f32) (x3 x4 : Vec Ideal S128x128 .f32) :
    out0_5 i x0 x1 x2 x3 x4 = Cert.Dil1Ideal.Gen.out0_5 (F := Ideal) i x0 x1 x2 x3 x4 := rfl

/-- A point's log-sums are the ones of the gradient's program. -/
theorem same_6 (i : grid0.Coords) (x0 x1 x2 : Vec Ideal S2048x128 .f32) (x3 x4 : Vec Ideal S128x128 .f32) :
    out0_6 i x0 x1 x2 x3 x4 = Cert.Dil1Ideal.Gen.out0_6 (F := Ideal) i x0 x1 x2 x3 x4 := rfl

/-! Where the windows of a point lie. -/

theorem index_0 : ∀ t : Fin cfg0.N, win0_0.index t 0 = tileAt t.val ∧ win0_0.index t 1 = (hd t.val).val := by decide +kernel
theorem index_1 : ∀ t : Fin cfg0.N, win0_1.index t 0 = tileAt t.val ∧ win0_1.index t 1 = (hd t.val).val := by decide +kernel
theorem index_2 : ∀ t : Fin cfg0.N, win0_2.index t 0 = tileAt t.val ∧ win0_2.index t 1 = (hd t.val).val := by decide +kernel
theorem index_3 : ∀ t : Fin cfg0.N, win0_3.index t 0 = 16 * tileAt t.val - 1 ∧ win0_3.index t 1 = (hd t.val).val := by decide +kernel
theorem index_4 : ∀ t : Fin cfg0.N, win0_4.index t 0 = 16 * tileAt t.val - 1 ∧ win0_4.index t 1 = (hd t.val).val := by decide +kernel
theorem index_5 : ∀ t : Fin cfg0.N, win0_5.index t 0 = tileAt t.val ∧ win0_5.index t 1 = (hd t.val).val := by decide +kernel
theorem index_6 : ∀ t : Fin cfg0.N, win0_6.index t 0 = tileAt t.val ∧ win0_6.index t 1 = (hd t.val).val := by decide +kernel
theorem coord : ∀ t : Fin cfg0.N, (grid0.coords t 0).val = tileAt t.val := by decide +kernel

variable (m : (ℓ : Loc nD τ sig) → Buf (Elt Ideal) ℓ) (c : Dev nD) (Q K W : ShX.Idx → ℝ)

/-- The arguments are these real numbers. -/
structure Real : Prop where
  q : m ((c : Thread nD τ).loc main_arg0) = fun i => ((Q i : ℝ) : EReal)
  k : m ((c : Thread nD τ).loc main_arg1) = fun i => ((K i : ℝ) : EReal)
  w : m ((c : Thread nD τ).loc main_arg2) = fun i => ((W i : ℝ) : EReal)

variable {m c Q K W} (hr : Real m c Q K W)

include hr in
theorem host_0 : V m c main_v0 = arr 1 (blk 1 Q) := by
  refine Eq.trans ?_ (rows_eq one Q shapeCasts_S1x8192x8x128_S8192x1024)
  rw [← hr.q]
  show StableHlo.after hostOps0 _ _ = _
  after_results_simp <;> rfl

include hr in
theorem host_1 : V m c main_v1 = arr 1 (blk 1 K) := by
  refine Eq.trans ?_ (rows_eq one K shapeCasts_S1x8192x8x128_S8192x1024)
  rw [← hr.k]
  show StableHlo.after hostOps0 _ _ = _
  after_results_simp <;> rfl

include hr in
theorem host_2 : V m c main_v2 = arr 1 (blk 1 W) := by
  refine Eq.trans ?_ (rows_eq one W shapeCasts_S1x8192x8x128_S8192x1024)
  rw [← hr.w]
  show StableHlo.after hostOps0 _ _ = _
  after_results_simp <;> rfl

/-! What a point reads. -/

variable (m c) in
theorem tile_of (A : Fin 8 → Blocks) (t : Fin cfg0.N) :
    (V m c main_v0 = arr 1 A → iblk m c 0 t = win (fun b => A (hd t.val) (16 * tileAt t.val + b)))
    ∧ (V m c main_v1 = arr 1 A → iblk m c 1 t = win (fun b => A (hd t.val) (16 * tileAt t.val + b)))
    ∧ (V m c main_v2 = arr 1 A → iblk m c 2 t = win (fun b => A (hd t.val) (16 * tileAt t.val + b))) := by
  refine ⟨fun h => ?_, fun h => ?_, fun h => ?_⟩ <;> (funext y; unfold iblk; rw [View.read_apply])
  · exact (congrFun h _).trans (arr_win A _ _ y _ (by rw [← (index_0 t).1]; rfl) (by rw [← (index_0 t).2]; rfl))
  · exact (congrFun h _).trans (arr_win A _ _ y _ (by rw [← (index_1 t).1]; rfl) (by rw [← (index_1 t).2]; rfl))
  · exact (congrFun h _).trans (arr_win A _ _ y _ (by rw [← (index_2 t).1]; rfl) (by rw [← (index_2 t).2]; rfl))

variable (m c) in
theorem before_of (A : Fin 8 → Blocks) (t : Fin cfg0.N) :
    (V m c main_v1 = arr 1 A → iblk m c 3 t = tile (φ := .f32) (A (hd t.val) (16 * tileAt t.val - 1)))
    ∧ (V m c main_v2 = arr 1 A → iblk m c 4 t = tile (φ := .f32) (A (hd t.val) (16 * tileAt t.val - 1))) := by
  refine ⟨fun h => ?_, fun h => ?_⟩ <;> (funext y; unfold iblk; rw [View.read_apply])
  · exact (congrFun h _).trans (arr_tile A _ _ y _ (by rw [← (index_3 t).1]; rfl) (by rw [← (index_3 t).2]; rfl))
  · exact (congrFun h _).trans (arr_tile A _ _ y _ (by rw [← (index_4 t).1]; rfl) (by rw [← (index_4 t).2]; rfl))

include hr in
/-- The output's array. -/
theorem final_5 : (dats m 0 c).arrAt 5 cfg0.N = arr 1 (outs (blk 1 Q) (blk 1 K) (blk 1 W)) := by
  refine (dats m 0 c).arrAt_eq_of_cover 5 _ (fun t _ => ?_) fun i => ?_
  · obtain ⟨a, b⟩ := index_5 t
    show (cfg0.win 5).cut (grid0.coords t) ((dats m 0 c).after 5 t) = _
    rw [after0_5, (tile_of m c _ t).1 (host_0 hr), (tile_of m c _ t).2.1 (host_1 hr), (tile_of m c _ t).2.2 (host_2 hr),
      (before_of m c _ t).1 (host_1 hr), (before_of m c _ t).2 (host_2 hr), same_5, Cert.Dil1Ideal.Block.out_5]
    funext j
    rw [View.read_apply]
    refine Eq.trans (congrFun (win_congr fun b hb => ?_) j)
      (arr_win (outs (blk 1 Q) (blk 1 K) (blk 1 W)) (tileAt t.val) (hd t.val) j _ (by rw [← a]; rfl) (by rw [← b]; rfl)).symm
    rw [shift_eq (blk 1 K (hd t.val)), shift_eq (blk 1 W (hd t.val)), Cert.Dil1Ideal.Block.hasAt, coord, has_eq]
    rfl
  · obtain ⟨t, h⟩ := point_of i
    refine ⟨t, flush0_5 t, ?_⟩
    show i ∈ ((View.whole main_v3_0).slice (win0_5.rect t)).set
    rw [View.set_slice_whole, Rect.mem_set_unit]
    exact in_tile i t _ (index_5 t) h

include hr in
/-- The log-sums' array, a row's number on every column of its head. -/
theorem final_6 : (dats m 0 c).arrAt 6 cfg0.N = arr 1 (Band.lanes (sums (blk 1 Q) (blk 1 K))) := by
  refine (dats m 0 c).arrAt_eq_of_cover 6 _ (fun t _ => ?_) fun i => ?_
  · obtain ⟨a, b⟩ := index_6 t
    show (cfg0.win 6).cut (grid0.coords t) ((dats m 0 c).after 6 t) = _
    rw [after0_6, (tile_of m c _ t).1 (host_0 hr), (tile_of m c _ t).2.1 (host_1 hr), (tile_of m c _ t).2.2 (host_2 hr),
      (before_of m c _ t).1 (host_1 hr), (before_of m c _ t).2 (host_2 hr), same_6, Cert.Dil1Ideal.Block.out_6]
    funext j
    rw [View.read_apply]
    refine Eq.trans (congrFun (win_congr fun b hb => ?_) j)
      (arr_win (Band.lanes (sums (blk 1 Q) (blk 1 K))) (tileAt t.val) (hd t.val) j _ (by rw [← a]; rfl) (by rw [← b]; rfl)).symm
    rw [shift_eq (blk 1 K (hd t.val)), Cert.Dil1Ideal.Block.hasAt, coord, has_eq]
    rfl
  · obtain ⟨t, h⟩ := point_of i
    refine ⟨t, flush0_6 t, ?_⟩
    show i ∈ ((View.whole main_v3_1).slice (win0_6.rect t)).set
    rw [View.set_slice_whole, Rect.mem_set_unit]
    exact in_tile i t _ (index_6 t) h

end Cert.Dil1FwdIdeal.Result

end
-- ==== Proof.Dil1FwdRef.lean ====
/-
  The dilated attention's reference, dilation 1: its two results at finite arguments. Up to the weights it is the
  forward the gradient's reference runs, so the values, the log-sums and the weights are read there; what is left is
  the sum over the 256 keys and the layout of the results.
-/
module

public import proofs.«01_k».proof.Proof.Dil1Ref
public import proofs.«01_k».proof.Proof.Dil1Value
public import proofs.«01_k».proof.Proof.Gen.Dil1FwdRefIdeal.Run
public import proofs.«01_k».proof.Proof.Gen.Dil1FwdRefIdeal.Read

@[expose] public section

set_option maxRecDepth 16384

noncomputable section

namespace Cert.Dil1FwdRefIdeal.Result

open Cert.Dil1FwdRefIdeal Cert.Dil1FwdRefIdeal.Gen Cert.Dil1FwdRefIdeal.Read Idealize.ShloMosaic Idealize.ShloMosaic.TcCoe Cert.Reals Cert.Band
open Cert.MergeRefIdeal.Result (up)
open Cert.Dil1RefIdeal.Result (num row_num num_of has own bef)
open Cert.Dil1Ideal.Result (outs sums)

/-- The values of a block and of the block before are those of the gradient's reference. -/
theorem same_values (x : (⟨S1x8192x8x128, .f32⟩ : BufTy).Contents (Elt Ideal)) :
    val_main_v23 (F := Ideal) x = Cert.Dil1RefIdeal.Read.val_main_v27 (F := Ideal) x := rfl

/-- The log-sums are those of the gradient's reference. -/
theorem same_sums (x y : (⟨S1x8192x8x128, .f32⟩ : BufTy).Contents (Elt Ideal)) :
    val_main_v64 (F := Ideal) x y = Cert.Dil1RefIdeal.Read.val_main_v73 (F := Ideal) x y := rfl

/-- The weights are those of the gradient's reference. -/
theorem same_weights (x y : (⟨S1x8192x8x128, .f32⟩ : BufTy).Contents (Elt Ideal)) :
    val_main_v68 (F := Ideal) x y = Cert.Dil1RefIdeal.Read.val_main_v77 (F := Ideal) x y := rfl

variable (Q K W : ShX.Idx → ℝ)

/-- The weights' sum over the 256 keys is the attention's output. -/
theorem sum_out (g : Bool) (q k kp v vp : Tile) (i c : Fin 128) :
    ∑ j, cat (back g vp) v j c * weights g q k (back g kp) i j = att g q k kp v vp i c := by
  rw [sum_cat, ← att_back]
  unfold weights att apply
  simp only [cat_fst, cat_snd, mul_comm]

/-- The output of a row. -/
theorem v69_apply (z : Fin 1) (n : Fin 64) (h : Fin 8) (c i : Fin 128) :
    val_main_v69 (F := Ideal) (up Q) (up K) (up W) (ix5 z n h c i) = (outs (blk 1 Q) (blk 1 K) (blk 1 W) h (num z n) i c : EReal) := by
  obtain rfl : z = 0 := Subsingleton.elim _ _
  pointwise [val_main_v69]
  simp only [same_values, same_weights, Cert.Dil1RefIdeal.Result.v27_apply, Cert.Dil1RefIdeal.Result.v77_apply, ← EReal.coe_mul, coe_sum]
  exact congrArg Real.toEReal (sum_out _ _ _ _ _ _ _ _)

/-- The log-sum of a row. -/
theorem v64_apply (z : Fin 1) (n : Fin 64) (h : Fin 8) (i : Fin 128) :
    val_main_v64 (F := Ideal) (up Q) (up K) (ix4 z n h i) = (sums (blk 1 Q) (blk 1 K) h (num z n) i : EReal) := by
  rw [same_sums, Cert.Dil1RefIdeal.Result.v73_apply, lse_back]
  rfl

/-- The first result: the output. -/
theorem final_0 : val_main_v78 (F := Ideal) (up Q) (up K) (up W) = arr 1 (outs (blk 1 Q) (blk 1 K) (blk 1 W)) := by
  funext y
  idx_vars y
  pointwise [val_main_v78, val_main_v73, val_main_v72, val_main_v71, val_main_v70]
  rw [v69_apply]
  exact (arr_at (Or.inl rfl) (outs (blk 1 Q) (blk 1 K) (blk 1 W)) (ix2 y0 y1) ⟨y1.val / 128, by have := y1.isLt; omega⟩ (num 0 ⟨y0.val / 128, by have := y0.isLt; omega⟩) ⟨y0.val % 128, by omega⟩ ⟨y1.val % 128, by omega⟩
      (by rw [row_num]; show y0.val = y0.val / 128 * 128 + y0.val % 128; omega) (by show y1.val = y1.val / 128 * 128 + y1.val % 128; omega)).symm

/-- The second result: the log-sums, a row's number on every column of its head. -/
theorem final_1 : val_main_v81 (F := Ideal) (up Q) (up K) = arr 1 (Band.lanes (sums (blk 1 Q) (blk 1 K))) := by
  funext y
  idx_vars y
  pointwise [val_main_v81, val_main_v80, val_main_v79, val_main_v77, val_main_v76, val_main_v75, val_main_v74]
  rw [v64_apply]
  exact (arr_at (Or.inl rfl) (Band.lanes (sums (blk 1 Q) (blk 1 K))) (ix2 y0 y1) ⟨y1.val / 128, by have := y1.isLt; omega⟩ (num 0 ⟨y0.val / 128, by have := y0.isLt; omega⟩) ⟨y0.val % 128, by omega⟩ ⟨y1.val % 128, by omega⟩
      (by rw [row_num]; show y0.val = y0.val / 128 * 128 + y0.val % 128; omega) (by show y1.val = y1.val / 128 * 128 + y1.val % 128; omega)).symm

end Cert.Dil1FwdRefIdeal.Result

end
-- ==== Proof.Dil1FwdClaim.lean ====
/-
  The dilated attention's forward kernel at dilation 1: its claims. The frames are the generated ones; the equation
  sets the kernel's two arrays beside the reference's two results, the same real numbers at finite arguments.
-/
module

public import proofs.«01_k».proof.Defs
public import proofs.«01_k».proof.Proof.Dil1FwdValue
public import proofs.«01_k».proof.Proof.Dil1FwdRef
public import proofs.«01_k».proof.Proof.Gen.Dil1Fwd.Frame
public import proofs.«01_k».proof.Proof.Gen.Pre_dil1_fwd_finite
public import Idealize.ShloMosaic.Lib.Quiescent

@[expose] public section

set_option maxRecDepth 16384

noncomputable section

namespace Cert.Proof.Dil1Fwd

open Idealize.ShloMosaic Idealize.ShloMosaic.TcCoe Idealize.SL.Sem Cert.Reals

/-- The two named constants: the scale stands for the inverse root of 128, the mask for the infinity below. -/
theorem preserves : Cert.preserves_Dil1Fwd_Dil1FwdIdeal :=
  ⟨IdealRules.named_const.statement Cert.Dil1FwdIdeal.κ "s" .f32 0x3DB504F3#32 (((Real.sqrt 128)⁻¹ : ℝ) : EReal) rfl,
    IdealRules.named_const.statement Cert.Dil1FwdIdeal.κ "mask" .f32 0xF149F2CA#32 ⊥ rfl⟩

/-- The reference ends, its arguments unchanged. -/
theorem frame_ref : Cert.quiescent_Dil1FwdRefIdeal := fun m g _ =>
  (θ_run Cert.Dil1FwdRefIdeal.defs _ _).mono
    (fun r h => ⟨fun c => (h c).2.2, Idealize.ShloMosaic.sem_eq_zero_of_no_sems (by decide) r.2⟩) (Cert.Dil1FwdRefIdeal.Value.run (F := Ideal) m g)

/-- At finite arguments the kernel's two arrays are the reference's two results. -/
theorem algebraic : Cert.algebraic_Dil1FwdIdeal_Dil1FwdRefIdeal_pre_dil1_fwd_finite := by
  intro m g m' g' hpre hagree
  refine ⟨_, _, Cert.Dil1FwdIdeal.Value.run_blocks (F := Ideal) m g, ?_⟩
  refine (θ_run Cert.Dil1FwdRefIdeal.defs _ _).mono (fun r h c => ⟨(h c).1.trans ?_, (h c).2.1.trans ?_, (h c).2.2⟩)
    (Cert.Dil1FwdRefIdeal.Value.run (F := Ideal) m' g')
  all_goals
    obtain ⟨p0, p1, p2⟩ := hpre c
    obtain ⟨Q, hQ⟩ := real_of_test _ _ lit_inf _ p0
    obtain ⟨K, hK⟩ := real_of_test _ _ lit_inf _ p1
    obtain ⟨W, hW⟩ := real_of_test _ _ lit_inf _ p2
    obtain ⟨a0, a1, a2⟩ := hagree c
  · rw [Cert.Dil1FwdIdeal.Result.final_5 (Q := Q) (K := K) (W := W) ⟨hQ, hK, hW⟩, Cert.Dil1FwdRefIdeal.Read.val_main_v78_eq, a0, a1, a2, hQ, hK, hW]
    exact Cert.Dil1FwdRefIdeal.Result.final_0 Q K W
  · rw [Cert.Dil1FwdIdeal.Result.final_6 (Q := Q) (K := K) (W := W) ⟨hQ, hK, hW⟩, Cert.Dil1FwdRefIdeal.Read.val_main_v81_eq, a0, a1, hQ, hK]
    exact Cert.Dil1FwdRefIdeal.Result.final_1 Q K

end Cert.Proof.Dil1Fwd

end
-- ==== Proof.NormValue.lean ====
/-
  The forward norm's kernel and its reference: each row times the reciprocal root of the mean of its squares plus the
  small number, times the gain. Both compute this for every argument, infinite ones too.
-/
module

public import proofs.«01_k».proof.Proof.Reals
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise

@[expose] public section

set_option maxRecDepth 16384

noncomputable section

namespace Cert.NormIdeal.Result

open Cert.NormIdeal Cert.NormIdeal.Gen Idealize.ShloMosaic Idealize.ShloMosaic.TcCoe Idealize.SL.Sem Cert.Reals
open Idealize.ShloMosaic.Pipeline (Dat)

/-- An element of a normed row. -/
def normed (x : Fin 2048 → EReal) (g : EReal) (j : Fin 2048) : EReal :=
  x j * Ideal.rsqrt (Ideal.div (∑ k, x k * x k) (Ideal.ofBits .f32 0x45000000#32) + Ideal.ofBits .f32 0x358637BD#32) * g

/-- What a grid point leaves in its block. -/
theorem block (P0 : Vec Ideal S512x2048 .f32) (P1 : Vec Ideal S1x2048 .f32) :
    out0_2 (F := Ideal) P0 P1 = fun y => normed (fun k => P0 (ix2 (y 0) k)) (P1 (ix2 0 (y 1))) (y 1) := by
  unfold out0_2
  rw [View.canon_unit_zero hz2, View.ld_unit_zero (S := S512x2048) hz2, View.ld_unit_zero (S := S1x2048) hz2]
  funext y
  idx_vars y
  unfold k0_pay1
  pointwise
  rfl

/-! Where the windows of a point lie. -/

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

variable (m : (ℓ : Loc nD τ sig) → Buf (Elt Ideal) ℓ) (c : Dev nD)

/-- The rows. -/
abbrev rows : S8192x2048.Idx → EReal := m ((c : Thread nD τ).loc main_arg0)

/-- The gain. -/
abbrev gain : S2048.Idx → EReal := m ((c : Thread nD τ).loc main_arg1)

/-- The gain, as a row. -/
theorem gain_row (j : Fin 2048) : V m c main_v0 (ix2 0 j) = gain m c (ix1 j) := by
  have e : V m c main_v0 = broadcastInDim S1x2048 ![1] bcast_S2048_S1x2048_1 (gain m c) := by
    show StableHlo.after hostOps0 _ _ = _
    after_results_simp <;> rfl
  rw [e]
  pointwise

/-- The rows a point reads. -/
theorem block_0 (t : Fin cfg0.N) (r : Fin 512) (k : Fin 2048) (i : Fin 8192) (e : i.val = t.val * 512 + r.val) :
    iblk m c 0 t (ix2 r k) = rows m c (ix2 i k) := by
  obtain ⟨a, b⟩ := index_0 t
  unfold iblk
  rw [View.read_apply]
  refine (congrFun (V_main_arg0 m c) _).trans (congrArg (rows m c) (funext fun q => Fin.ext ?_))
  match q with
  | ⟨0, _⟩ => show win0_0.index t 0 * 512 + 1 * r.val = i.val; rw [a]; omega
  | ⟨1, _⟩ => show win0_0.index t 1 * 2048 + 1 * k.val = k.val; rw [b]; omega

/-- The gain a point reads. -/
theorem block_1 (t : Fin cfg0.N) (j : Fin 2048) : iblk m c 1 t (ix2 0 j) = gain m c (ix1 j) := by
  obtain ⟨a, b⟩ := index_1 t
  unfold iblk
  rw [View.read_apply, ← gain_row]
  refine congrArg (V m c main_v0) (funext fun q => Fin.ext ?_)
  match q with
  | ⟨0, _⟩ => show win0_1.index t 0 * 1 + 1 * 0 = 0; rw [a]
  | ⟨1, _⟩ => show win0_1.index t 1 * 2048 + 1 * j.val = j.val; rw [b]; omega

/-- What a point leaves, at an index of the array. -/
theorem at_rows (t : Fin cfg0.N) (j : S512x2048.Idx) (i : S8192x2048.Idx) (e0 : (i 0).val = t.val * 512 + 1 * (j 0).val) (e1 : (i 1).val = 0 * 2048 + 1 * (j 1).val) :
    normed (fun k => iblk m c 0 t (ix2 (j 0) k)) (iblk m c 1 t (ix2 0 (j 1))) (j 1) = normed (fun k => rows m c (ix2 (i 0) k)) (gain m c (ix1 (i 1))) (i 1) := by
  have e : i 1 = j 1 := Fin.ext (by omega)
  have h : (fun k => iblk m c 0 t (ix2 (j 0) k)) = fun k => rows m c (ix2 (i 0) k) := funext fun k => block_0 m c t (j 0) k (i 0) (by omega)
  exact (congrArg₂ (fun f g => normed f g (j 1)) h (block_1 m c t (j 1))).trans
    (congrArg (fun q : Fin 2048 => normed (fun k => rows m c (ix2 (i 0) k)) (gain m c (ix1 q)) q) e.symm)

/-- The kernel's array. -/
theorem final : (dats m 0 c).arrAt 2 cfg0.N = fun y => normed (fun k => rows m c (ix2 (y 0) k)) (gain m c (ix1 (y 1))) (y 1) := by
  refine (dats m 0 c).arrAt_eq_of_cover 2 _ (fun t _ => ?_) fun i => ?_
  · obtain ⟨a, b⟩ := index_2 t
    show (cfg0.win 2).cut (grid0.coords t) ((dats m 0 c).after 2 t) = _
    rw [after0_2, block]
    funext j
    rw [View.read_apply]
    exact at_rows m c t j _ (by rw [← a]; rfl) (by rw [← b]; rfl)
  · have h0 : (i 0 : Nat) < 8192 := (i 0).isLt
    have h1 : (i 1 : Nat) < 2048 := (i 1).isLt
    have hN : (i 0 : Nat) / 512 < cfg0.N := by show _ < 16; omega
    obtain ⟨a, b⟩ := index_2 ⟨(i 0 : Nat) / 512, hN⟩
    refine ⟨⟨(i 0 : Nat) / 512, hN⟩, flush0_2 _, ?_⟩
    show i ∈ ((View.whole main_v1).slice (win0_2.rect ⟨(i 0 : Nat) / 512, hN⟩)).set
    rw [View.set_slice_whole, Rect.mem_set_unit]
    intro q
    match q with
    | ⟨0, _⟩ => show win0_2.index _ 0 * 512 ≤ (i 0 : Nat) ∧ (i 0 : Nat) < win0_2.index _ 0 * 512 + 512; rw [a]; dsimp only; omega
    | ⟨1, _⟩ => show win0_2.index _ 1 * 2048 ≤ (i 1 : Nat) ∧ (i 1 : Nat) < win0_2.index _ 1 * 2048 + 2048; rw [b]; omega

end Cert.NormIdeal.Result

namespace Cert.NormRefIdeal.Result

open Cert.NormRefIdeal Cert.NormRefIdeal.Gen Cert.NormRefIdeal.Read Idealize.ShloMosaic Idealize.ShloMosaic.TcCoe Cert.Reals
open Cert.NormIdeal.Result (normed)

/-- The reference's result. -/
theorem res (x : S8192x2048.Idx → EReal) (g : S2048.Idx → EReal) :
    val_main_v13 (F := Ideal) x g = fun y => normed (fun k => x (ix2 (y 0) k)) (g (ix1 (y 1))) (y 1) := by
  funext y
  idx_vars y
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  rfl

end Cert.NormRefIdeal.Result

end
-- ==== Proof.NormClaim.lean ====
/-
  The forward norm before the feed-forward part: its claims. The frames are the generated ones; the equation holds for
  every argument.
-/
module

public import proofs.«01_k».proof.Defs
public import proofs.«01_k».proof.Proof.NormValue
public import proofs.«01_k».proof.Proof.Gen.Norm.Frame
public import Idealize.ShloMosaic.Lib.Quiescent

@[expose] public section

set_option maxRecDepth 16384

noncomputable section

namespace Cert.Proof.Norm

open Idealize.ShloMosaic Idealize.ShloMosaic.TcCoe Idealize.SL.Sem

/-- The reference ends with its arguments unchanged and its counters at zero. -/
theorem frame_ref : Cert.quiescent_NormRefIdeal := fun m g _ =>
  (θ_run Cert.NormRefIdeal.defs _ _).mono
    (fun r h => ⟨fun c => (h c).2, Idealize.ShloMosaic.sem_eq_zero_of_no_sems (by decide) r.2⟩) (Cert.NormRefIdeal.Value.run (F := Ideal) m g)

/-- The kernel's array is the reference's result. -/
theorem algebraic : Cert.algebraic_NormIdeal_NormRefIdeal := by
  intro m g m' g' _ hagree
  refine ⟨_, Cert.NormIdeal.Value.run_blocks (F := Ideal) m g, ?_⟩
  refine (θ_run Cert.NormRefIdeal.defs _ _).mono (fun r h c => ⟨(h c).1.trans ?_, (h c).2⟩) (Cert.NormRefIdeal.Value.run (F := Ideal) m' g')
  obtain ⟨a0, a1⟩ := hagree c
  rw [Cert.NormIdeal.Result.final, Cert.NormRefIdeal.Read.val_main_v13_eq, a0, a1]
  exact Cert.NormRefIdeal.Result.res _ _

end Cert.Proof.Norm

end
-- ==== Proof.MergeFwdValue.lean ====
/-
  The merge's forward kernel: the weighted sum of three parts, the weights the softmax of their three log-sums. The
  kernel divides the sum of the exponentials' products by the sum of the exponentials; the reference divides each
  exponential first. At finite log-sums the two agree whatever the parts hold.
-/
module

public import proofs.«01_k».proof.Proof.MergeValue
public import proofs.«01_k».proof.Proof.MergeRef
public import proofs.«01_k».proof.Proof.Gen.MergeFwdIdeal.Value
public import proofs.«01_k».proof.Proof.Gen.MergeFwdRefIdeal.Run
public import proofs.«01_k».proof.Proof.Gen.MergeFwdRefIdeal.Read

@[expose] public section

set_option maxRecDepth 16384

noncomputable section

namespace Cert.MergeFwdIdeal.Result

open Cert.MergeFwdIdeal Cert.MergeFwdIdeal.Gen Idealize.ShloMosaic Idealize.ShloMosaic.TcCoe Idealize.SL.Sem Cert.Reals Cert.Weights
open Cert.MergeIdeal.Result (head inHead lanes lanes_eq at_row rowOf in_rows)
open Idealize.ShloMosaic.Pipeline (Dat)

/-- Three extended reals, weighted by the softmax of three real numbers. -/
def mixed (a b c : ℝ) (x y z : EReal) : EReal :=
  ((weight a a b c : ℝ) : EReal) * x + ((weight b a b c : ℝ) : EReal) * y + ((weight c a b c : ℝ) : EReal) * z

/-- Dividing once, after the sum, is weighting: a division by a positive real number distributes over any sum. -/
theorem mixed_div (a b c M : ℝ) (x y z : EReal) :
    Ideal.div (((Real.exp (a - M) : ℝ) : EReal) * x + ((Real.exp (b - M) : ℝ) : EReal) * y + ((Real.exp (c - M) : ℝ) : EReal) * z)
        ((Real.exp (a - M) + Real.exp (b - M) + Real.exp (c - M) : ℝ) : EReal) = mixed a b c x y z := by
  have h : 0 < Real.exp (a - M) + Real.exp (b - M) + Real.exp (c - M) := by positivity
  have hk : (0 : EReal) ≤ ((1 / (Real.exp (a - M) + Real.exp (b - M) + Real.exp (c - M)) : ℝ) : EReal) := by
    exact_mod_cast (one_div_pos.2 h).le
  have e : ∀ (v : ℝ) (w : EReal), ((Real.exp (v - M) : ℝ) : EReal) * w * ((1 / (Real.exp (a - M) + Real.exp (b - M) + Real.exp (c - M)) : ℝ) : EReal)
      = ((weight v a b c : ℝ) : EReal) * w := fun v w => by
    rw [mul_right_comm, ← EReal.coe_mul, mul_one_div, weight_shift]
  rw [Ideal.div_coe h.ne', EReal.right_distrib_of_nonneg_of_ne_top hk (EReal.coe_ne_top _),
    EReal.right_distrib_of_nonneg_of_ne_top hk (EReal.coe_ne_top _), e, e, e]
  rfl

/-- The block a point stores, when the log-sums it reads are real numbers. -/
theorem block (o0 o1 o2 : S256x1024.Idx → EReal) (l0 l1 l2 : S256x1024.Idx → ℝ) :
    out0_6 (F := Ideal) o0 o1 o2 (fun i => ((l0 i : ℝ) : EReal)) (fun i => ((l1 i : ℝ) : EReal)) (fun i => ((l2 i : ℝ) : EReal))
      = fun i => mixed (l0 i) (l1 i) (l2 i) (o0 i) (o1 i) (o2 i) := by
  unfold out0_6
  rw [View.canon_unit_zero hz2]
  simp only [View.ld_unit_zero (S := S256x1024) hz2]
  unfold_payloads
  funext i
  idx_vars i
  pointwise
  simp only [coe_max, ← EReal.coe_sub, Ideal.exp_coe, ← EReal.coe_add]
  exact mixed_div _ _ _ _ _ _ _

variable (m : (ℓ : Loc nD τ sig) → Buf (Elt Ideal) ℓ) (c : Dev nD) (L0 L1 L2 : S1x8192x8.Idx → ℝ)

/-- The log-sums are these real numbers. -/
structure Real : Prop where
  l0 : m ((c.tc : Thread nD τ).loc main_arg3) = fun i => ((L0 i : ℝ) : EReal)
  l1 : m ((c.tc : Thread nD τ).loc main_arg4) = fun i => ((L1 i : ℝ) : EReal)
  l2 : m ((c.tc : Thread nD τ).loc main_arg5) = fun i => ((L2 i : ℝ) : EReal)

variable (h : Real m c L0 L1 L2)

/-- An array of heads, the heads of a row side by side. -/
def side (X : S1x8192x8x128.Idx → EReal) (i : S8192x1024.Idx) : EReal := X (ix4 0 (i 0) (head (i 1)) (inHead (i 1)))

/-- The host's row layout of an array of heads. -/
theorem side_eq (X : S1x8192x8x128.Idx → EReal) : shapeCast S8192x1024 X shapeCasts_S1x8192x8x128_S8192x1024 = side X := by
  funext i
  idx_vars i
  pointwise
  rfl

/-- The parts as the device holds them. -/
abbrev part0 : S1x8192x8x128.Idx → EReal := m ((c.tc : Thread nD τ).loc main_arg0)
abbrev part1 : S1x8192x8x128.Idx → EReal := m ((c.tc : Thread nD τ).loc main_arg1)
abbrev part2 : S1x8192x8x128.Idx → EReal := m ((c.tc : Thread nD τ).loc main_arg2)

/-- The parts in the arrays the windows read. -/
theorem host_parts : V m c main_v0 = side (part0 m c) ∧ V m c main_v1 = side (part1 m c) ∧ V m c main_v2 = side (part2 m c) := by
  refine ⟨?_, ?_, ?_⟩
  all_goals
    rw [← side_eq]
    show StableHlo.after hostOps0 _ _ = _
    after_results_simp <;> rfl

include h in
/-- The log-sums in the arrays the windows read. -/
theorem host_logs : V m c main_v6 = (fun i => ((lanes L0 i : ℝ) : EReal)) ∧ V m c main_v10 = (fun i => ((lanes L1 i : ℝ) : EReal))
    ∧ V m c main_v14 = (fun i => ((lanes L2 i : ℝ) : EReal)) := by
  refine ⟨?_, ?_, ?_⟩
  · rw [← lanes_eq, ← h.l0]
    show StableHlo.after hostOps0 _ _ = _
    after_results_simp <;> rfl
  · rw [← lanes_eq, ← h.l1]
    show StableHlo.after hostOps0 _ _ = _
    after_results_simp <;> rfl
  · rw [← lanes_eq, ← h.l2]
    show StableHlo.after hostOps0 _ _ = _
    after_results_simp <;> rfl

/-- Every window moves by one block of rows a point. -/
theorem index_row : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) ∧ (win0_6.index t 0 = t.val ∧ win0_6.index t 1 = 0)) := by
  decide +kernel

/-- Row `j 0` of a point's block, as an index of the array. -/
abbrev at_ (t : Fin cfg0.N) (j : S256x1024.Idx) : S8192x1024.Idx := ix2 (rowOf t (j 0)) (j 1)

include h in
/-- The blocks the body reads: rows of those arrays. -/
theorem blocks (t : Fin cfg0.N) : iblk m c 0 t = (fun j => side (part0 m c) (at_ t j)) ∧ iblk m c 1 t = (fun j => side (part1 m c) (at_ t j))
    ∧ iblk m c 2 t = (fun j => side (part2 m c) (at_ t j)) ∧ iblk m c 3 t = (fun j => ((lanes L0 (at_ t j) : ℝ) : EReal))
    ∧ iblk m c 4 t = (fun j => ((lanes L1 (at_ t j) : ℝ) : EReal)) ∧ iblk m c 5 t = (fun j => ((lanes L2 (at_ t j) : ℝ) : EReal)) := by
  obtain ⟨v0, v1, v2⟩ := host_parts m c
  obtain ⟨v3, v4, v5⟩ := host_logs m c L0 L1 L2 h
  obtain ⟨⟨a0, b0⟩, ⟨a1, b1⟩, ⟨a2, b2⟩, ⟨a3, b3⟩, ⟨a4, b4⟩, ⟨a5, b5⟩, -⟩ := index_row t
  refine ⟨?_, ?_, ?_, ?_, ?_, ?_⟩
  all_goals
    funext j
    unfold iblk
    rw [View.read_apply]
  · exact (congrFun v0 _).trans (congrArg (side (part0 m c)) (at_row t _ j (by rw [← a0]; rfl) (by rw [← b0]; rfl)))
  · exact (congrFun v1 _).trans (congrArg (side (part1 m c)) (at_row t _ j (by rw [← a1]; rfl) (by rw [← b1]; rfl)))
  · exact (congrFun v2 _).trans (congrArg (side (part2 m c)) (at_row t _ j (by rw [← a2]; rfl) (by rw [← b2]; rfl)))
  · exact (congrFun v3 _).trans (congrArg (fun i => ((lanes L0 i : ℝ) : EReal)) (at_row t _ j (by rw [← a3]; rfl) (by rw [← b3]; rfl)))
  · exact (congrFun v4 _).trans (congrArg (fun i => ((lanes L1 i : ℝ) : EReal)) (at_row t _ j (by rw [← a4]; rfl) (by rw [← b4]; rfl)))
  · exact (congrFun v5 _).trans (congrArg (fun i => ((lanes L2 i : ℝ) : EReal)) (at_row t _ j (by rw [← a5]; rfl) (by rw [← b5]; rfl)))

/-- The mixture of three arrays of heads, heads side by side. -/
def mixture (X Y Z : S1x8192x8x128.Idx → EReal) (i : S8192x1024.Idx) : EReal :=
  mixed (lanes L0 i) (lanes L1 i) (lanes L2 i) (side X i) (side Y i) (side Z i)

include h in
/-- The kernel's array. -/
theorem final : (dats m 0 c).arrAt 6 cfg0.N = mixture L0 L1 L2 (part0 m c) (part1 m c) (part2 m c) := by
  refine (dats m 0 c).arrAt_eq_of_cover 6 _ (fun t _ => ?_) fun i => ?_
  · obtain ⟨-, -, -, -, -, -, a, b⟩ := index_row t
    obtain ⟨e0, e1, e2, e3, e4, e5⟩ := blocks m c L0 L1 L2 h t
    show (cfg0.win 6).cut (grid0.coords t) ((dats m 0 c).after 6 t) = _
    rw [after0_6, e0, e1, e2, e3, e4, e5, block]
    funext j
    rw [View.read_apply]
    exact congrArg (mixture L0 L1 L2 (part0 m c) (part1 m c) (part2 m c)) (at_row t _ j (by rw [← a]; rfl) (by rw [← b]; rfl)).symm
  · obtain ⟨t, h0, h1⟩ := Cert.MergeIdeal.Result.point_of i
    obtain ⟨-, -, -, -, -, -, a, b⟩ := index_row t
    refine ⟨t, flush0_6 t, ?_⟩
    show i ∈ ((View.whole main_v15).slice (win0_6.rect t)).set
    rw [View.set_slice_whole, Rect.mem_set_unit]
    exact in_rows i t _ a b h0 h1

end Cert.MergeFwdIdeal.Result

namespace Cert.MergeFwdRefIdeal.Result

open Cert.MergeFwdRefIdeal Cert.MergeFwdRefIdeal.Gen Cert.MergeFwdRefIdeal.Read Idealize.ShloMosaic Idealize.ShloMosaic.TcCoe Cert.Reals
open Cert.MergeFwdIdeal.Result (mixture mixed side)
open Cert.MergeIdeal.Result (head inHead lanes)

variable (X Y Z : S1x8192x8x128.Idx → EReal) (L0 L1 L2 : S1x8192x8.Idx → ℝ)

/-- The softmax of the stacked log-sums: the weights the backward reference takes too. -/
theorem weights (p : Fin 3) (z : Fin 1) (r : Fin 8192) (q : Fin 8) :
    val_main_v14 (F := Ideal) (fun i => ((L0 i : ℝ) : EReal)) (fun i => ((L1 i : ℝ) : EReal)) (fun i => ((L2 i : ℝ) : EReal)) (ix4 p z r q)
      = ((Cert.MergeRefIdeal.Result.weightAt L0 L1 L2 p r q : ℝ) : EReal) :=
  Cert.MergeRefIdeal.Result.v28_apply L0 L1 L2 p z r q

/-- The stacked parts. -/
theorem stacked (p : Fin 3) (z : Fin 1) (r : Fin 8192) (q : Fin 8) (k : Fin 128) :
    val_main_v19 (F := Ideal) X Y Z (ix5 p z r q k) = ![X (ix4 0 r q k), Y (ix4 0 r q k), Z (ix4 0 r q k)] p := by
  pointwise [val_main_v19, val_main_v18, val_main_v17, val_main_v16]
  fin_cases p <;> rfl

/-- The reference's result. -/
theorem res : val_main_v24 (F := Ideal) X Y Z (fun i => ((L0 i : ℝ) : EReal)) (fun i => ((L1 i : ℝ) : EReal)) (fun i => ((L2 i : ℝ) : EReal))
      = mixture L0 L1 L2 X Y Z := by
  funext i
  idx_vars i
  pointwise [val_main_v24, val_main_v23, val_main_v22, val_main_v21, val_main_v20, val_main_v15, val_main_cst_2]
  simp only [weights, stacked, Fin.sum_univ_three]
  rfl

end Cert.MergeFwdRefIdeal.Result

end
-- ==== Proof.MergeFwdClaim.lean ====
/-
  The merge's forward kernel: its claims. The frames are the generated ones; the equation sets the kernel's array
  beside the reference's result, the same mixture at finite log-sums.
-/
module

public import proofs.«01_k».proof.Defs
public import proofs.«01_k».proof.Proof.MergeFwdValue
public import proofs.«01_k».proof.Proof.Gen.MergeFwd.Frame
public import proofs.«01_k».proof.Proof.Gen.Pre_merge_fwd_finite
public import Idealize.ShloMosaic.Lib.Quiescent

@[expose] public section

set_option maxRecDepth 16384

noncomputable section

namespace Cert.Proof.MergeFwd

open Idealize.ShloMosaic Idealize.ShloMosaic.TcCoe Idealize.SL.Sem Cert.Reals

/-- The reference ends, its arguments unchanged. -/
theorem frame_ref : Cert.quiescent_MergeFwdRefIdeal := fun m g _ =>
  (θ_run Cert.MergeFwdRefIdeal.defs _ _).mono
    (fun r h => ⟨fun c => (h c).2, Idealize.ShloMosaic.sem_eq_zero_of_no_sems (by decide) r.2⟩) (Cert.MergeFwdRefIdeal.Value.run (F := Ideal) m g)

/-- At finite log-sums the kernel's array is the reference's result. -/
theorem algebraic : Cert.algebraic_MergeFwdIdeal_MergeFwdRefIdeal_pre_merge_fwd_finite := by
  intro m g m' g' hpre hagree
  refine ⟨_, Cert.MergeFwdIdeal.Value.run_blocks (F := Ideal) m g, ?_⟩
  refine (θ_run Cert.MergeFwdRefIdeal.defs _ _).mono (fun r h c => ⟨(h c).1.trans ?_, (h c).2⟩)
    (Cert.MergeFwdRefIdeal.Value.run (F := Ideal) m' g')
  obtain ⟨p0, p1, p2⟩ := hpre c
  obtain ⟨L0, h0⟩ := real_of_test _ _ lit_inf _ p0
  obtain ⟨L1, h1⟩ := real_of_test _ _ lit_inf _ p1
  obtain ⟨L2, h2⟩ := real_of_test _ _ lit_inf _ p2
  obtain ⟨a0, a1, a2, a3, a4, a5⟩ := hagree c
  rw [Cert.MergeFwdIdeal.Result.final (L0 := L0) (L1 := L1) (L2 := L2) (h := ⟨h0, h1, h2⟩), Cert.MergeFwdRefIdeal.Read.val_main_v24_eq,
    a0, a1, a2, a3, a4, a5, h0, h1, h2]
  exact Cert.MergeFwdRefIdeal.Result.res _ _ _ L0 L1 L2

end Cert.Proof.MergeFwd

end
-- ==== Proof.FfnUpBlock.lean ====
/-
  The gate's forward kernel, one block: what its body computes of 1024 rows and one chunk of 704 hidden columns, a
  quarter of the rows at a time. The gate and the up-projection are a row against a column of each weight; the
  activation is the gate times its logistic function times the up-projection.
-/
module

public import proofs.«01_k».proof.Proof.Reals
public import proofs.«01_k».proof.Proof.Gen.FfnUpIdeal.Frame
public import Idealize.ShloMosaic.Lib.Pipeline.Value
public import Idealize.ShloMosaic.Lib.Pointwise

@[expose] public section

set_option maxRecDepth 16384

noncomputable section

namespace Cert.FfnUpIdeal.Block

open Cert.FfnUpIdeal Cert.FfnUpIdeal.Gen Idealize.ShloMosaic Cert.Reals

/-- The activation of a gate and an up-projection. -/
def gated (g u : EReal) : EReal := g * Ideal.logistic g * u

/-- Where the store of a quarter of the rows, from row `o`, puts its element. -/
theorem emb_quarter (o : ℕ) (inb) (z : Fin 1) (r : Fin 256) (j : Fin 704) :
    (Rect.unit (s := S1x1024x704) ![0, o, 0] S1x256x704.size inb).emb (ix3 z r j)
      = ix3 z ⟨o + r.val, by have : o + 256 ≤ 1024 := inb 1; have := r.isLt; omega⟩ j :=
  funext fun a => Fin.ext (by
    match a with
    | ⟨0, _⟩ => show 0 + 1 * z.val = z.val; omega
    | ⟨1, _⟩ => show o + 1 * r.val = o + r.val; omega
    | ⟨2, _⟩ => show 0 + 1 * j.val = j.val; omega)

/-- A block its pieces cover is `G` when every piece holds its part of `G`. -/
theorem canon_eq (G : Vec Ideal S1x1024x704 .bf16) (L : List (View.Piece (Elt Ideal) S1x1024x704 .bf16))
    (hL : ∀ p ∈ L, ∀ x : p.1.shape.Idx, p.2 x = G (p.1.emb x)) (hc : ∀ y, ∃ p ∈ L, y ∈ p.1.set) : View.canon L = G :=
  funext fun y => View.canon_apply_of_pieces G L hL y (hc y)

variable (H : Vec Ideal S1024x2048 .bf16) (A B : Vec Ideal S1x2048x704 .bf16)

/-- A row against a column of a weight's chunk. -/
def along (W : Vec Ideal S1x2048x704 .bf16) (r : Fin 1024) (j : Fin 704) : EReal := ∑ k : Fin 2048, H (ix2 r k) * W (ix3 0 k j)

/-- The gate. -/
theorem out_3 : out0_3 (F := Ideal) H A B = fun y => along H A (y 1) (y 2) := by
  unfold out0_3
  refine canon_eq _ _ ?_ (cover0_3 _ _ _ _)
  simp only [List.forall_mem_cons, List.not_mem_nil, false_implies, implies_true, and_true]
  refine ⟨?_, ?_, ?_, ?_⟩
  all_goals
    intro x
    idx_vars x
    rw [emb_quarter]
    unfold_payloads
    pointwise [along]

/-- The up-projection. -/
theorem out_4 : out0_4 (F := Ideal) H A B = fun y => along H B (y 1) (y 2) := by
  unfold out0_4
  refine canon_eq _ _ ?_ (cover0_4 _ _ _ _)
  simp only [List.forall_mem_cons, List.not_mem_nil, false_implies, implies_true, and_true]
  refine ⟨?_, ?_, ?_, ?_⟩
  all_goals
    intro x
    idx_vars x
    rw [emb_quarter]
    unfold_payloads
    pointwise [along]

/-- The activation. -/
theorem out_5 : out0_5 (F := Ideal) H A B = fun y => gated (along H A (y 1) (y 2)) (along H B (y 1) (y 2)) := by
  unfold out0_5
  refine canon_eq _ _ ?_ (cover0_5 _ _ _ _)
  simp only [List.forall_mem_cons, List.not_mem_nil, false_implies, implies_true, and_true]
  refine ⟨?_, ?_, ?_, ?_⟩
  all_goals
    intro x
    idx_vars x
    rw [emb_quarter]
    unfold_payloads
    pointwise [along, gated]

end Cert.FfnUpIdeal.Block

end
-- ==== Proof.FfnUpValue.lean ====
/-
  The gate's forward kernel, the arrays: each of the three results holds, at every chunk, row and column, the number
  the block's lemma names, whatever the arguments hold; and so does the reference's. Point `t` works on chunk `t / 8`
  and on the block of rows `t % 8`.
-/
module

public import proofs.«01_k».proof.Proof.FfnUpBlock
public import proofs.«01_k».proof.Proof.FfnDaValue
public import proofs.«01_k».proof.Proof.Gen.FfnUpIdeal.Value
public import proofs.«01_k».proof.Proof.Gen.FfnUpRefIdeal.Run
public import proofs.«01_k».proof.Proof.Gen.FfnUpRefIdeal.Read

@[expose] public section

set_option maxRecDepth 16384

noncomputable section

namespace Cert.FfnUpIdeal.Result

open Cert.FfnUpIdeal Cert.FfnUpIdeal.Gen Cert.FfnUpIdeal.Block Idealize.ShloMosaic Idealize.ShloMosaic.TcCoe Idealize.SL.Sem Cert.Reals
open Cert.FfnDaIdeal.Result (hid chunkOf rowOf at_dy at_chunk point_of in_block)
open Idealize.ShloMosaic.Pipeline (Dat)

/-- A row against a hidden column of a weight. -/
def proj (X : S8192x2048.Idx → EReal) (W : S2048x5632.Idx → EReal) (s : Fin 8192) (n : Fin 5632) : EReal := ∑ k : Fin 2048, X (ix2 s k) * W (ix2 k n)

/-- A projection, its columns in chunks. -/
def res0 (X : S8192x2048.Idx → EReal) (W : S2048x5632.Idx → EReal) (i : S8x8192x704.Idx) : EReal := proj X W (i 1) (hid (i 0) (i 2))

/-- The activation, its columns in chunks. -/
def res2 (X : S8192x2048.Idx → EReal) (A B : S2048x5632.Idx → EReal) (i : S8x8192x704.Idx) : EReal := gated (res0 X A i) (res0 X B i)

/-- A weight's columns, in chunks. -/
def wcols (W : S2048x5632.Idx → EReal) (i : S8x2048x704.Idx) : EReal := W (ix2 (i 1) (hid (i 0) (i 2)))

/-- The host's chunks of a weight's columns. -/
theorem wcols_eq (W : S2048x5632.Idx → EReal) :
    transpose S8x2048x704 [1, 0, 2] (shapeCast S2048x8x704 W shapeCasts_S2048x5632_S2048x8x704) transposes_S2048x8x704_S8x2048x704_1_0_2 = wcols W := by
  funext i
  idx_vars i
  pointwise
  rfl

variable (m : (ℓ : Loc nD τ sig) → Buf (Elt Ideal) ℓ) (c : Dev nD)

/-- The rows and the two weights as the device holds them. -/
abbrev rows : S8192x2048.Idx → EReal := m ((c.tc : Thread nD τ).loc main_arg0)
abbrev wgate : S2048x5632.Idx → EReal := m ((c.tc : Thread nD τ).loc main_arg1)
abbrev wup : S2048x5632.Idx → EReal := m ((c.tc : Thread nD τ).loc main_arg2)

/-- What the host code leaves in the arrays the windows read. -/
theorem host : V m c main_v1 = wcols (wgate m c) ∧ V m c main_v3 = wcols (wup m c) := by
  refine ⟨?_, ?_⟩
  all_goals
    rw [← wcols_eq]
    show StableHlo.after hostOps0 _ _ = _
    after_results_simp <;> rfl

/-- Where each window is at point `t`. -/
theorem index_in : ∀ t : Fin cfg0.N, (win0_0.index t 0 = t.val % 8 ∧ win0_0.index t 1 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 0) := by
  decide +kernel

theorem index_out : ∀ t : Fin cfg0.N, (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_5.index t 0 = t.val / 8 ∧ win0_5.index t 1 = t.val % 8 ∧ win0_5.index t 2 = 0) := by
  decide +kernel

theorem at_wcols (t : Fin cfg0.N) (i : S8x2048x704.Idx) (j : S1x2048x704.Idx) (e0 : (i 0).val = t.val / 8 * 1 + 1 * (j 0).val)
    (e1 : (i 1).val = 0 * 2048 + 1 * (j 1).val) (e2 : (i 2).val = 0 * 704 + 1 * (j 2).val) : i = ix3 (chunkOf t) (j 1) (j 2) :=
  funext fun a => Fin.ext (by
    have hj : (j 0).val < 1 := (j 0).isLt
    match a with
    | ⟨0, _⟩ => show (i 0).val = t.val / 8; omega
    | ⟨1, _⟩ => show (i 1).val = (j 1).val; omega
    | ⟨2, _⟩ => show (i 2).val = (j 2).val; omega)

/-- The blocks the body reads. -/
theorem blocks (t : Fin cfg0.N) :
    iblk m c 0 t = (fun j : S1024x2048.Idx => rows m c (ix2 (rowOf t (j 0)) (j 1)))
    ∧ iblk m c 1 t = (fun j : S1x2048x704.Idx => wcols (wgate m c) (ix3 (chunkOf t) (j 1) (j 2)))
    ∧ iblk m c 2 t = (fun j : S1x2048x704.Idx => wcols (wup m c) (ix3 (chunkOf t) (j 1) (j 2))) := by
  obtain ⟨v1, v2⟩ := host m c
  obtain ⟨⟨a0, b0⟩, ⟨a1, b1, c1⟩, a2, b2, c2⟩ := index_in t
  refine ⟨?_, ?_, ?_⟩
  all_goals
    funext j
    unfold iblk
    rw [View.read_apply]
  · exact (congrFun (V_main_arg0 m c) _).trans (congrArg (rows m c) (at_dy t _ j (by rw [← a0]; rfl) (by rw [← b0]; rfl)))
  · exact (congrFun v1 _).trans (congrArg (wcols (wgate m c)) (at_wcols t _ j (by rw [← a1]; rfl) (by rw [← b1]; rfl) (by rw [← c1]; rfl)))
  · exact (congrFun v2 _).trans (congrArg (wcols (wup m c)) (at_wcols t _ j (by rw [← a2]; rfl) (by rw [← b2]; rfl) (by rw [← c2]; rfl)))

/-- Result 1: the gate. -/
theorem final_3 : (dats m 0 c).arrAt 3 cfg0.N = res0 (rows m c) (wgate m c) := by
  refine (dats m 0 c).arrAt_eq_of_cover 3 _ (fun t _ => ?_) fun i => ?_
  · obtain ⟨a, b, e⟩ := (index_out t).1
    obtain ⟨e0, e1, e2⟩ := blocks m c t
    show (cfg0.win 3).cut (grid0.coords t) ((dats m 0 c).after 3 t) = _
    rw [after0_3, e0, e1, e2, out_3]
    funext j
    rw [View.read_apply]
    exact congrArg (res0 (rows m c) (wgate m c)) (at_chunk t _ j (by rw [← a]; rfl) (by rw [← b]; rfl) (by rw [← e]; rfl)).symm
  · obtain ⟨t, h0, h1, h2⟩ := point_of i
    obtain ⟨a, b, e⟩ := (index_out t).1
    refine ⟨t, flush0_3 t, ?_⟩
    show i ∈ ((View.whole main_v4_0).slice (win0_3.rect t)).set
    rw [View.set_slice_whole, Rect.mem_set_unit]
    exact in_block i t _ a b e h0 h1 h2

/-- Result 2: the up-projection. -/
theorem final_4 : (dats m 0 c).arrAt 4 cfg0.N = res0 (rows m c) (wup m c) := by
  refine (dats m 0 c).arrAt_eq_of_cover 4 _ (fun t _ => ?_) fun i => ?_
  · obtain ⟨a, b, e⟩ := (index_out t).2.1
    obtain ⟨e0, e1, e2⟩ := blocks m c t
    show (cfg0.win 4).cut (grid0.coords t) ((dats m 0 c).after 4 t) = _
    rw [after0_4, e0, e1, e2, out_4]
    funext j
    rw [View.read_apply]
    exact congrArg (res0 (rows m c) (wup m c)) (at_chunk t _ j (by rw [← a]; rfl) (by rw [← b]; rfl) (by rw [← e]; rfl)).symm
  · obtain ⟨t, h0, h1, h2⟩ := point_of i
    obtain ⟨a, b, e⟩ := (index_out t).2.1
    refine ⟨t, flush0_4 t, ?_⟩
    show i ∈ ((View.whole main_v4_1).slice (win0_4.rect t)).set
    rw [View.set_slice_whole, Rect.mem_set_unit]
    exact in_block i t _ a b e h0 h1 h2

/-- Result 3: the activation. -/
theorem final_5 : (dats m 0 c).arrAt 5 cfg0.N = res2 (rows m c) (wgate m c) (wup m c) := by
  refine (dats m 0 c).arrAt_eq_of_cover 5 _ (fun t _ => ?_) fun i => ?_
  · obtain ⟨a, b, e⟩ := (index_out t).2.2
    obtain ⟨e0, e1, e2⟩ := blocks m c t
    show (cfg0.win 5).cut (grid0.coords t) ((dats m 0 c).after 5 t) = _
    rw [after0_5, e0, e1, e2, out_5]
    funext j
    rw [View.read_apply]
    exact congrArg (res2 (rows m c) (wgate m c) (wup m c)) (at_chunk t _ j (by rw [← a]; rfl) (by rw [← b]; rfl) (by rw [← e]; rfl)).symm
  · obtain ⟨t, h0, h1, h2⟩ := point_of i
    obtain ⟨a, b, e⟩ := (index_out t).2.2
    refine ⟨t, flush0_5 t, ?_⟩
    show i ∈ ((View.whole main_v4_2).slice (win0_5.rect t)).set
    rw [View.set_slice_whole, Rect.mem_set_unit]
    exact in_block i t _ a b e h0 h1 h2

end Cert.FfnUpIdeal.Result

namespace Cert.FfnUpRefIdeal.Result

open Cert.FfnUpRefIdeal Cert.FfnUpRefIdeal.Gen Cert.FfnUpRefIdeal.Read Idealize.ShloMosaic Cert.Reals
open Cert.FfnDaIdeal.Result (hid)
open Cert.FfnUpIdeal.Block (gated)
open Cert.FfnUpIdeal.Result (proj res0 res2)

variable (X : S8192x2048.Idx → EReal) (A B : S2048x5632.Idx → EReal)

/-- The gate's product. -/
theorem proj_gate (i : S8192x5632.Idx) : val_main_v3 (F := Ideal) X A i = proj X A (i 0) (i 1) := by
  idx_vars i
  rw [val_main_v3_apply]
  have el : ∀ k, lidx_main_v3 (ix2 i0 i1) k = ix2 i0 k := fun k => funext fun a => match a with | ⟨0, _⟩ => rfl | ⟨1, _⟩ => rfl
  have er : ∀ k, ridx_main_v3 (ix2 i0 i1) k = ix2 k i1 := fun k => funext fun a => match a with | ⟨0, _⟩ => rfl | ⟨1, _⟩ => rfl
  refine Finset.sum_congr rfl fun k _ => ?_
  rw [el, er]
  rfl

/-- The up-projection's product: the same function of the other weight. -/
theorem proj_up (i : S8192x5632.Idx) : val_main_v4 (F := Ideal) X B i = proj X B (i 0) (i 1) := proj_gate X B i

/-- The activation. -/
theorem activation (i : S8192x5632.Idx) : val_main_v12 (F := Ideal) X A B i = gated (proj X A (i 0) (i 1)) (proj X B (i 0) (i 1)) := by
  idx_vars i
  simp only [val_main_v12_apply, val_main_v11_apply, val_main_call0_v5_apply, val_main_call0_v4_apply, val_main_call0_v3_apply, val_main_call0_v2_apply,
    val_main_call0_v1_apply, val_main_call0_v0_apply, val_main_call0_cst_apply, val_main_call0_cst_0_apply, proj_gate, proj_up]
  pointwise [gated, Ideal.logistic]

/-- Where the chunked results read the plain ones. -/
theorem idx_eq (i : S8x8192x704.Idx) : idx_main_v6 (idx_main_v7 i) = ix2 (i 1) (hid (i 0) (i 2)) :=
  funext fun a => Fin.ext (by
    have h0 : (i 0).val < 8 := (i 0).isLt
    have h1 : (i 1).val < 8192 := (i 1).isLt
    have h2 : (i 2).val < 704 := (i 2).isLt
    match a with
    | ⟨0, _⟩ => show (((i 1).val * 8 + (i 0).val) * 704 + (i 2).val) / 5632 = (i 1).val; omega
    | ⟨1, _⟩ => show (((i 1).val * 8 + (i 0).val) * 704 + (i 2).val) % 5632 = (i 0).val * 704 + (i 2).val; omega)

/-- The first result. -/
theorem ref_0 : val_main_v7 (F := Ideal) X A = res0 X A := by
  funext i
  rw [val_main_v7_apply, val_main_v6_apply, val_main_v5_apply, proj_gate, idx_eq]
  rfl

/-- The second result. -/
theorem ref_1 : val_main_v10 (F := Ideal) X B = res0 X B := by
  funext i
  rw [val_main_v10_apply, val_main_v9_apply, val_main_v8_apply, proj_up, show idx_main_v9 (idx_main_v10 i) = _ from idx_eq i]
  rfl

/-- The third result. -/
theorem ref_2 : val_main_v15 (F := Ideal) X A B = res2 X A B := by
  funext i
  rw [val_main_v15_apply, val_main_v14_apply, val_main_v13_apply, activation, show idx_main_v14 (idx_main_v15 i) = _ from idx_eq i]
  rfl

end Cert.FfnUpRefIdeal.Result

end
-- ==== Proof.FfnUpClaim.lean ====
/-
  The gate's forward kernel: its claims. The frames are the generated ones; the equation sets the kernel's three
  arrays beside the reference's three results, the same numbers whatever the arguments hold.
-/
module

public import proofs.«01_k».proof.Defs
public import proofs.«01_k».proof.Proof.FfnUpValue
public import proofs.«01_k».proof.Proof.Gen.FfnUp.Frame
public import Idealize.ShloMosaic.Lib.Quiescent

@[expose] public section

set_option maxRecDepth 16384

noncomputable section

namespace Cert.Proof.FfnUp

open Idealize.ShloMosaic Idealize.ShloMosaic.TcCoe Idealize.SL.Sem

/-- The reference ends, its arguments unchanged. -/
theorem frame_ref : Cert.quiescent_FfnUpRefIdeal := fun m g _ =>
  (θ_run Cert.FfnUpRefIdeal.defs _ _).mono
    (fun r h => ⟨fun c => (h c).2.2.2, Idealize.ShloMosaic.sem_eq_zero_of_no_sems (by decide) r.2⟩) (Cert.FfnUpRefIdeal.Value.run (F := Ideal) m g)

/-- The kernel's three arrays are the reference's three results. -/
theorem algebraic : Cert.algebraic_FfnUpIdeal_FfnUpRefIdeal := by
  intro m g m' g' _ hagree
  refine ⟨_, _, _, Cert.FfnUpIdeal.Value.run_blocks (F := Ideal) m g, ?_⟩
  refine (θ_run Cert.FfnUpRefIdeal.defs _ _).mono (fun r h c => ⟨(h c).1.trans ?_, (h c).2.1.trans ?_, (h c).2.2.1.trans ?_, (h c).2.2.2⟩)
    (Cert.FfnUpRefIdeal.Value.run (F := Ideal) m' g')
  all_goals obtain ⟨a0, a1, a2⟩ := hagree c
  · rw [Cert.FfnUpIdeal.Result.final_3, Cert.FfnUpRefIdeal.Read.val_main_v7_eq, a0, a1]
    exact Cert.FfnUpRefIdeal.Result.ref_0 _ _
  · rw [Cert.FfnUpIdeal.Result.final_4, Cert.FfnUpRefIdeal.Read.val_main_v10_eq, a0, a2]
    exact Cert.FfnUpRefIdeal.Result.ref_1 _ _
  · rw [Cert.FfnUpIdeal.Result.final_5, Cert.FfnUpRefIdeal.Read.val_main_v15_eq, a0, a1, a2]
    exact Cert.FfnUpRefIdeal.Result.ref_2 _ _ _

end Cert.Proof.FfnUp

end
-- ==== Proof.DownBlock.lean ====
/-
  The feed-forward down projection with its norm and residual, one block of 512 rows. Over four grid points the products
  with the chunks of the weight add up in a scratch array, two chunks at a point; at the fourth point the sum is written
  as the second output, and its norm, halved, on top of the residual path as the first. Nothing here needs finite numbers.
-/
module

public import proofs.«01_k».proof.Proof.Reals
public import proofs.«01_k».proof.Proof.Gen.DownIdeal.Value
public import Idealize.ShloMosaic.Lib.Pointwise

@[expose] public section

set_option maxRecDepth 16384

noncomputable section

namespace Cert.DownIdeal.Block

open Cert.DownIdeal Cert.DownIdeal.Gen Idealize.ShloMosaic Cert.Reals

/-- The two products of one point. -/
theorem pay1_apply (A B : S1x512x704.Idx → EReal) (V W : S1x704x2048.Idx → EReal) (r : Fin 512) (j : Fin 2048) :
    k0_pay1 (F := Ideal) A V B W (ix2 r j) = ∑ k : Fin 704, A (ix3 0 r k) * V (ix3 0 k j) + ∑ k : Fin 704, B (ix3 0 r k) * W (ix3 0 k j) := by
  unfold k0_pay1
  pointwise

/-- A residual row with half of a normed row on top. -/
def residual (x : EReal) (y : Fin 2048 → EReal) (g : EReal) (j : Fin 2048) : EReal :=
  x + Ideal.ofBits .f32 0x3F000000#32
    * (y j * Ideal.rsqrt (Ideal.div (∑ k, y k * y k) (Ideal.ofBits .f32 0x45000000#32) + Ideal.ofBits .f32 0x358637BD#32) * g)

theorem pay4_apply (T X : S512x2048.Idx → EReal) (G : S1x2048.Idx → EReal) (r : Fin 512) (j : Fin 2048) :
    k0_pay4 (F := Ideal) T X G (ix2 r j) = residual (X (ix2 r j)) (fun k => T (ix2 r k)) (G (ix2 0 j)) j := by
  unfold k0_pay4
  pointwise
  rfl

variable (c : Dev nD) (i : grid0.Coords) (a2 : Memref sig .tc .vmem S1x512x704 .bf16) (h2 : a2.IsWhole)
  (a3 : Memref sig .tc .vmem S1x704x2048 .bf16) (h3 : a3.IsWhole) (a4 : Memref sig .tc .vmem S1x512x704 .bf16) (h4 : a4.IsWhole)
  (a5 : Memref sig .tc .vmem S1x704x2048 .bf16) (h5 : a5.IsWhole) (a6 : Memref sig .tc .vmem S512x2048 .f32) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .f32) (h9 : a9.IsWhole) (a10 : Memref sig .tc .vmem S512x2048 .f32) (h10 : a10.IsWhole)
  (x0 x2 : Vec Ideal S1x512x704 .bf16) (x1 x3 : Vec Ideal S1x704x2048 .bf16) (x4 xs : Vec Ideal S512x2048 .f32) (x5 : Vec Ideal S1x2048 .f32)

theorem hz3 : (![0, 0, 0] : Fin 3 → Nat) = fun _ => 0 := funext fun a => by fin_cases a <;> rfl

/-- A block read over its whole extent. -/
theorem whole (Z : S512x2048.Idx → EReal) :
    (fun j => Z ((Rect.unit ![0, 0] ![512, 2048] inb_S512x2048_S512x2048_0_0).toLoadRect.idx j)) = Z :=
  funext fun j => congrArg Z (funext fun a => Fin.ext (by
    match a with
    | ⟨0, _⟩ => show 0 + 1 * (j 0).val = (j 0).val; omega
    | ⟨1, _⟩ => show 0 + 1 * (j 1).val = (j 1).val; omega))

/-- The scratch after a block's first point: the first two chunks' products. -/
theorem sout_A (hc0 : cond0_0 i) (hc1 : ¬cond0_1 i) (hc2 : ¬cond0_2 i) :
    sout0_A_0 c i a2 h2 a3 h3 a4 h4 a5 h5 a6 h6 a7 h7 a8 h8 a9 h9 a10 h10 hc0 hc1 hc2 x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 a10 h10 hc0 hc1 hc2 x0 x1 x2 x3 x4 x5)]
  unfold kernelRun0_A
  dsimp only
  sl_unfold_words
  rw [View.canon_unit_zero hz2]
  unfold k0_pay2
  simp only [View.readAt_eq_ld, h2.read_unread, h3.read_unread, h4.read_unread, h5.read_unread, View.ld_unit_zero (S := S1x512x704) hz3, View.ld_unit_zero (S := S1x704x2048) hz3, shapeCast_self]

/-- The scratch after a later point: the point's products added to it. -/
theorem sout_B (hc0 : ¬cond0_0 i) (hc1 : cond0_1 i) (hc2 : ¬cond0_2 i) :
    sout0_B_0 c i a2 h2 a3 h3 a4 h4 a5 h5 a6 h6 a7 h7 a8 h8 a9 h9 a10 h10 hc0 hc1 hc2 x0 x1 x2 x3 x4 x5 xs = addf xs (k0_pay1 x0 x1 x2 x3) := by
  unfold sout0_B_0
  rw [View.read_writes_eq_canon _ _ _ (scover0_B_0 c i a2 h2 a3 h3 a4 h4 a5 h5 a6 h6 a7 h7 a8 h8 a9 h9 a10 h10 hc0 hc1 hc2 x0 x1 x2 x3 x4 x5 xs)]
  unfold kernelRun0_B
  dsimp only
  sl_unfold_words
  rw [View.canon_unit_zero hz2]
  unfold k0_pay3
  simp only [View.readAt_eq_ld, h2.read_unread, h3.read_unread, h4.read_unread, h5.read_unread, h10.read_unread, View.ld_unit_zero (S := S1x512x704) hz3, View.ld_unit_zero (S := S1x704x2048) hz3, View.ld_unit_zero (S := S512x2048) hz2, shapeCast_self]

/-- The first output after a block's last point: the residual path and half of the sum's norm. -/
theorem out_C_6 (hc0 : ¬cond0_0 i) (hc1 : cond0_1 i) (hc2 : cond0_2 i) :
    out0_C_6 c i a2 h2 a3 h3 a4 h4 a5 h5 a6 h6 a7 h7 a8 h8 a9 h9 a10 h10 hc0 hc1 hc2 x0 x1 x2 x3 x4 x5 xs = k0_pay4 (addf xs (k0_pay1 x0 x1 x2 x3)) x4 x5 := by
  unfold out0_C_6
  rw [View.read_writes_eq_canon _ _ _ (cover0_C_6 c i a2 h2 a3 h3 a4 h4 a5 h5 a6 h6 a7 h7 a8 h8 a9 h9 a10 h10 hc0 hc1 hc2 x0 x1 x2 x3 x4 x5 xs)]
  unfold kernelRun0_C
  dsimp only
  sl_unfold_words
  rw [View.canon_unit_zero hz2]
  unfold k0_pay3
  simp only [View.readAt_eq_ld, h2.read_unread, h3.read_unread, h4.read_unread, h5.read_unread, h6.read_unread, h7.read_unread, h10.read_unread, View.ld_unit_zero (S := S1x512x704) hz3, View.ld_unit_zero (S := S1x704x2048) hz3, View.ld_unit_zero (S := S512x2048) hz2, View.ld_unit_zero (S := S1x2048) hz2, shapeCast_self, View.readCov_eq_canon']
  rw [View.canon_unit_zero hz2]
  exact congrArg (fun z => k0_pay4 z x4 x5) (whole (addf xs (k0_pay1 x0 x1 x2 x3)))

/-- The second output after a block's last point: the sum. -/
theorem out_C_7 (hc0 : ¬cond0_0 i) (hc1 : cond0_1 i) (hc2 : cond0_2 i) :
    out0_C_7 c i a2 h2 a3 h3 a4 h4 a5 h5 a6 h6 a7 h7 a8 h8 a9 h9 a10 h10 hc0 hc1 hc2 x0 x1 x2 x3 x4 x5 xs = addf xs (k0_pay1 x0 x1 x2 x3) := by
  unfold out0_C_7
  rw [View.read_writes_eq_canon _ _ _ (cover0_C_7 c i a2 h2 a3 h3 a4 h4 a5 h5 a6 h6 a7 h7 a8 h8 a9 h9 a10 h10 hc0 hc1 hc2 x0 x1 x2 x3 x4 x5 xs)]
  unfold kernelRun0_C
  dsimp only
  sl_unfold_words
  rw [View.canon_unit_zero hz2]
  unfold k0_pay3
  simp only [View.readAt_eq_ld, h2.read_unread, h3.read_unread, h4.read_unread, h5.read_unread, h10.read_unread, View.ld_unit_zero (S := S1x512x704) hz3, View.ld_unit_zero (S := S1x704x2048) hz3, View.ld_unit_zero (S := S512x2048) hz2, shapeCast_self, View.readCov_eq_canon']
  rw [View.canon_unit_zero hz2]
  exact whole (addf xs (k0_pay1 x0 x1 x2 x3))

end Cert.DownIdeal.Block

end
-- ==== Proof.DownValue.lean ====
/-
  The feed-forward down projection, the arrays. Point `t` works on the block of rows `t / 4` and on the two chunks
  `2 * (t % 4)` and `2 * (t % 4) + 1` of the hidden columns. The scratch holds, after it, the sum of the chunks' products
  so far; at a block's last point this is the whole product, and both outputs are written. The sums are of extended
  reals: no finiteness is needed.
-/
module

public import proofs.«01_k».proof.Proof.DownBlock
public import proofs.«01_k».proof.Proof.Gen.DownRefIdeal.Run
public import proofs.«01_k».proof.Proof.Gen.DownRefIdeal.Read

@[expose] public section

set_option maxRecDepth 16384

noncomputable section

namespace Cert.DownIdeal.Result

open Cert.DownIdeal Cert.DownIdeal.Gen Cert.DownIdeal.Block Idealize.ShloMosaic Idealize.ShloMosaic.TcCoe Idealize.SL.Sem Cert.Reals
open Idealize.ShloMosaic.Pipeline (Dat)

/-- Column `j` of chunk `c`, as a hidden column. -/
def hid (c : Fin 8) (j : Fin 704) : Fin 5632 := ⟨c.val * 704 + j.val, by have := c.isLt; have := j.isLt; omega⟩

variable (A : S8192x5632.Idx → EReal) (W : S5632x2048.Idx → EReal)

/-- One hidden column's part of the product. -/
def term (s : Fin 8192) (j : Fin 2048) (n : Fin 5632) : EReal := A (ix2 s n) * W (ix2 n j)

/-- The product. -/
def proj (s : Fin 8192) (j : Fin 2048) : EReal := ∑ n : Fin 5632, term A W s j n

/-- The part of one chunk, and of the first `q` chunks. -/
def chunk (s : Fin 8192) (j : Fin 2048) (p : ℕ) : EReal := ∑ k : Fin 704, if h : p * 704 + k.val < 5632 then term A W s j ⟨p * 704 + k.val, h⟩ else 0

def upto (q : ℕ) (s : Fin 8192) (j : Fin 2048) : EReal := ∑ p ∈ Finset.range q, chunk A W s j p

theorem upto_all (s : Fin 8192) (j : Fin 2048) : upto A W 8 s j = proj A W s j :=
  (Cert.Reals.sum_blocks 8 704 5632 rfl (term A W s j)).symm

theorem upto_two (q : ℕ) (s : Fin 8192) (j : Fin 2048) : upto A W (q + 2) s j = upto A W q s j + (chunk A W s j q + chunk A W s j (q + 1)) := by
  unfold upto
  rw [Finset.sum_range_succ, Finset.sum_range_succ, add_assoc]

/-- The rows and the weight in chunks. -/
def rchunk (i : S8x8192x704.Idx) : EReal := A (ix2 (i 1) (hid (i 0) (i 2)))
def wchunk (i : S8x704x2048.Idx) : EReal := W (ix2 (hid (i 0) (i 1)) (i 2))

theorem rchunk_eq :
    transpose S8x8192x704 [1, 0, 2] (shapeCast S8192x8x704 A shapeCasts_S8192x5632_S8192x8x704) transposes_S8192x8x704_S8x8192x704_1_0_2 = rchunk A := by
  funext i
  idx_vars i
  pointwise
  rfl

theorem wchunk_eq : shapeCast S8x704x2048 W shapeCasts_S5632x2048_S8x704x2048 = wchunk W := by
  funext i
  idx_vars i
  pointwise
  rfl

variable (m : (ℓ : Loc nD τ sig) → Buf (Elt Ideal) ℓ) (c : Dev nD)

/-- The arguments: the hidden rows, the weight, the residual rows, the gain. -/
abbrev act : S8192x5632.Idx → EReal := m ((c.tc : Thread nD τ).loc main_arg0)
abbrev wgt : S5632x2048.Idx → EReal := m ((c.tc : Thread nD τ).loc main_arg1)
abbrev res : S8192x2048.Idx → EReal := m ((c.tc : Thread nD τ).loc main_arg2)
abbrev gain : S2048.Idx → EReal := m ((c.tc : Thread nD τ).loc main_arg3)

/-- What the host code leaves in the arrays the windows read. -/
theorem host : V m c main_v1 = rchunk (act m c) ∧ V m c main_v2 = wchunk (wgt m c) ∧ V m c main_v3 = fun j : S1x2048.Idx => gain m c (ix1 (j 1)) := by
  refine ⟨?_, ?_, ?_⟩
  · rw [← rchunk_eq]
    show StableHlo.after hostOps0 _ _ = _
    after_results_simp <;> rfl
  · rw [← wchunk_eq]
    show StableHlo.after hostOps0 _ _ = _
    after_results_simp <;> rfl
  · have e : V m c main_v3 = broadcastInDim S1x2048 ![1] bcast_S2048_S1x2048_1 (gain m c) := by
      show StableHlo.after hostOps0 _ _ = _
      after_results_simp <;> rfl
    rw [e]
    funext j
    idx_vars j
    pointwise

/-- Where each window is at point `t`. -/
theorem index_chunk : ∀ t : Fin cfg0.N, (win0_0.index t 0 = 2 * (t.val % 4) ∧ win0_0.index t 1 = t.val / 4 ∧ win0_0.index t 2 = 0)
    ∧ (win0_1.index t 0 = 2 * (t.val % 4) ∧ win0_1.index t 1 = 0 ∧ win0_1.index t 2 = 0)
    ∧ (win0_2.index t 0 = 2 * (t.val % 4) + 1 ∧ win0_2.index t 1 = t.val / 4 ∧ win0_2.index t 2 = 0)
    ∧ (win0_3.index t 0 = 2 * (t.val % 4) + 1 ∧ win0_3.index t 1 = 0 ∧ win0_3.index t 2 = 0) := by
  decide +kernel

theorem index_row : ∀ t : Fin cfg0.N, (win0_4.index t 0 = t.val / 4 ∧ win0_4.index t 1 = 0) ∧ (win0_5.index t 0 = 0 ∧ win0_5.index t 1 = 0)
    ∧ (win0_6.index t 0 = t.val / 4 ∧ win0_6.index t 1 = 0) ∧ (win0_7.index t 0 = t.val / 4 ∧ win0_7.index t 1 = 0) := by
  decide +kernel

/-- The two chunks point `n` works on. -/
def fst (n : ℕ) : Fin 8 := ⟨2 * (n % 4), by omega⟩
def snd (n : ℕ) : Fin 8 := ⟨2 * (n % 4) + 1, by omega⟩

/-- Row `r` of the block point `n` works on. -/
def rowOf (n : ℕ) (hn : n < cfg0.N) (r : Fin 512) : Fin 8192 :=
  ⟨n / 4 * 512 + r.val, by have hN : cfg0.N = 64 := N_0; have := r.isLt; omega⟩

theorem at_r (t : Fin cfg0.N) (p : Fin 8) (i : S8x8192x704.Idx) (j : S1x512x704.Idx) (e0 : (i 0).val = p.val * 1 + 1 * (j 0).val)
    (e1 : (i 1).val = t.val / 4 * 512 + 1 * (j 1).val) (e2 : (i 2).val = 0 * 704 + 1 * (j 2).val) :
    i = ix3 p (rowOf t.val t.isLt (j 1)) (j 2) :=
  funext fun a => Fin.ext (by
    have hj : (j 0).val < 1 := (j 0).isLt
    match a with
    | ⟨0, _⟩ => show (i 0).val = p.val; omega
    | ⟨1, _⟩ => show (i 1).val = t.val / 4 * 512 + (j 1).val; omega
    | ⟨2, _⟩ => show (i 2).val = (j 2).val; omega)

theorem at_w (p : Fin 8) (i : S8x704x2048.Idx) (j : S1x704x2048.Idx) (e0 : (i 0).val = p.val * 1 + 1 * (j 0).val)
    (e1 : (i 1).val = 0 * 704 + 1 * (j 1).val) (e2 : (i 2).val = 0 * 2048 + 1 * (j 2).val) : i = ix3 p (j 1) (j 2) :=
  funext fun a => Fin.ext (by
    have hj : (j 0).val < 1 := (j 0).isLt
    match a with
    | ⟨0, _⟩ => show (i 0).val = p.val; omega
    | ⟨1, _⟩ => show (i 1).val = (j 1).val; omega
    | ⟨2, _⟩ => show (i 2).val = (j 2).val; omega)

theorem at_x (t : Fin cfg0.N) (i : S8192x2048.Idx) (j : S512x2048.Idx) (e0 : (i 0).val = t.val / 4 * 512 + 1 * (j 0).val)
    (e1 : (i 1).val = 0 * 2048 + 1 * (j 1).val) : i = ix2 (rowOf t.val t.isLt (j 0)) (j 1) :=
  funext fun a => Fin.ext (by
    match a with
    | ⟨0, _⟩ => show (i 0).val = t.val / 4 * 512 + (j 0).val; omega
    | ⟨1, _⟩ => show (i 1).val = (j 1).val; omega)

/-- The blocks of the products' factors. -/
theorem blocks (t : Fin cfg0.N) :
    iblk m c 0 t = (fun j : S1x512x704.Idx => rchunk (act m c) (ix3 (fst t.val) (rowOf t.val t.isLt (j 1)) (j 2)))
    ∧ iblk m c 1 t = (fun j : S1x704x2048.Idx => wchunk (wgt m c) (ix3 (fst t.val) (j 1) (j 2)))
    ∧ iblk m c 2 t = (fun j : S1x512x704.Idx => rchunk (act m c) (ix3 (snd t.val) (rowOf t.val t.isLt (j 1)) (j 2)))
    ∧ iblk m c 3 t = (fun j : S1x704x2048.Idx => wchunk (wgt m c) (ix3 (snd t.val) (j 1) (j 2))) := by
  obtain ⟨v1, v2, -⟩ := host m c
  obtain ⟨⟨a0, b0, c0⟩, ⟨a1, b1, c1⟩, ⟨a2, b2, c2⟩, a3, b3, c3⟩ := index_chunk t
  refine ⟨?_, ?_, ?_, ?_⟩
  · funext j
    unfold iblk
    rw [View.read_apply]
    show V m c main_v1 _ = _
    rw [v1]
    exact congrArg (rchunk (act m c)) (at_r t (fst t.val) _ j (congrArg (· * 1 + 1 * (j 0).val) a0) (congrArg (· * 512 + 1 * (j 1).val) b0)
      (congrArg (· * 704 + 1 * (j 2).val) c0))
  · funext j
    unfold iblk
    rw [View.read_apply]
    show V m c main_v2 _ = _
    rw [v2]
    exact congrArg (wchunk (wgt m c)) (at_w (fst t.val) _ j (congrArg (· * 1 + 1 * (j 0).val) a1) (congrArg (· * 704 + 1 * (j 1).val) b1)
      (congrArg (· * 2048 + 1 * (j 2).val) c1))
  · funext j
    unfold iblk
    rw [View.read_apply]
    show V m c main_v1 _ = _
    rw [v1]
    exact congrArg (rchunk (act m c)) (at_r t (snd t.val) _ j (congrArg (· * 1 + 1 * (j 0).val) a2) (congrArg (· * 512 + 1 * (j 1).val) b2)
      (congrArg (· * 704 + 1 * (j 2).val) c2))
  · funext j
    unfold iblk
    rw [View.read_apply]
    show V m c main_v2 _ = _
    rw [v2]
    exact congrArg (wchunk (wgt m c)) (at_w (snd t.val) _ j (congrArg (· * 1 + 1 * (j 0).val) a3) (congrArg (· * 704 + 1 * (j 1).val) b3)
      (congrArg (· * 2048 + 1 * (j 2).val) c3))

/-- The blocks of the residual rows and of the gain. -/
theorem rblocks (t : Fin cfg0.N) :
    iblk m c 4 t = (fun j : S512x2048.Idx => res m c (ix2 (rowOf t.val t.isLt (j 0)) (j 1)))
    ∧ iblk m c 5 t = (fun j : S1x2048.Idx => gain m c (ix1 (j 1))) := by
  obtain ⟨-, -, v3⟩ := host m c
  obtain ⟨⟨a4, b4⟩, ⟨a5, b5⟩, -⟩ := index_row t
  refine ⟨?_, ?_⟩
  · funext j
    unfold iblk
    rw [View.read_apply]
    show V m c main_arg2 _ = _
    rw [V_main_arg2]
    exact congrArg (res m c) (at_x t _ j (congrArg (· * 512 + 1 * (j 0).val) a4) (congrArg (· * 2048 + 1 * (j 1).val) b4))
  · funext j
    unfold iblk
    rw [View.read_apply]
    show V m c main_v3 _ = _
    rw [v3]
    refine congrArg (fun k => gain m c (ix1 k)) (Fin.ext ?_)
    show win0_5.index t 1 * 2048 + 1 * (j 1).val = (j 1).val
    rw [b5]; omega

/-- A chunk's product. -/
theorem chunk_eq (p : Fin 8) (s : Fin 8192) (j : Fin 2048) : (∑ k : Fin 704, rchunk A (ix3 p s k) * wchunk W (ix3 p k j)) = chunk A W s j p.val :=
  Finset.sum_congr rfl fun k _ => by
    rw [dif_pos (by have := k.isLt; have := p.isLt; omega)]
    rfl

/-- The products of point `t` at an index of its block. -/
theorem prod (t : Fin cfg0.N) (r : Fin 512) (j : Fin 2048) :
    k0_pay1 (F := Ideal) (iblk m c 0 t) (iblk m c 1 t) (iblk m c 2 t) (iblk m c 3 t) (ix2 r j)
      = chunk (act m c) (wgt m c) (rowOf t.val t.isLt r) j (2 * (t.val % 4)) + chunk (act m c) (wgt m c) (rowOf t.val t.isLt r) j (2 * (t.val % 4) + 1) := by
  obtain ⟨b0, b1, b2, b3⟩ := blocks m c t
  rw [b0, b1, b2, b3]
  exact (pay1_apply _ _ _ _ r j).trans (congrArg₂ (· + ·) (chunk_eq _ _ (fst t.val) _ j) (chunk_eq _ _ (snd t.val) _ j))

/-- The scratch after point `n`. -/
def scr (n : ℕ) (hn : n < cfg0.N) (i : S512x2048.Idx) : EReal := upto A W (2 * (n % 4) + 2) (rowOf n hn (i 0)) (i 1)

/-- A later point's sum: the row block is the same and two more chunks are in. -/
theorem add_scr (n : ℕ) (hn : n + 1 < cfg0.N) (h0 : ¬(n + 1) % 4 = 0) :
    addf (F := Ideal) (φ := .f32) (scr (act m c) (wgt m c) n (by omega))
        (k0_pay1 (F := Ideal) (iblk m c 0 ⟨n + 1, hn⟩) (iblk m c 1 ⟨n + 1, hn⟩) (iblk m c 2 ⟨n + 1, hn⟩) (iblk m c 3 ⟨n + 1, hn⟩))
      = scr (act m c) (wgt m c) (n + 1) hn := by
  funext i
  idx_vars i
  refine (congrArg (scr (act m c) (wgt m c) n (by omega) (ix2 i0 i1) + ·) (prod m c ⟨n + 1, hn⟩ i0 i1)).trans ?_
  have e : 2 * ((n + 1) % 4) = 2 * (n % 4) + 2 := by omega
  have er : rowOf n (by omega) i0 = rowOf (n + 1) hn i0 := Fin.ext (by show n / 4 * 512 + _ = (n + 1) / 4 * 512 + _; omega)
  show upto _ _ _ (rowOf n _ i0) i1 + _ = upto _ _ (2 * ((n + 1) % 4) + 2) (rowOf (n + 1) hn i0) i1
  rw [er, e]
  exact (upto_two _ _ (2 * (n % 4) + 2) _ i1).symm

/-- The scratch after point `n`, when it is not the block's last. -/
theorem scratch : ∀ (n : ℕ) (hn : n < cfg0.N), ¬n % 4 = 3 → (outsAt0 m c n hn).2.2 = scr (act m c) (wgt m c) n hn
  | n, hn, h3 => by
    by_cases h0 : n % 4 = 0
    · rw [show outsAt0 m c n hn = _ from outsAt0_A m c ⟨n, hn⟩ h0 (by dsimp only; omega) h3]
      dsimp only
      rw [sout_A]
      funext i
      idx_vars i
      refine (prod m c ⟨n, hn⟩ i0 i1).trans ?_
      show _ = upto _ _ (2 * (n % 4) + 2) (rowOf n hn i0) i1
      have hz : upto (act m c) (wgt m c) (2 * (n % 4)) (rowOf n hn i0) i1 = 0 := by rw [h0]; rfl
      rw [upto_two, hz, zero_add]
    · obtain ⟨k, rfl⟩ : ∃ k, n = k + 1 := ⟨n - 1, by omega⟩
      rw [show outsAt0 m c (k + 1) hn = _ from outsAt0_B m c ⟨k + 1, hn⟩ h0 (by dsimp only; omega) h3]
      dsimp only
      rw [sout_B]
      refine Eq.trans (congrArg (fun z => addf (F := Ideal) (φ := .f32) z _) (scratch k (by omega) (by omega))) ?_
      exact add_scr m c k hn h0

/-- The sum a block's last point writes. -/
theorem last (n : ℕ) (hn : n + 1 < cfg0.N) (h3 : (n + 1) % 4 = 3) :
    addf (F := Ideal) (φ := .f32) (outsAt0 m c n (by omega)).2.2
        (k0_pay1 (F := Ideal) (iblk m c 0 ⟨n + 1, hn⟩) (iblk m c 1 ⟨n + 1, hn⟩) (iblk m c 2 ⟨n + 1, hn⟩) (iblk m c 3 ⟨n + 1, hn⟩))
      = fun i : S512x2048.Idx => proj (act m c) (wgt m c) (rowOf (n + 1) hn (i 0)) (i 1) := by
  rw [scratch m c n (by omega) (by omega), add_scr m c n hn (by omega)]
  funext i
  unfold scr
  rw [h3]
  exact upto_all _ _ _ _

/-- The first result. -/
def out (X : S8192x2048.Idx → EReal) (G : S2048.Idx → EReal) (i : S8192x2048.Idx) : EReal :=
  residual (X (ix2 (i 0) (i 1))) (proj A W (i 0)) (G (ix1 (i 1))) (i 1)

/-- What the body leaves in the output windows at a block's last point. -/
theorem outs (n : ℕ) (hn : n < cfg0.N) (h3 : n % 4 = 3) (r : Fin 512) (j : Fin 2048) :
    (outsAt0 m c n hn).1 (ix2 r j) = out (act m c) (wgt m c) (res m c) (gain m c) (ix2 (rowOf n hn r) j)
    ∧ (outsAt0 m c n hn).2.1 (ix2 r j) = proj (act m c) (wgt m c) (rowOf n hn r) j := by
  obtain ⟨k, rfl⟩ : ∃ k, n = k + 1 := ⟨n - 1, by omega⟩
  obtain ⟨b4, b5⟩ := rblocks m c ⟨k + 1, hn⟩
  rw [show outsAt0 m c (k + 1) hn = _ from outsAt0_C m c ⟨k + 1, hn⟩ (by dsimp only; omega) (by dsimp only; omega) h3]
  dsimp only
  refine ⟨?_, ?_⟩
  · rw [out_C_6, b4, b5]
    refine (congrFun (congrArg (fun z => k0_pay4 z _ _) (last m c k hn h3)) (ix2 r j)).trans ?_
    exact pay4_apply _ _ _ r j
  · rw [out_C_7]
    exact congrFun (last m c k hn h3) (ix2 r j)

/-- The first result array. -/
theorem final_6 : (dats m 0 c).arrAt 6 cfg0.N = out (act m c) (wgt m c) (res m c) (gain m c) := by
  have hN : cfg0.N = 64 := N_0
  refine (dats m 0 c).arrAt_eq_of_cover 6 _ (fun t hf => ?_) fun i => ?_
  · obtain ⟨-, -, ⟨e0, e1⟩, -⟩ := index_row t
    rw [Value.flushed6]
    funext j
    rw [View.read_apply]
    refine (show _ = (outsAt0 m c t.val t.isLt).1 (ix2 (j 0) (j 1)) from congrArg _ (eq_ix2 j)).trans
      ((outs m c t.val t.isLt ((flush0_6 t).mp hf) (j 0) (j 1)).1.trans ?_)
    exact congrArg (out (act m c) (wgt m c) (res m c) (gain m c))
      (at_x t _ j (congrArg (· * 512 + 1 * (j 0).val) e0) (congrArg (· * 2048 + 1 * (j 1).val) e1)).symm
  · have h0 : (i 0 : Nat) < 8192 := (i 0).isLt
    have h1 : (i 1 : Nat) < 2048 := (i 1).isLt
    obtain ⟨t, ht⟩ : ∃ t : Fin cfg0.N, t.val = (i 0 : Nat) / 512 * 4 + 3 := ⟨⟨(i 0 : Nat) / 512 * 4 + 3, by omega⟩, rfl⟩
    refine ⟨t, (flush0_6 t).mpr (by omega), ?_⟩
    obtain ⟨-, -, ⟨e0, e1⟩, -⟩ := index_row t
    show i ∈ ((View.whole main_v4_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [e0]; omega
    | ⟨1, _⟩ => show win0_6.index t 1 * 2048 ≤ (i 1 : Nat) ∧ (i 1 : Nat) < win0_6.index t 1 * 2048 + 2048; rw [e1]; omega

/-- The second result array: the product. -/
theorem final_7 : (dats m 0 c).arrAt 7 cfg0.N = fun i : S8192x2048.Idx => proj (act m c) (wgt m c) (i 0) (i 1) := by
  have hN : cfg0.N = 64 := N_0
  refine (dats m 0 c).arrAt_eq_of_cover 7 _ (fun t hf => ?_) fun i => ?_
  · obtain ⟨-, -, -, e0, e1⟩ := index_row t
    rw [Value.flushed7]
    funext j
    rw [View.read_apply]
    refine (show _ = (outsAt0 m c t.val t.isLt).2.1 (ix2 (j 0) (j 1)) from congrArg _ (eq_ix2 j)).trans
      ((outs m c t.val t.isLt ((flush0_7 t).mp hf) (j 0) (j 1)).2.trans ?_)
    exact congrArg (fun i : S8192x2048.Idx => proj (act m c) (wgt m c) (i 0) (i 1))
      (at_x t _ j (congrArg (· * 512 + 1 * (j 0).val) e0) (congrArg (· * 2048 + 1 * (j 1).val) e1)).symm
  · have h0 : (i 0 : Nat) < 8192 := (i 0).isLt
    have h1 : (i 1 : Nat) < 2048 := (i 1).isLt
    obtain ⟨t, ht⟩ : ∃ t : Fin cfg0.N, t.val = (i 0 : Nat) / 512 * 4 + 3 := ⟨⟨(i 0 : Nat) / 512 * 4 + 3, by omega⟩, rfl⟩
    refine ⟨t, (flush0_7 t).mpr (by omega), ?_⟩
    obtain ⟨-, -, -, e0, e1⟩ := index_row t
    show i ∈ ((View.whole main_v4_1).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [e0]; omega
    | ⟨1, _⟩ => show win0_7.index t 1 * 2048 ≤ (i 1 : Nat) ∧ (i 1 : Nat) < win0_7.index t 1 * 2048 + 2048; rw [e1]; omega

end Cert.DownIdeal.Result

namespace Cert.DownRefIdeal.Result

open Cert.DownRefIdeal Cert.DownRefIdeal.Gen Cert.DownRefIdeal.Read Idealize.ShloMosaic Idealize.ShloMosaic.TcCoe Cert.Reals
open Cert.DownIdeal.Result (proj out)

variable (A : S8192x5632.Idx → EReal) (W : S5632x2048.Idx → EReal) (X : S8192x2048.Idx → EReal) (G : S2048.Idx → EReal)

/-- The reference's product. -/
theorem product (s : Fin 8192) (j : Fin 2048) : val_main_v2 (F := Ideal) A W (ix2 s j) = proj A W s j := by
  pointwise [val_main_v2, val_main_v1, val_main_v0]
  rfl

theorem res_1 : val_main_v2 (F := Ideal) A W = fun i : S8192x2048.Idx => proj A W (i 0) (i 1) := by
  funext i
  idx_vars i
  exact product A W i0 i1

/-- The reference's first result. -/
theorem res_0 : val_main_v18 (F := Ideal) A W X G = out A W X G := by
  funext i
  idx_vars i
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1, val_main_cst_2]
  simp only [product]
  rfl

end Cert.DownRefIdeal.Result

end
-- ==== Proof.DownClaim.lean ====
/-
  The feed-forward down projection with its norm and residual: its claims. The frames are the generated ones; the
  equation of both results holds for every argument.
-/
module

public import proofs.«01_k».proof.Defs
public import proofs.«01_k».proof.Proof.DownValue
public import proofs.«01_k».proof.Proof.Gen.Down.Frame
public import Idealize.ShloMosaic.Lib.Quiescent

@[expose] public section

set_option maxRecDepth 16384

noncomputable section

namespace Cert.Proof.Down

open Idealize.ShloMosaic Idealize.ShloMosaic.TcCoe Idealize.SL.Sem

/-- The reference ends with its arguments unchanged and its counters at zero. -/
theorem frame_ref : Cert.quiescent_DownRefIdeal := fun m g _ =>
  (θ_run Cert.DownRefIdeal.defs _ _).mono
    (fun r h => ⟨fun c => (h c).2.2, Idealize.ShloMosaic.sem_eq_zero_of_no_sems (by decide) r.2⟩) (Cert.DownRefIdeal.Value.run (F := Ideal) m g)

/-- The kernel's two arrays are the reference's results. -/
theorem algebraic : Cert.algebraic_DownIdeal_DownRefIdeal := by
  intro m g m' g' _ hagree
  refine ⟨_, _, Cert.DownIdeal.Value.run_blocks (F := Ideal) m g, ?_⟩
  refine (θ_run Cert.DownRefIdeal.defs _ _).mono (fun r h c => ⟨(h c).1.trans ?_, (h c).2.1.trans ?_, (h c).2.2⟩) (Cert.DownRefIdeal.Value.run (F := Ideal) m' g')
  · obtain ⟨a0, a1, a2, a3⟩ := hagree c
    rw [Cert.DownIdeal.Result.final_6, Cert.DownRefIdeal.Read.val_main_v18_eq, a0, a1, a2, a3]
    exact Cert.DownRefIdeal.Result.res_0 _ _ _ _
  · obtain ⟨a0, a1, -, -⟩ := hagree c
    rw [Cert.DownIdeal.Result.final_7, Cert.DownRefIdeal.Read.val_main_v2_eq, a0, a1]
    exact Cert.DownRefIdeal.Result.res_1 _ _

end Cert.Proof.Down

end
-- ==== Proof.QkFwdBlock.lean ====
/-
  The forward rotary kernel, one block of 256 rows: what its body leaves in the two output blocks. The queries' heads keep
  their first 128 columns and have the last 128 rotated; a key's head is 128 columns of the projected keys, then the
  128 lanes all heads share.
-/
module

public import proofs.«01_k».proof.Proof.QkFinHost
public import proofs.«01_k».proof.Proof.Gen.QkFwdIdeal.Value

@[expose] public section

set_option maxRecDepth 16384

noncomputable section

namespace Cert.Rope

/-- The rotation of a row of 128 lanes, as the kernels write it. -/
def spin (hw : ℕ) (c s x : Fin 128 → EReal) (l : Fin 128) : EReal :=
  x l * c l + (if l.val < hw then 0 - x ⟨(l.val + hw) % 128, Nat.mod_lt _ (by norm_num)⟩ else x ⟨(l.val + (128 - hw)) % 128, Nat.mod_lt _ (by norm_num)⟩) * s l

/-- The rotation of equal rows at equal lanes. -/
theorem spin_congr (hw : ℕ) {c c' s s' x x' : Fin 128 → EReal} {l l' : Fin 128} (hc : c = c') (hs : s = s') (hx : x = x') (hl : l = l') :
    spin hw c s x l = spin hw c' s' x' l' := by
  subst hc hs hx hl
  rfl

/-- The rotation on the first half of the rotated lanes … -/
theorem spin_low (hw : ℕ) (hh : 2 * hw ≤ 128) (f g : ℕ → EReal) (x : Fin 128 → EReal) (l : Fin 128) (h : l.val < hw) :
    spin hw (table hw f) (table hw g) x l = x l * f l.val - x ⟨l.val + hw, by omega⟩ * g l.val := by
  unfold spin table
  rw [if_pos h, if_pos h, if_pos h, show (⟨(l.val + hw) % 128, Nat.mod_lt _ (by norm_num)⟩ : Fin 128) = ⟨l.val + hw, by omega⟩ from
    Fin.ext (Nat.mod_eq_of_lt (by omega)), sub_eq_add_neg, sub_eq_add_neg, zero_add, EReal.neg_mul]

/-- … on the second half … -/
theorem spin_high (hw : ℕ) (hh : 2 * hw ≤ 128) (f g : ℕ → EReal) (x : Fin 128 → EReal) (l : Fin 128) (h : hw ≤ l.val) (h' : l.val - hw < hw) :
    spin hw (table hw f) (table hw g) x l = x l * f (l.val - hw) + x ⟨l.val - hw, by omega⟩ * g (l.val - hw) := by
  have hl := l.isLt
  unfold spin table
  rw [if_neg (show ¬ l.val < hw by omega), if_neg (show ¬ l.val < hw by omega), if_neg (show ¬ l.val < hw by omega), if_pos h', if_pos h',
    show (⟨(l.val + (128 - hw)) % 128, Nat.mod_lt _ (by norm_num)⟩ : Fin 128) = ⟨l.val - hw, by omega⟩ from Fin.ext (by show (l.val + (128 - hw)) % 128 = l.val - hw; omega)]

/-- … and beyond them. -/
theorem spin_rest (hw : ℕ) (f g : ℕ → EReal) (x : Fin 128 → EReal) (l : Fin 128) (h : hw ≤ l.val) (h' : hw ≤ l.val - hw) :
    spin hw (table hw f) (table hw g) x l = 0 := by
  unfold spin table
  simp only [if_neg (show ¬ l.val < hw by omega), if_neg (show ¬ l.val - hw < hw by omega)]
  rw [mul_zero, mul_zero, add_zero]

end Cert.Rope

namespace Cert.QkFwdIdeal.Block

open Cert.QkFwdIdeal Cert.QkFwdIdeal.Gen Idealize.ShloMosaic Cert.Reals
open Cert.QkFinIdeal.Block (first_half lane laneOf)

/-- The kernel's rotation of a row, its two turned rows chosen by the lane's half. -/
theorem select_spin (c s x : Fin 128 → EReal) (l : Fin 128) :
    x l * c l + Scalar.select (IntOp.cmpi .slt (BitVec.ofNat 32 l.val) 32#32)
        (0 - x ⟨(l.val + 128 - 96) % 128, Nat.mod_lt _ (by norm_num)⟩) (x ⟨(l.val + 128 - 32) % 128, Nat.mod_lt _ (by norm_num)⟩) * s l
      = Rope.spin 32 c s x l := by
  unfold Rope.spin
  rw [first_half]
  by_cases h : l.val < 32
  · rw [if_pos h, if_pos h]
    refine congrArg (fun k => _ + (0 - x k) * _) (Fin.ext ?_)
    show (l.val + 128 - 96) % 128 = (l.val + 32) % 128
    omega
  · rw [if_neg h, if_neg h]
    refine congrArg (fun k => _ + x k * _) (Fin.ext ?_)
    show (l.val + 128 - 32) % 128 = (l.val + (128 - 32)) % 128
    omega

/-- The kernel's rotation of one head's block is the rotation of every row. -/
theorem pay6_apply (C S X : S256x128.Idx → EReal) (r : Fin 256) (l : Fin 128) :
    k0_pay6 (F := Ideal) C S X (ix2 r l) = Rope.spin 32 (fun l => C (ix2 r l)) (fun l => S (ix2 r l)) (fun l => X (ix2 r l)) l := by
  unfold_payloads
  pointwise
  exact select_spin (fun l => C (ix2 r l)) (fun l => S (ix2 r l)) (fun l => X (ix2 r l)) l

/-- A copy of a block of 128 columns. -/
theorem pay5_eq (X : S256x128.Idx → EReal) : k0_pay5 (F := Ideal) X = X := by
  unfold k0_pay5
  rw [shapeCast_self]
  rfl

@[inherit_doc pay5_eq] theorem pay4_eq (X : S256x128.Idx → EReal) : k0_pay4 (F := Ideal) X = X := by
  unfold k0_pay4
  rw [shapeCast_self]

@[inherit_doc pay5_eq] theorem pay7_eq (X : S256x128.Idx → EReal) : k0_pay7 (F := Ideal) X = X := by
  unfold k0_pay7
  rw [shapeCast_self]

/-- One row of the first result. -/
def rowQ (c s : Fin 128 → EReal) (x : Fin 2048 → EReal) (q : Fin 2048) : EReal :=
  if q.val % 256 < 128 then x q else Rope.spin 32 c s (fun l => x (lane q l)) (laneOf q)

/-- One row of the second result. -/
def rowK (x : Fin 1024 → EReal) (v : Fin 128 → EReal) (q : Fin 2048) : EReal :=
  if q.val % 256 < 128 then x ⟨q.val / 256 * 128 + q.val % 128, by have := q.isLt; omega⟩ else v (laneOf q)

/-- The first block. -/
def blockQ (C S : S256x128.Idx → EReal) (X : S256x2048.Idx → EReal) (y : S256x2048.Idx) : EReal :=
  rowQ (fun l => C (ix2 (y 0) l)) (fun l => S (ix2 (y 0) l)) (fun q => X (ix2 (y 0) q)) (y 1)

/-- The second block. -/
def blockK (X : S256x1024.Idx → EReal) (V : S256x128.Idx → EReal) (y : S256x2048.Idx) : EReal :=
  rowK (fun q => X (ix2 (y 0) q)) (fun l => V (ix2 (y 0) l)) (y 1)

/-- Where a piece of 128 columns lies. -/
theorem emb_cols (o : ℕ) (ho : o + 128 ≤ 2048) (inb) (r : Fin 256) (l : Fin 128) :
    (Rect.unit (s := S256x2048) ![0, o] ![256, 128] inb).emb (ix2 r l) = ix2 r (⟨o + l.val, by have := l.isLt; omega⟩ : Fin 2048) :=
  funext fun a => Fin.ext (by
    match a with
    | ⟨0, _⟩ => show 0 + 1 * r.val = r.val; omega
    | ⟨1, _⟩ => show o + 1 * l.val = o + l.val; omega)

@[inherit_doc emb_cols]
theorem emb_half (o : ℕ) (ho : o + 128 ≤ 1024) (inb) (r : Fin 256) (l : Fin 128) :
    (Rect.unit (s := S256x1024) ![0, o] ![256, 128] inb).emb (ix2 r l) = ix2 r (⟨o + l.val, by have := l.isLt; omega⟩ : Fin 1024) :=
  funext fun a => Fin.ext (by
    match a with
    | ⟨0, _⟩ => show 0 + 1 * r.val = r.val; omega
    | ⟨1, _⟩ => show o + 1 * l.val = o + l.val; omega)

/-- A head's first 128 columns of the first block. -/
theorem piece_same (C S : S256x128.Idx → EReal) (X : S256x2048.Idx → EReal) (o : ℕ) (ho : o + 128 ≤ 2048 ∧ o % 256 = 0) (inb) (x : S256x128.Idx) :
    k0_pay5 (F := Ideal) (fun x => X ((Rect.unit (s := S256x2048) ![0, o] ![256, 128] inb).emb x)) x
      = blockQ C S X ((Rect.unit (s := S256x2048) ![0, o] ![256, 128] inb).emb x) := by
  obtain ⟨r, l, rfl⟩ : ∃ (r : Fin 256) (l : Fin 128), x = ix2 r l := ⟨x 0, x 1, eq_ix2 x⟩
  have hl := l.isLt
  rw [pay5_eq, emb_cols o ho.1]
  refine (if_pos ?_).symm
  show (o + l.val) % 256 < 128
  omega

/-- A head's last 128 columns of the first block. -/
theorem piece_spin (C S : S256x128.Idx → EReal) (X : S256x2048.Idx → EReal) (o : ℕ) (ho : o + 128 ≤ 2048 ∧ o % 256 = 128) (inb) (x : S256x128.Idx) :
    k0_pay6 (F := Ideal) C S (fun x => X ((Rect.unit (s := S256x2048) ![0, o] ![256, 128] inb).emb x)) x
      = blockQ C S X ((Rect.unit (s := S256x2048) ![0, o] ![256, 128] inb).emb x) := by
  obtain ⟨r, l, rfl⟩ : ∃ (r : Fin 256) (l : Fin 128), x = ix2 r l := ⟨x 0, x 1, eq_ix2 x⟩
  have hl := l.isLt
  rw [pay6_apply, emb_cols o ho.1]
  refine Eq.trans ?_ (if_neg ?_).symm
  · refine congrArg₂ (Rope.spin 32 _ _) (funext fun k => ?_) (Fin.ext ?_)
    · rw [emb_cols o ho.1]
      refine congrArg (fun q => X (ix2 r q)) (Fin.ext ?_)
      show o + k.val = (o + l.val) / 128 * 128 + k.val
      have := k.isLt
      omega
    · show l.val = (o + l.val) % 128
      omega
  · show ¬ (o + l.val) % 256 < 128
    omega

/-- A head's first 128 columns of the second block. -/
theorem piece_key (X : S256x1024.Idx → EReal) (V : S256x128.Idx → EReal) (o o' : ℕ) (ho : o + 128 ≤ 2048 ∧ o % 256 = 0 ∧ o = 2 * o') (inb inb')
    (x : S256x128.Idx) :
    k0_pay7 (F := Ideal) (fun x => X ((Rect.unit (s := S256x1024) ![0, o'] ![256, 128] inb').emb x)) x = blockK X V ((Rect.unit (s := S256x2048) ![0, o] ![256, 128] inb).emb x) := by
  obtain ⟨r, l, rfl⟩ : ∃ (r : Fin 256) (l : Fin 128), x = ix2 r l := ⟨x 0, x 1, eq_ix2 x⟩
  have hl := l.isLt
  rw [pay7_eq, emb_cols o (by omega), emb_half o' (by omega)]
  refine Eq.trans ?_ (if_pos (show (o + l.val) % 256 < 128 by omega)).symm
  refine congrArg (fun q => X (ix2 r q)) (Fin.ext ?_)
  show o' + l.val = (o + l.val) / 256 * 128 + (o + l.val) % 128
  omega

/-- A head's last 128 columns of the second block. -/
theorem piece_shared (X : S256x1024.Idx → EReal) (V : S256x128.Idx → EReal) (o : ℕ) (ho : o + 128 ≤ 2048 ∧ o % 256 = 128) (inb) (x : S256x128.Idx) :
    k0_pay4 (F := Ideal) V x = blockK X V ((Rect.unit (s := S256x2048) ![0, o] ![256, 128] inb).emb x) := by
  obtain ⟨r, l, rfl⟩ : ∃ (r : Fin 256) (l : Fin 128), x = ix2 r l := ⟨x 0, x 1, eq_ix2 x⟩
  have hl := l.isLt
  rw [pay4_eq, emb_cols o (by omega)]
  refine Eq.trans ?_ (if_neg (show ¬ (o + l.val) % 256 < 128 by omega)).symm
  refine congrArg (fun q => V (ix2 r q)) (Fin.ext ?_)
  show l.val = (o + l.val) % 128
  omega

variable (x0 : Vec Ideal S256x2048 .f32) (x1 : Vec Ideal S256x1024 .bf16) (x2 : Vec Ideal S256x128 .bf16) (x3 x4 : Vec Ideal S256x128 .f32)

/-- The first output block. -/
theorem out_5 : out0_5 x0 x1 x2 x3 x4 = blockQ x3 x4 x0 := by
  unfold out0_5 k0_pay35 k0_pay34
  refine funext fun y => View.canon_apply_of_pieces (Val := Elt Ideal) (e := .bf16) (blockQ x3 x4 x0) _ ?_ y (cover0_5 ..)
  simp only [View.ld_unit_zero (S := S256x128) hz2, List.forall_mem_cons, List.not_mem_nil, false_implies, implies_true, and_true]
  exact ⟨piece_spin x3 x4 x0 1920 (by decide) _,
    piece_same x3 x4 x0 1792 (by decide) _,
    piece_spin x3 x4 x0 1664 (by decide) _,
    piece_same x3 x4 x0 1536 (by decide) _,
    piece_spin x3 x4 x0 1408 (by decide) _,
    piece_same x3 x4 x0 1280 (by decide) _,
    piece_spin x3 x4 x0 1152 (by decide) _,
    piece_same x3 x4 x0 1024 (by decide) _,
    piece_spin x3 x4 x0 896 (by decide) _,
    piece_same x3 x4 x0 768 (by decide) _,
    piece_spin x3 x4 x0 640 (by decide) _,
    piece_same x3 x4 x0 512 (by decide) _,
    piece_spin x3 x4 x0 384 (by decide) _,
    piece_same x3 x4 x0 256 (by decide) _,
    piece_spin x3 x4 x0 128 (by decide) _,
    piece_same x3 x4 x0 0 (by decide) _⟩

/-- The second output block. -/
theorem out_6 : out0_6 x0 x1 x2 x3 x4 = blockK x1 x2 := by
  unfold out0_6 k0_pay36
  refine funext fun y => View.canon_apply_of_pieces (Val := Elt Ideal) (e := .bf16) (blockK x1 x2) _ ?_ y (cover0_6 ..)
  simp only [View.ld_unit_zero (S := S256x128) hz2, List.forall_mem_cons, List.not_mem_nil, false_implies, implies_true, and_true]
  exact ⟨piece_shared x1 x2 1920 (by decide) _,
    piece_key x1 x2 1792 896 (by decide) _ _,
    piece_shared x1 x2 1664 (by decide) _,
    piece_key x1 x2 1536 768 (by decide) _ _,
    piece_shared x1 x2 1408 (by decide) _,
    piece_key x1 x2 1280 640 (by decide) _ _,
    piece_shared x1 x2 1152 (by decide) _,
    piece_key x1 x2 1024 512 (by decide) _ _,
    piece_shared x1 x2 896 (by decide) _,
    piece_key x1 x2 768 384 (by decide) _ _,
    piece_shared x1 x2 640 (by decide) _,
    piece_key x1 x2 512 256 (by decide) _ _,
    piece_shared x1 x2 384 (by decide) _,
    piece_key x1 x2 256 128 (by decide) _ _,
    piece_shared x1 x2 128 (by decide) _,
    piece_key x1 x2 0 0 (by decide) _ _⟩

end Cert.QkFwdIdeal.Block

end
-- ==== Proof.QkFwdValue.lean ====
/-
  The forward rotary kernel, the arrays: every row of the two results is what the body makes of the same row of the
  arrays the host prepared, and these are the padded heads, the keys side by side, the shared lanes and the tables.
-/
module

public import proofs.«01_k».proof.Proof.QkFwdBlock
public import Idealize.ShloMosaic.Lib.Pointwise

@[expose] public section

set_option maxRecDepth 16384

noncomputable section

namespace Cert.QkFwdIdeal.Result

open Cert.QkFwdIdeal Cert.QkFwdIdeal.Gen Cert.QkFwdIdeal.Block Idealize.ShloMosaic Idealize.ShloMosaic.TcCoe Idealize.SL.Sem Cert.Reals
open Idealize.ShloMosaic.Pipeline (Dat)
open Cert.QkFinIdeal.Result (angles freq zeros padded tail padded_high cosR sinR)
open Cert.QkFinIdeal.Block (lane laneOf)

variable (m : (ℓ : Loc nD τ sig) → Buf (Elt Ideal) ℓ) (c : Dev nD)

/-- The rows the host prepared: the queries, every head in 256 columns, the keys' heads, the shared lanes … -/
def inQ : S8192x2048.Idx → EReal := V m c main_v2
@[inherit_doc inQ] def inK : S8192x2048.Idx → EReal := V m c main_v8
@[inherit_doc inQ] def inR : S8192x128.Idx → EReal := V m c main_v10
/-- … and the tables of cosines and sines. -/
def cosT : S8192x128.Idx → EReal := V m c main_v47
@[inherit_doc cosT] def sinT : S8192x128.Idx → EReal := V m c main_v49

/-- The arguments: the positions, the queries, the keys and values, the shared lanes. -/
abbrev pos : S1x8192.Idx → BitVec 32 := m ((c.tc : Thread nD τ).loc main_arg0)
abbrev qry : S1x8192x8x192.Idx → EReal := m ((c.tc : Thread nD τ).loc main_arg1)
abbrev kv : S1x8192x8x256.Idx → EReal := m ((c.tc : Thread nD τ).loc main_arg2)
abbrev shr : S1x8192x64.Idx → EReal := m ((c.tc : Thread nD τ).loc main_arg3)

theorem cosT_eq : cosT m c = concatenate S8192x128 1 [⟨S8192x32, Host.cos (F := Ideal) (φ := .f32) (angles (pos m c))⟩,
    ⟨S8192x32, Host.cos (F := Ideal) (φ := .f32) (angles (pos m c))⟩, ⟨S8192x64, zeros⟩]
      concatenates_S8192x32_S8192x32_S8192x64_S8192x128_d1 := by
  unfold cosT
  simp only [Gen.V, hostOps0, hostOps0_1, hostOps0_2, hostOps0_3, hostOps0_4, List.flatten_cons, List.flatten_nil, List.append_nil, List.cons_append, List.nil_append]
  after_results_simp <;> rfl

@[inherit_doc cosT_eq] theorem sinT_eq : sinT m c = concatenate S8192x128 1 [⟨S8192x32, Host.sin (F := Ideal) (φ := .f32) (angles (pos m c))⟩,
    ⟨S8192x32, Host.sin (F := Ideal) (φ := .f32) (angles (pos m c))⟩, ⟨S8192x64, zeros⟩]
      concatenates_S8192x32_S8192x32_S8192x64_S8192x128_d1 := by
  unfold sinT
  simp only [Gen.V, hostOps0, hostOps0_1, hostOps0_2, hostOps0_3, hostOps0_4, List.flatten_cons, List.flatten_nil, List.append_nil, List.cons_append, List.nil_append]
  after_results_simp <;> rfl

/-- The cosines … -/
theorem cosT_apply (s : Fin 8192) (l : Fin 128) : cosT m c (ix2 s l) = Rope.table 32 (cosR (pos m c) s) l := by
  rw [cosT_eq]
  pointwise [angles, freq, zeros]
  rfl

/-- … and the sines. -/
theorem sinT_apply (s : Fin 8192) (l : Fin 128) : sinT m c (ix2 s l) = Rope.table 32 (sinR (pos m c) s) l := by
  rw [sinT_eq]
  pointwise [angles, freq, zeros]
  rfl

/-- The queries, padded. -/
theorem inQ_apply (s : Fin 8192) (h : Fin 8) (l : Fin 256) : inQ m c (ix2 s ⟨h.val * 256 + l.val, by omega⟩) = padded (qry m c) s h l := by
  unfold inQ
  generalize hx : V m c main_v2 = x
  revert hx
  simp only [Gen.V, hostOps0, hostOps0_1, hostOps0_2, hostOps0_3, hostOps0_4, List.flatten_cons, List.flatten_nil, List.append_nil, List.cons_append, List.nil_append]
  after_results_simp
  rintro rfl
  pointwise
  change pad S8192x8x256 ![0, 0, 0] ![0, 0, 64] ![0, 0, 0] (fun i : S8192x8x192.Idx => m ((c.tc : Thread nD τ).loc main_arg1) (ix4 0 (i 0) (i 1) (i 2)))
    (sitofp (F := Ideal) .f32 (constantI S_ 32 0#32)) pads_S8192x8x192_S8192x8x256_000_000_0640 h_S_ (ix3 s h l) = _
  pointwise
  rw [show FloatOps.sitofp (F := Ideal) FTy.f32 0#32 = (0 : EReal) from Rope.pad_zero]
  rfl

/-- The keys' heads, side by side. -/
theorem inK_apply (s : Fin 8192) (h : Fin 8) (l : Fin 128) :
    inK m c (ix2 s ⟨h.val * 128 + l.val, by omega⟩) = kv m c (ix4 0 s h ⟨l.val, by omega⟩) := by
  have hl := l.isLt
  have hh := h.isLt
  unfold inK
  generalize hx : V m c main_v8 = x
  revert hx
  simp only [Gen.V, hostOps0, hostOps0_1, hostOps0_2, hostOps0_3, hostOps0_4, List.flatten_cons, List.flatten_nil, List.append_nil, List.cons_append, List.nil_append]
  after_results_simp
  rintro rfl
  pointwise
  rw [dif_pos (show h.val * 128 + l.val < 1024 by omega)]
  after_results_simp
  pointwise

/-- The shared lanes, then zeros. -/
def lanes (x : S1x8192x64.Idx → EReal) (s : Fin 8192) (l : Fin 128) : EReal := if hl : l.val < 64 then x (ix3 0 s ⟨l.val, hl⟩) else 0

theorem inR_apply (s : Fin 8192) (l : Fin 128) : inR m c (ix2 s l) = lanes (shr m c) s l := by
  unfold inR
  generalize hx : V m c main_v10 = x
  revert hx
  simp only [Gen.V, hostOps0, hostOps0_1, hostOps0_2, hostOps0_3, hostOps0_4, List.flatten_cons, List.flatten_nil, List.append_nil, List.cons_append, List.nil_append]
  after_results_simp
  rintro rfl
  pointwise
  change pad S8192x128 ![0, 0] ![0, 64] ![0, 0] (fun i : S8192x64.Idx => m ((c.tc : Thread nD τ).loc main_arg3) (ix3 0 (i 0) (i 1)))
    (sitofp (F := Ideal) .bf16 (constantI S_ 32 0#32)) pads_S8192x64_S8192x128_000_0640 h_S_ (ix2 s l) = _
  pointwise
  rw [show FloatOps.sitofp (F := Ideal) FTy.bf16 0#32 = (0 : EReal) from Rope.pad_zero]
  rfl

/-- Row `r` of block `n`, as a row of the array. -/
def rowOf (n : Fin cfg0.N) (r : Fin 256) : Fin 8192 :=
  ⟨n.val * 256 + r.val, by have hN : cfg0.N = 32 := N_0; have := n.isLt; have := r.isLt; omega⟩

/-- The windows move by one block a point. -/
theorem index_in : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := by decide +kernel

@[inherit_doc index_in]
theorem index_out : ∀ t : Fin cfg0.N, (win0_5.index t 0 = t.val ∧ win0_5.index t 1 = 0) ∧ (win0_6.index t 0 = t.val ∧ win0_6.index t 1 = 0) := by decide +kernel

/-- An index of an array, from its position in a point's block. -/
theorem at_row {w : ℕ} (t : Fin cfg0.N) (i : (⟨2, ![8192, w]⟩ : Shape).Idx) (r : Fin 256) (j : Fin w) (e0 : (i 0).val = t.val * 256 + 1 * r.val)
    (e1 : (i 1).val = 0 * w + 1 * j.val) : i = ix2 (rowOf t r) j :=
  funext fun a => Fin.ext (by
    match a with
    | ⟨0, _⟩ => show (i 0).val = t.val * 256 + r.val; omega
    | ⟨1, _⟩ => show (i 1).val = j.val; omega)

/-- The blocks of a point. -/
theorem iblk0 (t : Fin cfg0.N) : iblk m c 0 t = fun j : S256x2048.Idx => inQ m c (ix2 (rowOf t (j 0)) (j 1)) := by
  obtain ⟨⟨e0, e1⟩, -⟩ := index_in t
  funext j
  unfold iblk
  rw [View.read_apply]
  refine congrArg (inQ m c) (at_row t _ (j 0) _ (congrArg (· * 256 + 1 * (j 0).val) e0) ?_)
  show win0_0.index t 1 * 2048 + 1 * (j 1).val = 0 * 2048 + 1 * (j 1).val
  rw [e1]

@[inherit_doc iblk0]
theorem iblk1 (t : Fin cfg0.N) : iblk m c 1 t = fun j : S256x1024.Idx => inK m c (ix2 (rowOf t (j 0)) (⟨(j 1).val, Nat.lt_trans (show (j 1).val < 1024 from (j 1).isLt) (by norm_num)⟩ : Fin 2048)) := by
  obtain ⟨-, ⟨e0, e1⟩, -⟩ := index_in t
  funext j
  unfold iblk
  rw [View.read_apply]
  refine congrArg (inK m c) (at_row t _ (j 0) _ (congrArg (· * 256 + 1 * (j 0).val) e0) ?_)
  show win0_1.index t 1 * 1024 + 1 * (j 1).val = 0 * 2048 + 1 * (j 1).val
  rw [e1]

@[inherit_doc iblk0]
theorem iblk2 (t : Fin cfg0.N) : iblk m c 2 t = fun j : S256x128.Idx => inR m c (ix2 (rowOf t (j 0)) (j 1)) := by
  obtain ⟨-, -, ⟨e0, e1⟩, -⟩ := index_in t
  funext j
  unfold iblk
  rw [View.read_apply]
  refine congrArg (inR m c) (at_row t _ (j 0) _ (congrArg (· * 256 + 1 * (j 0).val) e0) ?_)
  show win0_2.index t 1 * 128 + 1 * (j 1).val = 0 * 128 + 1 * (j 1).val
  rw [e1]

@[inherit_doc iblk0]
theorem iblk3 (t : Fin cfg0.N) : iblk m c 3 t = fun j : S256x128.Idx => cosT m c (ix2 (rowOf t (j 0)) (j 1)) := by
  obtain ⟨-, -, -, ⟨e0, e1⟩, -⟩ := index_in t
  funext j
  unfold iblk
  rw [View.read_apply]
  refine congrArg (cosT m c) (at_row t _ (j 0) _ (congrArg (· * 256 + 1 * (j 0).val) e0) ?_)
  show win0_3.index t 1 * 128 + 1 * (j 1).val = 0 * 128 + 1 * (j 1).val
  rw [e1]

@[inherit_doc iblk0]
theorem iblk4 (t : Fin cfg0.N) : iblk m c 4 t = fun j : S256x128.Idx => sinT m c (ix2 (rowOf t (j 0)) (j 1)) := by
  obtain ⟨-, -, -, -, e0, e1⟩ := index_in t
  funext j
  unfold iblk
  rw [View.read_apply]
  refine congrArg (sinT m c) (at_row t _ (j 0) _ (congrArg (· * 256 + 1 * (j 0).val) e0) ?_)
  show win0_4.index t 1 * 128 + 1 * (j 1).val = 0 * 128 + 1 * (j 1).val
  rw [e1]

/-- The first result. -/
def arrQ (i : S8192x2048.Idx) : EReal :=
  rowQ (fun l => cosT m c (ix2 (i 0) l)) (fun l => sinT m c (ix2 (i 0) l)) (fun q => inQ m c (ix2 (i 0) q)) (i 1)

/-- The second result. -/
def arrK (i : S8192x2048.Idx) : EReal :=
  rowK (fun q => inK m c (ix2 (i 0) (⟨q.val, by omega⟩ : Fin 2048))) (fun l => inR m c (ix2 (i 0) l)) (i 1)

/-- The first result array. -/
theorem final_5 : (dats m 0 c).arrAt 5 cfg0.N = arrQ m c := by
  have hN : cfg0.N = 32 := N_0
  refine (dats m 0 c).arrAt_eq_of_cover 5 _ (fun t _ => ?_) fun i => ?_
  · obtain ⟨⟨e0, e1⟩, -⟩ := index_out t
    show (cfg0.win 5).cut (grid0.coords t) ((dats m 0 c).after 5 t) = _
    rw [after0_5, out_5, iblk0, iblk3, iblk4]
    funext j
    rw [View.read_apply]
    exact congrArg (arrQ m c) (at_row t _ (j 0) (j 1) (congrArg (· * 256 + 1 * (j 0).val) e0) (congrArg (· * 2048 + 1 * (j 1).val) e1)).symm
  · have h0 : (i 0 : Nat) < 8192 := (i 0).isLt
    have h1 : (i 1 : Nat) < 2048 := (i 1).isLt
    obtain ⟨t, ht⟩ : ∃ t : Fin cfg0.N, t.val = (i 0 : Nat) / 256 := ⟨⟨(i 0 : Nat) / 256, by omega⟩, rfl⟩
    refine ⟨t, flush0_5 t, ?_⟩
    obtain ⟨⟨e0, e1⟩, -⟩ := index_out t
    show i ∈ ((View.whole main_v54_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256; rw [e0]; omega
    | ⟨1, _⟩ => show win0_5.index t 1 * 2048 ≤ (i 1 : Nat) ∧ (i 1 : Nat) < win0_5.index t 1 * 2048 + 2048; rw [e1]; omega

/-- The second result array. -/
theorem final_6 : (dats m 0 c).arrAt 6 cfg0.N = arrK m c := by
  have hN : cfg0.N = 32 := N_0
  refine (dats m 0 c).arrAt_eq_of_cover 6 _ (fun t _ => ?_) fun i => ?_
  · obtain ⟨-, e0, e1⟩ := index_out t
    show (cfg0.win 6).cut (grid0.coords t) ((dats m 0 c).after 6 t) = _
    rw [after0_6, out_6, iblk1, iblk2]
    funext j
    rw [View.read_apply]
    exact congrArg (arrK m c) (at_row t _ (j 0) (j 1) (congrArg (· * 256 + 1 * (j 0).val) e0) (congrArg (· * 2048 + 1 * (j 1).val) e1)).symm
  · have h0 : (i 0 : Nat) < 8192 := (i 0).isLt
    have h1 : (i 1 : Nat) < 2048 := (i 1).isLt
    obtain ⟨t, ht⟩ : ∃ t : Fin cfg0.N, t.val = (i 0 : Nat) / 256 := ⟨⟨(i 0 : Nat) / 256, by omega⟩, rfl⟩
    refine ⟨t, flush0_6 t, ?_⟩
    obtain ⟨-, e0, e1⟩ := index_out t
    show i ∈ ((View.whole main_v54_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256; rw [e0]; omega
    | ⟨1, _⟩ => show win0_6.index t 1 * 2048 ≤ (i 1 : Nat) ∧ (i 1 : Nat) < win0_6.index t 1 * 2048 + 2048; rw [e1]; omega

/-- The first result, a head's first 128 columns … -/
theorem arrQ_low (s : Fin 8192) (h : Fin 8) (l : Fin 128) :
    arrQ m c (ix2 s ⟨h.val * 256 + l.val, by omega⟩) = qry m c (ix4 0 s h ⟨l.val, by omega⟩) := by
  have hl := l.isLt
  refine (if_pos (show (h.val * 256 + l.val) % 256 < 128 by omega)).trans ?_
  refine (inQ_apply m c s h ⟨l.val, by omega⟩).trans ?_
  unfold padded
  rw [dif_pos (show l.val < 192 by omega)]

/-- … and its last 128. -/
theorem arrQ_high (s : Fin 8192) (h : Fin 8) (l : Fin 128) :
    arrQ m c (ix2 s ⟨h.val * 256 + (128 + l.val), by omega⟩)
      = Rope.spin 32 (Rope.table 32 (cosR (pos m c) s)) (Rope.table 32 (sinR (pos m c) s)) (tail (qry m c) s h) l := by
  have hl := l.isLt
  refine (if_neg (show ¬ (h.val * 256 + (128 + l.val)) % 256 < 128 by omega)).trans ?_
  refine Rope.spin_congr 32 (funext (cosT_apply m c s)) (funext (sinT_apply m c s)) (funext fun k => ?_) (Fin.ext ?_)
  · refine Eq.trans ?_ ((inQ_apply m c s h ⟨128 + k.val, by omega⟩).trans (padded_high _ s h k))
    refine congrArg (fun q => inQ m c (ix2 s q)) (Fin.ext ?_)
    show (h.val * 256 + (128 + l.val)) / 128 * 128 + k.val = h.val * 256 + (128 + k.val)
    omega
  · show (h.val * 256 + (128 + l.val)) % 128 = l.val
    omega

/-- The second result, a head's first 128 columns … -/
theorem arrK_low (s : Fin 8192) (h : Fin 8) (l : Fin 128) :
    arrK m c (ix2 s ⟨h.val * 256 + l.val, by omega⟩) = kv m c (ix4 0 s h ⟨l.val, by omega⟩) := by
  have hl := l.isLt
  refine (if_pos (show (h.val * 256 + l.val) % 256 < 128 by omega)).trans ?_
  refine Eq.trans ?_ (inK_apply m c s h l)
  refine congrArg (fun q => inK m c (ix2 s q)) (Fin.ext ?_)
  show (h.val * 256 + l.val) / 256 * 128 + (h.val * 256 + l.val) % 128 = h.val * 128 + l.val
  omega

/-- … and its last 128. -/
theorem arrK_high (s : Fin 8192) (h : Fin 8) (l : Fin 128) :
    arrK m c (ix2 s ⟨h.val * 256 + (128 + l.val), by omega⟩) = lanes (shr m c) s l := by
  have hl := l.isLt
  refine (if_neg (show ¬ (h.val * 256 + (128 + l.val)) % 256 < 128 by omega)).trans ?_
  refine Eq.trans ?_ (inR_apply m c s l)
  refine congrArg (fun q => inR m c (ix2 s q)) (Fin.ext ?_)
  show (h.val * 256 + (128 + l.val)) % 128 = l.val
  omega

end Cert.QkFwdIdeal.Result

end
-- ==== Proof.QkFwdRef.lean ====
/-
  The reference of the forward rotary kernel, read at an index: a head's columns as they are, the rotated columns as the
  rotation of the head's row, then zeros.
-/
module

public import proofs.«01_k».proof.Proof.QkFwdValue
public import proofs.«01_k».proof.Proof.Gen.QkFwdRefIdeal.Run
public import proofs.«01_k».proof.Proof.Gen.QkFwdRefIdeal.Read

@[expose] public section

set_option maxRecDepth 16384

noncomputable section

namespace Cert.QkFwdRefIdeal.Result

open Cert.QkFwdRefIdeal Cert.QkFwdRefIdeal.Gen Cert.QkFwdRefIdeal.Read Idealize.ShloMosaic Idealize.ShloMosaic.TcCoe Cert.Reals Cert
open Cert.QkFinIdeal.Result (tail cosR sinR)
open Cert.QkFwdIdeal.Result (lanes)

/-- The table of cosines … -/
theorem cos_apply (p : S1x8192.Idx → BitVec 32) (s : Fin 8192) (j : Fin 32) : val_main_v16 (F := Ideal) p (ix3 0 s j) = cosR p s j.val := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_cst, val_main_cst_0, val_main_cst_1,
    val_main_cst_2]
  rfl

/-- … and of sines. -/
theorem sin_apply (p : S1x8192.Idx → BitVec 32) (s : Fin 8192) (j : Fin 32) : val_main_v17 (F := Ideal) p (ix3 0 s j) = sinR p s j.val := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v17, val_main_cst, val_main_cst_0, val_main_cst_1,
    val_main_cst_2]
  rfl

/-- The rotation of 64 lanes, in halves. -/
theorem spun (y : Fin 64 → EReal) (f g : ℕ → EReal) (l : Fin 128) :
    (if h : l.val < 64 then
        if h1 : l.val < 32 then y ⟨l.val, h⟩ * f l.val - y ⟨32 + l.val, by omega⟩ * g l.val
        else y ⟨32 + (l.val - 32), by omega⟩ * f (l.val - 32) + y ⟨l.val - 32, by omega⟩ * g (l.val - 32)
      else 0)
      = Rope.spin 32 (Rope.table 32 f) (Rope.table 32 g) (fun k => if hk : k.val < 64 then y ⟨k.val, hk⟩ else 0) l := by
  by_cases h1 : l.val < 32
  · rw [dif_pos (show l.val < 64 by omega), dif_pos h1, Rope.spin_low 32 (by norm_num) f g _ l h1]
    dsimp only
    rw [dif_pos (show l.val + 32 < 64 by omega), dif_pos (show l.val < 64 by omega)]
    refine congrArg (fun k => _ - y k * _) (Fin.ext ?_)
    show 32 + l.val = l.val + 32
    omega
  by_cases h2 : l.val < 64
  · rw [dif_pos h2, dif_neg h1, Rope.spin_high 32 (by norm_num) f g _ l (by omega) (by omega)]
    dsimp only
    rw [dif_pos (show l.val - 32 < 64 by omega), dif_pos h2]
    refine congrArg (fun k => y k * _ + _) (Fin.ext ?_)
    show 32 + (l.val - 32) = l.val
    omega
  · rw [dif_neg h2, Rope.spin_rest 32 f g _ l (by omega) (by omega)]

variable (p : S1x8192.Idx → BitVec 32) (x : S1x8192x8x192.Idx → EReal) (y : S1x8192x8x256.Idx → EReal) (z : S1x8192x64.Idx → EReal)

/-- The queries, a head's first 128 columns … -/
theorem v42_low (s : Fin 8192) (h : Fin 8) (l : Fin 128) :
    val_main_v42 (F := Ideal) p x (ix4 0 s h ⟨l.val, by omega⟩) = x (ix4 0 s h ⟨l.val, by omega⟩) := by
  have hl := l.isLt
  pointwise [val_main_v42, val_main_v38, val_main_v18]
  rw [dif_pos (show l.val < 192 by omega)]

/-- The rotated lanes. -/
theorem v34_apply (s : Fin 8192) (h : Fin 8) (k : Fin 64) :
    val_main_v34 (F := Ideal) p x (ix4 0 s h k)
      = if h1 : k.val < 32 then x (ix4 0 s h ⟨128 + k.val, by omega⟩) * cosR p s k.val - x (ix4 0 s h ⟨128 + (32 + k.val), by omega⟩) * sinR p s k.val
        else x (ix4 0 s h ⟨128 + (32 + (k.val - 32)), by omega⟩) * cosR p s (k.val - 32)
          + x (ix4 0 s h ⟨128 + (k.val - 32), by omega⟩) * sinR p s (k.val - 32) := by
  have hk := k.isLt
  pointwise [val_main_v34, val_main_v33, val_main_v32, val_main_v31, val_main_v30, val_main_v29, val_main_v28, val_main_v27,
    val_main_v26, val_main_v25, val_main_v24, val_main_v23, val_main_v22, val_main_v21, val_main_v20, val_main_v19]
  by_cases h1 : k.val < 32
  · rw [dif_pos h1, dif_pos h1, cos_apply p s ⟨k.val, h1⟩, sin_apply p s ⟨k.val, h1⟩]
  · rw [dif_neg h1, dif_neg h1, cos_apply p s ⟨k.val - 32, by omega⟩, sin_apply p s ⟨k.val - 32, by omega⟩]

/-- … and its last 128. -/
theorem v42_high (s : Fin 8192) (h : Fin 8) (l : Fin 128) :
    val_main_v42 (F := Ideal) p x (ix4 0 s h ⟨128 + l.val, by omega⟩)
      = Rope.spin 32 (Rope.table 32 (cosR p s)) (Rope.table 32 (sinR p s)) (tail x s h) l := by
  have hl := l.isLt
  refine Eq.trans ?_ (spun (fun k => x (ix4 0 s h ⟨128 + k.val, by omega⟩)) (cosR p s) (sinR p s) l)
  by_cases h2 : l.val < 64
  · pointwise [val_main_v42, val_main_v38]
    rw [dif_pos (show 128 + l.val < 192 by omega), dif_pos h2]
    exact v34_apply p x s h ⟨l.val, h2⟩
  · pointwise [val_main_v42, val_main_v38, val_main_call0_v0, val_main_c]
    rw [dif_neg (show ¬ 128 + l.val < 192 by omega), dif_neg h2]
    exact Rope.pad_zero

/-- The keys, a head's first 128 columns … -/
theorem v45_low (s : Fin 8192) (h : Fin 8) (l : Fin 128) :
    val_main_v45 (F := Ideal) y z (ix4 0 s h ⟨l.val, by omega⟩) = y (ix4 0 s h ⟨l.val, by omega⟩) := by
  have hl := l.isLt
  pointwise [val_main_v45, val_main_v41, val_main_v40, val_main_v39]
  rw [dif_pos (show l.val < 192 by omega)]

/-- … and its last 128. -/
theorem v45_high (s : Fin 8192) (h : Fin 8) (l : Fin 128) :
    val_main_v45 (F := Ideal) y z (ix4 0 s h ⟨128 + l.val, by omega⟩) = lanes z s l := by
  have hl := l.isLt
  pointwise [val_main_v45, val_main_v41, val_main_v37, val_main_v36, val_main_v35, val_main_call1_v0, val_main_c_3]
  unfold lanes
  by_cases h2 : l.val < 64
  · rw [dif_pos (show 128 + l.val < 192 by omega), dif_pos h2]
  · rw [dif_neg (show ¬ 128 + l.val < 192 by omega), dif_neg h2]
    exact Rope.pad_zero

/-- The results in rows of 2048 columns. -/
theorem v43_low (s : Fin 8192) (h : Fin 8) (l : Fin 128) :
    val_main_v43 (F := Ideal) p x (ix2 s ⟨h.val * 256 + l.val, by omega⟩) = x (ix4 0 s h ⟨l.val, by omega⟩) := by
  have hl := l.isLt
  have hh := h.isLt
  rw [← v42_low p x s h l]
  pointwise [val_main_v43]
  refine congrArg (fun k => val_main_v42 (F := Ideal) p x (ix4 0 s h k)) (Fin.ext ?_)
  show (h.val * 256 + l.val) % 256 = l.val
  omega

@[inherit_doc v43_low]
theorem v43_high (s : Fin 8192) (h : Fin 8) (l : Fin 128) :
    val_main_v43 (F := Ideal) p x (ix2 s ⟨h.val * 256 + (128 + l.val), by omega⟩)
      = Rope.spin 32 (Rope.table 32 (cosR p s)) (Rope.table 32 (sinR p s)) (tail x s h) l := by
  have hl := l.isLt
  have hh := h.isLt
  rw [← v42_high p x s h l]
  pointwise [val_main_v43]
  refine congrArg (fun k => val_main_v42 (F := Ideal) p x (ix4 0 s h k)) (Fin.ext ?_)
  show (h.val * 256 + (128 + l.val)) % 256 = 128 + l.val
  omega

@[inherit_doc v43_low]
theorem v46_low (s : Fin 8192) (h : Fin 8) (l : Fin 128) :
    val_main_v46 (F := Ideal) y z (ix2 s ⟨h.val * 256 + l.val, by omega⟩) = y (ix4 0 s h ⟨l.val, by omega⟩) := by
  have hl := l.isLt
  have hh := h.isLt
  rw [← v45_low y z s h l]
  pointwise [val_main_v46]
  refine congrArg (fun k => val_main_v45 (F := Ideal) y z (ix4 0 s h k)) (Fin.ext ?_)
  show (h.val * 256 + l.val) % 256 = l.val
  omega

@[inherit_doc v43_low]
theorem v46_high (s : Fin 8192) (h : Fin 8) (l : Fin 128) :
    val_main_v46 (F := Ideal) y z (ix2 s ⟨h.val * 256 + (128 + l.val), by omega⟩) = lanes z s l := by
  have hl := l.isLt
  have hh := h.isLt
  rw [← v45_high y z s h l]
  pointwise [val_main_v46]
  refine congrArg (fun k => val_main_v45 (F := Ideal) y z (ix4 0 s h k)) (Fin.ext ?_)
  show (h.val * 256 + (128 + l.val)) % 256 = 128 + l.val
  omega

end Cert.QkFwdRefIdeal.Result

end
-- ==== Proof.QkFwdClaim.lean ====
/-
  The forward rotary kernel: its claims. The frames are the generated ones; the equation of both results holds for every
  argument.
-/
module

public import proofs.«01_k».proof.Defs
public import proofs.«01_k».proof.Proof.QkFwdRef
public import proofs.«01_k».proof.Proof.Gen.QkFwd.Frame
public import Idealize.ShloMosaic.Lib.Quiescent

@[expose] public section

set_option maxRecDepth 16384

noncomputable section

namespace Cert.Proof.QkFwd

open Idealize.ShloMosaic Idealize.ShloMosaic.TcCoe Idealize.SL.Sem Cert.Reals

/-- The reference ends with its arguments unchanged and its counters at zero. -/
theorem frame_ref : Cert.quiescent_QkFwdRefIdeal := fun m g _ =>
  (θ_run Cert.QkFwdRefIdeal.defs _ _).mono
    (fun r h => ⟨fun c => (h c).2.2, Idealize.ShloMosaic.sem_eq_zero_of_no_sems (by decide) r.2⟩) (Cert.QkFwdRefIdeal.Value.run (F := Ideal) m g)

/-- A column of 2048 lies in the first or in the last 128 of a head's 256. -/
theorem col (q : Fin 2048) : ∃ (h : Fin 8) (l : Fin 128),
    q = ⟨h.val * 256 + l.val, by omega⟩ ∨ q = ⟨h.val * 256 + (128 + l.val), by omega⟩ := by
  have hq := q.isLt
  refine ⟨⟨q.val / 256, by omega⟩, ⟨q.val % 128, by omega⟩, ?_⟩
  by_cases h : q.val % 256 < 128
  · exact Or.inl (Fin.ext (show q.val = q.val / 256 * 256 + q.val % 128 by omega))
  · exact Or.inr (Fin.ext (show q.val = q.val / 256 * 256 + (128 + q.val % 128) by omega))

/-- The kernel's two arrays are the reference's results. -/
theorem algebraic : Cert.algebraic_QkFwdIdeal_QkFwdRefIdeal := by
  intro m g m' g' _ hagree
  refine ⟨_, _, Cert.QkFwdIdeal.Value.run_blocks (F := Ideal) m g, ?_⟩
  refine (θ_run Cert.QkFwdRefIdeal.defs _ _).mono (fun r h c => ⟨(h c).1.trans ?_, (h c).2.1.trans ?_, (h c).2.2⟩) (Cert.QkFwdRefIdeal.Value.run (F := Ideal) m' g')
  all_goals obtain ⟨a0, a1, a2, a3⟩ := hagree c
  · rw [Cert.QkFwdIdeal.Result.final_5 m c, Cert.QkFwdRefIdeal.Read.val_main_v44_eq, a0, a1]
    funext i
    obtain ⟨s, q, rfl⟩ : ∃ (s : Fin 8192) (q : Fin 2048), i = ix2 s q := ⟨i 0, i 1, eq_ix2 i⟩
    obtain ⟨h, l, rfl | rfl⟩ := col q
    · exact (Cert.QkFwdRefIdeal.Result.v43_low _ _ s h l).trans (Cert.QkFwdIdeal.Result.arrQ_low m c s h l).symm
    · exact (Cert.QkFwdRefIdeal.Result.v43_high _ _ s h l).trans (Cert.QkFwdIdeal.Result.arrQ_high m c s h l).symm
  · rw [Cert.QkFwdIdeal.Result.final_6 m c, Cert.QkFwdRefIdeal.Read.val_main_v47_eq, a2, a3]
    funext i
    obtain ⟨s, q, rfl⟩ : ∃ (s : Fin 8192) (q : Fin 2048), i = ix2 s q := ⟨i 0, i 1, eq_ix2 i⟩
    obtain ⟨h, l, rfl | rfl⟩ := col q
    · exact (Cert.QkFwdRefIdeal.Result.v46_low _ _ s h l).trans (Cert.QkFwdIdeal.Result.arrK_low m c s h l).symm
    · exact (Cert.QkFwdRefIdeal.Result.v46_high _ _ s h l).trans (Cert.QkFwdIdeal.Result.arrK_high m c s h l).symm

end Cert.Proof.QkFwd

end
-- ==== Proof.Columns.lean ====
/-
  The column order of the mixer: 4160 columns rearranged and followed by 64 zeros. And the chunks of the hidden columns.
-/
module

public import proofs.«01_k».proof.Proof.Reals
public import proofs.«01_k».proof.Proof.Rope

@[expose] public section

noncomputable section

namespace Cert.Columns

open Idealize.ShloMosaic

/-- Column `j` of the order the mixer works in, of a row with 4160 columns: first the columns up to 1024, then those from
    1088 on, then the 64 between, then zeros. -/
def order (f : Fin 4160 → EReal) (j : Fin 4224) : EReal :=
  if h1 : j.val < 1024 then f ⟨j.val, by omega⟩
  else if h2 : j.val - 1024 < 3072 then f ⟨1088 + (j.val - 1024), by omega⟩
  else if h3 : j.val - 1024 - 3072 < 64 then f ⟨1024 + (j.val - 1024 - 3072), by omega⟩ else 0

/-- The same, as columns put in order first and padded then. -/
theorem order_pad (f : Fin 4160 → EReal) (j : Fin 4224) (z : EReal) (hz : z = 0) :
    (if h : j.val < 4160 then
        if h1 : j.val < 1024 then f ⟨j.val, by omega⟩
        else if h2 : j.val - 1024 < 3072 then f ⟨1088 + (j.val - 1024), by omega⟩
        else f ⟨1024 + (j.val - 1024 - 3072), by omega⟩
      else z) = order f j := by
  subst hz
  unfold order
  by_cases h : j.val < 4160
  · rw [dif_pos h]
    by_cases h1 : j.val < 1024
    · rw [dif_pos h1, dif_pos h1]
    · rw [dif_neg h1, dif_neg h1]
      by_cases h2 : j.val - 1024 < 3072
      · rw [dif_pos h2, dif_pos h2]
      · rw [dif_neg h2, dif_neg h2, dif_pos (by omega)]
  · rw [dif_neg h, dif_neg (by omega), dif_neg (by omega), dif_neg (by omega)]

/-- Ordering the columns of a product is ordering those of its second factor. -/
theorem order_sum {n : ℕ} (f : Fin n → EReal) (w : Fin n → Fin 4160 → EReal) (j : Fin 4224) :
    order (fun q => ∑ k, f k * w k q) j = ∑ k, f k * order (w k) j := by
  unfold order
  split_ifs
  · rfl
  · rfl
  · rfl
  · simp only [mul_zero, Finset.sum_const_zero]

/-- A product of two rows both put in order is the product of the rows: the order is a permutation, and the padding adds
    zeros. -/
theorem order_mul_sum (f g : Fin 4160 → EReal) : ∑ j, order f j * order g j = ∑ n, f n * g n := by
  have e : ∀ j, order f j * order g j = order (fun n => f n * g n) j := fun j => by
    unfold order
    split_ifs
    · rfl
    · rfl
    · rfl
    · exact mul_zero 0
  rw [Finset.sum_congr rfl fun j _ => e j]
  generalize (fun n => f n * g n) = h
  obtain ⟨k, hk⟩ : ∃ k : ℕ → EReal, ∀ n : Fin 4160, h n = k n.val :=
    ⟨fun n => if hn : n < 4160 then h ⟨n, hn⟩ else 0, fun n => by
      dsimp only
      rw [dif_pos n.isLt]⟩
  obtain ⟨u, hu⟩ : ∃ u : ℕ → EReal, ∀ n, u n = if n < 1024 then k n else if n - 1024 < 3072 then k (1088 + (n - 1024))
      else if n - 1024 - 3072 < 64 then k (1024 + (n - 1024 - 3072)) else 0 := ⟨_, fun _ => rfl⟩
  have l : ∀ j : Fin 4224, order h j = u j.val := fun j => by
    rw [hu]
    unfold order
    split_ifs
    · exact hk _
    · exact hk _
    · exact hk _
    · rfl
  rw [Finset.sum_congr rfl fun j _ => l j, Finset.sum_congr rfl fun n _ => hk n, ← Finset.sum_range, ← Finset.sum_range,
    show 4224 = 1024 + 3072 + 64 + 64 from rfl, show 4160 = 1024 + 64 + 3072 from rfl, Finset.sum_range_add, Finset.sum_range_add,
    Finset.sum_range_add, Finset.sum_range_add _ (1024 + 64), Finset.sum_range_add _ 1024 64]
  have s1 : ∀ n ∈ Finset.range 1024, u n = k n := fun n hn => (hu n).trans (if_pos (Finset.mem_range.mp hn))
  have s2 : ∀ n ∈ Finset.range 3072, u (1024 + n) = k (1024 + 64 + n) := fun n hn => by
    have := Finset.mem_range.mp hn
    rw [hu, if_neg (by omega), if_pos (by omega)]
    exact congrArg k (by omega)
  have s3 : ∀ n ∈ Finset.range 64, u (1024 + 3072 + n) = k (1024 + n) := fun n hn => by
    have := Finset.mem_range.mp hn
    rw [hu, if_neg (by omega), if_neg (by omega), if_pos (by omega)]
    exact congrArg k (by omega)
  have s4 : ∀ n ∈ Finset.range 64, u (1024 + 3072 + 64 + n) = 0 := fun n hn => by
    rw [hu, if_neg (by omega), if_neg (by omega), if_neg (by omega)]
  rw [Finset.sum_congr rfl s1, Finset.sum_congr rfl s2, Finset.sum_congr rfl s3, Finset.sum_congr rfl s4, Finset.sum_const_zero, add_zero,
    add_assoc, add_assoc, add_comm (∑ n ∈ Finset.range 3072, _)]

/-- Column `j` of chunk `c`, as a hidden column. -/
def hid (c : Fin 8) (j : Fin 704) : Fin 5632 := ⟨c.val * 704 + j.val, by omega⟩

end Cert.Columns

end
-- ==== Proof.MmNnValue.lean ====
/-
  The plain product, rows against columns: every block of the result is a block of rows against a block of the weight's
  columns, which the host has put in the order the mixer works in, with zero columns at the end.
-/
module

public import proofs.«01_k».proof.Proof.Columns
public import proofs.«01_k».proof.Proof.Gen.MmNnIdeal.Value
public import proofs.«01_k».proof.Proof.Gen.MmNnRefIdeal.Run
public import proofs.«01_k».proof.Proof.Gen.MmNnRefIdeal.Read
public import Idealize.ShloMosaic.Lib.Pointwise

@[expose] public section

set_option maxRecDepth 16384

noncomputable section

namespace Cert.MmNnIdeal.Result

open Cert.MmNnIdeal Cert.MmNnIdeal.Gen Idealize.ShloMosaic Idealize.ShloMosaic.TcCoe Idealize.SL.Sem Cert.Reals Cert.Columns
open Idealize.ShloMosaic.Pipeline (Dat)

/-- A row against a column. -/
theorem pay_apply (A : S1024x2048.Idx → EReal) (B : S2048x1408.Idx → EReal) (r : Fin 1024) (j : Fin 1408) :
    k0_pay1 (F := Ideal) A B (ix2 r j) = ∑ k : Fin 2048, A (ix2 r k) * B (ix2 k j) := by
  unfold k0_pay1
  pointwise

/-- What the body writes. -/
theorem out_2 (A : Vec Ideal S1024x2048 .bf16) (B : Vec Ideal S2048x1408 .bf16) :
    out0_2 A B = fun i : S1024x1408.Idx => ∑ k : Fin 2048, A (ix2 (i 0) k) * B (ix2 k (i 1)) := by
  unfold out0_2
  rw [View.canon_unit_zero hz2]
  simp only [View.ld_unit_zero (S := S1024x2048) hz2, View.ld_unit_zero (S := S2048x1408) hz2]
  funext i
  idx_vars i
  exact pay_apply A B i0 i1

variable (m : (ℓ : Loc nD τ sig) → Buf (Elt Ideal) ℓ) (c : Dev nD)

/-- The arguments: the rows and the weight. -/
abbrev rows : S8192x2048.Idx → EReal := m ((c.tc : Thread nD τ).loc main_arg0)
abbrev wgt : S2048x4160.Idx → EReal := m ((c.tc : Thread nD τ).loc main_arg1)

/-- The weight in the mixer's order. -/
def ordered (W : S2048x4160.Idx → EReal) (i : S2048x4224.Idx) : EReal := order (fun n => W (ix2 (i 0) n)) (i 1)

/-- What the host code leaves in the second factor's array. -/
theorem host : V m c main_v4 = ordered (wgt m c) := by
  have e : V m c main_v4 = concatenate S2048x4224 1
      [⟨S2048x1024, extractStridedSlice S2048x1024 ![0, 0] (wgt m c) slices_S2048x4160_S2048x1024_0_0⟩,
       ⟨S2048x3072, extractStridedSlice S2048x3072 ![0, 1088] (wgt m c) slices_S2048x4160_S2048x3072_0_1088⟩,
       ⟨S2048x64, extractStridedSlice S2048x64 ![0, 1024] (wgt m c) slices_S2048x4160_S2048x64_0_1024⟩,
       ⟨S2048x64, broadcastInDim S2048x64 ![] bcast_S_S2048x64 (constant (F := Ideal) S_ .bf16 0x0000#16)⟩]
      concatenates_S2048x1024_S2048x3072_S2048x64_S2048x64_S2048x4224_d1 := by
    show StableHlo.after hostOps0 _ _ = _
    after_results_simp <;> rfl
  rw [e]
  funext i
  idx_vars i
  pointwise [ordered, order]

/-- Where each window is at point `t`. -/
theorem index_at : ∀ t : Fin cfg0.N, (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) := by decide +kernel

/-- Row `r` and column `j` of the blocks of point `t`. -/
def rowOf (t : Fin cfg0.N) (r : Fin 1024) : Fin 8192 := ⟨t.val % 8 * 1024 + r.val, by have := r.isLt; omega⟩
def colOf (t : Fin cfg0.N) (j : Fin 1408) : Fin 4224 :=
  ⟨t.val / 8 * 1408 + j.val, by have hN : cfg0.N = 24 := N_0; have := t.isLt; have := j.isLt; omega⟩

theorem at_r (t : Fin cfg0.N) (i : S8192x2048.Idx) (j : S1024x2048.Idx) (e0 : (i 0).val = t.val % 8 * 1024 + 1 * (j 0).val)
    (e1 : (i 1).val = 0 * 2048 + 1 * (j 1).val) : i = ix2 (rowOf t (j 0)) (j 1) :=
  funext fun a => Fin.ext (by
    match a with
    | ⟨0, _⟩ => show (i 0).val = t.val % 8 * 1024 + (j 0).val; omega
    | ⟨1, _⟩ => show (i 1).val = (j 1).val; omega)

theorem at_w (t : Fin cfg0.N) (i : S2048x4224.Idx) (j : S2048x1408.Idx) (e0 : (i 0).val = 0 * 2048 + 1 * (j 0).val)
    (e1 : (i 1).val = t.val / 8 * 1408 + 1 * (j 1).val) : i = ix2 (j 0) (colOf t (j 1)) :=
  funext fun a => Fin.ext (by
    match a with
    | ⟨0, _⟩ => show (i 0).val = (j 0).val; omega
    | ⟨1, _⟩ => show (i 1).val = t.val / 8 * 1408 + (j 1).val; omega)

theorem at_o (t : Fin cfg0.N) (i : S8192x4224.Idx) (j : S1024x1408.Idx) (e0 : (i 0).val = t.val % 8 * 1024 + 1 * (j 0).val)
    (e1 : (i 1).val = t.val / 8 * 1408 + 1 * (j 1).val) : i = ix2 (rowOf t (j 0)) (colOf t (j 1)) :=
  funext fun a => Fin.ext (by
    match a with
    | ⟨0, _⟩ => show (i 0).val = t.val % 8 * 1024 + (j 0).val; omega
    | ⟨1, _⟩ => show (i 1).val = t.val / 8 * 1408 + (j 1).val; omega)

/-- The blocks of a point. -/
theorem iblk0 (t : Fin cfg0.N) : iblk m c 0 t = fun j : S1024x2048.Idx => rows m c (ix2 (rowOf t (j 0)) (j 1)) := by
  obtain ⟨⟨e0, e1⟩, -⟩ := index_at t
  funext j
  unfold iblk
  rw [View.read_apply]
  show V m c main_arg0 _ = _
  rw [V_main_arg0]
  exact congrArg (rows m c) (at_r t _ j (congrArg (· * 1024 + 1 * (j 0).val) e0) (congrArg (· * 2048 + 1 * (j 1).val) e1))

@[inherit_doc iblk0]
theorem iblk1 (t : Fin cfg0.N) : iblk m c 1 t = fun j : S2048x1408.Idx => ordered (wgt m c) (ix2 (j 0) (colOf t (j 1))) := by
  obtain ⟨-, ⟨e0, e1⟩, -⟩ := index_at t
  funext j
  unfold iblk
  rw [View.read_apply]
  show V m c main_v4 _ = _
  rw [host]
  exact congrArg (ordered (wgt m c)) (at_w t _ j (congrArg (· * 2048 + 1 * (j 0).val) e0) (congrArg (· * 1408 + 1 * (j 1).val) e1))

/-- The result. -/
def out (H : S8192x2048.Idx → EReal) (W : S2048x4160.Idx → EReal) (i : S8192x4224.Idx) : EReal :=
  ∑ k : Fin 2048, H (ix2 (i 0) k) * ordered W (ix2 k (i 1))

/-- The result array. -/
theorem final_2 : (dats m 0 c).arrAt 2 cfg0.N = out (rows m c) (wgt m c) := by
  have hN : cfg0.N = 24 := N_0
  refine (dats m 0 c).arrAt_eq_of_cover 2 _ (fun t _ => ?_) fun i => ?_
  · obtain ⟨-, -, e0, e1⟩ := index_at t
    show (cfg0.win 2).cut (grid0.coords t) ((dats m 0 c).after 2 t) = _
    rw [after0_2, out_2, iblk0, iblk1]
    funext j
    rw [View.read_apply]
    exact congrArg (out (rows m c) (wgt m c)) (at_o t _ j (congrArg (· * 1024 + 1 * (j 0).val) e0) (congrArg (· * 1408 + 1 * (j 1).val) e1)).symm
  · have h0 : (i 0 : Nat) < 8192 := (i 0).isLt
    have h1 : (i 1 : Nat) < 4224 := (i 1).isLt
    obtain ⟨t, ht⟩ : ∃ t : Fin cfg0.N, t.val = (i 1 : Nat) / 1408 * 8 + (i 0 : Nat) / 1024 := ⟨⟨(i 1 : Nat) / 1408 * 8 + (i 0 : Nat) / 1024, by omega⟩, rfl⟩
    refine ⟨t, flush0_2 t, ?_⟩
    obtain ⟨-, -, e0, e1⟩ := index_at t
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 1408 ≤ (i 1 : Nat) ∧ (i 1 : Nat) < win0_2.index t 1 * 1408 + 1408; rw [e1]; omega

end Cert.MmNnIdeal.Result

namespace Cert.MmNnRefIdeal.Result

open Cert.MmNnRefIdeal Cert.MmNnRefIdeal.Gen Cert.MmNnRefIdeal.Read Idealize.ShloMosaic Idealize.ShloMosaic.TcCoe Cert.Reals Cert.Columns
open Cert.MmNnIdeal.Result (out ordered)

/-- The reference's result. -/
theorem res (H : S8192x2048.Idx → EReal) (W : S2048x4160.Idx → EReal) : val_main_v7 (F := Ideal) H W = out H W := by
  funext i
  idx_vars i
  refine Eq.trans ?_ (order_sum (fun k => H (ix2 i0 k)) (fun k n => W (ix2 k n)) i1)
  pointwise [val_main_v7, val_main_v6, val_main_v5, val_main_v4, val_main_v3, val_main_v2, val_main_v1, val_main_v0, val_main_call0_v0, val_main_c]
  exact order_pad (fun n => ∑ k, H (ix2 i0 k) * W (ix2 k n)) i1 _ Rope.pad_zero

end Cert.MmNnRefIdeal.Result

end
-- ==== Proof.MmNnClaim.lean ====
/-
  The plain product, rows against columns: its claims. The frames are the generated ones; the equation holds for
  every argument.
-/
module

public import proofs.«01_k».proof.Defs
public import proofs.«01_k».proof.Proof.MmNnValue
public import proofs.«01_k».proof.Proof.Gen.MmNn.Frame
public import Idealize.ShloMosaic.Lib.Quiescent

@[expose] public section

set_option maxRecDepth 16384

noncomputable section

namespace Cert.Proof.MmNn

open Idealize.ShloMosaic Idealize.ShloMosaic.TcCoe Idealize.SL.Sem

/-- The reference ends with its arguments unchanged and its counters at zero. -/
theorem frame_ref : Cert.quiescent_MmNnRefIdeal := fun m g _ =>
  (θ_run Cert.MmNnRefIdeal.defs _ _).mono
    (fun r h => ⟨fun c => (h c).2, Idealize.ShloMosaic.sem_eq_zero_of_no_sems (by decide) r.2⟩) (Cert.MmNnRefIdeal.Value.run (F := Ideal) m g)

/-- The kernel's array is the reference's result. -/
theorem algebraic : Cert.algebraic_MmNnIdeal_MmNnRefIdeal := by
  intro m g m' g' _ hagree
  refine ⟨_, Cert.MmNnIdeal.Value.run_blocks (F := Ideal) m g, ?_⟩
  refine (θ_run Cert.MmNnRefIdeal.defs _ _).mono (fun r h c => ⟨(h c).1.trans ?_, (h c).2⟩) (Cert.MmNnRefIdeal.Value.run (F := Ideal) m' g')
  obtain ⟨a0, a1⟩ := hagree c
  rw [Cert.MmNnIdeal.Result.final_2, Cert.MmNnRefIdeal.Read.val_main_v7_eq, a0, a1]
  exact Cert.MmNnRefIdeal.Result.res _ _

end Cert.Proof.MmNn

end
-- ==== Proof.Accum.lean ====
/-
  A sum carried along grid points. The points come in groups of `q`: the first point of a group stores its part, the later
  ones add theirs, and the last one gives the group's sum away.
-/
module

public import proofs.«01_k».proof.Proof.Reals

@[expose] public section

noncomputable section

namespace Cert.Accum

variable {ι : Type} {N B : ℕ} (q : ℕ) (S : (n : ℕ) → n < N → ι → EReal) (part : Fin B → ℕ → ι → EReal) (group : (n : ℕ) → n < N → Fin B)

/-- The next point of a group is one further in it. -/
theorem succ_mod (hq : 0 < q) (n : ℕ) (h0 : ¬(n + 1) % q = 0) : (n + 1) % q = n % q + 1 := by
  have h1 : (n + 1) % q = (n % q + 1) % q := by rw [Nat.mod_add_mod]
  have := Nat.mod_lt n hq
  by_cases e : n % q + 1 = q
  · rw [h1, e, Nat.mod_self] at h0; exact absurd rfl h0
  · rw [h1, Nat.mod_eq_of_lt (by omega)]

/-- What is carried after a point that isn't the last of its group: the sum of the group's parts so far. -/
theorem carried (hq : 0 < q) (same : ∀ n (hn : n + 1 < N), ¬(n + 1) % q = 0 → group (n + 1) hn = group n (by omega))
    (first : ∀ n (hn : n < N), n % q = 0 → S n hn = part (group n hn) 0)
    (next : ∀ n (hn : n + 1 < N), ¬(n + 1) % q = 0 → ¬(n + 1) % q = q - 1 →
      S (n + 1) hn = fun i => S n (by omega) i + part (group (n + 1) hn) ((n + 1) % q) i) :
    ∀ n (hn : n < N), ¬n % q = q - 1 → S n hn = fun i => ∑ p ∈ Finset.range (n % q + 1), part (group n hn) p i
  | n, hn, hl => by
    by_cases h0 : n % q = 0
    · rw [first n hn h0, h0]
      funext i
      exact (Finset.sum_range_one fun p => part (group n hn) p i).symm
    · obtain ⟨k, rfl⟩ : ∃ k, n = k + 1 := ⟨n - 1, by have : n ≠ 0 := fun e => h0 (by rw [e, Nat.zero_mod]); omega⟩
      have hk := succ_mod q hq k h0
      have := Nat.mod_lt (k + 1) hq
      have hkn : k < N := by omega
      rw [next k hn h0 hl, carried hq same first next k hkn (by omega)]
      funext i
      rw [Finset.sum_range_succ _ ((k + 1) % q), same k hn h0, hk]

/-- What the last point of a group gives away: the sum of all the group's parts. -/
theorem total (hq : 0 < q) (same : ∀ n (hn : n + 1 < N), ¬(n + 1) % q = 0 → group (n + 1) hn = group n (by omega))
    (first : ∀ n (hn : n < N), n % q = 0 → S n hn = part (group n hn) 0)
    (next : ∀ n (hn : n + 1 < N), ¬(n + 1) % q = 0 → ¬(n + 1) % q = q - 1 →
      S (n + 1) hn = fun i => S n (by omega) i + part (group (n + 1) hn) ((n + 1) % q) i)
    (n : ℕ) (hn : n + 1 < N) (h0 : ¬(n + 1) % q = 0) (hl : (n + 1) % q = q - 1) (i : ι) :
    S n (by omega) i + part (group (n + 1) hn) ((n + 1) % q) i = ∑ p ∈ Finset.range q, part (group (n + 1) hn) p i := by
  have hk := succ_mod q hq n h0
  rw [carried q S part group hq same first next n (by omega) (by omega), ← same n hn h0, hl]
  show ∑ p ∈ Finset.range (n % q + 1), part (group (n + 1) hn) p i + _ = _
  rw [← hk, hl, ← Finset.sum_range_succ, show q - 1 + 1 = q by omega]

end Cert.Accum

end
-- ==== Proof.MmNtValue.lean ====
/-
  The plain product, rows against rows, summed over three blocks of columns. Both factors are in the order the mixer works
  in, with zero columns at the end: the sum over the ordered columns is the sum over all columns. Point `t` works on the
  block of rows `t / 3` and on the block of columns `t % 3`.
-/
module

public import proofs.«01_k».proof.Proof.Columns
public import proofs.«01_k».proof.Proof.Accum
public import proofs.«01_k».proof.Proof.Gen.MmNtIdeal.Value
public import proofs.«01_k».proof.Proof.Gen.MmNtRefIdeal.Run
public import proofs.«01_k».proof.Proof.Gen.MmNtRefIdeal.Read
public import Idealize.ShloMosaic.Lib.Pointwise

@[expose] public section

set_option maxRecDepth 16384

noncomputable section

namespace Cert.MmNtIdeal.Result

open Cert.MmNtIdeal Cert.MmNtIdeal.Gen Idealize.ShloMosaic Idealize.ShloMosaic.TcCoe Idealize.SL.Sem Cert.Reals Cert.Columns
open Idealize.ShloMosaic.Pipeline (Dat)

/-- A row against a row. -/
theorem pay1_apply (A : S1024x1408.Idx → EReal) (B : S2048x1408.Idx → EReal) (r : Fin 1024) (j : Fin 2048) :
    k0_pay1 (F := Ideal) A B (ix2 r j) = ∑ k : Fin 1408, A (ix2 r k) * B (ix2 j k) := by
  unfold k0_pay1
  pointwise

section Block

variable (c : Dev nD) (i : grid0.Coords) (a2 : Memref sig .tc .vmem S1024x1408 .bf16) (h2 : a2.IsWhole)
  (a3 : Memref sig .tc .vmem S2048x1408 .bf16) (h3 : a3.IsWhole) (a4 : Memref sig .tc .vmem S1024x2048 .f32) (h4 : a4.IsWhole)
  (a5 : Memref sig .tc .vmem S1024x2048 .f32) (h5 : a5.IsWhole)
  (x0 : Vec Ideal S1024x1408 .bf16) (x1 : Vec Ideal S2048x1408 .bf16) (xs : Vec Ideal S1024x2048 .f32)

/-- The scratch after a block's first point: the point's product. -/
theorem sout_A (hc0 : cond0_0 i) (hc1 : ¬cond0_1 i) (hc2 : ¬cond0_2 i) :
    sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz2]
  unfold k0_pay2
  simp only [View.readAt_eq_ld, h2.read_unread, h3.read_unread, View.ld_unit_zero (S := S1024x1408) hz2, View.ld_unit_zero (S := S2048x1408) hz2, shapeCast_self]

/-- The scratch after a later point: the point's product added to it. -/
theorem sout_B (hc0 : ¬cond0_0 i) (hc1 : cond0_1 i) (hc2 : ¬cond0_2 i) :
    sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz2]
  unfold k0_pay3
  simp only [View.readAt_eq_ld, h2.read_unread, h3.read_unread, h5.read_unread, View.ld_unit_zero (S := S1024x1408) hz2, View.ld_unit_zero (S := S2048x1408) hz2, View.ld_unit_zero (S := S1024x2048) hz2, shapeCast_self]

/-- The output after a block's last point: the point's product added to the scratch. -/
theorem out_C (hc0 : ¬cond0_0 i) (hc1 : cond0_1 i) (hc2 : cond0_2 i) :
    out0_C_2 c i a2 h2 a3 h3 a4 h4 a5 h5 hc0 hc1 hc2 x0 x1 xs = addf xs (k0_pay1 x0 x1) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  unfold k0_pay3
  simp only [View.readAt_eq_ld, h2.read_unread, h3.read_unread, h5.read_unread, View.ld_unit_zero (S := S1024x1408) hz2, View.ld_unit_zero (S := S2048x1408) hz2, View.ld_unit_zero (S := S1024x2048) hz2, shapeCast_self, View.readCov_eq_canon']
  rw [View.canon_unit_zero hz2]
  exact funext fun j => congrArg (addf xs (k0_pay1 x0 x1)) (funext fun a => Fin.ext (by
    match a with
    | ⟨0, _⟩ => show 0 + 1 * (j 0).val = (j 0).val; omega
    | ⟨1, _⟩ => show 0 + 1 * (j 1).val = (j 1).val; omega))

end Block

/-- Rows in the mixer's order. -/
def orderD (D : S8192x4160.Idx → EReal) (i : S8192x4224.Idx) : EReal := order (fun n => D (ix2 (i 0) n)) (i 1)
def orderW (W : S2048x4160.Idx → EReal) (i : S2048x4224.Idx) : EReal := order (fun n => W (ix2 (i 0) n)) (i 1)

variable (D : S8192x4160.Idx → EReal) (W : S2048x4160.Idx → EReal)

/-- One ordered column's part of the product, and one block's. -/
def term (s : Fin 8192) (j : Fin 2048) (n : Fin 4224) : EReal := orderD D (ix2 s n) * orderW W (ix2 j n)

def chunk (s : Fin 8192) (j : Fin 2048) (p : ℕ) : EReal := ∑ k : Fin 1408, if h : p * 1408 + k.val < 4224 then term D W s j ⟨p * 1408 + k.val, h⟩ else 0

/-- Row `r` of block `b`, and a block's part of the product. -/
def rowOf (b : Fin 8) (r : Fin 1024) : Fin 8192 := ⟨b.val * 1024 + r.val, by omega⟩

def part (b : Fin 8) (p : ℕ) (i : S1024x2048.Idx) : EReal := chunk D W (rowOf b (i 0)) (i 1) p

/-- The result: the sum over the columns. -/
def out (i : S8192x2048.Idx) : EReal := ∑ n : Fin 4160, D (ix2 (i 0) n) * W (ix2 (i 1) n)

/-- The sum over the ordered columns. -/
theorem whole (s : Fin 8192) (j : Fin 2048) : ∑ n, term D W s j n = ∑ n : Fin 4160, D (ix2 s n) * W (ix2 j n) :=
  order_mul_sum (fun n => D (ix2 s n)) (fun n => W (ix2 j n))

/-- A block's three parts are the whole sum. -/
theorem parts (b : Fin 8) (i : S1024x2048.Idx) (y : S8192x2048.Idx) (e0 : (y 0).val = b.val * 1024 + 1 * (i 0).val) (e1 : (y 1).val = 0 * 2048 + 1 * (i 1).val) :
    ∑ p ∈ Finset.range 3, part D W b p i = out D W y := by
  have h0 : rowOf b (i 0) = y 0 := Fin.ext (by rw [e0]; show b.val * 1024 + (i 0).val = _; omega)
  have h1 : (i 1 : Fin 2048) = y 1 := Fin.ext (by rw [e1]; omega)
  exact (Cert.Reals.sum_blocks 3 1408 4224 rfl (term D W (rowOf b (i 0)) (i 1))).symm.trans
    ((whole D W _ _).trans (congrArg₂ (fun s j => ∑ n : Fin 4160, D (ix2 s n) * W (ix2 j n)) h0 h1))

variable (m : (ℓ : Loc nD τ sig) → Buf (Elt Ideal) ℓ) (c : Dev nD)

/-- The arguments: the rows and the weight. -/
abbrev rows : S8192x4160.Idx → EReal := m ((c.tc : Thread nD τ).loc main_arg0)
abbrev wgt : S2048x4160.Idx → EReal := m ((c.tc : Thread nD τ).loc main_arg1)

/-- What the host code leaves in the arrays the windows read. -/
theorem host_d : V m c main_v4 = orderD (rows m c) := by
  have e : V m c main_v4 = pad S8192x4224 ![0, 0] ![0, 64] ![0, 0] (concatenate S8192x4160 1
      [⟨S8192x1024, extractStridedSlice S8192x1024 ![0, 0] (rows m c) slices_S8192x4160_S8192x1024_0_0⟩,
       ⟨S8192x3072, extractStridedSlice S8192x3072 ![0, 1088] (rows m c) slices_S8192x4160_S8192x3072_0_1088⟩,
       ⟨S8192x64, extractStridedSlice S8192x64 ![0, 1024] (rows m c) slices_S8192x4160_S8192x64_0_1024⟩]
      concatenates_S8192x1024_S8192x3072_S8192x64_S8192x4160_d1) (sitofp (F := Ideal) .bf16 (constantI S_ 32 0#32)) pads_S8192x4160_S8192x4224_000_0640 h_S_ := by
    simp only [Gen.V, hostOps0, hostOps0_1, hostOps0_2, hostOps0_3, List.flatten_cons, List.flatten_nil, List.append_nil, List.cons_append, List.nil_append]
    after_results_simp <;> rfl
  rw [e]
  funext i
  idx_vars i
  pointwise
  exact order_pad (fun n => rows m c (ix2 i0 n)) i1 _ Rope.pad_zero

@[inherit_doc host_d]
theorem host_w : V m c main_v9 = orderW (wgt m c) := by
  have e : V m c main_v9 = pad S2048x4224 ![0, 0] ![0, 64] ![0, 0] (concatenate S2048x4160 1
      [⟨S2048x1024, extractStridedSlice S2048x1024 ![0, 0] (wgt m c) slices_S2048x4160_S2048x1024_0_0⟩,
       ⟨S2048x3072, extractStridedSlice S2048x3072 ![0, 1088] (wgt m c) slices_S2048x4160_S2048x3072_0_1088⟩,
       ⟨S2048x64, extractStridedSlice S2048x64 ![0, 1024] (wgt m c) slices_S2048x4160_S2048x64_0_1024⟩]
      concatenates_S2048x1024_S2048x3072_S2048x64_S2048x4160_d1) (sitofp (F := Ideal) .bf16 (constantI S_ 32 0#32)) pads_S2048x4160_S2048x4224_000_0640 h_S_ := by
    simp only [Gen.V, hostOps0, hostOps0_1, hostOps0_2, hostOps0_3, List.flatten_cons, List.flatten_nil, List.append_nil, List.cons_append, List.nil_append]
    after_results_simp <;> rfl
  rw [e]
  funext i
  idx_vars i
  pointwise
  exact order_pad (fun n => wgt m c (ix2 i0 n)) i1 _ Rope.pad_zero

/-- Where each window is at point `t`. -/
theorem index_at : ∀ t : Fin cfg0.N, (win0_0.index t 0 = t.val / 3 ∧ win0_0.index t 1 = t.val % 3) ∧ (win0_1.index t 0 = 0 ∧ win0_1.index t 1 = t.val % 3)
    ∧ (win0_2.index t 0 = t.val / 3 ∧ win0_2.index t 1 = 0) := by decide +kernel

/-- The block of rows of point `n`. -/
def group (n : ℕ) (hn : n < cfg0.N) : Fin 8 := ⟨n / 3, by have hN : cfg0.N = 24 := N_0; omega⟩

/-- The blocks of a point, at an index. -/
theorem iblk0 (t : Fin cfg0.N) (j : S1024x1408.Idx) (s : Fin 8192) (n : Fin 4224) (es : s.val = t.val / 3 * 1024 + (j 0).val)
    (en : n.val = t.val % 3 * 1408 + (j 1).val) : iblk m c 0 t j = orderD (rows m c) (ix2 s n) := by
  obtain ⟨⟨e0, e1⟩, -⟩ := index_at t
  unfold iblk
  rw [View.read_apply]
  show V m c main_v4 _ = _
  rw [host_d]
  refine congrArg (orderD (rows m c)) (funext fun a => Fin.ext ?_)
  match a with
  | ⟨0, _⟩ => show win0_0.index t 0 * 1024 + 1 * (j 0).val = s.val; rw [e0, es]; omega
  | ⟨1, _⟩ => show win0_0.index t 1 * 1408 + 1 * (j 1).val = n.val; rw [e1, en]; omega

@[inherit_doc iblk0]
theorem iblk1 (t : Fin cfg0.N) (j : S2048x1408.Idx) (n : Fin 4224) (en : n.val = t.val % 3 * 1408 + (j 1).val) :
    iblk m c 1 t j = orderW (wgt m c) (ix2 (j 0) n) := by
  obtain ⟨-, ⟨e0, e1⟩, -⟩ := index_at t
  unfold iblk
  rw [View.read_apply]
  show V m c main_v9 _ = _
  rw [host_w]
  refine congrArg (orderW (wgt m c)) (funext fun a => Fin.ext ?_)
  match a with
  | ⟨0, _⟩ => show win0_1.index t 0 * 2048 + 1 * (j 0).val = (j 0).val; rw [e0]; omega
  | ⟨1, _⟩ => show win0_1.index t 1 * 1408 + 1 * (j 1).val = n.val; rw [e1, en]; omega

/-- The product of a point. -/
theorem prod (t : Fin cfg0.N) (i : S1024x2048.Idx) :
    k0_pay1 (F := Ideal) (iblk m c 0 t) (iblk m c 1 t) i = part (rows m c) (wgt m c) (group t.val t.isLt) (t.val % 3) i := by
  unfold part chunk
  refine (congrArg _ (eq_ix2 i)).trans ((pay1_apply _ _ (i 0) (i 1)).trans (Finset.sum_congr rfl fun k _ => ?_))
  have h : t.val % 3 * 1408 + k.val < 4224 := by have := k.isLt; omega
  rw [dif_pos h, iblk0 m c t (ix2 (i 0) k) (rowOf (group t.val t.isLt) (i 0)) ⟨_, h⟩ rfl rfl, iblk1 m c t (ix2 (i 1) k) ⟨_, h⟩ rfl]
  rfl

/-- What a block's last point writes. -/
theorem last (n : ℕ) (hn : n < cfg0.N) (hl : n % 3 = 2) (i : S1024x2048.Idx) :
    (outsAt0 m c n hn).1 i = ∑ p ∈ Finset.range 3, part (rows m c) (wgt m c) (group n hn) p i := by
  obtain ⟨k, rfl⟩ : ∃ k, n = k + 1 := ⟨n - 1, by omega⟩
  rw [show outsAt0 m c (k + 1) hn = _ from outsAt0_C m c ⟨k + 1, hn⟩ (by dsimp only; omega) (by dsimp only; omega) hl]
  dsimp only
  rw [out_C]
  refine (congrArg ((outsAt0 m c k (by omega)).2 i + ·) (prod m c ⟨k + 1, hn⟩ i)).trans ?_
  refine Cert.Accum.total 3 (fun n hn => (outsAt0 m c n hn).2) (part (rows m c) (wgt m c)) group (by omega)
    (fun n hn h0 => Fin.ext (by show (n + 1) / 3 = n / 3; omega)) (fun n hn h0 => ?_) (fun n hn h0 h2 => ?_) k hn (by omega) hl i
  · rw [show outsAt0 m c n hn = _ from outsAt0_A m c ⟨n, hn⟩ h0 (by dsimp only; omega) (by dsimp only; omega)]
    dsimp only
    rw [sout_A]
    exact funext fun i => (prod m c ⟨n, hn⟩ i).trans (by rw [h0])
  · rw [show outsAt0 m c (n + 1) hn = _ from outsAt0_B m c ⟨n + 1, hn⟩ h0 (by dsimp only; omega) (by dsimp only; omega)]
    dsimp only
    rw [sout_B]
    exact funext fun i => congrArg ((outsAt0 m c n (by omega)).2 i + ·) (prod m c ⟨n + 1, hn⟩ i)

/-- The result array. -/
theorem final_2 : (dats m 0 c).arrAt 2 cfg0.N = out (rows m c) (wgt m c) := by
  refine (dats m 0 c).arrAt_eq_of_cover 2 _ (fun t hf => ?_) fun i => (Value.covered_iff2 i).2 ⟨Nat.zero_le _, (i 0).isLt, Nat.zero_le _, (i 1).isLt⟩
  obtain ⟨-, -, e0, e1⟩ := index_at t
  rw [Value.flushed2]
  funext j
  rw [View.read_apply]
  exact (last m c t.val t.isLt ((flush0_2 t).mp hf) j).trans
    (parts _ _ _ j _ (congrArg (· * 1024 + 1 * (j 0).val) e0) (congrArg (· * 2048 + 1 * (j 1).val) e1))

end Cert.MmNtIdeal.Result

namespace Cert.MmNtRefIdeal.Result

open Cert.MmNtRefIdeal Cert.MmNtRefIdeal.Gen Cert.MmNtRefIdeal.Read Idealize.ShloMosaic Idealize.ShloMosaic.TcCoe Cert.Reals
open Cert.MmNtIdeal.Result (out)

/-- The reference's result. -/
theorem res (D : S8192x4160.Idx → EReal) (W : S2048x4160.Idx → EReal) : val_main_v4 (F := Ideal) D W = out D W := by
  funext i
  idx_vars i
  pointwise [val_main_v4, val_main_v3, val_main_v1]
  rfl

end Cert.MmNtRefIdeal.Result

end
-- ==== Proof.MmNtClaim.lean ====
/-
  The plain product, rows against rows: its claims. The frames are the generated ones; the equation holds for
  every argument.
-/
module

public import proofs.«01_k».proof.Defs
public import proofs.«01_k».proof.Proof.MmNtValue
public import proofs.«01_k».proof.Proof.Gen.MmNt.Frame
public import Idealize.ShloMosaic.Lib.Quiescent

@[expose] public section

set_option maxRecDepth 16384

noncomputable section

namespace Cert.Proof.MmNt

open Idealize.ShloMosaic Idealize.ShloMosaic.TcCoe Idealize.SL.Sem

/-- The reference ends with its arguments unchanged and its counters at zero. -/
theorem frame_ref : Cert.quiescent_MmNtRefIdeal := fun m g _ =>
  (θ_run Cert.MmNtRefIdeal.defs _ _).mono
    (fun r h => ⟨fun c => (h c).2, Idealize.ShloMosaic.sem_eq_zero_of_no_sems (by decide) r.2⟩) (Cert.MmNtRefIdeal.Value.run (F := Ideal) m g)

/-- The kernel's array is the reference's result. -/
theorem algebraic : Cert.algebraic_MmNtIdeal_MmNtRefIdeal := by
  intro m g m' g' _ hagree
  refine ⟨_, Cert.MmNtIdeal.Value.run_blocks (F := Ideal) m g, ?_⟩
  refine (θ_run Cert.MmNtRefIdeal.defs _ _).mono (fun r h c => ⟨(h c).1.trans ?_, (h c).2⟩) (Cert.MmNtRefIdeal.Value.run (F := Ideal) m' g')
  obtain ⟨a0, a1⟩ := hagree c
  rw [Cert.MmNtIdeal.Result.final_2, Cert.MmNtRefIdeal.Read.val_main_v4_eq, a0, a1]
  exact Cert.MmNtRefIdeal.Result.res _ _

end Cert.Proof.MmNt

end
-- ==== Proof.MmTnValue.lean ====
/-
  The plain product, columns against columns, summed over eight blocks of rows. The second factor is in the order the mixer
  works in, with zero columns at the end. Point `t` works on the block of columns `t / 8` and on the block of rows `t % 8`.
-/
module

public import proofs.«01_k».proof.Proof.Columns
public import proofs.«01_k».proof.Proof.Accum
public import proofs.«01_k».proof.Proof.Gen.MmTnIdeal.Value
public import proofs.«01_k».proof.Proof.Gen.MmTnRefIdeal.Run
public import proofs.«01_k».proof.Proof.Gen.MmTnRefIdeal.Read
public import Idealize.ShloMosaic.Lib.Pointwise

@[expose] public section

set_option maxRecDepth 16384

noncomputable section

namespace Cert.MmTnIdeal.Result

open Cert.MmTnIdeal Cert.MmTnIdeal.Gen Idealize.ShloMosaic Idealize.ShloMosaic.TcCoe Idealize.SL.Sem Cert.Reals Cert.Columns
open Idealize.ShloMosaic.Pipeline (Dat)

/-- A column against a column. -/
theorem pay1_apply (A : S1024x2048.Idx → EReal) (B : S1024x1408.Idx → EReal) (r : Fin 2048) (j : Fin 1408) :
    k0_pay1 (F := Ideal) A B (ix2 r j) = ∑ k : Fin 1024, A (ix2 k r) * B (ix2 k j) := by
  unfold k0_pay1
  pointwise

/-- Rounding, over the reals, changes nothing. -/
theorem pay4_eq (T : S2048x1408.Idx → EReal) : k0_pay4 (F := Ideal) T = T := by
  unfold k0_pay4
  funext i
  idx_vars i
  pointwise

section Block

variable (c : Dev nD) (i : grid0.Coords) (a2 : Memref sig .tc .vmem S1024x2048 .bf16) (h2 : a2.IsWhole)
  (a3 : Memref sig .tc .vmem S1024x1408 .bf16) (h3 : a3.IsWhole) (a4 : Memref sig .tc .vmem S2048x1408 .bf16) (h4 : a4.IsWhole)
  (a5 : Memref sig .tc .vmem S2048x1408 .f32) (h5 : a5.IsWhole)
  (x0 : Vec Ideal S1024x2048 .bf16) (x1 : Vec Ideal S1024x1408 .bf16) (xs : Vec Ideal S2048x1408 .f32)

/-- The scratch after a block's first point: the point's product. -/
theorem sout_A (hc0 : cond0_0 i) (hc1 : ¬cond0_1 i) (hc2 : ¬cond0_2 i) :
    sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz2]
  unfold k0_pay2
  simp only [View.readAt_eq_ld, h2.read_unread, h3.read_unread, View.ld_unit_zero (S := S1024x2048) hz2, View.ld_unit_zero (S := S1024x1408) hz2, shapeCast_self]

/-- The scratch after a later point: the point's product added to it. -/
theorem sout_B (hc0 : ¬cond0_0 i) (hc1 : cond0_1 i) (hc2 : ¬cond0_2 i) :
    sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz2]
  unfold k0_pay3
  simp only [View.readAt_eq_ld, h2.read_unread, h3.read_unread, h5.read_unread, View.ld_unit_zero (S := S1024x2048) hz2, View.ld_unit_zero (S := S1024x1408) hz2, View.ld_unit_zero (S := S2048x1408) hz2, shapeCast_self]

/-- The output after a block's last point: the point's product added to the scratch. -/
theorem out_C (hc0 : ¬cond0_0 i) (hc1 : cond0_1 i) (hc2 : cond0_2 i) :
    out0_C_2 c i a2 h2 a3 h3 a4 h4 a5 h5 hc0 hc1 hc2 x0 x1 xs = addf (F := Ideal) (φ := .f32) xs (k0_pay1 x0 x1) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  unfold k0_pay3
  simp only [View.readAt_eq_ld, h2.read_unread, h3.read_unread, h5.read_unread, View.ld_unit_zero (S := S1024x2048) hz2, View.ld_unit_zero (S := S1024x1408) hz2, View.ld_unit_zero (S := S2048x1408) hz2, shapeCast_self, View.readCov_eq_canon']
  rw [View.canon_unit_zero hz2, pay4_eq]
  exact funext fun j => congrArg (addf xs (k0_pay1 x0 x1)) (funext fun a => Fin.ext (by
    match a with
    | ⟨0, _⟩ => show 0 + 1 * (j 0).val = (j 0).val; omega
    | ⟨1, _⟩ => show 0 + 1 * (j 1).val = (j 1).val; omega))

end Block

/-- Rows in the mixer's order. -/
def orderD (D : S8192x4160.Idx → EReal) (i : S8192x4224.Idx) : EReal := order (fun n => D (ix2 (i 0) n)) (i 1)

variable (H : S8192x2048.Idx → EReal) (D : S8192x4160.Idx → EReal)

/-- One row's part of the product, and one block's. -/
def term (a : Fin 2048) (n : Fin 4224) (s : Fin 8192) : EReal := H (ix2 s a) * orderD D (ix2 s n)

def chunk (a : Fin 2048) (n : Fin 4224) (p : ℕ) : EReal := ∑ k : Fin 1024, if h : p * 1024 + k.val < 8192 then term H D a n ⟨p * 1024 + k.val, h⟩ else 0

/-- Column `j` of block `b`, and a block's part of the product. -/
def colOf (b : Fin 3) (j : Fin 1408) : Fin 4224 := ⟨b.val * 1408 + j.val, by omega⟩

def part (b : Fin 3) (p : ℕ) (i : S2048x1408.Idx) : EReal := chunk H D (i 0) (colOf b (i 1)) p

/-- The result: the sum over the rows. -/
def out (i : S2048x4224.Idx) : EReal := ∑ s : Fin 8192, H (ix2 s (i 0)) * orderD D (ix2 s (i 1))

/-- A block's eight parts are the whole sum. -/
theorem parts (b : Fin 3) (i : S2048x1408.Idx) (y : S2048x4224.Idx) (e0 : (y 0).val = 0 * 2048 + 1 * (i 0).val) (e1 : (y 1).val = b.val * 1408 + 1 * (i 1).val) :
    ∑ p ∈ Finset.range 8, part H D b p i = out H D y := by
  have h0 : (i 0 : Fin 2048) = y 0 := Fin.ext (by rw [e0]; omega)
  have h1 : colOf b (i 1) = y 1 := Fin.ext (by rw [e1]; show b.val * 1408 + (i 1).val = _; omega)
  exact (Cert.Reals.sum_blocks 8 1024 8192 rfl (term H D (i 0) (colOf b (i 1)))).symm.trans
    (congrArg₂ (fun a n => ∑ s : Fin 8192, H (ix2 s a) * orderD D (ix2 s n)) h0 h1)

variable (m : (ℓ : Loc nD τ sig) → Buf (Elt Ideal) ℓ) (c : Dev nD)

/-- The arguments: the rows of both factors. -/
abbrev left : S8192x2048.Idx → EReal := m ((c.tc : Thread nD τ).loc main_arg0)
abbrev rows : S8192x4160.Idx → EReal := m ((c.tc : Thread nD τ).loc main_arg1)

/-- What the host code leaves in the second factor's array. -/
theorem host_d : V m c main_v4 = orderD (rows m c) := by
  have e : V m c main_v4 = pad S8192x4224 ![0, 0] ![0, 64] ![0, 0] (concatenate S8192x4160 1
      [⟨S8192x1024, extractStridedSlice S8192x1024 ![0, 0] (rows m c) slices_S8192x4160_S8192x1024_0_0⟩,
       ⟨S8192x3072, extractStridedSlice S8192x3072 ![0, 1088] (rows m c) slices_S8192x4160_S8192x3072_0_1088⟩,
       ⟨S8192x64, extractStridedSlice S8192x64 ![0, 1024] (rows m c) slices_S8192x4160_S8192x64_0_1024⟩]
      concatenates_S8192x1024_S8192x3072_S8192x64_S8192x4160_d1) (sitofp (F := Ideal) .bf16 (constantI S_ 32 0#32)) pads_S8192x4160_S8192x4224_000_0640 h_S_ := by
    simp only [Gen.V, hostOps0, hostOps0_1, List.flatten_cons, List.flatten_nil, List.append_nil, List.cons_append, List.nil_append]
    after_results_simp <;> rfl
  rw [e]
  funext i
  idx_vars i
  pointwise
  exact order_pad (fun n => rows m c (ix2 i0 n)) i1 _ Rope.pad_zero

/-- Where each window is at point `t`. -/
theorem index_at : ∀ t : Fin cfg0.N, (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by decide +kernel

/-- The block of columns of point `n`. -/
def group (n : ℕ) (hn : n < cfg0.N) : Fin 3 := ⟨n / 8, by have hN : cfg0.N = 24 := N_0; omega⟩

/-- The blocks of a point, at an index. -/
theorem iblk0 (t : Fin cfg0.N) (j : S1024x2048.Idx) (s : Fin 8192) (es : s.val = t.val % 8 * 1024 + (j 0).val) :
    iblk m c 0 t j = left m c (ix2 s (j 1)) := by
  obtain ⟨⟨e0, e1⟩, -⟩ := index_at t
  unfold iblk
  rw [View.read_apply]
  show V m c main_arg0 _ = _
  rw [V_main_arg0]
  refine congrArg (left m c) (funext fun a => Fin.ext ?_)
  match a with
  | ⟨0, _⟩ => show win0_0.index t 0 * 1024 + 1 * (j 0).val = s.val; rw [e0, es]; omega
  | ⟨1, _⟩ => show win0_0.index t 1 * 2048 + 1 * (j 1).val = (j 1).val; rw [e1]; omega

@[inherit_doc iblk0]
theorem iblk1 (t : Fin cfg0.N) (j : S1024x1408.Idx) (s : Fin 8192) (n : Fin 4224) (es : s.val = t.val % 8 * 1024 + (j 0).val)
    (en : n.val = t.val / 8 * 1408 + (j 1).val) : iblk m c 1 t j = orderD (rows m c) (ix2 s n) := by
  obtain ⟨-, ⟨e0, e1⟩, -⟩ := index_at t
  unfold iblk
  rw [View.read_apply]
  show V m c main_v4 _ = _
  rw [host_d]
  refine congrArg (orderD (rows m c)) (funext fun a => Fin.ext ?_)
  match a with
  | ⟨0, _⟩ => show win0_1.index t 0 * 1024 + 1 * (j 0).val = s.val; rw [e0, es]; omega
  | ⟨1, _⟩ => show win0_1.index t 1 * 1408 + 1 * (j 1).val = n.val; rw [e1, en]; omega

/-- The product of a point. -/
theorem prod (t : Fin cfg0.N) (i : S2048x1408.Idx) :
    k0_pay1 (F := Ideal) (iblk m c 0 t) (iblk m c 1 t) i = part (left m c) (rows m c) (group t.val t.isLt) (t.val % 8) i := by
  unfold part chunk
  refine (congrArg _ (eq_ix2 i)).trans ((pay1_apply _ _ (i 0) (i 1)).trans (Finset.sum_congr rfl fun k _ => ?_))
  have h : t.val % 8 * 1024 + k.val < 8192 := by have := k.isLt; omega
  rw [dif_pos h, iblk0 m c t (ix2 k (i 0)) ⟨_, h⟩ rfl, iblk1 m c t (ix2 k (i 1)) ⟨_, h⟩ (colOf (group t.val t.isLt) (i 1)) rfl rfl]
  rfl

/-- What a block's last point writes. -/
theorem last (n : ℕ) (hn : n < cfg0.N) (hl : n % 8 = 7) (i : S2048x1408.Idx) :
    (outsAt0 m c n hn).1 i = ∑ p ∈ Finset.range 8, part (left m c) (rows m c) (group n hn) p i := by
  obtain ⟨k, rfl⟩ : ∃ k, n = k + 1 := ⟨n - 1, by omega⟩
  rw [show outsAt0 m c (k + 1) hn = _ from outsAt0_C m c ⟨k + 1, hn⟩ (by dsimp only; omega) (by dsimp only; omega) hl]
  dsimp only
  rw [out_C]
  refine (congrArg ((outsAt0 m c k (by omega)).2 i + ·) (prod m c ⟨k + 1, hn⟩ i)).trans ?_
  refine Cert.Accum.total 8 (fun n hn => (outsAt0 m c n hn).2) (part (left m c) (rows m c)) group (by omega)
    (fun n hn h0 => Fin.ext (by show (n + 1) / 8 = n / 8; omega)) (fun n hn h0 => ?_) (fun n hn h0 h2 => ?_) k hn (by omega) hl i
  · rw [show outsAt0 m c n hn = _ from outsAt0_A m c ⟨n, hn⟩ h0 (by dsimp only; omega) (by dsimp only; omega)]
    dsimp only
    rw [sout_A]
    exact funext fun i => (prod m c ⟨n, hn⟩ i).trans (by rw [h0])
  · rw [show outsAt0 m c (n + 1) hn = _ from outsAt0_B m c ⟨n + 1, hn⟩ h0 (by dsimp only; omega) (by dsimp only; omega)]
    dsimp only
    rw [sout_B]
    exact funext fun i => congrArg ((outsAt0 m c n (by omega)).2 i + ·) (prod m c ⟨n + 1, hn⟩ i)

/-- The result array. -/
theorem final_2 : (dats m 0 c).arrAt 2 cfg0.N = out (left m c) (rows m c) := by
  refine (dats m 0 c).arrAt_eq_of_cover 2 _ (fun t hf => ?_) fun i => (Value.covered_iff2 i).2 ⟨Nat.zero_le _, (i 0).isLt, Nat.zero_le _, (i 1).isLt⟩
  obtain ⟨-, -, e0, e1⟩ := index_at t
  rw [Value.flushed2]
  funext j
  rw [View.read_apply]
  exact (last m c t.val t.isLt ((flush0_2 t).mp hf) j).trans
    (parts _ _ _ j _ (congrArg (· * 2048 + 1 * (j 0).val) e0) (congrArg (· * 1408 + 1 * (j 1).val) e1))

end Cert.MmTnIdeal.Result

namespace Cert.MmTnRefIdeal.Result

open Cert.MmTnRefIdeal Cert.MmTnRefIdeal.Gen Cert.MmTnRefIdeal.Read Idealize.ShloMosaic Idealize.ShloMosaic.TcCoe Cert.Reals Cert.Columns
open Cert.MmTnIdeal.Result (out)

/-- The reference's result. -/
theorem res (H : S8192x2048.Idx → EReal) (D : S8192x4160.Idx → EReal) : val_main_v11 (F := Ideal) H D = out H D := by
  funext i
  idx_vars i
  refine Eq.trans ?_ (order_sum (fun s => H (ix2 s i0)) (fun s n => D (ix2 s n)) i1)
  pointwise [val_main_v11, val_main_v10, val_main_v9, val_main_v8, val_main_v7, val_main_v6, val_main_v5, val_main_v4, val_main_v3, val_main_v0, val_main_call0_v0, val_main_c]
  simp only [mul_comm (D _)]
  exact order_pad (fun n => ∑ s, H (ix2 s i0) * D (ix2 s n)) i1 _ Rope.pad_zero

end Cert.MmTnRefIdeal.Result

end
-- ==== Proof.MmTnClaim.lean ====
/-
  The plain product, columns against columns: its claims. The frames are the generated ones; the equation holds for
  every argument.
-/
module

public import proofs.«01_k».proof.Defs
public import proofs.«01_k».proof.Proof.MmTnValue
public import proofs.«01_k».proof.Proof.Gen.MmTn.Frame
public import Idealize.ShloMosaic.Lib.Quiescent

@[expose] public section

set_option maxRecDepth 16384

noncomputable section

namespace Cert.Proof.MmTn

open Idealize.ShloMosaic Idealize.ShloMosaic.TcCoe Idealize.SL.Sem

/-- The reference ends with its arguments unchanged and its counters at zero. -/
theorem frame_ref : Cert.quiescent_MmTnRefIdeal := fun m g _ =>
  (θ_run Cert.MmTnRefIdeal.defs _ _).mono
    (fun r h => ⟨fun c => (h c).2, Idealize.ShloMosaic.sem_eq_zero_of_no_sems (by decide) r.2⟩) (Cert.MmTnRefIdeal.Value.run (F := Ideal) m g)

/-- The kernel's array is the reference's result. -/
theorem algebraic : Cert.algebraic_MmTnIdeal_MmTnRefIdeal := by
  intro m g m' g' _ hagree
  refine ⟨_, Cert.MmTnIdeal.Value.run_blocks (F := Ideal) m g, ?_⟩
  refine (θ_run Cert.MmTnRefIdeal.defs _ _).mono (fun r h c => ⟨(h c).1.trans ?_, (h c).2⟩) (Cert.MmTnRefIdeal.Value.run (F := Ideal) m' g')
  obtain ⟨a0, a1⟩ := hagree c
  rw [Cert.MmTnIdeal.Result.final_2, Cert.MmTnRefIdeal.Read.val_main_v11_eq, a0, a1]
  exact Cert.MmTnRefIdeal.Result.res _ _

end Cert.Proof.MmTn

end
-- ==== Proof.MmTnAValue.lean ====
/-
  The plain product, columns against columns, where the first factor's columns come in eight chunks. Point `t` works on the
  chunk `t / 4` and on the block of rows `t % 4`; the four blocks' products add up in a scratch array.
-/
module

public import proofs.«01_k».proof.Proof.Columns
public import proofs.«01_k».proof.Proof.Accum
public import proofs.«01_k».proof.Proof.Gen.MmTnAIdeal.Value
public import proofs.«01_k».proof.Proof.Gen.MmTnARefIdeal.Run
public import proofs.«01_k».proof.Proof.Gen.MmTnARefIdeal.Read
public import Idealize.ShloMosaic.Lib.Pointwise

@[expose] public section

set_option maxRecDepth 16384

noncomputable section

namespace Cert.MmTnAIdeal.Result

open Cert.MmTnAIdeal Cert.MmTnAIdeal.Gen Idealize.ShloMosaic Idealize.ShloMosaic.TcCoe Idealize.SL.Sem Cert.Reals Cert.Columns
open Idealize.ShloMosaic.Pipeline (Dat)

/-- A column against a column. -/
theorem pay1_apply (A : S1x2048x704.Idx → EReal) (B : S2048x2048.Idx → EReal) (r : Fin 704) (j : Fin 2048) :
    k0_pay1 (F := Ideal) A B (ix2 r j) = ∑ k : Fin 2048, A (ix3 0 k r) * B (ix2 k j) := by
  unfold k0_pay1
  pointwise

/-- Rounding, over the reals, changes nothing. -/
theorem pay4_apply (T : S704x2048.Idx → EReal) (r : Fin 704) (j : Fin 2048) : k0_pay4 (F := Ideal) T (ix3 0 r j) = T (ix2 r j) := by
  unfold k0_pay4
  pointwise

theorem hz3 : (![0, 0, 0] : Fin 3 → Nat) = fun _ => 0 := funext fun a => by fin_cases a <;> rfl

section Block

variable (c : Dev nD) (i : grid0.Coords) (a2 : Memref sig .tc .vmem S1x2048x704 .bf16) (h2 : a2.IsWhole)
  (a3 : Memref sig .tc .vmem S2048x2048 .bf16) (h3 : a3.IsWhole) (a4 : Memref sig .tc .vmem S1x704x2048 .bf16) (h4 : a4.IsWhole)
  (a5 : Memref sig .tc .vmem S704x2048 .f32) (h5 : a5.IsWhole)
  (x0 : Vec Ideal S1x2048x704 .bf16) (x1 : Vec Ideal S2048x2048 .bf16) (xs : Vec Ideal S704x2048 .f32)

/-- The scratch after a block's first point: the point's product. -/
theorem sout_A (hc0 : cond0_0 i) (hc1 : ¬cond0_1 i) (hc2 : ¬cond0_2 i) :
    sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz2]
  unfold k0_pay2
  simp only [View.readAt_eq_ld, h2.read_unread, h3.read_unread, View.ld_unit_zero (S := S1x2048x704) hz3, View.ld_unit_zero (S := S2048x2048) hz2, shapeCast_self]

/-- The scratch after a later point: the point's product added to it. -/
theorem sout_B (hc0 : ¬cond0_0 i) (hc1 : cond0_1 i) (hc2 : ¬cond0_2 i) :
    sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz2]
  unfold k0_pay3
  simp only [View.readAt_eq_ld, h2.read_unread, h3.read_unread, h5.read_unread, View.ld_unit_zero (S := S1x2048x704) hz3, View.ld_unit_zero (S := S2048x2048) hz2, View.ld_unit_zero (S := S704x2048) hz2, shapeCast_self]

/-- The output after a block's last point: the point's product added to the scratch. -/
theorem out_C (hc0 : ¬cond0_0 i) (hc1 : cond0_1 i) (hc2 : cond0_2 i) :
    out0_C_2 c i a2 h2 a3 h3 a4 h4 a5 h5 hc0 hc1 hc2 x0 x1 xs = k0_pay4 (addf xs (k0_pay1 x0 x1)) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz3]
  unfold k0_pay3
  simp only [View.readAt_eq_ld, h2.read_unread, h3.read_unread, h5.read_unread, View.ld_unit_zero (S := S1x2048x704) hz3, View.ld_unit_zero (S := S2048x2048) hz2, View.ld_unit_zero (S := S704x2048) hz2, shapeCast_self, View.readCov_eq_canon']
  rw [View.canon_unit_zero hz2]
  exact congrArg (k0_pay4 (F := Ideal)) (funext fun j => congrArg (addf xs (k0_pay1 x0 x1)) (funext fun a => Fin.ext (by
    match a with
    | ⟨0, _⟩ => show 0 + 1 * (j 0).val = (j 0).val; omega
    | ⟨1, _⟩ => show 0 + 1 * (j 1).val = (j 1).val; omega)))

end Block

variable (A : S8192x5632.Idx → EReal) (Y : S8192x2048.Idx → EReal)

/-- Rows in chunks of columns. -/
def chunks (i : S8x8192x704.Idx) : EReal := A (ix2 (i 1) (hid (i 0) (i 2)))

theorem chunks_eq :
    transpose S8x8192x704 [1, 0, 2] (shapeCast S8192x8x704 A shapeCasts_S8192x5632_S8192x8x704) transposes_S8192x8x704_S8x8192x704_1_0_2 = chunks A := by
  funext i
  idx_vars i
  pointwise
  rfl

/-- One row's part of the product, and one block's. -/
def term (n : Fin 5632) (j : Fin 2048) (s : Fin 8192) : EReal := A (ix2 s n) * Y (ix2 s j)

def block (n : Fin 5632) (j : Fin 2048) (p : ℕ) : EReal := ∑ k : Fin 2048, if h : p * 2048 + k.val < 8192 then term A Y n j ⟨p * 2048 + k.val, h⟩ else 0

def part (b : Fin 8) (p : ℕ) (i : S704x2048.Idx) : EReal := block A Y (hid b (i 0)) (i 1) p

/-- The result: the sum over the rows. -/
def out (i : S8x704x2048.Idx) : EReal := ∑ s : Fin 8192, A (ix2 s (hid (i 0) (i 1))) * Y (ix2 s (i 2))

/-- A chunk's four parts are the whole sum. -/
theorem parts (b : Fin 8) (r : Fin 704) (j : Fin 2048) : ∑ p ∈ Finset.range 4, part A Y b p (ix2 r j) = out A Y (ix3 b r j) :=
  (Cert.Reals.sum_blocks 4 2048 8192 rfl (term A Y (hid b r) j)).symm

variable (m : (ℓ : Loc nD τ sig) → Buf (Elt Ideal) ℓ) (c : Dev nD)

/-- The arguments: the rows of both factors. -/
abbrev act : S8192x5632.Idx → EReal := m ((c.tc : Thread nD τ).loc main_arg0)
abbrev rows : S8192x2048.Idx → EReal := m ((c.tc : Thread nD τ).loc main_arg1)

/-- What the host code leaves in the first factor's array. -/
theorem host : V m c main_v1 = chunks (act m c) := by
  rw [← chunks_eq]
  show StableHlo.after hostOps0 _ _ = _
  after_results_simp <;> rfl

/-- Where each window is at point `t`. -/
theorem index_at : ∀ t : Fin cfg0.N, (win0_0.index t 0 = t.val / 4 ∧ win0_0.index t 1 = t.val % 4 ∧ win0_0.index t 2 = 0)
    ∧ (win0_1.index t 0 = t.val % 4 ∧ win0_1.index t 1 = 0)
    ∧ (win0_2.index t 0 = t.val / 4 ∧ win0_2.index t 1 = 0 ∧ win0_2.index t 2 = 0) := by decide +kernel

/-- The chunk of point `n`. -/
def group (n : ℕ) (hn : n < cfg0.N) : Fin 8 := ⟨n / 4, by have hN : cfg0.N = 32 := N_0; omega⟩

/-- The blocks of a point, at an index. -/
theorem iblk0 (t : Fin cfg0.N) (k : Fin 2048) (r : Fin 704) (s : Fin 8192) (es : s.val = t.val % 4 * 2048 + k.val) :
    iblk m c 0 t (ix3 0 k r) = act m c (ix2 s (hid (group t.val t.isLt) r)) := by
  obtain ⟨⟨e0, e1, e2⟩, -⟩ := index_at t
  unfold iblk
  rw [View.read_apply]
  show V m c main_v1 _ = chunks (act m c) (ix3 (group t.val t.isLt) s r)
  rw [host]
  refine congrArg (chunks (act m c)) (funext fun a => Fin.ext ?_)
  match a with
  | ⟨0, _⟩ => show win0_0.index t 0 * 1 + 1 * 0 = t.val / 4; rw [e0]; omega
  | ⟨1, _⟩ => show win0_0.index t 1 * 2048 + 1 * k.val = s.val; rw [e1, es]; omega
  | ⟨2, _⟩ => show win0_0.index t 2 * 704 + 1 * r.val = r.val; rw [e2]; omega

@[inherit_doc iblk0]
theorem iblk1 (t : Fin cfg0.N) (j : S2048x2048.Idx) (s : Fin 8192) (es : s.val = t.val % 4 * 2048 + (j 0).val) :
    iblk m c 1 t j = rows m c (ix2 s (j 1)) := by
  obtain ⟨-, ⟨e0, e1⟩, -⟩ := index_at t
  unfold iblk
  rw [View.read_apply]
  show V m c main_arg1 _ = _
  rw [V_main_arg1]
  refine congrArg (rows m c) (funext fun a => Fin.ext ?_)
  match a with
  | ⟨0, _⟩ => show win0_1.index t 0 * 2048 + 1 * (j 0).val = s.val; rw [e0, es]; omega
  | ⟨1, _⟩ => show win0_1.index t 1 * 2048 + 1 * (j 1).val = (j 1).val; rw [e1]; omega

/-- The product of a point. -/
theorem prod (t : Fin cfg0.N) (i : S704x2048.Idx) :
    k0_pay1 (F := Ideal) (iblk m c 0 t) (iblk m c 1 t) i = part (act m c) (rows m c) (group t.val t.isLt) (t.val % 4) i := by
  unfold part block
  refine (congrArg _ (eq_ix2 i)).trans ((pay1_apply _ _ (i 0) (i 1)).trans (Finset.sum_congr rfl fun k _ => ?_))
  have h : t.val % 4 * 2048 + k.val < 8192 := by have := k.isLt; omega
  rw [dif_pos h, iblk0 m c t k (i 0) ⟨_, h⟩ rfl, iblk1 m c t (ix2 k (i 1)) ⟨_, h⟩ rfl]
  rfl

/-- What a block's last point writes. -/
theorem last (n : ℕ) (hn : n < cfg0.N) (hl : n % 4 = 3) (r : Fin 704) (j : Fin 2048) :
    (outsAt0 m c n hn).1 (ix3 0 r j) = ∑ p ∈ Finset.range 4, part (act m c) (rows m c) (group n hn) p (ix2 r j) := by
  obtain ⟨k, rfl⟩ : ∃ k, n = k + 1 := ⟨n - 1, by omega⟩
  rw [show outsAt0 m c (k + 1) hn = _ from outsAt0_C m c ⟨k + 1, hn⟩ (by dsimp only; omega) (by dsimp only; omega) hl]
  dsimp only
  rw [out_C]
  refine (pay4_apply _ r j).trans ((congrArg ((outsAt0 m c k (by omega)).2 (ix2 r j) + ·) (prod m c ⟨k + 1, hn⟩ (ix2 r j))).trans ?_)
  refine Cert.Accum.total 4 (fun n hn => (outsAt0 m c n hn).2) (part (act m c) (rows m c)) group (by omega)
    (fun n hn h0 => Fin.ext (by show (n + 1) / 4 = n / 4; omega)) (fun n hn h0 => ?_) (fun n hn h0 h2 => ?_) k hn (by omega) hl (ix2 r j)
  · rw [show outsAt0 m c n hn = _ from outsAt0_A m c ⟨n, hn⟩ h0 (by dsimp only; omega) (by dsimp only; omega)]
    dsimp only
    rw [sout_A]
    exact funext fun i => (prod m c ⟨n, hn⟩ i).trans (by rw [h0])
  · rw [show outsAt0 m c (n + 1) hn = _ from outsAt0_B m c ⟨n + 1, hn⟩ h0 (by dsimp only; omega) (by dsimp only; omega)]
    dsimp only
    rw [sout_B]
    exact funext fun i => congrArg ((outsAt0 m c n (by omega)).2 i + ·) (prod m c ⟨n + 1, hn⟩ i)

/-- The result array. -/
theorem final_2 : (dats m 0 c).arrAt 2 cfg0.N = out (act m c) (rows m c) := by
  refine (dats m 0 c).arrAt_eq_of_cover 2 _ (fun t hf => ?_) fun i =>
    (Value.covered_iff2 i).2 ⟨Nat.zero_le _, (i 0).isLt, Nat.zero_le _, (i 1).isLt, Nat.zero_le _, (i 2).isLt⟩
  obtain ⟨-, -, e0, e1, e2⟩ := index_at t
  rw [Value.flushed2]
  funext j
  rw [View.read_apply]
  have hj : j = ix3 0 (j 1) (j 2) := (eq_ix3 j).trans (congrArg (ix3 · (j 1) (j 2)) (Fin.ext (by have : (j 0).val < 1 := (j 0).isLt; show (j 0).val = 0; omega)))
  refine (show _ = (outsAt0 m c t.val t.isLt).1 (ix3 0 (j 1) (j 2)) from congrArg _ hj).trans
    ((last m c t.val t.isLt ((flush0_2 t).mp hf) (j 1) (j 2)).trans ((parts _ _ _ (j 1) (j 2)).trans (congrArg (out (act m c) (rows m c)) ?_)))
  refine funext fun a => Fin.ext ?_
  match a with
  | ⟨0, _⟩ => show t.val / 4 = win0_2.index t 0 * 1 + 1 * (j 0).val; rw [e0]; have : (j 0).val < 1 := (j 0).isLt; omega
  | ⟨1, _⟩ => show (j 1).val = win0_2.index t 1 * 704 + 1 * (j 1).val; rw [e1]; omega
  | ⟨2, _⟩ => show (j 2).val = win0_2.index t 2 * 2048 + 1 * (j 2).val; rw [e2]; omega

end Cert.MmTnAIdeal.Result

namespace Cert.MmTnARefIdeal.Result

open Cert.MmTnARefIdeal Cert.MmTnARefIdeal.Gen Cert.MmTnARefIdeal.Read Idealize.ShloMosaic Idealize.ShloMosaic.TcCoe Cert.Reals Cert.Columns
open Cert.MmTnAIdeal.Result (out)

/-- The reference's result. -/
theorem res (A : S8192x5632.Idx → EReal) (Y : S8192x2048.Idx → EReal) : val_main_v7 (F := Ideal) A Y = out A Y := by
  funext i
  idx_vars i
  pointwise [val_main_v7, val_main_v6, val_main_v5, val_main_v4, val_main_v3, val_main_v0]
  exact Finset.sum_congr rfl fun s _ => mul_comm _ _

end Cert.MmTnARefIdeal.Result

end
-- ==== Proof.MmTnAClaim.lean ====
/-
  The plain product, columns against columns in chunks: its claims. The frames are the generated ones; the equation holds for
  every argument.
-/
module

public import proofs.«01_k».proof.Defs
public import proofs.«01_k».proof.Proof.MmTnAValue
public import proofs.«01_k».proof.Proof.Gen.MmTnA.Frame
public import Idealize.ShloMosaic.Lib.Quiescent

@[expose] public section

set_option maxRecDepth 16384

noncomputable section

namespace Cert.Proof.MmTnA

open Idealize.ShloMosaic Idealize.ShloMosaic.TcCoe Idealize.SL.Sem

/-- The reference ends with its arguments unchanged and its counters at zero. -/
theorem frame_ref : Cert.quiescent_MmTnARefIdeal := fun m g _ =>
  (θ_run Cert.MmTnARefIdeal.defs _ _).mono
    (fun r h => ⟨fun c => (h c).2, Idealize.ShloMosaic.sem_eq_zero_of_no_sems (by decide) r.2⟩) (Cert.MmTnARefIdeal.Value.run (F := Ideal) m g)

/-- The kernel's array is the reference's result. -/
theorem algebraic : Cert.algebraic_MmTnAIdeal_MmTnARefIdeal := by
  intro m g m' g' _ hagree
  refine ⟨_, Cert.MmTnAIdeal.Value.run_blocks (F := Ideal) m g, ?_⟩
  refine (θ_run Cert.MmTnARefIdeal.defs _ _).mono (fun r h c => ⟨(h c).1.trans ?_, (h c).2⟩) (Cert.MmTnARefIdeal.Value.run (F := Ideal) m' g')
  obtain ⟨a0, a1⟩ := hagree c
  rw [Cert.MmTnAIdeal.Result.final_2, Cert.MmTnARefIdeal.Read.val_main_v7_eq, a0, a1]
  exact Cert.MmTnARefIdeal.Result.res _ _

end Cert.Proof.MmTnA

end
-- ==== Proof.MmTnBValue.lean ====
/-
  The plain product, columns against columns, where the second factor's columns come in eight chunks. Point `t` works on the
  chunk `t / 4` and on the block of rows `t % 4`; the four blocks' products add up in a scratch array.
-/
module

public import proofs.«01_k».proof.Proof.Columns
public import proofs.«01_k».proof.Proof.Accum
public import proofs.«01_k».proof.Proof.Gen.MmTnBIdeal.Value
public import proofs.«01_k».proof.Proof.Gen.MmTnBRefIdeal.Run
public import proofs.«01_k».proof.Proof.Gen.MmTnBRefIdeal.Read
public import Idealize.ShloMosaic.Lib.Pointwise

@[expose] public section

set_option maxRecDepth 16384

noncomputable section

namespace Cert.MmTnBIdeal.Result

open Cert.MmTnBIdeal Cert.MmTnBIdeal.Gen Idealize.ShloMosaic Idealize.ShloMosaic.TcCoe Idealize.SL.Sem Cert.Reals Cert.Columns
open Idealize.ShloMosaic.Pipeline (Dat)

/-- A column against a column. -/
theorem pay1_apply (A : S2048x2048.Idx → EReal) (B : S1x2048x704.Idx → EReal) (r : Fin 2048) (j : Fin 704) :
    k0_pay1 (F := Ideal) A B (ix2 r j) = ∑ k : Fin 2048, A (ix2 k r) * B (ix3 0 k j) := by
  unfold k0_pay1
  pointwise

/-- Rounding, over the reals, changes nothing. -/
theorem pay4_apply (T : S2048x704.Idx → EReal) (r : Fin 2048) (j : Fin 704) : k0_pay4 (F := Ideal) T (ix3 0 r j) = T (ix2 r j) := by
  unfold k0_pay4
  pointwise

theorem hz3 : (![0, 0, 0] : Fin 3 → Nat) = fun _ => 0 := funext fun a => by fin_cases a <;> rfl

section Block

variable (c : Dev nD) (i : grid0.Coords) (a2 : Memref sig .tc .vmem S2048x2048 .bf16) (h2 : a2.IsWhole)
  (a3 : Memref sig .tc .vmem S1x2048x704 .bf16) (h3 : a3.IsWhole) (a4 : Memref sig .tc .vmem S1x2048x704 .bf16) (h4 : a4.IsWhole)
  (a5 : Memref sig .tc .vmem S2048x704 .f32) (h5 : a5.IsWhole)
  (x0 : Vec Ideal S2048x2048 .bf16) (x1 : Vec Ideal S1x2048x704 .bf16) (xs : Vec Ideal S2048x704 .f32)

/-- The scratch after a block's first point: the point's product. -/
theorem sout_A (hc0 : cond0_0 i) (hc1 : ¬cond0_1 i) (hc2 : ¬cond0_2 i) :
    sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz2]
  unfold k0_pay2
  simp only [View.readAt_eq_ld, h2.read_unread, h3.read_unread, View.ld_unit_zero (S := S1x2048x704) hz3, View.ld_unit_zero (S := S2048x2048) hz2, shapeCast_self]

/-- The scratch after a later point: the point's product added to it. -/
theorem sout_B (hc0 : ¬cond0_0 i) (hc1 : cond0_1 i) (hc2 : ¬cond0_2 i) :
    sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz2]
  unfold k0_pay3
  simp only [View.readAt_eq_ld, h2.read_unread, h3.read_unread, h5.read_unread, View.ld_unit_zero (S := S1x2048x704) hz3, View.ld_unit_zero (S := S2048x2048) hz2, View.ld_unit_zero (S := S2048x704) hz2, shapeCast_self]

/-- The output after a block's last point: the point's product added to the scratch. -/
theorem out_C (hc0 : ¬cond0_0 i) (hc1 : cond0_1 i) (hc2 : cond0_2 i) :
    out0_C_2 c i a2 h2 a3 h3 a4 h4 a5 h5 hc0 hc1 hc2 x0 x1 xs = k0_pay4 (addf xs (k0_pay1 x0 x1)) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz3]
  unfold k0_pay3
  simp only [View.readAt_eq_ld, h2.read_unread, h3.read_unread, h5.read_unread, View.ld_unit_zero (S := S1x2048x704) hz3, View.ld_unit_zero (S := S2048x2048) hz2, View.ld_unit_zero (S := S2048x704) hz2, shapeCast_self, View.readCov_eq_canon']
  rw [View.canon_unit_zero hz2]
  exact congrArg (k0_pay4 (F := Ideal)) (funext fun j => congrArg (addf xs (k0_pay1 x0 x1)) (funext fun a => Fin.ext (by
    match a with
    | ⟨0, _⟩ => show 0 + 1 * (j 0).val = (j 0).val; omega
    | ⟨1, _⟩ => show 0 + 1 * (j 1).val = (j 1).val; omega)))

end Block

variable (H : S8192x2048.Idx → EReal) (G : S8192x5632.Idx → EReal)

/-- Rows in chunks of columns. -/
def chunks (i : S8x8192x704.Idx) : EReal := G (ix2 (i 1) (hid (i 0) (i 2)))

theorem chunks_eq :
    transpose S8x8192x704 [1, 0, 2] (shapeCast S8192x8x704 G shapeCasts_S8192x5632_S8192x8x704) transposes_S8192x8x704_S8x8192x704_1_0_2 = chunks G := by
  funext i
  idx_vars i
  pointwise
  rfl

/-- One row's part of the product, and one block's. -/
def term (j : Fin 2048) (n : Fin 5632) (s : Fin 8192) : EReal := H (ix2 s j) * G (ix2 s n)

def block (j : Fin 2048) (n : Fin 5632) (p : ℕ) : EReal := ∑ k : Fin 2048, if h : p * 2048 + k.val < 8192 then term H G j n ⟨p * 2048 + k.val, h⟩ else 0

def part (b : Fin 8) (p : ℕ) (i : S2048x704.Idx) : EReal := block H G (i 0) (hid b (i 1)) p

/-- The result: the sum over the rows. -/
def out (i : S8x2048x704.Idx) : EReal := ∑ s : Fin 8192, H (ix2 s (i 1)) * G (ix2 s (hid (i 0) (i 2)))

/-- A chunk's four parts are the whole sum. -/
theorem parts (b : Fin 8) (r : Fin 2048) (j : Fin 704) : ∑ p ∈ Finset.range 4, part H G b p (ix2 r j) = out H G (ix3 b r j) :=
  (Cert.Reals.sum_blocks 4 2048 8192 rfl (term H G r (hid b j))).symm

variable (m : (ℓ : Loc nD τ sig) → Buf (Elt Ideal) ℓ) (c : Dev nD)

/-- The arguments: the rows of both factors. -/
abbrev rows : S8192x2048.Idx → EReal := m ((c.tc : Thread nD τ).loc main_arg0)
abbrev grad : S8192x5632.Idx → EReal := m ((c.tc : Thread nD τ).loc main_arg1)

/-- What the host code leaves in the second factor's array. -/
theorem host : V m c main_v1 = chunks (grad m c) := by
  rw [← chunks_eq]
  show StableHlo.after hostOps0 _ _ = _
  after_results_simp <;> rfl

/-- Where each window is at point `t`. -/
theorem index_at : ∀ t : Fin cfg0.N, (win0_0.index t 0 = t.val % 4 ∧ win0_0.index t 1 = 0)
    ∧ (win0_1.index t 0 = t.val / 4 ∧ win0_1.index t 1 = t.val % 4 ∧ win0_1.index t 2 = 0)
    ∧ (win0_2.index t 0 = t.val / 4 ∧ win0_2.index t 1 = 0 ∧ win0_2.index t 2 = 0) := by decide +kernel

/-- The chunk of point `n`. -/
def group (n : ℕ) (hn : n < cfg0.N) : Fin 8 := ⟨n / 4, by have hN : cfg0.N = 32 := N_0; omega⟩

/-- The blocks of a point, at an index. -/
theorem iblk0 (t : Fin cfg0.N) (j : S2048x2048.Idx) (s : Fin 8192) (es : s.val = t.val % 4 * 2048 + (j 0).val) :
    iblk m c 0 t j = rows m c (ix2 s (j 1)) := by
  obtain ⟨⟨e0, e1⟩, -⟩ := index_at t
  unfold iblk
  rw [View.read_apply]
  show V m c main_arg0 _ = _
  rw [V_main_arg0]
  refine congrArg (rows m c) (funext fun a => Fin.ext ?_)
  match a with
  | ⟨0, _⟩ => show win0_0.index t 0 * 2048 + 1 * (j 0).val = s.val; rw [e0, es]; omega
  | ⟨1, _⟩ => show win0_0.index t 1 * 2048 + 1 * (j 1).val = (j 1).val; rw [e1]; omega

@[inherit_doc iblk0]
theorem iblk1 (t : Fin cfg0.N) (k : Fin 2048) (r : Fin 704) (s : Fin 8192) (es : s.val = t.val % 4 * 2048 + k.val) :
    iblk m c 1 t (ix3 0 k r) = grad m c (ix2 s (hid (group t.val t.isLt) r)) := by
  obtain ⟨-, ⟨e0, e1, e2⟩, -⟩ := index_at t
  unfold iblk
  rw [View.read_apply]
  show V m c main_v1 _ = chunks (grad m c) (ix3 (group t.val t.isLt) s r)
  rw [host]
  refine congrArg (chunks (grad m c)) (funext fun a => Fin.ext ?_)
  match a with
  | ⟨0, _⟩ => show win0_1.index t 0 * 1 + 1 * 0 = t.val / 4; rw [e0]; omega
  | ⟨1, _⟩ => show win0_1.index t 1 * 2048 + 1 * k.val = s.val; rw [e1, es]; omega
  | ⟨2, _⟩ => show win0_1.index t 2 * 704 + 1 * r.val = r.val; rw [e2]; omega

/-- The product of a point. -/
theorem prod (t : Fin cfg0.N) (i : S2048x704.Idx) :
    k0_pay1 (F := Ideal) (iblk m c 0 t) (iblk m c 1 t) i = part (rows m c) (grad m c) (group t.val t.isLt) (t.val % 4) i := by
  unfold part block
  refine (congrArg _ (eq_ix2 i)).trans ((pay1_apply _ _ (i 0) (i 1)).trans (Finset.sum_congr rfl fun k _ => ?_))
  have h : t.val % 4 * 2048 + k.val < 8192 := by have := k.isLt; omega
  rw [dif_pos h, iblk0 m c t (ix2 k (i 0)) ⟨_, h⟩ rfl, iblk1 m c t k (i 1) ⟨_, h⟩ rfl]
  rfl

/-- What a block's last point writes. -/
theorem last (n : ℕ) (hn : n < cfg0.N) (hl : n % 4 = 3) (r : Fin 2048) (j : Fin 704) :
    (outsAt0 m c n hn).1 (ix3 0 r j) = ∑ p ∈ Finset.range 4, part (rows m c) (grad m c) (group n hn) p (ix2 r j) := by
  obtain ⟨k, rfl⟩ : ∃ k, n = k + 1 := ⟨n - 1, by omega⟩
  rw [show outsAt0 m c (k + 1) hn = _ from outsAt0_C m c ⟨k + 1, hn⟩ (by dsimp only; omega) (by dsimp only; omega) hl]
  dsimp only
  rw [out_C]
  refine (pay4_apply _ r j).trans ((congrArg ((outsAt0 m c k (by omega)).2 (ix2 r j) + ·) (prod m c ⟨k + 1, hn⟩ (ix2 r j))).trans ?_)
  refine Cert.Accum.total 4 (fun n hn => (outsAt0 m c n hn).2) (part (rows m c) (grad m c)) group (by omega)
    (fun n hn h0 => Fin.ext (by show (n + 1) / 4 = n / 4; omega)) (fun n hn h0 => ?_) (fun n hn h0 h2 => ?_) k hn (by omega) hl (ix2 r j)
  · rw [show outsAt0 m c n hn = _ from outsAt0_A m c ⟨n, hn⟩ h0 (by dsimp only; omega) (by dsimp only; omega)]
    dsimp only
    rw [sout_A]
    exact funext fun i => (prod m c ⟨n, hn⟩ i).trans (by rw [h0])
  · rw [show outsAt0 m c (n + 1) hn = _ from outsAt0_B m c ⟨n + 1, hn⟩ h0 (by dsimp only; omega) (by dsimp only; omega)]
    dsimp only
    rw [sout_B]
    exact funext fun i => congrArg ((outsAt0 m c n (by omega)).2 i + ·) (prod m c ⟨n + 1, hn⟩ i)

/-- The result array. -/
theorem final_2 : (dats m 0 c).arrAt 2 cfg0.N = out (rows m c) (grad m c) := by
  refine (dats m 0 c).arrAt_eq_of_cover 2 _ (fun t hf => ?_) fun i =>
    (Value.covered_iff2 i).2 ⟨Nat.zero_le _, (i 0).isLt, Nat.zero_le _, (i 1).isLt, Nat.zero_le _, (i 2).isLt⟩
  obtain ⟨-, -, e0, e1, e2⟩ := index_at t
  rw [Value.flushed2]
  funext j
  rw [View.read_apply]
  have hj : j = ix3 0 (j 1) (j 2) := (eq_ix3 j).trans (congrArg (ix3 · (j 1) (j 2)) (Fin.ext (by have : (j 0).val < 1 := (j 0).isLt; show (j 0).val = 0; omega)))
  refine (show _ = (outsAt0 m c t.val t.isLt).1 (ix3 0 (j 1) (j 2)) from congrArg _ hj).trans
    ((last m c t.val t.isLt ((flush0_2 t).mp hf) (j 1) (j 2)).trans ((parts _ _ _ (j 1) (j 2)).trans (congrArg (out (rows m c) (grad m c)) ?_)))
  refine funext fun a => Fin.ext ?_
  match a with
  | ⟨0, _⟩ => show t.val / 4 = win0_2.index t 0 * 1 + 1 * (j 0).val; rw [e0]; have : (j 0).val < 1 := (j 0).isLt; omega
  | ⟨1, _⟩ => show (j 1).val = win0_2.index t 1 * 2048 + 1 * (j 1).val; rw [e1]; omega
  | ⟨2, _⟩ => show (j 2).val = win0_2.index t 2 * 704 + 1 * (j 2).val; rw [e2]; omega

end Cert.MmTnBIdeal.Result

namespace Cert.MmTnBRefIdeal.Result

open Cert.MmTnBRefIdeal Cert.MmTnBRefIdeal.Gen Cert.MmTnBRefIdeal.Read Idealize.ShloMosaic Idealize.ShloMosaic.TcCoe Cert.Reals Cert.Columns
open Cert.MmTnBIdeal.Result (out)

/-- The reference's result. -/
theorem res (H : S8192x2048.Idx → EReal) (G : S8192x5632.Idx → EReal) : val_main_v8 (F := Ideal) H G = out H G := by
  funext i
  idx_vars i
  pointwise [val_main_v8, val_main_v7, val_main_v6, val_main_v5, val_main_v4, val_main_v3, val_main_v0]
  exact Finset.sum_congr rfl fun s _ => mul_comm _ _

end Cert.MmTnBRefIdeal.Result

end
-- ==== Proof.MmTnBClaim.lean ====
/-
  The plain product, columns against columns in chunks: its claims. The frames are the generated ones; the equation holds for
  every argument.
-/
module

public import proofs.«01_k».proof.Defs
public import proofs.«01_k».proof.Proof.MmTnBValue
public import proofs.«01_k».proof.Proof.Gen.MmTnB.Frame
public import Idealize.ShloMosaic.Lib.Quiescent

@[expose] public section

set_option maxRecDepth 16384

noncomputable section

namespace Cert.Proof.MmTnB

open Idealize.ShloMosaic Idealize.ShloMosaic.TcCoe Idealize.SL.Sem

/-- The reference ends with its arguments unchanged and its counters at zero. -/
theorem frame_ref : Cert.quiescent_MmTnBRefIdeal := fun m g _ =>
  (θ_run Cert.MmTnBRefIdeal.defs _ _).mono
    (fun r h => ⟨fun c => (h c).2, Idealize.ShloMosaic.sem_eq_zero_of_no_sems (by decide) r.2⟩) (Cert.MmTnBRefIdeal.Value.run (F := Ideal) m g)

/-- The kernel's array is the reference's result. -/
theorem algebraic : Cert.algebraic_MmTnBIdeal_MmTnBRefIdeal := by
  intro m g m' g' _ hagree
  refine ⟨_, Cert.MmTnBIdeal.Value.run_blocks (F := Ideal) m g, ?_⟩
  refine (θ_run Cert.MmTnBRefIdeal.defs _ _).mono (fun r h c => ⟨(h c).1.trans ?_, (h c).2⟩) (Cert.MmTnBRefIdeal.Value.run (F := Ideal) m' g')
  obtain ⟨a0, a1⟩ := hagree c
  rw [Cert.MmTnBIdeal.Result.final_2, Cert.MmTnBRefIdeal.Read.val_main_v8_eq, a0, a1]
  exact Cert.MmTnBRefIdeal.Result.res _ _

end Cert.Proof.MmTnB

end
-- ==== Proof.AdamBlock.lean ====
/-
  The optimiser's step, one block. A point works on one layer: the eight parts of the layer's gradient are added up, and the
  moments and the weight's change follow element by element. Nothing here needs finite numbers.
-/
module

public import proofs.«01_k».proof.Proof.Reals
public import proofs.«01_k».proof.Proof.Gen.AdamIdeal.Value
public import Idealize.ShloMosaic.Lib.Pointwise

@[expose] public section

set_option maxRecDepth 16384
set_option maxHeartbeats 1000000

noncomputable section

namespace Cert.AdamIdeal.Block

open Cert.AdamIdeal Cert.AdamIdeal.Gen Idealize.ShloMosaic Cert.Reals

/-- The sum of the parts; of a gradient the new first moment, the new second moment and the weight's change. -/
def total (p : Fin 8 → EReal) : EReal := ∑ s, p s
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def change (g w m v : EReal) : EReal := Ideal.ofBits .f32 0xBA83126F#32 *
  (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

variable (c : Dev nD) (i : grid0.Coords) (a2 : Memref sig .tc .vmem S8x128x704 .bf16) (h2 : a2.IsWhole)
  (a3 : Memref sig .tc .vmem S8x128x704 .bf16) (h3 : a3.IsWhole) (a4 : Memref sig .tc .vmem S8x128x704 .bf16) (h4 : a4.IsWhole)
  (a5 : Memref sig .tc .vmem S8x128x704 .bf16) (h5 : a5.IsWhole) (a6 : Memref sig .tc .vmem S1x128x704 .f32) (h6 : a6.IsWhole)
  (a7 : Memref sig .tc .vmem S1x128x704 .f32) (h7 : a7.IsWhole) (a8 : Memref sig .tc .vmem S1x128x704 .f32) (h8 : a8.IsWhole)
  (a9 : Memref sig .tc .vmem S1x128x704 .f32) (h9 : a9.IsWhole) (a10 : Memref sig .tc .vmem S1x128x704 .f32) (h10 : a10.IsWhole)
  (a11 : Memref sig .tc .vmem S1x128x704 .f32) (h11 : a11.IsWhole) (a12 : Memref sig .tc .vmem S1x128x704 .f32) (h12 : a12.IsWhole)
  (x0 x1 x2 x3 : Vec Ideal S8x128x704 .bf16) (x4 x5 x6 : Vec Ideal S1x128x704 .f32)

/-- The offsets of a whole block. -/
theorem hz3 : (![0, 0, 0] : Fin 3 → Nat) = fun _ => 0 := funext fun a => by fin_cases a <;> rfl

set_option maxHeartbeats 2000000 in
/-- What the body leaves in its four blocks at a point of layer 0, and then of the layers 1, 2 and 3. -/
theorem out_A (hc0 : cond0_0 i) (hc1 : ¬cond0_1 i) (hc2 : ¬cond0_2 i) (hc3 : ¬cond0_3 i) (r : Fin 128) (j : Fin 704) :
    (out0_A_7 c i a2 h2 a3 h3 a4 h4 a5 h5 a6 h6 a7 h7 a8 h8 a9 h9 a10 h10 a11 h11 a12 h12 hc0 hc1 hc2 hc3 x0 x1 x2 x3 x4 x5 x6 (ix3 0 r j) = total (fun s => x0 (ix3 s r j)) ∧
      out0_A_8 c i a2 h2 a3 h3 a4 h4 a5 h5 a6 h6 a7 h7 a8 h8 a9 h9 a10 h10 a11 h11 a12 h12 hc0 hc1 hc2 hc3 x0 x1 x2 x3 x4 x5 x6 (ix3 0 r j) = change (total fun s => x0 (ix3 s r j)) (x4 (ix3 0 r j)) (x5 (ix3 0 r j)) (x6 (ix3 0 r j))) ∧
      out0_A_9 c i a2 h2 a3 h3 a4 h4 a5 h5 a6 h6 a7 h7 a8 h8 a9 h9 a10 h10 a11 h11 a12 h12 hc0 hc1 hc2 hc3 x0 x1 x2 x3 x4 x5 x6 (ix3 0 r j) = first (total fun s => x0 (ix3 s r j)) (x5 (ix3 0 r j)) ∧
      out0_A_10 c i a2 h2 a3 h3 a4 h4 a5 h5 a6 h6 a7 h7 a8 h8 a9 h9 a10 h10 a11 h11 a12 h12 hc0 hc1 hc2 hc3 x0 x1 x2 x3 x4 x5 x6 (ix3 0 r j) = second (total fun s => x0 (ix3 s r j)) (x6 (ix3 0 r j)) := by
  unfold out0_A_7 out0_A_8 out0_A_9 out0_A_10
  rw [View.read_writes_eq_canon _ _ _ (cover0_A_7 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_A_8 c i a2 h2 a3 h3 a4 h4 a5 h5 a6 h6 a7 h7 a8 h8 a9 h9 a10 h10 a11 h11 a12 h12 hc0 hc1 hc2 hc3 x0 x1 x2 x3 x4 x5 x6),
    View.read_writes_eq_canon _ _ _ (cover0_A_9 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_A_10 c i a2 h2 a3 h3 a4 h4 a5 h5 a6 h6 a7 h7 a8 h8 a9 h9 a10 h10 a11 h11 a12 h12 hc0 hc1 hc2 hc3 x0 x1 x2 x3 x4 x5 x6)]
  unfold kernelRun0_A total
  dsimp only
  sl_unfold_words
  unfold change first second
  refine ⟨⟨?_, ?_⟩, ?_, ?_⟩ <;> rw [View.canon_unit_zero hz3] <;>
    simp only [View.readAt_eq_ld, h2.read_unread, h6.read_unread, h7.read_unread, h8.read_unread, View.ld_unit_zero (S := S1x128x704) hz3,
      Fin.sum_univ_eight]
  · unfold k0_pay13 k0_pay9
    pointwise
  · unfold k0_pay14 k0_pay12 k0_pay11 k0_pay10 k0_pay9
    pointwise
  · unfold k0_pay1 k0_pay11 k0_pay10 k0_pay9
    pointwise
  · unfold k0_pay2 k0_pay12 k0_pay9
    pointwise

theorem out_B (hc0 : ¬cond0_0 i) (hc1 : cond0_1 i) (hc2 : ¬cond0_2 i) (hc3 : ¬cond0_3 i) (r : Fin 128) (j : Fin 704) :
    (out0_B_7 c i a2 h2 a3 h3 a4 h4 a5 h5 a6 h6 a7 h7 a8 h8 a9 h9 a10 h10 a11 h11 a12 h12 hc0 hc1 hc2 hc3 x0 x1 x2 x3 x4 x5 x6 (ix3 0 r j) = total (fun s => x1 (ix3 s r j)) ∧
      out0_B_8 c i a2 h2 a3 h3 a4 h4 a5 h5 a6 h6 a7 h7 a8 h8 a9 h9 a10 h10 a11 h11 a12 h12 hc0 hc1 hc2 hc3 x0 x1 x2 x3 x4 x5 x6 (ix3 0 r j) = change (total fun s => x1 (ix3 s r j)) (x4 (ix3 0 r j)) (x5 (ix3 0 r j)) (x6 (ix3 0 r j))) ∧
      out0_B_9 c i a2 h2 a3 h3 a4 h4 a5 h5 a6 h6 a7 h7 a8 h8 a9 h9 a10 h10 a11 h11 a12 h12 hc0 hc1 hc2 hc3 x0 x1 x2 x3 x4 x5 x6 (ix3 0 r j) = first (total fun s => x1 (ix3 s r j)) (x5 (ix3 0 r j)) ∧
      out0_B_10 c i a2 h2 a3 h3 a4 h4 a5 h5 a6 h6 a7 h7 a8 h8 a9 h9 a10 h10 a11 h11 a12 h12 hc0 hc1 hc2 hc3 x0 x1 x2 x3 x4 x5 x6 (ix3 0 r j) = second (total fun s => x1 (ix3 s r j)) (x6 (ix3 0 r j)) := by
  unfold out0_B_7 out0_B_8 out0_B_9 out0_B_10
  rw [View.read_writes_eq_canon _ _ _ (cover0_B_7 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_B_8 c i a2 h2 a3 h3 a4 h4 a5 h5 a6 h6 a7 h7 a8 h8 a9 h9 a10 h10 a11 h11 a12 h12 hc0 hc1 hc2 hc3 x0 x1 x2 x3 x4 x5 x6),
    View.read_writes_eq_canon _ _ _ (cover0_B_9 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_B_10 c i a2 h2 a3 h3 a4 h4 a5 h5 a6 h6 a7 h7 a8 h8 a9 h9 a10 h10 a11 h11 a12 h12 hc0 hc1 hc2 hc3 x0 x1 x2 x3 x4 x5 x6)]
  unfold kernelRun0_B total
  dsimp only
  sl_unfold_words
  unfold change first second
  refine ⟨⟨?_, ?_⟩, ?_, ?_⟩ <;> rw [View.canon_unit_zero hz3] <;>
    simp only [View.readAt_eq_ld, h3.read_unread, h6.read_unread, h7.read_unread, h8.read_unread, View.ld_unit_zero (S := S1x128x704) hz3,
      Fin.sum_univ_eight]
  · unfold k0_pay19 k0_pay15
    pointwise
  · unfold k0_pay20 k0_pay18 k0_pay17 k0_pay16 k0_pay15
    pointwise
  · unfold k0_pay3 k0_pay17 k0_pay16 k0_pay15
    pointwise
  · unfold k0_pay4 k0_pay18 k0_pay15
    pointwise

theorem out_C (hc0 : ¬cond0_0 i) (hc1 : ¬cond0_1 i) (hc2 : cond0_2 i) (hc3 : ¬cond0_3 i) (r : Fin 128) (j : Fin 704) :
    (out0_C_7 c i a2 h2 a3 h3 a4 h4 a5 h5 a6 h6 a7 h7 a8 h8 a9 h9 a10 h10 a11 h11 a12 h12 hc0 hc1 hc2 hc3 x0 x1 x2 x3 x4 x5 x6 (ix3 0 r j) = total (fun s => x2 (ix3 s r j)) ∧
      out0_C_8 c i a2 h2 a3 h3 a4 h4 a5 h5 a6 h6 a7 h7 a8 h8 a9 h9 a10 h10 a11 h11 a12 h12 hc0 hc1 hc2 hc3 x0 x1 x2 x3 x4 x5 x6 (ix3 0 r j) = change (total fun s => x2 (ix3 s r j)) (x4 (ix3 0 r j)) (x5 (ix3 0 r j)) (x6 (ix3 0 r j))) ∧
      out0_C_9 c i a2 h2 a3 h3 a4 h4 a5 h5 a6 h6 a7 h7 a8 h8 a9 h9 a10 h10 a11 h11 a12 h12 hc0 hc1 hc2 hc3 x0 x1 x2 x3 x4 x5 x6 (ix3 0 r j) = first (total fun s => x2 (ix3 s r j)) (x5 (ix3 0 r j)) ∧
      out0_C_10 c i a2 h2 a3 h3 a4 h4 a5 h5 a6 h6 a7 h7 a8 h8 a9 h9 a10 h10 a11 h11 a12 h12 hc0 hc1 hc2 hc3 x0 x1 x2 x3 x4 x5 x6 (ix3 0 r j) = second (total fun s => x2 (ix3 s r j)) (x6 (ix3 0 r j)) := by
  unfold out0_C_7 out0_C_8 out0_C_9 out0_C_10
  rw [View.read_writes_eq_canon _ _ _ (cover0_C_7 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_C_8 c i a2 h2 a3 h3 a4 h4 a5 h5 a6 h6 a7 h7 a8 h8 a9 h9 a10 h10 a11 h11 a12 h12 hc0 hc1 hc2 hc3 x0 x1 x2 x3 x4 x5 x6),
    View.read_writes_eq_canon _ _ _ (cover0_C_9 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_C_10 c i a2 h2 a3 h3 a4 h4 a5 h5 a6 h6 a7 h7 a8 h8 a9 h9 a10 h10 a11 h11 a12 h12 hc0 hc1 hc2 hc3 x0 x1 x2 x3 x4 x5 x6)]
  unfold kernelRun0_C total
  dsimp only
  sl_unfold_words
  unfold change first second
  refine ⟨⟨?_, ?_⟩, ?_, ?_⟩ <;> rw [View.canon_unit_zero hz3] <;>
    simp only [View.readAt_eq_ld, h4.read_unread, h6.read_unread, h7.read_unread, h8.read_unread, View.ld_unit_zero (S := S1x128x704) hz3,
      Fin.sum_univ_eight]
  · unfold k0_pay25 k0_pay21
    pointwise
  · unfold k0_pay26 k0_pay24 k0_pay23 k0_pay22 k0_pay21
    pointwise
  · unfold k0_pay5 k0_pay23 k0_pay22 k0_pay21
    pointwise
  · unfold k0_pay6 k0_pay24 k0_pay21
    pointwise

theorem out_D (hc0 : ¬cond0_0 i) (hc1 : ¬cond0_1 i) (hc2 : ¬cond0_2 i) (hc3 : cond0_3 i) (r : Fin 128) (j : Fin 704) :
    (out0_D_7 c i a2 h2 a3 h3 a4 h4 a5 h5 a6 h6 a7 h7 a8 h8 a9 h9 a10 h10 a11 h11 a12 h12 hc0 hc1 hc2 hc3 x0 x1 x2 x3 x4 x5 x6 (ix3 0 r j) = total (fun s => x3 (ix3 s r j)) ∧
      out0_D_8 c i a2 h2 a3 h3 a4 h4 a5 h5 a6 h6 a7 h7 a8 h8 a9 h9 a10 h10 a11 h11 a12 h12 hc0 hc1 hc2 hc3 x0 x1 x2 x3 x4 x5 x6 (ix3 0 r j) = change (total fun s => x3 (ix3 s r j)) (x4 (ix3 0 r j)) (x5 (ix3 0 r j)) (x6 (ix3 0 r j))) ∧
      out0_D_9 c i a2 h2 a3 h3 a4 h4 a5 h5 a6 h6 a7 h7 a8 h8 a9 h9 a10 h10 a11 h11 a12 h12 hc0 hc1 hc2 hc3 x0 x1 x2 x3 x4 x5 x6 (ix3 0 r j) = first (total fun s => x3 (ix3 s r j)) (x5 (ix3 0 r j)) ∧
      out0_D_10 c i a2 h2 a3 h3 a4 h4 a5 h5 a6 h6 a7 h7 a8 h8 a9 h9 a10 h10 a11 h11 a12 h12 hc0 hc1 hc2 hc3 x0 x1 x2 x3 x4 x5 x6 (ix3 0 r j) = second (total fun s => x3 (ix3 s r j)) (x6 (ix3 0 r j)) := by
  unfold out0_D_7 out0_D_8 out0_D_9 out0_D_10
  rw [View.read_writes_eq_canon _ _ _ (cover0_D_7 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_D_8 c i a2 h2 a3 h3 a4 h4 a5 h5 a6 h6 a7 h7 a8 h8 a9 h9 a10 h10 a11 h11 a12 h12 hc0 hc1 hc2 hc3 x0 x1 x2 x3 x4 x5 x6),
    View.read_writes_eq_canon _ _ _ (cover0_D_9 c i a2 h2 a3 h3 a4 h4 a5 h5 a6 h6 a7 h7 a8 h8 a9 h9 a10 h10 a11 h11 a12 h12 hc0 hc1 hc2 hc3 x0 x1 x2 x3 x4 x5 x6), View.read_writes_eq_canon _ _ _ (cover0_D_10 c i a2 h2 a3 h3 a4 h4 a5 h5 a6 h6 a7 h7 a8 h8 a9 h9 a10 h10 a11 h11 a12 h12 hc0 hc1 hc2 hc3 x0 x1 x2 x3 x4 x5 x6)]
  unfold kernelRun0_D total
  dsimp only
  sl_unfold_words
  unfold change first second
  refine ⟨⟨?_, ?_⟩, ?_, ?_⟩ <;> rw [View.canon_unit_zero hz3] <;>
    simp only [View.readAt_eq_ld, h5.read_unread, h6.read_unread, h7.read_unread, h8.read_unread, View.ld_unit_zero (S := S1x128x704) hz3,
      Fin.sum_univ_eight]
  · unfold k0_pay31 k0_pay27
    pointwise
  · unfold k0_pay32 k0_pay30 k0_pay29 k0_pay28 k0_pay27
    pointwise
  · unfold k0_pay7 k0_pay29 k0_pay28 k0_pay27
    pointwise
  · unfold k0_pay8 k0_pay30 k0_pay27
    pointwise

end Cert.AdamIdeal.Block

end
-- ==== Proof.AdamValue.lean ====
/-
  The optimiser's step: point `t` has layer `t / 16` and 128 of its rows. The four arrays hold the summed gradient, the weight's
  change and the two new moments; the reference stacks the layers' sums and takes the step for all layers at once.
-/
module

public import proofs.«01_k».proof.Proof.AdamBlock
public import proofs.«01_k».proof.Proof.Gen.AdamRefIdeal.Run
public import proofs.«01_k».proof.Proof.Gen.AdamRefIdeal.Read

@[expose] public section

set_option maxRecDepth 16384

noncomputable section

namespace Cert.AdamIdeal.Result

open Cert.AdamIdeal Cert.AdamIdeal.Gen Cert.AdamIdeal.Block Idealize.ShloMosaic Idealize.ShloMosaic.TcCoe Idealize.SL.Sem Cert.Reals
open Idealize.ShloMosaic.Pipeline (Dat)

/-- The gradient of all layers, out of each layer's parts; and the other three results. -/
def grad (P0 P1 P2 P3 : S8x2048x704.Idx → EReal) (y : S4x2048x704.Idx) : EReal :=
  total fun s => (![P0, P1, P2, P3] : Fin 4 → S8x2048x704.Idx → EReal) (y 0) (ix3 s (y 1) (y 2))
def changes (G W M S : S4x2048x704.Idx → EReal) (y : S4x2048x704.Idx) : EReal := change (G y) (W y) (M y) (S y)
def firsts (G M : S4x2048x704.Idx → EReal) (y : S4x2048x704.Idx) : EReal := first (G y) (M y)
def seconds (G S : S4x2048x704.Idx → EReal) (y : S4x2048x704.Idx) : EReal := second (G y) (S y)

variable (m : (ℓ : Loc nD τ sig) → Buf (Elt Ideal) ℓ) (c : Dev nD)

abbrev part0 : S8x2048x704.Idx → EReal := m ((c.tc : Thread nD τ).loc main_arg0)
abbrev part1 : S8x2048x704.Idx → EReal := m ((c.tc : Thread nD τ).loc main_arg1)
abbrev part2 : S8x2048x704.Idx → EReal := m ((c.tc : Thread nD τ).loc main_arg2)
abbrev part3 : S8x2048x704.Idx → EReal := m ((c.tc : Thread nD τ).loc main_arg3)
abbrev wgt : S4x2048x704.Idx → EReal := m ((c.tc : Thread nD τ).loc main_arg4)
abbrev mom : S4x2048x704.Idx → EReal := m ((c.tc : Thread nD τ).loc main_arg5)
abbrev sec : S4x2048x704.Idx → EReal := m ((c.tc : Thread nD τ).loc main_arg6)
abbrev sums : S4x2048x704.Idx → EReal := grad (part0 m c) (part1 m c) (part2 m c) (part3 m c)

/-- Where each window is at point `t`; the parts' windows matter in their own layer. -/
theorem index_parts : ∀ t : Fin cfg0.N,
    (t.val / 16 = 0 → win0_0.index t 0 = 0 ∧ win0_0.index t 1 = t.val % 16 ∧ win0_0.index t 2 = 0)
    ∧ (t.val / 16 = 1 → win0_1.index t 0 = 0 ∧ win0_1.index t 1 = t.val % 16 ∧ win0_1.index t 2 = 0)
    ∧ (t.val / 16 = 2 → win0_2.index t 0 = 0 ∧ win0_2.index t 1 = t.val % 16 ∧ win0_2.index t 2 = 0)
    ∧ (t.val / 16 = 3 → win0_3.index t 0 = 0 ∧ win0_3.index t 1 = t.val % 16 ∧ win0_3.index t 2 = 0) := by decide +kernel

theorem index_state : ∀ t : Fin cfg0.N, (win0_4.index t 0 = t.val / 16 ∧ win0_4.index t 1 = t.val % 16 ∧ win0_4.index t 2 = 0)
    ∧ win0_5.index t = win0_4.index t ∧ win0_6.index t = win0_4.index t ∧ win0_7.index t = win0_4.index t ∧ win0_8.index t = win0_4.index t
    ∧ win0_9.index t = win0_4.index t ∧ win0_10.index t = win0_4.index t := by decide +kernel

def layerOf (t : Fin cfg0.N) : Fin 4 := ⟨t.val / 16, by have hN : cfg0.N = 64 := N_0; have := t.isLt; omega⟩
def rowOf (t : Fin cfg0.N) (r : Fin 128) : Fin 2048 := ⟨t.val % 16 * 128 + r.val, by have := r.isLt; omega⟩

/-- The place of a block's element in its array. -/
def place (t : Fin cfg0.N) (j : S1x128x704.Idx) : S4x2048x704.Idx := ix3 (layerOf t) (rowOf t (j 1)) (j 2)

theorem at_state (t : Fin cfg0.N) (i : S4x2048x704.Idx) (j : S1x128x704.Idx) (e0 : (i 0).val = t.val / 16 * 1 + 1 * (j 0).val)
    (e1 : (i 1).val = t.val % 16 * 128 + 1 * (j 1).val) (e2 : (i 2).val = 0 * 704 + 1 * (j 2).val) : i = place t j :=
  funext fun a => Fin.ext (by
    have hj : (j 0).val < 1 := (j 0).isLt
    match a with
    | ⟨0, _⟩ => show (i 0).val = t.val / 16; omega
    | ⟨1, _⟩ => show (i 1).val = t.val % 16 * 128 + (j 1).val; omega
    | ⟨2, _⟩ => show (i 2).val = (j 2).val; omega)

theorem at_part (t : Fin cfg0.N) (i : S8x2048x704.Idx) (j : S8x128x704.Idx) (e0 : (i 0).val = 0 * 8 + 1 * (j 0).val)
    (e1 : (i 1).val = t.val % 16 * 128 + 1 * (j 1).val) (e2 : (i 2).val = 0 * 704 + 1 * (j 2).val) : i = ix3 (j 0) (rowOf t (j 1)) (j 2) :=
  funext fun a => Fin.ext (by
    match a with
    | ⟨0, _⟩ => show (i 0).val = (j 0).val; omega
    | ⟨1, _⟩ => show (i 1).val = t.val % 16 * 128 + (j 1).val; omega
    | ⟨2, _⟩ => show (i 2).val = (j 2).val; omega)

/-- The blocks the body reads. -/
theorem states (t : Fin cfg0.N) : iblk m c 4 t = (fun j : S1x128x704.Idx => wgt m c (place t j))
    ∧ iblk m c 5 t = (fun j : S1x128x704.Idx => mom m c (place t j)) ∧ iblk m c 6 t = (fun j : S1x128x704.Idx => sec m c (place t j)) := by
  obtain ⟨⟨a, b, d⟩, h5, h6, -⟩ := index_state t
  refine ⟨?_, ?_, ?_⟩
  all_goals
    funext j
    unfold iblk
    rw [View.read_apply]
  · exact (congrFun (V_main_arg4 m c) _).trans (congrArg (wgt m c) (at_state t _ j (by rw [← a]; rfl) (by rw [← b]; rfl) (by rw [← d]; rfl)))
  · exact (congrFun (V_main_arg5 m c) _).trans
      (congrArg (mom m c) (at_state t _ j (by rw [← a, ← h5]; rfl) (by rw [← b, ← h5]; rfl) (by rw [← d, ← h5]; rfl)))
  · exact (congrFun (V_main_arg6 m c) _).trans
      (congrArg (sec m c) (at_state t _ j (by rw [← a, ← h6]; rfl) (by rw [← b, ← h6]; rfl) (by rw [← d, ← h6]; rfl)))

theorem parts (t : Fin cfg0.N) : (t.val / 16 = 0 → iblk m c 0 t = fun j : S8x128x704.Idx => part0 m c (ix3 (j 0) (rowOf t (j 1)) (j 2)))
    ∧ (t.val / 16 = 1 → iblk m c 1 t = fun j : S8x128x704.Idx => part1 m c (ix3 (j 0) (rowOf t (j 1)) (j 2)))
    ∧ (t.val / 16 = 2 → iblk m c 2 t = fun j : S8x128x704.Idx => part2 m c (ix3 (j 0) (rowOf t (j 1)) (j 2)))
    ∧ (t.val / 16 = 3 → iblk m c 3 t = fun j : S8x128x704.Idx => part3 m c (ix3 (j 0) (rowOf t (j 1)) (j 2))) := by
  obtain ⟨h0, h1, h2, h3⟩ := index_parts t
  refine ⟨fun h => ?_, fun h => ?_, fun h => ?_, fun h => ?_⟩
  all_goals
    funext j
    unfold iblk
    rw [View.read_apply]
  · obtain ⟨a, b, d⟩ := h0 h
    exact (congrFun (V_main_arg0 m c) _).trans (congrArg (part0 m c) (at_part t _ j (by rw [← a]; rfl) (by rw [← b]; rfl) (by rw [← d]; rfl)))
  · obtain ⟨a, b, d⟩ := h1 h
    exact (congrFun (V_main_arg1 m c) _).trans (congrArg (part1 m c) (at_part t _ j (by rw [← a]; rfl) (by rw [← b]; rfl) (by rw [← d]; rfl)))
  · obtain ⟨a, b, d⟩ := h2 h
    exact (congrFun (V_main_arg2 m c) _).trans (congrArg (part2 m c) (at_part t _ j (by rw [← a]; rfl) (by rw [← b]; rfl) (by rw [← d]; rfl)))
  · obtain ⟨a, b, d⟩ := h3 h
    exact (congrFun (V_main_arg3 m c) _).trans (congrArg (part3 m c) (at_part t _ j (by rw [← a]; rfl) (by rw [← b]; rfl) (by rw [← d]; rfl)))

/-- Four blocks are the ones expected when their elements are. -/
theorem four {a b d e a' b' d' e' : S1x128x704.Idx → EReal} (h : ∀ (r : Fin 128) (j : Fin 704), (a (ix3 0 r j) = a' (ix3 0 r j) ∧ b (ix3 0 r j) = b' (ix3 0 r j))
    ∧ d (ix3 0 r j) = d' (ix3 0 r j) ∧ e (ix3 0 r j) = e' (ix3 0 r j)) : (a, b, d, e) = (a', b', d', e') := by
  have hj : ∀ j : S1x128x704.Idx, j = ix3 0 (j 1) (j 2) := fun j => by
    idx_vars j
    exact congrArg (fun q : Fin 1 => ix3 q j1 j2) (Subsingleton.elim j0 0)
  have ha : a = a' := funext fun j => by rw [hj j]; exact (h (j 1) (j 2)).1.1
  have hb : b = b' := funext fun j => by rw [hj j]; exact (h (j 1) (j 2)).1.2
  have hd : d = d' := funext fun j => by rw [hj j]; exact (h (j 1) (j 2)).2.1
  have he : e = e' := funext fun j => by rw [hj j]; exact (h (j 1) (j 2)).2.2
  rw [ha, hb, hd, he]

/-- The same gradient, written in another way. -/
theorem joined {a b d e g g' w u v : EReal} (q : (a = g ∧ b = change g w u v) ∧ d = first g u ∧ e = second g v) (h : g' = g) :
    (a = g' ∧ b = change g' w u v) ∧ d = first g' u ∧ e = second g' v := h ▸ q

/-- What a point leaves in its four blocks. -/
theorem outs (t : Fin cfg0.N) : outsAt0 m c t.val t.isLt = (fun j => sums m c (place t j), fun j => changes (sums m c) (wgt m c) (mom m c) (sec m c) (place t j),
    fun j => firsts (sums m c) (mom m c) (place t j), fun j => seconds (sums m c) (sec m c) (place t j)) := by
  obtain ⟨s4, s5, s6⟩ := states m c t
  obtain ⟨p0, p1, p2, p3⟩ := parts m c t
  have hN : cfg0.N = 64 := N_0
  have ht := t.isLt
  have hs : ∀ (l : Fin 4) (_ : t.val / 16 = l.val) (r : Fin 128) (j : Fin 704), sums m c (place t (ix3 0 r j))
      = total fun s => (![part0 m c, part1 m c, part2 m c, part3 m c] : Fin 4 → S8x2048x704.Idx → EReal) l (ix3 s (rowOf t r) j) := fun l h r j => by
    rw [← show layerOf t = l from Fin.ext h]
    rfl
  obtain h | h | h | h : t.val / 16 = 0 ∨ t.val / 16 = 1 ∨ t.val / 16 = 2 ∨ t.val / 16 = 3 := by omega
  · rw [outsAt0_A m c t (by omega) (by omega) (by omega) (by omega), p0 h, s4, s5, s6]
    refine four fun r j => ?_
    exact joined (out_A c _ _ _ _ _ _ _ _ _ _ _ _ _ _ _ _ _ _ _ _ _ _ _ _ _ _ _ _ _ _ _ _ _ _ r j) (hs 0 h r j)
  · rw [outsAt0_B m c t (by omega) (by omega) (by omega) (by omega), p1 h, s4, s5, s6]
    refine four fun r j => ?_
    exact joined (out_B c _ _ _ _ _ _ _ _ _ _ _ _ _ _ _ _ _ _ _ _ _ _ _ _ _ _ _ _ _ _ _ _ _ _ r j) (hs 1 h r j)
  · rw [outsAt0_C m c t (by omega) (by omega) (by omega) (by omega), p2 h, s4, s5, s6]
    refine four fun r j => ?_
    exact joined (out_C c _ _ _ _ _ _ _ _ _ _ _ _ _ _ _ _ _ _ _ _ _ _ _ _ _ _ _ _ _ _ _ _ _ _ r j) (hs 2 h r j)
  · rw [outsAt0_D m c t (by omega) (by omega) (by omega) (by omega), p3 h, s4, s5, s6]
    refine four fun r j => ?_
    exact joined (out_D c _ _ _ _ _ _ _ _ _ _ _ _ _ _ _ _ _ _ _ _ _ _ _ _ _ _ _ _ _ _ _ _ _ _ r j) (hs 3 h r j)

/-- The point whose blocks hold an element. -/
theorem point_of (i : S4x2048x704.Idx) : ∃ t : Fin cfg0.N, i ∈ Set.range (place t) := by
  idx_vars i
  have h0 : i0.val < 4 := i0.isLt
  have h1 : i1.val < 2048 := i1.isLt
  refine ⟨⟨i0.val * 16 + i1.val / 128, by show _ < 64; omega⟩, ix3 0 ⟨i1.val % 128, by omega⟩ i2, funext fun a => Fin.ext ?_⟩
  match a with
  | ⟨0, _⟩ => show (i0.val * 16 + i1.val / 128) / 16 = i0.val; omega
  | ⟨1, _⟩ => show (i0.val * 16 + i1.val / 128) % 16 * 128 + i1.val % 128 = i1.val; omega
  | ⟨2, _⟩ => rfl

/-- The kernel's array: the summed gradient. -/
theorem final_7 : (dats m 0 c).arrAt 7 cfg0.N = sums m c := by
  have hp : ∀ (t : Fin cfg0.N) (j : S1x128x704.Idx), ((cfg0.win 7).blk t).view.emb j = place t j := fun t j => by
    obtain ⟨⟨a, b, d⟩, -, -, h, -⟩ := index_state t
    exact at_state t _ j (by rw [← a, ← h]; rfl) (by rw [← b, ← h]; rfl) (by rw [← d, ← h]; rfl)
  refine (dats m 0 c).arrAt_eq_of_cover 7 _ (fun t _ => ?_) fun i => ?_
  · rw [Value.flushed7, outs]
    funext j
    rw [View.read_apply]
    exact congrArg (sums m c) (hp t j).symm
  · obtain ⟨t, j, rfl⟩ := point_of i
    exact ⟨t, flush0_7 t, by rw [← hp t j]; exact View.emb_mem_set _ _⟩

/-- The kernel's array: the weight's change. -/
theorem final_8 : (dats m 0 c).arrAt 8 cfg0.N = changes (sums m c) (wgt m c) (mom m c) (sec m c) := by
  have hp : ∀ (t : Fin cfg0.N) (j : S1x128x704.Idx), ((cfg0.win 8).blk t).view.emb j = place t j := fun t j => by
    obtain ⟨⟨a, b, d⟩, -, -, -, h, -⟩ := index_state t
    exact at_state t _ j (by rw [← a, ← h]; rfl) (by rw [← b, ← h]; rfl) (by rw [← d, ← h]; rfl)
  refine (dats m 0 c).arrAt_eq_of_cover 8 _ (fun t _ => ?_) fun i => ?_
  · rw [Value.flushed8, outs]
    funext j
    rw [View.read_apply]
    exact congrArg (changes (sums m c) (wgt m c) (mom m c) (sec m c)) (hp t j).symm
  · obtain ⟨t, j, rfl⟩ := point_of i
    exact ⟨t, flush0_8 t, by rw [← hp t j]; exact View.emb_mem_set _ _⟩

/-- The kernel's array: the first moment. -/
theorem final_9 : (dats m 0 c).arrAt 9 cfg0.N = firsts (sums m c) (mom m c) := by
  have hp : ∀ (t : Fin cfg0.N) (j : S1x128x704.Idx), ((cfg0.win 9).blk t).view.emb j = place t j := fun t j => by
    obtain ⟨⟨a, b, d⟩, -, -, -, -, h, -⟩ := index_state t
    exact at_state t _ j (by rw [← a, ← h]; rfl) (by rw [← b, ← h]; rfl) (by rw [← d, ← h]; rfl)
  refine (dats m 0 c).arrAt_eq_of_cover 9 _ (fun t _ => ?_) fun i => ?_
  · rw [Value.flushed9, outs]
    funext j
    rw [View.read_apply]
    exact congrArg (firsts (sums m c) (mom m c)) (hp t j).symm
  · obtain ⟨t, j, rfl⟩ := point_of i
    exact ⟨t, flush0_9 t, by rw [← hp t j]; exact View.emb_mem_set _ _⟩

/-- The kernel's array: the second moment. -/
theorem final_10 : (dats m 0 c).arrAt 10 cfg0.N = seconds (sums m c) (sec m c) := by
  have hp : ∀ (t : Fin cfg0.N) (j : S1x128x704.Idx), ((cfg0.win 10).blk t).view.emb j = place t j := fun t j => by
    obtain ⟨⟨a, b, d⟩, -, -, -, -, -, h⟩ := index_state t
    exact at_state t _ j (by rw [← a, ← h]; rfl) (by rw [← b, ← h]; rfl) (by rw [← d, ← h]; rfl)
  refine (dats m 0 c).arrAt_eq_of_cover 10 _ (fun t _ => ?_) fun i => ?_
  · rw [Value.flushed10, outs]
    funext j
    rw [View.read_apply]
    exact congrArg (seconds (sums m c) (sec m c)) (hp t j).symm
  · obtain ⟨t, j, rfl⟩ := point_of i
    exact ⟨t, flush0_10 t, by rw [← hp t j]; exact View.emb_mem_set _ _⟩

end Cert.AdamIdeal.Result

namespace Cert.AdamRefIdeal.Result

open Cert.AdamRefIdeal Cert.AdamRefIdeal.Gen Cert.AdamRefIdeal.Read Idealize.ShloMosaic Cert.Reals
open Cert.AdamIdeal.Result (grad firsts seconds changes)
open Cert.AdamIdeal.Block (total first second change)

variable (P0 P1 P2 P3 : S8x2048x704.Idx → EReal) (W M S : S4x2048x704.Idx → EReal)

/-- One layer's sum. -/
theorem layer (P : S8x2048x704.Idx → EReal) (y : S2048x704.Idx) : val_main_v1 (F := Ideal) P y = total fun s => P (ix3 s (y 0) (y 1)) := by
  idx_vars y
  rw [val_main_v1_apply]
  pointwise [val_main_cst, val_main_v0, total]
  exact Finset.sum_congr rfl fun s _ => congrArg P (funext fun a => match a with | ⟨0, _⟩ => rfl | ⟨1, _⟩ => rfl | ⟨2, _⟩ => rfl)

/-- The layers' sums, stacked. -/
theorem stacked : val_main_v12 (F := Ideal) P0 P1 P2 P3 = grad P0 P1 P2 P3 := by
  funext y
  idx_vars y
  unfold val_main_v12
  have h0 := fun q => (val_main_v8_apply (F := Ideal) P0 q).trans (layer P0 _)
  have h1 := fun q => (val_main_v9_apply (F := Ideal) P1 q).trans (layer P1 _)
  have h2 := fun q => (val_main_v10_apply (F := Ideal) P2 q).trans (layer P2 _)
  have h3 := fun q => (val_main_v11_apply (F := Ideal) P3 q).trans (layer P3 _)
  generalize val_main_v8 (F := Ideal) P0 = A0 at *
  generalize val_main_v9 (F := Ideal) P1 = A1 at *
  generalize val_main_v10 (F := Ideal) P2 = A2 at *
  generalize val_main_v11 (F := Ideal) P3 = A3 at *
  fin_cases y0
  all_goals pointwise [grad]
  · exact h0 _
  · exact h1 _
  · exact h2 _
  · exact h3 _

/-- The three results of the step. -/
theorem moment : val_main_v17 (F := Ideal) P0 P1 P2 P3 M = firsts (grad P0 P1 P2 P3) M := by
  funext y
  idx_vars y
  simp only [val_main_v17, val_main_v16, stacked]
  pointwise [val_main_v15, val_main_v14, val_main_v13, val_main_cst_3, val_main_cst_4, firsts, first]

theorem square : val_main_v23 (F := Ideal) P0 P1 P2 P3 S = seconds (grad P0 P1 P2 P3) S := by
  funext y
  idx_vars y
  simp only [val_main_v23, val_main_v22, val_main_v20, stacked]
  pointwise [val_main_v21, val_main_v19, val_main_v18, val_main_cst_5, val_main_cst_6, seconds, second]

theorem weight : val_main_v36 (F := Ideal) P0 P1 P2 P3 W M S = changes (grad P0 P1 P2 P3) W M S := by
  funext y
  idx_vars y
  simp only [val_main_v36, val_main_v34, val_main_v31, val_main_v30, val_main_v28, val_main_v27, val_main_v25, moment, square]
  pointwise [val_main_v35, val_main_v33, val_main_v32, val_main_v29, val_main_v26, val_main_v24, val_main_cst_7, val_main_cst_8, val_main_cst_9,
    val_main_cst_10, val_main_cst_11, changes, change, firsts, seconds]

end Cert.AdamRefIdeal.Result

end
-- ==== Proof.AdamClaim.lean ====
/-
  The optimiser's step: its claims. The frames are the generated ones; the equations hold for every argument.
-/
module

public import proofs.«01_k».proof.Defs
public import proofs.«01_k».proof.Proof.AdamValue
public import proofs.«01_k».proof.Proof.Gen.Adam.Frame
public import Idealize.ShloMosaic.Lib.Quiescent

@[expose] public section

set_option maxRecDepth 16384

noncomputable section

namespace Cert.Proof.Adam

open Idealize.ShloMosaic Idealize.ShloMosaic.TcCoe Idealize.SL.Sem

/-- The reference ends with its arguments unchanged and its counters at zero. -/
theorem frame_ref : Cert.quiescent_AdamRefIdeal := fun m g _ =>
  (θ_run Cert.AdamRefIdeal.defs _ _).mono
    (fun r h => ⟨fun c => (h c).2.2.2.2, Idealize.ShloMosaic.sem_eq_zero_of_no_sems (by decide) r.2⟩) (Cert.AdamRefIdeal.Value.run (F := Ideal) m g)

/-- The kernel's four arrays are the reference's results. -/
theorem algebraic : Cert.algebraic_AdamIdeal_AdamRefIdeal := by
  intro m g m' g' _ hagree
  refine ⟨_, _, _, _, Cert.AdamIdeal.Value.run_blocks (F := Ideal) m g, ?_⟩
  refine (θ_run Cert.AdamRefIdeal.defs _ _).mono (fun r h c => ⟨(h c).1.trans ?_, (h c).2.1.trans ?_, (h c).2.2.1.trans ?_, (h c).2.2.2.1.trans ?_, (h c).2.2.2.2⟩)
    (Cert.AdamRefIdeal.Value.run (F := Ideal) m' g')
  all_goals obtain ⟨a0, a1, a2, a3, a4, a5, a6⟩ := hagree c
  · rw [Cert.AdamIdeal.Result.final_7, Cert.AdamRefIdeal.Read.val_main_v12_eq, a0, a1, a2, a3]
    exact Cert.AdamRefIdeal.Result.stacked _ _ _ _
  · rw [Cert.AdamIdeal.Result.final_8, Cert.AdamRefIdeal.Read.val_main_v36_eq, a0, a1, a2, a3, a4, a5, a6]
    exact Cert.AdamRefIdeal.Result.weight _ _ _ _ _ _ _
  · rw [Cert.AdamIdeal.Result.final_9, Cert.AdamRefIdeal.Read.val_main_v17_eq, a0, a1, a2, a3, a5]
    exact Cert.AdamRefIdeal.Result.moment _ _ _ _ _
  · rw [Cert.AdamIdeal.Result.final_10, Cert.AdamRefIdeal.Read.val_main_v23_eq, a0, a1, a2, a3, a6]
    exact Cert.AdamRefIdeal.Result.square _ _ _ _ _

end Cert.Proof.Adam

end
-- ==== Proof.lean ====
/- The claims, assembled: each pair's frames, its preservation and its equation, from the pair's own module. -/
module

public import proofs.«01_k».proof.Defs
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Pre_post_finite
public import proofs.«01_k».proof.Proof.Gen.PostIdeal.Value
public import proofs.«01_k».proof.Proof.Gen.PostRefIdeal.Run
public import proofs.«01_k».proof.Proof.Gen.PostRefIdeal.Read
public import proofs.«01_k».proof.Proof.PostClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_merge_finite
public import proofs.«01_k».proof.Proof.Gen.MergeRefIdeal.Run
public import proofs.«01_k».proof.Proof.Gen.MergeRefIdeal.Read
public import proofs.«01_k».proof.Proof.MergeClaim
public import proofs.«01_k».proof.Proof.Gen.Dil1
public import proofs.«01_k».proof.Proof.Gen.Dil1.Skeleton
public import proofs.«01_k».proof.Proof.Gen.Dil1.Launch
public import proofs.«01_k».proof.Proof.Gen.Dil1.Points
public import proofs.«01_k».proof.Proof.Gen.Dil1.Frame
public import proofs.«01_k».proof.Proof.Gen.Dil1Ideal
public import proofs.«01_k».proof.Proof.Gen.Dil1Ideal.Skeleton
public import proofs.«01_k».proof.Proof.Gen.Dil1Ideal.Launch
public import proofs.«01_k».proof.Proof.Gen.Dil1Ideal.Points
public import proofs.«01_k».proof.Proof.Gen.Dil1Ideal.Frame
public import proofs.«01_k».proof.Proof.Gen.Dil1RefIdeal
public import proofs.«01_k».proof.Proof.Gen.Pre_dil1_finite
public import proofs.«01_k».proof.Proof.Gen.Dil1RefIdeal.Run
public import proofs.«01_k».proof.Proof.Gen.Dil1RefIdeal.Read
public import proofs.«01_k».proof.Proof.Dil1Claim
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreRefIdeal
public import proofs.«01_k».proof.Proof.Gen.Pre_pre_finite
public import proofs.«01_k».proof.Proof.Gen.PreIdeal.Value
public import proofs.«01_k».proof.Proof.Gen.PreRefIdeal.Run
public import proofs.«01_k».proof.Proof.Gen.PreRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.FfnDa
public import proofs.«01_k».proof.Proof.Gen.FfnDa.Skeleton
public import proofs.«01_k».proof.Proof.Gen.FfnDa.Launch
public import proofs.«01_k».proof.Proof.Gen.FfnDa.Points
public import proofs.«01_k».proof.Proof.Gen.FfnDa.Frame
public import proofs.«01_k».proof.Proof.Gen.FfnDaIdeal
public import proofs.«01_k».proof.Proof.Gen.FfnDaIdeal.Skeleton
public import proofs.«01_k».proof.Proof.Gen.FfnDaIdeal.Launch
public import proofs.«01_k».proof.Proof.Gen.FfnDaIdeal.Points
public import proofs.«01_k».proof.Proof.Gen.FfnDaIdeal.Frame
public import proofs.«01_k».proof.Proof.Gen.FfnDaRefIdeal
public import proofs.«01_k».proof.Proof.Gen.Pre_ffn_da_finite
public import proofs.«01_k».proof.Proof.Gen.FfnDaIdeal.Value
public import proofs.«01_k».proof.Proof.Gen.FfnDaRefIdeal.Run
public import proofs.«01_k».proof.Proof.Gen.FfnDaRefIdeal.Read
public import proofs.«01_k».proof.Proof.Gen.FfnDh
public import proofs.«01_k».proof.Proof.Gen.FfnDh.Skeleton
public import proofs.«01_k».proof.Proof.Gen.FfnDh.Launch
public import proofs.«01_k».proof.Proof.Gen.FfnDh.Points
public import proofs.«01_k».proof.Proof.Gen.FfnDh.Frame
public import proofs.«01_k».proof.Proof.Gen.FfnDhIdeal
public import proofs.«01_k».proof.Proof.Gen.FfnDhIdeal.Skeleton
public import proofs.«01_k».proof.Proof.Gen.FfnDhIdeal.Launch
public import proofs.«01_k».proof.Proof.Gen.FfnDhIdeal.Points
public import proofs.«01_k».proof.Proof.Gen.FfnDhIdeal.Frame
public import proofs.«01_k».proof.Proof.Gen.FfnDhRefIdeal
public import proofs.«01_k».proof.Proof.Gen.Pre_ffn_dh_finite
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Gen.QkFin
public import proofs.«01_k».proof.Proof.Gen.QkFin.Skeleton
public import proofs.«01_k».proof.Proof.Gen.QkFin.Launch
public import proofs.«01_k».proof.Proof.Gen.QkFin.Points
public import proofs.«01_k».proof.Proof.Gen.QkFin.Frame
public import proofs.«01_k».proof.Proof.Gen.QkFinIdeal
public import proofs.«01_k».proof.Proof.Gen.QkFinIdeal.Skeleton
public import proofs.«01_k».proof.Proof.Gen.QkFinIdeal.Launch
public import proofs.«01_k».proof.Proof.Gen.QkFinIdeal.Points
public import proofs.«01_k».proof.Proof.Gen.QkFinIdeal.Frame
public import proofs.«01_k».proof.Proof.Gen.QkFinRefIdeal
public import proofs.«01_k».proof.Proof.Gen.QkFinIdeal.Value
public import proofs.«01_k».proof.Proof.Gen.QkFinRefIdeal.Run
public import proofs.«01_k».proof.Proof.Gen.QkFinRefIdeal.Read
public import proofs.«01_k».proof.Proof.PreClaim
public import proofs.«01_k».proof.Proof.LossClaim
public import proofs.«01_k».proof.Proof.FfnDaClaim
public import proofs.«01_k».proof.Proof.FfnDhClaim
public import proofs.«01_k».proof.Proof.QkFinClaim
public import proofs.«01_k».proof.Proof.Gen.MlaFwd
public import proofs.«01_k».proof.Proof.Gen.MlaFwd.Skeleton
public import proofs.«01_k».proof.Proof.Gen.MlaFwd.Loops
public import proofs.«01_k».proof.Proof.Gen.MlaFwd.Launch
public import proofs.«01_k».proof.Proof.Gen.MlaFwd.Points
public import proofs.«01_k».proof.Proof.Gen.MlaFwd.Frame
public import proofs.«01_k».proof.Proof.Gen.MlaFwdIdeal
public import proofs.«01_k».proof.Proof.Gen.MlaFwdIdeal.Skeleton
public import proofs.«01_k».proof.Proof.Gen.MlaFwdIdeal.Loops
public import proofs.«01_k».proof.Proof.Gen.MlaFwdIdeal.Launch
public import proofs.«01_k».proof.Proof.Gen.MlaFwdIdeal.Points
public import proofs.«01_k».proof.Proof.Gen.MlaFwdIdeal.Frame
public import proofs.«01_k».proof.Proof.Gen.MlaFwdRefIdeal
public import proofs.«01_k».proof.Proof.Gen.Pre_mla_fwd_finite
public import proofs.«01_k».proof.Proof.Gen.MlaFwdIdeal.Value
public import proofs.«01_k».proof.Proof.Gen.MlaFwdRefIdeal.Run
public import proofs.«01_k».proof.Proof.Gen.MlaFwdRefIdeal.Read
public import proofs.«01_k».proof.Proof.MlaFwdClaim
public import proofs.«01_k».proof.Proof.Gen.Dil1Fwd
public import proofs.«01_k».proof.Proof.Gen.Dil1Fwd.Skeleton
public import proofs.«01_k».proof.Proof.Gen.Dil1Fwd.Launch
public import proofs.«01_k».proof.Proof.Gen.Dil1Fwd.Points
public import proofs.«01_k».proof.Proof.Gen.Dil1Fwd.Frame
public import proofs.«01_k».proof.Proof.Gen.Dil1FwdIdeal
public import proofs.«01_k».proof.Proof.Gen.Dil1FwdIdeal.Skeleton
public import proofs.«01_k».proof.Proof.Gen.Dil1FwdIdeal.Launch
public import proofs.«01_k».proof.Proof.Gen.Dil1FwdIdeal.Points
public import proofs.«01_k».proof.Proof.Gen.Dil1FwdIdeal.Frame
public import proofs.«01_k».proof.Proof.Gen.Dil1FwdRefIdeal
public import proofs.«01_k».proof.Proof.Gen.Pre_dil1_fwd_finite
public import proofs.«01_k».proof.Proof.Gen.Dil1FwdIdeal.Value
public import proofs.«01_k».proof.Proof.Gen.Dil1FwdRefIdeal.Run
public import proofs.«01_k».proof.Proof.Gen.Dil1FwdRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.NormRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.Pre_merge_fwd_finite
public import proofs.«01_k».proof.Proof.Dil1FwdClaim
public import proofs.«01_k».proof.Proof.NormClaim
public import proofs.«01_k».proof.Proof.MergeFwdClaim
public import proofs.«01_k».proof.Proof.FfnUpClaim
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.DownRefIdeal.Read
public import proofs.«01_k».proof.Proof.Gen.QkFwd
public import proofs.«01_k».proof.Proof.Gen.QkFwd.Skeleton
public import proofs.«01_k».proof.Proof.Gen.QkFwd.Launch
public import proofs.«01_k».proof.Proof.Gen.QkFwd.Points
public import proofs.«01_k».proof.Proof.Gen.QkFwd.Frame
public import proofs.«01_k».proof.Proof.Gen.QkFwdIdeal
public import proofs.«01_k».proof.Proof.Gen.QkFwdIdeal.Skeleton
public import proofs.«01_k».proof.Proof.Gen.QkFwdIdeal.Launch
public import proofs.«01_k».proof.Proof.Gen.QkFwdIdeal.Points
public import proofs.«01_k».proof.Proof.Gen.QkFwdIdeal.Frame
public import proofs.«01_k».proof.Proof.Gen.QkFwdRefIdeal
public import proofs.«01_k».proof.Proof.Gen.QkFwdIdeal.Value
public import proofs.«01_k».proof.Proof.Gen.QkFwdRefIdeal.Run
public import proofs.«01_k».proof.Proof.Gen.QkFwdRefIdeal.Read
public import proofs.«01_k».proof.Proof.DownClaim
public import proofs.«01_k».proof.Proof.QkFwdClaim
public import proofs.«01_k».proof.Proof.Gen.MmNn
public import proofs.«01_k».proof.Proof.Gen.MmNn.Skeleton
public import proofs.«01_k».proof.Proof.Gen.MmNn.Launch
public import proofs.«01_k».proof.Proof.Gen.MmNn.Points
public import proofs.«01_k».proof.Proof.Gen.MmNn.Frame
public import proofs.«01_k».proof.Proof.Gen.MmNnIdeal
public import proofs.«01_k».proof.Proof.Gen.MmNnIdeal.Skeleton
public import proofs.«01_k».proof.Proof.Gen.MmNnIdeal.Launch
public import proofs.«01_k».proof.Proof.Gen.MmNnIdeal.Points
public import proofs.«01_k».proof.Proof.Gen.MmNnIdeal.Frame
public import proofs.«01_k».proof.Proof.Gen.MmNnRefIdeal
public import proofs.«01_k».proof.Proof.Gen.MmNnIdeal.Value
public import proofs.«01_k».proof.Proof.Gen.MmNnRefIdeal.Run
public import proofs.«01_k».proof.Proof.Gen.MmNnRefIdeal.Read
public import proofs.«01_k».proof.Proof.Gen.MmNt
public import proofs.«01_k».proof.Proof.Gen.MmNt.Skeleton
public import proofs.«01_k».proof.Proof.Gen.MmNt.Launch
public import proofs.«01_k».proof.Proof.Gen.MmNt.Points
public import proofs.«01_k».proof.Proof.Gen.MmNt.Frame
public import proofs.«01_k».proof.Proof.Gen.MmNtIdeal
public import proofs.«01_k».proof.Proof.Gen.MmNtIdeal.Skeleton
public import proofs.«01_k».proof.Proof.Gen.MmNtIdeal.Launch
public import proofs.«01_k».proof.Proof.Gen.MmNtIdeal.Points
public import proofs.«01_k».proof.Proof.Gen.MmNtIdeal.Frame
public import proofs.«01_k».proof.Proof.Gen.MmNtRefIdeal
public import proofs.«01_k».proof.Proof.Gen.MmNtIdeal.Value
public import proofs.«01_k».proof.Proof.Gen.MmNtRefIdeal.Run
public import proofs.«01_k».proof.Proof.Gen.MmNtRefIdeal.Read
public import proofs.«01_k».proof.Proof.Gen.MmTn
public import proofs.«01_k».proof.Proof.Gen.MmTn.Skeleton
public import proofs.«01_k».proof.Proof.Gen.MmTn.Launch
public import proofs.«01_k».proof.Proof.Gen.MmTn.Points
public import proofs.«01_k».proof.Proof.Gen.MmTn.Frame
public import proofs.«01_k».proof.Proof.Gen.MmTnIdeal
public import proofs.«01_k».proof.Proof.Gen.MmTnIdeal.Skeleton
public import proofs.«01_k».proof.Proof.Gen.MmTnIdeal.Launch
public import proofs.«01_k».proof.Proof.Gen.MmTnIdeal.Points
public import proofs.«01_k».proof.Proof.Gen.MmTnIdeal.Frame
public import proofs.«01_k».proof.Proof.Gen.MmTnRefIdeal
public import proofs.«01_k».proof.Proof.Gen.MmTnIdeal.Value
public import proofs.«01_k».proof.Proof.Gen.MmTnRefIdeal.Run
public import proofs.«01_k».proof.Proof.Gen.MmTnRefIdeal.Read
public import proofs.«01_k».proof.Proof.Gen.MmTnA.Frame
public import proofs.«01_k».proof.Proof.Gen.MmTnAIdeal.Value
public import proofs.«01_k».proof.Proof.Gen.MmTnARefIdeal.Run
public import proofs.«01_k».proof.Proof.Gen.MmTnARefIdeal.Read
public import proofs.«01_k».proof.Proof.Gen.MmTnB.Frame
public import proofs.«01_k».proof.Proof.Gen.MmTnBIdeal.Value
public import proofs.«01_k».proof.Proof.Gen.MmTnBRefIdeal.Run
public import proofs.«01_k».proof.Proof.Gen.MmTnBRefIdeal.Read
public import proofs.«01_k».proof.Proof.MmNnClaim
public import proofs.«01_k».proof.Proof.MmNtClaim
public import proofs.«01_k».proof.Proof.MmTnClaim
public import proofs.«01_k».proof.Proof.MmTnAClaim
public import proofs.«01_k».proof.Proof.MmTnBClaim
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamClaim
public import Idealize.ShloMosaic.Adequacy
public import Idealize.ShloMosaic.Init

@[expose] public section

noncomputable section

namespace Cert.Proof

open Idealize.ShloMosaic Idealize.SL.Sem Cert.Post

theorem claim : Cert.Claim := ⟨
  Cert.Post.Gen.facts,
  Cert.PostIdeal.Gen.facts,
  Cert.PostRefIdeal.Gen.facts,
  Cert.Merge.Gen.facts,
  Cert.MergeIdeal.Gen.facts,
  Cert.MergeRefIdeal.Gen.facts,
  Cert.Dil1.Gen.facts,
  Cert.Dil1Ideal.Gen.facts,
  Cert.Dil1RefIdeal.Gen.facts,
  Cert.Pre.Gen.facts,
  Cert.PreIdeal.Gen.facts,
  Cert.PreRefIdeal.Gen.facts,
  Cert.Loss.Gen.facts,
  Cert.LossIdeal.Gen.facts,
  Cert.LossRefIdeal.Gen.facts,
  Cert.FfnDa.Gen.facts,
  Cert.FfnDaIdeal.Gen.facts,
  Cert.FfnDaRefIdeal.Gen.facts,
  Cert.FfnDh.Gen.facts,
  Cert.FfnDhIdeal.Gen.facts,
  Cert.FfnDhRefIdeal.Gen.facts,
  Cert.QkFin.Gen.facts,
  Cert.QkFinIdeal.Gen.facts,
  Cert.QkFinRefIdeal.Gen.facts,
  Cert.MlaFwd.Gen.facts,
  Cert.MlaFwdIdeal.Gen.facts,
  Cert.MlaFwdRefIdeal.Gen.facts,
  Cert.Dil1Fwd.Gen.facts,
  Cert.Dil1FwdIdeal.Gen.facts,
  Cert.Dil1FwdRefIdeal.Gen.facts,
  Cert.Norm.Gen.facts,
  Cert.NormIdeal.Gen.facts,
  Cert.NormRefIdeal.Gen.facts,
  Cert.MergeFwd.Gen.facts,
  Cert.MergeFwdIdeal.Gen.facts,
  Cert.MergeFwdRefIdeal.Gen.facts,
  Cert.FfnUp.Gen.facts,
  Cert.FfnUpIdeal.Gen.facts,
  Cert.FfnUpRefIdeal.Gen.facts,
  Cert.Down.Gen.facts,
  Cert.DownIdeal.Gen.facts,
  Cert.DownRefIdeal.Gen.facts,
  Cert.QkFwd.Gen.facts,
  Cert.QkFwdIdeal.Gen.facts,
  Cert.QkFwdRefIdeal.Gen.facts,
  Cert.MmNn.Gen.facts,
  Cert.MmNnIdeal.Gen.facts,
  Cert.MmNnRefIdeal.Gen.facts,
  Cert.MmNt.Gen.facts,
  Cert.MmNtIdeal.Gen.facts,
  Cert.MmNtRefIdeal.Gen.facts,
  Cert.MmTn.Gen.facts,
  Cert.MmTnIdeal.Gen.facts,
  Cert.MmTnRefIdeal.Gen.facts,
  Cert.MmTnA.Gen.facts,
  Cert.MmTnAIdeal.Gen.facts,
  Cert.MmTnARefIdeal.Gen.facts,
  Cert.MmTnB.Gen.facts,
  Cert.MmTnBIdeal.Gen.facts,
  Cert.MmTnBRefIdeal.Gen.facts,
  Cert.Adam.Gen.facts,
  Cert.AdamIdeal.Gen.facts,
  Cert.AdamRefIdeal.Gen.facts,
  Cert.Pre_post_finite.Gen.facts,
  Cert.Pre_merge_finite.Gen.facts,
  Cert.Pre_dil1_finite.Gen.facts,
  Cert.Pre_pre_finite.Gen.facts,
  Cert.Pre_ffn_da_finite.Gen.facts,
  Cert.Pre_ffn_dh_finite.Gen.facts,
  Cert.Pre_mla_fwd_finite.Gen.facts,
  Cert.Pre_dil1_fwd_finite.Gen.facts,
  Cert.Pre_merge_fwd_finite.Gen.facts,
  fun m g _ => Cert.Post.Gen.frame m g,
  fun m g _ => Cert.PostIdeal.Gen.frame m g,
  fun m g _ => Cert.PostIdeal.Gen.frame m g,
  Cert.Proof.Post.frame_ref,
  fun m g _ => Cert.Proof.Post.frame_ref m g trivial,
  fun m g _ => Cert.Merge.Gen.frame m g,
  fun m g _ => Cert.MergeIdeal.Gen.frame m g,
  fun m g _ => Cert.MergeIdeal.Gen.frame m g,
  Cert.Proof.Merge.frame_ref,
  fun m g _ => Cert.Proof.Merge.frame_ref m g trivial,
  fun m g _ => Cert.Dil1.Gen.frame m g,
  fun m g _ => Cert.Dil1Ideal.Gen.frame m g,
  fun m g _ => Cert.Dil1Ideal.Gen.frame m g,
  Cert.Proof.Dil1.frame_ref,
  fun m g _ => Cert.Proof.Dil1.frame_ref m g trivial,
  fun m g _ => Cert.Pre.Gen.frame m g,
  fun m g _ => Cert.PreIdeal.Gen.frame m g,
  fun m g _ => Cert.PreIdeal.Gen.frame m g,
  Cert.Proof.Pre.frame_ref,
  fun m g _ => Cert.Proof.Pre.frame_ref m g trivial,
  fun m g _ => Cert.Loss.Gen.frame m g,
  fun m g _ => Cert.LossIdeal.Gen.frame m g,
  Cert.Proof.Loss.frame_ref,
  fun m g _ => Cert.FfnDa.Gen.frame m g,
  fun m g _ => Cert.FfnDaIdeal.Gen.frame m g,
  fun m g _ => Cert.FfnDaIdeal.Gen.frame m g,
  Cert.Proof.FfnDa.frame_ref,
  fun m g _ => Cert.Proof.FfnDa.frame_ref m g trivial,
  fun m g _ => Cert.FfnDh.Gen.frame m g,
  fun m g _ => Cert.FfnDhIdeal.Gen.frame m g,
  fun m g _ => Cert.FfnDhIdeal.Gen.frame m g,
  Cert.Proof.FfnDh.frame_ref,
  fun m g _ => Cert.Proof.FfnDh.frame_ref m g trivial,
  fun m g _ => Cert.QkFin.Gen.frame m g,
  fun m g _ => Cert.QkFinIdeal.Gen.frame m g,
  Cert.Proof.QkFin.frame_ref,
  fun m g _ => Cert.MlaFwd.Gen.frame m g,
  fun m g _ => Cert.MlaFwdIdeal.Gen.frame m g,
  fun m g _ => Cert.MlaFwdIdeal.Gen.frame m g,
  Cert.Proof.MlaFwd.frame_ref,
  fun m g _ => Cert.Proof.MlaFwd.frame_ref m g trivial,
  fun m g _ => Cert.Dil1Fwd.Gen.frame m g,
  fun m g _ => Cert.Dil1FwdIdeal.Gen.frame m g,
  fun m g _ => Cert.Dil1FwdIdeal.Gen.frame m g,
  Cert.Proof.Dil1Fwd.frame_ref,
  fun m g _ => Cert.Proof.Dil1Fwd.frame_ref m g trivial,
  fun m g _ => Cert.Norm.Gen.frame m g,
  fun m g _ => Cert.NormIdeal.Gen.frame m g,
  Cert.Proof.Norm.frame_ref,
  fun m g _ => Cert.MergeFwd.Gen.frame m g,
  fun m g _ => Cert.MergeFwdIdeal.Gen.frame m g,
  fun m g _ => Cert.MergeFwdIdeal.Gen.frame m g,
  Cert.Proof.MergeFwd.frame_ref,
  fun m g _ => Cert.Proof.MergeFwd.frame_ref m g trivial,
  fun m g _ => Cert.FfnUp.Gen.frame m g,
  fun m g _ => Cert.FfnUpIdeal.Gen.frame m g,
  Cert.Proof.FfnUp.frame_ref,
  fun m g _ => Cert.Down.Gen.frame m g,
  fun m g _ => Cert.DownIdeal.Gen.frame m g,
  Cert.Proof.Down.frame_ref,
  fun m g _ => Cert.QkFwd.Gen.frame m g,
  fun m g _ => Cert.QkFwdIdeal.Gen.frame m g,
  Cert.Proof.QkFwd.frame_ref,
  fun m g _ => Cert.MmNn.Gen.frame m g,
  fun m g _ => Cert.MmNnIdeal.Gen.frame m g,
  Cert.Proof.MmNn.frame_ref,
  fun m g _ => Cert.MmNt.Gen.frame m g,
  fun m g _ => Cert.MmNtIdeal.Gen.frame m g,
  Cert.Proof.MmNt.frame_ref,
  fun m g _ => Cert.MmTn.Gen.frame m g,
  fun m g _ => Cert.MmTnIdeal.Gen.frame m g,
  Cert.Proof.MmTn.frame_ref,
  fun m g _ => Cert.MmTnA.Gen.frame m g,
  fun m g _ => Cert.MmTnAIdeal.Gen.frame m g,
  Cert.Proof.MmTnA.frame_ref,
  fun m g _ => Cert.MmTnB.Gen.frame m g,
  fun m g _ => Cert.MmTnBIdeal.Gen.frame m g,
  Cert.Proof.MmTnB.frame_ref,
  fun m g _ => Cert.Adam.Gen.frame m g,
  fun m g _ => Cert.AdamIdeal.Gen.frame m g,
  Cert.Proof.Adam.frame_ref,
  trivial,
  Cert.Proof.Post.algebraic,
  trivial,
  Cert.Proof.Merge.algebraic,
  Cert.Proof.Dil1.preserves,
  Cert.Proof.Dil1.algebraic,
  trivial,
  Cert.Proof.Pre.algebraic,
  trivial,
  Cert.Proof.Loss.algebraic,
  trivial,
  Cert.Proof.FfnDa.algebraic,
  trivial,
  Cert.Proof.FfnDh.algebraic,
  trivial,
  Cert.Proof.QkFin.algebraic,
  Cert.Proof.MlaFwd.preserves,
  Cert.Proof.MlaFwd.algebraic,
  Cert.Proof.Dil1Fwd.preserves,
  Cert.Proof.Dil1Fwd.algebraic,
  trivial,
  Cert.Proof.Norm.algebraic,
  trivial,
  Cert.Proof.MergeFwd.algebraic,
  trivial,
  Cert.Proof.FfnUp.algebraic,
  trivial,
  Cert.Proof.Down.algebraic,
  trivial,
  Cert.Proof.QkFwd.algebraic,
  trivial,
  Cert.Proof.MmNn.algebraic,
  trivial,
  Cert.Proof.MmNt.algebraic,
  trivial,
  Cert.Proof.MmTn.algebraic,
  trivial,
  Cert.Proof.MmTnA.algebraic,
  trivial,
  Cert.Proof.MmTnB.algebraic,
  trivial,
  Cert.Proof.Adam.algebraic⟩

end Cert.Proof

end
